-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_forward [hPre_finite_forward : Cert.Pre_finite_forward.Facts] (m : (ℓ : Loc Cert.FwdIdeal.nD Cert.FwdIdeal.τ Cert.FwdIdeal.sig) → Buf (Elt Ideal) ℓ) : Prop :=
  ∀ c : Dev Cert.FwdIdeal.nD,
    (Cert.Pre_finite_forward.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_forward [hPre_finite_forward : Cert.Pre_finite_forward.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_forward.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))) = (fun _ => 1#1)

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxRefIdeal (m : (ℓ : Loc Cert.GateUpDxRefIdeal.nD Cert.GateUpDxRefIdeal.τ Cert.GateUpDxRefIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_DqDx (m : (ℓ : Loc Cert.DqDx.nD Cert.DqDx.τ Cert.DqDx.sig) → Buf (Elt Bits) ℓ) : Prop :=
  True

def Pre_DqDxIdeal (m : (ℓ : Loc Cert.DqDxIdeal.nD Cert.DqDxIdeal.τ Cert.DqDxIdeal.sig) → Buf (Elt Ideal) ℓ) : Prop :=
  True

def Pre_DqDxRefIdeal (m : (ℓ : Loc Cert.DqDxRefIdeal.nD Cert.DqDxRefIdeal.τ Cert.DqDxRefIdeal.sig) → Buf (Elt Ideal) ℓ) : Prop :=
  True

def Pre_DqDw (m : (ℓ : Loc Cert.DqDw.nD Cert.DqDw.τ Cert.DqDw.sig) → Buf (Elt Bits) ℓ) : Prop :=
  True

def Pre_DqDwIdeal (m : (ℓ : Loc Cert.DqDwIdeal.nD Cert.DqDwIdeal.τ Cert.DqDwIdeal.sig) → Buf (Elt Ideal) ℓ) : Prop :=
  True

def Pre_DqDwRefIdeal (m : (ℓ : Loc Cert.DqDwRefIdeal.nD Cert.DqDwRefIdeal.τ Cert.DqDwRefIdeal.sig) → Buf (Elt Ideal) ℓ) : Prop :=
  True

def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqRefIdeal (m : (ℓ : Loc Cert.DqRefIdeal.nD Cert.DqRefIdeal.τ Cert.DqRefIdeal.sig) → Buf (Elt Ideal) ℓ) : Prop :=
  True

def Pre_WoDx (m : (ℓ : Loc Cert.WoDx.nD Cert.WoDx.τ Cert.WoDx.sig) → Buf (Elt Bits) ℓ) : Prop :=
  True

def Pre_WoDxIdeal (m : (ℓ : Loc Cert.WoDxIdeal.nD Cert.WoDxIdeal.τ Cert.WoDxIdeal.sig) → Buf (Elt Ideal) ℓ) : Prop :=
  True

def Pre_WoDxRefIdeal (m : (ℓ : Loc Cert.WoDxRefIdeal.nD Cert.WoDxRefIdeal.τ Cert.WoDxRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_KvBDx (m : (ℓ : Loc Cert.KvBDx.nD Cert.KvBDx.τ Cert.KvBDx.sig) → Buf (Elt Bits) ℓ) : Prop :=
  True

def Pre_KvBDxIdeal (m : (ℓ : Loc Cert.KvBDxIdeal.nD Cert.KvBDxIdeal.τ Cert.KvBDxIdeal.sig) → Buf (Elt Ideal) ℓ) : Prop :=
  True

def Pre_KvBDxRefIdeal (m : (ℓ : Loc Cert.KvBDxRefIdeal.nD Cert.KvBDxRefIdeal.τ Cert.KvBDxRefIdeal.sig) → Buf (Elt Ideal) ℓ) : Prop :=
  True

def Pre_KvBDw (m : (ℓ : Loc Cert.KvBDw.nD Cert.KvBDw.τ Cert.KvBDw.sig) → Buf (Elt Bits) ℓ) : Prop :=
  True

def Pre_KvBDwIdeal (m : (ℓ : Loc Cert.KvBDwIdeal.nD Cert.KvBDwIdeal.τ Cert.KvBDwIdeal.sig) → Buf (Elt Ideal) ℓ) : Prop :=
  True

def Pre_KvBDwRefIdeal (m : (ℓ : Loc Cert.KvBDwRefIdeal.nD Cert.KvBDwRefIdeal.τ Cert.KvBDwRefIdeal.sig) → Buf (Elt Ideal) ℓ) : Prop :=
  True

def Pre_KvBk (m : (ℓ : Loc Cert.KvBk.nD Cert.KvBk.τ Cert.KvBk.sig) → Buf (Elt Bits) ℓ) : Prop :=
  True

def Pre_KvBkIdeal (m : (ℓ : Loc Cert.KvBkIdeal.nD Cert.KvBkIdeal.τ Cert.KvBkIdeal.sig) → Buf (Elt Ideal) ℓ) : Prop :=
  True

def Pre_KvBkRefIdeal (m : (ℓ : Loc Cert.KvBkRefIdeal.nD Cert.KvBkRefIdeal.τ Cert.KvBkRefIdeal.sig) → Buf (Elt Ideal) ℓ) : Prop :=
  True

def Pre_KvBv (m : (ℓ : Loc Cert.KvBv.nD Cert.KvBv.τ Cert.KvBv.sig) → Buf (Elt Bits) ℓ) : Prop :=
  True

def Pre_KvBvIdeal (m : (ℓ : Loc Cert.KvBvIdeal.nD Cert.KvBvIdeal.τ Cert.KvBvIdeal.sig) → Buf (Elt Ideal) ℓ) : Prop :=
  True

def Pre_KvBvRefIdeal (m : (ℓ : Loc Cert.KvBvRefIdeal.nD Cert.KvBvRefIdeal.τ Cert.KvBvRefIdeal.sig) → Buf (Elt Ideal) ℓ) : Prop :=
  True

def Pre_KvADx (m : (ℓ : Loc Cert.KvADx.nD Cert.KvADx.τ Cert.KvADx.sig) → Buf (Elt Bits) ℓ) : Prop :=
  True

def Pre_KvADxIdeal (m : (ℓ : Loc Cert.KvADxIdeal.nD Cert.KvADxIdeal.τ Cert.KvADxIdeal.sig) → Buf (Elt Ideal) ℓ) : Prop :=
  True

def Pre_KvADxRefIdeal (m : (ℓ : Loc Cert.KvADxRefIdeal.nD Cert.KvADxRefIdeal.τ Cert.KvADxRefIdeal.sig) → Buf (Elt Ideal) ℓ) : Prop :=
  True

def Pre_KvADw (m : (ℓ : Loc Cert.KvADw.nD Cert.KvADw.τ Cert.KvADw.sig) → Buf (Elt Bits) ℓ) : Prop :=
  True

def Pre_KvADwIdeal (m : (ℓ : Loc Cert.KvADwIdeal.nD Cert.KvADwIdeal.τ Cert.KvADwIdeal.sig) → Buf (Elt Ideal) ℓ) : Prop :=
  True

def Pre_KvADwRefIdeal (m : (ℓ : Loc Cert.KvADwRefIdeal.nD Cert.KvADwRefIdeal.τ Cert.KvADwRefIdeal.sig) → Buf (Elt Ideal) ℓ) : Prop :=
  True

def Pre_KvA (m : (ℓ : Loc Cert.KvA.nD Cert.KvA.τ Cert.KvA.sig) → Buf (Elt Bits) ℓ) : Prop :=
  True

def Pre_KvAIdeal (m : (ℓ : Loc Cert.KvAIdeal.nD Cert.KvAIdeal.τ Cert.KvAIdeal.sig) → Buf (Elt Ideal) ℓ) : Prop :=
  True

def Pre_KvARefIdeal (m : (ℓ : Loc Cert.KvARefIdeal.nD Cert.KvARefIdeal.τ Cert.KvARefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaProj (m : (ℓ : Loc Cert.AdaProj.nD Cert.AdaProj.τ Cert.AdaProj.sig) → Buf (Elt Bits) ℓ) : Prop :=
  True

def Pre_AdaProjIdeal (m : (ℓ : Loc Cert.AdaProjIdeal.nD Cert.AdaProjIdeal.τ Cert.AdaProjIdeal.sig) → Buf (Elt Ideal) ℓ) : Prop :=
  True

def Pre_AdaProjRefIdeal (m : (ℓ : Loc Cert.AdaProjRefIdeal.nD Cert.AdaProjRefIdeal.τ Cert.AdaProjRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdRefIdeal (m : (ℓ : Loc Cert.ActBwdRefIdeal.nD Cert.ActBwdRefIdeal.τ Cert.ActBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_BbarBwd (m : (ℓ : Loc Cert.BbarBwd.nD Cert.BbarBwd.τ Cert.BbarBwd.sig) → Buf (Elt Bits) ℓ) : Prop :=
  True

def Pre_BbarBwdIdeal (m : (ℓ : Loc Cert.BbarBwdIdeal.nD Cert.BbarBwdIdeal.τ Cert.BbarBwdIdeal.sig) → Buf (Elt Ideal) ℓ) : Prop :=
  True

def Pre_BbarBwdRefIdeal (m : (ℓ : Loc Cert.BbarBwdRefIdeal.nD Cert.BbarBwdRefIdeal.τ Cert.BbarBwdRefIdeal.sig) → Buf (Elt Ideal) ℓ) : Prop :=
  True

def Pre_Bbar (m : (ℓ : Loc Cert.Bbar.nD Cert.Bbar.τ Cert.Bbar.sig) → Buf (Elt Bits) ℓ) : Prop :=
  True

def Pre_BbarIdeal (m : (ℓ : Loc Cert.BbarIdeal.nD Cert.BbarIdeal.τ Cert.BbarIdeal.sig) → Buf (Elt Ideal) ℓ) : Prop :=
  True

def Pre_BbarRefIdeal (m : (ℓ : Loc Cert.BbarRefIdeal.nD Cert.BbarRefIdeal.τ Cert.BbarRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_GateRes (m : (ℓ : Loc Cert.GateRes.nD Cert.GateRes.τ Cert.GateRes.sig) → Buf (Elt Bits) ℓ) : Prop :=
  True

def Pre_GateResIdeal (m : (ℓ : Loc Cert.GateResIdeal.nD Cert.GateResIdeal.τ Cert.GateResIdeal.sig) → Buf (Elt Ideal) ℓ) : Prop :=
  True

def Pre_GateResRefIdeal (m : (ℓ : Loc Cert.GateResRefIdeal.nD Cert.GateResRefIdeal.τ Cert.GateResRefIdeal.sig) → Buf (Elt Ideal) ℓ) : Prop :=
  True

def Pre_MlaRes (m : (ℓ : Loc Cert.MlaRes.nD Cert.MlaRes.τ Cert.MlaRes.sig) → Buf (Elt Bits) ℓ) : Prop :=
  True

def Pre_MlaResIdeal (m : (ℓ : Loc Cert.MlaResIdeal.nD Cert.MlaResIdeal.τ Cert.MlaResIdeal.sig) → Buf (Elt Ideal) ℓ) : Prop :=
  True

def Pre_MlaResRefIdeal (m : (ℓ : Loc Cert.MlaResRefIdeal.nD Cert.MlaResRefIdeal.τ Cert.MlaResRefIdeal.sig) → Buf (Elt Ideal) ℓ) : Prop :=
  True

def Pre_FfnRes (m : (ℓ : Loc Cert.FfnRes.nD Cert.FfnRes.τ Cert.FfnRes.sig) → Buf (Elt Bits) ℓ) : Prop :=
  True

def Pre_FfnResIdeal (m : (ℓ : Loc Cert.FfnResIdeal.nD Cert.FfnResIdeal.τ Cert.FfnResIdeal.sig) → Buf (Elt Ideal) ℓ) : Prop :=
  True

def Pre_FfnResRefIdeal (m : (ℓ : Loc Cert.FfnResRefIdeal.nD Cert.FfnResRefIdeal.τ Cert.FfnResRefIdeal.sig) → Buf (Elt Ideal) ℓ) : Prop :=
  True

def Pre_QNorm (m : (ℓ : Loc Cert.QNorm.nD Cert.QNorm.τ Cert.QNorm.sig) → Buf (Elt Bits) ℓ) : Prop :=
  True

def Pre_QNormIdeal (m : (ℓ : Loc Cert.QNormIdeal.nD Cert.QNormIdeal.τ Cert.QNormIdeal.sig) → Buf (Elt Ideal) ℓ) : Prop :=
  True

def Pre_QNormRefIdeal (m : (ℓ : Loc Cert.QNormRefIdeal.nD Cert.QNormRefIdeal.τ Cert.QNormRefIdeal.sig) → Buf (Elt Ideal) ℓ) : Prop :=
  True

def Pre_MlaNorm (m : (ℓ : Loc Cert.MlaNorm.nD Cert.MlaNorm.τ Cert.MlaNorm.sig) → Buf (Elt Bits) ℓ) : Prop :=
  True

def Pre_MlaNormIdeal (m : (ℓ : Loc Cert.MlaNormIdeal.nD Cert.MlaNormIdeal.τ Cert.MlaNormIdeal.sig) → Buf (Elt Ideal) ℓ) : Prop :=
  True

def Pre_MlaNormRefIdeal (m : (ℓ : Loc Cert.MlaNormRefIdeal.nD Cert.MlaNormRefIdeal.τ Cert.MlaNormRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdIdeal_pre_finite_forward [hFwdIdeal : Cert.FwdIdeal.Facts] [hPre_finite_forward : Cert.Pre_finite_forward.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_forward m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_FwdRefIdeal_pre_finite_forward [hFwdRefIdeal : Cert.FwdRefIdeal.Facts] [hPre_finite_forward : Cert.Pre_finite_forward.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_forward m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1)
      ∧ r.2.mem ((c.tc : Thread Cert.GateUpDx.nD Cert.GateUpDx.τ).loc Cert.GateUpDx.main_arg2) = m ((c.tc : Thread Cert.GateUpDx.nD Cert.GateUpDx.τ).loc Cert.GateUpDx.main_arg2)
      ∧ r.2.mem ((c.tc : Thread Cert.GateUpDx.nD Cert.GateUpDx.τ).loc Cert.GateUpDx.main_arg3) = m ((c.tc : Thread Cert.GateUpDx.nD Cert.GateUpDx.τ).loc Cert.GateUpDx.main_arg3)
      ∧ r.2.mem ((c.tc : Thread Cert.GateUpDx.nD Cert.GateUpDx.τ).loc Cert.GateUpDx.main_arg4) = m ((c.tc : Thread Cert.GateUpDx.nD Cert.GateUpDx.τ).loc Cert.GateUpDx.main_arg4))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
      ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
      ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1)
      ∧ r.2.mem ((c.tc : Thread Cert.GateUpDxRefIdeal.nD Cert.GateUpDxRefIdeal.τ).loc Cert.GateUpDxRefIdeal.main_arg2) = m ((c.tc : Thread Cert.GateUpDxRefIdeal.nD Cert.GateUpDxRefIdeal.τ).loc Cert.GateUpDxRefIdeal.main_arg2)
      ∧ r.2.mem ((c.tc : Thread Cert.GateUpDxRefIdeal.nD Cert.GateUpDxRefIdeal.τ).loc Cert.GateUpDxRefIdeal.main_arg3) = m ((c.tc : Thread Cert.GateUpDxRefIdeal.nD Cert.GateUpDxRefIdeal.τ).loc Cert.GateUpDxRefIdeal.main_arg3)
      ∧ r.2.mem ((c.tc : Thread Cert.GateUpDxRefIdeal.nD Cert.GateUpDxRefIdeal.τ).loc Cert.GateUpDxRefIdeal.main_arg4) = m ((c.tc : Thread Cert.GateUpDxRefIdeal.nD Cert.GateUpDxRefIdeal.τ).loc Cert.GateUpDxRefIdeal.main_arg4))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1)
      ∧ r.2.mem ((c.tc : Thread Cert.GateUpDw.nD Cert.GateUpDw.τ).loc Cert.GateUpDw.main_arg2) = m ((c.tc : Thread Cert.GateUpDw.nD Cert.GateUpDw.τ).loc Cert.GateUpDw.main_arg2)
      ∧ r.2.mem ((c.tc : Thread Cert.GateUpDw.nD Cert.GateUpDw.τ).loc Cert.GateUpDw.main_arg3) = m ((c.tc : Thread Cert.GateUpDw.nD Cert.GateUpDw.τ).loc Cert.GateUpDw.main_arg3)
      ∧ r.2.mem ((c.tc : Thread Cert.GateUpDw.nD Cert.GateUpDw.τ).loc Cert.GateUpDw.main_arg4) = m ((c.tc : Thread Cert.GateUpDw.nD Cert.GateUpDw.τ).loc Cert.GateUpDw.main_arg4))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
      ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2)
      ∧ r.2.mem ((c.tc : Thread Cert.GateUpDwIdeal.nD Cert.GateUpDwIdeal.τ).loc Cert.GateUpDwIdeal.main_arg3) = m ((c.tc : Thread Cert.GateUpDwIdeal.nD Cert.GateUpDwIdeal.τ).loc Cert.GateUpDwIdeal.main_arg3)
      ∧ r.2.mem ((c.tc : Thread Cert.GateUpDwIdeal.nD Cert.GateUpDwIdeal.τ).loc Cert.GateUpDwIdeal.main_arg4) = m ((c.tc : Thread Cert.GateUpDwIdeal.nD Cert.GateUpDwIdeal.τ).loc Cert.GateUpDwIdeal.main_arg4))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1)
      ∧ r.2.mem ((c.tc : Thread Cert.GateUpDwRefIdeal.nD Cert.GateUpDwRefIdeal.τ).loc Cert.GateUpDwRefIdeal.main_arg2) = m ((c.tc : Thread Cert.GateUpDwRefIdeal.nD Cert.GateUpDwRefIdeal.τ).loc Cert.GateUpDwRefIdeal.main_arg2)
      ∧ r.2.mem ((c.tc : Thread Cert.GateUpDwRefIdeal.nD Cert.GateUpDwRefIdeal.τ).loc Cert.GateUpDwRefIdeal.main_arg3) = m ((c.tc : Thread Cert.GateUpDwRefIdeal.nD Cert.GateUpDwRefIdeal.τ).loc Cert.GateUpDwRefIdeal.main_arg3)
      ∧ r.2.mem ((c.tc : Thread Cert.GateUpDwRefIdeal.nD Cert.GateUpDwRefIdeal.τ).loc Cert.GateUpDwRefIdeal.main_arg4) = m ((c.tc : Thread Cert.GateUpDwRefIdeal.nD Cert.GateUpDwRefIdeal.τ).loc Cert.GateUpDwRefIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1)
      ∧ r.2.mem ((c.tc : Thread Cert.GluDxRefIdeal.nD Cert.GluDxRefIdeal.τ).loc Cert.GluDxRefIdeal.main_arg2) = m ((c.tc : Thread Cert.GluDxRefIdeal.nD Cert.GluDxRefIdeal.τ).loc Cert.GluDxRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1)
      ∧ r.2.mem ((c.tc : Thread Cert.GluDw.nD Cert.GluDw.τ).loc Cert.GluDw.main_arg2) = m ((c.tc : Thread Cert.GluDw.nD Cert.GluDw.τ).loc Cert.GluDw.main_arg2))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
      ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1)
      ∧ r.2.mem ((c.tc : Thread Cert.GluDwRefIdeal.nD Cert.GluDwRefIdeal.τ).loc Cert.GluDwRefIdeal.main_arg2) = m ((c.tc : Thread Cert.GluDwRefIdeal.nD Cert.GluDwRefIdeal.τ).loc Cert.GluDwRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_DqDx [hDqDx : Cert.DqDx.Facts] : Prop :=
  ∀ (m : (ℓ : Loc Cert.DqDx.nD Cert.DqDx.τ Cert.DqDx.sig) → Buf (Elt Bits) ℓ) (g : Dev Cert.DqDx.nD → PrngReg), Pre_DqDx m →
    θ_run (Cert.DqDx.defs (F := Bits)) (onTc (τ := Cert.DqDx.τ) (Cert.DqDx.main (F := Bits))) ⟨m, fun _ => 0, g⟩ (fun r => (∀ c : Dev Cert.DqDx.nD,
      r.2.mem ((c.tc : Thread Cert.DqDx.nD Cert.DqDx.τ).loc Cert.DqDx.main_arg0) = m ((c.tc : Thread Cert.DqDx.nD Cert.DqDx.τ).loc Cert.DqDx.main_arg0)
      ∧ r.2.mem ((c.tc : Thread Cert.DqDx.nD Cert.DqDx.τ).loc Cert.DqDx.main_arg1) = m ((c.tc : Thread Cert.DqDx.nD Cert.DqDx.τ).loc Cert.DqDx.main_arg1)
      ∧ r.2.mem ((c.tc : Thread Cert.DqDx.nD Cert.DqDx.τ).loc Cert.DqDx.main_arg2) = m ((c.tc : Thread Cert.DqDx.nD Cert.DqDx.τ).loc Cert.DqDx.main_arg2))
      ∧ r.2.sem = fun _ => 0)

def quiescent_DqDxIdeal [hDqDxIdeal : Cert.DqDxIdeal.Facts] : Prop :=
  ∀ (m : (ℓ : Loc Cert.DqDxIdeal.nD Cert.DqDxIdeal.τ Cert.DqDxIdeal.sig) → Buf (Elt Ideal) ℓ) (g : Dev Cert.DqDxIdeal.nD → PrngReg), Pre_DqDxIdeal m →
    θ_run (Cert.DqDxIdeal.defs (F := Ideal)) (onTc (τ := Cert.DqDxIdeal.τ) (Cert.DqDxIdeal.main (F := Ideal))) ⟨m, fun _ => 0, g⟩ (fun r => (∀ c : Dev Cert.DqDxIdeal.nD,
      r.2.mem ((c.tc : Thread Cert.DqDxIdeal.nD Cert.DqDxIdeal.τ).loc Cert.DqDxIdeal.main_arg0) = m ((c.tc : Thread Cert.DqDxIdeal.nD Cert.DqDxIdeal.τ).loc Cert.DqDxIdeal.main_arg0)
      ∧ r.2.mem ((c.tc : Thread Cert.DqDxIdeal.nD Cert.DqDxIdeal.τ).loc Cert.DqDxIdeal.main_arg1) = m ((c.tc : Thread Cert.DqDxIdeal.nD Cert.DqDxIdeal.τ).loc Cert.DqDxIdeal.main_arg1)
      ∧ r.2.mem ((c.tc : Thread Cert.DqDxIdeal.nD Cert.DqDxIdeal.τ).loc Cert.DqDxIdeal.main_arg2) = m ((c.tc : Thread Cert.DqDxIdeal.nD Cert.DqDxIdeal.τ).loc Cert.DqDxIdeal.main_arg2))
      ∧ r.2.sem = fun _ => 0)

def quiescent_DqDxRefIdeal [hDqDxRefIdeal : Cert.DqDxRefIdeal.Facts] : Prop :=
  ∀ (m : (ℓ : Loc Cert.DqDxRefIdeal.nD Cert.DqDxRefIdeal.τ Cert.DqDxRefIdeal.sig) → Buf (Elt Ideal) ℓ) (g : Dev Cert.DqDxRefIdeal.nD → PrngReg), Pre_DqDxRefIdeal m →
    θ_run (Cert.DqDxRefIdeal.defs (F := Ideal)) (onTc (τ := Cert.DqDxRefIdeal.τ) (Cert.DqDxRefIdeal.main (F := Ideal))) ⟨m, fun _ => 0, g⟩ (fun r => (∀ c : Dev Cert.DqDxRefIdeal.nD,
      r.2.mem ((c.tc : Thread Cert.DqDxRefIdeal.nD Cert.DqDxRefIdeal.τ).loc Cert.DqDxRefIdeal.main_arg0) = m ((c.tc : Thread Cert.DqDxRefIdeal.nD Cert.DqDxRefIdeal.τ).loc Cert.DqDxRefIdeal.main_arg0)
      ∧ r.2.mem ((c.tc : Thread Cert.DqDxRefIdeal.nD Cert.DqDxRefIdeal.τ).loc Cert.DqDxRefIdeal.main_arg1) = m ((c.tc : Thread Cert.DqDxRefIdeal.nD Cert.DqDxRefIdeal.τ).loc Cert.DqDxRefIdeal.main_arg1)
      ∧ r.2.mem ((c.tc : Thread Cert.DqDxRefIdeal.nD Cert.DqDxRefIdeal.τ).loc Cert.DqDxRefIdeal.main_arg2) = m ((c.tc : Thread Cert.DqDxRefIdeal.nD Cert.DqDxRefIdeal.τ).loc Cert.DqDxRefIdeal.main_arg2))
      ∧ r.2.sem = fun _ => 0)

def quiescent_DqDw [hDqDw : Cert.DqDw.Facts] : Prop :=
  ∀ (m : (ℓ : Loc Cert.DqDw.nD Cert.DqDw.τ Cert.DqDw.sig) → Buf (Elt Bits) ℓ) (g : Dev Cert.DqDw.nD → PrngReg), Pre_DqDw m →
    θ_run (Cert.DqDw.defs (F := Bits)) (onTc (τ := Cert.DqDw.τ) (Cert.DqDw.main (F := Bits))) ⟨m, fun _ => 0, g⟩ (fun r => (∀ c : Dev Cert.DqDw.nD,
      r.2.mem ((c.tc : Thread Cert.DqDw.nD Cert.DqDw.τ).loc Cert.DqDw.main_arg0) = m ((c.tc : Thread Cert.DqDw.nD Cert.DqDw.τ).loc Cert.DqDw.main_arg0)
      ∧ r.2.mem ((c.tc : Thread Cert.DqDw.nD Cert.DqDw.τ).loc Cert.DqDw.main_arg1) = m ((c.tc : Thread Cert.DqDw.nD Cert.DqDw.τ).loc Cert.DqDw.main_arg1)
      ∧ r.2.mem ((c.tc : Thread Cert.DqDw.nD Cert.DqDw.τ).loc Cert.DqDw.main_arg2) = m ((c.tc : Thread Cert.DqDw.nD Cert.DqDw.τ).loc Cert.DqDw.main_arg2))
      ∧ r.2.sem = fun _ => 0)

def quiescent_DqDwIdeal [hDqDwIdeal : Cert.DqDwIdeal.Facts] : Prop :=
  ∀ (m : (ℓ : Loc Cert.DqDwIdeal.nD Cert.DqDwIdeal.τ Cert.DqDwIdeal.sig) → Buf (Elt Ideal) ℓ) (g : Dev Cert.DqDwIdeal.nD → PrngReg), Pre_DqDwIdeal m →
    θ_run (Cert.DqDwIdeal.defs (F := Ideal)) (onTc (τ := Cert.DqDwIdeal.τ) (Cert.DqDwIdeal.main (F := Ideal))) ⟨m, fun _ => 0, g⟩ (fun r => (∀ c : Dev Cert.DqDwIdeal.nD,
      r.2.mem ((c.tc : Thread Cert.DqDwIdeal.nD Cert.DqDwIdeal.τ).loc Cert.DqDwIdeal.main_arg0) = m ((c.tc : Thread Cert.DqDwIdeal.nD Cert.DqDwIdeal.τ).loc Cert.DqDwIdeal.main_arg0)
      ∧ r.2.mem ((c.tc : Thread Cert.DqDwIdeal.nD Cert.DqDwIdeal.τ).loc Cert.DqDwIdeal.main_arg1) = m ((c.tc : Thread Cert.DqDwIdeal.nD Cert.DqDwIdeal.τ).loc Cert.DqDwIdeal.main_arg1)
      ∧ r.2.mem ((c.tc : Thread Cert.DqDwIdeal.nD Cert.DqDwIdeal.τ).loc Cert.DqDwIdeal.main_arg2) = m ((c.tc : Thread Cert.DqDwIdeal.nD Cert.DqDwIdeal.τ).loc Cert.DqDwIdeal.main_arg2))
      ∧ r.2.sem = fun _ => 0)

def quiescent_DqDwRefIdeal [hDqDwRefIdeal : Cert.DqDwRefIdeal.Facts] : Prop :=
  ∀ (m : (ℓ : Loc Cert.DqDwRefIdeal.nD Cert.DqDwRefIdeal.τ Cert.DqDwRefIdeal.sig) → Buf (Elt Ideal) ℓ) (g : Dev Cert.DqDwRefIdeal.nD → PrngReg), Pre_DqDwRefIdeal m →
    θ_run (Cert.DqDwRefIdeal.defs (F := Ideal)) (onTc (τ := Cert.DqDwRefIdeal.τ) (Cert.DqDwRefIdeal.main (F := Ideal))) ⟨m, fun _ => 0, g⟩ (fun r => (∀ c : Dev Cert.DqDwRefIdeal.nD,
      r.2.mem ((c.tc : Thread Cert.DqDwRefIdeal.nD Cert.DqDwRefIdeal.τ).loc Cert.DqDwRefIdeal.main_arg0) = m ((c.tc : Thread Cert.DqDwRefIdeal.nD Cert.DqDwRefIdeal.τ).loc Cert.DqDwRefIdeal.main_arg0)
      ∧ r.2.mem ((c.tc : Thread Cert.DqDwRefIdeal.nD Cert.DqDwRefIdeal.τ).loc Cert.DqDwRefIdeal.main_arg1) = m ((c.tc : Thread Cert.DqDwRefIdeal.nD Cert.DqDwRefIdeal.τ).loc Cert.DqDwRefIdeal.main_arg1)
      ∧ r.2.mem ((c.tc : Thread Cert.DqDwRefIdeal.nD Cert.DqDwRefIdeal.τ).loc Cert.DqDwRefIdeal.main_arg2) = m ((c.tc : Thread Cert.DqDwRefIdeal.nD Cert.DqDwRefIdeal.τ).loc Cert.DqDwRefIdeal.main_arg2))
      ∧ r.2.sem = fun _ => 0)

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1))
      ∧ r.2.sem = fun _ => 0)

def quiescent_WoDx [hWoDx : Cert.WoDx.Facts] : Prop :=
  ∀ (m : (ℓ : Loc Cert.WoDx.nD Cert.WoDx.τ Cert.WoDx.sig) → Buf (Elt Bits) ℓ) (g : Dev Cert.WoDx.nD → PrngReg), Pre_WoDx m →
    θ_run (Cert.WoDx.defs (F := Bits)) (onTc (τ := Cert.WoDx.τ) (Cert.WoDx.main (F := Bits))) ⟨m, fun _ => 0, g⟩ (fun r => (∀ c : Dev Cert.WoDx.nD,
      r.2.mem ((c.tc : Thread Cert.WoDx.nD Cert.WoDx.τ).loc Cert.WoDx.main_arg0) = m ((c.tc : Thread Cert.WoDx.nD Cert.WoDx.τ).loc Cert.WoDx.main_arg0)
      ∧ r.2.mem ((c.tc : Thread Cert.WoDx.nD Cert.WoDx.τ).loc Cert.WoDx.main_arg1) = m ((c.tc : Thread Cert.WoDx.nD Cert.WoDx.τ).loc Cert.WoDx.main_arg1)
      ∧ r.2.mem ((c.tc : Thread Cert.WoDx.nD Cert.WoDx.τ).loc Cert.WoDx.main_arg2) = m ((c.tc : Thread Cert.WoDx.nD Cert.WoDx.τ).loc Cert.WoDx.main_arg2))
      ∧ r.2.sem = fun _ => 0)

def quiescent_WoDxIdeal [hWoDxIdeal : Cert.WoDxIdeal.Facts] : Prop :=
  ∀ (m : (ℓ : Loc Cert.WoDxIdeal.nD Cert.WoDxIdeal.τ Cert.WoDxIdeal.sig) → Buf (Elt Ideal) ℓ) (g : Dev Cert.WoDxIdeal.nD → PrngReg), Pre_WoDxIdeal m →
    θ_run (Cert.WoDxIdeal.defs (F := Ideal)) (onTc (τ := Cert.WoDxIdeal.τ) (Cert.WoDxIdeal.main (F := Ideal))) ⟨m, fun _ => 0, g⟩ (fun r => (∀ c : Dev Cert.WoDxIdeal.nD,
      r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
      ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1)
      ∧ r.2.mem ((c.tc : Thread Cert.WoDxIdeal.nD Cert.WoDxIdeal.τ).loc Cert.WoDxIdeal.main_arg2) = m ((c.tc : Thread Cert.WoDxIdeal.nD Cert.WoDxIdeal.τ).loc Cert.WoDxIdeal.main_arg2))
      ∧ r.2.sem = fun _ => 0)

def quiescent_WoDxRefIdeal [hWoDxRefIdeal : Cert.WoDxRefIdeal.Facts] : Prop :=
  ∀ (m : (ℓ : Loc Cert.WoDxRefIdeal.nD Cert.WoDxRefIdeal.τ Cert.WoDxRefIdeal.sig) → Buf (Elt Ideal) ℓ) (g : Dev Cert.WoDxRefIdeal.nD → PrngReg), Pre_WoDxRefIdeal m →
    θ_run (Cert.WoDxRefIdeal.defs (F := Ideal)) (onTc (τ := Cert.WoDxRefIdeal.τ) (Cert.WoDxRefIdeal.main (F := Ideal))) ⟨m, fun _ => 0, g⟩ (fun r => (∀ c : Dev Cert.WoDxRefIdeal.nD,
      r.2.mem ((c.tc : Thread Cert.WoDxRefIdeal.nD Cert.WoDxRefIdeal.τ).loc Cert.WoDxRefIdeal.main_arg0) = m ((c.tc : Thread Cert.WoDxRefIdeal.nD Cert.WoDxRefIdeal.τ).loc Cert.WoDxRefIdeal.main_arg0)
      ∧ r.2.mem ((c.tc : Thread Cert.WoDxRefIdeal.nD Cert.WoDxRefIdeal.τ).loc Cert.WoDxRefIdeal.main_arg1) = m ((c.tc : Thread Cert.WoDxRefIdeal.nD Cert.WoDxRefIdeal.τ).loc Cert.WoDxRefIdeal.main_arg1)
      ∧ r.2.mem ((c.tc : Thread Cert.WoDxRefIdeal.nD Cert.WoDxRefIdeal.τ).loc Cert.WoDxRefIdeal.main_arg2) = m ((c.tc : Thread Cert.WoDxRefIdeal.nD Cert.WoDxRefIdeal.τ).loc Cert.WoDxRefIdeal.main_arg2))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1)
      ∧ r.2.mem ((c.tc : Thread Cert.WoDw.nD Cert.WoDw.τ).loc Cert.WoDw.main_arg2) = m ((c.tc : Thread Cert.WoDw.nD Cert.WoDw.τ).loc Cert.WoDw.main_arg2))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1)
      ∧ r.2.mem ((c.tc : Thread Cert.WoDwIdeal.nD Cert.WoDwIdeal.τ).loc Cert.WoDwIdeal.main_arg2) = m ((c.tc : Thread Cert.WoDwIdeal.nD Cert.WoDwIdeal.τ).loc Cert.WoDwIdeal.main_arg2))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1)
      ∧ r.2.mem ((c.tc : Thread Cert.WoDwRefIdeal.nD Cert.WoDwRefIdeal.τ).loc Cert.WoDwRefIdeal.main_arg2) = m ((c.tc : Thread Cert.WoDwRefIdeal.nD Cert.WoDwRefIdeal.τ).loc Cert.WoDwRefIdeal.main_arg2))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1)
      ∧ r.2.mem ((c.tc : Thread Cert.UqDx.nD Cert.UqDx.τ).loc Cert.UqDx.main_arg2) = m ((c.tc : Thread Cert.UqDx.nD Cert.UqDx.τ).loc Cert.UqDx.main_arg2))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
      ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1)
      ∧ r.2.mem ((c.tc : Thread Cert.UqDxRefIdeal.nD Cert.UqDxRefIdeal.τ).loc Cert.UqDxRefIdeal.main_arg2) = m ((c.tc : Thread Cert.UqDxRefIdeal.nD Cert.UqDxRefIdeal.τ).loc Cert.UqDxRefIdeal.main_arg2))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1)
      ∧ r.2.mem ((c.tc : Thread Cert.UqDwRefIdeal.nD Cert.UqDwRefIdeal.τ).loc Cert.UqDwRefIdeal.main_arg2) = m ((c.tc : Thread Cert.UqDwRefIdeal.nD Cert.UqDwRefIdeal.τ).loc Cert.UqDwRefIdeal.main_arg2))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_KvBDx [hKvBDx : Cert.KvBDx.Facts] : Prop :=
  ∀ (m : (ℓ : Loc Cert.KvBDx.nD Cert.KvBDx.τ Cert.KvBDx.sig) → Buf (Elt Bits) ℓ) (g : Dev Cert.KvBDx.nD → PrngReg), Pre_KvBDx m →
    θ_run (Cert.KvBDx.defs (F := Bits)) (onTc (τ := Cert.KvBDx.τ) (Cert.KvBDx.main (F := Bits))) ⟨m, fun _ => 0, g⟩ (fun r => (∀ c : Dev Cert.KvBDx.nD,
      r.2.mem ((c.tc : Thread Cert.KvBDx.nD Cert.KvBDx.τ).loc Cert.KvBDx.main_arg0) = m ((c.tc : Thread Cert.KvBDx.nD Cert.KvBDx.τ).loc Cert.KvBDx.main_arg0)
      ∧ r.2.mem ((c.tc : Thread Cert.KvBDx.nD Cert.KvBDx.τ).loc Cert.KvBDx.main_arg1) = m ((c.tc : Thread Cert.KvBDx.nD Cert.KvBDx.τ).loc Cert.KvBDx.main_arg1)
      ∧ r.2.mem ((c.tc : Thread Cert.KvBDx.nD Cert.KvBDx.τ).loc Cert.KvBDx.main_arg2) = m ((c.tc : Thread Cert.KvBDx.nD Cert.KvBDx.τ).loc Cert.KvBDx.main_arg2))
      ∧ r.2.sem = fun _ => 0)

def quiescent_KvBDxIdeal [hKvBDxIdeal : Cert.KvBDxIdeal.Facts] : Prop :=
  ∀ (m : (ℓ : Loc Cert.KvBDxIdeal.nD Cert.KvBDxIdeal.τ Cert.KvBDxIdeal.sig) → Buf (Elt Ideal) ℓ) (g : Dev Cert.KvBDxIdeal.nD → PrngReg), Pre_KvBDxIdeal m →
    θ_run (Cert.KvBDxIdeal.defs (F := Ideal)) (onTc (τ := Cert.KvBDxIdeal.τ) (Cert.KvBDxIdeal.main (F := Ideal))) ⟨m, fun _ => 0, g⟩ (fun r => (∀ c : Dev Cert.KvBDxIdeal.nD,
      r.2.mem ((c.tc : Thread Cert.KvBDxIdeal.nD Cert.KvBDxIdeal.τ).loc Cert.KvBDxIdeal.main_arg0) = m ((c.tc : Thread Cert.KvBDxIdeal.nD Cert.KvBDxIdeal.τ).loc Cert.KvBDxIdeal.main_arg0)
      ∧ r.2.mem ((c.tc : Thread Cert.KvBDxIdeal.nD Cert.KvBDxIdeal.τ).loc Cert.KvBDxIdeal.main_arg1) = m ((c.tc : Thread Cert.KvBDxIdeal.nD Cert.KvBDxIdeal.τ).loc Cert.KvBDxIdeal.main_arg1)
      ∧ r.2.mem ((c.tc : Thread Cert.KvBDxIdeal.nD Cert.KvBDxIdeal.τ).loc Cert.KvBDxIdeal.main_arg2) = m ((c.tc : Thread Cert.KvBDxIdeal.nD Cert.KvBDxIdeal.τ).loc Cert.KvBDxIdeal.main_arg2))
      ∧ r.2.sem = fun _ => 0)

def quiescent_KvBDxRefIdeal [hKvBDxRefIdeal : Cert.KvBDxRefIdeal.Facts] : Prop :=
  ∀ (m : (ℓ : Loc Cert.KvBDxRefIdeal.nD Cert.KvBDxRefIdeal.τ Cert.KvBDxRefIdeal.sig) → Buf (Elt Ideal) ℓ) (g : Dev Cert.KvBDxRefIdeal.nD → PrngReg), Pre_KvBDxRefIdeal m →
    θ_run (Cert.KvBDxRefIdeal.defs (F := Ideal)) (onTc (τ := Cert.KvBDxRefIdeal.τ) (Cert.KvBDxRefIdeal.main (F := Ideal))) ⟨m, fun _ => 0, g⟩ (fun r => (∀ c : Dev Cert.KvBDxRefIdeal.nD,
      r.2.mem ((c.tc : Thread Cert.KvBDxRefIdeal.nD Cert.KvBDxRefIdeal.τ).loc Cert.KvBDxRefIdeal.main_arg0) = m ((c.tc : Thread Cert.KvBDxRefIdeal.nD Cert.KvBDxRefIdeal.τ).loc Cert.KvBDxRefIdeal.main_arg0)
      ∧ r.2.mem ((c.tc : Thread Cert.KvBDxRefIdeal.nD Cert.KvBDxRefIdeal.τ).loc Cert.KvBDxRefIdeal.main_arg1) = m ((c.tc : Thread Cert.KvBDxRefIdeal.nD Cert.KvBDxRefIdeal.τ).loc Cert.KvBDxRefIdeal.main_arg1)
      ∧ r.2.mem ((c.tc : Thread Cert.KvBDxRefIdeal.nD Cert.KvBDxRefIdeal.τ).loc Cert.KvBDxRefIdeal.main_arg2) = m ((c.tc : Thread Cert.KvBDxRefIdeal.nD Cert.KvBDxRefIdeal.τ).loc Cert.KvBDxRefIdeal.main_arg2))
      ∧ r.2.sem = fun _ => 0)

def quiescent_KvBDw [hKvBDw : Cert.KvBDw.Facts] : Prop :=
  ∀ (m : (ℓ : Loc Cert.KvBDw.nD Cert.KvBDw.τ Cert.KvBDw.sig) → Buf (Elt Bits) ℓ) (g : Dev Cert.KvBDw.nD → PrngReg), Pre_KvBDw m →
    θ_run (Cert.KvBDw.defs (F := Bits)) (onTc (τ := Cert.KvBDw.τ) (Cert.KvBDw.main (F := Bits))) ⟨m, fun _ => 0, g⟩ (fun r => (∀ c : Dev Cert.KvBDw.nD,
      r.2.mem ((c.tc : Thread Cert.KvBDw.nD Cert.KvBDw.τ).loc Cert.KvBDw.main_arg0) = m ((c.tc : Thread Cert.KvBDw.nD Cert.KvBDw.τ).loc Cert.KvBDw.main_arg0)
      ∧ r.2.mem ((c.tc : Thread Cert.KvBDw.nD Cert.KvBDw.τ).loc Cert.KvBDw.main_arg1) = m ((c.tc : Thread Cert.KvBDw.nD Cert.KvBDw.τ).loc Cert.KvBDw.main_arg1)
      ∧ r.2.mem ((c.tc : Thread Cert.KvBDw.nD Cert.KvBDw.τ).loc Cert.KvBDw.main_arg2) = m ((c.tc : Thread Cert.KvBDw.nD Cert.KvBDw.τ).loc Cert.KvBDw.main_arg2))
      ∧ r.2.sem = fun _ => 0)

def quiescent_KvBDwIdeal [hKvBDwIdeal : Cert.KvBDwIdeal.Facts] : Prop :=
  ∀ (m : (ℓ : Loc Cert.KvBDwIdeal.nD Cert.KvBDwIdeal.τ Cert.KvBDwIdeal.sig) → Buf (Elt Ideal) ℓ) (g : Dev Cert.KvBDwIdeal.nD → PrngReg), Pre_KvBDwIdeal m →
    θ_run (Cert.KvBDwIdeal.defs (F := Ideal)) (onTc (τ := Cert.KvBDwIdeal.τ) (Cert.KvBDwIdeal.main (F := Ideal))) ⟨m, fun _ => 0, g⟩ (fun r => (∀ c : Dev Cert.KvBDwIdeal.nD,
      r.2.mem ((c.tc : Thread Cert.KvBDwIdeal.nD Cert.KvBDwIdeal.τ).loc Cert.KvBDwIdeal.main_arg0) = m ((c.tc : Thread Cert.KvBDwIdeal.nD Cert.KvBDwIdeal.τ).loc Cert.KvBDwIdeal.main_arg0)
      ∧ r.2.mem ((c.tc : Thread Cert.KvBDwIdeal.nD Cert.KvBDwIdeal.τ).loc Cert.KvBDwIdeal.main_arg1) = m ((c.tc : Thread Cert.KvBDwIdeal.nD Cert.KvBDwIdeal.τ).loc Cert.KvBDwIdeal.main_arg1)
      ∧ r.2.mem ((c.tc : Thread Cert.KvBDwIdeal.nD Cert.KvBDwIdeal.τ).loc Cert.KvBDwIdeal.main_arg2) = m ((c.tc : Thread Cert.KvBDwIdeal.nD Cert.KvBDwIdeal.τ).loc Cert.KvBDwIdeal.main_arg2))
      ∧ r.2.sem = fun _ => 0)

def quiescent_KvBDwRefIdeal [hKvBDwRefIdeal : Cert.KvBDwRefIdeal.Facts] : Prop :=
  ∀ (m : (ℓ : Loc Cert.KvBDwRefIdeal.nD Cert.KvBDwRefIdeal.τ Cert.KvBDwRefIdeal.sig) → Buf (Elt Ideal) ℓ) (g : Dev Cert.KvBDwRefIdeal.nD → PrngReg), Pre_KvBDwRefIdeal m →
    θ_run (Cert.KvBDwRefIdeal.defs (F := Ideal)) (onTc (τ := Cert.KvBDwRefIdeal.τ) (Cert.KvBDwRefIdeal.main (F := Ideal))) ⟨m, fun _ => 0, g⟩ (fun r => (∀ c : Dev Cert.KvBDwRefIdeal.nD,
      r.2.mem ((c.tc : Thread Cert.KvBDwRefIdeal.nD Cert.KvBDwRefIdeal.τ).loc Cert.KvBDwRefIdeal.main_arg0) = m ((c.tc : Thread Cert.KvBDwRefIdeal.nD Cert.KvBDwRefIdeal.τ).loc Cert.KvBDwRefIdeal.main_arg0)
      ∧ r.2.mem ((c.tc : Thread Cert.KvBDwRefIdeal.nD Cert.KvBDwRefIdeal.τ).loc Cert.KvBDwRefIdeal.main_arg1) = m ((c.tc : Thread Cert.KvBDwRefIdeal.nD Cert.KvBDwRefIdeal.τ).loc Cert.KvBDwRefIdeal.main_arg1)
      ∧ r.2.mem ((c.tc : Thread Cert.KvBDwRefIdeal.nD Cert.KvBDwRefIdeal.τ).loc Cert.KvBDwRefIdeal.main_arg2) = m ((c.tc : Thread Cert.KvBDwRefIdeal.nD Cert.KvBDwRefIdeal.τ).loc Cert.KvBDwRefIdeal.main_arg2))
      ∧ r.2.sem = fun _ => 0)

def quiescent_KvBk [hKvBk : Cert.KvBk.Facts] : Prop :=
  ∀ (m : (ℓ : Loc Cert.KvBk.nD Cert.KvBk.τ Cert.KvBk.sig) → Buf (Elt Bits) ℓ) (g : Dev Cert.KvBk.nD → PrngReg), Pre_KvBk m →
    θ_run (Cert.KvBk.defs (F := Bits)) (onTc (τ := Cert.KvBk.τ) (Cert.KvBk.main (F := Bits))) ⟨m, fun _ => 0, g⟩ (fun r => (∀ c : Dev Cert.KvBk.nD,
      r.2.mem ((c.tc : Thread Cert.KvBk.nD Cert.KvBk.τ).loc Cert.KvBk.main_arg0) = m ((c.tc : Thread Cert.KvBk.nD Cert.KvBk.τ).loc Cert.KvBk.main_arg0)
      ∧ r.2.mem ((c.tc : Thread Cert.KvBk.nD Cert.KvBk.τ).loc Cert.KvBk.main_arg1) = m ((c.tc : Thread Cert.KvBk.nD Cert.KvBk.τ).loc Cert.KvBk.main_arg1))
      ∧ r.2.sem = fun _ => 0)

def quiescent_KvBkIdeal [hKvBkIdeal : Cert.KvBkIdeal.Facts] : Prop :=
  ∀ (m : (ℓ : Loc Cert.KvBkIdeal.nD Cert.KvBkIdeal.τ Cert.KvBkIdeal.sig) → Buf (Elt Ideal) ℓ) (g : Dev Cert.KvBkIdeal.nD → PrngReg), Pre_KvBkIdeal m →
    θ_run (Cert.KvBkIdeal.defs (F := Ideal)) (onTc (τ := Cert.KvBkIdeal.τ) (Cert.KvBkIdeal.main (F := Ideal))) ⟨m, fun _ => 0, g⟩ (fun r => (∀ c : Dev Cert.KvBkIdeal.nD,
      r.2.mem ((c.tc : Thread Cert.KvBkIdeal.nD Cert.KvBkIdeal.τ).loc Cert.KvBkIdeal.main_arg0) = m ((c.tc : Thread Cert.KvBkIdeal.nD Cert.KvBkIdeal.τ).loc Cert.KvBkIdeal.main_arg0)
      ∧ r.2.mem ((c.tc : Thread Cert.KvBkIdeal.nD Cert.KvBkIdeal.τ).loc Cert.KvBkIdeal.main_arg1) = m ((c.tc : Thread Cert.KvBkIdeal.nD Cert.KvBkIdeal.τ).loc Cert.KvBkIdeal.main_arg1))
      ∧ r.2.sem = fun _ => 0)

def quiescent_KvBkRefIdeal [hKvBkRefIdeal : Cert.KvBkRefIdeal.Facts] : Prop :=
  ∀ (m : (ℓ : Loc Cert.KvBkRefIdeal.nD Cert.KvBkRefIdeal.τ Cert.KvBkRefIdeal.sig) → Buf (Elt Ideal) ℓ) (g : Dev Cert.KvBkRefIdeal.nD → PrngReg), Pre_KvBkRefIdeal m →
    θ_run (Cert.KvBkRefIdeal.defs (F := Ideal)) (onTc (τ := Cert.KvBkRefIdeal.τ) (Cert.KvBkRefIdeal.main (F := Ideal))) ⟨m, fun _ => 0, g⟩ (fun r => (∀ c : Dev Cert.KvBkRefIdeal.nD,
      r.2.mem ((c.tc : Thread Cert.KvBkRefIdeal.nD Cert.KvBkRefIdeal.τ).loc Cert.KvBkRefIdeal.main_arg0) = m ((c.tc : Thread Cert.KvBkRefIdeal.nD Cert.KvBkRefIdeal.τ).loc Cert.KvBkRefIdeal.main_arg0)
      ∧ r.2.mem ((c.tc : Thread Cert.KvBkRefIdeal.nD Cert.KvBkRefIdeal.τ).loc Cert.KvBkRefIdeal.main_arg1) = m ((c.tc : Thread Cert.KvBkRefIdeal.nD Cert.KvBkRefIdeal.τ).loc Cert.KvBkRefIdeal.main_arg1))
      ∧ r.2.sem = fun _ => 0)

def quiescent_KvBv [hKvBv : Cert.KvBv.Facts] : Prop :=
  ∀ (m : (ℓ : Loc Cert.KvBv.nD Cert.KvBv.τ Cert.KvBv.sig) → Buf (Elt Bits) ℓ) (g : Dev Cert.KvBv.nD → PrngReg), Pre_KvBv m →
    θ_run (Cert.KvBv.defs (F := Bits)) (onTc (τ := Cert.KvBv.τ) (Cert.KvBv.main (F := Bits))) ⟨m, fun _ => 0, g⟩ (fun r => (∀ c : Dev Cert.KvBv.nD,
      r.2.mem ((c.tc : Thread Cert.KvBv.nD Cert.KvBv.τ).loc Cert.KvBv.main_arg0) = m ((c.tc : Thread Cert.KvBv.nD Cert.KvBv.τ).loc Cert.KvBv.main_arg0)
      ∧ r.2.mem ((c.tc : Thread Cert.KvBv.nD Cert.KvBv.τ).loc Cert.KvBv.main_arg1) = m ((c.tc : Thread Cert.KvBv.nD Cert.KvBv.τ).loc Cert.KvBv.main_arg1))
      ∧ r.2.sem = fun _ => 0)

def quiescent_KvBvIdeal [hKvBvIdeal : Cert.KvBvIdeal.Facts] : Prop :=
  ∀ (m : (ℓ : Loc Cert.KvBvIdeal.nD Cert.KvBvIdeal.τ Cert.KvBvIdeal.sig) → Buf (Elt Ideal) ℓ) (g : Dev Cert.KvBvIdeal.nD → PrngReg), Pre_KvBvIdeal m →
    θ_run (Cert.KvBvIdeal.defs (F := Ideal)) (onTc (τ := Cert.KvBvIdeal.τ) (Cert.KvBvIdeal.main (F := Ideal))) ⟨m, fun _ => 0, g⟩ (fun r => (∀ c : Dev Cert.KvBvIdeal.nD,
      r.2.mem ((c.tc : Thread Cert.KvBvIdeal.nD Cert.KvBvIdeal.τ).loc Cert.KvBvIdeal.main_arg0) = m ((c.tc : Thread Cert.KvBvIdeal.nD Cert.KvBvIdeal.τ).loc Cert.KvBvIdeal.main_arg0)
      ∧ r.2.mem ((c.tc : Thread Cert.KvBvIdeal.nD Cert.KvBvIdeal.τ).loc Cert.KvBvIdeal.main_arg1) = m ((c.tc : Thread Cert.KvBvIdeal.nD Cert.KvBvIdeal.τ).loc Cert.KvBvIdeal.main_arg1))
      ∧ r.2.sem = fun _ => 0)

def quiescent_KvBvRefIdeal [hKvBvRefIdeal : Cert.KvBvRefIdeal.Facts] : Prop :=
  ∀ (m : (ℓ : Loc Cert.KvBvRefIdeal.nD Cert.KvBvRefIdeal.τ Cert.KvBvRefIdeal.sig) → Buf (Elt Ideal) ℓ) (g : Dev Cert.KvBvRefIdeal.nD → PrngReg), Pre_KvBvRefIdeal m →
    θ_run (Cert.KvBvRefIdeal.defs (F := Ideal)) (onTc (τ := Cert.KvBvRefIdeal.τ) (Cert.KvBvRefIdeal.main (F := Ideal))) ⟨m, fun _ => 0, g⟩ (fun r => (∀ c : Dev Cert.KvBvRefIdeal.nD,
      r.2.mem ((c.tc : Thread Cert.KvBvRefIdeal.nD Cert.KvBvRefIdeal.τ).loc Cert.KvBvRefIdeal.main_arg0) = m ((c.tc : Thread Cert.KvBvRefIdeal.nD Cert.KvBvRefIdeal.τ).loc Cert.KvBvRefIdeal.main_arg0)
      ∧ r.2.mem ((c.tc : Thread Cert.KvBvRefIdeal.nD Cert.KvBvRefIdeal.τ).loc Cert.KvBvRefIdeal.main_arg1) = m ((c.tc : Thread Cert.KvBvRefIdeal.nD Cert.KvBvRefIdeal.τ).loc Cert.KvBvRefIdeal.main_arg1))
      ∧ r.2.sem = fun _ => 0)

def quiescent_KvADx [hKvADx : Cert.KvADx.Facts] : Prop :=
  ∀ (m : (ℓ : Loc Cert.KvADx.nD Cert.KvADx.τ Cert.KvADx.sig) → Buf (Elt Bits) ℓ) (g : Dev Cert.KvADx.nD → PrngReg), Pre_KvADx m →
    θ_run (Cert.KvADx.defs (F := Bits)) (onTc (τ := Cert.KvADx.τ) (Cert.KvADx.main (F := Bits))) ⟨m, fun _ => 0, g⟩ (fun r => (∀ c : Dev Cert.KvADx.nD,
      r.2.mem ((c.tc : Thread Cert.KvADx.nD Cert.KvADx.τ).loc Cert.KvADx.main_arg0) = m ((c.tc : Thread Cert.KvADx.nD Cert.KvADx.τ).loc Cert.KvADx.main_arg0)
      ∧ r.2.mem ((c.tc : Thread Cert.KvADx.nD Cert.KvADx.τ).loc Cert.KvADx.main_arg1) = m ((c.tc : Thread Cert.KvADx.nD Cert.KvADx.τ).loc Cert.KvADx.main_arg1)
      ∧ r.2.mem ((c.tc : Thread Cert.KvADx.nD Cert.KvADx.τ).loc Cert.KvADx.main_arg2) = m ((c.tc : Thread Cert.KvADx.nD Cert.KvADx.τ).loc Cert.KvADx.main_arg2))
      ∧ r.2.sem = fun _ => 0)

def quiescent_KvADxIdeal [hKvADxIdeal : Cert.KvADxIdeal.Facts] : Prop :=
  ∀ (m : (ℓ : Loc Cert.KvADxIdeal.nD Cert.KvADxIdeal.τ Cert.KvADxIdeal.sig) → Buf (Elt Ideal) ℓ) (g : Dev Cert.KvADxIdeal.nD → PrngReg), Pre_KvADxIdeal m →
    θ_run (Cert.KvADxIdeal.defs (F := Ideal)) (onTc (τ := Cert.KvADxIdeal.τ) (Cert.KvADxIdeal.main (F := Ideal))) ⟨m, fun _ => 0, g⟩ (fun r => (∀ c : Dev Cert.KvADxIdeal.nD,
      r.2.mem ((c.tc : Thread Cert.KvADxIdeal.nD Cert.KvADxIdeal.τ).loc Cert.KvADxIdeal.main_arg0) = m ((c.tc : Thread Cert.KvADxIdeal.nD Cert.KvADxIdeal.τ).loc Cert.KvADxIdeal.main_arg0)
      ∧ r.2.mem ((c.tc : Thread Cert.KvADxIdeal.nD Cert.KvADxIdeal.τ).loc Cert.KvADxIdeal.main_arg1) = m ((c.tc : Thread Cert.KvADxIdeal.nD Cert.KvADxIdeal.τ).loc Cert.KvADxIdeal.main_arg1)
      ∧ r.2.mem ((c.tc : Thread Cert.KvADxIdeal.nD Cert.KvADxIdeal.τ).loc Cert.KvADxIdeal.main_arg2) = m ((c.tc : Thread Cert.KvADxIdeal.nD Cert.KvADxIdeal.τ).loc Cert.KvADxIdeal.main_arg2))
      ∧ r.2.sem = fun _ => 0)

def quiescent_KvADxRefIdeal [hKvADxRefIdeal : Cert.KvADxRefIdeal.Facts] : Prop :=
  ∀ (m : (ℓ : Loc Cert.KvADxRefIdeal.nD Cert.KvADxRefIdeal.τ Cert.KvADxRefIdeal.sig) → Buf (Elt Ideal) ℓ) (g : Dev Cert.KvADxRefIdeal.nD → PrngReg), Pre_KvADxRefIdeal m →
    θ_run (Cert.KvADxRefIdeal.defs (F := Ideal)) (onTc (τ := Cert.KvADxRefIdeal.τ) (Cert.KvADxRefIdeal.main (F := Ideal))) ⟨m, fun _ => 0, g⟩ (fun r => (∀ c : Dev Cert.KvADxRefIdeal.nD,
      r.2.mem ((c.tc : Thread Cert.KvADxRefIdeal.nD Cert.KvADxRefIdeal.τ).loc Cert.KvADxRefIdeal.main_arg0) = m ((c.tc : Thread Cert.KvADxRefIdeal.nD Cert.KvADxRefIdeal.τ).loc Cert.KvADxRefIdeal.main_arg0)
      ∧ r.2.mem ((c.tc : Thread Cert.KvADxRefIdeal.nD Cert.KvADxRefIdeal.τ).loc Cert.KvADxRefIdeal.main_arg1) = m ((c.tc : Thread Cert.KvADxRefIdeal.nD Cert.KvADxRefIdeal.τ).loc Cert.KvADxRefIdeal.main_arg1)
      ∧ r.2.mem ((c.tc : Thread Cert.KvADxRefIdeal.nD Cert.KvADxRefIdeal.τ).loc Cert.KvADxRefIdeal.main_arg2) = m ((c.tc : Thread Cert.KvADxRefIdeal.nD Cert.KvADxRefIdeal.τ).loc Cert.KvADxRefIdeal.main_arg2))
      ∧ r.2.sem = fun _ => 0)

def quiescent_KvADw [hKvADw : Cert.KvADw.Facts] : Prop :=
  ∀ (m : (ℓ : Loc Cert.KvADw.nD Cert.KvADw.τ Cert.KvADw.sig) → Buf (Elt Bits) ℓ) (g : Dev Cert.KvADw.nD → PrngReg), Pre_KvADw m →
    θ_run (Cert.KvADw.defs (F := Bits)) (onTc (τ := Cert.KvADw.τ) (Cert.KvADw.main (F := Bits))) ⟨m, fun _ => 0, g⟩ (fun r => (∀ c : Dev Cert.KvADw.nD,
      r.2.mem ((c.tc : Thread Cert.KvADw.nD Cert.KvADw.τ).loc Cert.KvADw.main_arg0) = m ((c.tc : Thread Cert.KvADw.nD Cert.KvADw.τ).loc Cert.KvADw.main_arg0)
      ∧ r.2.mem ((c.tc : Thread Cert.KvADw.nD Cert.KvADw.τ).loc Cert.KvADw.main_arg1) = m ((c.tc : Thread Cert.KvADw.nD Cert.KvADw.τ).loc Cert.KvADw.main_arg1)
      ∧ r.2.mem ((c.tc : Thread Cert.KvADw.nD Cert.KvADw.τ).loc Cert.KvADw.main_arg2) = m ((c.tc : Thread Cert.KvADw.nD Cert.KvADw.τ).loc Cert.KvADw.main_arg2))
      ∧ r.2.sem = fun _ => 0)

def quiescent_KvADwIdeal [hKvADwIdeal : Cert.KvADwIdeal.Facts] : Prop :=
  ∀ (m : (ℓ : Loc Cert.KvADwIdeal.nD Cert.KvADwIdeal.τ Cert.KvADwIdeal.sig) → Buf (Elt Ideal) ℓ) (g : Dev Cert.KvADwIdeal.nD → PrngReg), Pre_KvADwIdeal m →
    θ_run (Cert.KvADwIdeal.defs (F := Ideal)) (onTc (τ := Cert.KvADwIdeal.τ) (Cert.KvADwIdeal.main (F := Ideal))) ⟨m, fun _ => 0, g⟩ (fun r => (∀ c : Dev Cert.KvADwIdeal.nD,
      r.2.mem ((c.tc : Thread Cert.KvADwIdeal.nD Cert.KvADwIdeal.τ).loc Cert.KvADwIdeal.main_arg0) = m ((c.tc : Thread Cert.KvADwIdeal.nD Cert.KvADwIdeal.τ).loc Cert.KvADwIdeal.main_arg0)
      ∧ r.2.mem ((c.tc : Thread Cert.KvADwIdeal.nD Cert.KvADwIdeal.τ).loc Cert.KvADwIdeal.main_arg1) = m ((c.tc : Thread Cert.KvADwIdeal.nD Cert.KvADwIdeal.τ).loc Cert.KvADwIdeal.main_arg1)
      ∧ r.2.mem ((c.tc : Thread Cert.KvADwIdeal.nD Cert.KvADwIdeal.τ).loc Cert.KvADwIdeal.main_arg2) = m ((c.tc : Thread Cert.KvADwIdeal.nD Cert.KvADwIdeal.τ).loc Cert.KvADwIdeal.main_arg2))
      ∧ r.2.sem = fun _ => 0)

def quiescent_KvADwRefIdeal [hKvADwRefIdeal : Cert.KvADwRefIdeal.Facts] : Prop :=
  ∀ (m : (ℓ : Loc Cert.KvADwRefIdeal.nD Cert.KvADwRefIdeal.τ Cert.KvADwRefIdeal.sig) → Buf (Elt Ideal) ℓ) (g : Dev Cert.KvADwRefIdeal.nD → PrngReg), Pre_KvADwRefIdeal m →
    θ_run (Cert.KvADwRefIdeal.defs (F := Ideal)) (onTc (τ := Cert.KvADwRefIdeal.τ) (Cert.KvADwRefIdeal.main (F := Ideal))) ⟨m, fun _ => 0, g⟩ (fun r => (∀ c : Dev Cert.KvADwRefIdeal.nD,
      r.2.mem ((c.tc : Thread Cert.KvADwRefIdeal.nD Cert.KvADwRefIdeal.τ).loc Cert.KvADwRefIdeal.main_arg0) = m ((c.tc : Thread Cert.KvADwRefIdeal.nD Cert.KvADwRefIdeal.τ).loc Cert.KvADwRefIdeal.main_arg0)
      ∧ r.2.mem ((c.tc : Thread Cert.KvADwRefIdeal.nD Cert.KvADwRefIdeal.τ).loc Cert.KvADwRefIdeal.main_arg1) = m ((c.tc : Thread Cert.KvADwRefIdeal.nD Cert.KvADwRefIdeal.τ).loc Cert.KvADwRefIdeal.main_arg1)
      ∧ r.2.mem ((c.tc : Thread Cert.KvADwRefIdeal.nD Cert.KvADwRefIdeal.τ).loc Cert.KvADwRefIdeal.main_arg2) = m ((c.tc : Thread Cert.KvADwRefIdeal.nD Cert.KvADwRefIdeal.τ).loc Cert.KvADwRefIdeal.main_arg2))
      ∧ r.2.sem = fun _ => 0)

def quiescent_KvA [hKvA : Cert.KvA.Facts] : Prop :=
  ∀ (m : (ℓ : Loc Cert.KvA.nD Cert.KvA.τ Cert.KvA.sig) → Buf (Elt Bits) ℓ) (g : Dev Cert.KvA.nD → PrngReg), Pre_KvA m →
    θ_run (Cert.KvA.defs (F := Bits)) (onTc (τ := Cert.KvA.τ) (Cert.KvA.main (F := Bits))) ⟨m, fun _ => 0, g⟩ (fun r => (∀ c : Dev Cert.KvA.nD,
      r.2.mem ((c.tc : Thread Cert.KvA.nD Cert.KvA.τ).loc Cert.KvA.main_arg0) = m ((c.tc : Thread Cert.KvA.nD Cert.KvA.τ).loc Cert.KvA.main_arg0)
      ∧ r.2.mem ((c.tc : Thread Cert.KvA.nD Cert.KvA.τ).loc Cert.KvA.main_arg1) = m ((c.tc : Thread Cert.KvA.nD Cert.KvA.τ).loc Cert.KvA.main_arg1))
      ∧ r.2.sem = fun _ => 0)

def quiescent_KvAIdeal [hKvAIdeal : Cert.KvAIdeal.Facts] : Prop :=
  ∀ (m : (ℓ : Loc Cert.KvAIdeal.nD Cert.KvAIdeal.τ Cert.KvAIdeal.sig) → Buf (Elt Ideal) ℓ) (g : Dev Cert.KvAIdeal.nD → PrngReg), Pre_KvAIdeal m →
    θ_run (Cert.KvAIdeal.defs (F := Ideal)) (onTc (τ := Cert.KvAIdeal.τ) (Cert.KvAIdeal.main (F := Ideal))) ⟨m, fun _ => 0, g⟩ (fun r => (∀ c : Dev Cert.KvAIdeal.nD,
      r.2.mem ((c.tc : Thread Cert.KvAIdeal.nD Cert.KvAIdeal.τ).loc Cert.KvAIdeal.main_arg0) = m ((c.tc : Thread Cert.KvAIdeal.nD Cert.KvAIdeal.τ).loc Cert.KvAIdeal.main_arg0)
      ∧ r.2.mem ((c.tc : Thread Cert.KvAIdeal.nD Cert.KvAIdeal.τ).loc Cert.KvAIdeal.main_arg1) = m ((c.tc : Thread Cert.KvAIdeal.nD Cert.KvAIdeal.τ).loc Cert.KvAIdeal.main_arg1))
      ∧ r.2.sem = fun _ => 0)

def quiescent_KvARefIdeal [hKvARefIdeal : Cert.KvARefIdeal.Facts] : Prop :=
  ∀ (m : (ℓ : Loc Cert.KvARefIdeal.nD Cert.KvARefIdeal.τ Cert.KvARefIdeal.sig) → Buf (Elt Ideal) ℓ) (g : Dev Cert.KvARefIdeal.nD → PrngReg), Pre_KvARefIdeal m →
    θ_run (Cert.KvARefIdeal.defs (F := Ideal)) (onTc (τ := Cert.KvARefIdeal.τ) (Cert.KvARefIdeal.main (F := Ideal))) ⟨m, fun _ => 0, g⟩ (fun r => (∀ c : Dev Cert.KvARefIdeal.nD,
      r.2.mem ((c.tc : Thread Cert.KvARefIdeal.nD Cert.KvARefIdeal.τ).loc Cert.KvARefIdeal.main_arg0) = m ((c.tc : Thread Cert.KvARefIdeal.nD Cert.KvARefIdeal.τ).loc Cert.KvARefIdeal.main_arg0)
      ∧ r.2.mem ((c.tc : Thread Cert.KvARefIdeal.nD Cert.KvARefIdeal.τ).loc Cert.KvARefIdeal.main_arg1) = m ((c.tc : Thread Cert.KvARefIdeal.nD Cert.KvARefIdeal.τ).loc Cert.KvARefIdeal.main_arg1))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1)
      ∧ r.2.mem ((c.tc : Thread Cert.AdaDw.nD Cert.AdaDw.τ).loc Cert.AdaDw.main_arg2) = m ((c.tc : Thread Cert.AdaDw.nD Cert.AdaDw.τ).loc Cert.AdaDw.main_arg2))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
      ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1)
      ∧ r.2.mem ((c.tc : Thread Cert.AdaDwRefIdeal.nD Cert.AdaDwRefIdeal.τ).loc Cert.AdaDwRefIdeal.main_arg2) = m ((c.tc : Thread Cert.AdaDwRefIdeal.nD Cert.AdaDwRefIdeal.τ).loc Cert.AdaDwRefIdeal.main_arg2))
      ∧ r.2.sem = fun _ => 0)

def quiescent_AdaProj [hAdaProj : Cert.AdaProj.Facts] : Prop :=
  ∀ (m : (ℓ : Loc Cert.AdaProj.nD Cert.AdaProj.τ Cert.AdaProj.sig) → Buf (Elt Bits) ℓ) (g : Dev Cert.AdaProj.nD → PrngReg), Pre_AdaProj m →
    θ_run (Cert.AdaProj.defs (F := Bits)) (onTc (τ := Cert.AdaProj.τ) (Cert.AdaProj.main (F := Bits))) ⟨m, fun _ => 0, g⟩ (fun r => (∀ c : Dev Cert.AdaProj.nD,
      r.2.mem ((c.tc : Thread Cert.AdaProj.nD Cert.AdaProj.τ).loc Cert.AdaProj.main_arg0) = m ((c.tc : Thread Cert.AdaProj.nD Cert.AdaProj.τ).loc Cert.AdaProj.main_arg0)
      ∧ r.2.mem ((c.tc : Thread Cert.AdaProj.nD Cert.AdaProj.τ).loc Cert.AdaProj.main_arg1) = m ((c.tc : Thread Cert.AdaProj.nD Cert.AdaProj.τ).loc Cert.AdaProj.main_arg1))
      ∧ r.2.sem = fun _ => 0)

def quiescent_AdaProjIdeal [hAdaProjIdeal : Cert.AdaProjIdeal.Facts] : Prop :=
  ∀ (m : (ℓ : Loc Cert.AdaProjIdeal.nD Cert.AdaProjIdeal.τ Cert.AdaProjIdeal.sig) → Buf (Elt Ideal) ℓ) (g : Dev Cert.AdaProjIdeal.nD → PrngReg), Pre_AdaProjIdeal m →
    θ_run (Cert.AdaProjIdeal.defs (F := Ideal)) (onTc (τ := Cert.AdaProjIdeal.τ) (Cert.AdaProjIdeal.main (F := Ideal))) ⟨m, fun _ => 0, g⟩ (fun r => (∀ c : Dev Cert.AdaProjIdeal.nD,
      r.2.mem ((c.tc : Thread Cert.AdaProjIdeal.nD Cert.AdaProjIdeal.τ).loc Cert.AdaProjIdeal.main_arg0) = m ((c.tc : Thread Cert.AdaProjIdeal.nD Cert.AdaProjIdeal.τ).loc Cert.AdaProjIdeal.main_arg0)
      ∧ r.2.mem ((c.tc : Thread Cert.AdaProjIdeal.nD Cert.AdaProjIdeal.τ).loc Cert.AdaProjIdeal.main_arg1) = m ((c.tc : Thread Cert.AdaProjIdeal.nD Cert.AdaProjIdeal.τ).loc Cert.AdaProjIdeal.main_arg1))
      ∧ r.2.sem = fun _ => 0)

def quiescent_AdaProjRefIdeal [hAdaProjRefIdeal : Cert.AdaProjRefIdeal.Facts] : Prop :=
  ∀ (m : (ℓ : Loc Cert.AdaProjRefIdeal.nD Cert.AdaProjRefIdeal.τ Cert.AdaProjRefIdeal.sig) → Buf (Elt Ideal) ℓ) (g : Dev Cert.AdaProjRefIdeal.nD → PrngReg), Pre_AdaProjRefIdeal m →
    θ_run (Cert.AdaProjRefIdeal.defs (F := Ideal)) (onTc (τ := Cert.AdaProjRefIdeal.τ) (Cert.AdaProjRefIdeal.main (F := Ideal))) ⟨m, fun _ => 0, g⟩ (fun r => (∀ c : Dev Cert.AdaProjRefIdeal.nD,
      r.2.mem ((c.tc : Thread Cert.AdaProjRefIdeal.nD Cert.AdaProjRefIdeal.τ).loc Cert.AdaProjRefIdeal.main_arg0) = m ((c.tc : Thread Cert.AdaProjRefIdeal.nD Cert.AdaProjRefIdeal.τ).loc Cert.AdaProjRefIdeal.main_arg0)
      ∧ r.2.mem ((c.tc : Thread Cert.AdaProjRefIdeal.nD Cert.AdaProjRefIdeal.τ).loc Cert.AdaProjRefIdeal.main_arg1) = m ((c.tc : Thread Cert.AdaProjRefIdeal.nD Cert.AdaProjRefIdeal.τ).loc Cert.AdaProjRefIdeal.main_arg1))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_BbarBwd [hBbarBwd : Cert.BbarBwd.Facts] : Prop :=
  ∀ (m : (ℓ : Loc Cert.BbarBwd.nD Cert.BbarBwd.τ Cert.BbarBwd.sig) → Buf (Elt Bits) ℓ) (g : Dev Cert.BbarBwd.nD → PrngReg), Pre_BbarBwd m →
    θ_run (Cert.BbarBwd.defs (F := Bits)) (onTc (τ := Cert.BbarBwd.τ) (Cert.BbarBwd.main (F := Bits))) ⟨m, fun _ => 0, g⟩ (fun r => (∀ c : Dev Cert.BbarBwd.nD,
      r.2.mem ((c.tc : Thread Cert.BbarBwd.nD Cert.BbarBwd.τ).loc Cert.BbarBwd.main_arg0) = m ((c.tc : Thread Cert.BbarBwd.nD Cert.BbarBwd.τ).loc Cert.BbarBwd.main_arg0)
      ∧ r.2.mem ((c.tc : Thread Cert.BbarBwd.nD Cert.BbarBwd.τ).loc Cert.BbarBwd.main_arg1) = m ((c.tc : Thread Cert.BbarBwd.nD Cert.BbarBwd.τ).loc Cert.BbarBwd.main_arg1)
      ∧ r.2.mem ((c.tc : Thread Cert.BbarBwd.nD Cert.BbarBwd.τ).loc Cert.BbarBwd.main_arg2) = m ((c.tc : Thread Cert.BbarBwd.nD Cert.BbarBwd.τ).loc Cert.BbarBwd.main_arg2)
      ∧ r.2.mem ((c.tc : Thread Cert.BbarBwd.nD Cert.BbarBwd.τ).loc Cert.BbarBwd.main_arg3) = m ((c.tc : Thread Cert.BbarBwd.nD Cert.BbarBwd.τ).loc Cert.BbarBwd.main_arg3)
      ∧ r.2.mem ((c.tc : Thread Cert.BbarBwd.nD Cert.BbarBwd.τ).loc Cert.BbarBwd.main_arg4) = m ((c.tc : Thread Cert.BbarBwd.nD Cert.BbarBwd.τ).loc Cert.BbarBwd.main_arg4)
      ∧ r.2.mem ((c.tc : Thread Cert.BbarBwd.nD Cert.BbarBwd.τ).loc Cert.BbarBwd.main_arg5) = m ((c.tc : Thread Cert.BbarBwd.nD Cert.BbarBwd.τ).loc Cert.BbarBwd.main_arg5))
      ∧ r.2.sem = fun _ => 0)

def quiescent_BbarBwdIdeal [hBbarBwdIdeal : Cert.BbarBwdIdeal.Facts] : Prop :=
  ∀ (m : (ℓ : Loc Cert.BbarBwdIdeal.nD Cert.BbarBwdIdeal.τ Cert.BbarBwdIdeal.sig) → Buf (Elt Ideal) ℓ) (g : Dev Cert.BbarBwdIdeal.nD → PrngReg), Pre_BbarBwdIdeal m →
    θ_run (Cert.BbarBwdIdeal.defs (F := Ideal)) (onTc (τ := Cert.BbarBwdIdeal.τ) (Cert.BbarBwdIdeal.main (F := Ideal))) ⟨m, fun _ => 0, g⟩ (fun r => (∀ c : Dev Cert.BbarBwdIdeal.nD,
      r.2.mem ((c.tc : Thread Cert.BbarBwdIdeal.nD Cert.BbarBwdIdeal.τ).loc Cert.BbarBwdIdeal.main_arg0) = m ((c.tc : Thread Cert.BbarBwdIdeal.nD Cert.BbarBwdIdeal.τ).loc Cert.BbarBwdIdeal.main_arg0)
      ∧ r.2.mem ((c.tc : Thread Cert.BbarBwdIdeal.nD Cert.BbarBwdIdeal.τ).loc Cert.BbarBwdIdeal.main_arg1) = m ((c.tc : Thread Cert.BbarBwdIdeal.nD Cert.BbarBwdIdeal.τ).loc Cert.BbarBwdIdeal.main_arg1)
      ∧ r.2.mem ((c.tc : Thread Cert.BbarBwdIdeal.nD Cert.BbarBwdIdeal.τ).loc Cert.BbarBwdIdeal.main_arg2) = m ((c.tc : Thread Cert.BbarBwdIdeal.nD Cert.BbarBwdIdeal.τ).loc Cert.BbarBwdIdeal.main_arg2)
      ∧ r.2.mem ((c.tc : Thread Cert.BbarBwdIdeal.nD Cert.BbarBwdIdeal.τ).loc Cert.BbarBwdIdeal.main_arg3) = m ((c.tc : Thread Cert.BbarBwdIdeal.nD Cert.BbarBwdIdeal.τ).loc Cert.BbarBwdIdeal.main_arg3)
      ∧ r.2.mem ((c.tc : Thread Cert.BbarBwdIdeal.nD Cert.BbarBwdIdeal.τ).loc Cert.BbarBwdIdeal.main_arg4) = m ((c.tc : Thread Cert.BbarBwdIdeal.nD Cert.BbarBwdIdeal.τ).loc Cert.BbarBwdIdeal.main_arg4)
      ∧ r.2.mem ((c.tc : Thread Cert.BbarBwdIdeal.nD Cert.BbarBwdIdeal.τ).loc Cert.BbarBwdIdeal.main_arg5) = m ((c.tc : Thread Cert.BbarBwdIdeal.nD Cert.BbarBwdIdeal.τ).loc Cert.BbarBwdIdeal.main_arg5))
      ∧ r.2.sem = fun _ => 0)

def quiescent_BbarBwdRefIdeal [hBbarBwdRefIdeal : Cert.BbarBwdRefIdeal.Facts] : Prop :=
  ∀ (m : (ℓ : Loc Cert.BbarBwdRefIdeal.nD Cert.BbarBwdRefIdeal.τ Cert.BbarBwdRefIdeal.sig) → Buf (Elt Ideal) ℓ) (g : Dev Cert.BbarBwdRefIdeal.nD → PrngReg), Pre_BbarBwdRefIdeal m →
    θ_run (Cert.BbarBwdRefIdeal.defs (F := Ideal)) (onTc (τ := Cert.BbarBwdRefIdeal.τ) (Cert.BbarBwdRefIdeal.main (F := Ideal))) ⟨m, fun _ => 0, g⟩ (fun r => (∀ c : Dev Cert.BbarBwdRefIdeal.nD,
      r.2.mem ((c.tc : Thread Cert.BbarBwdRefIdeal.nD Cert.BbarBwdRefIdeal.τ).loc Cert.BbarBwdRefIdeal.main_arg0) = m ((c.tc : Thread Cert.BbarBwdRefIdeal.nD Cert.BbarBwdRefIdeal.τ).loc Cert.BbarBwdRefIdeal.main_arg0)
      ∧ r.2.mem ((c.tc : Thread Cert.BbarBwdRefIdeal.nD Cert.BbarBwdRefIdeal.τ).loc Cert.BbarBwdRefIdeal.main_arg1) = m ((c.tc : Thread Cert.BbarBwdRefIdeal.nD Cert.BbarBwdRefIdeal.τ).loc Cert.BbarBwdRefIdeal.main_arg1)
      ∧ r.2.mem ((c.tc : Thread Cert.BbarBwdRefIdeal.nD Cert.BbarBwdRefIdeal.τ).loc Cert.BbarBwdRefIdeal.main_arg2) = m ((c.tc : Thread Cert.BbarBwdRefIdeal.nD Cert.BbarBwdRefIdeal.τ).loc Cert.BbarBwdRefIdeal.main_arg2)
      ∧ r.2.mem ((c.tc : Thread Cert.BbarBwdRefIdeal.nD Cert.BbarBwdRefIdeal.τ).loc Cert.BbarBwdRefIdeal.main_arg3) = m ((c.tc : Thread Cert.BbarBwdRefIdeal.nD Cert.BbarBwdRefIdeal.τ).loc Cert.BbarBwdRefIdeal.main_arg3)
      ∧ r.2.mem ((c.tc : Thread Cert.BbarBwdRefIdeal.nD Cert.BbarBwdRefIdeal.τ).loc Cert.BbarBwdRefIdeal.main_arg4) = m ((c.tc : Thread Cert.BbarBwdRefIdeal.nD Cert.BbarBwdRefIdeal.τ).loc Cert.BbarBwdRefIdeal.main_arg4)
      ∧ r.2.mem ((c.tc : Thread Cert.BbarBwdRefIdeal.nD Cert.BbarBwdRefIdeal.τ).loc Cert.BbarBwdRefIdeal.main_arg5) = m ((c.tc : Thread Cert.BbarBwdRefIdeal.nD Cert.BbarBwdRefIdeal.τ).loc Cert.BbarBwdRefIdeal.main_arg5))
      ∧ r.2.sem = fun _ => 0)

def quiescent_Bbar [hBbar : Cert.Bbar.Facts] : Prop :=
  ∀ (m : (ℓ : Loc Cert.Bbar.nD Cert.Bbar.τ Cert.Bbar.sig) → Buf (Elt Bits) ℓ) (g : Dev Cert.Bbar.nD → PrngReg), Pre_Bbar m →
    θ_run (Cert.Bbar.defs (F := Bits)) (onTc (τ := Cert.Bbar.τ) (Cert.Bbar.main (F := Bits))) ⟨m, fun _ => 0, g⟩ (fun r => (∀ c : Dev Cert.Bbar.nD,
      r.2.mem ((c.tc : Thread Cert.Bbar.nD Cert.Bbar.τ).loc Cert.Bbar.main_arg0) = m ((c.tc : Thread Cert.Bbar.nD Cert.Bbar.τ).loc Cert.Bbar.main_arg0)
      ∧ r.2.mem ((c.tc : Thread Cert.Bbar.nD Cert.Bbar.τ).loc Cert.Bbar.main_arg1) = m ((c.tc : Thread Cert.Bbar.nD Cert.Bbar.τ).loc Cert.Bbar.main_arg1)
      ∧ r.2.mem ((c.tc : Thread Cert.Bbar.nD Cert.Bbar.τ).loc Cert.Bbar.main_arg2) = m ((c.tc : Thread Cert.Bbar.nD Cert.Bbar.τ).loc Cert.Bbar.main_arg2)
      ∧ r.2.mem ((c.tc : Thread Cert.Bbar.nD Cert.Bbar.τ).loc Cert.Bbar.main_arg3) = m ((c.tc : Thread Cert.Bbar.nD Cert.Bbar.τ).loc Cert.Bbar.main_arg3))
      ∧ r.2.sem = fun _ => 0)

def quiescent_BbarIdeal [hBbarIdeal : Cert.BbarIdeal.Facts] : Prop :=
  ∀ (m : (ℓ : Loc Cert.BbarIdeal.nD Cert.BbarIdeal.τ Cert.BbarIdeal.sig) → Buf (Elt Ideal) ℓ) (g : Dev Cert.BbarIdeal.nD → PrngReg), Pre_BbarIdeal m →
    θ_run (Cert.BbarIdeal.defs (F := Ideal)) (onTc (τ := Cert.BbarIdeal.τ) (Cert.BbarIdeal.main (F := Ideal))) ⟨m, fun _ => 0, g⟩ (fun r => (∀ c : Dev Cert.BbarIdeal.nD,
      r.2.mem ((c.tc : Thread Cert.BbarIdeal.nD Cert.BbarIdeal.τ).loc Cert.BbarIdeal.main_arg0) = m ((c.tc : Thread Cert.BbarIdeal.nD Cert.BbarIdeal.τ).loc Cert.BbarIdeal.main_arg0)
      ∧ r.2.mem ((c.tc : Thread Cert.BbarIdeal.nD Cert.BbarIdeal.τ).loc Cert.BbarIdeal.main_arg1) = m ((c.tc : Thread Cert.BbarIdeal.nD Cert.BbarIdeal.τ).loc Cert.BbarIdeal.main_arg1)
      ∧ r.2.mem ((c.tc : Thread Cert.BbarIdeal.nD Cert.BbarIdeal.τ).loc Cert.BbarIdeal.main_arg2) = m ((c.tc : Thread Cert.BbarIdeal.nD Cert.BbarIdeal.τ).loc Cert.BbarIdeal.main_arg2)
      ∧ r.2.mem ((c.tc : Thread Cert.BbarIdeal.nD Cert.BbarIdeal.τ).loc Cert.BbarIdeal.main_arg3) = m ((c.tc : Thread Cert.BbarIdeal.nD Cert.BbarIdeal.τ).loc Cert.BbarIdeal.main_arg3))
      ∧ r.2.sem = fun _ => 0)

def quiescent_BbarRefIdeal [hBbarRefIdeal : Cert.BbarRefIdeal.Facts] : Prop :=
  ∀ (m : (ℓ : Loc Cert.BbarRefIdeal.nD Cert.BbarRefIdeal.τ Cert.BbarRefIdeal.sig) → Buf (Elt Ideal) ℓ) (g : Dev Cert.BbarRefIdeal.nD → PrngReg), Pre_BbarRefIdeal m →
    θ_run (Cert.BbarRefIdeal.defs (F := Ideal)) (onTc (τ := Cert.BbarRefIdeal.τ) (Cert.BbarRefIdeal.main (F := Ideal))) ⟨m, fun _ => 0, g⟩ (fun r => (∀ c : Dev Cert.BbarRefIdeal.nD,
      r.2.mem ((c.tc : Thread Cert.BbarRefIdeal.nD Cert.BbarRefIdeal.τ).loc Cert.BbarRefIdeal.main_arg0) = m ((c.tc : Thread Cert.BbarRefIdeal.nD Cert.BbarRefIdeal.τ).loc Cert.BbarRefIdeal.main_arg0)
      ∧ r.2.mem ((c.tc : Thread Cert.BbarRefIdeal.nD Cert.BbarRefIdeal.τ).loc Cert.BbarRefIdeal.main_arg1) = m ((c.tc : Thread Cert.BbarRefIdeal.nD Cert.BbarRefIdeal.τ).loc Cert.BbarRefIdeal.main_arg1)
      ∧ r.2.mem ((c.tc : Thread Cert.BbarRefIdeal.nD Cert.BbarRefIdeal.τ).loc Cert.BbarRefIdeal.main_arg2) = m ((c.tc : Thread Cert.BbarRefIdeal.nD Cert.BbarRefIdeal.τ).loc Cert.BbarRefIdeal.main_arg2)
      ∧ r.2.mem ((c.tc : Thread Cert.BbarRefIdeal.nD Cert.BbarRefIdeal.τ).loc Cert.BbarRefIdeal.main_arg3) = m ((c.tc : Thread Cert.BbarRefIdeal.nD Cert.BbarRefIdeal.τ).loc Cert.BbarRefIdeal.main_arg3))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2))
      ∧ r.2.sem = fun _ => 0)

def quiescent_GateRes [hGateRes : Cert.GateRes.Facts] : Prop :=
  ∀ (m : (ℓ : Loc Cert.GateRes.nD Cert.GateRes.τ Cert.GateRes.sig) → Buf (Elt Bits) ℓ) (g : Dev Cert.GateRes.nD → PrngReg), Pre_GateRes m →
    θ_run (Cert.GateRes.defs (F := Bits)) (onTc (τ := Cert.GateRes.τ) (Cert.GateRes.main (F := Bits))) ⟨m, fun _ => 0, g⟩ (fun r => (∀ c : Dev Cert.GateRes.nD,
      r.2.mem ((c.tc : Thread Cert.GateRes.nD Cert.GateRes.τ).loc Cert.GateRes.main_arg0) = m ((c.tc : Thread Cert.GateRes.nD Cert.GateRes.τ).loc Cert.GateRes.main_arg0)
      ∧ r.2.mem ((c.tc : Thread Cert.GateRes.nD Cert.GateRes.τ).loc Cert.GateRes.main_arg1) = m ((c.tc : Thread Cert.GateRes.nD Cert.GateRes.τ).loc Cert.GateRes.main_arg1)
      ∧ r.2.mem ((c.tc : Thread Cert.GateRes.nD Cert.GateRes.τ).loc Cert.GateRes.main_arg2) = m ((c.tc : Thread Cert.GateRes.nD Cert.GateRes.τ).loc Cert.GateRes.main_arg2)
      ∧ r.2.mem ((c.tc : Thread Cert.GateRes.nD Cert.GateRes.τ).loc Cert.GateRes.main_arg3) = m ((c.tc : Thread Cert.GateRes.nD Cert.GateRes.τ).loc Cert.GateRes.main_arg3)
      ∧ r.2.mem ((c.tc : Thread Cert.GateRes.nD Cert.GateRes.τ).loc Cert.GateRes.main_arg4) = m ((c.tc : Thread Cert.GateRes.nD Cert.GateRes.τ).loc Cert.GateRes.main_arg4))
      ∧ r.2.sem = fun _ => 0)

def quiescent_GateResIdeal [hGateResIdeal : Cert.GateResIdeal.Facts] : Prop :=
  ∀ (m : (ℓ : Loc Cert.GateResIdeal.nD Cert.GateResIdeal.τ Cert.GateResIdeal.sig) → Buf (Elt Ideal) ℓ) (g : Dev Cert.GateResIdeal.nD → PrngReg), Pre_GateResIdeal m →
    θ_run (Cert.GateResIdeal.defs (F := Ideal)) (onTc (τ := Cert.GateResIdeal.τ) (Cert.GateResIdeal.main (F := Ideal))) ⟨m, fun _ => 0, g⟩ (fun r => (∀ c : Dev Cert.GateResIdeal.nD,
      r.2.mem ((c.tc : Thread Cert.GateResIdeal.nD Cert.GateResIdeal.τ).loc Cert.GateResIdeal.main_arg0) = m ((c.tc : Thread Cert.GateResIdeal.nD Cert.GateResIdeal.τ).loc Cert.GateResIdeal.main_arg0)
      ∧ r.2.mem ((c.tc : Thread Cert.GateResIdeal.nD Cert.GateResIdeal.τ).loc Cert.GateResIdeal.main_arg1) = m ((c.tc : Thread Cert.GateResIdeal.nD Cert.GateResIdeal.τ).loc Cert.GateResIdeal.main_arg1)
      ∧ r.2.mem ((c.tc : Thread Cert.GateResIdeal.nD Cert.GateResIdeal.τ).loc Cert.GateResIdeal.main_arg2) = m ((c.tc : Thread Cert.GateResIdeal.nD Cert.GateResIdeal.τ).loc Cert.GateResIdeal.main_arg2)
      ∧ r.2.mem ((c.tc : Thread Cert.GateResIdeal.nD Cert.GateResIdeal.τ).loc Cert.GateResIdeal.main_arg3) = m ((c.tc : Thread Cert.GateResIdeal.nD Cert.GateResIdeal.τ).loc Cert.GateResIdeal.main_arg3)
      ∧ r.2.mem ((c.tc : Thread Cert.GateResIdeal.nD Cert.GateResIdeal.τ).loc Cert.GateResIdeal.main_arg4) = m ((c.tc : Thread Cert.GateResIdeal.nD Cert.GateResIdeal.τ).loc Cert.GateResIdeal.main_arg4))
      ∧ r.2.sem = fun _ => 0)

def quiescent_GateResRefIdeal [hGateResRefIdeal : Cert.GateResRefIdeal.Facts] : Prop :=
  ∀ (m : (ℓ : Loc Cert.GateResRefIdeal.nD Cert.GateResRefIdeal.τ Cert.GateResRefIdeal.sig) → Buf (Elt Ideal) ℓ) (g : Dev Cert.GateResRefIdeal.nD → PrngReg), Pre_GateResRefIdeal m →
    θ_run (Cert.GateResRefIdeal.defs (F := Ideal)) (onTc (τ := Cert.GateResRefIdeal.τ) (Cert.GateResRefIdeal.main (F := Ideal))) ⟨m, fun _ => 0, g⟩ (fun r => (∀ c : Dev Cert.GateResRefIdeal.nD,
      r.2.mem ((c.tc : Thread Cert.GateResRefIdeal.nD Cert.GateResRefIdeal.τ).loc Cert.GateResRefIdeal.main_arg0) = m ((c.tc : Thread Cert.GateResRefIdeal.nD Cert.GateResRefIdeal.τ).loc Cert.GateResRefIdeal.main_arg0)
      ∧ r.2.mem ((c.tc : Thread Cert.GateResRefIdeal.nD Cert.GateResRefIdeal.τ).loc Cert.GateResRefIdeal.main_arg1) = m ((c.tc : Thread Cert.GateResRefIdeal.nD Cert.GateResRefIdeal.τ).loc Cert.GateResRefIdeal.main_arg1)
      ∧ r.2.mem ((c.tc : Thread Cert.GateResRefIdeal.nD Cert.GateResRefIdeal.τ).loc Cert.GateResRefIdeal.main_arg2) = m ((c.tc : Thread Cert.GateResRefIdeal.nD Cert.GateResRefIdeal.τ).loc Cert.GateResRefIdeal.main_arg2)
      ∧ r.2.mem ((c.tc : Thread Cert.GateResRefIdeal.nD Cert.GateResRefIdeal.τ).loc Cert.GateResRefIdeal.main_arg3) = m ((c.tc : Thread Cert.GateResRefIdeal.nD Cert.GateResRefIdeal.τ).loc Cert.GateResRefIdeal.main_arg3)
      ∧ r.2.mem ((c.tc : Thread Cert.GateResRefIdeal.nD Cert.GateResRefIdeal.τ).loc Cert.GateResRefIdeal.main_arg4) = m ((c.tc : Thread Cert.GateResRefIdeal.nD Cert.GateResRefIdeal.τ).loc Cert.GateResRefIdeal.main_arg4))
      ∧ r.2.sem = fun _ => 0)

def quiescent_MlaRes [hMlaRes : Cert.MlaRes.Facts] : Prop :=
  ∀ (m : (ℓ : Loc Cert.MlaRes.nD Cert.MlaRes.τ Cert.MlaRes.sig) → Buf (Elt Bits) ℓ) (g : Dev Cert.MlaRes.nD → PrngReg), Pre_MlaRes m →
    θ_run (Cert.MlaRes.defs (F := Bits)) (onTc (τ := Cert.MlaRes.τ) (Cert.MlaRes.main (F := Bits))) ⟨m, fun _ => 0, g⟩ (fun r => (∀ c : Dev Cert.MlaRes.nD,
      r.2.mem ((c.tc : Thread Cert.MlaRes.nD Cert.MlaRes.τ).loc Cert.MlaRes.main_arg0) = m ((c.tc : Thread Cert.MlaRes.nD Cert.MlaRes.τ).loc Cert.MlaRes.main_arg0)
      ∧ r.2.mem ((c.tc : Thread Cert.MlaRes.nD Cert.MlaRes.τ).loc Cert.MlaRes.main_arg1) = m ((c.tc : Thread Cert.MlaRes.nD Cert.MlaRes.τ).loc Cert.MlaRes.main_arg1)
      ∧ r.2.mem ((c.tc : Thread Cert.MlaRes.nD Cert.MlaRes.τ).loc Cert.MlaRes.main_arg2) = m ((c.tc : Thread Cert.MlaRes.nD Cert.MlaRes.τ).loc Cert.MlaRes.main_arg2))
      ∧ r.2.sem = fun _ => 0)

def quiescent_MlaResIdeal [hMlaResIdeal : Cert.MlaResIdeal.Facts] : Prop :=
  ∀ (m : (ℓ : Loc Cert.MlaResIdeal.nD Cert.MlaResIdeal.τ Cert.MlaResIdeal.sig) → Buf (Elt Ideal) ℓ) (g : Dev Cert.MlaResIdeal.nD → PrngReg), Pre_MlaResIdeal m →
    θ_run (Cert.MlaResIdeal.defs (F := Ideal)) (onTc (τ := Cert.MlaResIdeal.τ) (Cert.MlaResIdeal.main (F := Ideal))) ⟨m, fun _ => 0, g⟩ (fun r => (∀ c : Dev Cert.MlaResIdeal.nD,
      r.2.mem ((c.tc : Thread Cert.MlaResIdeal.nD Cert.MlaResIdeal.τ).loc Cert.MlaResIdeal.main_arg0) = m ((c.tc : Thread Cert.MlaResIdeal.nD Cert.MlaResIdeal.τ).loc Cert.MlaResIdeal.main_arg0)
      ∧ r.2.mem ((c.tc : Thread Cert.MlaResIdeal.nD Cert.MlaResIdeal.τ).loc Cert.MlaResIdeal.main_arg1) = m ((c.tc : Thread Cert.MlaResIdeal.nD Cert.MlaResIdeal.τ).loc Cert.MlaResIdeal.main_arg1)
      ∧ r.2.mem ((c.tc : Thread Cert.MlaResIdeal.nD Cert.MlaResIdeal.τ).loc Cert.MlaResIdeal.main_arg2) = m ((c.tc : Thread Cert.MlaResIdeal.nD Cert.MlaResIdeal.τ).loc Cert.MlaResIdeal.main_arg2))
      ∧ r.2.sem = fun _ => 0)

def quiescent_MlaResRefIdeal [hMlaResRefIdeal : Cert.MlaResRefIdeal.Facts] : Prop :=
  ∀ (m : (ℓ : Loc Cert.MlaResRefIdeal.nD Cert.MlaResRefIdeal.τ Cert.MlaResRefIdeal.sig) → Buf (Elt Ideal) ℓ) (g : Dev Cert.MlaResRefIdeal.nD → PrngReg), Pre_MlaResRefIdeal m →
    θ_run (Cert.MlaResRefIdeal.defs (F := Ideal)) (onTc (τ := Cert.MlaResRefIdeal.τ) (Cert.MlaResRefIdeal.main (F := Ideal))) ⟨m, fun _ => 0, g⟩ (fun r => (∀ c : Dev Cert.MlaResRefIdeal.nD,
      r.2.mem ((c.tc : Thread Cert.MlaResRefIdeal.nD Cert.MlaResRefIdeal.τ).loc Cert.MlaResRefIdeal.main_arg0) = m ((c.tc : Thread Cert.MlaResRefIdeal.nD Cert.MlaResRefIdeal.τ).loc Cert.MlaResRefIdeal.main_arg0)
      ∧ r.2.mem ((c.tc : Thread Cert.MlaResRefIdeal.nD Cert.MlaResRefIdeal.τ).loc Cert.MlaResRefIdeal.main_arg1) = m ((c.tc : Thread Cert.MlaResRefIdeal.nD Cert.MlaResRefIdeal.τ).loc Cert.MlaResRefIdeal.main_arg1)
      ∧ r.2.mem ((c.tc : Thread Cert.MlaResRefIdeal.nD Cert.MlaResRefIdeal.τ).loc Cert.MlaResRefIdeal.main_arg2) = m ((c.tc : Thread Cert.MlaResRefIdeal.nD Cert.MlaResRefIdeal.τ).loc Cert.MlaResRefIdeal.main_arg2))
      ∧ r.2.sem = fun _ => 0)

def quiescent_FfnRes [hFfnRes : Cert.FfnRes.Facts] : Prop :=
  ∀ (m : (ℓ : Loc Cert.FfnRes.nD Cert.FfnRes.τ Cert.FfnRes.sig) → Buf (Elt Bits) ℓ) (g : Dev Cert.FfnRes.nD → PrngReg), Pre_FfnRes m →
    θ_run (Cert.FfnRes.defs (F := Bits)) (onTc (τ := Cert.FfnRes.τ) (Cert.FfnRes.main (F := Bits))) ⟨m, fun _ => 0, g⟩ (fun r => (∀ c : Dev Cert.FfnRes.nD,
      r.2.mem ((c.tc : Thread Cert.FfnRes.nD Cert.FfnRes.τ).loc Cert.FfnRes.main_arg0) = m ((c.tc : Thread Cert.FfnRes.nD Cert.FfnRes.τ).loc Cert.FfnRes.main_arg0)
      ∧ r.2.mem ((c.tc : Thread Cert.FfnRes.nD Cert.FfnRes.τ).loc Cert.FfnRes.main_arg1) = m ((c.tc : Thread Cert.FfnRes.nD Cert.FfnRes.τ).loc Cert.FfnRes.main_arg1)
      ∧ r.2.mem ((c.tc : Thread Cert.FfnRes.nD Cert.FfnRes.τ).loc Cert.FfnRes.main_arg2) = m ((c.tc : Thread Cert.FfnRes.nD Cert.FfnRes.τ).loc Cert.FfnRes.main_arg2))
      ∧ r.2.sem = fun _ => 0)

def quiescent_FfnResIdeal [hFfnResIdeal : Cert.FfnResIdeal.Facts] : Prop :=
  ∀ (m : (ℓ : Loc Cert.FfnResIdeal.nD Cert.FfnResIdeal.τ Cert.FfnResIdeal.sig) → Buf (Elt Ideal) ℓ) (g : Dev Cert.FfnResIdeal.nD → PrngReg), Pre_FfnResIdeal m →
    θ_run (Cert.FfnResIdeal.defs (F := Ideal)) (onTc (τ := Cert.FfnResIdeal.τ) (Cert.FfnResIdeal.main (F := Ideal))) ⟨m, fun _ => 0, g⟩ (fun r => (∀ c : Dev Cert.FfnResIdeal.nD,
      r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
      ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
      ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2))
      ∧ r.2.sem = fun _ => 0)

def quiescent_FfnResRefIdeal [hFfnResRefIdeal : Cert.FfnResRefIdeal.Facts] : Prop :=
  ∀ (m : (ℓ : Loc Cert.FfnResRefIdeal.nD Cert.FfnResRefIdeal.τ Cert.FfnResRefIdeal.sig) → Buf (Elt Ideal) ℓ) (g : Dev Cert.FfnResRefIdeal.nD → PrngReg), Pre_FfnResRefIdeal m →
    θ_run (Cert.FfnResRefIdeal.defs (F := Ideal)) (onTc (τ := Cert.FfnResRefIdeal.τ) (Cert.FfnResRefIdeal.main (F := Ideal))) ⟨m, fun _ => 0, g⟩ (fun r => (∀ c : Dev Cert.FfnResRefIdeal.nD,
      r.2.mem ((c.tc : Thread Cert.FfnResRefIdeal.nD Cert.FfnResRefIdeal.τ).loc Cert.FfnResRefIdeal.main_arg0) = m ((c.tc : Thread Cert.FfnResRefIdeal.nD Cert.FfnResRefIdeal.τ).loc Cert.FfnResRefIdeal.main_arg0)
      ∧ r.2.mem ((c.tc : Thread Cert.FfnResRefIdeal.nD Cert.FfnResRefIdeal.τ).loc Cert.FfnResRefIdeal.main_arg1) = m ((c.tc : Thread Cert.FfnResRefIdeal.nD Cert.FfnResRefIdeal.τ).loc Cert.FfnResRefIdeal.main_arg1)
      ∧ r.2.mem ((c.tc : Thread Cert.FfnResRefIdeal.nD Cert.FfnResRefIdeal.τ).loc Cert.FfnResRefIdeal.main_arg2) = m ((c.tc : Thread Cert.FfnResRefIdeal.nD Cert.FfnResRefIdeal.τ).loc Cert.FfnResRefIdeal.main_arg2))
      ∧ r.2.sem = fun _ => 0)

def quiescent_QNorm [hQNorm : Cert.QNorm.Facts] : Prop :=
  ∀ (m : (ℓ : Loc Cert.QNorm.nD Cert.QNorm.τ Cert.QNorm.sig) → Buf (Elt Bits) ℓ) (g : Dev Cert.QNorm.nD → PrngReg), Pre_QNorm m →
    θ_run (Cert.QNorm.defs (F := Bits)) (onTc (τ := Cert.QNorm.τ) (Cert.QNorm.main (F := Bits))) ⟨m, fun _ => 0, g⟩ (fun r => (∀ c : Dev Cert.QNorm.nD,
      r.2.mem ((c.tc : Thread Cert.QNorm.nD Cert.QNorm.τ).loc Cert.QNorm.main_arg0) = m ((c.tc : Thread Cert.QNorm.nD Cert.QNorm.τ).loc Cert.QNorm.main_arg0)
      ∧ r.2.mem ((c.tc : Thread Cert.QNorm.nD Cert.QNorm.τ).loc Cert.QNorm.main_arg1) = m ((c.tc : Thread Cert.QNorm.nD Cert.QNorm.τ).loc Cert.QNorm.main_arg1))
      ∧ r.2.sem = fun _ => 0)

def quiescent_QNormIdeal [hQNormIdeal : Cert.QNormIdeal.Facts] : Prop :=
  ∀ (m : (ℓ : Loc Cert.QNormIdeal.nD Cert.QNormIdeal.τ Cert.QNormIdeal.sig) → Buf (Elt Ideal) ℓ) (g : Dev Cert.QNormIdeal.nD → PrngReg), Pre_QNormIdeal m →
    θ_run (Cert.QNormIdeal.defs (F := Ideal)) (onTc (τ := Cert.QNormIdeal.τ) (Cert.QNormIdeal.main (F := Ideal))) ⟨m, fun _ => 0, g⟩ (fun r => (∀ c : Dev Cert.QNormIdeal.nD,
      r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
      ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ r.2.sem = fun _ => 0)

def quiescent_QNormRefIdeal [hQNormRefIdeal : Cert.QNormRefIdeal.Facts] : Prop :=
  ∀ (m : (ℓ : Loc Cert.QNormRefIdeal.nD Cert.QNormRefIdeal.τ Cert.QNormRefIdeal.sig) → Buf (Elt Ideal) ℓ) (g : Dev Cert.QNormRefIdeal.nD → PrngReg), Pre_QNormRefIdeal m →
    θ_run (Cert.QNormRefIdeal.defs (F := Ideal)) (onTc (τ := Cert.QNormRefIdeal.τ) (Cert.QNormRefIdeal.main (F := Ideal))) ⟨m, fun _ => 0, g⟩ (fun r => (∀ c : Dev Cert.QNormRefIdeal.nD,
      r.2.mem ((c.tc : Thread Cert.QNormRefIdeal.nD Cert.QNormRefIdeal.τ).loc Cert.QNormRefIdeal.main_arg0) = m ((c.tc : Thread Cert.QNormRefIdeal.nD Cert.QNormRefIdeal.τ).loc Cert.QNormRefIdeal.main_arg0)
      ∧ r.2.mem ((c.tc : Thread Cert.QNormRefIdeal.nD Cert.QNormRefIdeal.τ).loc Cert.QNormRefIdeal.main_arg1) = m ((c.tc : Thread Cert.QNormRefIdeal.nD Cert.QNormRefIdeal.τ).loc Cert.QNormRefIdeal.main_arg1))
      ∧ r.2.sem = fun _ => 0)

def quiescent_MlaNorm [hMlaNorm : Cert.MlaNorm.Facts] : Prop :=
  ∀ (m : (ℓ : Loc Cert.MlaNorm.nD Cert.MlaNorm.τ Cert.MlaNorm.sig) → Buf (Elt Bits) ℓ) (g : Dev Cert.MlaNorm.nD → PrngReg), Pre_MlaNorm m →
    θ_run (Cert.MlaNorm.defs (F := Bits)) (onTc (τ := Cert.MlaNorm.τ) (Cert.MlaNorm.main (F := Bits))) ⟨m, fun _ => 0, g⟩ (fun r => (∀ c : Dev Cert.MlaNorm.nD,
      r.2.mem ((c.tc : Thread Cert.MlaNorm.nD Cert.MlaNorm.τ).loc Cert.MlaNorm.main_arg0) = m ((c.tc : Thread Cert.MlaNorm.nD Cert.MlaNorm.τ).loc Cert.MlaNorm.main_arg0)
      ∧ r.2.mem ((c.tc : Thread Cert.MlaNorm.nD Cert.MlaNorm.τ).loc Cert.MlaNorm.main_arg1) = m ((c.tc : Thread Cert.MlaNorm.nD Cert.MlaNorm.τ).loc Cert.MlaNorm.main_arg1)
      ∧ r.2.mem ((c.tc : Thread Cert.MlaNorm.nD Cert.MlaNorm.τ).loc Cert.MlaNorm.main_arg2) = m ((c.tc : Thread Cert.MlaNorm.nD Cert.MlaNorm.τ).loc Cert.MlaNorm.main_arg2))
      ∧ r.2.sem = fun _ => 0)

def quiescent_MlaNormIdeal [hMlaNormIdeal : Cert.MlaNormIdeal.Facts] : Prop :=
  ∀ (m : (ℓ : Loc Cert.MlaNormIdeal.nD Cert.MlaNormIdeal.τ Cert.MlaNormIdeal.sig) → Buf (Elt Ideal) ℓ) (g : Dev Cert.MlaNormIdeal.nD → PrngReg), Pre_MlaNormIdeal m →
    θ_run (Cert.MlaNormIdeal.defs (F := Ideal)) (onTc (τ := Cert.MlaNormIdeal.τ) (Cert.MlaNormIdeal.main (F := Ideal))) ⟨m, fun _ => 0, g⟩ (fun r => (∀ c : Dev Cert.MlaNormIdeal.nD,
      r.2.mem ((c.tc : Thread Cert.MlaNormIdeal.nD Cert.MlaNormIdeal.τ).loc Cert.MlaNormIdeal.main_arg0) = m ((c.tc : Thread Cert.MlaNormIdeal.nD Cert.MlaNormIdeal.τ).loc Cert.MlaNormIdeal.main_arg0)
      ∧ r.2.mem ((c.tc : Thread Cert.MlaNormIdeal.nD Cert.MlaNormIdeal.τ).loc Cert.MlaNormIdeal.main_arg1) = m ((c.tc : Thread Cert.MlaNormIdeal.nD Cert.MlaNormIdeal.τ).loc Cert.MlaNormIdeal.main_arg1)
      ∧ r.2.mem ((c.tc : Thread Cert.MlaNormIdeal.nD Cert.MlaNormIdeal.τ).loc Cert.MlaNormIdeal.main_arg2) = m ((c.tc : Thread Cert.MlaNormIdeal.nD Cert.MlaNormIdeal.τ).loc Cert.MlaNormIdeal.main_arg2))
      ∧ r.2.sem = fun _ => 0)

def quiescent_MlaNormRefIdeal [hMlaNormRefIdeal : Cert.MlaNormRefIdeal.Facts] : Prop :=
  ∀ (m : (ℓ : Loc Cert.MlaNormRefIdeal.nD Cert.MlaNormRefIdeal.τ Cert.MlaNormRefIdeal.sig) → Buf (Elt Ideal) ℓ) (g : Dev Cert.MlaNormRefIdeal.nD → PrngReg), Pre_MlaNormRefIdeal m →
    θ_run (Cert.MlaNormRefIdeal.defs (F := Ideal)) (onTc (τ := Cert.MlaNormRefIdeal.τ) (Cert.MlaNormRefIdeal.main (F := Ideal))) ⟨m, fun _ => 0, g⟩ (fun r => (∀ c : Dev Cert.MlaNormRefIdeal.nD,
      r.2.mem ((c.tc : Thread Cert.MlaNormRefIdeal.nD Cert.MlaNormRefIdeal.τ).loc Cert.MlaNormRefIdeal.main_arg0) = m ((c.tc : Thread Cert.MlaNormRefIdeal.nD Cert.MlaNormRefIdeal.τ).loc Cert.MlaNormRefIdeal.main_arg0)
      ∧ r.2.mem ((c.tc : Thread Cert.MlaNormRefIdeal.nD Cert.MlaNormRefIdeal.τ).loc Cert.MlaNormRefIdeal.main_arg1) = m ((c.tc : Thread Cert.MlaNormRefIdeal.nD Cert.MlaNormRefIdeal.τ).loc Cert.MlaNormRefIdeal.main_arg1)
      ∧ r.2.mem ((c.tc : Thread Cert.MlaNormRefIdeal.nD Cert.MlaNormRefIdeal.τ).loc Cert.MlaNormRefIdeal.main_arg2) = m ((c.tc : Thread Cert.MlaNormRefIdeal.nD Cert.MlaNormRefIdeal.τ).loc Cert.MlaNormRefIdeal.main_arg2))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Fwd_FwdIdeal : Prop :=
  IdealRules.named_const.Statement Cert.FwdIdeal.κ "mask" .f32 0xF149F2CA#32 ⊥

def algebraic_FwdIdeal_FwdRefIdeal_pre_finite_forward [hFwdIdeal : Cert.FwdIdeal.Facts] [hFwdRefIdeal : Cert.FwdRefIdeal.Facts] [hPre_finite_forward : Cert.Pre_finite_forward.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_forward m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v11_0)) (v1 : (c : Dev Cert.FwdIdeal.nD) → Buf (Elt Ideal) ((c.tc : Thread Cert.FwdIdeal.nD Cert.FwdIdeal.τ).loc Cert.FwdIdeal.main_v11_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v11_0) = v0 c
          ∧ r.2.mem ((c.tc : Thread Cert.FwdIdeal.nD Cert.FwdIdeal.τ).loc Cert.FwdIdeal.main_v11_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v28) = v0 c
          ∧ r.2.mem ((c.tc : Thread Cert.FwdRefIdeal.nD Cert.FwdRefIdeal.τ).loc Cert.FwdRefIdeal.main_v51) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_GateUpDx_GateUpDxIdeal : Prop :=
  True

def algebraic_GateUpDxIdeal_GateUpDxRefIdeal [hGateUpDxIdeal : Cert.GateUpDxIdeal.Facts] [hGateUpDxRefIdeal : Cert.GateUpDxRefIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)
      ∧ m' ((c.tc : Thread Cert.GateUpDxRefIdeal.nD Cert.GateUpDxRefIdeal.τ).loc Cert.GateUpDxRefIdeal.main_arg2) = m ((c.tc : Thread Cert.GateUpDxIdeal.nD Cert.GateUpDxIdeal.τ).loc Cert.GateUpDxIdeal.main_arg2)
      ∧ m' ((c.tc : Thread Cert.GateUpDxRefIdeal.nD Cert.GateUpDxRefIdeal.τ).loc Cert.GateUpDxRefIdeal.main_arg3) = m ((c.tc : Thread Cert.GateUpDxIdeal.nD Cert.GateUpDxIdeal.τ).loc Cert.GateUpDxIdeal.main_arg3)
      ∧ m' ((c.tc : Thread Cert.GateUpDxRefIdeal.nD Cert.GateUpDxRefIdeal.τ).loc Cert.GateUpDxRefIdeal.main_arg4) = m ((c.tc : Thread Cert.GateUpDxIdeal.nD Cert.GateUpDxIdeal.τ).loc Cert.GateUpDxIdeal.main_arg4)) →
    ∃ (v0 : (c : Dev Cert.GateUpDxIdeal.nD) → Buf (Elt Ideal) ((c.tc : Thread Cert.GateUpDxIdeal.nD Cert.GateUpDxIdeal.τ).loc Cert.GateUpDxIdeal.main_v4)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v4) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
          ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2)
          ∧ r.2.mem ((c.tc : Thread Cert.GateUpDxIdeal.nD Cert.GateUpDxIdeal.τ).loc Cert.GateUpDxIdeal.main_arg3) = m ((c.tc : Thread Cert.GateUpDxIdeal.nD Cert.GateUpDxIdeal.τ).loc Cert.GateUpDxIdeal.main_arg3)
          ∧ r.2.mem ((c.tc : Thread Cert.GateUpDxIdeal.nD Cert.GateUpDxIdeal.τ).loc Cert.GateUpDxIdeal.main_arg4) = m ((c.tc : Thread Cert.GateUpDxIdeal.nD Cert.GateUpDxIdeal.τ).loc Cert.GateUpDxIdeal.main_arg4))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v8) = v0 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1)
          ∧ r.2.mem ((c.tc : Thread Cert.GateUpDxRefIdeal.nD Cert.GateUpDxRefIdeal.τ).loc Cert.GateUpDxRefIdeal.main_arg2) = m' ((c.tc : Thread Cert.GateUpDxRefIdeal.nD Cert.GateUpDxRefIdeal.τ).loc Cert.GateUpDxRefIdeal.main_arg2)
          ∧ r.2.mem ((c.tc : Thread Cert.GateUpDxRefIdeal.nD Cert.GateUpDxRefIdeal.τ).loc Cert.GateUpDxRefIdeal.main_arg3) = m' ((c.tc : Thread Cert.GateUpDxRefIdeal.nD Cert.GateUpDxRefIdeal.τ).loc Cert.GateUpDxRefIdeal.main_arg3)
          ∧ r.2.mem ((c.tc : Thread Cert.GateUpDxRefIdeal.nD Cert.GateUpDxRefIdeal.τ).loc Cert.GateUpDxRefIdeal.main_arg4) = m' ((c.tc : Thread Cert.GateUpDxRefIdeal.nD Cert.GateUpDxRefIdeal.τ).loc Cert.GateUpDxRefIdeal.main_arg4))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)
      ∧ m' ((c.tc : Thread Cert.GateUpDwRefIdeal.nD Cert.GateUpDwRefIdeal.τ).loc Cert.GateUpDwRefIdeal.main_arg2) = m ((c.tc : Thread Cert.GateUpDwIdeal.nD Cert.GateUpDwIdeal.τ).loc Cert.GateUpDwIdeal.main_arg2)
      ∧ m' ((c.tc : Thread Cert.GateUpDwRefIdeal.nD Cert.GateUpDwRefIdeal.τ).loc Cert.GateUpDwRefIdeal.main_arg3) = m ((c.tc : Thread Cert.GateUpDwIdeal.nD Cert.GateUpDwIdeal.τ).loc Cert.GateUpDwIdeal.main_arg3)
      ∧ m' ((c.tc : Thread Cert.GateUpDwRefIdeal.nD Cert.GateUpDwRefIdeal.τ).loc Cert.GateUpDwRefIdeal.main_arg4) = m ((c.tc : Thread Cert.GateUpDwIdeal.nD Cert.GateUpDwIdeal.τ).loc Cert.GateUpDwIdeal.main_arg4)) →
    ∃ (v0 : (c : Dev Cert.GateUpDwIdeal.nD) → Buf (Elt Ideal) ((c.tc : Thread Cert.GateUpDwIdeal.nD Cert.GateUpDwIdeal.τ).loc Cert.GateUpDwIdeal.main_v3)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v3) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1)
          ∧ r.2.mem ((c.tc : Thread Cert.GateUpDwIdeal.nD Cert.GateUpDwIdeal.τ).loc Cert.GateUpDwIdeal.main_arg2) = m ((c.tc : Thread Cert.GateUpDwIdeal.nD Cert.GateUpDwIdeal.τ).loc Cert.GateUpDwIdeal.main_arg2)
          ∧ r.2.mem ((c.tc : Thread Cert.GateUpDwIdeal.nD Cert.GateUpDwIdeal.τ).loc Cert.GateUpDwIdeal.main_arg3) = m ((c.tc : Thread Cert.GateUpDwIdeal.nD Cert.GateUpDwIdeal.τ).loc Cert.GateUpDwIdeal.main_arg3)
          ∧ r.2.mem ((c.tc : Thread Cert.GateUpDwIdeal.nD Cert.GateUpDwIdeal.τ).loc Cert.GateUpDwIdeal.main_arg4) = m ((c.tc : Thread Cert.GateUpDwIdeal.nD Cert.GateUpDwIdeal.τ).loc Cert.GateUpDwIdeal.main_arg4))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v9) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1)
          ∧ r.2.mem ((c.tc : Thread Cert.GateUpDwRefIdeal.nD Cert.GateUpDwRefIdeal.τ).loc Cert.GateUpDwRefIdeal.main_arg2) = m' ((c.tc : Thread Cert.GateUpDwRefIdeal.nD Cert.GateUpDwRefIdeal.τ).loc Cert.GateUpDwRefIdeal.main_arg2)
          ∧ r.2.mem ((c.tc : Thread Cert.GateUpDwRefIdeal.nD Cert.GateUpDwRefIdeal.τ).loc Cert.GateUpDwRefIdeal.main_arg3) = m' ((c.tc : Thread Cert.GateUpDwRefIdeal.nD Cert.GateUpDwRefIdeal.τ).loc Cert.GateUpDwRefIdeal.main_arg3)
          ∧ r.2.mem ((c.tc : Thread Cert.GateUpDwRefIdeal.nD Cert.GateUpDwRefIdeal.τ).loc Cert.GateUpDwRefIdeal.main_arg4) = m' ((c.tc : Thread Cert.GateUpDwRefIdeal.nD Cert.GateUpDwRefIdeal.τ).loc Cert.GateUpDwRefIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v2) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)
      ∧ m' ((c.tc : Thread Cert.GluDxRefIdeal.nD Cert.GluDxRefIdeal.τ).loc Cert.GluDxRefIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v2)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v2) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v3) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1)
          ∧ r.2.mem ((c.tc : Thread Cert.GluDxRefIdeal.nD Cert.GluDxRefIdeal.τ).loc Cert.GluDxRefIdeal.main_arg2) = m' ((c.tc : Thread Cert.GluDxRefIdeal.nD Cert.GluDxRefIdeal.τ).loc Cert.GluDxRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)
      ∧ m' ((c.tc : Thread Cert.GluDwRefIdeal.nD Cert.GluDwRefIdeal.τ).loc Cert.GluDwRefIdeal.main_arg2) = m ((c.tc : Thread Cert.GluDwIdeal.nD Cert.GluDwIdeal.τ).loc Cert.GluDwIdeal.main_arg2)) →
    ∃ (v0 : (c : Dev Cert.GluDwIdeal.nD) → Buf (Elt Ideal) ((c.tc : Thread Cert.GluDwIdeal.nD Cert.GluDwIdeal.τ).loc Cert.GluDwIdeal.main_v1)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v1) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1)
          ∧ r.2.mem ((c.tc : Thread Cert.GluDwIdeal.nD Cert.GluDwIdeal.τ).loc Cert.GluDwIdeal.main_arg2) = m ((c.tc : Thread Cert.GluDwIdeal.nD Cert.GluDwIdeal.τ).loc Cert.GluDwIdeal.main_arg2))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v2) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1)
          ∧ r.2.mem ((c.tc : Thread Cert.GluDwRefIdeal.nD Cert.GluDwRefIdeal.τ).loc Cert.GluDwRefIdeal.main_arg2) = m' ((c.tc : Thread Cert.GluDwRefIdeal.nD Cert.GluDwRefIdeal.τ).loc Cert.GluDwRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v0) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_DqDx_DqDxIdeal : Prop :=
  True

def algebraic_DqDxIdeal_DqDxRefIdeal [hDqDxIdeal : Cert.DqDxIdeal.Facts] [hDqDxRefIdeal : Cert.DqDxRefIdeal.Facts] : Prop :=
  ∀ (m : (ℓ : Loc Cert.DqDxIdeal.nD Cert.DqDxIdeal.τ Cert.DqDxIdeal.sig) → Buf (Elt Ideal) ℓ) (g : Dev Cert.DqDxIdeal.nD → PrngReg)
    (m' : (ℓ : Loc Cert.DqDxRefIdeal.nD Cert.DqDxRefIdeal.τ Cert.DqDxRefIdeal.sig) → Buf (Elt Ideal) ℓ) (g' : Dev Cert.DqDxRefIdeal.nD → PrngReg), Pre_DqDxIdeal m →
    (∀ c : Dev Cert.DqDxIdeal.nD,
      m' ((c.tc : Thread Cert.DqDxRefIdeal.nD Cert.DqDxRefIdeal.τ).loc Cert.DqDxRefIdeal.main_arg0) = m ((c.tc : Thread Cert.DqDxIdeal.nD Cert.DqDxIdeal.τ).loc Cert.DqDxIdeal.main_arg0)
      ∧ m' ((c.tc : Thread Cert.DqDxRefIdeal.nD Cert.DqDxRefIdeal.τ).loc Cert.DqDxRefIdeal.main_arg1) = m ((c.tc : Thread Cert.DqDxIdeal.nD Cert.DqDxIdeal.τ).loc Cert.DqDxIdeal.main_arg1)
      ∧ m' ((c.tc : Thread Cert.DqDxRefIdeal.nD Cert.DqDxRefIdeal.τ).loc Cert.DqDxRefIdeal.main_arg2) = m ((c.tc : Thread Cert.DqDxIdeal.nD Cert.DqDxIdeal.τ).loc Cert.DqDxIdeal.main_arg2)) →
    ∃ (v0 : (c : Dev Cert.DqDxIdeal.nD) → Buf (Elt Ideal) ((c.tc : Thread Cert.DqDxIdeal.nD Cert.DqDxIdeal.τ).loc Cert.DqDxIdeal.main_v2)),
      θ_run (Cert.DqDxIdeal.defs (F := Ideal)) (onTc (τ := Cert.DqDxIdeal.τ) (Cert.DqDxIdeal.main (F := Ideal))) ⟨m, fun _ => 0, g⟩ (fun r => ∀ c : Dev Cert.DqDxIdeal.nD,
          r.2.mem ((c.tc : Thread Cert.DqDxIdeal.nD Cert.DqDxIdeal.τ).loc Cert.DqDxIdeal.main_v2) = v0 c
          ∧ r.2.mem ((c.tc : Thread Cert.DqDxIdeal.nD Cert.DqDxIdeal.τ).loc Cert.DqDxIdeal.main_arg0) = m ((c.tc : Thread Cert.DqDxIdeal.nD Cert.DqDxIdeal.τ).loc Cert.DqDxIdeal.main_arg0)
          ∧ r.2.mem ((c.tc : Thread Cert.DqDxIdeal.nD Cert.DqDxIdeal.τ).loc Cert.DqDxIdeal.main_arg1) = m ((c.tc : Thread Cert.DqDxIdeal.nD Cert.DqDxIdeal.τ).loc Cert.DqDxIdeal.main_arg1)
          ∧ r.2.mem ((c.tc : Thread Cert.DqDxIdeal.nD Cert.DqDxIdeal.τ).loc Cert.DqDxIdeal.main_arg2) = m ((c.tc : Thread Cert.DqDxIdeal.nD Cert.DqDxIdeal.τ).loc Cert.DqDxIdeal.main_arg2))
      ∧ θ_run (Cert.DqDxRefIdeal.defs (F := Ideal)) (onTc (τ := Cert.DqDxRefIdeal.τ) (Cert.DqDxRefIdeal.main (F := Ideal))) ⟨m', fun _ => 0, g'⟩ (fun r => ∀ c : Dev Cert.DqDxRefIdeal.nD,
          r.2.mem ((c.tc : Thread Cert.DqDxRefIdeal.nD Cert.DqDxRefIdeal.τ).loc Cert.DqDxRefIdeal.main_v3) = v0 c
          ∧ r.2.mem ((c.tc : Thread Cert.DqDxRefIdeal.nD Cert.DqDxRefIdeal.τ).loc Cert.DqDxRefIdeal.main_arg0) = m' ((c.tc : Thread Cert.DqDxRefIdeal.nD Cert.DqDxRefIdeal.τ).loc Cert.DqDxRefIdeal.main_arg0)
          ∧ r.2.mem ((c.tc : Thread Cert.DqDxRefIdeal.nD Cert.DqDxRefIdeal.τ).loc Cert.DqDxRefIdeal.main_arg1) = m' ((c.tc : Thread Cert.DqDxRefIdeal.nD Cert.DqDxRefIdeal.τ).loc Cert.DqDxRefIdeal.main_arg1)
          ∧ r.2.mem ((c.tc : Thread Cert.DqDxRefIdeal.nD Cert.DqDxRefIdeal.τ).loc Cert.DqDxRefIdeal.main_arg2) = m' ((c.tc : Thread Cert.DqDxRefIdeal.nD Cert.DqDxRefIdeal.τ).loc Cert.DqDxRefIdeal.main_arg2))

def preserves_DqDw_DqDwIdeal : Prop :=
  True

def algebraic_DqDwIdeal_DqDwRefIdeal [hDqDwIdeal : Cert.DqDwIdeal.Facts] [hDqDwRefIdeal : Cert.DqDwRefIdeal.Facts] : Prop :=
  ∀ (m : (ℓ : Loc Cert.DqDwIdeal.nD Cert.DqDwIdeal.τ Cert.DqDwIdeal.sig) → Buf (Elt Ideal) ℓ) (g : Dev Cert.DqDwIdeal.nD → PrngReg)
    (m' : (ℓ : Loc Cert.DqDwRefIdeal.nD Cert.DqDwRefIdeal.τ Cert.DqDwRefIdeal.sig) → Buf (Elt Ideal) ℓ) (g' : Dev Cert.DqDwRefIdeal.nD → PrngReg), Pre_DqDwIdeal m →
    (∀ c : Dev Cert.DqDwIdeal.nD,
      m' ((c.tc : Thread Cert.DqDwRefIdeal.nD Cert.DqDwRefIdeal.τ).loc Cert.DqDwRefIdeal.main_arg0) = m ((c.tc : Thread Cert.DqDwIdeal.nD Cert.DqDwIdeal.τ).loc Cert.DqDwIdeal.main_arg0)
      ∧ m' ((c.tc : Thread Cert.DqDwRefIdeal.nD Cert.DqDwRefIdeal.τ).loc Cert.DqDwRefIdeal.main_arg1) = m ((c.tc : Thread Cert.DqDwIdeal.nD Cert.DqDwIdeal.τ).loc Cert.DqDwIdeal.main_arg1)
      ∧ m' ((c.tc : Thread Cert.DqDwRefIdeal.nD Cert.DqDwRefIdeal.τ).loc Cert.DqDwRefIdeal.main_arg2) = m ((c.tc : Thread Cert.DqDwIdeal.nD Cert.DqDwIdeal.τ).loc Cert.DqDwIdeal.main_arg2)) →
    ∃ (v0 : (c : Dev Cert.DqDwIdeal.nD) → Buf (Elt Ideal) ((c.tc : Thread Cert.DqDwIdeal.nD Cert.DqDwIdeal.τ).loc Cert.DqDwIdeal.main_v2)),
      θ_run (Cert.DqDwIdeal.defs (F := Ideal)) (onTc (τ := Cert.DqDwIdeal.τ) (Cert.DqDwIdeal.main (F := Ideal))) ⟨m, fun _ => 0, g⟩ (fun r => ∀ c : Dev Cert.DqDwIdeal.nD,
          r.2.mem ((c.tc : Thread Cert.DqDwIdeal.nD Cert.DqDwIdeal.τ).loc Cert.DqDwIdeal.main_v2) = v0 c
          ∧ r.2.mem ((c.tc : Thread Cert.DqDwIdeal.nD Cert.DqDwIdeal.τ).loc Cert.DqDwIdeal.main_arg0) = m ((c.tc : Thread Cert.DqDwIdeal.nD Cert.DqDwIdeal.τ).loc Cert.DqDwIdeal.main_arg0)
          ∧ r.2.mem ((c.tc : Thread Cert.DqDwIdeal.nD Cert.DqDwIdeal.τ).loc Cert.DqDwIdeal.main_arg1) = m ((c.tc : Thread Cert.DqDwIdeal.nD Cert.DqDwIdeal.τ).loc Cert.DqDwIdeal.main_arg1)
          ∧ r.2.mem ((c.tc : Thread Cert.DqDwIdeal.nD Cert.DqDwIdeal.τ).loc Cert.DqDwIdeal.main_arg2) = m ((c.tc : Thread Cert.DqDwIdeal.nD Cert.DqDwIdeal.τ).loc Cert.DqDwIdeal.main_arg2))
      ∧ θ_run (Cert.DqDwRefIdeal.defs (F := Ideal)) (onTc (τ := Cert.DqDwRefIdeal.τ) (Cert.DqDwRefIdeal.main (F := Ideal))) ⟨m', fun _ => 0, g'⟩ (fun r => ∀ c : Dev Cert.DqDwRefIdeal.nD,
          r.2.mem ((c.tc : Thread Cert.DqDwRefIdeal.nD Cert.DqDwRefIdeal.τ).loc Cert.DqDwRefIdeal.main_v2) = v0 c
          ∧ r.2.mem ((c.tc : Thread Cert.DqDwRefIdeal.nD Cert.DqDwRefIdeal.τ).loc Cert.DqDwRefIdeal.main_arg0) = m' ((c.tc : Thread Cert.DqDwRefIdeal.nD Cert.DqDwRefIdeal.τ).loc Cert.DqDwRefIdeal.main_arg0)
          ∧ r.2.mem ((c.tc : Thread Cert.DqDwRefIdeal.nD Cert.DqDwRefIdeal.τ).loc Cert.DqDwRefIdeal.main_arg1) = m' ((c.tc : Thread Cert.DqDwRefIdeal.nD Cert.DqDwRefIdeal.τ).loc Cert.DqDwRefIdeal.main_arg1)
          ∧ r.2.mem ((c.tc : Thread Cert.DqDwRefIdeal.nD Cert.DqDwRefIdeal.τ).loc Cert.DqDwRefIdeal.main_arg2) = m' ((c.tc : Thread Cert.DqDwRefIdeal.nD Cert.DqDwRefIdeal.τ).loc Cert.DqDwRefIdeal.main_arg2))

def preserves_Dq_DqIdeal : Prop :=
  True

def algebraic_DqIdeal_DqRefIdeal [hDqIdeal : Cert.DqIdeal.Facts] [hDqRefIdeal : Cert.DqRefIdeal.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)) →
    ∃ (v0 : (c : Dev Cert.DqIdeal.nD) → Buf (Elt Ideal) ((c.tc : Thread Cert.DqIdeal.nD Cert.DqIdeal.τ).loc Cert.DqIdeal.main_v2)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v2) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v0) = v0 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1))

def preserves_WoDx_WoDxIdeal : Prop :=
  True

def algebraic_WoDxIdeal_WoDxRefIdeal [hWoDxIdeal : Cert.WoDxIdeal.Facts] [hWoDxRefIdeal : Cert.WoDxRefIdeal.Facts] : Prop :=
  ∀ (m : (ℓ : Loc Cert.WoDxIdeal.nD Cert.WoDxIdeal.τ Cert.WoDxIdeal.sig) → Buf (Elt Ideal) ℓ) (g : Dev Cert.WoDxIdeal.nD → PrngReg)
    (m' : (ℓ : Loc Cert.WoDxRefIdeal.nD Cert.WoDxRefIdeal.τ Cert.WoDxRefIdeal.sig) → Buf (Elt Ideal) ℓ) (g' : Dev Cert.WoDxRefIdeal.nD → PrngReg), Pre_WoDxIdeal m →
    (∀ c : Dev Cert.WoDxIdeal.nD,
      m' ((c.tc : Thread Cert.WoDxRefIdeal.nD Cert.WoDxRefIdeal.τ).loc Cert.WoDxRefIdeal.main_arg0) = m ((c.tc : Thread Cert.WoDxIdeal.nD Cert.WoDxIdeal.τ).loc Cert.WoDxIdeal.main_arg0)
      ∧ m' ((c.tc : Thread Cert.WoDxRefIdeal.nD Cert.WoDxRefIdeal.τ).loc Cert.WoDxRefIdeal.main_arg1) = m ((c.tc : Thread Cert.WoDxIdeal.nD Cert.WoDxIdeal.τ).loc Cert.WoDxIdeal.main_arg1)
      ∧ m' ((c.tc : Thread Cert.WoDxRefIdeal.nD Cert.WoDxRefIdeal.τ).loc Cert.WoDxRefIdeal.main_arg2) = m ((c.tc : Thread Cert.WoDxIdeal.nD Cert.WoDxIdeal.τ).loc Cert.WoDxIdeal.main_arg2)) →
    ∃ (v0 : (c : Dev Cert.WoDxIdeal.nD) → Buf (Elt Ideal) ((c.tc : Thread Cert.WoDxIdeal.nD Cert.WoDxIdeal.τ).loc Cert.WoDxIdeal.main_v4)),
      θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
          r.2.mem ((c.tc : Thread Cert.WoDxIdeal.nD Cert.WoDxIdeal.τ).loc Cert.WoDxIdeal.main_v4) = v0 c
          ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
          ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1)
          ∧ r.2.mem ((c.tc : Thread Cert.WoDxIdeal.nD Cert.WoDxIdeal.τ).loc Cert.WoDxIdeal.main_arg2) = m ((c.tc : Thread Cert.WoDxIdeal.nD Cert.WoDxIdeal.τ).loc Cert.WoDxIdeal.main_arg2))
      ∧ θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
          r.2.mem ((c.tc : Thread Cert.WoDxRefIdeal.nD Cert.WoDxRefIdeal.τ).loc Cert.WoDxRefIdeal.main_v10) = v0 c
          ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
          ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1)
          ∧ r.2.mem ((c.tc : Thread Cert.WoDxRefIdeal.nD Cert.WoDxRefIdeal.τ).loc Cert.WoDxRefIdeal.main_arg2) = m' ((c.tc : Thread Cert.WoDxRefIdeal.nD Cert.WoDxRefIdeal.τ).loc Cert.WoDxRefIdeal.main_arg2))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)
      ∧ m' ((c.tc : Thread Cert.WoDwRefIdeal.nD Cert.WoDwRefIdeal.τ).loc Cert.WoDwRefIdeal.main_arg2) = m ((c.tc : Thread Cert.WoDwIdeal.nD Cert.WoDwIdeal.τ).loc Cert.WoDwIdeal.main_arg2)) →
    ∃ (v0 : (c : Dev Cert.WoDwIdeal.nD) → Buf (Elt Ideal) ((c.tc : Thread Cert.WoDwIdeal.nD Cert.WoDwIdeal.τ).loc Cert.WoDwIdeal.main_v3)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v3) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1)
          ∧ r.2.mem ((c.tc : Thread Cert.WoDwIdeal.nD Cert.WoDwIdeal.τ).loc Cert.WoDwIdeal.main_arg2) = m ((c.tc : Thread Cert.WoDwIdeal.nD Cert.WoDwIdeal.τ).loc Cert.WoDwIdeal.main_arg2))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v9) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1)
          ∧ r.2.mem ((c.tc : Thread Cert.WoDwRefIdeal.nD Cert.WoDwRefIdeal.τ).loc Cert.WoDwRefIdeal.main_arg2) = m' ((c.tc : Thread Cert.WoDwRefIdeal.nD Cert.WoDwRefIdeal.τ).loc Cert.WoDwRefIdeal.main_arg2))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v5)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v5) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v2) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)
      ∧ m' ((c.tc : Thread Cert.UqDxRefIdeal.nD Cert.UqDxRefIdeal.τ).loc Cert.UqDxRefIdeal.main_arg2) = m ((c.tc : Thread Cert.UqDxIdeal.nD Cert.UqDxIdeal.τ).loc Cert.UqDxIdeal.main_arg2)) →
    ∃ (v0 : (c : Dev Cert.UqDxIdeal.nD) → Buf (Elt Ideal) ((c.tc : Thread Cert.UqDxIdeal.nD Cert.UqDxIdeal.τ).loc Cert.UqDxIdeal.main_v6)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v6) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1)
          ∧ r.2.mem ((c.tc : Thread Cert.UqDxIdeal.nD Cert.UqDxIdeal.τ).loc Cert.UqDxIdeal.main_arg2) = m ((c.tc : Thread Cert.UqDxIdeal.nD Cert.UqDxIdeal.τ).loc Cert.UqDxIdeal.main_arg2))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v6) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1)
          ∧ r.2.mem ((c.tc : Thread Cert.UqDxRefIdeal.nD Cert.UqDxRefIdeal.τ).loc Cert.UqDxRefIdeal.main_arg2) = m' ((c.tc : Thread Cert.UqDxRefIdeal.nD Cert.UqDxRefIdeal.τ).loc Cert.UqDxRefIdeal.main_arg2))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)
      ∧ m' ((c.tc : Thread Cert.UqDwRefIdeal.nD Cert.UqDwRefIdeal.τ).loc Cert.UqDwRefIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v3)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v3) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v9) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1)
          ∧ r.2.mem ((c.tc : Thread Cert.UqDwRefIdeal.nD Cert.UqDwRefIdeal.τ).loc Cert.UqDwRefIdeal.main_arg2) = m' ((c.tc : Thread Cert.UqDwRefIdeal.nD Cert.UqDwRefIdeal.τ).loc Cert.UqDwRefIdeal.main_arg2))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v3)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v3) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v4) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_KvBDx_KvBDxIdeal : Prop :=
  True

def algebraic_KvBDxIdeal_KvBDxRefIdeal [hKvBDxIdeal : Cert.KvBDxIdeal.Facts] [hKvBDxRefIdeal : Cert.KvBDxRefIdeal.Facts] : Prop :=
  ∀ (m : (ℓ : Loc Cert.KvBDxIdeal.nD Cert.KvBDxIdeal.τ Cert.KvBDxIdeal.sig) → Buf (Elt Ideal) ℓ) (g : Dev Cert.KvBDxIdeal.nD → PrngReg)
    (m' : (ℓ : Loc Cert.KvBDxRefIdeal.nD Cert.KvBDxRefIdeal.τ Cert.KvBDxRefIdeal.sig) → Buf (Elt Ideal) ℓ) (g' : Dev Cert.KvBDxRefIdeal.nD → PrngReg), Pre_KvBDxIdeal m →
    (∀ c : Dev Cert.KvBDxIdeal.nD,
      m' ((c.tc : Thread Cert.KvBDxRefIdeal.nD Cert.KvBDxRefIdeal.τ).loc Cert.KvBDxRefIdeal.main_arg0) = m ((c.tc : Thread Cert.KvBDxIdeal.nD Cert.KvBDxIdeal.τ).loc Cert.KvBDxIdeal.main_arg0)
      ∧ m' ((c.tc : Thread Cert.KvBDxRefIdeal.nD Cert.KvBDxRefIdeal.τ).loc Cert.KvBDxRefIdeal.main_arg1) = m ((c.tc : Thread Cert.KvBDxIdeal.nD Cert.KvBDxIdeal.τ).loc Cert.KvBDxIdeal.main_arg1)
      ∧ m' ((c.tc : Thread Cert.KvBDxRefIdeal.nD Cert.KvBDxRefIdeal.τ).loc Cert.KvBDxRefIdeal.main_arg2) = m ((c.tc : Thread Cert.KvBDxIdeal.nD Cert.KvBDxIdeal.τ).loc Cert.KvBDxIdeal.main_arg2)) →
    ∃ (v0 : (c : Dev Cert.KvBDxIdeal.nD) → Buf (Elt Ideal) ((c.tc : Thread Cert.KvBDxIdeal.nD Cert.KvBDxIdeal.τ).loc Cert.KvBDxIdeal.main_v6)),
      θ_run (Cert.KvBDxIdeal.defs (F := Ideal)) (onTc (τ := Cert.KvBDxIdeal.τ) (Cert.KvBDxIdeal.main (F := Ideal))) ⟨m, fun _ => 0, g⟩ (fun r => ∀ c : Dev Cert.KvBDxIdeal.nD,
          r.2.mem ((c.tc : Thread Cert.KvBDxIdeal.nD Cert.KvBDxIdeal.τ).loc Cert.KvBDxIdeal.main_v6) = v0 c
          ∧ r.2.mem ((c.tc : Thread Cert.KvBDxIdeal.nD Cert.KvBDxIdeal.τ).loc Cert.KvBDxIdeal.main_arg0) = m ((c.tc : Thread Cert.KvBDxIdeal.nD Cert.KvBDxIdeal.τ).loc Cert.KvBDxIdeal.main_arg0)
          ∧ r.2.mem ((c.tc : Thread Cert.KvBDxIdeal.nD Cert.KvBDxIdeal.τ).loc Cert.KvBDxIdeal.main_arg1) = m ((c.tc : Thread Cert.KvBDxIdeal.nD Cert.KvBDxIdeal.τ).loc Cert.KvBDxIdeal.main_arg1)
          ∧ r.2.mem ((c.tc : Thread Cert.KvBDxIdeal.nD Cert.KvBDxIdeal.τ).loc Cert.KvBDxIdeal.main_arg2) = m ((c.tc : Thread Cert.KvBDxIdeal.nD Cert.KvBDxIdeal.τ).loc Cert.KvBDxIdeal.main_arg2))
      ∧ θ_run (Cert.KvBDxRefIdeal.defs (F := Ideal)) (onTc (τ := Cert.KvBDxRefIdeal.τ) (Cert.KvBDxRefIdeal.main (F := Ideal))) ⟨m', fun _ => 0, g'⟩ (fun r => ∀ c : Dev Cert.KvBDxRefIdeal.nD,
          r.2.mem ((c.tc : Thread Cert.KvBDxRefIdeal.nD Cert.KvBDxRefIdeal.τ).loc Cert.KvBDxRefIdeal.main_v6) = v0 c
          ∧ r.2.mem ((c.tc : Thread Cert.KvBDxRefIdeal.nD Cert.KvBDxRefIdeal.τ).loc Cert.KvBDxRefIdeal.main_arg0) = m' ((c.tc : Thread Cert.KvBDxRefIdeal.nD Cert.KvBDxRefIdeal.τ).loc Cert.KvBDxRefIdeal.main_arg0)
          ∧ r.2.mem ((c.tc : Thread Cert.KvBDxRefIdeal.nD Cert.KvBDxRefIdeal.τ).loc Cert.KvBDxRefIdeal.main_arg1) = m' ((c.tc : Thread Cert.KvBDxRefIdeal.nD Cert.KvBDxRefIdeal.τ).loc Cert.KvBDxRefIdeal.main_arg1)
          ∧ r.2.mem ((c.tc : Thread Cert.KvBDxRefIdeal.nD Cert.KvBDxRefIdeal.τ).loc Cert.KvBDxRefIdeal.main_arg2) = m' ((c.tc : Thread Cert.KvBDxRefIdeal.nD Cert.KvBDxRefIdeal.τ).loc Cert.KvBDxRefIdeal.main_arg2))

def preserves_KvBDw_KvBDwIdeal : Prop :=
  True

def algebraic_KvBDwIdeal_KvBDwRefIdeal [hKvBDwIdeal : Cert.KvBDwIdeal.Facts] [hKvBDwRefIdeal : Cert.KvBDwRefIdeal.Facts] : Prop :=
  ∀ (m : (ℓ : Loc Cert.KvBDwIdeal.nD Cert.KvBDwIdeal.τ Cert.KvBDwIdeal.sig) → Buf (Elt Ideal) ℓ) (g : Dev Cert.KvBDwIdeal.nD → PrngReg)
    (m' : (ℓ : Loc Cert.KvBDwRefIdeal.nD Cert.KvBDwRefIdeal.τ Cert.KvBDwRefIdeal.sig) → Buf (Elt Ideal) ℓ) (g' : Dev Cert.KvBDwRefIdeal.nD → PrngReg), Pre_KvBDwIdeal m →
    (∀ c : Dev Cert.KvBDwIdeal.nD,
      m' ((c.tc : Thread Cert.KvBDwRefIdeal.nD Cert.KvBDwRefIdeal.τ).loc Cert.KvBDwRefIdeal.main_arg0) = m ((c.tc : Thread Cert.KvBDwIdeal.nD Cert.KvBDwIdeal.τ).loc Cert.KvBDwIdeal.main_arg0)
      ∧ m' ((c.tc : Thread Cert.KvBDwRefIdeal.nD Cert.KvBDwRefIdeal.τ).loc Cert.KvBDwRefIdeal.main_arg1) = m ((c.tc : Thread Cert.KvBDwIdeal.nD Cert.KvBDwIdeal.τ).loc Cert.KvBDwIdeal.main_arg1)
      ∧ m' ((c.tc : Thread Cert.KvBDwRefIdeal.nD Cert.KvBDwRefIdeal.τ).loc Cert.KvBDwRefIdeal.main_arg2) = m ((c.tc : Thread Cert.KvBDwIdeal.nD Cert.KvBDwIdeal.τ).loc Cert.KvBDwIdeal.main_arg2)) →
    ∃ (v0 : (c : Dev Cert.KvBDwIdeal.nD) → Buf (Elt Ideal) ((c.tc : Thread Cert.KvBDwIdeal.nD Cert.KvBDwIdeal.τ).loc Cert.KvBDwIdeal.main_v3)),
      θ_run (Cert.KvBDwIdeal.defs (F := Ideal)) (onTc (τ := Cert.KvBDwIdeal.τ) (Cert.KvBDwIdeal.main (F := Ideal))) ⟨m, fun _ => 0, g⟩ (fun r => ∀ c : Dev Cert.KvBDwIdeal.nD,
          r.2.mem ((c.tc : Thread Cert.KvBDwIdeal.nD Cert.KvBDwIdeal.τ).loc Cert.KvBDwIdeal.main_v3) = v0 c
          ∧ r.2.mem ((c.tc : Thread Cert.KvBDwIdeal.nD Cert.KvBDwIdeal.τ).loc Cert.KvBDwIdeal.main_arg0) = m ((c.tc : Thread Cert.KvBDwIdeal.nD Cert.KvBDwIdeal.τ).loc Cert.KvBDwIdeal.main_arg0)
          ∧ r.2.mem ((c.tc : Thread Cert.KvBDwIdeal.nD Cert.KvBDwIdeal.τ).loc Cert.KvBDwIdeal.main_arg1) = m ((c.tc : Thread Cert.KvBDwIdeal.nD Cert.KvBDwIdeal.τ).loc Cert.KvBDwIdeal.main_arg1)
          ∧ r.2.mem ((c.tc : Thread Cert.KvBDwIdeal.nD Cert.KvBDwIdeal.τ).loc Cert.KvBDwIdeal.main_arg2) = m ((c.tc : Thread Cert.KvBDwIdeal.nD Cert.KvBDwIdeal.τ).loc Cert.KvBDwIdeal.main_arg2))
      ∧ θ_run (Cert.KvBDwRefIdeal.defs (F := Ideal)) (onTc (τ := Cert.KvBDwRefIdeal.τ) (Cert.KvBDwRefIdeal.main (F := Ideal))) ⟨m', fun _ => 0, g'⟩ (fun r => ∀ c : Dev Cert.KvBDwRefIdeal.nD,
          r.2.mem ((c.tc : Thread Cert.KvBDwRefIdeal.nD Cert.KvBDwRefIdeal.τ).loc Cert.KvBDwRefIdeal.main_v9) = v0 c
          ∧ r.2.mem ((c.tc : Thread Cert.KvBDwRefIdeal.nD Cert.KvBDwRefIdeal.τ).loc Cert.KvBDwRefIdeal.main_arg0) = m' ((c.tc : Thread Cert.KvBDwRefIdeal.nD Cert.KvBDwRefIdeal.τ).loc Cert.KvBDwRefIdeal.main_arg0)
          ∧ r.2.mem ((c.tc : Thread Cert.KvBDwRefIdeal.nD Cert.KvBDwRefIdeal.τ).loc Cert.KvBDwRefIdeal.main_arg1) = m' ((c.tc : Thread Cert.KvBDwRefIdeal.nD Cert.KvBDwRefIdeal.τ).loc Cert.KvBDwRefIdeal.main_arg1)
          ∧ r.2.mem ((c.tc : Thread Cert.KvBDwRefIdeal.nD Cert.KvBDwRefIdeal.τ).loc Cert.KvBDwRefIdeal.main_arg2) = m' ((c.tc : Thread Cert.KvBDwRefIdeal.nD Cert.KvBDwRefIdeal.τ).loc Cert.KvBDwRefIdeal.main_arg2))

def preserves_KvBk_KvBkIdeal : Prop :=
  True

def algebraic_KvBkIdeal_KvBkRefIdeal [hKvBkIdeal : Cert.KvBkIdeal.Facts] [hKvBkRefIdeal : Cert.KvBkRefIdeal.Facts] : Prop :=
  ∀ (m : (ℓ : Loc Cert.KvBkIdeal.nD Cert.KvBkIdeal.τ Cert.KvBkIdeal.sig) → Buf (Elt Ideal) ℓ) (g : Dev Cert.KvBkIdeal.nD → PrngReg)
    (m' : (ℓ : Loc Cert.KvBkRefIdeal.nD Cert.KvBkRefIdeal.τ Cert.KvBkRefIdeal.sig) → Buf (Elt Ideal) ℓ) (g' : Dev Cert.KvBkRefIdeal.nD → PrngReg), Pre_KvBkIdeal m →
    (∀ c : Dev Cert.KvBkIdeal.nD,
      m' ((c.tc : Thread Cert.KvBkRefIdeal.nD Cert.KvBkRefIdeal.τ).loc Cert.KvBkRefIdeal.main_arg0) = m ((c.tc : Thread Cert.KvBkIdeal.nD Cert.KvBkIdeal.τ).loc Cert.KvBkIdeal.main_arg0)
      ∧ m' ((c.tc : Thread Cert.KvBkRefIdeal.nD Cert.KvBkRefIdeal.τ).loc Cert.KvBkRefIdeal.main_arg1) = m ((c.tc : Thread Cert.KvBkIdeal.nD Cert.KvBkIdeal.τ).loc Cert.KvBkIdeal.main_arg1)) →
    ∃ (v0 : (c : Dev Cert.KvBkIdeal.nD) → Buf (Elt Ideal) ((c.tc : Thread Cert.KvBkIdeal.nD Cert.KvBkIdeal.τ).loc Cert.KvBkIdeal.main_v3)),
      θ_run (Cert.KvBkIdeal.defs (F := Ideal)) (onTc (τ := Cert.KvBkIdeal.τ) (Cert.KvBkIdeal.main (F := Ideal))) ⟨m, fun _ => 0, g⟩ (fun r => ∀ c : Dev Cert.KvBkIdeal.nD,
          r.2.mem ((c.tc : Thread Cert.KvBkIdeal.nD Cert.KvBkIdeal.τ).loc Cert.KvBkIdeal.main_v3) = v0 c
          ∧ r.2.mem ((c.tc : Thread Cert.KvBkIdeal.nD Cert.KvBkIdeal.τ).loc Cert.KvBkIdeal.main_arg0) = m ((c.tc : Thread Cert.KvBkIdeal.nD Cert.KvBkIdeal.τ).loc Cert.KvBkIdeal.main_arg0)
          ∧ r.2.mem ((c.tc : Thread Cert.KvBkIdeal.nD Cert.KvBkIdeal.τ).loc Cert.KvBkIdeal.main_arg1) = m ((c.tc : Thread Cert.KvBkIdeal.nD Cert.KvBkIdeal.τ).loc Cert.KvBkIdeal.main_arg1))
      ∧ θ_run (Cert.KvBkRefIdeal.defs (F := Ideal)) (onTc (τ := Cert.KvBkRefIdeal.τ) (Cert.KvBkRefIdeal.main (F := Ideal))) ⟨m', fun _ => 0, g'⟩ (fun r => ∀ c : Dev Cert.KvBkRefIdeal.nD,
          r.2.mem ((c.tc : Thread Cert.KvBkRefIdeal.nD Cert.KvBkRefIdeal.τ).loc Cert.KvBkRefIdeal.main_v4) = v0 c
          ∧ r.2.mem ((c.tc : Thread Cert.KvBkRefIdeal.nD Cert.KvBkRefIdeal.τ).loc Cert.KvBkRefIdeal.main_arg0) = m' ((c.tc : Thread Cert.KvBkRefIdeal.nD Cert.KvBkRefIdeal.τ).loc Cert.KvBkRefIdeal.main_arg0)
          ∧ r.2.mem ((c.tc : Thread Cert.KvBkRefIdeal.nD Cert.KvBkRefIdeal.τ).loc Cert.KvBkRefIdeal.main_arg1) = m' ((c.tc : Thread Cert.KvBkRefIdeal.nD Cert.KvBkRefIdeal.τ).loc Cert.KvBkRefIdeal.main_arg1))

def preserves_KvBv_KvBvIdeal : Prop :=
  True

def algebraic_KvBvIdeal_KvBvRefIdeal [hKvBvIdeal : Cert.KvBvIdeal.Facts] [hKvBvRefIdeal : Cert.KvBvRefIdeal.Facts] : Prop :=
  ∀ (m : (ℓ : Loc Cert.KvBvIdeal.nD Cert.KvBvIdeal.τ Cert.KvBvIdeal.sig) → Buf (Elt Ideal) ℓ) (g : Dev Cert.KvBvIdeal.nD → PrngReg)
    (m' : (ℓ : Loc Cert.KvBvRefIdeal.nD Cert.KvBvRefIdeal.τ Cert.KvBvRefIdeal.sig) → Buf (Elt Ideal) ℓ) (g' : Dev Cert.KvBvRefIdeal.nD → PrngReg), Pre_KvBvIdeal m →
    (∀ c : Dev Cert.KvBvIdeal.nD,
      m' ((c.tc : Thread Cert.KvBvRefIdeal.nD Cert.KvBvRefIdeal.τ).loc Cert.KvBvRefIdeal.main_arg0) = m ((c.tc : Thread Cert.KvBvIdeal.nD Cert.KvBvIdeal.τ).loc Cert.KvBvIdeal.main_arg0)
      ∧ m' ((c.tc : Thread Cert.KvBvRefIdeal.nD Cert.KvBvRefIdeal.τ).loc Cert.KvBvRefIdeal.main_arg1) = m ((c.tc : Thread Cert.KvBvIdeal.nD Cert.KvBvIdeal.τ).loc Cert.KvBvIdeal.main_arg1)) →
    ∃ (v0 : (c : Dev Cert.KvBvIdeal.nD) → Buf (Elt Ideal) ((c.tc : Thread Cert.KvBvIdeal.nD Cert.KvBvIdeal.τ).loc Cert.KvBvIdeal.main_v3)),
      θ_run (Cert.KvBvIdeal.defs (F := Ideal)) (onTc (τ := Cert.KvBvIdeal.τ) (Cert.KvBvIdeal.main (F := Ideal))) ⟨m, fun _ => 0, g⟩ (fun r => ∀ c : Dev Cert.KvBvIdeal.nD,
          r.2.mem ((c.tc : Thread Cert.KvBvIdeal.nD Cert.KvBvIdeal.τ).loc Cert.KvBvIdeal.main_v3) = v0 c
          ∧ r.2.mem ((c.tc : Thread Cert.KvBvIdeal.nD Cert.KvBvIdeal.τ).loc Cert.KvBvIdeal.main_arg0) = m ((c.tc : Thread Cert.KvBvIdeal.nD Cert.KvBvIdeal.τ).loc Cert.KvBvIdeal.main_arg0)
          ∧ r.2.mem ((c.tc : Thread Cert.KvBvIdeal.nD Cert.KvBvIdeal.τ).loc Cert.KvBvIdeal.main_arg1) = m ((c.tc : Thread Cert.KvBvIdeal.nD Cert.KvBvIdeal.τ).loc Cert.KvBvIdeal.main_arg1))
      ∧ θ_run (Cert.KvBvRefIdeal.defs (F := Ideal)) (onTc (τ := Cert.KvBvRefIdeal.τ) (Cert.KvBvRefIdeal.main (F := Ideal))) ⟨m', fun _ => 0, g'⟩ (fun r => ∀ c : Dev Cert.KvBvRefIdeal.nD,
          r.2.mem ((c.tc : Thread Cert.KvBvRefIdeal.nD Cert.KvBvRefIdeal.τ).loc Cert.KvBvRefIdeal.main_v5) = v0 c
          ∧ r.2.mem ((c.tc : Thread Cert.KvBvRefIdeal.nD Cert.KvBvRefIdeal.τ).loc Cert.KvBvRefIdeal.main_arg0) = m' ((c.tc : Thread Cert.KvBvRefIdeal.nD Cert.KvBvRefIdeal.τ).loc Cert.KvBvRefIdeal.main_arg0)
          ∧ r.2.mem ((c.tc : Thread Cert.KvBvRefIdeal.nD Cert.KvBvRefIdeal.τ).loc Cert.KvBvRefIdeal.main_arg1) = m' ((c.tc : Thread Cert.KvBvRefIdeal.nD Cert.KvBvRefIdeal.τ).loc Cert.KvBvRefIdeal.main_arg1))

def preserves_KvADx_KvADxIdeal : Prop :=
  True

def algebraic_KvADxIdeal_KvADxRefIdeal [hKvADxIdeal : Cert.KvADxIdeal.Facts] [hKvADxRefIdeal : Cert.KvADxRefIdeal.Facts] : Prop :=
  ∀ (m : (ℓ : Loc Cert.KvADxIdeal.nD Cert.KvADxIdeal.τ Cert.KvADxIdeal.sig) → Buf (Elt Ideal) ℓ) (g : Dev Cert.KvADxIdeal.nD → PrngReg)
    (m' : (ℓ : Loc Cert.KvADxRefIdeal.nD Cert.KvADxRefIdeal.τ Cert.KvADxRefIdeal.sig) → Buf (Elt Ideal) ℓ) (g' : Dev Cert.KvADxRefIdeal.nD → PrngReg), Pre_KvADxIdeal m →
    (∀ c : Dev Cert.KvADxIdeal.nD,
      m' ((c.tc : Thread Cert.KvADxRefIdeal.nD Cert.KvADxRefIdeal.τ).loc Cert.KvADxRefIdeal.main_arg0) = m ((c.tc : Thread Cert.KvADxIdeal.nD Cert.KvADxIdeal.τ).loc Cert.KvADxIdeal.main_arg0)
      ∧ m' ((c.tc : Thread Cert.KvADxRefIdeal.nD Cert.KvADxRefIdeal.τ).loc Cert.KvADxRefIdeal.main_arg1) = m ((c.tc : Thread Cert.KvADxIdeal.nD Cert.KvADxIdeal.τ).loc Cert.KvADxIdeal.main_arg1)
      ∧ m' ((c.tc : Thread Cert.KvADxRefIdeal.nD Cert.KvADxRefIdeal.τ).loc Cert.KvADxRefIdeal.main_arg2) = m ((c.tc : Thread Cert.KvADxIdeal.nD Cert.KvADxIdeal.τ).loc Cert.KvADxIdeal.main_arg2)) →
    ∃ (v0 : (c : Dev Cert.KvADxIdeal.nD) → Buf (Elt Ideal) ((c.tc : Thread Cert.KvADxIdeal.nD Cert.KvADxIdeal.τ).loc Cert.KvADxIdeal.main_v12)),
      θ_run (Cert.KvADxIdeal.defs (F := Ideal)) (onTc (τ := Cert.KvADxIdeal.τ) (Cert.KvADxIdeal.main (F := Ideal))) ⟨m, fun _ => 0, g⟩ (fun r => ∀ c : Dev Cert.KvADxIdeal.nD,
          r.2.mem ((c.tc : Thread Cert.KvADxIdeal.nD Cert.KvADxIdeal.τ).loc Cert.KvADxIdeal.main_v12) = v0 c
          ∧ r.2.mem ((c.tc : Thread Cert.KvADxIdeal.nD Cert.KvADxIdeal.τ).loc Cert.KvADxIdeal.main_arg0) = m ((c.tc : Thread Cert.KvADxIdeal.nD Cert.KvADxIdeal.τ).loc Cert.KvADxIdeal.main_arg0)
          ∧ r.2.mem ((c.tc : Thread Cert.KvADxIdeal.nD Cert.KvADxIdeal.τ).loc Cert.KvADxIdeal.main_arg1) = m ((c.tc : Thread Cert.KvADxIdeal.nD Cert.KvADxIdeal.τ).loc Cert.KvADxIdeal.main_arg1)
          ∧ r.2.mem ((c.tc : Thread Cert.KvADxIdeal.nD Cert.KvADxIdeal.τ).loc Cert.KvADxIdeal.main_arg2) = m ((c.tc : Thread Cert.KvADxIdeal.nD Cert.KvADxIdeal.τ).loc Cert.KvADxIdeal.main_arg2))
      ∧ θ_run (Cert.KvADxRefIdeal.defs (F := Ideal)) (onTc (τ := Cert.KvADxRefIdeal.τ) (Cert.KvADxRefIdeal.main (F := Ideal))) ⟨m', fun _ => 0, g'⟩ (fun r => ∀ c : Dev Cert.KvADxRefIdeal.nD,
          r.2.mem ((c.tc : Thread Cert.KvADxRefIdeal.nD Cert.KvADxRefIdeal.τ).loc Cert.KvADxRefIdeal.main_v3) = v0 c
          ∧ r.2.mem ((c.tc : Thread Cert.KvADxRefIdeal.nD Cert.KvADxRefIdeal.τ).loc Cert.KvADxRefIdeal.main_arg0) = m' ((c.tc : Thread Cert.KvADxRefIdeal.nD Cert.KvADxRefIdeal.τ).loc Cert.KvADxRefIdeal.main_arg0)
          ∧ r.2.mem ((c.tc : Thread Cert.KvADxRefIdeal.nD Cert.KvADxRefIdeal.τ).loc Cert.KvADxRefIdeal.main_arg1) = m' ((c.tc : Thread Cert.KvADxRefIdeal.nD Cert.KvADxRefIdeal.τ).loc Cert.KvADxRefIdeal.main_arg1)
          ∧ r.2.mem ((c.tc : Thread Cert.KvADxRefIdeal.nD Cert.KvADxRefIdeal.τ).loc Cert.KvADxRefIdeal.main_arg2) = m' ((c.tc : Thread Cert.KvADxRefIdeal.nD Cert.KvADxRefIdeal.τ).loc Cert.KvADxRefIdeal.main_arg2))

def preserves_KvADw_KvADwIdeal : Prop :=
  True

def algebraic_KvADwIdeal_KvADwRefIdeal [hKvADwIdeal : Cert.KvADwIdeal.Facts] [hKvADwRefIdeal : Cert.KvADwRefIdeal.Facts] : Prop :=
  ∀ (m : (ℓ : Loc Cert.KvADwIdeal.nD Cert.KvADwIdeal.τ Cert.KvADwIdeal.sig) → Buf (Elt Ideal) ℓ) (g : Dev Cert.KvADwIdeal.nD → PrngReg)
    (m' : (ℓ : Loc Cert.KvADwRefIdeal.nD Cert.KvADwRefIdeal.τ Cert.KvADwRefIdeal.sig) → Buf (Elt Ideal) ℓ) (g' : Dev Cert.KvADwRefIdeal.nD → PrngReg), Pre_KvADwIdeal m →
    (∀ c : Dev Cert.KvADwIdeal.nD,
      m' ((c.tc : Thread Cert.KvADwRefIdeal.nD Cert.KvADwRefIdeal.τ).loc Cert.KvADwRefIdeal.main_arg0) = m ((c.tc : Thread Cert.KvADwIdeal.nD Cert.KvADwIdeal.τ).loc Cert.KvADwIdeal.main_arg0)
      ∧ m' ((c.tc : Thread Cert.KvADwRefIdeal.nD Cert.KvADwRefIdeal.τ).loc Cert.KvADwRefIdeal.main_arg1) = m ((c.tc : Thread Cert.KvADwIdeal.nD Cert.KvADwIdeal.τ).loc Cert.KvADwIdeal.main_arg1)
      ∧ m' ((c.tc : Thread Cert.KvADwRefIdeal.nD Cert.KvADwRefIdeal.τ).loc Cert.KvADwRefIdeal.main_arg2) = m ((c.tc : Thread Cert.KvADwIdeal.nD Cert.KvADwIdeal.τ).loc Cert.KvADwIdeal.main_arg2)) →
    ∃ (v0 : (c : Dev Cert.KvADwIdeal.nD) → Buf (Elt Ideal) ((c.tc : Thread Cert.KvADwIdeal.nD Cert.KvADwIdeal.τ).loc Cert.KvADwIdeal.main_v7)),
      θ_run (Cert.KvADwIdeal.defs (F := Ideal)) (onTc (τ := Cert.KvADwIdeal.τ) (Cert.KvADwIdeal.main (F := Ideal))) ⟨m, fun _ => 0, g⟩ (fun r => ∀ c : Dev Cert.KvADwIdeal.nD,
          r.2.mem ((c.tc : Thread Cert.KvADwIdeal.nD Cert.KvADwIdeal.τ).loc Cert.KvADwIdeal.main_v7) = v0 c
          ∧ r.2.mem ((c.tc : Thread Cert.KvADwIdeal.nD Cert.KvADwIdeal.τ).loc Cert.KvADwIdeal.main_arg0) = m ((c.tc : Thread Cert.KvADwIdeal.nD Cert.KvADwIdeal.τ).loc Cert.KvADwIdeal.main_arg0)
          ∧ r.2.mem ((c.tc : Thread Cert.KvADwIdeal.nD Cert.KvADwIdeal.τ).loc Cert.KvADwIdeal.main_arg1) = m ((c.tc : Thread Cert.KvADwIdeal.nD Cert.KvADwIdeal.τ).loc Cert.KvADwIdeal.main_arg1)
          ∧ r.2.mem ((c.tc : Thread Cert.KvADwIdeal.nD Cert.KvADwIdeal.τ).loc Cert.KvADwIdeal.main_arg2) = m ((c.tc : Thread Cert.KvADwIdeal.nD Cert.KvADwIdeal.τ).loc Cert.KvADwIdeal.main_arg2))
      ∧ θ_run (Cert.KvADwRefIdeal.defs (F := Ideal)) (onTc (τ := Cert.KvADwRefIdeal.τ) (Cert.KvADwRefIdeal.main (F := Ideal))) ⟨m', fun _ => 0, g'⟩ (fun r => ∀ c : Dev Cert.KvADwRefIdeal.nD,
          r.2.mem ((c.tc : Thread Cert.KvADwRefIdeal.nD Cert.KvADwRefIdeal.τ).loc Cert.KvADwRefIdeal.main_v8) = v0 c
          ∧ r.2.mem ((c.tc : Thread Cert.KvADwRefIdeal.nD Cert.KvADwRefIdeal.τ).loc Cert.KvADwRefIdeal.main_arg0) = m' ((c.tc : Thread Cert.KvADwRefIdeal.nD Cert.KvADwRefIdeal.τ).loc Cert.KvADwRefIdeal.main_arg0)
          ∧ r.2.mem ((c.tc : Thread Cert.KvADwRefIdeal.nD Cert.KvADwRefIdeal.τ).loc Cert.KvADwRefIdeal.main_arg1) = m' ((c.tc : Thread Cert.KvADwRefIdeal.nD Cert.KvADwRefIdeal.τ).loc Cert.KvADwRefIdeal.main_arg1)
          ∧ r.2.mem ((c.tc : Thread Cert.KvADwRefIdeal.nD Cert.KvADwRefIdeal.τ).loc Cert.KvADwRefIdeal.main_arg2) = m' ((c.tc : Thread Cert.KvADwRefIdeal.nD Cert.KvADwRefIdeal.τ).loc Cert.KvADwRefIdeal.main_arg2))

def preserves_KvA_KvAIdeal : Prop :=
  True

def algebraic_KvAIdeal_KvARefIdeal [hKvAIdeal : Cert.KvAIdeal.Facts] [hKvARefIdeal : Cert.KvARefIdeal.Facts] : Prop :=
  ∀ (m : (ℓ : Loc Cert.KvAIdeal.nD Cert.KvAIdeal.τ Cert.KvAIdeal.sig) → Buf (Elt Ideal) ℓ) (g : Dev Cert.KvAIdeal.nD → PrngReg)
    (m' : (ℓ : Loc Cert.KvARefIdeal.nD Cert.KvARefIdeal.τ Cert.KvARefIdeal.sig) → Buf (Elt Ideal) ℓ) (g' : Dev Cert.KvARefIdeal.nD → PrngReg), Pre_KvAIdeal m →
    (∀ c : Dev Cert.KvAIdeal.nD,
      m' ((c.tc : Thread Cert.KvARefIdeal.nD Cert.KvARefIdeal.τ).loc Cert.KvARefIdeal.main_arg0) = m ((c.tc : Thread Cert.KvAIdeal.nD Cert.KvAIdeal.τ).loc Cert.KvAIdeal.main_arg0)
      ∧ m' ((c.tc : Thread Cert.KvARefIdeal.nD Cert.KvARefIdeal.τ).loc Cert.KvARefIdeal.main_arg1) = m ((c.tc : Thread Cert.KvAIdeal.nD Cert.KvAIdeal.τ).loc Cert.KvAIdeal.main_arg1)) →
    ∃ (v0 : (c : Dev Cert.KvAIdeal.nD) → Buf (Elt Ideal) ((c.tc : Thread Cert.KvAIdeal.nD Cert.KvAIdeal.τ).loc Cert.KvAIdeal.main_v7)),
      θ_run (Cert.KvAIdeal.defs (F := Ideal)) (onTc (τ := Cert.KvAIdeal.τ) (Cert.KvAIdeal.main (F := Ideal))) ⟨m, fun _ => 0, g⟩ (fun r => ∀ c : Dev Cert.KvAIdeal.nD,
          r.2.mem ((c.tc : Thread Cert.KvAIdeal.nD Cert.KvAIdeal.τ).loc Cert.KvAIdeal.main_v7) = v0 c
          ∧ r.2.mem ((c.tc : Thread Cert.KvAIdeal.nD Cert.KvAIdeal.τ).loc Cert.KvAIdeal.main_arg0) = m ((c.tc : Thread Cert.KvAIdeal.nD Cert.KvAIdeal.τ).loc Cert.KvAIdeal.main_arg0)
          ∧ r.2.mem ((c.tc : Thread Cert.KvAIdeal.nD Cert.KvAIdeal.τ).loc Cert.KvAIdeal.main_arg1) = m ((c.tc : Thread Cert.KvAIdeal.nD Cert.KvAIdeal.τ).loc Cert.KvAIdeal.main_arg1))
      ∧ θ_run (Cert.KvARefIdeal.defs (F := Ideal)) (onTc (τ := Cert.KvARefIdeal.τ) (Cert.KvARefIdeal.main (F := Ideal))) ⟨m', fun _ => 0, g'⟩ (fun r => ∀ c : Dev Cert.KvARefIdeal.nD,
          r.2.mem ((c.tc : Thread Cert.KvARefIdeal.nD Cert.KvARefIdeal.τ).loc Cert.KvARefIdeal.main_v5) = v0 c
          ∧ r.2.mem ((c.tc : Thread Cert.KvARefIdeal.nD Cert.KvARefIdeal.τ).loc Cert.KvARefIdeal.main_arg0) = m' ((c.tc : Thread Cert.KvARefIdeal.nD Cert.KvARefIdeal.τ).loc Cert.KvARefIdeal.main_arg0)
          ∧ r.2.mem ((c.tc : Thread Cert.KvARefIdeal.nD Cert.KvARefIdeal.τ).loc Cert.KvARefIdeal.main_arg1) = m' ((c.tc : Thread Cert.KvARefIdeal.nD Cert.KvARefIdeal.τ).loc Cert.KvARefIdeal.main_arg1))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)
      ∧ m' ((c.tc : Thread Cert.AdaDwRefIdeal.nD Cert.AdaDwRefIdeal.τ).loc Cert.AdaDwRefIdeal.main_arg2) = m ((c.tc : Thread Cert.AdaDwIdeal.nD Cert.AdaDwIdeal.τ).loc Cert.AdaDwIdeal.main_arg2)) →
    ∃ (v0 : (c : Dev Cert.AdaDwIdeal.nD) → Buf (Elt Ideal) ((c.tc : Thread Cert.AdaDwIdeal.nD Cert.AdaDwIdeal.τ).loc Cert.AdaDwIdeal.main_v1)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v1) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
          ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v2) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1)
          ∧ r.2.mem ((c.tc : Thread Cert.AdaDwRefIdeal.nD Cert.AdaDwRefIdeal.τ).loc Cert.AdaDwRefIdeal.main_arg2) = m' ((c.tc : Thread Cert.AdaDwRefIdeal.nD Cert.AdaDwRefIdeal.τ).loc Cert.AdaDwRefIdeal.main_arg2))

def preserves_AdaProj_AdaProjIdeal : Prop :=
  True

def algebraic_AdaProjIdeal_AdaProjRefIdeal [hAdaProjIdeal : Cert.AdaProjIdeal.Facts] [hAdaProjRefIdeal : Cert.AdaProjRefIdeal.Facts] : Prop :=
  ∀ (m : (ℓ : Loc Cert.AdaProjIdeal.nD Cert.AdaProjIdeal.τ Cert.AdaProjIdeal.sig) → Buf (Elt Ideal) ℓ) (g : Dev Cert.AdaProjIdeal.nD → PrngReg)
    (m' : (ℓ : Loc Cert.AdaProjRefIdeal.nD Cert.AdaProjRefIdeal.τ Cert.AdaProjRefIdeal.sig) → Buf (Elt Ideal) ℓ) (g' : Dev Cert.AdaProjRefIdeal.nD → PrngReg), Pre_AdaProjIdeal m →
    (∀ c : Dev Cert.AdaProjIdeal.nD,
      m' ((c.tc : Thread Cert.AdaProjRefIdeal.nD Cert.AdaProjRefIdeal.τ).loc Cert.AdaProjRefIdeal.main_arg0) = m ((c.tc : Thread Cert.AdaProjIdeal.nD Cert.AdaProjIdeal.τ).loc Cert.AdaProjIdeal.main_arg0)
      ∧ m' ((c.tc : Thread Cert.AdaProjRefIdeal.nD Cert.AdaProjRefIdeal.τ).loc Cert.AdaProjRefIdeal.main_arg1) = m ((c.tc : Thread Cert.AdaProjIdeal.nD Cert.AdaProjIdeal.τ).loc Cert.AdaProjIdeal.main_arg1)) →
    ∃ (v0 : (c : Dev Cert.AdaProjIdeal.nD) → Buf (Elt Ideal) ((c.tc : Thread Cert.AdaProjIdeal.nD Cert.AdaProjIdeal.τ).loc Cert.AdaProjIdeal.main_v0)),
      θ_run (Cert.AdaProjIdeal.defs (F := Ideal)) (onTc (τ := Cert.AdaProjIdeal.τ) (Cert.AdaProjIdeal.main (F := Ideal))) ⟨m, fun _ => 0, g⟩ (fun r => ∀ c : Dev Cert.AdaProjIdeal.nD,
          r.2.mem ((c.tc : Thread Cert.AdaProjIdeal.nD Cert.AdaProjIdeal.τ).loc Cert.AdaProjIdeal.main_v0) = v0 c
          ∧ r.2.mem ((c.tc : Thread Cert.AdaProjIdeal.nD Cert.AdaProjIdeal.τ).loc Cert.AdaProjIdeal.main_arg0) = m ((c.tc : Thread Cert.AdaProjIdeal.nD Cert.AdaProjIdeal.τ).loc Cert.AdaProjIdeal.main_arg0)
          ∧ r.2.mem ((c.tc : Thread Cert.AdaProjIdeal.nD Cert.AdaProjIdeal.τ).loc Cert.AdaProjIdeal.main_arg1) = m ((c.tc : Thread Cert.AdaProjIdeal.nD Cert.AdaProjIdeal.τ).loc Cert.AdaProjIdeal.main_arg1))
      ∧ θ_run (Cert.AdaProjRefIdeal.defs (F := Ideal)) (onTc (τ := Cert.AdaProjRefIdeal.τ) (Cert.AdaProjRefIdeal.main (F := Ideal))) ⟨m', fun _ => 0, g'⟩ (fun r => ∀ c : Dev Cert.AdaProjRefIdeal.nD,
          r.2.mem ((c.tc : Thread Cert.AdaProjRefIdeal.nD Cert.AdaProjRefIdeal.τ).loc Cert.AdaProjRefIdeal.main_v0) = v0 c
          ∧ r.2.mem ((c.tc : Thread Cert.AdaProjRefIdeal.nD Cert.AdaProjRefIdeal.τ).loc Cert.AdaProjRefIdeal.main_arg0) = m' ((c.tc : Thread Cert.AdaProjRefIdeal.nD Cert.AdaProjRefIdeal.τ).loc Cert.AdaProjRefIdeal.main_arg0)
          ∧ r.2.mem ((c.tc : Thread Cert.AdaProjRefIdeal.nD Cert.AdaProjRefIdeal.τ).loc Cert.AdaProjRefIdeal.main_arg1) = m' ((c.tc : Thread Cert.AdaProjRefIdeal.nD Cert.AdaProjRefIdeal.τ).loc Cert.AdaProjRefIdeal.main_arg1))

def preserves_ActBwd_ActBwdIdeal : Prop :=
  True

def algebraic_ActBwdIdeal_ActBwdRefIdeal [hActBwdIdeal : Cert.ActBwdIdeal.Facts] [hActBwdRefIdeal : Cert.ActBwdRefIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)) →
    ∃ (v0 : (c : Dev Cert.ActBwdIdeal.nD) → Buf (Elt Ideal) ((c.tc : Thread Cert.ActBwdIdeal.nD Cert.ActBwdIdeal.τ).loc Cert.ActBwdIdeal.main_v3)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v3) = v0 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v6) = v0 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v19) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_BbarBwd_BbarBwdIdeal : Prop :=
  True

def algebraic_BbarBwdIdeal_BbarBwdRefIdeal [hBbarBwdIdeal : Cert.BbarBwdIdeal.Facts] [hBbarBwdRefIdeal : Cert.BbarBwdRefIdeal.Facts] : Prop :=
  ∀ (m : (ℓ : Loc Cert.BbarBwdIdeal.nD Cert.BbarBwdIdeal.τ Cert.BbarBwdIdeal.sig) → Buf (Elt Ideal) ℓ) (g : Dev Cert.BbarBwdIdeal.nD → PrngReg)
    (m' : (ℓ : Loc Cert.BbarBwdRefIdeal.nD Cert.BbarBwdRefIdeal.τ Cert.BbarBwdRefIdeal.sig) → Buf (Elt Ideal) ℓ) (g' : Dev Cert.BbarBwdRefIdeal.nD → PrngReg), Pre_BbarBwdIdeal m →
    (∀ c : Dev Cert.BbarBwdIdeal.nD,
      m' ((c.tc : Thread Cert.BbarBwdRefIdeal.nD Cert.BbarBwdRefIdeal.τ).loc Cert.BbarBwdRefIdeal.main_arg0) = m ((c.tc : Thread Cert.BbarBwdIdeal.nD Cert.BbarBwdIdeal.τ).loc Cert.BbarBwdIdeal.main_arg0)
      ∧ m' ((c.tc : Thread Cert.BbarBwdRefIdeal.nD Cert.BbarBwdRefIdeal.τ).loc Cert.BbarBwdRefIdeal.main_arg1) = m ((c.tc : Thread Cert.BbarBwdIdeal.nD Cert.BbarBwdIdeal.τ).loc Cert.BbarBwdIdeal.main_arg1)
      ∧ m' ((c.tc : Thread Cert.BbarBwdRefIdeal.nD Cert.BbarBwdRefIdeal.τ).loc Cert.BbarBwdRefIdeal.main_arg2) = m ((c.tc : Thread Cert.BbarBwdIdeal.nD Cert.BbarBwdIdeal.τ).loc Cert.BbarBwdIdeal.main_arg2)
      ∧ m' ((c.tc : Thread Cert.BbarBwdRefIdeal.nD Cert.BbarBwdRefIdeal.τ).loc Cert.BbarBwdRefIdeal.main_arg3) = m ((c.tc : Thread Cert.BbarBwdIdeal.nD Cert.BbarBwdIdeal.τ).loc Cert.BbarBwdIdeal.main_arg3)
      ∧ m' ((c.tc : Thread Cert.BbarBwdRefIdeal.nD Cert.BbarBwdRefIdeal.τ).loc Cert.BbarBwdRefIdeal.main_arg4) = m ((c.tc : Thread Cert.BbarBwdIdeal.nD Cert.BbarBwdIdeal.τ).loc Cert.BbarBwdIdeal.main_arg4)
      ∧ m' ((c.tc : Thread Cert.BbarBwdRefIdeal.nD Cert.BbarBwdRefIdeal.τ).loc Cert.BbarBwdRefIdeal.main_arg5) = m ((c.tc : Thread Cert.BbarBwdIdeal.nD Cert.BbarBwdIdeal.τ).loc Cert.BbarBwdIdeal.main_arg5)) →
    ∃ (v0 : (c : Dev Cert.BbarBwdIdeal.nD) → Buf (Elt Ideal) ((c.tc : Thread Cert.BbarBwdIdeal.nD Cert.BbarBwdIdeal.τ).loc Cert.BbarBwdIdeal.main_v0_0)) (v1 : (c : Dev Cert.BbarBwdIdeal.nD) → Buf (Elt Ideal) ((c.tc : Thread Cert.BbarBwdIdeal.nD Cert.BbarBwdIdeal.τ).loc Cert.BbarBwdIdeal.main_v0_1)) (v2 : (c : Dev Cert.BbarBwdIdeal.nD) → Buf (Elt Ideal) ((c.tc : Thread Cert.BbarBwdIdeal.nD Cert.BbarBwdIdeal.τ).loc Cert.BbarBwdIdeal.main_v0_2)) (v3 : (c : Dev Cert.BbarBwdIdeal.nD) → Buf (Elt Ideal) ((c.tc : Thread Cert.BbarBwdIdeal.nD Cert.BbarBwdIdeal.τ).loc Cert.BbarBwdIdeal.main_v0_3)),
      θ_run (Cert.BbarBwdIdeal.defs (F := Ideal)) (onTc (τ := Cert.BbarBwdIdeal.τ) (Cert.BbarBwdIdeal.main (F := Ideal))) ⟨m, fun _ => 0, g⟩ (fun r => ∀ c : Dev Cert.BbarBwdIdeal.nD,
          r.2.mem ((c.tc : Thread Cert.BbarBwdIdeal.nD Cert.BbarBwdIdeal.τ).loc Cert.BbarBwdIdeal.main_v0_0) = v0 c
          ∧ r.2.mem ((c.tc : Thread Cert.BbarBwdIdeal.nD Cert.BbarBwdIdeal.τ).loc Cert.BbarBwdIdeal.main_v0_1) = v1 c
          ∧ r.2.mem ((c.tc : Thread Cert.BbarBwdIdeal.nD Cert.BbarBwdIdeal.τ).loc Cert.BbarBwdIdeal.main_v0_2) = v2 c
          ∧ r.2.mem ((c.tc : Thread Cert.BbarBwdIdeal.nD Cert.BbarBwdIdeal.τ).loc Cert.BbarBwdIdeal.main_v0_3) = v3 c
          ∧ r.2.mem ((c.tc : Thread Cert.BbarBwdIdeal.nD Cert.BbarBwdIdeal.τ).loc Cert.BbarBwdIdeal.main_arg0) = m ((c.tc : Thread Cert.BbarBwdIdeal.nD Cert.BbarBwdIdeal.τ).loc Cert.BbarBwdIdeal.main_arg0)
          ∧ r.2.mem ((c.tc : Thread Cert.BbarBwdIdeal.nD Cert.BbarBwdIdeal.τ).loc Cert.BbarBwdIdeal.main_arg1) = m ((c.tc : Thread Cert.BbarBwdIdeal.nD Cert.BbarBwdIdeal.τ).loc Cert.BbarBwdIdeal.main_arg1)
          ∧ r.2.mem ((c.tc : Thread Cert.BbarBwdIdeal.nD Cert.BbarBwdIdeal.τ).loc Cert.BbarBwdIdeal.main_arg2) = m ((c.tc : Thread Cert.BbarBwdIdeal.nD Cert.BbarBwdIdeal.τ).loc Cert.BbarBwdIdeal.main_arg2)
          ∧ r.2.mem ((c.tc : Thread Cert.BbarBwdIdeal.nD Cert.BbarBwdIdeal.τ).loc Cert.BbarBwdIdeal.main_arg3) = m ((c.tc : Thread Cert.BbarBwdIdeal.nD Cert.BbarBwdIdeal.τ).loc Cert.BbarBwdIdeal.main_arg3)
          ∧ r.2.mem ((c.tc : Thread Cert.BbarBwdIdeal.nD Cert.BbarBwdIdeal.τ).loc Cert.BbarBwdIdeal.main_arg4) = m ((c.tc : Thread Cert.BbarBwdIdeal.nD Cert.BbarBwdIdeal.τ).loc Cert.BbarBwdIdeal.main_arg4)
          ∧ r.2.mem ((c.tc : Thread Cert.BbarBwdIdeal.nD Cert.BbarBwdIdeal.τ).loc Cert.BbarBwdIdeal.main_arg5) = m ((c.tc : Thread Cert.BbarBwdIdeal.nD Cert.BbarBwdIdeal.τ).loc Cert.BbarBwdIdeal.main_arg5))
      ∧ θ_run (Cert.BbarBwdRefIdeal.defs (F := Ideal)) (onTc (τ := Cert.BbarBwdRefIdeal.τ) (Cert.BbarBwdRefIdeal.main (F := Ideal))) ⟨m', fun _ => 0, g'⟩ (fun r => ∀ c : Dev Cert.BbarBwdRefIdeal.nD,
          r.2.mem ((c.tc : Thread Cert.BbarBwdRefIdeal.nD Cert.BbarBwdRefIdeal.τ).loc Cert.BbarBwdRefIdeal.main_v33) = v0 c
          ∧ r.2.mem ((c.tc : Thread Cert.BbarBwdRefIdeal.nD Cert.BbarBwdRefIdeal.τ).loc Cert.BbarBwdRefIdeal.main_v26) = v1 c
          ∧ r.2.mem ((c.tc : Thread Cert.BbarBwdRefIdeal.nD Cert.BbarBwdRefIdeal.τ).loc Cert.BbarBwdRefIdeal.main_v37) = v2 c
          ∧ r.2.mem ((c.tc : Thread Cert.BbarBwdRefIdeal.nD Cert.BbarBwdRefIdeal.τ).loc Cert.BbarBwdRefIdeal.main_v30) = v3 c
          ∧ r.2.mem ((c.tc : Thread Cert.BbarBwdRefIdeal.nD Cert.BbarBwdRefIdeal.τ).loc Cert.BbarBwdRefIdeal.main_arg0) = m' ((c.tc : Thread Cert.BbarBwdRefIdeal.nD Cert.BbarBwdRefIdeal.τ).loc Cert.BbarBwdRefIdeal.main_arg0)
          ∧ r.2.mem ((c.tc : Thread Cert.BbarBwdRefIdeal.nD Cert.BbarBwdRefIdeal.τ).loc Cert.BbarBwdRefIdeal.main_arg1) = m' ((c.tc : Thread Cert.BbarBwdRefIdeal.nD Cert.BbarBwdRefIdeal.τ).loc Cert.BbarBwdRefIdeal.main_arg1)
          ∧ r.2.mem ((c.tc : Thread Cert.BbarBwdRefIdeal.nD Cert.BbarBwdRefIdeal.τ).loc Cert.BbarBwdRefIdeal.main_arg2) = m' ((c.tc : Thread Cert.BbarBwdRefIdeal.nD Cert.BbarBwdRefIdeal.τ).loc Cert.BbarBwdRefIdeal.main_arg2)
          ∧ r.2.mem ((c.tc : Thread Cert.BbarBwdRefIdeal.nD Cert.BbarBwdRefIdeal.τ).loc Cert.BbarBwdRefIdeal.main_arg3) = m' ((c.tc : Thread Cert.BbarBwdRefIdeal.nD Cert.BbarBwdRefIdeal.τ).loc Cert.BbarBwdRefIdeal.main_arg3)
          ∧ r.2.mem ((c.tc : Thread Cert.BbarBwdRefIdeal.nD Cert.BbarBwdRefIdeal.τ).loc Cert.BbarBwdRefIdeal.main_arg4) = m' ((c.tc : Thread Cert.BbarBwdRefIdeal.nD Cert.BbarBwdRefIdeal.τ).loc Cert.BbarBwdRefIdeal.main_arg4)
          ∧ r.2.mem ((c.tc : Thread Cert.BbarBwdRefIdeal.nD Cert.BbarBwdRefIdeal.τ).loc Cert.BbarBwdRefIdeal.main_arg5) = m' ((c.tc : Thread Cert.BbarBwdRefIdeal.nD Cert.BbarBwdRefIdeal.τ).loc Cert.BbarBwdRefIdeal.main_arg5))

def preserves_Bbar_BbarIdeal : Prop :=
  True

def algebraic_BbarIdeal_BbarRefIdeal [hBbarIdeal : Cert.BbarIdeal.Facts] [hBbarRefIdeal : Cert.BbarRefIdeal.Facts] : Prop :=
  ∀ (m : (ℓ : Loc Cert.BbarIdeal.nD Cert.BbarIdeal.τ Cert.BbarIdeal.sig) → Buf (Elt Ideal) ℓ) (g : Dev Cert.BbarIdeal.nD → PrngReg)
    (m' : (ℓ : Loc Cert.BbarRefIdeal.nD Cert.BbarRefIdeal.τ Cert.BbarRefIdeal.sig) → Buf (Elt Ideal) ℓ) (g' : Dev Cert.BbarRefIdeal.nD → PrngReg), Pre_BbarIdeal m →
    (∀ c : Dev Cert.BbarIdeal.nD,
      m' ((c.tc : Thread Cert.BbarRefIdeal.nD Cert.BbarRefIdeal.τ).loc Cert.BbarRefIdeal.main_arg0) = m ((c.tc : Thread Cert.BbarIdeal.nD Cert.BbarIdeal.τ).loc Cert.BbarIdeal.main_arg0)
      ∧ m' ((c.tc : Thread Cert.BbarRefIdeal.nD Cert.BbarRefIdeal.τ).loc Cert.BbarRefIdeal.main_arg1) = m ((c.tc : Thread Cert.BbarIdeal.nD Cert.BbarIdeal.τ).loc Cert.BbarIdeal.main_arg1)
      ∧ m' ((c.tc : Thread Cert.BbarRefIdeal.nD Cert.BbarRefIdeal.τ).loc Cert.BbarRefIdeal.main_arg2) = m ((c.tc : Thread Cert.BbarIdeal.nD Cert.BbarIdeal.τ).loc Cert.BbarIdeal.main_arg2)
      ∧ m' ((c.tc : Thread Cert.BbarRefIdeal.nD Cert.BbarRefIdeal.τ).loc Cert.BbarRefIdeal.main_arg3) = m ((c.tc : Thread Cert.BbarIdeal.nD Cert.BbarIdeal.τ).loc Cert.BbarIdeal.main_arg3)) →
    ∃ (v0 : (c : Dev Cert.BbarIdeal.nD) → Buf (Elt Ideal) ((c.tc : Thread Cert.BbarIdeal.nD Cert.BbarIdeal.τ).loc Cert.BbarIdeal.main_v0_0)) (v1 : (c : Dev Cert.BbarIdeal.nD) → Buf (Elt Ideal) ((c.tc : Thread Cert.BbarIdeal.nD Cert.BbarIdeal.τ).loc Cert.BbarIdeal.main_v0_1)),
      θ_run (Cert.BbarIdeal.defs (F := Ideal)) (onTc (τ := Cert.BbarIdeal.τ) (Cert.BbarIdeal.main (F := Ideal))) ⟨m, fun _ => 0, g⟩ (fun r => ∀ c : Dev Cert.BbarIdeal.nD,
          r.2.mem ((c.tc : Thread Cert.BbarIdeal.nD Cert.BbarIdeal.τ).loc Cert.BbarIdeal.main_v0_0) = v0 c
          ∧ r.2.mem ((c.tc : Thread Cert.BbarIdeal.nD Cert.BbarIdeal.τ).loc Cert.BbarIdeal.main_v0_1) = v1 c
          ∧ r.2.mem ((c.tc : Thread Cert.BbarIdeal.nD Cert.BbarIdeal.τ).loc Cert.BbarIdeal.main_arg0) = m ((c.tc : Thread Cert.BbarIdeal.nD Cert.BbarIdeal.τ).loc Cert.BbarIdeal.main_arg0)
          ∧ r.2.mem ((c.tc : Thread Cert.BbarIdeal.nD Cert.BbarIdeal.τ).loc Cert.BbarIdeal.main_arg1) = m ((c.tc : Thread Cert.BbarIdeal.nD Cert.BbarIdeal.τ).loc Cert.BbarIdeal.main_arg1)
          ∧ r.2.mem ((c.tc : Thread Cert.BbarIdeal.nD Cert.BbarIdeal.τ).loc Cert.BbarIdeal.main_arg2) = m ((c.tc : Thread Cert.BbarIdeal.nD Cert.BbarIdeal.τ).loc Cert.BbarIdeal.main_arg2)
          ∧ r.2.mem ((c.tc : Thread Cert.BbarIdeal.nD Cert.BbarIdeal.τ).loc Cert.BbarIdeal.main_arg3) = m ((c.tc : Thread Cert.BbarIdeal.nD Cert.BbarIdeal.τ).loc Cert.BbarIdeal.main_arg3))
      ∧ θ_run (Cert.BbarRefIdeal.defs (F := Ideal)) (onTc (τ := Cert.BbarRefIdeal.τ) (Cert.BbarRefIdeal.main (F := Ideal))) ⟨m', fun _ => 0, g'⟩ (fun r => ∀ c : Dev Cert.BbarRefIdeal.nD,
          r.2.mem ((c.tc : Thread Cert.BbarRefIdeal.nD Cert.BbarRefIdeal.τ).loc Cert.BbarRefIdeal.main_v4) = v0 c
          ∧ r.2.mem ((c.tc : Thread Cert.BbarRefIdeal.nD Cert.BbarRefIdeal.τ).loc Cert.BbarRefIdeal.main_v9) = v1 c
          ∧ r.2.mem ((c.tc : Thread Cert.BbarRefIdeal.nD Cert.BbarRefIdeal.τ).loc Cert.BbarRefIdeal.main_arg0) = m' ((c.tc : Thread Cert.BbarRefIdeal.nD Cert.BbarRefIdeal.τ).loc Cert.BbarRefIdeal.main_arg0)
          ∧ r.2.mem ((c.tc : Thread Cert.BbarRefIdeal.nD Cert.BbarRefIdeal.τ).loc Cert.BbarRefIdeal.main_arg1) = m' ((c.tc : Thread Cert.BbarRefIdeal.nD Cert.BbarRefIdeal.τ).loc Cert.BbarRefIdeal.main_arg1)
          ∧ r.2.mem ((c.tc : Thread Cert.BbarRefIdeal.nD Cert.BbarRefIdeal.τ).loc Cert.BbarRefIdeal.main_arg2) = m' ((c.tc : Thread Cert.BbarRefIdeal.nD Cert.BbarRefIdeal.τ).loc Cert.BbarRefIdeal.main_arg2)
          ∧ r.2.mem ((c.tc : Thread Cert.BbarRefIdeal.nD Cert.BbarRefIdeal.τ).loc Cert.BbarRefIdeal.main_arg3) = m' ((c.tc : Thread Cert.BbarRefIdeal.nD Cert.BbarRefIdeal.τ).loc Cert.BbarRefIdeal.main_arg3))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)) →
    ∃ (v0 : (c : Dev Cert.GeluIdeal.nD) → Buf (Elt Ideal) ((c.tc : Thread Cert.GeluIdeal.nD Cert.GeluIdeal.τ).loc Cert.GeluIdeal.main_v0)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v0) = v0 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v15) = v0 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2))

def preserves_GateRes_GateResIdeal : Prop :=
  True

def algebraic_GateResIdeal_GateResRefIdeal [hGateResIdeal : Cert.GateResIdeal.Facts] [hGateResRefIdeal : Cert.GateResRefIdeal.Facts] : Prop :=
  ∀ (m : (ℓ : Loc Cert.GateResIdeal.nD Cert.GateResIdeal.τ Cert.GateResIdeal.sig) → Buf (Elt Ideal) ℓ) (g : Dev Cert.GateResIdeal.nD → PrngReg)
    (m' : (ℓ : Loc Cert.GateResRefIdeal.nD Cert.GateResRefIdeal.τ Cert.GateResRefIdeal.sig) → Buf (Elt Ideal) ℓ) (g' : Dev Cert.GateResRefIdeal.nD → PrngReg), Pre_GateResIdeal m →
    (∀ c : Dev Cert.GateResIdeal.nD,
      m' ((c.tc : Thread Cert.GateResRefIdeal.nD Cert.GateResRefIdeal.τ).loc Cert.GateResRefIdeal.main_arg0) = m ((c.tc : Thread Cert.GateResIdeal.nD Cert.GateResIdeal.τ).loc Cert.GateResIdeal.main_arg0)
      ∧ m' ((c.tc : Thread Cert.GateResRefIdeal.nD Cert.GateResRefIdeal.τ).loc Cert.GateResRefIdeal.main_arg1) = m ((c.tc : Thread Cert.GateResIdeal.nD Cert.GateResIdeal.τ).loc Cert.GateResIdeal.main_arg1)
      ∧ m' ((c.tc : Thread Cert.GateResRefIdeal.nD Cert.GateResRefIdeal.τ).loc Cert.GateResRefIdeal.main_arg2) = m ((c.tc : Thread Cert.GateResIdeal.nD Cert.GateResIdeal.τ).loc Cert.GateResIdeal.main_arg2)
      ∧ m' ((c.tc : Thread Cert.GateResRefIdeal.nD Cert.GateResRefIdeal.τ).loc Cert.GateResRefIdeal.main_arg3) = m ((c.tc : Thread Cert.GateResIdeal.nD Cert.GateResIdeal.τ).loc Cert.GateResIdeal.main_arg3)
      ∧ m' ((c.tc : Thread Cert.GateResRefIdeal.nD Cert.GateResRefIdeal.τ).loc Cert.GateResRefIdeal.main_arg4) = m ((c.tc : Thread Cert.GateResIdeal.nD Cert.GateResIdeal.τ).loc Cert.GateResIdeal.main_arg4)) →
    ∃ (v0 : (c : Dev Cert.GateResIdeal.nD) → Buf (Elt Ideal) ((c.tc : Thread Cert.GateResIdeal.nD Cert.GateResIdeal.τ).loc Cert.GateResIdeal.main_v0)),
      θ_run (Cert.GateResIdeal.defs (F := Ideal)) (onTc (τ := Cert.GateResIdeal.τ) (Cert.GateResIdeal.main (F := Ideal))) ⟨m, fun _ => 0, g⟩ (fun r => ∀ c : Dev Cert.GateResIdeal.nD,
          r.2.mem ((c.tc : Thread Cert.GateResIdeal.nD Cert.GateResIdeal.τ).loc Cert.GateResIdeal.main_v0) = v0 c
          ∧ r.2.mem ((c.tc : Thread Cert.GateResIdeal.nD Cert.GateResIdeal.τ).loc Cert.GateResIdeal.main_arg0) = m ((c.tc : Thread Cert.GateResIdeal.nD Cert.GateResIdeal.τ).loc Cert.GateResIdeal.main_arg0)
          ∧ r.2.mem ((c.tc : Thread Cert.GateResIdeal.nD Cert.GateResIdeal.τ).loc Cert.GateResIdeal.main_arg1) = m ((c.tc : Thread Cert.GateResIdeal.nD Cert.GateResIdeal.τ).loc Cert.GateResIdeal.main_arg1)
          ∧ r.2.mem ((c.tc : Thread Cert.GateResIdeal.nD Cert.GateResIdeal.τ).loc Cert.GateResIdeal.main_arg2) = m ((c.tc : Thread Cert.GateResIdeal.nD Cert.GateResIdeal.τ).loc Cert.GateResIdeal.main_arg2)
          ∧ r.2.mem ((c.tc : Thread Cert.GateResIdeal.nD Cert.GateResIdeal.τ).loc Cert.GateResIdeal.main_arg3) = m ((c.tc : Thread Cert.GateResIdeal.nD Cert.GateResIdeal.τ).loc Cert.GateResIdeal.main_arg3)
          ∧ r.2.mem ((c.tc : Thread Cert.GateResIdeal.nD Cert.GateResIdeal.τ).loc Cert.GateResIdeal.main_arg4) = m ((c.tc : Thread Cert.GateResIdeal.nD Cert.GateResIdeal.τ).loc Cert.GateResIdeal.main_arg4))
      ∧ θ_run (Cert.GateResRefIdeal.defs (F := Ideal)) (onTc (τ := Cert.GateResRefIdeal.τ) (Cert.GateResRefIdeal.main (F := Ideal))) ⟨m', fun _ => 0, g'⟩ (fun r => ∀ c : Dev Cert.GateResRefIdeal.nD,
          r.2.mem ((c.tc : Thread Cert.GateResRefIdeal.nD Cert.GateResRefIdeal.τ).loc Cert.GateResRefIdeal.main_v12) = v0 c
          ∧ r.2.mem ((c.tc : Thread Cert.GateResRefIdeal.nD Cert.GateResRefIdeal.τ).loc Cert.GateResRefIdeal.main_arg0) = m' ((c.tc : Thread Cert.GateResRefIdeal.nD Cert.GateResRefIdeal.τ).loc Cert.GateResRefIdeal.main_arg0)
          ∧ r.2.mem ((c.tc : Thread Cert.GateResRefIdeal.nD Cert.GateResRefIdeal.τ).loc Cert.GateResRefIdeal.main_arg1) = m' ((c.tc : Thread Cert.GateResRefIdeal.nD Cert.GateResRefIdeal.τ).loc Cert.GateResRefIdeal.main_arg1)
          ∧ r.2.mem ((c.tc : Thread Cert.GateResRefIdeal.nD Cert.GateResRefIdeal.τ).loc Cert.GateResRefIdeal.main_arg2) = m' ((c.tc : Thread Cert.GateResRefIdeal.nD Cert.GateResRefIdeal.τ).loc Cert.GateResRefIdeal.main_arg2)
          ∧ r.2.mem ((c.tc : Thread Cert.GateResRefIdeal.nD Cert.GateResRefIdeal.τ).loc Cert.GateResRefIdeal.main_arg3) = m' ((c.tc : Thread Cert.GateResRefIdeal.nD Cert.GateResRefIdeal.τ).loc Cert.GateResRefIdeal.main_arg3)
          ∧ r.2.mem ((c.tc : Thread Cert.GateResRefIdeal.nD Cert.GateResRefIdeal.τ).loc Cert.GateResRefIdeal.main_arg4) = m' ((c.tc : Thread Cert.GateResRefIdeal.nD Cert.GateResRefIdeal.τ).loc Cert.GateResRefIdeal.main_arg4))

def preserves_MlaRes_MlaResIdeal : Prop :=
  True

def algebraic_MlaResIdeal_MlaResRefIdeal [hMlaResIdeal : Cert.MlaResIdeal.Facts] [hMlaResRefIdeal : Cert.MlaResRefIdeal.Facts] : Prop :=
  ∀ (m : (ℓ : Loc Cert.MlaResIdeal.nD Cert.MlaResIdeal.τ Cert.MlaResIdeal.sig) → Buf (Elt Ideal) ℓ) (g : Dev Cert.MlaResIdeal.nD → PrngReg)
    (m' : (ℓ : Loc Cert.MlaResRefIdeal.nD Cert.MlaResRefIdeal.τ Cert.MlaResRefIdeal.sig) → Buf (Elt Ideal) ℓ) (g' : Dev Cert.MlaResRefIdeal.nD → PrngReg), Pre_MlaResIdeal m →
    (∀ c : Dev Cert.MlaResIdeal.nD,
      m' ((c.tc : Thread Cert.MlaResRefIdeal.nD Cert.MlaResRefIdeal.τ).loc Cert.MlaResRefIdeal.main_arg0) = m ((c.tc : Thread Cert.MlaResIdeal.nD Cert.MlaResIdeal.τ).loc Cert.MlaResIdeal.main_arg0)
      ∧ m' ((c.tc : Thread Cert.MlaResRefIdeal.nD Cert.MlaResRefIdeal.τ).loc Cert.MlaResRefIdeal.main_arg1) = m ((c.tc : Thread Cert.MlaResIdeal.nD Cert.MlaResIdeal.τ).loc Cert.MlaResIdeal.main_arg1)
      ∧ m' ((c.tc : Thread Cert.MlaResRefIdeal.nD Cert.MlaResRefIdeal.τ).loc Cert.MlaResRefIdeal.main_arg2) = m ((c.tc : Thread Cert.MlaResIdeal.nD Cert.MlaResIdeal.τ).loc Cert.MlaResIdeal.main_arg2)) →
    ∃ (v0 : (c : Dev Cert.MlaResIdeal.nD) → Buf (Elt Ideal) ((c.tc : Thread Cert.MlaResIdeal.nD Cert.MlaResIdeal.τ).loc Cert.MlaResIdeal.main_v0)),
      θ_run (Cert.MlaResIdeal.defs (F := Ideal)) (onTc (τ := Cert.MlaResIdeal.τ) (Cert.MlaResIdeal.main (F := Ideal))) ⟨m, fun _ => 0, g⟩ (fun r => ∀ c : Dev Cert.MlaResIdeal.nD,
          r.2.mem ((c.tc : Thread Cert.MlaResIdeal.nD Cert.MlaResIdeal.τ).loc Cert.MlaResIdeal.main_v0) = v0 c
          ∧ r.2.mem ((c.tc : Thread Cert.MlaResIdeal.nD Cert.MlaResIdeal.τ).loc Cert.MlaResIdeal.main_arg0) = m ((c.tc : Thread Cert.MlaResIdeal.nD Cert.MlaResIdeal.τ).loc Cert.MlaResIdeal.main_arg0)
          ∧ r.2.mem ((c.tc : Thread Cert.MlaResIdeal.nD Cert.MlaResIdeal.τ).loc Cert.MlaResIdeal.main_arg1) = m ((c.tc : Thread Cert.MlaResIdeal.nD Cert.MlaResIdeal.τ).loc Cert.MlaResIdeal.main_arg1)
          ∧ r.2.mem ((c.tc : Thread Cert.MlaResIdeal.nD Cert.MlaResIdeal.τ).loc Cert.MlaResIdeal.main_arg2) = m ((c.tc : Thread Cert.MlaResIdeal.nD Cert.MlaResIdeal.τ).loc Cert.MlaResIdeal.main_arg2))
      ∧ θ_run (Cert.MlaResRefIdeal.defs (F := Ideal)) (onTc (τ := Cert.MlaResRefIdeal.τ) (Cert.MlaResRefIdeal.main (F := Ideal))) ⟨m', fun _ => 0, g'⟩ (fun r => ∀ c : Dev Cert.MlaResRefIdeal.nD,
          r.2.mem ((c.tc : Thread Cert.MlaResRefIdeal.nD Cert.MlaResRefIdeal.τ).loc Cert.MlaResRefIdeal.main_v3) = v0 c
          ∧ r.2.mem ((c.tc : Thread Cert.MlaResRefIdeal.nD Cert.MlaResRefIdeal.τ).loc Cert.MlaResRefIdeal.main_arg0) = m' ((c.tc : Thread Cert.MlaResRefIdeal.nD Cert.MlaResRefIdeal.τ).loc Cert.MlaResRefIdeal.main_arg0)
          ∧ r.2.mem ((c.tc : Thread Cert.MlaResRefIdeal.nD Cert.MlaResRefIdeal.τ).loc Cert.MlaResRefIdeal.main_arg1) = m' ((c.tc : Thread Cert.MlaResRefIdeal.nD Cert.MlaResRefIdeal.τ).loc Cert.MlaResRefIdeal.main_arg1)
          ∧ r.2.mem ((c.tc : Thread Cert.MlaResRefIdeal.nD Cert.MlaResRefIdeal.τ).loc Cert.MlaResRefIdeal.main_arg2) = m' ((c.tc : Thread Cert.MlaResRefIdeal.nD Cert.MlaResRefIdeal.τ).loc Cert.MlaResRefIdeal.main_arg2))

def preserves_FfnRes_FfnResIdeal : Prop :=
  True

def algebraic_FfnResIdeal_FfnResRefIdeal [hFfnResIdeal : Cert.FfnResIdeal.Facts] [hFfnResRefIdeal : Cert.FfnResRefIdeal.Facts] : Prop :=
  ∀ (m : (ℓ : Loc Cert.FfnResIdeal.nD Cert.FfnResIdeal.τ Cert.FfnResIdeal.sig) → Buf (Elt Ideal) ℓ) (g : Dev Cert.FfnResIdeal.nD → PrngReg)
    (m' : (ℓ : Loc Cert.FfnResRefIdeal.nD Cert.FfnResRefIdeal.τ Cert.FfnResRefIdeal.sig) → Buf (Elt Ideal) ℓ) (g' : Dev Cert.FfnResRefIdeal.nD → PrngReg), Pre_FfnResIdeal m →
    (∀ c : Dev Cert.FfnResIdeal.nD,
      m' ((c.tc : Thread Cert.FfnResRefIdeal.nD Cert.FfnResRefIdeal.τ).loc Cert.FfnResRefIdeal.main_arg0) = m ((c.tc : Thread Cert.FfnResIdeal.nD Cert.FfnResIdeal.τ).loc Cert.FfnResIdeal.main_arg0)
      ∧ m' ((c.tc : Thread Cert.FfnResRefIdeal.nD Cert.FfnResRefIdeal.τ).loc Cert.FfnResRefIdeal.main_arg1) = m ((c.tc : Thread Cert.FfnResIdeal.nD Cert.FfnResIdeal.τ).loc Cert.FfnResIdeal.main_arg1)
      ∧ m' ((c.tc : Thread Cert.FfnResRefIdeal.nD Cert.FfnResRefIdeal.τ).loc Cert.FfnResRefIdeal.main_arg2) = m ((c.tc : Thread Cert.FfnResIdeal.nD Cert.FfnResIdeal.τ).loc Cert.FfnResIdeal.main_arg2)) →
    ∃ (v0 : (c : Dev Cert.FfnResIdeal.nD) → Buf (Elt Ideal) ((c.tc : Thread Cert.FfnResIdeal.nD Cert.FfnResIdeal.τ).loc Cert.FfnResIdeal.main_v0)),
      θ_run (Cert.FfnResIdeal.defs (F := Ideal)) (onTc (τ := Cert.FfnResIdeal.τ) (Cert.FfnResIdeal.main (F := Ideal))) ⟨m, fun _ => 0, g⟩ (fun r => ∀ c : Dev Cert.FfnResIdeal.nD,
          r.2.mem ((c.tc : Thread Cert.FfnResIdeal.nD Cert.FfnResIdeal.τ).loc Cert.FfnResIdeal.main_v0) = v0 c
          ∧ r.2.mem ((c.tc : Thread Cert.FfnResIdeal.nD Cert.FfnResIdeal.τ).loc Cert.FfnResIdeal.main_arg0) = m ((c.tc : Thread Cert.FfnResIdeal.nD Cert.FfnResIdeal.τ).loc Cert.FfnResIdeal.main_arg0)
          ∧ r.2.mem ((c.tc : Thread Cert.FfnResIdeal.nD Cert.FfnResIdeal.τ).loc Cert.FfnResIdeal.main_arg1) = m ((c.tc : Thread Cert.FfnResIdeal.nD Cert.FfnResIdeal.τ).loc Cert.FfnResIdeal.main_arg1)
          ∧ r.2.mem ((c.tc : Thread Cert.FfnResIdeal.nD Cert.FfnResIdeal.τ).loc Cert.FfnResIdeal.main_arg2) = m ((c.tc : Thread Cert.FfnResIdeal.nD Cert.FfnResIdeal.τ).loc Cert.FfnResIdeal.main_arg2))
      ∧ θ_run (Cert.FfnResRefIdeal.defs (F := Ideal)) (onTc (τ := Cert.FfnResRefIdeal.τ) (Cert.FfnResRefIdeal.main (F := Ideal))) ⟨m', fun _ => 0, g'⟩ (fun r => ∀ c : Dev Cert.FfnResRefIdeal.nD,
          r.2.mem ((c.tc : Thread Cert.FfnResRefIdeal.nD Cert.FfnResRefIdeal.τ).loc Cert.FfnResRefIdeal.main_v3) = v0 c
          ∧ r.2.mem ((c.tc : Thread Cert.FfnResRefIdeal.nD Cert.FfnResRefIdeal.τ).loc Cert.FfnResRefIdeal.main_arg0) = m' ((c.tc : Thread Cert.FfnResRefIdeal.nD Cert.FfnResRefIdeal.τ).loc Cert.FfnResRefIdeal.main_arg0)
          ∧ r.2.mem ((c.tc : Thread Cert.FfnResRefIdeal.nD Cert.FfnResRefIdeal.τ).loc Cert.FfnResRefIdeal.main_arg1) = m' ((c.tc : Thread Cert.FfnResRefIdeal.nD Cert.FfnResRefIdeal.τ).loc Cert.FfnResRefIdeal.main_arg1)
          ∧ r.2.mem ((c.tc : Thread Cert.FfnResRefIdeal.nD Cert.FfnResRefIdeal.τ).loc Cert.FfnResRefIdeal.main_arg2) = m' ((c.tc : Thread Cert.FfnResRefIdeal.nD Cert.FfnResRefIdeal.τ).loc Cert.FfnResRefIdeal.main_arg2))

def preserves_QNorm_QNormIdeal : Prop :=
  True

def algebraic_QNormIdeal_QNormRefIdeal [hQNormIdeal : Cert.QNormIdeal.Facts] [hQNormRefIdeal : Cert.QNormRefIdeal.Facts] : Prop :=
  ∀ (m : (ℓ : Loc Cert.QNormIdeal.nD Cert.QNormIdeal.τ Cert.QNormIdeal.sig) → Buf (Elt Ideal) ℓ) (g : Dev Cert.QNormIdeal.nD → PrngReg)
    (m' : (ℓ : Loc Cert.QNormRefIdeal.nD Cert.QNormRefIdeal.τ Cert.QNormRefIdeal.sig) → Buf (Elt Ideal) ℓ) (g' : Dev Cert.QNormRefIdeal.nD → PrngReg), Pre_QNormIdeal m →
    (∀ c : Dev Cert.QNormIdeal.nD,
      m' ((c.tc : Thread Cert.QNormRefIdeal.nD Cert.QNormRefIdeal.τ).loc Cert.QNormRefIdeal.main_arg0) = m ((c.tc : Thread Cert.QNormIdeal.nD Cert.QNormIdeal.τ).loc Cert.QNormIdeal.main_arg0)
      ∧ m' ((c.tc : Thread Cert.QNormRefIdeal.nD Cert.QNormRefIdeal.τ).loc Cert.QNormRefIdeal.main_arg1) = m ((c.tc : Thread Cert.QNormIdeal.nD Cert.QNormIdeal.τ).loc Cert.QNormIdeal.main_arg1)) →
    ∃ (v0 : (c : Dev Cert.QNormIdeal.nD) → Buf (Elt Ideal) ((c.tc : Thread Cert.QNormIdeal.nD Cert.QNormIdeal.τ).loc Cert.QNormIdeal.main_v0)),
      θ_run (Cert.QNormIdeal.defs (F := Ideal)) (onTc (τ := Cert.QNormIdeal.τ) (Cert.QNormIdeal.main (F := Ideal))) ⟨m, fun _ => 0, g⟩ (fun r => ∀ c : Dev Cert.QNormIdeal.nD,
          r.2.mem ((c.tc : Thread Cert.QNormIdeal.nD Cert.QNormIdeal.τ).loc Cert.QNormIdeal.main_v0) = v0 c
          ∧ r.2.mem ((c.tc : Thread Cert.QNormIdeal.nD Cert.QNormIdeal.τ).loc Cert.QNormIdeal.main_arg0) = m ((c.tc : Thread Cert.QNormIdeal.nD Cert.QNormIdeal.τ).loc Cert.QNormIdeal.main_arg0)
          ∧ r.2.mem ((c.tc : Thread Cert.QNormIdeal.nD Cert.QNormIdeal.τ).loc Cert.QNormIdeal.main_arg1) = m ((c.tc : Thread Cert.QNormIdeal.nD Cert.QNormIdeal.τ).loc Cert.QNormIdeal.main_arg1))
      ∧ θ_run (Cert.QNormRefIdeal.defs (F := Ideal)) (onTc (τ := Cert.QNormRefIdeal.τ) (Cert.QNormRefIdeal.main (F := Ideal))) ⟨m', fun _ => 0, g'⟩ (fun r => ∀ c : Dev Cert.QNormRefIdeal.nD,
          r.2.mem ((c.tc : Thread Cert.QNormRefIdeal.nD Cert.QNormRefIdeal.τ).loc Cert.QNormRefIdeal.main_v11) = v0 c
          ∧ r.2.mem ((c.tc : Thread Cert.QNormRefIdeal.nD Cert.QNormRefIdeal.τ).loc Cert.QNormRefIdeal.main_arg0) = m' ((c.tc : Thread Cert.QNormRefIdeal.nD Cert.QNormRefIdeal.τ).loc Cert.QNormRefIdeal.main_arg0)
          ∧ r.2.mem ((c.tc : Thread Cert.QNormRefIdeal.nD Cert.QNormRefIdeal.τ).loc Cert.QNormRefIdeal.main_arg1) = m' ((c.tc : Thread Cert.QNormRefIdeal.nD Cert.QNormRefIdeal.τ).loc Cert.QNormRefIdeal.main_arg1))

def preserves_MlaNorm_MlaNormIdeal : Prop :=
  True

def algebraic_MlaNormIdeal_MlaNormRefIdeal [hMlaNormIdeal : Cert.MlaNormIdeal.Facts] [hMlaNormRefIdeal : Cert.MlaNormRefIdeal.Facts] : Prop :=
  ∀ (m : (ℓ : Loc Cert.MlaNormIdeal.nD Cert.MlaNormIdeal.τ Cert.MlaNormIdeal.sig) → Buf (Elt Ideal) ℓ) (g : Dev Cert.MlaNormIdeal.nD → PrngReg)
    (m' : (ℓ : Loc Cert.MlaNormRefIdeal.nD Cert.MlaNormRefIdeal.τ Cert.MlaNormRefIdeal.sig) → Buf (Elt Ideal) ℓ) (g' : Dev Cert.MlaNormRefIdeal.nD → PrngReg), Pre_MlaNormIdeal m →
    (∀ c : Dev Cert.MlaNormIdeal.nD,
      m' ((c.tc : Thread Cert.MlaNormRefIdeal.nD Cert.MlaNormRefIdeal.τ).loc Cert.MlaNormRefIdeal.main_arg0) = m ((c.tc : Thread Cert.MlaNormIdeal.nD Cert.MlaNormIdeal.τ).loc Cert.MlaNormIdeal.main_arg0)
      ∧ m' ((c.tc : Thread Cert.MlaNormRefIdeal.nD Cert.MlaNormRefIdeal.τ).loc Cert.MlaNormRefIdeal.main_arg1) = m ((c.tc : Thread Cert.MlaNormIdeal.nD Cert.MlaNormIdeal.τ).loc Cert.MlaNormIdeal.main_arg1)
      ∧ m' ((c.tc : Thread Cert.MlaNormRefIdeal.nD Cert.MlaNormRefIdeal.τ).loc Cert.MlaNormRefIdeal.main_arg2) = m ((c.tc : Thread Cert.MlaNormIdeal.nD Cert.MlaNormIdeal.τ).loc Cert.MlaNormIdeal.main_arg2)) →
    ∃ (v0 : (c : Dev Cert.MlaNormIdeal.nD) → Buf (Elt Ideal) ((c.tc : Thread Cert.MlaNormIdeal.nD Cert.MlaNormIdeal.τ).loc Cert.MlaNormIdeal.main_v0)),
      θ_run (Cert.MlaNormIdeal.defs (F := Ideal)) (onTc (τ := Cert.MlaNormIdeal.τ) (Cert.MlaNormIdeal.main (F := Ideal))) ⟨m, fun _ => 0, g⟩ (fun r => ∀ c : Dev Cert.MlaNormIdeal.nD,
          r.2.mem ((c.tc : Thread Cert.MlaNormIdeal.nD Cert.MlaNormIdeal.τ).loc Cert.MlaNormIdeal.main_v0) = v0 c
          ∧ r.2.mem ((c.tc : Thread Cert.MlaNormIdeal.nD Cert.MlaNormIdeal.τ).loc Cert.MlaNormIdeal.main_arg0) = m ((c.tc : Thread Cert.MlaNormIdeal.nD Cert.MlaNormIdeal.τ).loc Cert.MlaNormIdeal.main_arg0)
          ∧ r.2.mem ((c.tc : Thread Cert.MlaNormIdeal.nD Cert.MlaNormIdeal.τ).loc Cert.MlaNormIdeal.main_arg1) = m ((c.tc : Thread Cert.MlaNormIdeal.nD Cert.MlaNormIdeal.τ).loc Cert.MlaNormIdeal.main_arg1)
          ∧ r.2.mem ((c.tc : Thread Cert.MlaNormIdeal.nD Cert.MlaNormIdeal.τ).loc Cert.MlaNormIdeal.main_arg2) = m ((c.tc : Thread Cert.MlaNormIdeal.nD Cert.MlaNormIdeal.τ).loc Cert.MlaNormIdeal.main_arg2))
      ∧ θ_run (Cert.MlaNormRefIdeal.defs (F := Ideal)) (onTc (τ := Cert.MlaNormRefIdeal.τ) (Cert.MlaNormRefIdeal.main (F := Ideal))) ⟨m', fun _ => 0, g'⟩ (fun r => ∀ c : Dev Cert.MlaNormRefIdeal.nD,
          r.2.mem ((c.tc : Thread Cert.MlaNormRefIdeal.nD Cert.MlaNormRefIdeal.τ).loc Cert.MlaNormRefIdeal.main_v20) = v0 c
          ∧ r.2.mem ((c.tc : Thread Cert.MlaNormRefIdeal.nD Cert.MlaNormRefIdeal.τ).loc Cert.MlaNormRefIdeal.main_arg0) = m' ((c.tc : Thread Cert.MlaNormRefIdeal.nD Cert.MlaNormRefIdeal.τ).loc Cert.MlaNormRefIdeal.main_arg0)
          ∧ r.2.mem ((c.tc : Thread Cert.MlaNormRefIdeal.nD Cert.MlaNormRefIdeal.τ).loc Cert.MlaNormRefIdeal.main_arg1) = m' ((c.tc : Thread Cert.MlaNormRefIdeal.nD Cert.MlaNormRefIdeal.τ).loc Cert.MlaNormRefIdeal.main_arg1)
          ∧ r.2.mem ((c.tc : Thread Cert.MlaNormRefIdeal.nD Cert.MlaNormRefIdeal.τ).loc Cert.MlaNormRefIdeal.main_arg2) = m' ((c.tc : Thread Cert.MlaNormRefIdeal.nD Cert.MlaNormRefIdeal.τ).loc Cert.MlaNormRefIdeal.main_arg2))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v20) = v0 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hGateUpDx : Cert.GateUpDx.Facts) (hGateUpDxIdeal : Cert.GateUpDxIdeal.Facts) (hGateUpDxRefIdeal : Cert.GateUpDxRefIdeal.Facts) (hGateUpDw : Cert.GateUpDw.Facts) (hGateUpDwIdeal : Cert.GateUpDwIdeal.Facts) (hGateUpDwRefIdeal : Cert.GateUpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hGlu : Cert.Glu.Facts) (hGluIdeal : Cert.GluIdeal.Facts) (hGluRefIdeal : Cert.GluRefIdeal.Facts) (hDqDx : Cert.DqDx.Facts) (hDqDxIdeal : Cert.DqDxIdeal.Facts) (hDqDxRefIdeal : Cert.DqDxRefIdeal.Facts) (hDqDw : Cert.DqDw.Facts) (hDqDwIdeal : Cert.DqDwIdeal.Facts) (hDqDwRefIdeal : Cert.DqDwRefIdeal.Facts) (hDq : Cert.Dq.Facts) (hDqIdeal : Cert.DqIdeal.Facts) (hDqRefIdeal : Cert.DqRefIdeal.Facts) (hWoDx : Cert.WoDx.Facts) (hWoDxIdeal : Cert.WoDxIdeal.Facts) (hWoDxRefIdeal : Cert.WoDxRefIdeal.Facts) (hWoDw : Cert.WoDw.Facts) (hWoDwIdeal : Cert.WoDwIdeal.Facts) (hWoDwRefIdeal : Cert.WoDwRefIdeal.Facts) (hWo : Cert.Wo.Facts) (hWoIdeal : Cert.WoIdeal.Facts) (hWoRefIdeal : Cert.WoRefIdeal.Facts) (hUqDx : Cert.UqDx.Facts) (hUqDxIdeal : Cert.UqDxIdeal.Facts) (hUqDxRefIdeal : Cert.UqDxRefIdeal.Facts) (hUqDw : Cert.UqDw.Facts) (hUqDwIdeal : Cert.UqDwIdeal.Facts) (hUqDwRefIdeal : Cert.UqDwRefIdeal.Facts) (hUq : Cert.Uq.Facts) (hUqIdeal : Cert.UqIdeal.Facts) (hUqRefIdeal : Cert.UqRefIdeal.Facts) (hKvBDx : Cert.KvBDx.Facts) (hKvBDxIdeal : Cert.KvBDxIdeal.Facts) (hKvBDxRefIdeal : Cert.KvBDxRefIdeal.Facts) (hKvBDw : Cert.KvBDw.Facts) (hKvBDwIdeal : Cert.KvBDwIdeal.Facts) (hKvBDwRefIdeal : Cert.KvBDwRefIdeal.Facts) (hKvBk : Cert.KvBk.Facts) (hKvBkIdeal : Cert.KvBkIdeal.Facts) (hKvBkRefIdeal : Cert.KvBkRefIdeal.Facts) (hKvBv : Cert.KvBv.Facts) (hKvBvIdeal : Cert.KvBvIdeal.Facts) (hKvBvRefIdeal : Cert.KvBvRefIdeal.Facts) (hKvADx : Cert.KvADx.Facts) (hKvADxIdeal : Cert.KvADxIdeal.Facts) (hKvADxRefIdeal : Cert.KvADxRefIdeal.Facts) (hKvADw : Cert.KvADw.Facts) (hKvADwIdeal : Cert.KvADwIdeal.Facts) (hKvADwRefIdeal : Cert.KvADwRefIdeal.Facts) (hKvA : Cert.KvA.Facts) (hKvAIdeal : Cert.KvAIdeal.Facts) (hKvARefIdeal : Cert.KvARefIdeal.Facts) (hAdaDw : Cert.AdaDw.Facts) (hAdaDwIdeal : Cert.AdaDwIdeal.Facts) (hAdaDwRefIdeal : Cert.AdaDwRefIdeal.Facts) (hAdaProj : Cert.AdaProj.Facts) (hAdaProjIdeal : Cert.AdaProjIdeal.Facts) (hAdaProjRefIdeal : Cert.AdaProjRefIdeal.Facts) (hActBwd : Cert.ActBwd.Facts) (hActBwdIdeal : Cert.ActBwdIdeal.Facts) (hActBwdRefIdeal : Cert.ActBwdRefIdeal.Facts) (hNorm : Cert.Norm.Facts) (hNormIdeal : Cert.NormIdeal.Facts) (hNormRefIdeal : Cert.NormRefIdeal.Facts) (hBbarBwd : Cert.BbarBwd.Facts) (hBbarBwdIdeal : Cert.BbarBwdIdeal.Facts) (hBbarBwdRefIdeal : Cert.BbarBwdRefIdeal.Facts) (hBbar : Cert.Bbar.Facts) (hBbarIdeal : Cert.BbarIdeal.Facts) (hBbarRefIdeal : Cert.BbarRefIdeal.Facts) (hGelu : Cert.Gelu.Facts) (hGeluIdeal : Cert.GeluIdeal.Facts) (hGeluRefIdeal : Cert.GeluRefIdeal.Facts) (hGateRes : Cert.GateRes.Facts) (hGateResIdeal : Cert.GateResIdeal.Facts) (hGateResRefIdeal : Cert.GateResRefIdeal.Facts) (hMlaRes : Cert.MlaRes.Facts) (hMlaResIdeal : Cert.MlaResIdeal.Facts) (hMlaResRefIdeal : Cert.MlaResRefIdeal.Facts) (hFfnRes : Cert.FfnRes.Facts) (hFfnResIdeal : Cert.FfnResIdeal.Facts) (hFfnResRefIdeal : Cert.FfnResRefIdeal.Facts) (hQNorm : Cert.QNorm.Facts) (hQNormIdeal : Cert.QNormIdeal.Facts) (hQNormRefIdeal : Cert.QNormRefIdeal.Facts) (hMlaNorm : Cert.MlaNorm.Facts) (hMlaNormIdeal : Cert.MlaNormIdeal.Facts) (hMlaNormRefIdeal : Cert.MlaNormRefIdeal.Facts) (hFfnNorm : Cert.FfnNorm.Facts) (hFfnNormIdeal : Cert.FfnNormIdeal.Facts) (hFfnNormRefIdeal : Cert.FfnNormRefIdeal.Facts) (hAdamw : Cert.Adamw.Facts) (hAdamwIdeal : Cert.AdamwIdeal.Facts) (hAdamwRefIdeal : Cert.AdamwRefIdeal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite_forward (hFwdIdeal := hFwdIdeal) (hPre_finite_forward := hPre_finite_forward)
    ∧ quiescent_FwdRefIdeal (hFwdRefIdeal := hFwdRefIdeal)
    ∧ quiescent_FwdRefIdeal_pre_finite_forward (hFwdRefIdeal := hFwdRefIdeal) (hPre_finite_forward := hPre_finite_forward)
    ∧ quiescent_GateUpDx (hGateUpDx := hGateUpDx)
    ∧ quiescent_GateUpDxIdeal (hGateUpDxIdeal := hGateUpDxIdeal)
    ∧ quiescent_GateUpDxRefIdeal (hGateUpDxRefIdeal := hGateUpDxRefIdeal)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_Glu (hGlu := hGlu)
    ∧ quiescent_GluIdeal (hGluIdeal := hGluIdeal)
    ∧ quiescent_GluRefIdeal (hGluRefIdeal := hGluRefIdeal)
    ∧ quiescent_DqDx (hDqDx := hDqDx)
    ∧ quiescent_DqDxIdeal (hDqDxIdeal := hDqDxIdeal)
    ∧ quiescent_DqDxRefIdeal (hDqDxRefIdeal := hDqDxRefIdeal)
    ∧ quiescent_DqDw (hDqDw := hDqDw)
    ∧ quiescent_DqDwIdeal (hDqDwIdeal := hDqDwIdeal)
    ∧ quiescent_DqDwRefIdeal (hDqDwRefIdeal := hDqDwRefIdeal)
    ∧ quiescent_Dq (hDq := hDq)
    ∧ quiescent_DqIdeal (hDqIdeal := hDqIdeal)
    ∧ quiescent_DqRefIdeal (hDqRefIdeal := hDqRefIdeal)
    ∧ quiescent_WoDx (hWoDx := hWoDx)
    ∧ quiescent_WoDxIdeal (hWoDxIdeal := hWoDxIdeal)
    ∧ quiescent_WoDxRefIdeal (hWoDxRefIdeal := hWoDxRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_Wo (hWo := hWo)
    ∧ quiescent_WoIdeal (hWoIdeal := hWoIdeal)
    ∧ quiescent_WoRefIdeal (hWoRefIdeal := hWoRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_Uq (hUq := hUq)
    ∧ quiescent_UqIdeal (hUqIdeal := hUqIdeal)
    ∧ quiescent_UqRefIdeal (hUqRefIdeal := hUqRefIdeal)
    ∧ quiescent_KvBDx (hKvBDx := hKvBDx)
    ∧ quiescent_KvBDxIdeal (hKvBDxIdeal := hKvBDxIdeal)
    ∧ quiescent_KvBDxRefIdeal (hKvBDxRefIdeal := hKvBDxRefIdeal)
    ∧ quiescent_KvBDw (hKvBDw := hKvBDw)
    ∧ quiescent_KvBDwIdeal (hKvBDwIdeal := hKvBDwIdeal)
    ∧ quiescent_KvBDwRefIdeal (hKvBDwRefIdeal := hKvBDwRefIdeal)
    ∧ quiescent_KvBk (hKvBk := hKvBk)
    ∧ quiescent_KvBkIdeal (hKvBkIdeal := hKvBkIdeal)
    ∧ quiescent_KvBkRefIdeal (hKvBkRefIdeal := hKvBkRefIdeal)
    ∧ quiescent_KvBv (hKvBv := hKvBv)
    ∧ quiescent_KvBvIdeal (hKvBvIdeal := hKvBvIdeal)
    ∧ quiescent_KvBvRefIdeal (hKvBvRefIdeal := hKvBvRefIdeal)
    ∧ quiescent_KvADx (hKvADx := hKvADx)
    ∧ quiescent_KvADxIdeal (hKvADxIdeal := hKvADxIdeal)
    ∧ quiescent_KvADxRefIdeal (hKvADxRefIdeal := hKvADxRefIdeal)
    ∧ quiescent_KvADw (hKvADw := hKvADw)
    ∧ quiescent_KvADwIdeal (hKvADwIdeal := hKvADwIdeal)
    ∧ quiescent_KvADwRefIdeal (hKvADwRefIdeal := hKvADwRefIdeal)
    ∧ quiescent_KvA (hKvA := hKvA)
    ∧ quiescent_KvAIdeal (hKvAIdeal := hKvAIdeal)
    ∧ quiescent_KvARefIdeal (hKvARefIdeal := hKvARefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaProj (hAdaProj := hAdaProj)
    ∧ quiescent_AdaProjIdeal (hAdaProjIdeal := hAdaProjIdeal)
    ∧ quiescent_AdaProjRefIdeal (hAdaProjRefIdeal := hAdaProjRefIdeal)
    ∧ quiescent_ActBwd (hActBwd := hActBwd)
    ∧ quiescent_ActBwdIdeal (hActBwdIdeal := hActBwdIdeal)
    ∧ quiescent_ActBwdRefIdeal (hActBwdRefIdeal := hActBwdRefIdeal)
    ∧ quiescent_Norm (hNorm := hNorm)
    ∧ quiescent_NormIdeal (hNormIdeal := hNormIdeal)
    ∧ quiescent_NormRefIdeal (hNormRefIdeal := hNormRefIdeal)
    ∧ quiescent_BbarBwd (hBbarBwd := hBbarBwd)
    ∧ quiescent_BbarBwdIdeal (hBbarBwdIdeal := hBbarBwdIdeal)
    ∧ quiescent_BbarBwdRefIdeal (hBbarBwdRefIdeal := hBbarBwdRefIdeal)
    ∧ quiescent_Bbar (hBbar := hBbar)
    ∧ quiescent_BbarIdeal (hBbarIdeal := hBbarIdeal)
    ∧ quiescent_BbarRefIdeal (hBbarRefIdeal := hBbarRefIdeal)
    ∧ quiescent_Gelu (hGelu := hGelu)
    ∧ quiescent_GeluIdeal (hGeluIdeal := hGeluIdeal)
    ∧ quiescent_GeluRefIdeal (hGeluRefIdeal := hGeluRefIdeal)
    ∧ quiescent_GateRes (hGateRes := hGateRes)
    ∧ quiescent_GateResIdeal (hGateResIdeal := hGateResIdeal)
    ∧ quiescent_GateResRefIdeal (hGateResRefIdeal := hGateResRefIdeal)
    ∧ quiescent_MlaRes (hMlaRes := hMlaRes)
    ∧ quiescent_MlaResIdeal (hMlaResIdeal := hMlaResIdeal)
    ∧ quiescent_MlaResRefIdeal (hMlaResRefIdeal := hMlaResRefIdeal)
    ∧ quiescent_FfnRes (hFfnRes := hFfnRes)
    ∧ quiescent_FfnResIdeal (hFfnResIdeal := hFfnResIdeal)
    ∧ quiescent_FfnResRefIdeal (hFfnResRefIdeal := hFfnResRefIdeal)
    ∧ quiescent_QNorm (hQNorm := hQNorm)
    ∧ quiescent_QNormIdeal (hQNormIdeal := hQNormIdeal)
    ∧ quiescent_QNormRefIdeal (hQNormRefIdeal := hQNormRefIdeal)
    ∧ quiescent_MlaNorm (hMlaNorm := hMlaNorm)
    ∧ quiescent_MlaNormIdeal (hMlaNormIdeal := hMlaNormIdeal)
    ∧ quiescent_MlaNormRefIdeal (hMlaNormRefIdeal := hMlaNormRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdRefIdeal_pre_finite_forward (hFwdIdeal := hFwdIdeal) (hFwdRefIdeal := hFwdRefIdeal) (hPre_finite_forward := hPre_finite_forward)
    ∧ preserves_GateUpDx_GateUpDxIdeal
    ∧ algebraic_GateUpDxIdeal_GateUpDxRefIdeal (hGateUpDxIdeal := hGateUpDxIdeal) (hGateUpDxRefIdeal := hGateUpDxRefIdeal)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_Glu_GluIdeal
    ∧ algebraic_GluIdeal_GluRefIdeal (hGluIdeal := hGluIdeal) (hGluRefIdeal := hGluRefIdeal)
    ∧ preserves_DqDx_DqDxIdeal
    ∧ algebraic_DqDxIdeal_DqDxRefIdeal (hDqDxIdeal := hDqDxIdeal) (hDqDxRefIdeal := hDqDxRefIdeal)
    ∧ preserves_DqDw_DqDwIdeal
    ∧ algebraic_DqDwIdeal_DqDwRefIdeal (hDqDwIdeal := hDqDwIdeal) (hDqDwRefIdeal := hDqDwRefIdeal)
    ∧ preserves_Dq_DqIdeal
    ∧ algebraic_DqIdeal_DqRefIdeal (hDqIdeal := hDqIdeal) (hDqRefIdeal := hDqRefIdeal)
    ∧ preserves_WoDx_WoDxIdeal
    ∧ algebraic_WoDxIdeal_WoDxRefIdeal (hWoDxIdeal := hWoDxIdeal) (hWoDxRefIdeal := hWoDxRefIdeal)
    ∧ preserves_WoDw_WoDwIdeal
    ∧ algebraic_WoDwIdeal_WoDwRefIdeal (hWoDwIdeal := hWoDwIdeal) (hWoDwRefIdeal := hWoDwRefIdeal)
    ∧ preserves_Wo_WoIdeal
    ∧ algebraic_WoIdeal_WoRefIdeal (hWoIdeal := hWoIdeal) (hWoRefIdeal := hWoRefIdeal)
    ∧ preserves_UqDx_UqDxIdeal
    ∧ algebraic_UqDxIdeal_UqDxRefIdeal (hUqDxIdeal := hUqDxIdeal) (hUqDxRefIdeal := hUqDxRefIdeal)
    ∧ preserves_UqDw_UqDwIdeal
    ∧ algebraic_UqDwIdeal_UqDwRefIdeal (hUqDwIdeal := hUqDwIdeal) (hUqDwRefIdeal := hUqDwRefIdeal)
    ∧ preserves_Uq_UqIdeal
    ∧ algebraic_UqIdeal_UqRefIdeal (hUqIdeal := hUqIdeal) (hUqRefIdeal := hUqRefIdeal)
    ∧ preserves_KvBDx_KvBDxIdeal
    ∧ algebraic_KvBDxIdeal_KvBDxRefIdeal (hKvBDxIdeal := hKvBDxIdeal) (hKvBDxRefIdeal := hKvBDxRefIdeal)
    ∧ preserves_KvBDw_KvBDwIdeal
    ∧ algebraic_KvBDwIdeal_KvBDwRefIdeal (hKvBDwIdeal := hKvBDwIdeal) (hKvBDwRefIdeal := hKvBDwRefIdeal)
    ∧ preserves_KvBk_KvBkIdeal
    ∧ algebraic_KvBkIdeal_KvBkRefIdeal (hKvBkIdeal := hKvBkIdeal) (hKvBkRefIdeal := hKvBkRefIdeal)
    ∧ preserves_KvBv_KvBvIdeal
    ∧ algebraic_KvBvIdeal_KvBvRefIdeal (hKvBvIdeal := hKvBvIdeal) (hKvBvRefIdeal := hKvBvRefIdeal)
    ∧ preserves_KvADx_KvADxIdeal
    ∧ algebraic_KvADxIdeal_KvADxRefIdeal (hKvADxIdeal := hKvADxIdeal) (hKvADxRefIdeal := hKvADxRefIdeal)
    ∧ preserves_KvADw_KvADwIdeal
    ∧ algebraic_KvADwIdeal_KvADwRefIdeal (hKvADwIdeal := hKvADwIdeal) (hKvADwRefIdeal := hKvADwRefIdeal)
    ∧ preserves_KvA_KvAIdeal
    ∧ algebraic_KvAIdeal_KvARefIdeal (hKvAIdeal := hKvAIdeal) (hKvARefIdeal := hKvARefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaProj_AdaProjIdeal
    ∧ algebraic_AdaProjIdeal_AdaProjRefIdeal (hAdaProjIdeal := hAdaProjIdeal) (hAdaProjRefIdeal := hAdaProjRefIdeal)
    ∧ preserves_ActBwd_ActBwdIdeal
    ∧ algebraic_ActBwdIdeal_ActBwdRefIdeal (hActBwdIdeal := hActBwdIdeal) (hActBwdRefIdeal := hActBwdRefIdeal)
    ∧ preserves_Norm_NormIdeal
    ∧ algebraic_NormIdeal_NormRefIdeal (hNormIdeal := hNormIdeal) (hNormRefIdeal := hNormRefIdeal)
    ∧ preserves_BbarBwd_BbarBwdIdeal
    ∧ algebraic_BbarBwdIdeal_BbarBwdRefIdeal (hBbarBwdIdeal := hBbarBwdIdeal) (hBbarBwdRefIdeal := hBbarBwdRefIdeal)
    ∧ preserves_Bbar_BbarIdeal
    ∧ algebraic_BbarIdeal_BbarRefIdeal (hBbarIdeal := hBbarIdeal) (hBbarRefIdeal := hBbarRefIdeal)
    ∧ preserves_Gelu_GeluIdeal
    ∧ algebraic_GeluIdeal_GeluRefIdeal (hGeluIdeal := hGeluIdeal) (hGeluRefIdeal := hGeluRefIdeal)
    ∧ preserves_GateRes_GateResIdeal
    ∧ algebraic_GateResIdeal_GateResRefIdeal (hGateResIdeal := hGateResIdeal) (hGateResRefIdeal := hGateResRefIdeal)
    ∧ preserves_MlaRes_MlaResIdeal
    ∧ algebraic_MlaResIdeal_MlaResRefIdeal (hMlaResIdeal := hMlaResIdeal) (hMlaResRefIdeal := hMlaResRefIdeal)
    ∧ preserves_FfnRes_FfnResIdeal
    ∧ algebraic_FfnResIdeal_FfnResRefIdeal (hFfnResIdeal := hFfnResIdeal) (hFfnResRefIdeal := hFfnResRefIdeal)
    ∧ preserves_QNorm_QNormIdeal
    ∧ algebraic_QNormIdeal_QNormRefIdeal (hQNormIdeal := hQNormIdeal) (hQNormRefIdeal := hQNormRefIdeal)
    ∧ preserves_MlaNorm_MlaNormIdeal
    ∧ algebraic_MlaNormIdeal_MlaNormRefIdeal (hMlaNormIdeal := hMlaNormIdeal) (hMlaNormRefIdeal := hMlaNormRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_Adamw_AdamwIdeal
    ∧ algebraic_AdamwIdeal_AdamwRefIdeal (hAdamwIdeal := hAdamwIdeal) (hAdamwRefIdeal := hAdamwRefIdeal)
-- ==== Pre_finite.lean ====
abbrev S4096x16x64 : Shape := ⟨3, ![4096, 16, 64]⟩
abbrev S4096x16x32 : Shape := ⟨3, ![4096, 16, 32]⟩
abbrev S_ : Shape := ⟨0, ![]⟩

class Facts : Prop where
  bcast_S_S4096x16x64 : S_.BroadcastsInDim S4096x16x64 (![] : Fin 0 → Fin S4096x16x64.rank)
  reducesTo_S4096x16x64_S_d0_1_2 : S4096x16x64.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_

variable [Facts]

def fn_part2 {F : FTy → Type} [FloatOps F] (main_arg5 : FVec F S4096x16x64 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S4096x16x64 .f32 := broadcastInDim S4096x16x64 ![] bcast_S_S4096x16x64 main_cst_13
  let main_v35 : IVec S4096x16x64 1 := cmpf .ogt main_arg5 main_v34
  let main_cst_14 : FVec F S_ .f32 := constant S_ .f32 0x7F800000#32
  let main_v36 : FVec F S4096x16x64 .f32 := broadcastInDim S4096x16x64 ![] bcast_S_S4096x16x64 main_cst_14
  let main_v37 : IVec S4096x16x64 1 := cmpf .olt main_arg5 main_v36
  let main_v38 : IVec S4096x16x64 1 := andi main_v35 main_v37
  let main_c_15 : IVec S_ 1 := constantI S_ 1 1#1
  let main_v39 : IVec S_ 1 := (fun x v => Host.reduce IntOp.andi x v reducesTo_S4096x16x64_S_d0_1_2 h_S_) main_v38 main_c_15
  let main_v40 : IVec S_ 1 := andi main_v33 main_v39
  main_v40

def fn_part1 {F : FTy → Type} [FloatOps F] (main_arg2 : FVec F S4096x16x64 .f32) (main_arg3 : FVec F S4096x16x32 .f32) (main_arg4 : FVec F S4096x16x64 .f32) (main_arg5 : FVec F S4096x16x64 .f32) (main_v12 : IVec S_ 1) (main_v14 : IVec S4096x16x64 1) (main_v15 : FVec F S4096x16x64 .f32) : IVec S_ 1 :=
  let main_v16 : IVec S4096x16x64 1 := cmpf .olt main_arg2 main_v15
  let main_v17 : IVec S4096x16x64 1 := andi main_v14 main_v16
  let main_c_6 : IVec S_ 1 := constantI S_ 1 1#1
  let main_v18 : IVec S_ 1 := (fun x v => Host.reduce IntOp.andi x v reducesTo_S4096x16x64_S_d0_1_2 h_S_) main_v17 main_c_6
  let main_v19 : IVec S_ 1 := andi main_v12 main_v18
  let main_cst_7 : FVec F S_ .f32 := constant S_ .f32 0xFF800000#32
  let main_v20 : FVec F S4096x16x32 .f32 := broadcastInDim S4096x16x32 ![] bcast_S_S4096x16x32 main_cst_7
  let main_v21 : IVec S4096x16x32 1 := cmpf .ogt main_arg3 main_v20
  let main_cst_8 : FVec F S_ .f32 := constant S_ .f32 0x7F800000#32
  let main_v22 : FVec F S4096x16x32 .f32 := broadcastInDim S4096x16x32 ![] bcast_S_S4096x16x32 main_cst_8
  let main_v23 : IVec S4096x16x32 1 := cmpf .olt main_arg3 main_v22
  let main_v24 : IVec S4096x16x32 1 := andi main_v21 main_v23
  let main_c_9 : IVec S_ 1 := constantI S_ 1 1#1
  let main_v25 : IVec S_ 1 := (fun x v => Host.reduce IntOp.andi x v reducesTo_S4096x16x32_S_d0_1_2 h_S_) main_v24 main_c_9
  let main_v26 : IVec S_ 1 := andi main_v19 main_v25
  let main_cst_10 : FVec F S_ .f32 := constant S_ .f32 0xFF800000#32
  let main_v27 : FVec F S4096x16x64 .f32 := broadcastInDim S4096x16x64 ![] bcast_S_S4096x16x64 main_cst_10
  let main_v28 : IVec S4096x16x64 1 := cmpf .ogt main_arg4 main_v27
  let main_cst_11 : FVec F S_ .f32 := constant S_ .f32 0x7F800000#32
  let main_v29 : FVec F S4096x16x64 .f32 := broadcastInDim S4096x16x64 ![] bcast_S_S4096x16x64 main_cst_11
  let main_v30 : IVec S4096x16x64 1 := cmpf .olt main_arg4 main_v29
  let main_v31 : IVec S4096x16x64 1 := andi main_v28 main_v30
  let main_c_12 : IVec S_ 1 := constantI S_ 1 1#1
  let main_v32 : IVec S_ 1 := (fun x v => Host.reduce IntOp.andi x v reducesTo_S4096x16x64_S_d0_1_2 h_S_) main_v31 main_c_12
  fn_part2 (F := F) main_arg5 main_v26 main_v32

def fn {F : FTy → Type} [FloatOps F] (main_arg0 : FVec F S4096x16x64 .f32) (main_arg1 : FVec F S4096x16x32 .f32) (main_arg2 : FVec F S4096x16x64 .f32) (main_arg3 : FVec F S4096x16x32 .f32) (main_arg4 : FVec F S4096x16x64 .f32) (main_arg5 : FVec F S4096x16x64 .f32) : IVec S_ 1 :=
  let main_cst : FVec F S_ .f32 := constant S_ .f32 0xFF800000#32
  let main_v0 : FVec F S4096x16x64 .f32 := broadcastInDim S4096x16x64 ![] bcast_S_S4096x16x64 main_cst
  let main_v1 : IVec S4096x16x64 1 := cmpf .ogt main_arg0 main_v0
  let main_cst_0 : FVec F S_ .f32 := constant S_ .f32 0x7F800000#32
  let main_v2 : FVec F S4096x16x64 .f32 := broadcastInDim S4096x16x64 ![] bcast_S_S4096x16x64 main_cst_0
  let main_v3 : IVec S4096x16x64 1 := cmpf .olt main_arg0 main_v2
  let main_v4 : IVec S4096x16x64 1 := andi main_v1 main_v3
  let main_c : IVec S_ 1 := constantI S_ 1 1#1
  let main_v5 : IVec S_ 1 := (fun x v => Host.reduce IntOp.andi x v reducesTo_S4096x16x64_S_d0_1_2 h_S_) main_v4 main_c
  let main_cst_1 : FVec F S_ .f32 := constant S_ .f32 0xFF800000#32
  let main_v6 : FVec F S4096x16x32 .f32 := broadcastInDim S4096x16x32 ![] bcast_S_S4096x16x32 main_cst_1
  let main_v7 : IVec S4096x16x32 1 := cmpf .ogt main_arg1 main_v6
  let main_cst_2 : FVec F S_ .f32 := constant S_ .f32 0x7F800000#32
  let main_v8 : FVec F S4096x16x32 .f32 := broadcastInDim S4096x16x32 ![] bcast_S_S4096x16x32 main_cst_2
  let main_v9 : IVec S4096x16x32 1 := cmpf .olt main_arg1 main_v8
  let main_v10 : IVec S4096x16x32 1 := andi main_v7 main_v9
  let main_c_3 : IVec S_ 1 := constantI S_ 1 1#1
  let main_v11 : IVec S_ 1 := (fun x v => Host.reduce IntOp.andi x v reducesTo_S4096x16x32_S_d0_1_2 h_S_) main_v10 main_c_3
  let main_v12 : IVec S_ 1 := andi main_v5 main_v11
  let main_cst_4 : FVec F S_ .f32 := constant S_ .f32 0xFF800000#32
  let main_v13 : FVec F S4096x16x64 .f32 := broadcastInDim S4096x16x64 ![] bcast_S_S4096x16x64 main_cst_4
  let main_v14 : IVec S4096x16x64 1 := cmpf .ogt main_arg2 main_v13
  let main_cst_5 : FVec F S_ .f32 := constant S_ .f32 0x7F800000#32
  let main_v15 : FVec F S4096x16x64 .f32 := broadcastInDim S4096x16x64 ![] bcast_S_S4096x16x64 main_cst_5
  fn_part1 (F := F) main_arg2 main_arg3 main_arg4 main_arg5 main_v12 main_v14 main_v15
-- ==== Pre_finite_forward.lean ====
abbrev S4096x16x64 : Shape := ⟨3, ![4096, 16, 64]⟩
abbrev S4096x16x32 : Shape := ⟨3, ![4096, 16, 32]⟩
abbrev S_ : Shape := ⟨0, ![]⟩

class Facts : Prop where
  bcast_S_S4096x16x64 : S_.BroadcastsInDim S4096x16x64 (![] : Fin 0 → Fin S4096x16x64.rank)
  reducesTo_S4096x16x64_S_d0_1_2 : S4096x16x64.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S4096x16x64 .f32) (main_arg3 : FVec F S4096x16x32 .f32) (main_arg4 : FVec F S4096x16x64 .f32) (main_v12 : IVec S_ 1) (main_v14 : IVec S4096x16x64 1) (main_v15 : FVec F S4096x16x64 .f32) : IVec S_ 1 :=
  let main_v16 : IVec S4096x16x64 1 := cmpf .olt main_arg2 main_v15
  let main_v17 : IVec S4096x16x64 1 := andi main_v14 main_v16
  let main_c_6 : IVec S_ 1 := constantI S_ 1 1#1
  let main_v18 : IVec S_ 1 := (fun x v => Host.reduce IntOp.andi x v reducesTo_S4096x16x64_S_d0_1_2 h_S_) main_v17 main_c_6
  let main_v19 : IVec S_ 1 := andi main_v12 main_v18
  let main_cst_7 : FVec F S_ .f32 := constant S_ .f32 0xFF800000#32
  let main_v20 : FVec F S4096x16x32 .f32 := broadcastInDim S4096x16x32 ![] bcast_S_S4096x16x32 main_cst_7
  let main_v21 : IVec S4096x16x32 1 := cmpf .ogt main_arg3 main_v20
  let main_cst_8 : FVec F S_ .f32 := constant S_ .f32 0x7F800000#32
  let main_v22 : FVec F S4096x16x32 .f32 := broadcastInDim S4096x16x32 ![] bcast_S_S4096x16x32 main_cst_8
  let main_v23 : IVec S4096x16x32 1 := cmpf .olt main_arg3 main_v22
  let main_v24 : IVec S4096x16x32 1 := andi main_v21 main_v23
  let main_c_9 : IVec S_ 1 := constantI S_ 1 1#1
  let main_v25 : IVec S_ 1 := (fun x v => Host.reduce IntOp.andi x v reducesTo_S4096x16x32_S_d0_1_2 h_S_) main_v24 main_c_9
  let main_v26 : IVec S_ 1 := andi main_v19 main_v25
  let main_cst_10 : FVec F S_ .f32 := constant S_ .f32 0xFF800000#32
  let main_v27 : FVec F S4096x16x64 .f32 := broadcastInDim S4096x16x64 ![] bcast_S_S4096x16x64 main_cst_10
  let main_v28 : IVec S4096x16x64 1 := cmpf .ogt main_arg4 main_v27
  let main_cst_11 : FVec F S_ .f32 := constant S_ .f32 0x7F800000#32
  let main_v29 : FVec F S4096x16x64 .f32 := broadcastInDim S4096x16x64 ![] bcast_S_S4096x16x64 main_cst_11
  let main_v30 : IVec S4096x16x64 1 := cmpf .olt main_arg4 main_v29
  let main_v31 : IVec S4096x16x64 1 := andi main_v28 main_v30
  let main_c_12 : IVec S_ 1 := constantI S_ 1 1#1
  let main_v32 : IVec S_ 1 := (fun x v => Host.reduce IntOp.andi x v reducesTo_S4096x16x64_S_d0_1_2 h_S_) main_v31 main_c_12
  fn_part2 (F := F) main_v26 main_v32

def fn {F : FTy → Type} [FloatOps F] (main_arg0 : FVec F S4096x16x64 .f32) (main_arg1 : FVec F S4096x16x32 .f32) (main_arg2 : FVec F S4096x16x64 .f32) (main_arg3 : FVec F S4096x16x32 .f32) (main_arg4 : FVec F S4096x16x64 .f32) : IVec S_ 1 :=
  let main_cst : FVec F S_ .f32 := constant S_ .f32 0xFF800000#32
  let main_v0 : FVec F S4096x16x64 .f32 := broadcastInDim S4096x16x64 ![] bcast_S_S4096x16x64 main_cst
  let main_v1 : IVec S4096x16x64 1 := cmpf .ogt main_arg0 main_v0
  let main_cst_0 : FVec F S_ .f32 := constant S_ .f32 0x7F800000#32
  let main_v2 : FVec F S4096x16x64 .f32 := broadcastInDim S4096x16x64 ![] bcast_S_S4096x16x64 main_cst_0
  let main_v3 : IVec S4096x16x64 1 := cmpf .olt main_arg0 main_v2
  let main_v4 : IVec S4096x16x64 1 := andi main_v1 main_v3
  let main_c : IVec S_ 1 := constantI S_ 1 1#1
  let main_v5 : IVec S_ 1 := (fun x v => Host.reduce IntOp.andi x v reducesTo_S4096x16x64_S_d0_1_2 h_S_) main_v4 main_c
  let main_cst_1 : FVec F S_ .f32 := constant S_ .f32 0xFF800000#32
  let main_v6 : FVec F S4096x16x32 .f32 := broadcastInDim S4096x16x32 ![] bcast_S_S4096x16x32 main_cst_1
  let main_v7 : IVec S4096x16x32 1 := cmpf .ogt main_arg1 main_v6
  let main_cst_2 : FVec F S_ .f32 := constant S_ .f32 0x7F800000#32
  let main_v8 : FVec F S4096x16x32 .f32 := broadcastInDim S4096x16x32 ![] bcast_S_S4096x16x32 main_cst_2
  let main_v9 : IVec S4096x16x32 1 := cmpf .olt main_arg1 main_v8
  let main_v10 : IVec S4096x16x32 1 := andi main_v7 main_v9
  let main_c_3 : IVec S_ 1 := constantI S_ 1 1#1
  let main_v11 : IVec S_ 1 := (fun x v => Host.reduce IntOp.andi x v reducesTo_S4096x16x32_S_d0_1_2 h_S_) main_v10 main_c_3
  let main_v12 : IVec S_ 1 := andi main_v5 main_v11
  let main_cst_4 : FVec F S_ .f32 := constant S_ .f32 0xFF800000#32
  let main_v13 : FVec F S4096x16x64 .f32 := broadcastInDim S4096x16x64 ![] bcast_S_S4096x16x64 main_cst_4
  let main_v14 : IVec S4096x16x64 1 := cmpf .ogt main_arg2 main_v13
  let main_cst_5 : FVec F S_ .f32 := constant S_ .f32 0x7F800000#32
  let main_v15 : FVec F S4096x16x64 .f32 := broadcastInDim S4096x16x64 ![] bcast_S_S4096x16x64 main_cst_5
  fn_part1 (F := F) main_arg2 main_arg3 main_arg4 main_v12 main_v14 main_v15
-- ==== Kernel.lean ====
abbrev S4096x16x64 : Shape := ⟨3, ![4096, 16, 64]⟩
abbrev S4096x16x32 : Shape := ⟨3, ![4096, 16, 32]⟩
abbrev S4096x16x96 : Shape := ⟨3, ![4096, 16, 96]⟩
abbrev S_ : Shape := ⟨0, ![]⟩
abbrev S4096x16x128 : Shape := ⟨3, ![4096, 16, 128]⟩
abbrev S4096x2048 : Shape := ⟨2, ![4096, 2048]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x128 : Shape := ⟨2, ![4096, 128]⟩
abbrev S512x128 : Shape := ⟨2, ![512, 128]⟩
abbrev S1x4096x1 : Shape := ⟨3, ![1, 4096, 1]⟩
abbrev S512x512 : Shape := ⟨2, ![512, 512]⟩

abbrev nBuf : Space → Nat
  | .hbm => 134
  | .vmem => 22
  | .smem => 0
  | _ => 0

abbrev hbmTy0_0 (i : Nat) : BufTy := match i % 128 with
  | 0 => ⟨S4096x16x64, .f32⟩
  | 1 => ⟨S4096x16x32, .f32⟩
  | 2 => ⟨S4096x16x64, .f32⟩
  | 3 => ⟨S4096x16x32, .f32⟩
  | 4 => ⟨S4096x16x64, .f32⟩
  | 5 => ⟨S4096x16x64, .f32⟩
  | 6 => ⟨S4096x16x96, .f32⟩
  | 7 => ⟨S_, .i32⟩
  | 8 => ⟨S_, .f32⟩
  | 9 => ⟨S4096x16x128, .f32⟩
  | 10 => ⟨S4096x2048, .f32⟩
  | 11 => ⟨S4096x2048, .bf16⟩
  | 12 => ⟨S4096x16x96, .f32⟩
  | 13 => ⟨S_, .i32⟩
  | 14 => ⟨S_, .f32⟩
  | 15 => ⟨S4096x16x128, .f32⟩
  | 16 => ⟨S4096x2048, .f32⟩
  | 17 => ⟨S4096x2048, .bf16⟩
  | 18 => ⟨S16x4096x4096, .f32⟩
  | 19 => ⟨S16x4096x4096, .f32⟩
  | 20 => ⟨S16x4096x4096, .f32⟩
  | 21 => ⟨S_, .f32⟩
  | 22 => ⟨S16x4096x4096, .f32⟩
  | 23 => ⟨S16x4096x4096, .f32⟩
  | 24 => ⟨S4096, .i32⟩
  | 25 => ⟨S_, .i32⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S4096, .i32⟩
  | 34 => ⟨S4096, .i32⟩
  | 35 => ⟨S_, .i32⟩
  | 36 => ⟨S4096, .i32⟩
  | 37 => ⟨S4096, .i1⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S1x4096, .i32⟩
  | 45 => ⟨S4096x4096, .i32⟩
  | 46 => ⟨S4096x4096, .i32⟩
  | 47 => ⟨S4096x4096, .i1⟩
  | 48 => ⟨S1x4096x4096, .i1⟩
  | 49 => ⟨S_, .f32⟩
  | 50 => ⟨S_, .f32⟩
  | 51 => ⟨S16x4096x4096, .i1⟩
  | 52 => ⟨S16x4096x4096, .f32⟩
  | 53 => ⟨S16x4096x4096, .f32⟩
  | 54 => ⟨S_, .f32⟩
  | 55 => ⟨S16x4096, .f32⟩
  | 56 => ⟨S_, .f32⟩
  | 57 => ⟨S16x4096, .f32⟩
  | 58 => ⟨S16x4096, .f32⟩
  | 59 => ⟨S16x4096x1, .f32⟩
  | 60 => ⟨S16x4096x4096, .f32⟩
  | 61 => ⟨S16x4096x4096, .f32⟩
  | 62 => ⟨S16x4096x4096, .f32⟩
  | 63 => ⟨S_, .f32⟩
  | 64 => ⟨S16x4096, .f32⟩
  | 65 => ⟨S16x4096x1, .f32⟩
  | 66 => ⟨S16x4096x4096, .f32⟩
  | 67 => ⟨S16x4096x4096, .f32⟩
  | 68 => ⟨S16x64x4096, .f32⟩
  | 69 => ⟨S4096x16x64, .f32⟩
  | 70 => ⟨S_, .i32⟩
  | 71 => ⟨S_, .f32⟩
  | 72 => ⟨S4096x16x128, .f32⟩
  | 73 => ⟨S4096x2048, .f32⟩
  | 74 => ⟨S16x4096x4096, .f32⟩
  | 75 => ⟨S16x4096x4096, .f32⟩
  | 76 => ⟨S16x4096x4096, .f32⟩
  | 77 => ⟨S_, .f32⟩
  | 78 => ⟨S16x4096x4096, .f32⟩
  | 79 => ⟨S16x4096x4096, .f32⟩
  | 80 => ⟨S4096, .i32⟩
  | 81 => ⟨S_, .i32⟩
  | 82 => ⟨S_, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i1⟩
  | 89 => ⟨S4096, .i32⟩
  | 90 => ⟨S4096, .i32⟩
  | 91 => ⟨S_, .i32⟩
  | 92 => ⟨S4096, .i32⟩
  | 93 => ⟨S4096, .i1⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S1x4096, .i32⟩
  | 101 => ⟨S4096x4096, .i32⟩
  | 102 => ⟨S4096x4096, .i32⟩
  | 103 => ⟨S4096x4096, .i1⟩
  | 104 => ⟨S1x4096x4096, .i1⟩
  | 105 => ⟨S_, .f32⟩
  | 106 => ⟨S_, .f32⟩
  | 107 => ⟨S16x4096x4096, .i1⟩
  | 108 => ⟨S16x4096x4096, .f32⟩
  | 109 => ⟨S16x4096x4096, .f32⟩
  | 110 => ⟨S_, .f32⟩
  | 111 => ⟨S16x4096, .f32⟩
  | 112 => ⟨S16x4096x1, .f32⟩
  | 113 => ⟨S16x4096x4096, .f32⟩
  | 114 => ⟨S16x4096x4096, .f32⟩
  | 115 => ⟨S16x4096x4096, .f32⟩
  | 116 => ⟨S_, .f32⟩
  | 117 => ⟨S16x4096, .f32⟩
  | 118 => ⟨S16x4096x1, .f32⟩
  | 119 => ⟨S16x4096x1, .f32⟩
  | 120 => ⟨S16x4096x1, .f32⟩
  | 121 => ⟨S_, .i32⟩
  | 122 => ⟨S_, .f32⟩
  | 123 => ⟨S4096x16x128, .f32⟩
  | 124 => ⟨S4096x2048, .f32⟩
  | 125 => ⟨S4096x2048, .bf16⟩
  | 126 => ⟨S_, .i32⟩
  | 127 => ⟨S_, .f32⟩
  | _ => ⟨S4096x16x64, .f32⟩

abbrev hbmTy0_1 (i : Nat) : BufTy := match i % 128 with
  | 0 => ⟨S4096x16x128, .f32⟩
  | 1 => ⟨S4096x2048, .f32⟩
  | 2 => ⟨S4096x2048, .bf16⟩
  | 3 => ⟨S4096x2048, .f32⟩
  | 4 => ⟨S4096x2048, .f32⟩
  | 5 => ⟨S4096x2048, .f32⟩
  | _ => ⟨S4096x16x64, .f32⟩

abbrev hbmTy (i : Nat) : BufTy := match i / 128 with
  | 0 => hbmTy0_0 i
  | 1 => hbmTy0_1 i
  | _ => ⟨S4096x16x64, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S1x4096x1, .f32⟩
  | .local _ .vmem, ⟨11, _⟩ => ⟨S1x4096x1, .f32⟩
  | .local _ .vmem, ⟨12, _⟩ => ⟨S4096x128, .f32⟩
  | .local _ .vmem, ⟨13, _⟩ => ⟨S4096x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S4096x128, .f32⟩
  | .local _ .vmem, ⟨19, _⟩ => ⟨S4096x128, .f32⟩
  | .local _ .vmem, ⟨20, _⟩ => ⟨S512x128, .f32⟩
  | .local _ .vmem, ⟨21, _⟩ => ⟨S512x128, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_c : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_0 : Ref sig .tc := ⟨.hbm, 39, rfl⟩
abbrev main_call2_v12 : Ref sig .tc := ⟨.hbm, 40, rfl⟩
abbrev main_call2_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c_6 : Ref sig .tc := ⟨.hbm, 70, rfl⟩
abbrev main_call4_v0 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_8 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_c : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_call5_c_0 : Ref sig .tc := ⟨.hbm, 95, rfl⟩
abbrev main_call5_v12 : Ref sig .tc := ⟨.hbm, 96, rfl⟩
abbrev main_call5_v13 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_9 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v50 : Ref sig .tc := ⟨.hbm, 109, rfl⟩
abbrev main_cst_10 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_11 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_c_12 : Ref sig .tc := ⟨.hbm, 121, rfl⟩
abbrev main_call7_v0 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_c_13 : Ref sig .tc := ⟨.hbm, 126, rfl⟩
abbrev main_call8_v0 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66_0 : Ref sig .tc := ⟨.hbm, 131, rfl⟩
abbrev main_v66_1 : Ref sig .tc := ⟨.hbm, 132, rfl⟩
abbrev main_v66_2 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
@[reducible] def k0_t1_loop (i : grid0.Coords) : Scf.Loop 32 :=
  let arg1 : BitVec 32 := BitVec.ofNat 32 (i 1).val
  let c1_i32_48 : BitVec 32 := 1#32
  let v147 : BitVec 32 := Scalar.addi arg1 c1_i32_48
  let c8_i32 : BitVec 32 := 8#32
  let v148 : BitVec 32 := Scalar.subi c8_i32 v147
  let c1_i32_50 : BitVec 32 := 1#32
  let v150 : BitVec 32 := Scalar.divsi v148 c1_i32_50
  let v151 : BitVec 32 := Scalar.muli v150 c1_i32_50
  let v152 : BitVec 32 := Scalar.addi v147 v151
  let c1_i32_51 : BitVec 32 := 1#32
  ⟨v147, v152, c1_i32_51⟩
def k0_mult2 (i : grid0.Coords) (k0_t1 : Fin (k0_t1_loop i).trips) : BitVec 32 :=
  let arg1 : BitVec 32 := BitVec.ofNat 32 (i 1).val
  let c1_i32_48 : BitVec 32 := 1#32
  let v147 : BitVec 32 := Scalar.addi arg1 c1_i32_48
  let c1_i32_51 : BitVec 32 := 1#32
  let arg15 : BitVec 32 := Scf.iv v147 c1_i32_51 k0_t1
  let c512_i32_61 : BitVec 32 := 512#32
  let v157 : BitVec 32 := Scalar.muli arg15 c512_i32_61
  v157
def k0_off2 (i : grid0.Coords) (k0_t1 : Fin (k0_t1_loop i).trips) : Fin 2 → Nat :=
  let arg1 : BitVec 32 := BitVec.ofNat 32 (i 1).val
  let c1_i32_48 : BitVec 32 := 1#32
  let v147 : BitVec 32 := Scalar.addi arg1 c1_i32_48
  let c1_i32_51 : BitVec 32 := 1#32
  let arg15 : BitVec 32 := Scf.iv v147 c1_i32_51 k0_t1
  let c512_i32_61 : BitVec 32 := 512#32
  let v157 : BitVec 32 := Scalar.muli arg15 c512_i32_61
  let v158 : BitVec 32 := v157
  let v159 : Index := Scalar.indexCast v158
  let c0_62 : Index := 0#32
  ![v159.toNat, 0]
@[reducible] def k0_t2_loop (i : grid0.Coords) : Scf.Loop 32 :=
  let arg1 : BitVec 32 := BitVec.ofNat 32 (i 1).val
  let c1_i32_48 : BitVec 32 := 1#32
  let v147 : BitVec 32 := Scalar.addi arg1 c1_i32_48
  let c8_i32 : BitVec 32 := 8#32
  let v148 : BitVec 32 := Scalar.subi c8_i32 v147
  let c1_i32_50 : BitVec 32 := 1#32
  let v150 : BitVec 32 := Scalar.divsi v148 c1_i32_50
  let v151 : BitVec 32 := Scalar.muli v150 c1_i32_50
  let v152 : BitVec 32 := Scalar.addi v147 v151
  let v149 : BitVec 32 := Scalar.addi v147 v148
  let c1_i32_52 : BitVec 32 := 1#32
  ⟨v152, v149, c1_i32_52⟩
def k0_mult3 (i : grid0.Coords) (k0_t2 : Fin (k0_t2_loop i).trips) : BitVec 32 :=
  let arg1 : BitVec 32 := BitVec.ofNat 32 (i 1).val
  let c1_i32_48 : BitVec 32 := 1#32
  let v147 : BitVec 32 := Scalar.addi arg1 c1_i32_48
  let c8_i32 : BitVec 32 := 8#32
  let v148 : BitVec 32 := Scalar.subi c8_i32 v147
  let c1_i32_50 : BitVec 32 := 1#32
  let v150 : BitVec 32 := Scalar.divsi v148 c1_i32_50
  let v151 : BitVec 32 := Scalar.muli v150 c1_i32_50
  let v152 : BitVec 32 := Scalar.addi v147 v151
  let c1_i32_52 : BitVec 32 := 1#32
  let arg15 : BitVec 32 := Scf.iv v152 c1_i32_52 k0_t2
  let c512_i32_61 : BitVec 32 := 512#32
  let v157 : BitVec 32 := Scalar.muli arg15 c512_i32_61
  v157
def k0_off3 (i : grid0.Coords) (k0_t2 : Fin (k0_t2_loop i).trips) : Fin 2 → Nat :=
  let arg1 : BitVec 32 := BitVec.ofNat 32 (i 1).val
  let c1_i32_48 : BitVec 32 := 1#32
  let v147 : BitVec 32 := Scalar.addi arg1 c1_i32_48
  let c8_i32 : BitVec 32 := 8#32
  let v148 : BitVec 32 := Scalar.subi c8_i32 v147
  let c1_i32_50 : BitVec 32 := 1#32
  let v150 : BitVec 32 := Scalar.divsi v148 c1_i32_50
  let v151 : BitVec 32 := Scalar.muli v150 c1_i32_50
  let v152 : BitVec 32 := Scalar.addi v147 v151
  let c1_i32_52 : BitVec 32 := 1#32
  let arg15 : BitVec 32 := Scf.iv v152 c1_i32_52 k0_t2
  let c512_i32_61 : BitVec 32 := 512#32
  let v157 : BitVec 32 := Scalar.muli arg15 c512_i32_61
  let v158 : BitVec 32 := v157
  let v159 : Index := Scalar.indexCast v158
  let c0_62 : Index := 0#32
  ![v159.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x16x64 : Shape := ⟨3, ![4096, 16, 64]⟩
abbrev S4096x16x32 : Shape := ⟨3, ![4096, 16, 32]⟩
abbrev S16x4096x4096 : Shape := ⟨3, ![16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x32 : Shape := ⟨3, ![16, 4096, 32]⟩
abbrev S16x4096x64 : Shape := ⟨3, ![16, 4096, 64]⟩
abbrev S4096x16x96 : Shape := ⟨3, ![4096, 16, 96]⟩
abbrev S4096x16x128 : Shape := ⟨3, ![4096, 16, 128]⟩
abbrev S4096x2048 : Shape := ⟨2, ![4096, 2048]⟩

abbrev nBuf : Space → Nat
  | .hbm => 130
  | .vmem => 0
  | .smem => 0
  | _ => 0

abbrev hbmTy0_0 (i : Nat) : BufTy := match i % 128 with
  | 0 => ⟨S4096x16x64, .f32⟩
  | 1 => ⟨S4096x16x32, .f32⟩
  | 2 => ⟨S4096x16x64, .f32⟩
  | 3 => ⟨S4096x16x32, .f32⟩
  | 4 => ⟨S4096x16x64, .f32⟩
  | 5 => ⟨S4096x16x64, .f32⟩
  | 6 => ⟨S16x4096x4096, .f32⟩
  | 7 => ⟨S16x4096x4096, .f32⟩
  | 8 => ⟨S16x4096x4096, .f32⟩
  | 9 => ⟨S_, .f32⟩
  | 10 => ⟨S16x4096x4096, .f32⟩
  | 11 => ⟨S16x4096x4096, .f32⟩
  | 12 => ⟨S4096, .i32⟩
  | 13 => ⟨S_, .i32⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S4096, .i32⟩
  | 22 => ⟨S4096, .i32⟩
  | 23 => ⟨S_, .i32⟩
  | 24 => ⟨S4096, .i32⟩
  | 25 => ⟨S4096, .i1⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S1x4096, .i32⟩
  | 33 => ⟨S4096x4096, .i32⟩
  | 34 => ⟨S4096x4096, .i32⟩
  | 35 => ⟨S4096x4096, .i1⟩
  | 36 => ⟨S1x4096x4096, .i1⟩
  | 37 => ⟨S_, .f32⟩
  | 38 => ⟨S_, .f32⟩
  | 39 => ⟨S16x4096x4096, .i1⟩
  | 40 => ⟨S16x4096x4096, .f32⟩
  | 41 => ⟨S16x4096x4096, .f32⟩
  | 42 => ⟨S_, .f32⟩
  | 43 => ⟨S16x4096x4096, .f32⟩
  | 44 => ⟨S_, .f32⟩
  | 45 => ⟨S16x4096, .f32⟩
  | 46 => ⟨S16x4096x1, .f32⟩
  | 47 => ⟨S16x4096x4096, .f32⟩
  | 48 => ⟨S16x4096x4096, .i1⟩
  | 49 => ⟨S16x4096x4096, .f32⟩
  | 50 => ⟨S_, .f32⟩
  | 51 => ⟨S16x4096, .f32⟩
  | 52 => ⟨S_, .f32⟩
  | 53 => ⟨S16x4096, .f32⟩
  | 54 => ⟨S16x4096, .f32⟩
  | 55 => ⟨S_, .f32⟩
  | 56 => ⟨S16x4096, .f32⟩
  | 57 => ⟨S16x4096, .i1⟩
  | 58 => ⟨S_, .f32⟩
  | 59 => ⟨S16x4096, .f32⟩
  | 60 => ⟨S16x4096, .i1⟩
  | 61 => ⟨S_, .f32⟩
  | 62 => ⟨S16x4096, .f32⟩
  | 63 => ⟨S_, .f32⟩
  | 64 => ⟨S16x4096, .f32⟩
  | 65 => ⟨S_, .f32⟩
  | 66 => ⟨S16x4096, .f32⟩
  | 67 => ⟨S16x4096, .f32⟩
  | 68 => ⟨S16x4096, .f32⟩
  | 69 => ⟨S16x4096x1, .f32⟩
  | 70 => ⟨S16x4096x4096, .f32⟩
  | 71 => ⟨S16x4096x4096, .f32⟩
  | 72 => ⟨S16x4096x4096, .f32⟩
  | 73 => ⟨S_, .f32⟩
  | 74 => ⟨S16x4096, .f32⟩
  | 75 => ⟨S16x4096x1, .f32⟩
  | 76 => ⟨S16x4096x4096, .f32⟩
  | 77 => ⟨S16x4096x4096, .f32⟩
  | 78 => ⟨S16x4096x1, .f32⟩
  | 79 => ⟨S_, .f32⟩
  | 80 => ⟨S16x4096x1, .f32⟩
  | 81 => ⟨S16x4096x1, .f32⟩
  | 82 => ⟨S16x64x4096, .f32⟩
  | 83 => ⟨S4096x16x64, .f32⟩
  | 84 => ⟨S16x64x4096, .f32⟩
  | 85 => ⟨S16x4096x4096, .f32⟩
  | 86 => ⟨S16x64x4096, .f32⟩
  | 87 => ⟨S4096x16x64, .f32⟩
  | 88 => ⟨S16x4096x4096, .f32⟩
  | 89 => ⟨S16x4096x4096, .f32⟩
  | 90 => ⟨S16x4096x4096, .f32⟩
  | 91 => ⟨S_, .f32⟩
  | 92 => ⟨S16x4096, .f32⟩
  | 93 => ⟨S16x4096x1, .f32⟩
  | 94 => ⟨S16x4096x1, .f32⟩
  | 95 => ⟨S16x4096x4096, .f32⟩
  | 96 => ⟨S16x4096x4096, .f32⟩
  | 97 => ⟨S_, .f32⟩
  | 98 => ⟨S16x4096, .f32⟩
  | 99 => ⟨S16x4096x4096, .f32⟩
  | 100 => ⟨S16x4096x4096, .f32⟩
  | 101 => ⟨S16x4096x4096, .f32⟩
  | 102 => ⟨S_, .f32⟩
  | 103 => ⟨S16x4096x4096, .f32⟩
  | 104 => ⟨S16x4096x4096, .f32⟩
  | 105 => ⟨S_, .f32⟩
  | 106 => ⟨S16x4096x4096, .f32⟩
  | 107 => ⟨S16x4096x4096, .f32⟩
  | 108 => ⟨S16x4096x32, .f32⟩
  | 109 => ⟨S4096x16x32, .f32⟩
  | 110 => ⟨S16x4096x32, .f32⟩
  | 111 => ⟨S4096x16x32, .f32⟩
  | 112 => ⟨S16x4096x64, .f32⟩
  | 113 => ⟨S4096x16x64, .f32⟩
  | 114 => ⟨S16x4096x64, .f32⟩
  | 115 => ⟨S4096x16x64, .f32⟩
  | 116 => ⟨S4096x16x96, .f32⟩
  | 117 => ⟨S_, .i32⟩
  | 118 => ⟨S_, .f32⟩
  | 119 => ⟨S4096x16x128, .f32⟩
  | 120 => ⟨S4096x2048, .f32⟩
  | 121 => ⟨S4096x16x96, .f32⟩
  | 122 => ⟨S_, .i32⟩
  | 123 => ⟨S_, .f32⟩
  | 124 => ⟨S4096x16x128, .f32⟩
  | 125 => ⟨S4096x2048, .f32⟩
  | 126 => ⟨S_, .i32⟩
  | 127 => ⟨S_, .f32⟩
  | _ => ⟨S4096x16x64, .f32⟩

abbrev hbmTy0_1 (i : Nat) : BufTy := match i % 128 with
  | 0 => ⟨S4096x16x128, .f32⟩
  | 1 => ⟨S4096x2048, .f32⟩
  | _ => ⟨S4096x16x64, .f32⟩

abbrev hbmTy (i : Nat) : BufTy := match i / 128 with
  | 0 => hbmTy0_0 i
  | 1 => hbmTy0_1 i
  | _ => ⟨S4096x16x64, .f32⟩

abbrev bufTy : (tb : Table) → Fin (tcTables nBuf tb) → BufTy
  | .hbm, ⟨i, _⟩ => hbmTy i
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_v13_1 : Ref sig .tc := ⟨.hbm, 39, rfl⟩
abbrev main_call1_v2 : Ref sig .tc := ⟨.hbm, 40, rfl⟩
abbrev main_v13_0 : Ref sig .tc := ⟨.hbm, 41, rfl⟩
abbrev main_call1_cst : Ref sig .tc := ⟨.hbm, 42, rfl⟩
abbrev main_v13_2 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call2_cst : Ref sig .tc := ⟨.hbm, 102, rfl⟩
abbrev main_call2_v0 : Ref sig .tc := ⟨.hbm, 103, rfl⟩
abbrev main_v60 : Ref sig .tc := ⟨.hbm, 104, rfl⟩
abbrev main_cst_13 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_14 : Ref sig .tc := ⟨.hbm, 117, rfl⟩
abbrev main_call3_v0 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_c_15 : Ref sig .tc := ⟨.hbm, 122, rfl⟩
abbrev main_call4_v0 : Ref sig .tc := ⟨.hbm, 123, rfl⟩
abbrev main_v75 : Ref sig .tc := ⟨.hbm, 124, rfl⟩
abbrev main_v76 : Ref sig .tc := ⟨.hbm, 125, rfl⟩
abbrev main_c_16 : Ref sig .tc := ⟨.hbm, 126, rfl⟩
abbrev main_call5_v0 : Ref sig .tc := ⟨.hbm, 127, rfl⟩
abbrev main_v77 : Ref sig .tc := ⟨.hbm, 128, rfl⟩
abbrev main_v78 : Ref sig .tc := ⟨.hbm, 129, rfl⟩

abbrev nD : Nat := 1
abbrev τ : Topo := Topo.v7x

variable {F : FTy → Type} [FloatOps F]
-- ==== Fwd.lean ====
abbrev S4096x16x64 : Shape := ⟨3, ![4096, 16, 64]⟩
abbrev S4096x16x32 : Shape := ⟨3, ![4096, 16, 32]⟩
abbrev S4096x16x96 : Shape := ⟨3, ![4096, 16, 96]⟩
abbrev S_ : Shape := ⟨0, ![]⟩
abbrev S4096x16x128 : Shape := ⟨3, ![4096, 16, 128]⟩
abbrev S4096x2048 : Shape := ⟨2, ![4096, 2048]⟩
abbrev S16x4096x1 : Shape := ⟨3, ![16, 4096, 1]⟩
abbrev S512x256 : Shape := ⟨2, ![512, 256]⟩
abbrev S4096x256 : Shape := ⟨2, ![4096, 256]⟩
abbrev S2x512x1 : Shape := ⟨3, ![2, 512, 1]⟩
abbrev S2x512x128 : Shape := ⟨3, ![2, 512, 128]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 24
  | .vmem => 12
  | .smem => 0
  | _ => 0

abbrev bufTy : (tb : Table) → Fin (tcTables nBuf tb) → BufTy
  | .hbm, ⟨0, _⟩ => ⟨S4096x16x64, .f32⟩
  | .hbm, ⟨1, _⟩ => ⟨S4096x16x32, .f32⟩
  | .hbm, ⟨2, _⟩ => ⟨S4096x16x64, .f32⟩
  | .hbm, ⟨3, _⟩ => ⟨S4096x16x32, .f32⟩
  | .hbm, ⟨4, _⟩ => ⟨S4096x16x64, .f32⟩
  | .hbm, ⟨5, _⟩ => ⟨S4096x16x96, .f32⟩
  | .hbm, ⟨6, _⟩ => ⟨S_, .i32⟩
  | .hbm, ⟨7, _⟩ => ⟨S_, .f32⟩
  | .hbm, ⟨8, _⟩ => ⟨S4096x16x128, .f32⟩
  | .hbm, ⟨9, _⟩ => ⟨S4096x2048, .f32⟩
  | .hbm, ⟨10, _⟩ => ⟨S4096x2048, .bf16⟩
  | .hbm, ⟨11, _⟩ => ⟨S4096x16x96, .f32⟩
  | .hbm, ⟨12, _⟩ => ⟨S_, .i32⟩
  | .hbm, ⟨13, _⟩ => ⟨S_, .f32⟩
  | .hbm, ⟨14, _⟩ => ⟨S4096x16x128, .f32⟩
  | .hbm, ⟨15, _⟩ => ⟨S4096x2048, .f32⟩
  | .hbm, ⟨16, _⟩ => ⟨S4096x2048, .bf16⟩
  | .hbm, ⟨17, _⟩ => ⟨S_, .i32⟩
  | .hbm, ⟨18, _⟩ => ⟨S_, .f32⟩
  | .hbm, ⟨19, _⟩ => ⟨S4096x16x128, .f32⟩
  | .hbm, ⟨20, _⟩ => ⟨S4096x2048, .f32⟩
  | .hbm, ⟨21, _⟩ => ⟨S4096x2048, .bf16⟩
  | .hbm, ⟨22, _⟩ => ⟨S4096x2048, .f32⟩
  | .hbm, ⟨23, _⟩ => ⟨S16x4096x1, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .f32⟩
  | .local _ .vmem, ⟨7, _⟩ => ⟨S512x256, .f32⟩
  | .local _ .vmem, ⟨8, _⟩ => ⟨S2x512x1, .f32⟩
  | .local _ .vmem, ⟨9, _⟩ => ⟨S2x512x1, .f32⟩
  | .local _ .vmem, ⟨10, _⟩ => ⟨S2x512x128, .f32⟩
  | .local _ .vmem, ⟨11, _⟩ => ⟨S2x512x128, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_9 : BitVec 32 := 1#32
  ⟨c0_i32_8, v19, c1_i32_9⟩
def k0_mult1 (i : grid0.Coords) (k0_t1 : Fin (k0_t1_loop i).trips) : BitVec 32 :=
  let c0_i32_8 : BitVec 32 := 0#32
  let c1_i32_9 : BitVec 32 := 1#32
  let arg9 : BitVec 32 := Scf.iv c0_i32_8 c1_i32_9 k0_t1
  let c512_i32_109 : BitVec 32 := 512#32
  let v276 : BitVec 32 := Scalar.muli arg9 c512_i32_109
  v276
def k0_off1 (i : grid0.Coords) (k0_t1 : Fin (k0_t1_loop i).trips) : Fin 2 → Nat :=
  let c0_i32_8 : BitVec 32 := 0#32
  let c1_i32_9 : BitVec 32 := 1#32
  let arg9 : BitVec 32 := Scf.iv c0_i32_8 c1_i32_9 k0_t1
  let c512_i32_109 : BitVec 32 := 512#32
  let v276 : BitVec 32 := Scalar.muli arg9 c512_i32_109
  let v277 : BitVec 32 := v276
  let v280 : Index := Scalar.indexCast v277
  let c0_112 : Index := 0#32
  ![v280.toNat, 0]
def k0_off2 (i : grid0.Coords) (k0_t1 : Fin (k0_t1_loop i).trips) : Fin 2 → Nat :=
  let c0_i32_8 : BitVec 32 := 0#32
  let c1_i32_9 : BitVec 32 := 1#32
  let arg9 : BitVec 32 := Scf.iv c0_i32_8 c1_i32_9 k0_t1
  let c512_i32_109 : BitVec 32 := 512#32
  let v276 : BitVec 32 := Scalar.muli arg9 c512_i32_109
  let v277 : BitVec 32 := v276
  let v288 : Index := Scalar.indexCast v277
  let c128_117 : Index := 128#32
  ![v288.toNat, 128]
@[reducible] def k0_t2_loop (i : grid0.Coords) : Scf.Loop 32 :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let v16 : BitVec 32 := Scalar.addi c0_i32_8 v15
  let c1_i32_10 : BitVec 32 := 1#32
  ⟨v19, v16, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_10 : BitVec 32 := 1#32
  let arg9 : BitVec 32 := Scf.iv v19 c1_i32_10 k0_t2
  let c512_i32_109 : BitVec 32 := 512#32
  let v276 : BitVec 32 := Scalar.muli arg9 c512_i32_109
  v276
def k0_off3 (i : grid0.Coords) (k0_t2 : Fin (k0_t2_loop i).trips) : Fin 2 → Nat :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_10 : BitVec 32 := 1#32
  let arg9 : BitVec 32 := Scf.iv v19 c1_i32_10 k0_t2
  let c512_i32_109 : BitVec 32 := 512#32
  let v276 : BitVec 32 := Scalar.muli arg9 c512_i32_109
  let v277 : BitVec 32 := v276
  let v280 : Index := Scalar.indexCast v277
  let c0_112 : Index := 0#32
  ![v280.toNat, 0]
def k0_off4 (i : grid0.Coords) (k0_t2 : Fin (k0_t2_loop i).trips) : Fin 2 → Nat :=
  let c0_i32_8 : BitVec 32 := 0#32
  let arg1 : BitVec 32 := BitVec.ofNat 32 (i 1).val
  let v15 : BitVec 32 := Scalar.subi arg1 c0_i32_8
  let c1_i32 : BitVec 32 := 1#32
  let v17 : BitVec 32 := Scalar.divsi v15 c1_i32
  let v18 : BitVec 32 := Scalar.muli v17 c1_i32
  let v19 : BitVec 32 := Scalar.addi c0_i32_8 v18
  let c1_i32_10 : BitVec 32 := 1#32
  let arg9 : BitVec 32 := Scf.iv v19 c1_i32_10 k0_t2
  let c512_i32_109 : BitVec 32 := 512#32
  let v276 : BitVec 32 := Scalar.muli arg9 c512_i32_109
  let v277 : BitVec 32 := v276
  let v288 : Index := Scalar.indexCast v277
  let c128_117 : Index := 128#32
  ![v288.toNat, 128]
def k0_mult3 (i : grid0.Coords) : BitVec 32 :=
  let arg1 : BitVec 32 := BitVec.ofNat 32 (i 1).val
  let c512_i32 : BitVec 32 := 512#32
  let v20 : BitVec 32 := Scalar.muli arg1 c512_i32
  v20
def k0_off5 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v24 : Index := Scalar.indexCast v21
  let c0_13 : Index := 0#32
  ![v24.toNat, 0]
def k0_off6 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v89 : Index := Scalar.indexCast v21
  let c128_34 : Index := 128#32
  ![v89.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "mask" => some ⊥
  | _ => none
-- ==== FwdRefIdeal.lean ====
abbrev S4096x16x64 : Shape := ⟨3, ![4096, 16, 64]⟩
abbrev S4096x16x32 : Shape := ⟨3, ![4096, 16, 32]⟩
abbrev S16x4096x4096 : Shape := ⟨3, ![16, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S4096x16x128 : Shape := ⟨3, ![4096, 16, 128]⟩
abbrev S4096x2048 : Shape := ⟨2, ![4096, 2048]⟩

abbrev nBuf : Space → Nat
  | .hbm => 108
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096x16x32, .f32⟩
  | .hbm, ⟨2, _⟩ => ⟨S4096x16x64, .f32⟩
  | .hbm, ⟨3, _⟩ => ⟨S4096x16x32, .f32⟩
  | .hbm, ⟨4, _⟩ => ⟨S4096x16x64, .f32⟩
  | .hbm, ⟨5, _⟩ => ⟨S16x4096x4096, .f32⟩
  | .hbm, ⟨6, _⟩ => ⟨S16x4096x4096, .f32⟩
  | .hbm, ⟨7, _⟩ => ⟨S16x4096x4096, .f32⟩
  | .hbm, ⟨8, _⟩ => ⟨S_, .f32⟩
  | .hbm, ⟨9, _⟩ => ⟨S16x4096x4096, .f32⟩
  | .hbm, ⟨10, _⟩ => ⟨S16x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S1x4096x4096, .i1⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S16x4096x1, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S_, .f32⟩
  | .hbm, ⟨51, _⟩ => ⟨S16x4096, .f32⟩
  | .hbm, ⟨52, _⟩ => ⟨S16x4096x1, .f32⟩
  | .hbm, ⟨53, _⟩ => ⟨S16x4096x4096, .f32⟩
  | .hbm, ⟨54, _⟩ => ⟨S16x4096x4096, .f32⟩
  | .hbm, ⟨55, _⟩ => ⟨S16x64x4096, .f32⟩
  | .hbm, ⟨56, _⟩ => ⟨S4096x16x64, .f32⟩
  | .hbm, ⟨57, _⟩ => ⟨S_, .i32⟩
  | .hbm, ⟨58, _⟩ => ⟨S_, .f32⟩
  | .hbm, ⟨59, _⟩ => ⟨S4096x16x128, .f32⟩
  | .hbm, ⟨60, _⟩ => ⟨S4096x2048, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S16x4096x4096, .f32⟩
  | .hbm, ⟨66, _⟩ => ⟨S16x4096x4096, .f32⟩
  | .hbm, ⟨67, _⟩ => ⟨S4096, .i32⟩
  | .hbm, ⟨68, _⟩ => ⟨S_, .i32⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S4096, .i32⟩
  | .hbm, ⟨77, _⟩ => ⟨S4096, .i32⟩
  | .hbm, ⟨78, _⟩ => ⟨S_, .i32⟩
  | .hbm, ⟨79, _⟩ => ⟨S4096, .i32⟩
  | .hbm, ⟨80, _⟩ => ⟨S4096, .i1⟩
  | .hbm, ⟨81, _⟩ => ⟨S4096, .i1⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .i32⟩
  | .hbm, ⟨86, _⟩ => ⟨S4096x1, .i32⟩
  | .hbm, ⟨87, _⟩ => ⟨S1x4096, .i32⟩
  | .hbm, ⟨88, _⟩ => ⟨S4096x4096, .i32⟩
  | .hbm, ⟨89, _⟩ => ⟨S4096x4096, .i32⟩
  | .hbm, ⟨90, _⟩ => ⟨S4096x4096, .i1⟩
  | .hbm, ⟨91, _⟩ => ⟨S1x4096x4096, .i1⟩
  | .hbm, ⟨92, _⟩ => ⟨S_, .f32⟩
  | .hbm, ⟨93, _⟩ => ⟨S_, .f32⟩
  | .hbm, ⟨94, _⟩ => ⟨S16x4096x4096, .i1⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096, .f32⟩
  | .hbm, ⟨99, _⟩ => ⟨S16x4096x1, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S_, .f32⟩
  | .hbm, ⟨104, _⟩ => ⟨S16x4096, .f32⟩
  | .hbm, ⟨105, _⟩ => ⟨S16x4096x1, .f32⟩
  | .hbm, ⟨106, _⟩ => ⟨S16x4096x1, .f32⟩
  | .hbm, ⟨107, _⟩ => ⟨S16x4096x1, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_call2_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_6 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_7 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v42 : Ref sig .tc := ⟨.hbm, 96, rfl⟩
abbrev main_cst_8 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_9 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩

abbrev nD : Nat := 1
abbrev τ : Topo := Topo.v7x

variable {F : FTy → Type} [FloatOps F]
-- ==== GateUpDx.lean ====
abbrev S4096x1024 : Shape := ⟨2, ![4096, 1024]⟩
abbrev S1024x2816 : Shape := ⟨2, ![1024, 2816]⟩
abbrev S4096x2816 : Shape := ⟨2, ![4096, 2816]⟩
abbrev S4096x5632 : Shape := ⟨2, ![4096, 5632]⟩
abbrev S1024x5632 : Shape := ⟨2, ![1024, 5632]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x5632, .f32⟩
  | .hbm, ⟨6, _⟩ => ⟨S4096x5632, .bf16⟩
  | .hbm, ⟨7, _⟩ => ⟨S1024x5632, .f32⟩
  | .hbm, ⟨8, _⟩ => ⟨S1024x5632, .bf16⟩
  | .hbm, ⟨9, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDxRefIdeal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S4096x1024, .f32⟩
  | .hbm, ⟨10, _⟩ => ⟨S2816x1024, .f32⟩
  | .hbm, ⟨11, _⟩ => ⟨S1024x2816, .f32⟩
  | .hbm, ⟨12, _⟩ => ⟨S4096x1024, .f32⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== GateUpDw.lean ====
abbrev S4096x1024 : Shape := ⟨2, ![4096, 1024]⟩
abbrev S1024x2816 : Shape := ⟨2, ![1024, 2816]⟩
abbrev S4096x2816 : Shape := ⟨2, ![4096, 2816]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x1024, .bf16⟩
  | .hbm, ⟨6, _⟩ => ⟨S4096x5632, .f32⟩
  | .hbm, ⟨7, _⟩ => ⟨S4096x5632, .bf16⟩
  | .hbm, ⟨8, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpDwRefIdeal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S1024x5632 : Shape := ⟨2, ![1024, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S4096x1024, .f32⟩
  | .hbm, ⟨10, _⟩ => ⟨S2816x1024, .f32⟩
  | .hbm, ⟨11, _⟩ => ⟨S1024x2816, .f32⟩
  | .hbm, ⟨12, _⟩ => ⟨S4096x1024, .f32⟩
  | .hbm, ⟨13, _⟩ => ⟨S4096x1024, .f32⟩
  | .hbm, ⟨14, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUp.lean ====
abbrev S4096x1024 : Shape := ⟨2, ![4096, 1024]⟩
abbrev S1024x2816 : Shape := ⟨2, ![1024, 2816]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S1024x5632, .f32⟩
  | .hbm, ⟨5, _⟩ => ⟨S1024x5632, .bf16⟩
  | .hbm, ⟨6, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpRefIdeal.lean ====
abbrev S4096x1024 : Shape := ⟨2, ![4096, 1024]⟩
abbrev S1024x2816 : Shape := ⟨2, ![1024, 2816]⟩
abbrev S4096x2816 : Shape := ⟨2, ![4096, 2816]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x5632, .f32⟩
  | .hbm, ⟨6, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluDx.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluDw.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Glu.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DqDx.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .bf16⟩
  | .hbm, ⟨4, _⟩ => ⟨S1024x256, .bf16⟩
  | .hbm, ⟨5, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqDxRefIdeal.lean ====
abbrev S4096x1024 : Shape := ⟨2, ![4096, 1024]⟩
abbrev S1024x256 : Shape := ⟨2, ![1024, 256]⟩
abbrev S4096x256 : Shape := ⟨2, ![4096, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .f32⟩
  | .hbm, ⟨4, _⟩ => ⟨S256x1024, .f32⟩
  | .hbm, ⟨5, _⟩ => ⟨S1024x256, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DqDw.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 6
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x1024, .bf16⟩
  | .hbm, ⟨4, _⟩ => ⟨S4096x256, .bf16⟩
  | .hbm, ⟨5, _⟩ => ⟨S1024x256, .f32⟩
  | .local _ .vmem, ⟨0, _⟩ => ⟨S4096x1024, .bf16⟩
  | .local _ .vmem, ⟨1, _⟩ => ⟨S4096x256, .bf16⟩
  | .local _ .vmem, ⟨2, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DqDwRefIdeal.lean ====
abbrev S4096x1024 : Shape := ⟨2, ![4096, 1024]⟩
abbrev S1024x256 : Shape := ⟨2, ![1024, 256]⟩
abbrev S4096x256 : Shape := ⟨2, ![4096, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .f32⟩
  | .hbm, ⟨4, _⟩ => ⟨S256x1024, .f32⟩
  | .hbm, ⟨5, _⟩ => ⟨S1024x256, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dq.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x1024, .bf16⟩
  | .hbm, ⟨3, _⟩ => ⟨S1024x256, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqRefIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WoDx.lean ====
abbrev S4096x16x64 : Shape := ⟨3, ![4096, 16, 64]⟩
abbrev S16x64x1024 : Shape := ⟨3, ![16, 64, 1024]⟩
abbrev S4096x1024 : Shape := ⟨2, ![4096, 1024]⟩
abbrev S_ : Shape := ⟨0, ![]⟩
abbrev S16x128x1024 : Shape := ⟨3, ![16, 128, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4096x16x64, .f32⟩
  | .hbm, ⟨1, _⟩ => ⟨S16x64x1024, .f32⟩
  | .hbm, ⟨2, _⟩ => ⟨S4096x1024, .f32⟩
  | .hbm, ⟨3, _⟩ => ⟨S4096x1024, .bf16⟩
  | .hbm, ⟨4, _⟩ => ⟨S_, .i32⟩
  | .hbm, ⟨5, _⟩ => ⟨S_, .f32⟩
  | .hbm, ⟨6, _⟩ => ⟨S16x128x1024, .f32⟩
  | .hbm, ⟨7, _⟩ => ⟨S2048x1024, .f32⟩
  | .hbm, ⟨8, _⟩ => ⟨S2048x1024, .bf16⟩
  | .hbm, ⟨9, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDxRefIdeal.lean ====
abbrev S4096x16x64 : Shape := ⟨3, ![4096, 16, 64]⟩
abbrev S16x64x1024 : Shape := ⟨3, ![16, 64, 1024]⟩
abbrev S4096x1024 : Shape := ⟨2, ![4096, 1024]⟩
abbrev S1024x1024 : Shape := ⟨2, ![1024, 1024]⟩
abbrev S_ : Shape := ⟨0, ![]⟩
abbrev S4096x16x128 : Shape := ⟨3, ![4096, 16, 128]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S16x64x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S16x64x1024, .f32⟩
  | .hbm, ⟨10, _⟩ => ⟨S4096x16x64, .f32⟩
  | .hbm, ⟨11, _⟩ => ⟨S_, .i32⟩
  | .hbm, ⟨12, _⟩ => ⟨S_, .f32⟩
  | .hbm, ⟨13, _⟩ => ⟨S4096x16x128, .f32⟩
  | .hbm, ⟨14, _⟩ => ⟨S4096x2048, .f32⟩
  | .hbm, ⟨15, _⟩ => ⟨S4096x2048, .bf16⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== WoDw.lean ====
abbrev S4096x16x64 : Shape := ⟨3, ![4096, 16, 64]⟩
abbrev S16x64x1024 : Shape := ⟨3, ![16, 64, 1024]⟩
abbrev S4096x1024 : Shape := ⟨2, ![4096, 1024]⟩
abbrev S_ : Shape := ⟨0, ![]⟩
abbrev S4096x16x128 : Shape := ⟨3, ![4096, 16, 128]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x16x64, .f32⟩
  | .hbm, ⟨1, _⟩ => ⟨S16x64x1024, .f32⟩
  | .hbm, ⟨2, _⟩ => ⟨S4096x1024, .f32⟩
  | .hbm, ⟨3, _⟩ => ⟨S_, .i32⟩
  | .hbm, ⟨4, _⟩ => ⟨S_, .f32⟩
  | .hbm, ⟨5, _⟩ => ⟨S4096x16x128, .f32⟩
  | .hbm, ⟨6, _⟩ => ⟨S4096x2048, .f32⟩
  | .hbm, ⟨7, _⟩ => ⟨S4096x1024, .bf16⟩
  | .hbm, ⟨8, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDwRefIdeal.lean ====
abbrev S4096x16x64 : Shape := ⟨3, ![4096, 16, 64]⟩
abbrev S16x64x1024 : Shape := ⟨3, ![16, 64, 1024]⟩
abbrev S4096x1024 : Shape := ⟨2, ![4096, 1024]⟩
abbrev S1024x1024 : Shape := ⟨2, ![1024, 1024]⟩
abbrev S_ : Shape := ⟨0, ![]⟩
abbrev S16x128x1024 : Shape := ⟨3, ![16, 128, 1024]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S16x64x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S16x64x1024, .f32⟩
  | .hbm, ⟨10, _⟩ => ⟨S4096x16x64, .f32⟩
  | .hbm, ⟨11, _⟩ => ⟨S_, .i32⟩
  | .hbm, ⟨12, _⟩ => ⟨S_, .f32⟩
  | .hbm, ⟨13, _⟩ => ⟨S16x128x1024, .f32⟩
  | .hbm, ⟨14, _⟩ => ⟨S2048x1024, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Wo.lean ====
abbrev S4096x16x64 : Shape := ⟨3, ![4096, 16, 64]⟩
abbrev S16x64x1024 : Shape := ⟨3, ![16, 64, 1024]⟩
abbrev S_ : Shape := ⟨0, ![]⟩
abbrev S4096x16x128 : Shape := ⟨3, ![4096, 16, 128]⟩
abbrev S4096x2048 : Shape := ⟨2, ![4096, 2048]⟩
abbrev S16x128x1024 : Shape := ⟨3, ![16, 128, 1024]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 12
  | .vmem => 5
  | .smem => 0
  | _ => 0

abbrev bufTy : (tb : Table) → Fin (tcTables nBuf tb) → BufTy
  | .hbm, ⟨0, _⟩ => ⟨S4096x16x64, .f32⟩
  | .hbm, ⟨1, _⟩ => ⟨S16x64x1024, .f32⟩
  | .hbm, ⟨2, _⟩ => ⟨S_, .i32⟩
  | .hbm, ⟨3, _⟩ => ⟨S_, .f32⟩
  | .hbm, ⟨4, _⟩ => ⟨S4096x16x128, .f32⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S16x128x1024, .f32⟩
  | .hbm, ⟨9, _⟩ => ⟨S2048x1024, .f32⟩
  | .hbm, ⟨10, _⟩ => ⟨S2048x1024, .bf16⟩
  | .hbm, ⟨11, _⟩ => ⟨S4096x1024, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoRefIdeal.lean ====
abbrev S4096x16x64 : Shape := ⟨3, ![4096, 16, 64]⟩
abbrev S16x64x1024 : Shape := ⟨3, ![16, 64, 1024]⟩
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S16x64x1024, .f32⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UqDx.lean ====
abbrev S4096x256 : Shape := ⟨2, ![4096, 256]⟩
abbrev S256x16x96 : Shape := ⟨3, ![256, 16, 96]⟩
abbrev S4096x16x96 : Shape := ⟨3, ![4096, 16, 96]⟩
abbrev S_ : Shape := ⟨0, ![]⟩
abbrev S4096x16x128 : Shape := ⟨3, ![4096, 16, 128]⟩
abbrev S4096x2048 : Shape := ⟨2, ![4096, 2048]⟩
abbrev S256x16x128 : Shape := ⟨3, ![256, 16, 128]⟩
abbrev S256x2048 : Shape := ⟨2, ![256, 2048]⟩
abbrev S1024x2048 : Shape := ⟨2, ![1024, 2048]⟩
abbrev S1024x256 : Shape := ⟨2, ![1024, 256]⟩

abbrev nBuf : Space → Nat
  | .hbm => 14
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x16x96, .f32⟩
  | .hbm, ⟨2, _⟩ => ⟨S4096x16x96, .f32⟩
  | .hbm, ⟨3, _⟩ => ⟨S_, .i32⟩
  | .hbm, ⟨4, _⟩ => ⟨S_, .f32⟩
  | .hbm, ⟨5, _⟩ => ⟨S4096x16x128, .f32⟩
  | .hbm, ⟨6, _⟩ => ⟨S4096x2048, .f32⟩
  | .hbm, ⟨7, _⟩ => ⟨S4096x2048, .bf16⟩
  | .hbm, ⟨8, _⟩ => ⟨S_, .i32⟩
  | .hbm, ⟨9, _⟩ => ⟨S_, .f32⟩
  | .hbm, ⟨10, _⟩ => ⟨S256x16x128, .f32⟩
  | .hbm, ⟨11, _⟩ => ⟨S256x2048, .f32⟩
  | .hbm, ⟨12, _⟩ => ⟨S256x2048, .bf16⟩
  | .hbm, ⟨13, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S4096x256 : Shape := ⟨2, ![4096, 256]⟩
abbrev S256x16x96 : Shape := ⟨3, ![256, 16, 96]⟩
abbrev S4096x16x96 : Shape := ⟨3, ![4096, 16, 96]⟩
abbrev S256x1536 : Shape := ⟨2, ![256, 1536]⟩
abbrev S4096x1536 : Shape := ⟨2, ![4096, 1536]⟩
abbrev S1536x256 : Shape := ⟨2, ![1536, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x96, .f32⟩
  | .hbm, ⟨2, _⟩ => ⟨S4096x16x96, .f32⟩
  | .hbm, ⟨3, _⟩ => ⟨S256x1536, .f32⟩
  | .hbm, ⟨4, _⟩ => ⟨S4096x1536, .f32⟩
  | .hbm, ⟨5, _⟩ => ⟨S4096x16x96, .f32⟩
  | .hbm, ⟨6, _⟩ => ⟨S4096x1536, .f32⟩
  | .hbm, ⟨7, _⟩ => ⟨S1536x256, .f32⟩
  | .hbm, ⟨8, _⟩ => ⟨S256x1536, .f32⟩
  | .hbm, ⟨9, _⟩ => ⟨S4096x256, .f32⟩
  | .hbm, ⟨10, _⟩ => ⟨S256x16x96, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UqDw.lean ====
abbrev S4096x256 : Shape := ⟨2, ![4096, 256]⟩
abbrev S256x16x96 : Shape := ⟨3, ![256, 16, 96]⟩
abbrev S4096x16x96 : Shape := ⟨3, ![4096, 16, 96]⟩
abbrev S_ : Shape := ⟨0, ![]⟩
abbrev S4096x16x128 : Shape := ⟨3, ![4096, 16, 128]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x16x96, .f32⟩
  | .hbm, ⟨2, _⟩ => ⟨S4096x16x96, .f32⟩
  | .hbm, ⟨3, _⟩ => ⟨S_, .i32⟩
  | .hbm, ⟨4, _⟩ => ⟨S_, .f32⟩
  | .hbm, ⟨5, _⟩ => ⟨S4096x16x128, .f32⟩
  | .hbm, ⟨6, _⟩ => ⟨S4096x2048, .f32⟩
  | .hbm, ⟨7, _⟩ => ⟨S4096x2048, .bf16⟩
  | .hbm, ⟨8, _⟩ => ⟨S256x2048, .f32⟩
  | .local _ .vmem, ⟨0, _⟩ => ⟨S4096x256, .f32⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwRefIdeal.lean ====
abbrev S4096x256 : Shape := ⟨2, ![4096, 256]⟩
abbrev S256x16x96 : Shape := ⟨3, ![256, 16, 96]⟩
abbrev S4096x16x96 : Shape := ⟨3, ![4096, 16, 96]⟩
abbrev S256x1536 : Shape := ⟨2, ![256, 1536]⟩
abbrev S4096x1536 : Shape := ⟨2, ![4096, 1536]⟩
abbrev S1536x256 : Shape := ⟨2, ![1536, 256]⟩
abbrev S_ : Shape := ⟨0, ![]⟩
abbrev S256x16x128 : Shape := ⟨3, ![256, 16, 128]⟩
abbrev S256x2048 : Shape := ⟨2, ![256, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x96, .f32⟩
  | .hbm, ⟨2, _⟩ => ⟨S4096x16x96, .f32⟩
  | .hbm, ⟨3, _⟩ => ⟨S256x1536, .f32⟩
  | .hbm, ⟨4, _⟩ => ⟨S4096x1536, .f32⟩
  | .hbm, ⟨5, _⟩ => ⟨S4096x16x96, .f32⟩
  | .hbm, ⟨6, _⟩ => ⟨S4096x1536, .f32⟩
  | .hbm, ⟨7, _⟩ => ⟨S1536x256, .f32⟩
  | .hbm, ⟨8, _⟩ => ⟨S256x1536, .f32⟩
  | .hbm, ⟨9, _⟩ => ⟨S4096x256, .f32⟩
  | .hbm, ⟨10, _⟩ => ⟨S256x16x96, .f32⟩
  | .hbm, ⟨11, _⟩ => ⟨S_, .i32⟩
  | .hbm, ⟨12, _⟩ => ⟨S_, .f32⟩
  | .hbm, ⟨13, _⟩ => ⟨S256x16x128, .f32⟩
  | .hbm, ⟨14, _⟩ => ⟨S256x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Uq.lean ====
abbrev S4096x256 : Shape := ⟨2, ![4096, 256]⟩
abbrev S256x16x96 : Shape := ⟨3, ![256, 16, 96]⟩
abbrev S_ : Shape := ⟨0, ![]⟩
abbrev S256x16x128 : Shape := ⟨3, ![256, 16, 128]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x16x96, .f32⟩
  | .hbm, ⟨2, _⟩ => ⟨S_, .i32⟩
  | .hbm, ⟨3, _⟩ => ⟨S_, .f32⟩
  | .hbm, ⟨4, _⟩ => ⟨S256x16x128, .f32⟩
  | .hbm, ⟨5, _⟩ => ⟨S256x2048, .f32⟩
  | .hbm, ⟨6, _⟩ => ⟨S256x2048, .bf16⟩
  | .hbm, ⟨7, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x256 : Shape := ⟨2, ![4096, 256]⟩
abbrev S256x16x96 : Shape := ⟨3, ![256, 16, 96]⟩
abbrev S256x1536 : Shape := ⟨2, ![256, 1536]⟩
abbrev S4096x1536 : Shape := ⟨2, ![4096, 1536]⟩
abbrev S4096x16x96 : Shape := ⟨3, ![4096, 16, 96]⟩
abbrev S_ : Shape := ⟨0, ![]⟩
abbrev S4096x16x128 : Shape := ⟨3, ![4096, 16, 128]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x96, .f32⟩
  | .hbm, ⟨2, _⟩ => ⟨S256x1536, .f32⟩
  | .hbm, ⟨3, _⟩ => ⟨S4096x1536, .f32⟩
  | .hbm, ⟨4, _⟩ => ⟨S4096x16x96, .f32⟩
  | .hbm, ⟨5, _⟩ => ⟨S_, .i32⟩
  | .hbm, ⟨6, _⟩ => ⟨S_, .f32⟩
  | .hbm, ⟨7, _⟩ => ⟨S4096x16x128, .f32⟩
  | .hbm, ⟨8, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KvBDx.lean ====
abbrev S4096x256 : Shape := ⟨2, ![4096, 256]⟩
abbrev S256x16x64 : Shape := ⟨3, ![256, 16, 64]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S256x16x128 : Shape := ⟨3, ![256, 16, 128]⟩
abbrev S256x2048 : Shape := ⟨2, ![256, 2048]⟩
abbrev S1024x2048 : Shape := ⟨2, ![1024, 2048]⟩
abbrev S1024x256 : Shape := ⟨2, ![1024, 256]⟩

abbrev nBuf : Space → Nat
  | .hbm => 14
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S4096x16x64, .f32⟩
  | .hbm, ⟨3, _⟩ => ⟨S_, .i32⟩
  | .hbm, ⟨4, _⟩ => ⟨S_, .f32⟩
  | .hbm, ⟨5, _⟩ => ⟨S4096x16x128, .f32⟩
  | .hbm, ⟨6, _⟩ => ⟨S4096x2048, .f32⟩
  | .hbm, ⟨7, _⟩ => ⟨S4096x2048, .bf16⟩
  | .hbm, ⟨8, _⟩ => ⟨S_, .i32⟩
  | .hbm, ⟨9, _⟩ => ⟨S_, .f32⟩
  | .hbm, ⟨10, _⟩ => ⟨S256x16x128, .f32⟩
  | .hbm, ⟨11, _⟩ => ⟨S256x2048, .f32⟩
  | .hbm, ⟨12, _⟩ => ⟨S256x2048, .bf16⟩
  | .hbm, ⟨13, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvBDxRefIdeal.lean ====
abbrev S4096x256 : Shape := ⟨2, ![4096, 256]⟩
abbrev S256x16x64 : Shape := ⟨3, ![256, 16, 64]⟩
abbrev S4096x16x64 : Shape := ⟨3, ![4096, 16, 64]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S4096x16x64, .f32⟩
  | .hbm, ⟨3, _⟩ => ⟨S256x1024, .f32⟩
  | .hbm, ⟨4, _⟩ => ⟨S4096x1024, .f32⟩
  | .hbm, ⟨5, _⟩ => ⟨S4096x16x64, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | .hbm, ⟨10, _⟩ => ⟨S256x16x64, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvBDw.lean ====
abbrev S4096x256 : Shape := ⟨2, ![4096, 256]⟩
abbrev S256x16x64 : Shape := ⟨3, ![256, 16, 64]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S4096x16x64, .f32⟩
  | .hbm, ⟨3, _⟩ => ⟨S_, .i32⟩
  | .hbm, ⟨4, _⟩ => ⟨S_, .f32⟩
  | .hbm, ⟨5, _⟩ => ⟨S4096x16x128, .f32⟩
  | .hbm, ⟨6, _⟩ => ⟨S4096x2048, .f32⟩
  | .hbm, ⟨7, _⟩ => ⟨S4096x2048, .bf16⟩
  | .hbm, ⟨8, _⟩ => ⟨S256x2048, .f32⟩
  | .local _ .vmem, ⟨0, _⟩ => ⟨S4096x256, .f32⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvBDwRefIdeal.lean ====
abbrev S4096x256 : Shape := ⟨2, ![4096, 256]⟩
abbrev S256x16x64 : Shape := ⟨3, ![256, 16, 64]⟩
abbrev S4096x16x64 : Shape := ⟨3, ![4096, 16, 64]⟩
abbrev S256x1024 : Shape := ⟨2, ![256, 1024]⟩
abbrev S4096x1024 : Shape := ⟨2, ![4096, 1024]⟩
abbrev S1024x256 : Shape := ⟨2, ![1024, 256]⟩
abbrev S_ : Shape := ⟨0, ![]⟩
abbrev S256x16x128 : Shape := ⟨3, ![256, 16, 128]⟩
abbrev S256x2048 : Shape := ⟨2, ![256, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S4096x16x64, .f32⟩
  | .hbm, ⟨3, _⟩ => ⟨S256x1024, .f32⟩
  | .hbm, ⟨4, _⟩ => ⟨S4096x1024, .f32⟩
  | .hbm, ⟨5, _⟩ => ⟨S4096x16x64, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | .hbm, ⟨10, _⟩ => ⟨S256x16x64, .f32⟩
  | .hbm, ⟨11, _⟩ => ⟨S_, .i32⟩
  | .hbm, ⟨12, _⟩ => ⟨S_, .f32⟩
  | .hbm, ⟨13, _⟩ => ⟨S256x16x128, .f32⟩
  | .hbm, ⟨14, _⟩ => ⟨S256x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KvBk.lean ====
abbrev S4096x256 : Shape := ⟨2, ![4096, 256]⟩
abbrev S256x16x64 : Shape := ⟨3, ![256, 16, 64]⟩
abbrev S_ : Shape := ⟨0, ![]⟩
abbrev S256x16x128 : Shape := ⟨3, ![256, 16, 128]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S_, .i32⟩
  | .hbm, ⟨3, _⟩ => ⟨S_, .f32⟩
  | .hbm, ⟨4, _⟩ => ⟨S256x16x128, .f32⟩
  | .hbm, ⟨5, _⟩ => ⟨S256x2048, .f32⟩
  | .hbm, ⟨6, _⟩ => ⟨S256x2048, .bf16⟩
  | .hbm, ⟨7, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvBkRefIdeal.lean ====
abbrev S4096x256 : Shape := ⟨2, ![4096, 256]⟩
abbrev S256x16x64 : Shape := ⟨3, ![256, 16, 64]⟩
abbrev S256x1024 : Shape := ⟨2, ![256, 1024]⟩
abbrev S4096x1024 : Shape := ⟨2, ![4096, 1024]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S256x1024, .f32⟩
  | .hbm, ⟨3, _⟩ => ⟨S4096x1024, .f32⟩
  | .hbm, ⟨4, _⟩ => ⟨S4096x16x64, .f32⟩
  | .hbm, ⟨5, _⟩ => ⟨S_, .i32⟩
  | .hbm, ⟨6, _⟩ => ⟨S_, .f32⟩
  | .hbm, ⟨7, _⟩ => ⟨S4096x16x128, .f32⟩
  | .hbm, ⟨8, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KvBv.lean ====
abbrev S4096x256 : Shape := ⟨2, ![4096, 256]⟩
abbrev S256x16x64 : Shape := ⟨3, ![256, 16, 64]⟩
abbrev S_ : Shape := ⟨0, ![]⟩
abbrev S256x16x128 : Shape := ⟨3, ![256, 16, 128]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S_, .i32⟩
  | .hbm, ⟨3, _⟩ => ⟨S_, .f32⟩
  | .hbm, ⟨4, _⟩ => ⟨S256x16x128, .f32⟩
  | .hbm, ⟨5, _⟩ => ⟨S256x2048, .f32⟩
  | .hbm, ⟨6, _⟩ => ⟨S256x2048, .bf16⟩
  | .hbm, ⟨7, _⟩ => ⟨S4096x2048, .bf16⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvBvRefIdeal.lean ====
abbrev S4096x256 : Shape := ⟨2, ![4096, 256]⟩
abbrev S256x16x64 : Shape := ⟨3, ![256, 16, 64]⟩
abbrev S256x1024 : Shape := ⟨2, ![256, 1024]⟩
abbrev S4096x1024 : Shape := ⟨2, ![4096, 1024]⟩
abbrev S4096x16x64 : Shape := ⟨3, ![4096, 16, 64]⟩
abbrev S_ : Shape := ⟨0, ![]⟩
abbrev S4096x16x128 : Shape := ⟨3, ![4096, 16, 128]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16x64, .f32⟩
  | .hbm, ⟨2, _⟩ => ⟨S256x1024, .f32⟩
  | .hbm, ⟨3, _⟩ => ⟨S4096x1024, .f32⟩
  | .hbm, ⟨4, _⟩ => ⟨S4096x16x64, .f32⟩
  | .hbm, ⟨5, _⟩ => ⟨S_, .i32⟩
  | .hbm, ⟨6, _⟩ => ⟨S_, .f32⟩
  | .hbm, ⟨7, _⟩ => ⟨S4096x16x128, .f32⟩
  | .hbm, ⟨8, _⟩ => ⟨S4096x2048, .f32⟩
  | .hbm, ⟨9, _⟩ => ⟨S4096x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KvADx.lean ====
abbrev S4096x1024 : Shape := ⟨2, ![4096, 1024]⟩
abbrev S1024x288 : Shape := ⟨2, ![1024, 288]⟩
abbrev S4096x288 : Shape := ⟨2, ![4096, 288]⟩
abbrev S_ : Shape := ⟨0, ![]⟩
abbrev S4096x64 : Shape := ⟨2, ![4096, 64]⟩
abbrev S4096x256 : Shape := ⟨2, ![4096, 256]⟩
abbrev S4096x32 : Shape := ⟨2, ![4096, 32]⟩
abbrev S4096x384 : Shape := ⟨2, ![4096, 384]⟩
abbrev S1024x64 : Shape := ⟨2, ![1024, 64]⟩
abbrev S1024x256 : Shape := ⟨2, ![1024, 256]⟩
abbrev S1024x32 : Shape := ⟨2, ![1024, 32]⟩
abbrev S1024x384 : Shape := ⟨2, ![1024, 384]⟩
abbrev S1024x1024 : Shape := ⟨2, ![1024, 1024]⟩

abbrev nBuf : Space → Nat
  | .hbm => 18
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S_, .f32⟩
  | .hbm, ⟨4, _⟩ => ⟨S4096x64, .f32⟩
  | .hbm, ⟨5, _⟩ => ⟨S4096x256, .f32⟩
  | .hbm, ⟨6, _⟩ => ⟨S4096x32, .f32⟩
  | .hbm, ⟨7, _⟩ => ⟨S4096x32, .f32⟩
  | .hbm, ⟨8, _⟩ => ⟨S4096x384, .f32⟩
  | .hbm, ⟨9, _⟩ => ⟨S4096x384, .bf16⟩
  | .hbm, ⟨10, _⟩ => ⟨S_, .f32⟩
  | .hbm, ⟨11, _⟩ => ⟨S1024x64, .f32⟩
  | .hbm, ⟨12, _⟩ => ⟨S1024x256, .f32⟩
  | .hbm, ⟨13, _⟩ => ⟨S1024x32, .f32⟩
  | .hbm, ⟨14, _⟩ => ⟨S1024x32, .f32⟩
  | .hbm, ⟨15, _⟩ => ⟨S1024x384, .f32⟩
  | .hbm, ⟨16, _⟩ => ⟨S1024x384, .bf16⟩
  | .hbm, ⟨17, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvADxRefIdeal.lean ====
abbrev S4096x1024 : Shape := ⟨2, ![4096, 1024]⟩
abbrev S1024x288 : Shape := ⟨2, ![1024, 288]⟩
abbrev S4096x288 : Shape := ⟨2, ![4096, 288]⟩
abbrev S288x1024 : Shape := ⟨2, ![288, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S4096x288, .f32⟩
  | .hbm, ⟨4, _⟩ => ⟨S288x1024, .f32⟩
  | .hbm, ⟨5, _⟩ => ⟨S1024x288, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvADw.lean ====
abbrev S4096x1024 : Shape := ⟨2, ![4096, 1024]⟩
abbrev S1024x288 : Shape := ⟨2, ![1024, 288]⟩
abbrev S4096x288 : Shape := ⟨2, ![4096, 288]⟩
abbrev S_ : Shape := ⟨0, ![]⟩
abbrev S4096x64 : Shape := ⟨2, ![4096, 64]⟩
abbrev S4096x256 : Shape := ⟨2, ![4096, 256]⟩
abbrev S4096x32 : Shape := ⟨2, ![4096, 32]⟩
abbrev S4096x384 : Shape := ⟨2, ![4096, 384]⟩
abbrev S1024x384 : Shape := ⟨2, ![1024, 384]⟩

abbrev nBuf : Space → Nat
  | .hbm => 12
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S4096x1024, .bf16⟩
  | .hbm, ⟨4, _⟩ => ⟨S_, .f32⟩
  | .hbm, ⟨5, _⟩ => ⟨S4096x64, .f32⟩
  | .hbm, ⟨6, _⟩ => ⟨S4096x256, .f32⟩
  | .hbm, ⟨7, _⟩ => ⟨S4096x32, .f32⟩
  | .hbm, ⟨8, _⟩ => ⟨S4096x32, .f32⟩
  | .hbm, ⟨9, _⟩ => ⟨S4096x384, .f32⟩
  | .hbm, ⟨10, _⟩ => ⟨S4096x384, .bf16⟩
  | .hbm, ⟨11, _⟩ => ⟨S1024x384, .f32⟩
  | .local _ .vmem, ⟨0, _⟩ => ⟨S4096x1024, .bf16⟩
  | .local _ .vmem, ⟨1, _⟩ => ⟨S4096x384, .bf16⟩
  | .local _ .vmem, ⟨2, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvADwRefIdeal.lean ====
abbrev S4096x1024 : Shape := ⟨2, ![4096, 1024]⟩
abbrev S1024x288 : Shape := ⟨2, ![1024, 288]⟩
abbrev S4096x288 : Shape := ⟨2, ![4096, 288]⟩
abbrev S288x1024 : Shape := ⟨2, ![288, 1024]⟩
abbrev S_ : Shape := ⟨0, ![]⟩
abbrev S1024x64 : Shape := ⟨2, ![1024, 64]⟩
abbrev S1024x256 : Shape := ⟨2, ![1024, 256]⟩
abbrev S1024x32 : Shape := ⟨2, ![1024, 32]⟩
abbrev S1024x384 : Shape := ⟨2, ![1024, 384]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S4096x288, .f32⟩
  | .hbm, ⟨4, _⟩ => ⟨S288x1024, .f32⟩
  | .hbm, ⟨5, _⟩ => ⟨S1024x288, .f32⟩
  | .hbm, ⟨6, _⟩ => ⟨S4096x1024, .f32⟩
  | .hbm, ⟨7, _⟩ => ⟨S_, .f32⟩
  | .hbm, ⟨8, _⟩ => ⟨S1024x64, .f32⟩
  | .hbm, ⟨9, _⟩ => ⟨S1024x256, .f32⟩
  | .hbm, ⟨10, _⟩ => ⟨S1024x32, .f32⟩
  | .hbm, ⟨11, _⟩ => ⟨S1024x32, .f32⟩
  | .hbm, ⟨12, _⟩ => ⟨S1024x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KvA.lean ====
abbrev S4096x1024 : Shape := ⟨2, ![4096, 1024]⟩
abbrev S1024x288 : Shape := ⟨2, ![1024, 288]⟩
abbrev S_ : Shape := ⟨0, ![]⟩
abbrev S1024x64 : Shape := ⟨2, ![1024, 64]⟩
abbrev S1024x256 : Shape := ⟨2, ![1024, 256]⟩
abbrev S1024x32 : Shape := ⟨2, ![1024, 32]⟩
abbrev S1024x384 : Shape := ⟨2, ![1024, 384]⟩
abbrev S4096x384 : Shape := ⟨2, ![4096, 384]⟩
abbrev S1024x1024 : Shape := ⟨2, ![1024, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x1024, .bf16⟩
  | .hbm, ⟨3, _⟩ => ⟨S_, .f32⟩
  | .hbm, ⟨4, _⟩ => ⟨S1024x64, .f32⟩
  | .hbm, ⟨5, _⟩ => ⟨S1024x256, .f32⟩
  | .hbm, ⟨6, _⟩ => ⟨S1024x32, .f32⟩
  | .hbm, ⟨7, _⟩ => ⟨S1024x32, .f32⟩
  | .hbm, ⟨8, _⟩ => ⟨S1024x384, .f32⟩
  | .hbm, ⟨9, _⟩ => ⟨S1024x384, .bf16⟩
  | .hbm, ⟨10, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvARefIdeal.lean ====
abbrev S4096x1024 : Shape := ⟨2, ![4096, 1024]⟩
abbrev S1024x288 : Shape := ⟨2, ![1024, 288]⟩
abbrev S4096x288 : Shape := ⟨2, ![4096, 288]⟩
abbrev S_ : Shape := ⟨0, ![]⟩
abbrev S4096x64 : Shape := ⟨2, ![4096, 64]⟩
abbrev S4096x256 : Shape := ⟨2, ![4096, 256]⟩
abbrev S4096x32 : Shape := ⟨2, ![4096, 32]⟩
abbrev S4096x384 : Shape := ⟨2, ![4096, 384]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x288, .f32⟩
  | .hbm, ⟨2, _⟩ => ⟨S4096x288, .f32⟩
  | .hbm, ⟨3, _⟩ => ⟨S_, .f32⟩
  | .hbm, ⟨4, _⟩ => ⟨S4096x64, .f32⟩
  | .hbm, ⟨5, _⟩ => ⟨S4096x256, .f32⟩
  | .hbm, ⟨6, _⟩ => ⟨S4096x32, .f32⟩
  | .hbm, ⟨7, _⟩ => ⟨S4096x32, .f32⟩
  | .hbm, ⟨8, _⟩ => ⟨S4096x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdaDw.lean ====
abbrev S8x1024 : Shape := ⟨2, ![8, 1024]⟩
abbrev S1024x1536 : Shape := ⟨2, ![1024, 1536]⟩
abbrev S8x1536 : Shape := ⟨2, ![8, 1536]⟩
abbrev S1024x8 : Shape := ⟨2, ![1024, 8]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S8x1536, .f32⟩
  | .hbm, ⟨3, _⟩ => ⟨S1024x8, .f32⟩
  | .hbm, ⟨4, _⟩ => ⟨S1024x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaDwRefIdeal.lean ====
abbrev S8x1024 : Shape := ⟨2, ![8, 1024]⟩
abbrev S1024x1536 : Shape := ⟨2, ![1024, 1536]⟩
abbrev S8x1536 : Shape := ⟨2, ![8, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S8x1536, .f32⟩
  | .hbm, ⟨3, _⟩ => ⟨S8x1536, .f32⟩
  | .hbm, ⟨4, _⟩ => ⟨S1536x1024, .f32⟩
  | .hbm, ⟨5, _⟩ => ⟨S1024x1536, .f32⟩
  | .hbm, ⟨6, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdaProj.lean ====
abbrev S8x1024 : Shape := ⟨2, ![8, 1024]⟩
abbrev S1024x1536 : Shape := ⟨2, ![1024, 1536]⟩
abbrev S8x1536 : Shape := ⟨2, ![8, 1536]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S8x1536, .f32⟩
  | .local _ .vmem, ⟨0, _⟩ => ⟨S8x1024, .f32⟩
  | .local _ .vmem, ⟨1, _⟩ => ⟨S1024x1536, .f32⟩
  | .local _ .vmem, ⟨2, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaProjRefIdeal.lean ====
abbrev S8x1024 : Shape := ⟨2, ![8, 1024]⟩
abbrev S1024x1536 : Shape := ⟨2, ![1024, 1536]⟩
abbrev S8x1536 : Shape := ⟨2, ![8, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ActBwd.lean ====
abbrev S4096x2816 : Shape := ⟨2, ![4096, 2816]⟩
abbrev S4096x5632 : Shape := ⟨2, ![4096, 5632]⟩
abbrev S256x5632 : Shape := ⟨2, ![256, 5632]⟩
abbrev S256x2816 : Shape := ⟨2, ![256, 2816]⟩

abbrev nBuf : Space → Nat
  | .hbm => 7
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x5632, .f32⟩
  | .hbm, ⟨4, _⟩ => ⟨S4096x5632, .bf16⟩
  | .hbm, ⟨5, _⟩ => ⟨S4096x2816, .bf16⟩
  | .hbm, ⟨6, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActBwdRefIdeal.lean ====
abbrev S4096x2816 : Shape := ⟨2, ![4096, 2816]⟩
abbrev S_ : Shape := ⟨0, ![]⟩
abbrev S4096x5632 : Shape := ⟨2, ![4096, 5632]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x5632, .f32⟩
  | .hbm, ⟨24, _⟩ => ⟨S4096x5632, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S6x1024, .f32⟩
  | .local _ .vmem, ⟨4, _⟩ => ⟨S256x1024, .f32⟩
  | .local _ .vmem, ⟨5, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== BbarBwd.lean ====
abbrev S4096x16 : Shape := ⟨2, ![4096, 16]⟩
abbrev S4096x1 : Shape := ⟨2, ![4096, 1]⟩
abbrev S512x16 : Shape := ⟨2, ![512, 16]⟩
abbrev S512x1 : Shape := ⟨2, ![512, 1]⟩
abbrev S512 : Shape := ⟨1, ![512]⟩

abbrev nBuf : Space → Nat
  | .hbm => 10
  | .vmem => 20
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x1, .f32⟩
  | .hbm, ⟨3, _⟩ => ⟨S4096x1, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x1, .f32⟩
  | .hbm, ⟨9, _⟩ => ⟨S4096x1, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S512x16, .f32⟩
  | .local _ .vmem, ⟨15, _⟩ => ⟨S512x16, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== BbarBwdRefIdeal.lean ====
abbrev S4096x16 : Shape := ⟨2, ![4096, 16]⟩
abbrev S4096x1 : Shape := ⟨2, ![4096, 1]⟩
abbrev S_ : Shape := ⟨0, ![]⟩
abbrev S4096 : Shape := ⟨1, ![4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x1, .f32⟩
  | .hbm, ⟨3, _⟩ => ⟨S4096x1, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Bbar.lean ====
abbrev S4096x16 : Shape := ⟨2, ![4096, 16]⟩
abbrev S4096x1 : Shape := ⟨2, ![4096, 1]⟩
abbrev S512x16 : Shape := ⟨2, ![512, 16]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x1, .f32⟩
  | .hbm, ⟨3, _⟩ => ⟨S4096x1, .f32⟩
  | .hbm, ⟨4, _⟩ => ⟨S4096x16, .f32⟩
  | .hbm, ⟨5, _⟩ => ⟨S4096x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x16, .f32⟩
  | .local _ .vmem, ⟨9, _⟩ => ⟨S512x16, .f32⟩
  | .local _ .vmem, ⟨10, _⟩ => ⟨S512x16, .f32⟩
  | .local _ .vmem, ⟨11, _⟩ => ⟨S512x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BbarRefIdeal.lean ====
abbrev S4096x16 : Shape := ⟨2, ![4096, 16]⟩
abbrev S4096x1 : Shape := ⟨2, ![4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S4096x1, .f32⟩
  | .hbm, ⟨3, _⟩ => ⟨S4096x1, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Gelu.lean ====
abbrev S4096x1024 : Shape := ⟨2, ![4096, 1024]⟩
abbrev S1x1024 : Shape := ⟨2, ![1, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GeluRefIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== GateRes.lean ====
abbrev S4096x1024 : Shape := ⟨2, ![4096, 1024]⟩
abbrev S1x1024 : Shape := ⟨2, ![1, 1024]⟩
abbrev S6x1024 : Shape := ⟨2, ![6, 1024]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S6x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateResRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== MlaRes.lean ====
abbrev S4096x1024 : Shape := ⟨2, ![4096, 1024]⟩
abbrev S6x1024 : Shape := ⟨2, ![6, 1024]⟩
abbrev S256x1024 : Shape := ⟨2, ![256, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlaResRefIdeal.lean ====
abbrev S4096x1024 : Shape := ⟨2, ![4096, 1024]⟩
abbrev S6x1024 : Shape := ⟨2, ![6, 1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnRes.lean ====
abbrev S4096x1024 : Shape := ⟨2, ![4096, 1024]⟩
abbrev S6x1024 : Shape := ⟨2, ![6, 1024]⟩
abbrev S256x1024 : Shape := ⟨2, ![256, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnResRefIdeal.lean ====
abbrev S4096x1024 : Shape := ⟨2, ![4096, 1024]⟩
abbrev S6x1024 : Shape := ⟨2, ![6, 1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QNorm.lean ====
abbrev S4096x256 : Shape := ⟨2, ![4096, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QNormRefIdeal.lean ====
abbrev S4096x256 : Shape := ⟨2, ![4096, 256]⟩
abbrev S1x256 : Shape := ⟨2, ![1, 256]⟩
abbrev S_ : Shape := ⟨0, ![]⟩
abbrev S4096 : Shape := ⟨1, ![4096]⟩
abbrev S4096x1 : Shape := ⟨2, ![4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MlaNorm.lean ====
abbrev S4096x1024 : Shape := ⟨2, ![4096, 1024]⟩
abbrev S1x1024 : Shape := ⟨2, ![1, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S6x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlaNormRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FfnNorm.lean ====
abbrev S4096x1024 : Shape := ⟨2, ![4096, 1024]⟩
abbrev S1x1024 : Shape := ⟨2, ![1, 1024]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S6x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnNormRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Adamw.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.AttnMath.lean ====
/-
  The arithmetic of one attention head over the reals, and how the extended-real operations of a softmax kept with a
  running maximum compute it.

  Rows and lanes are numbered by `ℕ`, so that a tile's row is its base plus an offset and no bound has to be carried.
-/
module

public import Idealize.ShloMosaic.Lib.Pointwise

@[expose] public section

noncomputable section

open Idealize.ShloMosaic

namespace Attn

/-! ## Sums and maxima of extended reals that are real -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

theorem exp_coe (x : ℝ) : Ideal.exp (x : EReal) = (Real.exp x : EReal) := rfl

theorem exp_bot : Ideal.exp ⊥ = 0 := rfl

theorem log_coe {x : ℝ} (h : 0 < x) : Ideal.log (x : EReal) = (Real.log x : EReal) := by
  show (if x ≤ 0 then ⊥ else (Real.log x : EReal)) = _
  rw [if_neg (not_le.mpr h)]

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem ofBits_neg_inf : Ideal.ofBits .f32 0xFF800000#32 = ⊥ := by
  simp [Ideal.ofBits, Ideal.ieee]

/-- The maximum of finitely many extended reals below `⊤`, one of them real, is real. -/
theorem fold_max_real {ι : Type*} (s : Finset ι) (f : ι → EReal) (hlt : ∀ i ∈ s, f i < ⊤) (hex : ∃ i ∈ s, ⊥ < f i) :
    ∃ t : ℝ, s.fold max ⊥ f = (t : EReal) := by
  have h1 : s.fold max ⊥ f < ⊤ := (Finset.fold_max_lt ⊤).mpr ⟨bot_lt_top, hlt⟩
  have h2 : ⊥ < s.fold max ⊥ f := (Finset.lt_fold_max ⊥).mpr (Or.inr hex)
  exact ⟨_, (EReal.coe_toReal h1.ne h2.ne').symm⟩

/-- The scale `1/√96`, as the rounded constant both programs multiply by, is a real number. -/
theorem scale_real : ∃ κ : ℝ, Ideal.ofBits .f32 0x3DD105EC#32 = (κ : EReal) := by
  simp only [Ideal.ofBits, Ideal.ieee]
  rw [if_neg (by decide), if_neg (by decide)]
  exact ⟨_, rfl⟩

/-- That real number. -/
def scale : ℝ := scale_real.choose

theorem scale_eq : Ideal.ofBits .f32 0x3DD105EC#32 = (scale : EReal) := scale_real.choose_spec

/-! ## One head -/

variable (Q K V CT : ℕ → ℕ → ℝ)

/-- The score of row `r` against key row `c`. -/
def S (r c : ℕ) : ℝ := (∑ l ∈ Finset.range 128, Q r l * K c l) * scale

/-- A row sees the keys of its own chunk of 64 rows and of the earlier ones. -/
def ok (r c : ℕ) : Prop := c / 64 ≤ r / 64

instance (r c : ℕ) : Decidable (ok r c) := inferInstanceAs (Decidable (_ ≤ _))

/-- The score as an extended real, `⊥` where the mask hides the key. -/
def SM (r c : ℕ) : EReal := if ok r c then (S Q K r c : EReal) else ⊥

/-- Its exponential, 0 where the mask hides the key. -/
def E (r c : ℕ) : ℝ := if ok r c then Real.exp (S Q K r c) else 0

/-- The row's normaliser. -/
def Z (r : ℕ) : ℝ := ∑ c ∈ Finset.range 4096, E Q K r c

/-- The attention weight. -/
def P (r c : ℕ) : ℝ := E Q K r c / Z Q K r

/-- The attention's output. -/
def O (r d : ℕ) : ℝ := (∑ c ∈ Finset.range 4096, E Q K r c * V c d) / Z Q K r

/-- The log of the normaliser. -/
def LSE (r : ℕ) : ℝ := Real.log (Z Q K r)

theorem E_nonneg (r c : ℕ) : 0 ≤ E Q K r c := by
  unfold E; split
  · exact (Real.exp_pos _).le
  · exact le_rfl

theorem Z_pos (r : ℕ) (h : r < 4096) : 0 < Z Q K r := by
  refine Finset.sum_pos' (fun c _ => E_nonneg Q K r c) ⟨r, Finset.mem_range.mpr h, ?_⟩
  unfold E
  rw [if_pos (show ok r r from le_rfl)]
  exact Real.exp_pos _

theorem Z_ne (r : ℕ) (h : r < 4096) : Z Q K r ≠ 0 := (Z_pos Q K r h).ne'

theorem exp_SM (r c : ℕ) (M : ℝ) :
    Ideal.exp (SM Q K r c - (M : EReal)) = ((Real.exp (-M) * E Q K r c : ℝ) : EReal) := by
  unfold SM E
  split
  · rw [← EReal.coe_sub, exp_coe, sub_eq_add_neg, add_comm, Real.exp_add]
  · rw [EReal.bot_sub, exp_bot, mul_zero]; rfl

theorem SM_lt_top (r c : ℕ) : SM Q K r c < ⊤ := by
  unfold SM; split
  · exact EReal.coe_lt_top _
  · exact bot_lt_top

/-! ## The running maximum -/

/-- What a row's running maximum `m` and running sums `a d` are after `n` tiles of 512 keys: nothing yet, or, for some real
    `M`, the maximum is `M` and each sum is `exp (-M)` times the sum of `E · V` over the keys seen. -/
def Run (r n : ℕ) (m : EReal) (a : ℕ → EReal) : Prop :=
  (n = 0 ∧ m = ⊥ ∧ ∀ d, d < 128 → a d = 0)
    ∨ ∃ M : ℝ, m = (M : EReal)
        ∧ ∀ d, d < 128 → a d = ((Real.exp (-M) * ∑ c ∈ Finset.range (n * 512), E Q K r c * V c d : ℝ) : EReal)

theorem sum_tile (n : ℕ) (f : ℕ → ℝ) :
    ∑ c ∈ Finset.range ((n + 1) * 512), f c = ∑ c ∈ Finset.range (n * 512), f c + ∑ c : Fin 512, f (n * 512 + c) := by
  rw [Nat.succ_mul, Finset.sum_range_add, ← Fin.sum_univ_eq_sum_range (fun c => f (n * 512 + c)) 512]

/-- One tile: the maximum goes to `max m T` for the tile's maximum `T`, the sums are rescaled and the tile's are added. -/
theorem Run.step {r n : ℕ} {m : EReal} {a : ℕ → EReal} (h : Run Q K V r n m a) (T : ℝ) (mm : EReal) (hmm : mm = max m (T : EReal))
    (a' : ℕ → EReal)
    (ha : ∀ d, d < 128 → a' d = Ideal.exp (m - mm) * a d
      + ∑ c : Fin 512, Ideal.exp (SM Q K r (n * 512 + c) - mm) * ((V (n * 512 + c) d : ℝ) : EReal)) :
    Run Q K V r (n + 1) mm a' := by
  subst hmm
  right
  rcases h with ⟨rfl, rfl, h0⟩ | ⟨M, rfl, hM⟩
  · refine ⟨T, by simp, fun d hd => ?_⟩
    rw [ha d hd, h0 d hd, mul_zero, zero_add, sum_tile, max_eq_right bot_le]
    simp only [Nat.zero_mul, Finset.range_zero, Finset.sum_empty, zero_add, Nat.zero_add]
    rw [Finset.mul_sum, coe_sum]
    refine Finset.sum_congr rfl fun c _ => ?_
    rw [exp_SM, ← EReal.coe_mul, mul_assoc]
  · have hmax : max (M : EReal) (T : EReal) = ((max M T : ℝ) : EReal) := (EReal.coe_strictMono.monotone.map_max).symm
    refine ⟨max M T, hmax, fun d hd => ?_⟩
    rw [ha d hd, hM d hd, hmax, ← EReal.coe_sub, exp_coe, sum_tile, mul_add, EReal.coe_add, ← EReal.coe_mul, ← mul_assoc, ← Real.exp_add]
    have : M - max M T + -M = - max M T := by ring
    rw [this, Finset.mul_sum (Finset.univ), coe_sum]
    refine congrArg (fun z : EReal => _ + z) (Finset.sum_congr rfl fun c _ => ?_)
    rw [exp_SM, ← EReal.coe_mul, mul_assoc]

/-- Keys past the row's own tile are hidden, so the sums over the tiles up to it are the sums over all keys. -/
theorem sum_all (r i : ℕ) (hi : i < 8) (hr : r < (i + 1) * 512) (f : ℕ → ℝ) :
    ∑ c ∈ Finset.range ((i + 1) * 512), E Q K r c * f c = ∑ c ∈ Finset.range 4096, E Q K r c * f c := by
  refine Finset.sum_subset (fun c hc => ?_) (fun c hc hn => ?_)
  · rw [Finset.mem_range] at hc ⊢; omega
  · rw [Finset.mem_range] at hc hn
    have hno : ¬ ok r c := by
      intro h
      have h' : c / 64 ≤ r / 64 := h
      omega
    unfold E
    rw [if_neg hno, zero_mul]

/-- What the kernel leaves of a row: the sums over the sum of the weights, and the maximum plus its log. Lane 64 of `V` is 1. -/
theorem Run.final {r i : ℕ} (hi : i < 8) (hr : r < (i + 1) * 512) {m : EReal} {a : ℕ → EReal} (h : Run Q K V r (i + 1) m a)
    (hone : ∀ c, c < 4096 → V c 64 = 1) :
    (∀ d, d < 128 → Ideal.div (a d) (a 64) = ((O Q K V r d : ℝ) : EReal)) ∧ m + Ideal.log (a 64) = ((LSE Q K r : ℝ) : EReal) := by
  rcases h with ⟨h0, -⟩ | ⟨M, rfl, hM⟩
  · omega
  have hZ := Z_pos Q K r (by omega)
  have he := Real.exp_pos (-M)
  have h64 : a 64 = ((Real.exp (-M) * Z Q K r : ℝ) : EReal) := by
    rw [hM 64 (by norm_num), sum_all Q K r i hi hr]
    congr 2
    exact Finset.sum_congr rfl fun c hc => by rw [hone c (Finset.mem_range.mp hc), mul_one]
  refine ⟨fun d hd => ?_, ?_⟩
  · rw [h64, hM d hd, sum_all Q K r i hi hr, div_coe (mul_pos he hZ).ne', mul_div_mul_left _ _ he.ne']
    rfl
  · rw [h64, log_coe (mul_pos he hZ), ← EReal.coe_add, Real.log_mul he.ne' hZ.ne', Real.log_exp]
    congr 1
    unfold LSE
    ring

end Attn

end
-- ==== Proof.FwdPay.lean ====
/-
  What the forward kernel's vector expressions are at an index, over the extended reals: one head's score tile, its row
  maximum, its weights, and the update of the running sums.
-/
module

public import proofs.«01_k».proof.Proof.Gen.FwdIdeal.Frame
public import proofs.«01_k».proof.Proof.AttnMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

/-! ## The tile below the diagonal -/

/-- The score tile: rows of the queries against rows of the keys, scaled. -/
theorem score_at (q k : FVec Ideal S512x128 .bf16) (r c : Fin 512) :
    k0_pay6 (F := Ideal) q k (ix2 r c) = (∑ l : Fin 128, q (ix2 r l) * k (ix2 c l)) * (Attn.scale : EReal) := by
  rw [← Attn.scale_eq]
  pointwise! [k0_pay6]

/-- The tile's row maximum, folded over the four lane groups first. -/
def top (x : FVec Ideal S512x512 .f32) (r : Fin 512) : EReal :=
  (Finset.univ : Finset (Fin 128)).fold max ⊥ fun l : Fin 128 =>
    max (max (max (x (ix2 r ⟨l.1, by omega⟩)) (x (ix2 r ⟨128 + l.1, by omega⟩))) (x (ix2 r ⟨256 + l.1, by omega⟩))) (x (ix2 r ⟨384 + l.1, by omega⟩))

theorem max_at (x : FVec Ideal S512x512 .f32) (m : FVec Ideal S1x512x128 .f32) (r : Fin 512) (l : Fin 128) :
    k0_pay12 (F := Ideal) x m (ix2 r l) = max (m (ix3 0 r l)) (top x r) := by
  pointwise [k0_pay12, k0_pay11]
  rw [Attn.ofBits_neg_inf]
  rfl

theorem alpha_at (x : FVec Ideal S512x512 .f32) (m : FVec Ideal S1x512x128 .f32) (r : Fin 512) (l : Fin 128) :
    k0_pay13 (F := Ideal) x m (ix2 r l) = Ideal.exp (m (ix3 0 r l) - k0_pay12 (F := Ideal) x m (ix2 r l)) := by
  pointwise! [k0_pay13, k0_pay11]

theorem weight_at (x : FVec Ideal S512x512 .f32) (m : FVec Ideal S1x512x128 .f32) (r : Fin 512) (c : Fin 512) :
    ∃ l : Fin 128, k0_pay14 (F := Ideal) x m (ix2 r c) = Ideal.exp (x (ix2 r c) - k0_pay12 (F := Ideal) x m (ix2 r l)) := by
  pointwise [k0_pay14]
  have e : ∀ (a b : Fin 512), a.1 = b.1 → x (ix2 r a) = x (ix2 r b) := fun a b h => by rw [Fin.ext h]
  by_cases h1 : c.1 < 128
  · rw [dif_pos h1]
    exact ⟨_, rfl⟩
  rw [dif_neg h1]
  by_cases h2 : c.1 - 128 < 128
  · rw [dif_pos h2]
    exact ⟨_, by rw [e _ c (by simp only; omega)]⟩
  rw [dif_neg h2]
  by_cases h3 : c.1 - 128 - 128 < 128
  · rw [dif_pos h3]
    exact ⟨_, by rw [e _ c (by simp only; omega)]⟩
  rw [dif_neg h3]
  exact ⟨⟨c.1 - 128 - 128 - 128, by have := c.2; omega⟩, by rw [e _ c (by simp only; have := c.2; omega)]⟩

theorem ones_at (r : Fin 512) (d : Fin 128) : k0_pay28 (F := Ideal) (ix2 r d) = if (d : ℕ) = 64 then 1 else 0 := by
  pointwise [k0_pay28]
  have h : ∀ d : Fin 128, IntOp.cmpi CmpIPredicate.eq (BitVec.ofNat 32 d.1) 64#32 = if (d : ℕ) = 64 then 1#1 else 0#1 := by decide +kernel
  rw [h d]
  split_ifs <;> rfl

theorem acc_at (a : FVec Ideal S512x128 .f32) (p : FVec Ideal S512x512 .bf16) (v : FVec Ideal S512x128 .bf16) (s : FVec Ideal S1x512x128 .f32)
    (r : Fin 512) (d : Fin 128) :
    k0_pay30 (F := Ideal) a p v s (ix3 0 r d) = a (ix2 r d) * s (ix3 0 r d)
      + ∑ c : Fin 512, p (ix2 r c) * (v (ix2 c d) + k0_pay28 (F := Ideal) (ix2 c d)) := by
  pointwise! [k0_pay30]

/-- The kernel's sixty lines for one head and one tile, written out four times, are one function of the score tile. -/
theorem low0_acc (q k : FVec Ideal S512x128 .bf16) (m : FVec Ideal S1x512x128 .f32) (v : FVec Ideal S512x128 .bf16) (s : FVec Ideal S1x512x128 .f32) :
    k0_pay15 (F := Ideal) (k0_pay28 (F := Ideal)) (k0_pay8 m) (k0_pay9 q k m) (k0_pay10 q k m) v s
      = k0_pay30 (F := Ideal) (k0_pay13 (k0_pay6 q k) m) (k0_pay14 (k0_pay6 q k) m) v s := rfl

theorem low0_max (q k : FVec Ideal S512x128 .bf16) (m : FVec Ideal S1x512x128 .f32) :
    k0_pay9 (F := Ideal) q k m = k0_pay12 (F := Ideal) (k0_pay6 q k) m := rfl

theorem diag0_acc (x : FVec Ideal S512x512 .f32) (m : FVec Ideal S1x512x128 .f32) (v : FVec Ideal S512x128 .bf16) (s : FVec Ideal S1x512x128 .f32) :
    k0_pay57 (F := Ideal) (k0_pay56 (F := Ideal) (k0_pay28 (F := Ideal)) x (k0_pay48 m) (k0_pay49 x m) (k0_pay50 x m) (k0_pay51 x) v s)
      = k0_pay30 (F := Ideal) (k0_pay13 x m) (k0_pay14 x m) v s := rfl

theorem diag1_acc (x : FVec Ideal S512x512 .f32) (m : FVec Ideal S1x512x128 .f32) (v : FVec Ideal S512x128 .bf16) (s : FVec Ideal S1x512x128 .f32) :
    k0_pay59 (F := Ideal) (k0_pay28 (F := Ideal)) (k0_pay54 x m) (k0_pay55 x m) v s
      = k0_pay30 (F := Ideal) (k0_pay13 x m) (k0_pay14 x m) v s := rfl

/-! ## The tile on the diagonal -/

theorem chunk_row (r c : Fin 512) :
    k0_pay37 (iota .tc S512x512 32 [0] iota_S512x512_d0_w32) 0#32 (ix2 r c) = BitVec.ofNat 32 (r.1 / 64) := by
  pointwise [k0_pay37]
  clear c
  revert r
  decide +kernel

theorem chunk_col (r c : Fin 512) :
    Scalar.select (IntOp.andi (k0_pay39 (ix2 r c)) (IntOp.cmpi CmpIPredicate.ne (k0_pay40 (ix2 r c)) 0#32)) (IntOp.subi (k0_pay38 (ix2 r c)) 1#32) (k0_pay38 (ix2 r c)) = BitVec.ofNat 32 (c.1 / 64) := by
  pointwise [k0_pay38, k0_pay39, k0_pay40, k0_pay36]
  clear r
  revert c
  decide +kernel

theorem sge_small : ∀ a b : Fin 8, IntOp.cmpi CmpIPredicate.sge (BitVec.ofNat 32 a.1) (BitVec.ofNat 32 b.1) = if b ≤ a then 1#1 else 0#1 := by
  decide +kernel

theorem mask_eq : Named.named (F := Ideal) κ "mask" (φ := .f32) 0xF149F2CA#32 = (⊥ : EReal) :=
  IdealRules.named_const.ideal_named_scalar _ _ _ _ rfl

theorem keep_at {α : Type} (r c : Fin 512) (x y : α) :
    Scalar.select (IntOp.cmpi CmpIPredicate.sge (BitVec.ofNat 32 (r.1 / 64)) (BitVec.ofNat 32 (c.1 / 64))) x y = if c.1 / 64 ≤ r.1 / 64 then x else y := by
  have h := sge_small ⟨r.1 / 64, by omega⟩ ⟨c.1 / 64, by omega⟩
  simp only [Fin.mk_le_mk] at h
  rw [h]
  split_ifs <;> rfl

/-- The tile on the diagonal keeps a key whose chunk of 64 is not after the query's. -/
def diag (x : FVec Ideal S512x512 .f32) : FVec Ideal S512x512 .f32 :=
  k0_pay41 (F := Ideal) x (k0_pay37 (iota .tc S512x512 32 [0] iota_S512x512_d0_w32) 0#32) k0_pay38 k0_pay39 k0_pay40

theorem diag_at (x : FVec Ideal S512x512 .f32) (r c : Fin 512) :
    diag x (ix2 r c) = if (c : ℕ) / 64 ≤ r / 64 then x (ix2 r c) else ⊥ := by
  unfold diag
  pointwise [k0_pay41]
  rw [chunk_row, chunk_col, keep_at, mask_eq]

theorem diag1_eq (x : FVec Ideal S512x512 .f32) :
    k0_pay47 (F := Ideal) x k0_pay44 k0_pay45 k0_pay46 = diag x := rfl

theorem diag1_score (q k : FVec Ideal S512x128 .bf16) : k0_pay42 (F := Ideal) q k = k0_pay6 q k := rfl

theorem diag0_score (q k : FVec Ideal S512x128 .bf16) : k0_pay35 (F := Ideal) q k = k0_pay6 q k := rfl

/-! ## What is stored at the end -/

theorem lane_lt : ∀ d : Fin 128, IntOp.cmpi CmpIPredicate.slt (BitVec.ofNat 32 d.1) 64#32 = if (d : ℕ) < 64 then 1#1 else 0#1 := by
  decide +kernel

theorem out0_at (v8 : IVec S512x128 32) (hv : ∀ r d, v8 (ix2 r d) = BitVec.ofNat 32 d.1) (a : FVec Ideal S1x512x128 .f32) (r : Fin 512) (d : Fin 128) :
    k0_pay63 (F := Ideal) v8 a (ix2 r d) = if (d : ℕ) < 64 then Ideal.div (a (ix3 0 r d)) (a (ix3 0 r 64)) else 0 := by
  pointwise [k0_pay63, k0_pay61, k0_pay62]
  rw [hv, lane_lt]
  split_ifs <;> rfl

theorem out1_at (v8 : IVec S512x128 32) (hv : ∀ r d, v8 (ix2 r d) = BitVec.ofNat 32 d.1) (a : FVec Ideal S1x512x128 .f32) (r : Fin 512) (d : Fin 128) :
    k0_pay4 (F := Ideal) v8 a (ix2 r d) = if (d : ℕ) < 64 then Ideal.div (a (ix3 0 r d)) (a (ix3 0 r 64)) else 0 := by
  pointwise [k0_pay4, k0_pay2, k0_pay3]
  rw [hv, lane_lt]
  split_ifs <;> rfl

theorem lse0_at (a m : FVec Ideal S1x512x128 .f32) (r : Fin 512) :
    k0_pay1 (F := Ideal) (k0_pay62 a) m (ix3 0 r 0) = m (ix3 0 r 0) + Ideal.log (a (ix3 0 r 64)) := by
  pointwise! [k0_pay1, k0_pay62, k0_pay61]

theorem lse1_at (a m : FVec Ideal S1x512x128 .f32) (r : Fin 512) :
    k0_pay5 (F := Ideal) a m (ix3 0 r 0) = m (ix3 0 r 0) + Ideal.log (a (ix3 0 r 64)) := by
  pointwise! [k0_pay5, k0_pay2, k0_pay3]

end Cert.FwdIdeal.Value

end
-- ==== Proof.FwdLoop.lean ====
/-
  The forward kernel's loop over the key tiles of one query tile: what a trip, and the tile on the diagonal after it, do to
  the running maximum and the running sums, and what the tile's outputs are.
-/
module

public import proofs.«01_k».proof.Proof.FwdPay
public import Idealize.ShloMosaic.Lib.WritesUnit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

/-- One head's new row maximum, and its new running sums, from the tile's scores. -/
def newM (x : FVec Ideal S512x512 .f32) (m : FVec Ideal S1x512x128 .f32) : FVec Ideal S1x512x128 .f32 := k0_pay31 (k0_pay12 x m)

def newA (x : FVec Ideal S512x512 .f32) (m : FVec Ideal S1x512x128 .f32) (v : FVec Ideal S512x128 .bf16) (a : FVec Ideal S1x512x128 .f32) : FVec Ideal S1x512x128 .f32 :=
  k0_pay30 (k0_pay13 x m) (k0_pay14 x m) v a

/-- A row's entries as a function of the lane's number. -/
def lanes (f : Fin 128 → EReal) : ℕ → EReal := fun d => if hd : d < 128 then f ⟨d, hd⟩ else 0

theorem lanes_lt (f : Fin 128 → EReal) {d : ℕ} (hd : d < 128) : lanes f d = f ⟨d, hd⟩ := dif_pos hd

theorem newM_at (x : FVec Ideal S512x512 .f32) (m : FVec Ideal S1x512x128 .f32) (r : Fin 512) (l : Fin 128) :
    newM x m (ix3 0 r l) = k0_pay12 (F := Ideal) x m (ix2 r l) := by
  pointwise! [newM, k0_pay31]

theorem top_real (x : FVec Ideal S512x512 .f32) (r : Fin 512) (hlt : ∀ c, x (ix2 r c) < ⊤) (hex : ∃ c, ⊥ < x (ix2 r c)) :
    ∃ t : ℝ, top x r = (t : EReal) := by
  unfold top
  refine Attn.fold_max_real _ _ (fun l _ => ?_) ?_
  · simp only [max_lt_iff, hlt, and_self]
  · obtain ⟨c, hc⟩ := hex
    refine ⟨⟨c.1 % 128, by omega⟩, Finset.mem_univ _, ?_⟩
    simp only [lt_max_iff]
    have hcases : c.1 = c.1 % 128 ∨ c.1 = 128 + c.1 % 128 ∨ c.1 = 256 + c.1 % 128 ∨ c.1 = 384 + c.1 % 128 := by omega
    rcases hcases with h | h | h | h
    · left; left; left
      rwa [show (⟨c.1 % 128, by omega⟩ : Fin 512) = c from Fin.ext h.symm]
    · left; left; right
      rwa [show (⟨128 + c.1 % 128, by omega⟩ : Fin 512) = c from Fin.ext h.symm]
    · left; right
      rwa [show (⟨256 + c.1 % 128, by omega⟩ : Fin 512) = c from Fin.ext h.symm]
    · right
      rwa [show (⟨384 + c.1 % 128, by omega⟩ : Fin 512) = c from Fin.ext h.symm]

/-- One row of one tile: the row's scores are those of keys `n·512 + c`, one of which it sees. -/
theorem step_row (Q K V : ℕ → ℕ → ℝ) (R n : ℕ) (x : FVec Ideal S512x512 .f32) (m : FVec Ideal S1x512x128 .f32) (v : FVec Ideal S512x128 .bf16)
    (a : FVec Ideal S1x512x128 .f32) (r : Fin 512)
    (hx : ∀ c : Fin 512, x (ix2 r c) = Attn.SM Q K R (n * 512 + c.1))
    (hok : ∃ c : Fin 512, Attn.ok R (n * 512 + c.1))
    (hv : ∀ (c : Fin 512) (d : Fin 128), v (ix2 c d) + (if d.1 = 64 then (1 : EReal) else 0) = ((V (n * 512 + c.1) d.1 : ℝ) : EReal))
    (mm : EReal) (hm : ∀ l, m (ix3 0 r l) = mm)
    (hrun : Attn.Run Q K V R n mm (lanes fun d => a (ix3 0 r d))) :
    ∃ m', (∀ l, newM x m (ix3 0 r l) = m') ∧ Attn.Run Q K V R (n + 1) m' (lanes fun d => newA x m v a (ix3 0 r d)) := by
  obtain ⟨T, hT⟩ := top_real x r (fun c => by rw [hx]; exact Attn.SM_lt_top _ _ _ _) (by
    obtain ⟨c, hc⟩ := hok
    refine ⟨c, ?_⟩
    rw [hx, Attn.SM, if_pos hc]
    exact EReal.bot_lt_coe _)
  have hmax : ∀ l, k0_pay12 (F := Ideal) x m (ix2 r l) = max mm (T : EReal) := fun l => by rw [max_at, hm, hT]
  refine ⟨max mm (T : EReal), fun l => by rw [newM_at, hmax], ?_⟩
  refine hrun.step Q K V T _ rfl _ fun d hd => ?_
  rw [lanes_lt _ hd, lanes_lt _ hd]
  unfold newA
  rw [acc_at, alpha_at, hm, hmax]
  refine congrArg (fun z : EReal => _ + z) (Finset.sum_congr rfl fun c _ => ?_)
  obtain ⟨l, hl⟩ := weight_at x m r c
  rw [hl, hmax, hx, ones_at, hv]

/-- The three arrays a query tile reads, as real numbers: its own 512 rows of the queries, and all rows of the keys and of
the values; the values' lane 64, which the kernel fills with ones, counts as one. -/
structure Data (Q K V : Fin 2 → ℕ → ℕ → ℝ) (T : ℕ) (x0 : FVec Ideal S512x256 .bf16) (x1 x2 : FVec Ideal S4096x256 .bf16) : Prop where
  q : ∀ (h : Fin 2) (r : Fin 512) (l : Fin 128), x0 (ix2 r ⟨h.1 * 128 + l.1, by omega⟩) = ((Q h (T * 512 + r.1) l.1 : ℝ) : EReal)
  k : ∀ (h : Fin 2) (c : Fin 4096) (l : Fin 128), x1 (ix2 c ⟨h.1 * 128 + l.1, by omega⟩) = ((K h c.1 l.1 : ℝ) : EReal)
  v : ∀ (h : Fin 2) (c : Fin 4096) (d : Fin 128),
    x2 (ix2 c ⟨h.1 * 128 + d.1, by omega⟩) + (if d.1 = 64 then (1 : EReal) else 0) = ((V h c.1 d.1 : ℝ) : EReal)

/-- One head's half of a block of 512 rows, and one head's half of key tile `n`. -/
def half (h : Fin 2) (x : FVec Ideal S512x256 .bf16) : FVec Ideal S512x128 .bf16 := fun j => x (ix2 (j 0) ⟨h.1 * 128 + (j 1).1, by have := (j 1).2; simp only [S512x128] at this; change (j 1).1 < 128 at this; omega⟩)

def tile (n : Fin 8) (h : Fin 2) (x : FVec Ideal S4096x256 .bf16) : FVec Ideal S512x128 .bf16 :=
  fun j => x (ix2 ⟨n.1 * 512 + (j 0).1, by have := (j 0).2; change (j 0).1 < 512 at this; omega⟩ ⟨h.1 * 128 + (j 1).1, by have := (j 1).2; change (j 1).1 < 128 at this; omega⟩)

/-- One head's part of the carried state. -/
def part (h : Fin 2) (s : FVec Ideal S2x512x128 .f32) : FVec Ideal S1x512x128 .f32 := fun j => s (ix3 h (j 1) (j 2))

/-- The carried state after `n` tiles. -/
def St (Q K V : Fin 2 → ℕ → ℕ → ℝ) (T n : ℕ) (s7 s8 : FVec Ideal S2x512x128 .f32) : Prop :=
  ∀ (h : Fin 2) (r : Fin 512), ∃ m, (∀ l, s7 (ix3 h r l) = m) ∧ Attn.Run (Q h) (K h) (V h) (T * 512 + r.1) n m (lanes fun d => s8 (ix3 h r d))

variable {Q K V : Fin 2 → ℕ → ℕ → ℝ} {T : ℕ} {x0 : FVec Ideal S512x256 .bf16} {x1 x2 : FVec Ideal S4096x256 .bf16}

theorem Data.score (D : Data Q K V T x0 x1 x2) (n : Fin 8) (h : Fin 2) (r c : Fin 512) :
    k0_pay6 (F := Ideal) (half h x0) (tile n h x1) (ix2 r c) = ((Attn.S (Q h) (K h) (T * 512 + r.1) (n.1 * 512 + c.1) : ℝ) : EReal) := by
  rw [score_at, Attn.S, EReal.coe_mul, ← Fin.sum_univ_eq_sum_range (fun l => Q h (T * 512 + r.1) l * K h (n.1 * 512 + c.1) l) 128, Attn.coe_sum]
  refine congrArg (fun z : EReal => z * _) (Finset.sum_congr rfl fun l _ => ?_)
  rw [EReal.coe_mul, ← D.q, ← D.k h ⟨n.1 * 512 + c.1, by omega⟩ l]
  rfl

theorem Data.val (D : Data Q K V T x0 x1 x2) (n : Fin 8) (h : Fin 2) (c : Fin 512) (d : Fin 128) :
    tile n h x2 (ix2 c d) + (if d.1 = 64 then (1 : EReal) else 0) = ((V h (n.1 * 512 + c.1) d.1 : ℝ) : EReal) :=
  D.v h ⟨n.1 * 512 + c.1, by omega⟩ d

/-- A tile before the diagonal. -/
theorem Data.low (D : Data Q K V T x0 x1 x2) (n : Fin 8) (hn : n.1 < T) {s7 s8 t7 t8 : FVec Ideal S2x512x128 .f32} (hs : St Q K V T n.1 s7 s8)
    (h7 : ∀ h r l, t7 (ix3 h r l) = newM (k0_pay6 (half h x0) (tile n h x1)) (part h s7) (ix3 0 r l))
    (h8 : ∀ h r l, t8 (ix3 h r l) = newA (k0_pay6 (half h x0) (tile n h x1)) (part h s7) (tile n h x2) (part h s8) (ix3 0 r l)) :
    St Q K V T (n.1 + 1) t7 t8 := by
  intro h r
  obtain ⟨m, hm, hr⟩ := hs h r
  have hok : ∀ c : Fin 512, Attn.ok (T * 512 + r.1) (n.1 * 512 + c.1) := fun c => by
    unfold Attn.ok
    have : n.1 * 512 + c.1 ≤ T * 512 + r.1 := by omega
    omega
  obtain ⟨m', h1, h2⟩ := step_row (Q h) (K h) (V h) (T * 512 + r.1) n.1 (k0_pay6 (half h x0) (tile n h x1)) (part h s7) (tile n h x2) (part h s8) r
    (fun c => by rw [D.score, Attn.SM, if_pos (hok c)]) ⟨0, hok 0⟩ (fun c d => D.val n h c d) m hm hr
  refine ⟨m', fun l => by rw [h7, h1], ?_⟩
  simpa only [h8] using h2

/-- The tile on the diagonal. -/
theorem Data.last (D : Data Q K V T x0 x1 x2) (n : Fin 8) (hn : n.1 = T) {s7 s8 t7 t8 : FVec Ideal S2x512x128 .f32} (hs : St Q K V T n.1 s7 s8)
    (h7 : ∀ h r l, t7 (ix3 h r l) = newM (diag (k0_pay6 (half h x0) (tile n h x1))) (part h s7) (ix3 0 r l))
    (h8 : ∀ h r l, t8 (ix3 h r l) = newA (diag (k0_pay6 (half h x0) (tile n h x1))) (part h s7) (tile n h x2) (part h s8) (ix3 0 r l)) :
    St Q K V T (n.1 + 1) t7 t8 := by
  intro h r
  obtain ⟨m, hm, hr⟩ := hs h r
  have hok : ∀ c : Fin 512, Attn.ok (T * 512 + r.1) (n.1 * 512 + c.1) ↔ c.1 / 64 ≤ r.1 / 64 := fun c => by
    unfold Attn.ok
    rw [hn]
    omega
  obtain ⟨m', h1, h2⟩ := step_row (Q h) (K h) (V h) (T * 512 + r.1) n.1 (diag (k0_pay6 (half h x0) (tile n h x1))) (part h s7) (tile n h x2) (part h s8) r
    (fun c => by
      rw [diag_at, D.score, Attn.SM]
      simp only [hok c]) ⟨r, (hok r).mpr le_rfl⟩ (fun c d => D.val n h c d) m hm hr
  refine ⟨m', fun l => by rw [h7, h1], ?_⟩
  simpa only [h8] using h2

/-! ## Loads and stores of a head's half -/

theorem ld_part0 (arg7 : Memref sig .tc .vmem S2x512x128 .f32) (f : BufTy.Contents (Elt Ideal) arg7.view.ty) :
    View.readAt (Elt Ideal) arg7.view (Rect.unit (s := S2x512x128) ![0, 0, 0] S1x512x128.size inb_S2x512x128_S1x512x128_0_0_0).toLoadRect f
      = part 0 (arg7.view.read (Elt Ideal) f) := by
  funext j
  refine congrArg (arg7.view.read (Elt Ideal) f) (funext fun a => Fin.ext ?_)
  fin_cases a
  · have := (j 0).2; change (j 0).1 < 1 at this
    show 0 + 1 * (j 0).1 = 0
    omega
  · show 0 + 1 * (j 1).1 = (j 1).1
    omega
  · show 0 + 1 * (j 2).1 = (j 2).1
    omega

theorem ld_part1 (arg7 : Memref sig .tc .vmem S2x512x128 .f32) (f : BufTy.Contents (Elt Ideal) arg7.view.ty) :
    View.readAt (Elt Ideal) arg7.view (Rect.unit (s := S2x512x128) ![1, 0, 0] S1x512x128.size inb_S2x512x128_S1x512x128_1_0_0).toLoadRect f
      = part 1 (arg7.view.read (Elt Ideal) f) := by
  funext j
  refine congrArg (arg7.view.read (Elt Ideal) f) (funext fun a => Fin.ext ?_)
  fin_cases a
  · have := (j 0).2; change (j 0).1 < 1 at this
    show 1 + 1 * (j 0).1 = 1
    omega
  · show 0 + 1 * (j 1).1 = (j 1).1
    omega
  · show 0 + 1 * (j 2).1 = (j 2).1
    omega

theorem ld_half0 (arg2 : Memref sig .tc .vmem S512x256 .bf16) (f : BufTy.Contents (Elt Ideal) arg2.view.ty) :
    View.readAt (Elt Ideal) arg2.view (Rect.unit (s := S512x256) ![0, 0] S512x128.size inb_S512x256_S512x128_0_0).toLoadRect f
      = half 0 (arg2.view.read (Elt Ideal) f) := by
  funext j
  refine congrArg (arg2.view.read (Elt Ideal) f) (funext fun a => Fin.ext ?_)
  fin_cases a
  · show 0 + 1 * (j 0).1 = (j 0).1
    omega
  · show 0 + 1 * (j 1).1 = 0 * 128 + (j 1).1
    omega

theorem ld_half1 (arg2 : Memref sig .tc .vmem S512x256 .bf16) (f : BufTy.Contents (Elt Ideal) arg2.view.ty) :
    View.readAt (Elt Ideal) arg2.view (Rect.unit (s := S512x256) ![0, 128] S512x128.size inb_S512x256_S512x128_0_128).toLoadRect f
      = half 1 (arg2.view.read (Elt Ideal) f) := by
  funext j
  refine congrArg (arg2.view.read (Elt Ideal) f) (funext fun a => Fin.ext ?_)
  fin_cases a
  · show 0 + 1 * (j 0).1 = (j 0).1
    omega
  · show 128 + 1 * (j 1).1 = 1 * 128 + (j 1).1
    omega

theorem ld_tile (arg3 : Memref sig .tc .vmem S4096x256 .bf16) (f : BufTy.Contents (Elt Ideal) arg3.view.ty) (n : Fin 8) (h : Fin 2)
    (off : Fin 2 → ℕ) (inb : ∀ a, off a + S512x128.size a ≤ S4096x256.size a) (ho : off = ![512 * n.1, 128 * h.1]) :
    View.readAt (Elt Ideal) arg3.view (Rect.unit (s := S4096x256) off S512x128.size inb).toLoadRect f = tile n h (arg3.view.read (Elt Ideal) f) := by
  subst ho
  funext j
  refine congrArg (arg3.view.read (Elt Ideal) f) (funext fun a => Fin.ext ?_)
  fin_cases a
  · show 512 * n.1 + 1 * (j 0).1 = n.1 * 512 + (j 0).1
    omega
  · show 128 * h.1 + 1 * (j 1).1 = h.1 * 128 + (j 1).1
    omega

/-- What a block of two heads reads after both heads' halves were stored. -/
theorem st_part (arg7 : Memref sig .tc .vmem S2x512x128 .f32) (f : BufTy.Contents (Elt Ideal) arg7.view.ty) (w : Fin 2 → FVec Ideal S1x512x128 .f32)
    (L : List (View.Piece (Elt Ideal) S2x512x128 .f32)) (h : Fin 2) (r : Fin 512) (l : Fin 128) :
    arg7.view.read (Elt Ideal) (arg7.view.writes (Elt Ideal) f
      ((⟨Rect.unit (s := S2x512x128) ![1, 0, 0] S1x512x128.size inb_S2x512x128_S1x512x128_1_0_0, w 1⟩ : View.Piece (Elt Ideal) S2x512x128 .f32)
        :: (⟨Rect.unit (s := S2x512x128) ![0, 0, 0] S1x512x128.size inb_S2x512x128_S1x512x128_0_0_0, w 0⟩ : View.Piece (Elt Ideal) S2x512x128 .f32) :: L)) (ix3 h r l)
      = w h (ix3 0 r l) := by
  fin_cases h
  · refine (View.read_writes_cons_unit_of_not_mem _ _ _ _ _ _ rfl 0 (Or.inl (by show (0 : ℕ) < 1; omega))).trans ?_
    refine View.read_writes_cons_unit_of_mem arg7.view f (off := ![0, 0, 0]) (off' := ![0, 0, 0]) (size := S1x512x128.size) inb_S2x512x128_S1x512x128_0_0_0 (w 0) _ (ix3 (0 : Fin 2) r l) (by exact ix3 0 r l) rfl ?_
    intro a
    fin_cases a
    · show (0 : ℕ) = 0 + 0; omega
    · show r.1 = 0 + r.1; omega
    · show l.1 = 0 + l.1; omega
  · refine View.read_writes_cons_unit_of_mem arg7.view f (off := ![1, 0, 0]) (off' := ![1, 0, 0]) (size := S1x512x128.size) inb_S2x512x128_S1x512x128_1_0_0 (w 1) _ (ix3 (1 : Fin 2) r l) (by exact ix3 0 r l) rfl ?_
    intro a
    fin_cases a
    · show (1 : ℕ) = 1 + 0; omega
    · show r.1 = 0 + r.1; omega
    · show l.1 = 0 + l.1; omega

variable (𝒱 : Variants) (c : Dev nD) (bd : Option 𝒱.V) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S2x512x1 .f32) (harg6 : arg6.IsWhole) (arg7 : Memref sig .tc .vmem S2x512x128 .f32) (harg7 : arg7.IsWhole) (arg8 : Memref sig .tc .vmem S2x512x128 .f32) (harg8 : arg8.IsWhole)
  (X_arg2 : BufTy.Contents (Elt Ideal) arg2.view.ty) (X_arg3 : BufTy.Contents (Elt Ideal) arg3.view.ty) (X_arg4 : BufTy.Contents (Elt Ideal) arg4.view.ty)

theorem tripL_eq (k : Fin (k0_t1_loop i).trips) (f7 : BufTy.Contents (Elt Ideal) arg7.view.ty) (f8 : BufTy.Contents (Elt Ideal) arg8.view.ty) :
    tripL_k0_t1 (F := Ideal) 𝒱 c bd i arg2 harg2 arg3 harg3 arg4 harg4 arg5 harg5 arg6 harg6 arg7 harg7 arg8 harg8 X_arg2 X_arg3 X_arg4 k f7 f8
      = (let q0 := View.readAt (Elt Ideal) arg2.view (Rect.unit (s := S512x256) ![0, 0] S512x128.size inb_S512x256_S512x128_0_0).toLoadRect X_arg2
         let q1 := View.readAt (Elt Ideal) arg2.view (Rect.unit (s := S512x256) ![0, 128] S512x128.size inb_S512x256_S512x128_0_128).toLoadRect X_arg2
         let k0 := View.readAt (Elt Ideal) arg3.view (Rect.unit (s := S4096x256) (k0_off1 i k) S512x128.size (k0_off1_inb i k)).toLoadRect X_arg3
         let k1 := View.readAt (Elt Ideal) arg3.view (Rect.unit (s := S4096x256) (k0_off2 i k) S512x128.size (k0_off2_inb i k)).toLoadRect X_arg3
         let v0 := View.readAt (Elt Ideal) arg4.view (Rect.unit (s := S4096x256) (k0_off1 i k) S512x128.size (k0_off1_inb i k)).toLoadRect X_arg4
         let v1 := View.readAt (Elt Ideal) arg4.view (Rect.unit (s := S4096x256) (k0_off2 i k) S512x128.size (k0_off2_inb i k)).toLoadRect X_arg4
         let m0 := View.readAt (Elt Ideal) arg7.view (Rect.unit (s := S2x512x128) ![0, 0, 0] S1x512x128.size inb_S2x512x128_S1x512x128_0_0_0).toLoadRect f7
         let a0 := View.readAt (Elt Ideal) arg8.view (Rect.unit (s := S2x512x128) ![0, 0, 0] S1x512x128.size inb_S2x512x128_S1x512x128_0_0_0).toLoadRect f8
         let p7 : View.Piece (Elt Ideal) S2x512x128 .f32 := ⟨Rect.unit (s := S2x512x128) ![0, 0, 0] S1x512x128.size inb_S2x512x128_S1x512x128_0_0_0, newM (k0_pay6 q0 k0) m0⟩
         let p8 : View.Piece (Elt Ideal) S2x512x128 .f32 := ⟨Rect.unit (s := S2x512x128) ![0, 0, 0] S1x512x128.size inb_S2x512x128_S1x512x128_0_0_0, newA (k0_pay6 q0 k0) m0 v0 a0⟩
         let m1 := View.readAt (Elt Ideal) arg7.view (Rect.unit (s := S2x512x128) ![1, 0, 0] S1x512x128.size inb_S2x512x128_S1x512x128_1_0_0).toLoadRect f7
         let a1 := View.readAt (Elt Ideal) arg8.view (Rect.unit (s := S2x512x128) ![1, 0, 0] S1x512x128.size inb_S2x512x128_S1x512x128_1_0_0).toLoadRect f8
         ([⟨Rect.unit (s := S2x512x128) ![1, 0, 0] S1x512x128.size inb_S2x512x128_S1x512x128_1_0_0, newM (k0_pay6 q1 k1) m1⟩, p7],
          [⟨Rect.unit (s := S2x512x128) ![1, 0, 0] S1x512x128.size inb_S2x512x128_S1x512x128_1_0_0, newA (k0_pay6 q1 k1) m1 v1 a1⟩, p8])) := by
  unfold tripL_k0_t1 trip_k0_t1
  rfl

theorem trips1 : ∀ i : grid0.Coords, (k0_t1_loop i).trips = (i 1).val := by decide +kernel

theorem trips2 : ∀ i : grid0.Coords, (k0_t2_loop i).trips = 0 := by decide +kernel

theorem i1_lt (i : grid0.Coords) : (i 1).val < 8 := (i 1).isLt

/-- The state after the first `n` trips of the loop. -/
theorem loop_state (G7 : BufTy.Contents (Elt Ideal) arg7.view.ty) (G8 : BufTy.Contents (Elt Ideal) arg8.view.ty)
    (D : Data Q K V (i 1).val (arg2.view.read (Elt Ideal) X_arg2) (arg3.view.read (Elt Ideal) X_arg3) (arg4.view.read (Elt Ideal) X_arg4))
    (h0 : St Q K V (i 1).val 0 (arg7.view.read (Elt Ideal) G7) (arg8.view.read (Elt Ideal) G8)) (n : ℕ) (hn : n ≤ (i 1).val) :
    St Q K V (i 1).val n
      (arg7.view.read (Elt Ideal) (arg7.view.writes (Elt Ideal) G7 (pb_k0_t1 (F := Ideal) 𝒱 c bd i arg2 harg2 arg3 harg3 arg4 harg4 arg5 harg5 arg6 harg6 arg7 harg7 arg8 harg8 X_arg2 X_arg3 X_arg4 G7 G8 n).1))
      (arg8.view.read (Elt Ideal) (arg8.view.writes (Elt Ideal) G8 (pb_k0_t1 (F := Ideal) 𝒱 c bd i arg2 harg2 arg3 harg3 arg4 harg4 arg5 harg5 arg6 harg6 arg7 harg7 arg8 harg8 X_arg2 X_arg3 X_arg4 G7 G8 n).2)) := by
  induction n with
  | zero => exact h0
  | succ n ih =>
    have hk : n < (k0_t1_loop i).trips := by rw [trips1]; omega
    have h8 := i1_lt i
    have ih' := ih (by omega)
    have e := pb_k0_t1_succ (F := Ideal) 𝒱 c bd i arg2 harg2 arg3 harg3 arg4 harg4 arg5 harg5 arg6 harg6 arg7 harg7 arg8 harg8 X_arg2 X_arg3 X_arg4 G7 G8 ⟨n, hk⟩
    rw [tripL_eq] at e
    dsimp only at e
    rw [ld_half0, ld_half1, ld_part0, ld_part0, ld_part1, ld_part1,
      ld_tile arg3 X_arg3 ⟨n, by omega⟩ 0 _ _ (k0_off1_eq i ⟨n, hk⟩), ld_tile arg3 X_arg3 ⟨n, by omega⟩ 1 _ _ (k0_off2_eq i ⟨n, hk⟩),
      ld_tile arg4 X_arg4 ⟨n, by omega⟩ 0 _ _ (k0_off1_eq i ⟨n, hk⟩), ld_tile arg4 X_arg4 ⟨n, by omega⟩ 1 _ _ (k0_off2_eq i ⟨n, hk⟩)] at e
    rw [e]
    dsimp only [List.cons_append, List.nil_append]
    refine D.low ⟨n, by omega⟩ (by show n < _; omega) ih' (fun h r l => ?_) (fun h r l => ?_)
    · exact st_part arg7 G7 (fun h => newM (k0_pay6 (half h (arg2.view.read (Elt Ideal) X_arg2)) (tile ⟨n, by omega⟩ h (arg3.view.read (Elt Ideal) X_arg3))) (part h _)) _ h r l
    · exact st_part arg8 G8 (fun h => newA (k0_pay6 (half h (arg2.view.read (Elt Ideal) X_arg2)) (tile ⟨n, by omega⟩ h (arg3.view.read (Elt Ideal) X_arg3))) (part h _) (tile ⟨n, by omega⟩ h (arg4.view.read (Elt Ideal) X_arg4)) (part h _)) _ h r l

/-- Before the first tile. -/
theorem St.init (Q K V : Fin 2 → ℕ → ℕ → ℝ) (T : ℕ) {s7 s8 : FVec Ideal S2x512x128 .f32} (h7 : ∀ j, s7 j = ⊥) (h8 : ∀ j, s8 j = 0) : St Q K V T 0 s7 s8 := by
  intro h r
  refine ⟨⊥, fun l => h7 _, Or.inl ⟨rfl, rfl, fun d hd => ?_⟩⟩
  rw [lanes_lt _ hd, h8]

end Cert.FwdIdeal.Value

end
-- ==== Proof.FwdOut.lean ====
/-
  The forward kernel's outputs at one grid point: the two heads' attention rows and the logs of their normalisers.
-/
module

public import proofs.«01_k».proof.Proof.FwdLoop

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S512x256 .f32) (harg5 : arg5.IsWhole) (arg6 : Memref sig .tc .vmem S2x512x1 .f32) (harg6 : arg6.IsWhole) (arg7 : Memref sig .tc .vmem S2x512x128 .f32) (harg7 : arg7.IsWhole) (arg8 : Memref sig .tc .vmem S2x512x128 .f32) (harg8 : arg8.IsWhole)
  (x0 : Vec Ideal S512x256 .bf16) (x1 : Vec Ideal S4096x256 .bf16) (x2 : Vec Ideal S4096x256 .bf16)

/-- The first stores: the maximum's start and the sums' start. -/
abbrev init7 : List (View.Piece (Elt Ideal) S2x512x128 .f32) :=
  [⟨Rect.unit (s := S2x512x128) ![0, 0, 0] S2x512x128.size inb_S2x512x128_S2x512x128_0_0_0, k0_pay26 (F := Ideal)⟩]

abbrev init8 : List (View.Piece (Elt Ideal) S2x512x128 .f32) :=
  [⟨Rect.unit (s := S2x512x128) ![0, 0, 0] S2x512x128.size inb_S2x512x128_S2x512x128_0_0_0, k0_pay27 (F := Ideal)⟩]

/-- What the first loop stores. -/
abbrev lists1 : List (View.Piece (Elt Ideal) S2x512x128 .f32) × List (View.Piece (Elt Ideal) S2x512x128 .f32) :=
  pb_k0_t1 (F := Ideal) Variants.none c none i arg2 harg2 arg3 harg3 arg4 harg4 arg5 harg5 arg6 harg6 arg7 harg7 arg8 harg8 (harg2.unread x0) (harg3.unread x1) (harg4.unread x2)
    (arg7.view.writes (Elt Ideal) arg7.view.junk init7) (arg8.view.writes (Elt Ideal) arg8.view.junk init8) (k0_t1_loop i).trips

/-- What the second loop stores. -/
abbrev lists2 : List (View.Piece (Elt Ideal) S2x512x128 .f32) × List (View.Piece (Elt Ideal) S2x512x128 .f32) :=
  pb_k0_t2 (F := Ideal) Variants.none c none i arg2 harg2 arg3 harg3 arg4 harg4 arg5 harg5 arg6 harg6 arg7 harg7 arg8 harg8 (k0_t2_loop i).lb (harg2.unread x0) (harg3.unread x1) (harg4.unread x2)
    (arg7.view.writes (Elt Ideal) arg7.view.junk ((lists1 c i arg2 harg2 arg3 harg3 arg4 harg4 arg5 harg5 arg6 harg6 arg7 harg7 arg8 harg8 x0 x1 x2).1 ++ init7)) (arg8.view.writes (Elt Ideal) arg8.view.junk ((lists1 c i arg2 harg2 arg3 harg3 arg4 harg4 arg5 harg5 arg6 harg6 arg7 harg7 arg8 harg8 x0 x1 x2).2 ++ init8)) (k0_t2_loop i).trips

def base7 : List (View.Piece (Elt Ideal) S2x512x128 .f32) := (lists2 c i arg2 harg2 arg3 harg3 arg4 harg4 arg5 harg5 arg6 harg6 arg7 harg7 arg8 harg8 x0 x1 x2).1 ++ ((lists1 c i arg2 harg2 arg3 harg3 arg4 harg4 arg5 harg5 arg6 harg6 arg7 harg7 arg8 harg8 x0 x1 x2).1 ++ init7)

def base8 : List (View.Piece (Elt Ideal) S2x512x128 .f32) := (lists2 c i arg2 harg2 arg3 harg3 arg4 harg4 arg5 harg5 arg6 harg6 arg7 harg7 arg8 harg8 x0 x1 x2).2 ++ ((lists1 c i arg2 harg2 arg3 harg3 arg4 harg4 arg5 harg5 arg6 harg6 arg7 harg7 arg8 harg8 x0 x1 x2).2 ++ init8)

/-- The tile on the diagonal: the operands as loaded. -/
abbrev dq0 : FVec Ideal S512x128 .bf16 := View.readAt (Elt Ideal) arg2.view (Rect.unit (s := S512x256) ![0, 0] S512x128.size inb_S512x256_S512x128_0_0).toLoadRect (harg2.unread x0)
abbrev dq1 : FVec Ideal S512x128 .bf16 := View.readAt (Elt Ideal) arg2.view (Rect.unit (s := S512x256) ![0, 128] S512x128.size inb_S512x256_S512x128_0_128).toLoadRect (harg2.unread x0)
abbrev dk0 : FVec Ideal S512x128 .bf16 := View.readAt (Elt Ideal) arg3.view (Rect.unit (s := S4096x256) (k0_off5 i) S512x128.size (k0_off5_inb i)).toLoadRect (harg3.unread x1)
abbrev dk1 : FVec Ideal S512x128 .bf16 := View.readAt (Elt Ideal) arg3.view (Rect.unit (s := S4096x256) (k0_off6 i) S512x128.size (k0_off6_inb i)).toLoadRect (harg3.unread x1)
abbrev dv0 : FVec Ideal S512x128 .bf16 := View.readAt (Elt Ideal) arg4.view (Rect.unit (s := S4096x256) (k0_off5 i) S512x128.size (k0_off5_inb i)).toLoadRect (harg4.unread x2)
abbrev dv1 : FVec Ideal S512x128 .bf16 := View.readAt (Elt Ideal) arg4.view (Rect.unit (s := S4096x256) (k0_off6 i) S512x128.size (k0_off6_inb i)).toLoadRect (harg4.unread x2)

abbrev rect0 : LoadRect S2x512x128 := (Rect.unit (s := S2x512x128) ![0, 0, 0] S1x512x128.size inb_S2x512x128_S1x512x128_0_0_0).toLoadRect
abbrev rect1 : LoadRect S2x512x128 := (Rect.unit (s := S2x512x128) ![1, 0, 0] S1x512x128.size inb_S2x512x128_S1x512x128_1_0_0).toLoadRect

/-- What the carried buffers hold, as stores, when the outputs are written, over what the loops left. -/
def end7 (B7 : List (View.Piece (Elt Ideal) S2x512x128 .f32)) : List (View.Piece (Elt Ideal) S2x512x128 .f32) :=
  (⟨Rect.unit (s := S2x512x128) ![1, 0, 0] S1x512x128.size inb_S2x512x128_S1x512x128_1_0_0, newM (diag (k0_pay6 (dq1 arg2 harg2 x0) (dk1 i arg3 harg3 x1))) (arg7.view.readCov B7 rect1)⟩ : View.Piece (Elt Ideal) S2x512x128 .f32)
    :: (⟨Rect.unit (s := S2x512x128) ![0, 0, 0] S1x512x128.size inb_S2x512x128_S1x512x128_0_0_0, newM (diag (k0_pay6 (dq0 arg2 harg2 x0) (dk0 i arg3 harg3 x1))) (arg7.view.readCov B7 rect0)⟩ : View.Piece (Elt Ideal) S2x512x128 .f32) :: B7

abbrev mid8 (B7 B8 : List (View.Piece (Elt Ideal) S2x512x128 .f32)) : List (View.Piece (Elt Ideal) S2x512x128 .f32) :=
  (⟨Rect.unit (s := S2x512x128) ![0, 0, 0] S1x512x128.size inb_S2x512x128_S1x512x128_0_0_0, newA (diag (k0_pay6 (dq0 arg2 harg2 x0) (dk0 i arg3 harg3 x1))) (arg7.view.readCov B7 rect0) (dv0 i arg4 harg4 x2) (arg8.view.readCov B8 rect0)⟩ : View.Piece (Elt Ideal) S2x512x128 .f32) :: B8

def end8 (B7 B8 : List (View.Piece (Elt Ideal) S2x512x128 .f32)) : List (View.Piece (Elt Ideal) S2x512x128 .f32) :=
  (⟨Rect.unit (s := S2x512x128) ![1, 0, 0] S1x512x128.size inb_S2x512x128_S1x512x128_1_0_0, newA (diag (k0_pay6 (dq1 arg2 harg2 x0) (dk1 i arg3 harg3 x1))) (arg7.view.readCov B7 rect1) (dv1 i arg4 harg4 x2) (arg8.view.readCov (mid8 i arg2 harg2 arg3 harg3 arg4 harg4 arg7 arg8 x0 x1 x2 B7 B8) rect1)⟩ : View.Piece (Elt Ideal) S2x512x128 .f32)
    :: mid8 i arg2 harg2 arg3 harg3 arg4 harg4 arg7 arg8 x0 x1 x2 B7 B8

theorem out3_eq :
    out0_A_3 (F := Ideal) c i arg2 harg2 arg3 harg3 arg4 harg4 arg5 harg5 arg6 harg6 arg7 harg7 arg8 harg8 x0 x1 x2
      = VO0_3.read (Elt Ideal) (VO0_3.writes (Elt Ideal) VO0_3.junk
          [⟨Rect.unit (s := S512x256) ![0, 128] S512x128.size inb_S512x256_S512x128_0_128, k0_pay4 (iota .tc S512x128 32 [1] iota_S512x128_d1_w32) (arg8.view.readCov (end8 i arg2 harg2 arg3 harg3 arg4 harg4 arg7 arg8 x0 x1 x2 (base7 c i arg2 harg2 arg3 harg3 arg4 harg4 arg5 harg5 arg6 harg6 arg7 harg7 arg8 harg8 x0 x1 x2) (base8 c i arg2 harg2 arg3 harg3 arg4 harg4 arg5 harg5 arg6 harg6 arg7 harg7 arg8 harg8 x0 x1 x2)) rect1)⟩,
           ⟨Rect.unit (s := S512x256) ![0, 0] S512x128.size inb_S512x256_S512x128_0_0, k0_pay63 (iota .tc S512x128 32 [1] iota_S512x128_d1_w32) (arg8.view.readCov (end8 i arg2 harg2 arg3 harg3 arg4 harg4 arg7 arg8 x0 x1 x2 (base7 c i arg2 harg2 arg3 harg3 arg4 harg4 arg5 harg5 arg6 harg6 arg7 harg7 arg8 harg8 x0 x1 x2) (base8 c i arg2 harg2 arg3 harg3 arg4 harg4 arg5 harg5 arg6 harg6 arg7 harg7 arg8 harg8 x0 x1 x2)) rect0)⟩]) := by
  unfold out0_A_3; unfold kernelRun0_A
  dsimp only
  sl_unfold_words
  rfl

theorem out4_eq :
    out0_A_4 (F := Ideal) c i arg2 harg2 arg3 harg3 arg4 harg4 arg5 harg5 arg6 harg6 arg7 harg7 arg8 harg8 x0 x1 x2
      = VO0_4.read (Elt Ideal) (VO0_4.writes (Elt Ideal) VO0_4.junk
          [⟨Rect.unit (s := S2x512x1) ![1, 0, 0] S1x512x1.size inb_S2x512x1_S1x512x1_1_0_0, k0_pay5 (arg8.view.readCov (end8 i arg2 harg2 arg3 harg3 arg4 harg4 arg7 arg8 x0 x1 x2 (base7 c i arg2 harg2 arg3 harg3 arg4 harg4 arg5 harg5 arg6 harg6 arg7 harg7 arg8 harg8 x0 x1 x2) (base8 c i arg2 harg2 arg3 harg3 arg4 harg4 arg5 harg5 arg6 harg6 arg7 harg7 arg8 harg8 x0 x1 x2)) rect1) (arg7.view.readCov (end7 i arg2 harg2 arg3 harg3 arg7 x0 x1 (base7 c i arg2 harg2 arg3 harg3 arg4 harg4 arg5 harg5 arg6 harg6 arg7 harg7 arg8 harg8 x0 x1 x2)) rect1)⟩,
           ⟨Rect.unit (s := S2x512x1) ![0, 0, 0] S1x512x1.size inb_S2x512x1_S1x512x1_0_0_0, k0_pay1 (k0_pay62 (arg8.view.readCov (end8 i arg2 harg2 arg3 harg3 arg4 harg4 arg7 arg8 x0 x1 x2 (base7 c i arg2 harg2 arg3 harg3 arg4 harg4 arg5 harg5 arg6 harg6 arg7 harg7 arg8 harg8 x0 x1 x2) (base8 c i arg2 harg2 arg3 harg3 arg4 harg4 arg5 harg5 arg6 harg6 arg7 harg7 arg8 harg8 x0 x1 x2)) rect0)) (arg7.view.readCov (end7 i arg2 harg2 arg3 harg3 arg7 x0 x1 (base7 c i arg2 harg2 arg3 harg3 arg4 harg4 arg5 harg5 arg6 harg6 arg7 harg7 arg8 harg8 x0 x1 x2)) rect0)⟩]) := by
  unfold out0_A_4; unfold kernelRun0_A
  dsimp only
  sl_unfold_words
  rfl

variable {c i arg2 harg2 arg3 harg3 arg4 harg4 arg5 harg5 arg6 harg6 arg7 harg7 arg8 harg8 x0 x1 x2}
variable {Q K V : Fin 2 → ℕ → ℕ → ℝ}

theorem pay26_at (j : S2x512x128.Idx) : k0_pay26 (F := Ideal) j = ⊥ := mask_eq

theorem pay27_at (j : S2x512x128.Idx) : k0_pay27 (F := Ideal) j = 0 := by
  obtain ⟨a, b, c, rfl⟩ : ∃ a b c, j = ix3 a b c := ⟨j 0, j 1, j 2, by funext a; fin_cases a <;> rfl⟩
  pointwise [k0_pay27]

theorem read_init (arg7 : Memref sig .tc .vmem S2x512x128 .f32) (w : FVec Ideal S2x512x128 .f32) :
    arg7.view.read (Elt Ideal) (arg7.view.writes (Elt Ideal) arg7.view.junk
      [(⟨Rect.unit (s := S2x512x128) ![0, 0, 0] S2x512x128.size inb_S2x512x128_S2x512x128_0_0_0, w⟩ : View.Piece (Elt Ideal) S2x512x128 .f32)]) = w := by
  rw [View.read_writes_full]

theorem data_unread (D : Data Q K V (i 1).val x0 x1 x2) :
    Data Q K V (i 1).val (arg2.view.read (Elt Ideal) (harg2.unread x0)) (arg3.view.read (Elt Ideal) (harg3.unread x1)) (arg4.view.read (Elt Ideal) (harg4.unread x2)) := by
  rw [harg2.read_unread, harg3.read_unread, harg4.read_unread]
  exact D

/-- The state the loops leave. -/
theorem base_state (D : Data Q K V (i 1).val x0 x1 x2) :
    St Q K V (i 1).val (i 1).val
      (arg7.view.read (Elt Ideal) (arg7.view.writes (Elt Ideal) arg7.view.junk (base7 c i arg2 harg2 arg3 harg3 arg4 harg4 arg5 harg5 arg6 harg6 arg7 harg7 arg8 harg8 x0 x1 x2)))
      (arg8.view.read (Elt Ideal) (arg8.view.writes (Elt Ideal) arg8.view.junk (base8 c i arg2 harg2 arg3 harg3 arg4 harg4 arg5 harg5 arg6 harg6 arg7 harg7 arg8 harg8 x0 x1 x2))) := by
  have h2 : lists2 c i arg2 harg2 arg3 harg3 arg4 harg4 arg5 harg5 arg6 harg6 arg7 harg7 arg8 harg8 x0 x1 x2 = ([], []) := by
    unfold lists2
    rw [trips2]
    rfl
  unfold base7 base8
  rw [h2, List.nil_append, List.nil_append, View.writes_append, View.writes_append]
  unfold lists1
  rw [trips1]
  refine loop_state Variants.none c none i arg2 harg2 arg3 harg3 arg4 harg4 arg5 harg5 arg6 harg6 arg7 harg7 arg8 harg8 _ _ _ _ _ (data_unread D) (St.init Q K V _ (fun j => ?_) (fun j => ?_)) _ le_rfl
  · rw [read_init]; exact pay26_at j
  · rw [read_init]; exact pay27_at j

/-- The state after the tile on the diagonal. -/
theorem end_state (D : Data Q K V (i 1).val x0 x1 x2) :
    St Q K V (i 1).val ((i 1).val + 1)
      (arg7.view.read (Elt Ideal) (arg7.view.writes (Elt Ideal) arg7.view.junk (end7 i arg2 harg2 arg3 harg3 arg7 x0 x1 (base7 c i arg2 harg2 arg3 harg3 arg4 harg4 arg5 harg5 arg6 harg6 arg7 harg7 arg8 harg8 x0 x1 x2))))
      (arg8.view.read (Elt Ideal) (arg8.view.writes (Elt Ideal) arg8.view.junk (end8 i arg2 harg2 arg3 harg3 arg4 harg4 arg7 arg8 x0 x1 x2 (base7 c i arg2 harg2 arg3 harg3 arg4 harg4 arg5 harg5 arg6 harg6 arg7 harg7 arg8 harg8 x0 x1 x2) (base8 c i arg2 harg2 arg3 harg3 arg4 harg4 arg5 harg5 arg6 harg6 arg7 harg7 arg8 harg8 x0 x1 x2)))) := by
  have hb := base_state (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) D
  generalize base7 c i arg2 harg2 arg3 harg3 arg4 harg4 arg5 harg5 arg6 harg6 arg7 harg7 arg8 harg8 x0 x1 x2 = B7 at hb ⊢
  generalize base8 c i arg2 harg2 arg3 harg3 arg4 harg4 arg5 harg5 arg6 harg6 arg7 harg7 arg8 harg8 x0 x1 x2 = B8 at hb ⊢
  have hi := i1_lt i
  have e7 : ∀ h, part h (arg7.view.read (Elt Ideal) (arg7.view.writes (Elt Ideal) arg7.view.junk B7)) = part h (arg7.view.read (Elt Ideal) (arg7.view.writes (Elt Ideal) arg7.view.junk B7)) := fun _ => rfl
  have hmid : arg8.view.readCov (mid8 i arg2 harg2 arg3 harg3 arg4 harg4 arg7 arg8 x0 x1 x2 B7 B8) rect1 = part 1 (arg8.view.read (Elt Ideal) (arg8.view.writes (Elt Ideal) arg8.view.junk B8)) := by
    refine (ld_part1 arg8 _).trans ?_
    funext j
    exact View.read_writes_cons_unit_of_not_mem _ _ _ _ _ _ rfl 0 (Or.inr (by show 0 + 1 ≤ 1; omega))
  refine Data.last (data_unread (arg2 := arg2) (harg2 := harg2) (arg3 := arg3) (harg3 := harg3) (arg4 := arg4) (harg4 := harg4) D) ⟨(i 1).val, hi⟩ rfl hb (fun h r l => ?_) (fun h r l => ?_)
  · unfold end7 dq0 dq1 dk0 dk1
    rw [ld_half0, ld_half1, ld_tile arg3 _ ⟨(i 1).val, hi⟩ 0 _ _ (k0_off5_eq i), ld_tile arg3 _ ⟨(i 1).val, hi⟩ 1 _ _ (k0_off6_eq i)]
    refine (st_part arg7 arg7.view.junk (fun h => newM (diag (k0_pay6 (half h (arg2.view.read (Elt Ideal) (harg2.unread x0))) (tile ⟨(i 1).val, hi⟩ h (arg3.view.read (Elt Ideal) (harg3.unread x1))))) (part h (arg7.view.read (Elt Ideal) (arg7.view.writes (Elt Ideal) arg7.view.junk B7)))) B7 h r l).symm.trans ?_ |>.symm
    rw [← ld_part0, ← ld_part1]
    rfl
  · unfold end8
    rw [hmid]
    unfold mid8 dq0 dq1 dk0 dk1 dv0 dv1
    rw [ld_half0, ld_half1, ld_tile arg3 _ ⟨(i 1).val, hi⟩ 0 _ _ (k0_off5_eq i), ld_tile arg3 _ ⟨(i 1).val, hi⟩ 1 _ _ (k0_off6_eq i),
      ld_tile arg4 _ ⟨(i 1).val, hi⟩ 0 _ _ (k0_off5_eq i), ld_tile arg4 _ ⟨(i 1).val, hi⟩ 1 _ _ (k0_off6_eq i)]
    refine (st_part arg8 arg8.view.junk (fun h => newA (diag (k0_pay6 (half h (arg2.view.read (Elt Ideal) (harg2.unread x0))) (tile ⟨(i 1).val, hi⟩ h (arg3.view.read (Elt Ideal) (harg3.unread x1))))) (part h (arg7.view.read (Elt Ideal) (arg7.view.writes (Elt Ideal) arg7.view.junk B7))) (tile ⟨(i 1).val, hi⟩ h (arg4.view.read (Elt Ideal) (harg4.unread x2))) (part h (arg8.view.read (Elt Ideal) (arg8.view.writes (Elt Ideal) arg8.view.junk B8)))) B8 h r l).symm.trans ?_ |>.symm
    rw [← ld_part0, ← ld_part1, ← ld_part0]
    rfl

/-- One head's row as the state gives it. -/
theorem row_final (D : Data Q K V (i 1).val x0 x1 x2) (hone : ∀ h c, c < 4096 → V h c 64 = 1) {s7 s8 : FVec Ideal S2x512x128 .f32}
    (hs : St Q K V (i 1).val ((i 1).val + 1) s7 s8) (h : Fin 2) (r : Fin 512) :
    (∀ d : Fin 128, Ideal.div (s8 (ix3 h r d)) (s8 (ix3 h r 64)) = ((Attn.O (Q h) (K h) (V h) ((i 1).val * 512 + r.1) d.1 : ℝ) : EReal))
      ∧ s7 (ix3 h r 0) + Ideal.log (s8 (ix3 h r 64)) = ((Attn.LSE (Q h) (K h) ((i 1).val * 512 + r.1) : ℝ) : EReal) := by
  obtain ⟨m, hm, hr⟩ := hs h r
  obtain ⟨h1, h2⟩ := hr.final (Q h) (K h) (V h) (i1_lt i) (by have := r.2; omega) (hone h)
  refine ⟨fun d => ?_, ?_⟩
  · have := h1 d.1 d.2
    rwa [lanes_lt _ d.2, lanes_lt _ (show 64 < 128 by omega)] at this
  · rw [hm]
    rwa [lanes_lt _ (show 64 < 128 by omega)] at h2

theorem iota_at (r : Fin 512) (d : Fin 128) : iota .tc S512x128 32 [1] iota_S512x128_d1_w32 (ix2 r d) = BitVec.ofNat 32 d.1 := by
  pointwise []

/-- The point's attention rows: two heads side by side, 64 lanes each, zeros in the other 64. -/
theorem out3_at (D : Data Q K V (i 1).val x0 x1 x2) (hone : ∀ h c, c < 4096 → V h c 64 = 1) (h : Fin 2) (r : Fin 512) (d : Fin 128) :
    out0_A_3 (F := Ideal) c i arg2 harg2 arg3 harg3 arg4 harg4 arg5 harg5 arg6 harg6 arg7 harg7 arg8 harg8 x0 x1 x2 (ix2 r ⟨h.1 * 128 + d.1, by omega⟩)
      = if d.1 < 64 then ((Attn.O (Q h) (K h) (V h) ((i 1).val * 512 + r.1) d.1 : ℝ) : EReal) else 0 := by
  have hf := row_final D hone (end_state (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) D) h r
  rw [out3_eq]
  fin_cases h
  · refine (View.read_writes_cons_unit_of_not_mem _ _ _ _ _ _ rfl 1 (Or.inl (by show 0 * 128 + d.1 < 128; omega))).trans ?_
    refine (View.read_writes_cons_unit_of_mem VO0_3 _ (off := ![0, 0]) (off' := ![0, 0]) (size := S512x128.size) inb_S512x256_S512x128_0_0 _ _ _ (by exact ix2 r d) rfl ?_).trans ?_
    · intro a
      fin_cases a
      · show r.1 = 0 + r.1; omega
      · show 0 * 128 + d.1 = 0 + d.1; omega
    · refine (out0_at _ iota_at _ r d).trans ?_
      rw [← hf.1 d]
      refine if_congr Iff.rfl ?_ rfl
      rw [View.readCov, ld_part0]
      rfl
  · refine (View.read_writes_cons_unit_of_mem VO0_3 _ (off := ![0, 128]) (off' := ![0, 128]) (size := S512x128.size) inb_S512x256_S512x128_0_128 _ _ _ (by exact ix2 r d) rfl ?_).trans ?_
    · intro a
      fin_cases a
      · show r.1 = 0 + r.1; omega
      · show 1 * 128 + d.1 = 128 + d.1; omega
    · refine (out1_at _ iota_at _ r d).trans ?_
      rw [← hf.1 d]
      refine if_congr Iff.rfl ?_ rfl
      rw [View.readCov, ld_part1]
      rfl

/-- The point's logs of the normalisers. -/
theorem out4_at (D : Data Q K V (i 1).val x0 x1 x2) (hone : ∀ h c, c < 4096 → V h c 64 = 1) (h : Fin 2) (r : Fin 512) :
    out0_A_4 (F := Ideal) c i arg2 harg2 arg3 harg3 arg4 harg4 arg5 harg5 arg6 harg6 arg7 harg7 arg8 harg8 x0 x1 x2 (ix3 h r 0) = ((Attn.LSE (Q h) (K h) ((i 1).val * 512 + r.1) : ℝ) : EReal) := by
  have hf := row_final D hone (end_state (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) D) h r
  rw [out4_eq]
  fin_cases h
  · refine (View.read_writes_cons_unit_of_not_mem _ _ _ _ _ _ rfl 0 (Or.inl (by show (0 : ℕ) < 1; omega))).trans ?_
    refine (View.read_writes_cons_unit_of_mem VO0_4 _ (off := ![0, 0, 0]) (off' := ![0, 0, 0]) (size := S1x512x1.size) inb_S2x512x1_S1x512x1_0_0_0 _ _ _ (by exact ix3 0 r 0) rfl ?_).trans ?_
    · intro a
      fin_cases a
      · show (0 : ℕ) = 0 + 0; omega
      · show r.1 = 0 + r.1; omega
      · show (0 : ℕ) = 0 + 0; omega
    · refine (lse0_at _ _ r).trans ?_
      rw [← hf.2, View.readCov, View.readCov, ld_part0, ld_part0]
      rfl
  · refine (View.read_writes_cons_unit_of_mem VO0_4 _ (off := ![1, 0, 0]) (off' := ![1, 0, 0]) (size := S1x512x1.size) inb_S2x512x1_S1x512x1_1_0_0 _ _ _ (by exact ix3 0 r 0) rfl ?_).trans ?_
    · intro a
      fin_cases a
      · show (1 : ℕ) = 1 + 0; omega
      · show r.1 = 0 + r.1; omega
      · show (0 : ℕ) = 0 + 0; omega
    · refine (lse1_at _ _ r).trans ?_
      rw [← hf.2, View.readCov, View.readCov, ld_part1, ld_part1]
      rfl

end Cert.FwdIdeal.Value

end
-- ==== Proof.Rows.lean ====
/-
  The step's arrays as real numbers: a finite array of extended reals read by natural numbers, and the queries, keys and
  values of one attention head as rows of 128 lanes.
-/
module

public import proofs.«01_k».proof.Proof.AttnMath

@[expose] public section

noncomputable section

open Idealize.ShloMosaic

namespace Attn

/-- An array `[A, B, C]` read at natural numbers, 0 past its ends. -/
def real3 {A B C : ℕ} (a : Fin A → Fin B → Fin C → EReal) (r g l : ℕ) : ℝ :=
  if h : r < A ∧ g < B ∧ l < C then (a ⟨r, h.1⟩ ⟨g, h.2.1⟩ ⟨l, h.2.2⟩).toReal else 0

theorem coe_real3 {A B C : ℕ} {a : Fin A → Fin B → Fin C → EReal} (h : ∀ r g l, ⊥ < a r g l ∧ a r g l < ⊤)
    (r : Fin A) (g : Fin B) (l : Fin C) : ((real3 a r.1 g.1 l.1 : ℝ) : EReal) = a r g l := by
  unfold real3
  rw [dif_pos ⟨r.2, g.2, l.2⟩]
  exact EReal.coe_toReal (h r g l).2.ne (h r g l).1.ne'

/-- Head `g`'s queries (or keys): 64 lanes without position, 32 with, zeros in the other 32. -/
def qk (a : Fin 4096 → Fin 16 → Fin 64 → EReal) (b : Fin 4096 → Fin 16 → Fin 32 → EReal) (g r l : ℕ) : ℝ :=
  if l < 64 then real3 a r g l else if l < 96 then real3 b r g (l - 64) else 0

/-- Head `g`'s values: 64 lanes, zeros in the other 64. -/
def vz (a : Fin 4096 → Fin 16 → Fin 64 → EReal) (g r d : ℕ) : ℝ := if d < 64 then real3 a r g d else 0

/-- The same with a 1 in lane 64. -/
def v1 (a : Fin 4096 → Fin 16 → Fin 64 → EReal) (g r d : ℕ) : ℝ := vz a g r d + if d = 64 then 1 else 0

theorem v1_64 (a : Fin 4096 → Fin 16 → Fin 64 → EReal) (g r : ℕ) : v1 a g r 64 = 1 := by
  simp [v1, vz]

theorem v1_lt (a : Fin 4096 → Fin 16 → Fin 64 → EReal) (g r d : ℕ) (h : d < 64) : v1 a g r d = vz a g r d := by
  unfold v1
  rw [if_neg (by omega), add_zero]

theorem sum_split (f : ℕ → ℝ) (n k m : ℕ) (hm : n + k ≤ m) (h0 : ∀ l, n + k ≤ l → f l = 0) :
    (∑ x : Fin n, f x.1) + ∑ x : Fin k, f (n + x.1) = ∑ l ∈ Finset.range m, f l := by
  rw [Fin.sum_univ_eq_sum_range f n, Fin.sum_univ_eq_sum_range (fun x => f (n + x)) k, ← Finset.sum_range_add]
  exact Finset.sum_subset (fun l hl => Finset.mem_range.mpr (by have := Finset.mem_range.mp hl; omega))
    fun l _ hl => h0 l (by simpa using hl)

/-- The scores' two products, one over the lanes without position and one over those with, are one over the row. -/
theorem qk_dot (a a' : Fin 4096 → Fin 16 → Fin 64 → EReal) (b b' : Fin 4096 → Fin 16 → Fin 32 → EReal) (g r c : ℕ) :
    (∑ x : Fin 64, real3 a r g x.1 * real3 a' c g x.1) + ∑ x : Fin 32, real3 b r g x.1 * real3 b' c g x.1
      = ∑ l ∈ Finset.range 128, qk a b g r l * qk a' b' g c l := by
  rw [← sum_split (fun l => qk a b g r l * qk a' b' g c l) 64 32 128 (by norm_num)
    (fun l hl => by
      show qk a b g r l * _ = 0
      rw [qk, if_neg (by omega), if_neg (by omega), zero_mul])]
  refine congrArg₂ (· + ·) (Finset.sum_congr rfl fun x _ => ?_) (Finset.sum_congr rfl fun x _ => ?_)
  · show _ = qk a b g r x.1 * qk a' b' g c x.1
    rw [qk, qk, if_pos x.2, if_pos x.2]
  · show _ = qk a b g r (64 + x.1) * qk a' b' g c (64 + x.1)
    have e : ∀ (a : Fin 4096 → Fin 16 → Fin 64 → EReal) (b : Fin 4096 → Fin 16 → Fin 32 → EReal) (r : ℕ), qk a b g r (64 + x.1) = real3 b r g x.1 := fun a b r => by
      have := x.2
      unfold qk
      rw [if_neg (by omega), if_pos (by omega), Nat.add_sub_cancel_left]
    rw [e, e]

/-- Every entry is a real number. -/
def AllReal {A B C : ℕ} (a : Fin A → Fin B → Fin C → EReal) : Prop := ∀ r g l, ⊥ < a r g l ∧ a r g l < ⊤

theorem O_congr (Q K V V' : ℕ → ℕ → ℝ) (r d : ℕ) (h : ∀ c, V c d = V' c d) : O Q K V r d = O Q K V' r d := by
  unfold O
  simp only [h]

end Attn

end
-- ==== Proof.FwdValue.lean ====
/-
  The forward kernel's two result arrays: every head's attention rows, and the logs of their normalisers.
-/
module

public import proofs.«01_k».proof.Proof.FwdOut
public import proofs.«01_k».proof.Proof.Rows
public import proofs.«01_k».proof.Proof.Gen.FwdIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (m : (ℓ : Loc nD τ sig) → Buf (Elt Ideal) ℓ)

/-! ## The arrays the kernel is handed -/

/-- Two arrays side by side, 32 zeros after them, all heads in one row. -/
abbrev joined (a : FVec Ideal S4096x16x64 .f32) (b : FVec Ideal S4096x16x32 .f32) : FVec Ideal S4096x2048 .bf16 :=
  truncf .bf16 (shapeCast S4096x2048 (pad S4096x16x128 ![0, 0, 0] ![0, 0, 32] ![0, 0, 0]
    (concatenate S4096x16x96 2 [⟨S4096x16x64, a⟩, ⟨S4096x16x32, b⟩] concatenates_S4096x16x64_S4096x16x32_S4096x16x96_d2)
    (sitofp .f32 (constantI S_ 32 0#32)) pads_S4096x16x96_S4096x16x128_000_000_0320 h_S_) shapeCasts_S4096x16x128_S4096x2048) bitsLt_bf16_f32

/-- One array, 64 zeros after it, all heads in one row. -/
abbrev padded (a : FVec Ideal S4096x16x64 .f32) : FVec Ideal S4096x2048 .bf16 :=
  truncf .bf16 (shapeCast S4096x2048 (pad S4096x16x128 ![0, 0, 0] ![0, 0, 64] ![0, 0, 0] a
    (sitofp .f32 (constantI S_ 32 0#32)) pads_S4096x16x64_S4096x16x128_000_000_0640 h_S_) shapeCasts_S4096x16x128_S4096x2048) bitsLt_bf16_f32

theorem V_q (c : Dev nD) : V m c main_v3 = joined (m ((c : Thread nD τ).loc main_arg0)) (m ((c : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  after_results
  rfl

theorem V_k (c : Dev nD) : V m c main_v7 = joined (m ((c : Thread nD τ).loc main_arg2)) (m ((c : Thread nD τ).loc main_arg3)) := by
  unfold V
  simp only [hostOps0, hostOps0_1, hostOps0_2, hostOps0_3, hostOps0_4, hostOps0_5, hostOps0_6, List.flatten_cons, List.flatten_nil, List.append_nil, List.cons_append, List.nil_append]
  after_results
  rfl

theorem V_v (c : Dev nD) : V m c main_v10 = padded (m ((c : Thread nD τ).loc main_arg4)) := by
  unfold V
  simp only [hostOps0, hostOps0_1, hostOps0_2, hostOps0_3, hostOps0_4, hostOps0_5, hostOps0_6, List.flatten_cons, List.flatten_nil, List.append_nil, List.cons_append, List.nil_append]
  after_results
  rfl

/-- An array's entries by row, head and lane. -/
abbrev at64 (a : FVec Ideal S4096x16x64 .f32) (r : Fin 4096) (g : Fin 16) (l : Fin 64) : EReal := a (ix3 r g l)
abbrev at32 (a : FVec Ideal S4096x16x32 .f32) (r : Fin 4096) (g : Fin 16) (l : Fin 32) : EReal := a (ix3 r g l)

theorem zero_int : (FloatOps.sitofp FTy.f32 0#32 : Ideal .f32) = ((0 : ℝ) : EReal) := by
  show (((0#32 : BitVec 32).toInt : ℝ) : EReal) = _
  simp

theorem joined_at (a : FVec Ideal S4096x16x64 .f32) (b : FVec Ideal S4096x16x32 .f32)
    (ha : ∀ r g l, ⊥ < at64 a r g l ∧ at64 a r g l < ⊤) (hb : ∀ r g l, ⊥ < at32 b r g l ∧ at32 b r g l < ⊤)
    (R : Fin 4096) (g : Fin 16) (l : Fin 128) :
    joined a b (ix2 R ⟨g.1 * 128 + l.1, by omega⟩) = ((Attn.qk (at64 a) (at32 b) g.1 R.1 l.1 : ℝ) : EReal) := by
  pointwise
  unfold Attn.qk
  by_cases h1 : l.1 < 64
  · rw [dif_pos (by omega), dif_pos h1, if_pos h1]
    exact (Attn.coe_real3 ha R g ⟨l.1, h1⟩).symm
  · by_cases h2 : l.1 < 96
    · rw [dif_pos h2, dif_neg h1, if_neg h1, if_pos h2]
      exact (Attn.coe_real3 hb R g ⟨l.1 - 64, by omega⟩).symm
    · rw [dif_neg h2, if_neg h1, if_neg h2]
      exact zero_int

theorem padded_at (a : FVec Ideal S4096x16x64 .f32) (ha : ∀ r g l, ⊥ < at64 a r g l ∧ at64 a r g l < ⊤)
    (R : Fin 4096) (g : Fin 16) (l : Fin 128) :
    padded a (ix2 R ⟨g.1 * 128 + l.1, by omega⟩) = ((Attn.vz (at64 a) g.1 R.1 l.1 : ℝ) : EReal) := by
  pointwise
  unfold Attn.vz
  by_cases h1 : l.1 < 64
  · rw [dif_pos h1, if_pos h1]
    exact (Attn.coe_real3 ha R g ⟨l.1, h1⟩).symm
  · rw [dif_neg h1, if_neg h1]
    exact zero_int

theorem idx (t : Fin cfg0.N) : win0_0.index t = ![t.1 % 8, t.1 / 8] ∧ win0_1.index t = ![0, t.1 / 8] ∧ win0_2.index t = ![0, t.1 / 8]
    ∧ win0_3.index t = ![t.1 % 8, t.1 / 8] ∧ win0_4.index t = ![t.1 / 8, t.1 % 8, 0] ∧ ((grid0.coords t) 1).val = t.1 % 8 :=
  (by decide +kernel : ∀ t : Fin grid0.N, win0_0.index t = ![t.1 % 8, t.1 / 8] ∧ win0_1.index t = ![0, t.1 / 8] ∧ win0_2.index t = ![0, t.1 / 8]
    ∧ win0_3.index t = ![t.1 % 8, t.1 / 8] ∧ win0_4.index t = ![t.1 / 8, t.1 % 8, 0] ∧ ((grid0.coords t) 1).val = t.1 % 8) t

/-! ## The blocks at a grid point, and the two arrays -/

/-- Every entry of the five arguments is a real number. -/
structure Fin5 (c : Dev nD) : Prop where
  a0 : ∀ r g l, ⊥ < at64 (m ((c : Thread nD τ).loc main_arg0)) r g l ∧ at64 (m ((c : Thread nD τ).loc main_arg0)) r g l < ⊤
  a1 : ∀ r g l, ⊥ < at32 (m ((c : Thread nD τ).loc main_arg1)) r g l ∧ at32 (m ((c : Thread nD τ).loc main_arg1)) r g l < ⊤
  a2 : ∀ r g l, ⊥ < at64 (m ((c : Thread nD τ).loc main_arg2)) r g l ∧ at64 (m ((c : Thread nD τ).loc main_arg2)) r g l < ⊤
  a3 : ∀ r g l, ⊥ < at32 (m ((c : Thread nD τ).loc main_arg3)) r g l ∧ at32 (m ((c : Thread nD τ).loc main_arg3)) r g l < ⊤
  a4 : ∀ r g l, ⊥ < at64 (m ((c : Thread nD τ).loc main_arg4)) r g l ∧ at64 (m ((c : Thread nD τ).loc main_arg4)) r g l < ⊤

/-- Head `g`'s queries, keys and values on device `c`. -/
abbrev hq (c : Dev nD) (g : ℕ) : ℕ → ℕ → ℝ := Attn.qk (at64 (m ((c : Thread nD τ).loc main_arg0))) (at32 (m ((c : Thread nD τ).loc main_arg1))) g
abbrev hk (c : Dev nD) (g : ℕ) : ℕ → ℕ → ℝ := Attn.qk (at64 (m ((c : Thread nD τ).loc main_arg2))) (at32 (m ((c : Thread nD τ).loc main_arg3))) g
abbrev hv (c : Dev nD) (g : ℕ) : ℕ → ℕ → ℝ := Attn.vz (at64 (m ((c : Thread nD τ).loc main_arg4))) g
abbrev hv1 (c : Dev nD) (g : ℕ) : ℕ → ℕ → ℝ := Attn.v1 (at64 (m ((c : Thread nD τ).loc main_arg4))) g

theorem data {m} {c : Dev nD} (hfin : Fin5 m c) (t : Fin cfg0.N) :
    Data (fun h => hq m c (t.1 / 8 * 2 + h.1)) (fun h => hk m c (t.1 / 8 * 2 + h.1)) (fun h => hv1 m c (t.1 / 8 * 2 + h.1))
      ((grid0.coords t) 1).val (iblk m c 0 t) (iblk m c 1 t) (iblk m c 2 t) := by
  have ht : t.1 < 64 := t.2
  have hi := (idx t).2.2.2.2.2
  refine ⟨fun h r l => ?_, fun h k l => ?_, fun h k l => ?_⟩
  · rw [hi]
    refine Eq.trans ?_ (joined_at _ _ hfin.a0 hfin.a1 ⟨t.1 % 8 * 512 + r.1, by omega⟩ ⟨t.1 / 8 * 2 + h.1, by omega⟩ l)
    rw [← V_q]
    blk_ext [iblk, idx t]
  · refine Eq.trans ?_ (joined_at _ _ hfin.a2 hfin.a3 k ⟨t.1 / 8 * 2 + h.1, by omega⟩ l)
    rw [← V_k]
    blk_ext [iblk, idx t]
  · show _ = ((Attn.vz _ _ _ _ + _ : ℝ) : EReal)
    rw [EReal.coe_add]
    refine congrArg₂ (· + ·) ?_ ?_
    · refine Eq.trans ?_ (padded_at _ hfin.a4 k ⟨t.1 / 8 * 2 + h.1, by omega⟩ l)
      rw [← V_v]
      blk_ext [iblk, idx t]
    · split <;> rfl

/-- The attention rows, all heads in one row, 64 lanes of each head used. -/
def spec_o (c : Dev nD) (R g d : ℕ) : EReal := if d < 64 then ((Attn.O (hq m c g) (hk m c g) (hv m c g) R d : ℝ) : EReal) else 0

theorem block_o {m} {c : Dev nD} (hfin : Fin5 m c) (t : Fin cfg0.N) (y : S512x256.Idx) :
    (outsAt0 m c t).1 y = spec_o m c (t.1 % 8 * 512 + (y 0).1) ((t.1 / 8 * 256 + (y 1).1) / 128) ((t.1 / 8 * 256 + (y 1).1) % 128) := by
  obtain ⟨r, w, rfl⟩ : ∃ (r : Fin 512) (w : Fin 256), y = ix2 r w := ⟨y 0, y 1, by funext a; fin_cases a <;> rfl⟩
  obtain ⟨h, d, rfl⟩ : ∃ (h : Fin 2) (d : Fin 128), w = ⟨h.1 * 128 + d.1, by omega⟩ :=
    ⟨⟨w.1 / 128, by omega⟩, ⟨w.1 % 128, by omega⟩, Fin.ext (by show w.1 = w.1 / 128 * 128 + w.1 % 128; omega)⟩
  simp only [outsAt0]
  refine Eq.trans (out3_at (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t)
    (arg7 := scM0_0) (harg7 := Memref.isWhole_whole _) (arg8 := scM0_1) (harg8 := Memref.isWhole_whole _) (data hfin t) (fun h k _ => Attn.v1_64 _ _ _) h r d) ?_
  show _ = spec_o m c (t.1 % 8 * 512 + r.1) ((t.1 / 8 * 256 + (h.1 * 128 + d.1)) / 128) ((t.1 / 8 * 256 + (h.1 * 128 + d.1)) % 128)
  have e1 : (t.1 / 8 * 256 + (h.1 * 128 + d.1)) / 128 = t.1 / 8 * 2 + h.1 := by omega
  have e2 : (t.1 / 8 * 256 + (h.1 * 128 + d.1)) % 128 = d.1 := by omega
  unfold spec_o
  rw [e1, e2, (idx t).2.2.2.2.2]
  by_cases hd : d.1 < 64
  · rw [if_pos hd, if_pos hd]
    exact congrArg (fun x : ℝ => (x : EReal)) (Attn.O_congr _ _ _ _ _ _ fun k => Attn.v1_lt _ _ _ _ hd)
  · rw [if_neg hd, if_neg hd]

theorem final_o (c : Dev nD) (hfin : Fin5 m c) : (dats m 0 c).arrAt 3 cfg0.N
    = fun j => spec_o m c (j 0).1 ((j 1).1 / 128) ((j 1).1 % 128) := by
  refine (dats m 0 c).arrAt_eq_of_covers 3 _ (by decide +kernel) fun t _ y => ?_
  blk_simp [idx t]
  rw [after0_3]
  exact block_o hfin t y

theorem block_l {m} {c : Dev nD} (hfin : Fin5 m c) (t : Fin cfg0.N) (y : S2x512x1.Idx) :
    (outsAt0 m c t).2 y = ((Attn.LSE (hq m c (t.1 / 8 * 2 + (y 0).1)) (hk m c (t.1 / 8 * 2 + (y 0).1)) (t.1 % 8 * 512 + (y 1).1) : ℝ) : EReal) := by
  obtain ⟨h, r, z, rfl⟩ : ∃ (h : Fin 2) (r : Fin 512) (z : Fin 1), y = ix3 h r z := ⟨y 0, y 1, y 2, by funext a; fin_cases a <;> rfl⟩
  obtain rfl : z = 0 := Subsingleton.elim _ _
  simp only [outsAt0]
  refine Eq.trans (out4_at (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t)
    (arg7 := scM0_0) (harg7 := Memref.isWhole_whole _) (arg8 := scM0_1) (harg8 := Memref.isWhole_whole _) (data hfin t) (fun h k _ => Attn.v1_64 _ _ _) h r) ?_
  rw [(idx t).2.2.2.2.2]
  rfl

theorem final_l (c : Dev nD) (hfin : Fin5 m c) : (dats m 0 c).arrAt 4 cfg0.N
    = fun j => ((Attn.LSE (hq m c (j 0).1) (hk m c (j 0).1) (j 1).1 : ℝ) : EReal) := by
  refine (dats m 0 c).arrAt_eq_of_covers 4 _ (by decide +kernel) fun t _ y => ?_
  blk_simp [idx t]
  rw [after0_4]
  exact block_l hfin t y

end Cert.FwdIdeal.Value

end
-- ==== Proof.RefFwd.lean ====
/-
  The forward reference's operations read at an index: the mask by chunks of 64 rows, the masked scores, the softmax,
  and the two results, over the reals.
-/
module

public import proofs.«01_k».proof.Proof.Rows
public import proofs.«01_k».proof.Proof.Gen.FwdRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FwdRefIdeal.Value

open Cert.FwdRefIdeal Cert.FwdRefIdeal.Gen

/-- The chunk of 64 rows each row lies in. -/
def chunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

theorem chunk_at (r : Fin 4096) : chunk (ix1 r) = BitVec.ofNat 32 (r.1 / 64) := by
  unfold chunk
  pointwise
  revert r
  decide +kernel

/-- Which keys a row sees. -/
def mask : IVec S4096x4096 1 :=
  cmpi .sge (broadcastInDim S4096x4096 ![0, 1] bcast_S4096x1_S4096x4096_0_1 (broadcastInDim S4096x1 ![0] bcast_S4096_S4096x1_0 chunk))
    (broadcastInDim S4096x4096 ![0, 1] bcast_S1x4096_S4096x4096_0_1 (broadcastInDim S1x4096 ![1] bcast_S4096_S1x4096_1 chunk))

theorem mask_at (r c : Fin 4096) : mask (ix2 r c) = if Attn.ok r.1 c.1 then 1#1 else 0#1 := by
  unfold mask
  pointwise
  rw [chunk_at, chunk_at]
  have h : ∀ a b : Fin 64, IntOp.cmpi CmpIPredicate.sge (BitVec.ofNat 32 a.1) (BitVec.ofNat 32 b.1) = if b.1 ≤ a.1 then 1#1 else 0#1 := by
    decide +kernel
  exact h ⟨r.1 / 64, by omega⟩ ⟨c.1 / 64, by omega⟩

variable (a0 : FVec Ideal S4096x16x64 .f32) (a1 : FVec Ideal S4096x16x32 .f32) (a2 : FVec Ideal S4096x16x64 .f32)
  (a3 : FVec Ideal S4096x16x32 .f32) (a4 : FVec Ideal S4096x16x64 .f32)

/-- The scores, and the scores with hidden keys at `⊥`. -/
def raw : FVec Ideal S16x4096x4096 .f32 :=
  mulf (addf (Host.dotGeneral dot_S4096x16x64_S4096x16x64_S16x4096x4096_2_2_0_0_1_1 none a0 a2)
      (Host.dotGeneral dot_S4096x16x32_S4096x16x32_S16x4096x4096_2_2_0_0_1_1 none a1 a3))
    (broadcastInDim S16x4096x4096 ![] bcast_S_S16x4096x4096 (constant S_ .f32 0x3DD105EC#32))

def score : FVec Ideal S16x4096x4096 .f32 :=
  select (broadcastInDim S16x4096x4096 ![0, 1, 2] bcast_S1x4096x4096_S16x4096x4096_0_1_2 (broadcastInDim S1x4096x4096 ![1, 2] bcast_S4096x4096_S1x4096x4096_1_2 mask))
    (raw a0 a1 a2 a3) (broadcastInDim S16x4096x4096 ![] bcast_S_S16x4096x4096 (id (constant S_ .f32 0xFF800000#32)))

/-- An array's entries by row, head and lane. -/
abbrev at64 (a : FVec Ideal S4096x16x64 .f32) (r : Fin 4096) (g : Fin 16) (l : Fin 64) : EReal := a (ix3 r g l)
abbrev at32 (a : FVec Ideal S4096x16x32 .f32) (r : Fin 4096) (g : Fin 16) (l : Fin 32) : EReal := a (ix3 r g l)

variable {a0 a1 a2 a3 a4}

theorem raw_at (h0 : Attn.AllReal (at64 a0)) (h1 : Attn.AllReal (at32 a1)) (h2 : Attn.AllReal (at64 a2)) (h3 : Attn.AllReal (at32 a3))
    (g : Fin 16) (r c : Fin 4096) : raw a0 a1 a2 a3 (ix3 g r c)
      = ((Attn.S (Attn.qk (at64 a0) (at32 a1) g.1) (Attn.qk (at64 a2) (at32 a3) g.1) r.1 c.1 : ℝ) : EReal) := by
  unfold raw
  pointwise
  rw [Attn.scale_eq]
  unfold Attn.S
  rw [← Attn.qk_dot, EReal.coe_mul, EReal.coe_add, Attn.coe_sum, Attn.coe_sum]
  refine congrArg₂ (· * ·) (congrArg₂ (· + ·) (Finset.sum_congr rfl fun x _ => ?_) (Finset.sum_congr rfl fun x _ => ?_)) rfl
  · rw [EReal.coe_mul]
    exact congrArg₂ (· * ·) (Attn.coe_real3 h0 r g x).symm (Attn.coe_real3 h2 c g x).symm
  · rw [EReal.coe_mul]
    exact congrArg₂ (· * ·) (Attn.coe_real3 h1 r g x).symm (Attn.coe_real3 h3 c g x).symm

theorem score_at (h0 : Attn.AllReal (at64 a0)) (h1 : Attn.AllReal (at32 a1)) (h2 : Attn.AllReal (at64 a2)) (h3 : Attn.AllReal (at32 a3))
    (g : Fin 16) (r c : Fin 4096) : score a0 a1 a2 a3 (ix3 g r c)
      = Attn.SM (Attn.qk (at64 a0) (at32 a1) g.1) (Attn.qk (at64 a2) (at32 a3) g.1) r.1 c.1 := by
  unfold score
  pointwise
  rw [mask_at, raw_at h0 h1 h2 h3]
  unfold Attn.SM
  by_cases h : Attn.ok r.1 c.1
  · rw [if_pos h, if_pos h]
    rfl
  · rw [if_neg h, if_neg h]
    exact Attn.ofBits_neg_inf

variable (a0 a1 a2 a3 a4)

/-- The row maxima. -/
def top : FVec Ideal S16x4096 .f32 :=
  Host.reduce FloatOps.maximumf (score a0 a1 a2 a3) (constant S_ .f32 0xFF800000#32) reducesTo_S16x4096x4096_S16x4096_d2 h_S_

variable {a0 a1 a2 a3 a4}

theorem top_at (h0 : Attn.AllReal (at64 a0)) (h1 : Attn.AllReal (at32 a1)) (h2 : Attn.AllReal (at64 a2)) (h3 : Attn.AllReal (at32 a3))
    (g : Fin 16) (r : Fin 4096) : ∃ M : ℝ, top a0 a1 a2 a3 (ix2 g r) = (M : EReal) := by
  unfold top
  pointwise
  rw [Attn.ofBits_neg_inf]
  refine Attn.fold_max_real _ _ (fun c _ => ?_) ⟨r, Finset.mem_univ _, ?_⟩
  · rw [score_at h0 h1 h2 h3]
    exact Attn.SM_lt_top _ _ _ _
  · show ⊥ < score a0 a1 a2 a3 (ix3 g r r)
    rw [score_at h0 h1 h2 h3, Attn.SM, if_pos (show Attn.ok r.1 r.1 from le_rfl)]
    exact EReal.bot_lt_coe _

variable (a0 a1 a2 a3 a4) (mx : FVec Ideal S16x4096 .f32)

/-- The weights before they are normalised, their sums, and the weights. -/
def un : FVec Ideal S16x4096x4096 .f32 :=
  Host.exp (subf (score a0 a1 a2 a3) (broadcastInDim S16x4096x4096 ![0, 1, 2] bcast_S16x4096x1_S16x4096x4096_0_1_2
    (broadcastInDim S16x4096x1 ![0, 1] bcast_S16x4096_S16x4096x1_0_1 mx)))

def total : FVec Ideal S16x4096 .f32 :=
  Host.reduceAdd (un a0 a1 a2 a3 mx) (constant S_ .f32 0x00000000#32) reducesTo_S16x4096x4096_S16x4096_d2 h_S_

def weight : FVec Ideal S16x4096x4096 .f32 :=
  Host.divf (un a0 a1 a2 a3 mx) (broadcastInDim S16x4096x4096 ![0, 1, 2] bcast_S16x4096x1_S16x4096x4096_0_1_2
    (broadcastInDim S16x4096x1 ![0, 1] bcast_S16x4096_S16x4096x1_0_1 (total a0 a1 a2 a3 mx)))

/-- The maximum as the softmax takes it. -/
def top' : FVec Ideal S16x4096 .f32 :=
  maximumf (broadcastInDim S16x4096 ![] bcast_S_S16x4096 (constant S_ .f32 0xFF800000#32)) (top a0 a1 a2 a3)

theorem max_bot (x : FVec Ideal S16x4096 .f32) :
    maximumf (broadcastInDim S16x4096 ![] bcast_S_S16x4096 (constant S_ .f32 0xFF800000#32)) x = x := by
  funext j
  obtain ⟨g, r, rfl⟩ : ∃ (g : Fin 16) (r : Fin 4096), j = ix2 g r := ⟨j 0, j 1, by funext a; fin_cases a <;> rfl⟩
  pointwise
  rw [Attn.ofBits_neg_inf]
  exact max_eq_right bot_le

theorem top'_eq : top' a0 a1 a2 a3 = top a0 a1 a2 a3 := max_bot _

variable {a0 a1 a2 a3 a4 mx}

theorem un_at (h0 : Attn.AllReal (at64 a0)) (h1 : Attn.AllReal (at32 a1)) (h2 : Attn.AllReal (at64 a2)) (h3 : Attn.AllReal (at32 a3))
    (g : Fin 16) (r c : Fin 4096) {M : ℝ} (hM : mx (ix2 g r) = (M : EReal)) : un a0 a1 a2 a3 mx (ix3 g r c)
      = ((Real.exp (-M) * Attn.E (Attn.qk (at64 a0) (at32 a1) g.1) (Attn.qk (at64 a2) (at32 a3) g.1) r.1 c.1 : ℝ) : EReal) := by
  unfold un
  pointwise
  rw [score_at h0 h1 h2 h3, hM]
  exact Attn.exp_SM _ _ _ _ _

theorem total_at (h0 : Attn.AllReal (at64 a0)) (h1 : Attn.AllReal (at32 a1)) (h2 : Attn.AllReal (at64 a2)) (h3 : Attn.AllReal (at32 a3))
    (g : Fin 16) (r : Fin 4096) {M : ℝ} (hM : mx (ix2 g r) = (M : EReal)) : total a0 a1 a2 a3 mx (ix2 g r)
      = ((Real.exp (-M) * Attn.Z (Attn.qk (at64 a0) (at32 a1) g.1) (Attn.qk (at64 a2) (at32 a3) g.1) r.1 : ℝ) : EReal) := by
  unfold total
  pointwise
  unfold Attn.Z
  rw [← Fin.sum_univ_eq_sum_range (fun c => Attn.E (Attn.qk (at64 a0) (at32 a1) g.1) (Attn.qk (at64 a2) (at32 a3) g.1) r.1 c) 4096,
    Finset.mul_sum, Attn.coe_sum]
  exact Finset.sum_congr rfl fun c _ => un_at h0 h1 h2 h3 g r c hM

theorem weight_at (h0 : Attn.AllReal (at64 a0)) (h1 : Attn.AllReal (at32 a1)) (h2 : Attn.AllReal (at64 a2)) (h3 : Attn.AllReal (at32 a3))
    (g : Fin 16) (r c : Fin 4096) {M : ℝ} (hM : mx (ix2 g r) = (M : EReal)) : weight a0 a1 a2 a3 mx (ix3 g r c)
      = ((Attn.P (Attn.qk (at64 a0) (at32 a1) g.1) (Attn.qk (at64 a2) (at32 a3) g.1) r.1 c.1 : ℝ) : EReal) := by
  unfold weight
  pointwise
  rw [un_at h0 h1 h2 h3 g r c hM, total_at h0 h1 h2 h3 g r hM,
    Attn.div_coe (mul_pos (Real.exp_pos _) (Attn.Z_pos _ _ _ r.2)).ne', mul_div_mul_left _ _ (Real.exp_pos _).ne']
  rfl

/-! ## The two results -/

variable (a0 a1 a2 a3 a4)

def out : FVec Ideal S4096x16x64 .f32 :=
  transpose S4096x16x64 [2, 0, 1] (Host.dotGeneral dot_S4096x16x64_S16x4096x4096_S16x64x4096_0_2_2_1_1_0 none a4 (weight a0 a1 a2 a3 (top' a0 a1 a2 a3))) transposes_S16x64x4096_S4096x16x64_2_0_1

def outRows : FVec Ideal S4096x2048 .f32 :=
  shapeCast S4096x2048 (pad S4096x16x128 ![0, 0, 0] ![0, 0, 64] ![0, 0, 0] (out a0 a1 a2 a3 a4)
    (sitofp .f32 (constantI S_ 32 0#32)) pads_S4096x16x64_S4096x16x128_000_000_0640 h_S_) shapeCasts_S4096x16x128_S4096x2048

def lse : FVec Ideal S16x4096x1 .f32 :=
  addf (broadcastInDim S16x4096x1 ![0, 1] bcast_S16x4096_S16x4096x1_0_1 (top a0 a1 a2 a3))
    (Host.log (broadcastInDim S16x4096x1 ![0, 1] bcast_S16x4096_S16x4096x1_0_1 (total a0 a1 a2 a3 (top a0 a1 a2 a3))))

variable {a0 a1 a2 a3 a4}

theorem out_at (h0 : Attn.AllReal (at64 a0)) (h1 : Attn.AllReal (at32 a1)) (h2 : Attn.AllReal (at64 a2)) (h3 : Attn.AllReal (at32 a3))
    (h4 : Attn.AllReal (at64 a4)) (r : Fin 4096) (g : Fin 16) (d : Fin 64) : out a0 a1 a2 a3 a4 (ix3 r g d)
      = ((Attn.O (Attn.qk (at64 a0) (at32 a1) g.1) (Attn.qk (at64 a2) (at32 a3) g.1) (Attn.vz (at64 a4) g.1) r.1 d.1 : ℝ) : EReal) := by
  obtain ⟨M, hM⟩ := top_at h0 h1 h2 h3 g r
  unfold out
  rw [top'_eq]
  pointwise
  unfold Attn.O
  rw [Finset.sum_div, ← Fin.sum_univ_eq_sum_range (fun c => Attn.E (Attn.qk (at64 a0) (at32 a1) g.1) (Attn.qk (at64 a2) (at32 a3) g.1) r.1 c
    * Attn.vz (at64 a4) g.1 c d.1 / Attn.Z (Attn.qk (at64 a0) (at32 a1) g.1) (Attn.qk (at64 a2) (at32 a3) g.1) r.1) 4096, Attn.coe_sum]
  refine Finset.sum_congr rfl fun c _ => ?_
  rw [weight_at h0 h1 h2 h3 g r c hM, Attn.vz, if_pos d.2]
  rw [show a4 (ix3 c g d) = ((Attn.real3 (at64 a4) c.1 g.1 d.1 : ℝ) : EReal) from (Attn.coe_real3 h4 c g d).symm, ← EReal.coe_mul]
  refine congrArg (fun x : ℝ => (x : EReal)) ?_
  unfold Attn.P
  ring

theorem lse_pt (x y : FVec Ideal S16x4096 .f32) (g : Fin 16) (r : Fin 4096) :
    addf (broadcastInDim S16x4096x1 ![0, 1] bcast_S16x4096_S16x4096x1_0_1 x)
      (Host.log (broadcastInDim S16x4096x1 ![0, 1] bcast_S16x4096_S16x4096x1_0_1 y)) (ix3 g r 0)
      = x (ix2 g r) + Ideal.log (y (ix2 g r)) := by
  pointwise

theorem lse_at (h0 : Attn.AllReal (at64 a0)) (h1 : Attn.AllReal (at32 a1)) (h2 : Attn.AllReal (at64 a2)) (h3 : Attn.AllReal (at32 a3))
    (g : Fin 16) (r : Fin 4096) : lse a0 a1 a2 a3 (ix3 g r 0)
      = ((Attn.LSE (Attn.qk (at64 a0) (at32 a1) g.1) (Attn.qk (at64 a2) (at32 a3) g.1) r.1 : ℝ) : EReal) := by
  obtain ⟨M, hM⟩ := top_at h0 h1 h2 h3 g r
  refine (lse_pt _ _ g r).trans ?_
  have hZ := Attn.Z_pos (Attn.qk (at64 a0) (at32 a1) g.1) (Attn.qk (at64 a2) (at32 a3) g.1) r.1 r.2
  rw [total_at h0 h1 h2 h3 g r hM, hM, Attn.log_coe (mul_pos (Real.exp_pos _) hZ), ← EReal.coe_add,
    Real.log_mul (Real.exp_pos _).ne' hZ.ne', Real.log_exp]
  unfold Attn.LSE
  refine congrArg (fun x : ℝ => (x : EReal)) ?_
  ring

theorem outRows_at (R : Fin 4096) (g : Fin 16) (l : Fin 128) : outRows a0 a1 a2 a3 a4 (ix2 R ⟨g.1 * 128 + l.1, by omega⟩)
    = if h : l.1 < 64 then out a0 a1 a2 a3 a4 (ix3 R g ⟨l.1, h⟩) else 0 := by
  unfold outRows
  pointwise
  refine dite_congr rfl (fun _ => rfl) fun _ => ?_
  show (((0#32 : BitVec 32).toInt : ℝ) : EReal) = _
  simp

/-- The reference's output rows at row `R`, lane `C` of the heads side by side. -/
theorem rows_eq (h0 : Attn.AllReal (at64 a0)) (h1 : Attn.AllReal (at32 a1)) (h2 : Attn.AllReal (at64 a2)) (h3 : Attn.AllReal (at32 a3))
    (h4 : Attn.AllReal (at64 a4)) (R : Fin 4096) (C : Fin 2048) : outRows a0 a1 a2 a3 a4 (ix2 R C)
      = if C.1 % 128 < 64 then ((Attn.O (Attn.qk (at64 a0) (at32 a1) (C.1 / 128)) (Attn.qk (at64 a2) (at32 a3) (C.1 / 128))
          (Attn.vz (at64 a4) (C.1 / 128)) R.1 (C.1 % 128) : ℝ) : EReal) else 0 := by
  have hC := C.2
  have e := outRows_at (a0 := a0) (a1 := a1) (a2 := a2) (a3 := a3) (a4 := a4) R ⟨C.1 / 128, by omega⟩ ⟨C.1 % 128, by omega⟩
  have hc : (⟨C.1 / 128 * 128 + C.1 % 128, by omega⟩ : Fin 2048) = C := Fin.ext (Nat.div_add_mod' C.1 128)
  rw [show (ix2 R C : S4096x2048.Idx) = ix2 R ⟨C.1 / 128 * 128 + C.1 % 128, by omega⟩ from by rw [hc]]
  refine e.trans ?_
  by_cases h : C.1 % 128 < 64
  · rw [dif_pos h, if_pos h]
    exact out_at h0 h1 h2 h3 h4 R ⟨C.1 / 128, by omega⟩ ⟨C.1 % 128, h⟩
  · rw [dif_neg h, if_neg h]

variable (m : (ℓ : Loc nD τ sig) → Buf (Elt Ideal) ℓ) (c : Dev nD)

theorem res0 : res_main_v28 m c = outRows (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

theorem res1 : res_main_v51 m c = lse (m ((c.tc : Thread nD τ).loc main_arg0)) (m ((c.tc : Thread nD τ).loc main_arg1))
    (m ((c.tc : Thread nD τ).loc main_arg2)) (m ((c.tc : Thread nD τ).loc main_arg3)) := rfl

end Cert.FwdRefIdeal.Value

end
-- ==== Proof.Finite.lean ====
/- The preconditions' `jnp.all((x > -inf) & (x < inf))`, read back: every entry is a real number. -/
module

public import Idealize.ShloMosaic.Lib.ReduceAll
public import Idealize.ShloMosaic.Lib.Claim
public import proofs.«01_k».proof.Proof.AttnMath

@[expose] public section

noncomputable section

open Idealize.ShloMosaic

namespace Attn

theorem and_one {s : Shape} {x y : IVec s 1} {i : s.Idx} (h : andi x y i = 1#1) : x i = 1#1 ∧ y i = 1#1 :=
  (by decide : ∀ a b : BitVec 1, IntOp.andi a b = 1#1 → a = 1#1 ∧ b = 1#1) _ _ h

instance : Subsingleton (Shape.Idx ⟨0, ![]⟩) := ⟨fun a b => funext fun i => i.elim0⟩

theorem real_of_all {s : Shape} {axes : List (Fin s.rank)} {a : FVec Ideal s .f32} {init : IVec ⟨0, ![]⟩ 1}
    {hb : (⟨0, ![]⟩ : Shape).BroadcastsInDim s ![]} {h : s.ReducesTo axes ⟨0, ![]⟩} {hu : 0 < (⟨0, ![]⟩ : Shape).numel} {j : Shape.Idx ⟨0, ![]⟩}
    (e : Host.reduce IntOp.andi (andi (cmpf .ogt a (broadcastInDim s ![] hb (constant ⟨0, ![]⟩ .f32 0xFF800000#32)))
      (cmpf .olt a (broadcastInDim s ![] hb (constant ⟨0, ![]⟩ .f32 0x7F800000#32)))) init h hu j = 1#1) (i : s.Idx) :
    ⊥ < a i ∧ a i < ⊤ := by
  obtain ⟨h1, h2⟩ := and_one (Host.reduce_andi_all _ _ _ _ _ e i)
  have e1 : BitVec.ofBool (decide (Ideal.ofBits .f32 0xFF800000#32 < a i)) = 1#1 := h1
  have e2 : BitVec.ofBool (decide (a i < Ideal.ofBits .f32 0x7F800000#32)) = 1#1 := h2
  have f1 : Ideal.ofBits .f32 0xFF800000#32 = ⊥ := ofBits_neg_inf
  have f2 : Ideal.ofBits .f32 0x7F800000#32 = ⊤ := by simp [Ideal.ofBits, Ideal.ieee]
  rw [f1] at e1
  rw [f2] at e2
  exact ⟨by by_contra hn; simp [hn] at e1, by by_contra hn; simp [hn] at e2⟩

end Attn

end
-- ==== Proof.FwdClaim.lean ====
/- The forward call's claims: its ideal program leaves what the reference leaves, of real arguments. -/
module

public import proofs.«01_k».proof.Defs
public import proofs.«01_k».proof.Proof.FwdValue
public import proofs.«01_k».proof.Proof.RefFwd
public import proofs.«01_k».proof.Proof.Finite
public import proofs.«01_k».proof.Proof.Gen.Fwd.Frame
public import proofs.«01_k».proof.Proof.Gen.Pre_finite_forward
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Forward

theorem frame_p : Cert.quiescent_Fwd := fun m ρ _ => Cert.Fwd.Gen.frame m ρ
theorem frame_pi : Cert.quiescent_FwdIdeal := fun m ρ _ => Cert.FwdIdeal.Gen.frame m ρ
theorem frame_pi_pre : Cert.quiescent_FwdIdeal_pre_finite_forward := fun m ρ _ => Cert.FwdIdeal.Gen.frame m ρ
theorem frame_ri : Cert.quiescent_FwdRefIdeal := fun m ρ _ =>
  (θ_run Cert.FwdRefIdeal.defs _ _).mono (fun r h => ⟨fun c => (h c).2.2, sem_eq_zero_of_no_sems (by decide) r.2⟩)
    (Cert.FwdRefIdeal.Value.run (F := Ideal) m ρ)
theorem frame_ri_pre : Cert.quiescent_FwdRefIdeal_pre_finite_forward := fun m ρ _ => frame_ri m ρ trivial

/-- The one named constant is the mask, whose value is `-∞`. -/
theorem preserves : Cert.preserves_Fwd_FwdIdeal :=
  IdealRules.named_const.statement Cert.FwdIdeal.κ "mask" .f32 0xF149F2CA#32 ⊥ rfl

section
open Cert.FwdIdeal

theorem fin5 (m : (ℓ : Loc nD τ sig) → Buf (Elt Ideal) ℓ) (h : Cert.Pre_FwdIdeal_finite_forward m) (c : Dev nD) :
    Cert.FwdIdeal.Value.Fin5 m c := by
  have e := congrFun (h c) ix0
  simp only [Cert.Pre_finite_forward.fn, Cert.Pre_finite_forward.fn_part1, Cert.Pre_finite_forward.fn_part2] at e
  obtain ⟨e, e4⟩ := Attn.and_one e
  obtain ⟨e, e3⟩ := Attn.and_one e
  obtain ⟨e, e2⟩ := Attn.and_one e
  obtain ⟨e0, e1⟩ := Attn.and_one e
  exact ⟨fun r g l => Attn.real_of_all e0 (ix3 r g l), fun r g l => Attn.real_of_all e1 (ix3 r g l),
    fun r g l => Attn.real_of_all e2 (ix3 r g l), fun r g l => Attn.real_of_all e3 (ix3 r g l),
    fun r g l => Attn.real_of_all e4 (ix3 r g l)⟩
end

open Cert.FwdRefIdeal in
theorem algebraic : Cert.algebraic_FwdIdeal_FwdRefIdeal_pre_finite_forward := by
  intro m g m' g' hpre hagree
  have hfin := fun c => fin5 m hpre c
  refine ⟨_, _, (θ_run Cert.FwdIdeal.defs _ _).mono (fun r h => h) (Cert.FwdIdeal.Value.run_blocks m g), ?_⟩
  refine (θ_run Cert.FwdRefIdeal.defs _ _).mono (fun r h c => ?_) (Cert.FwdRefIdeal.Value.run (F := Ideal) m' g')
  obtain ⟨e0, e1, e2, e3, e4⟩ := hagree c
  refine ⟨(h c).1.trans ?_, (h c).2.1.trans ?_, (h c).2.2⟩
  · rw [Cert.FwdRefIdeal.Value.res0, e0, e1, e2, e3, e4]
    refine Eq.trans ?_ (Cert.FwdIdeal.Value.final_o m c (hfin c)).symm
    funext j
    obtain ⟨h0, h1, h2, h3, h4⟩ := hfin c
    have ej : j = ix2 (j 0) (j 1) := by funext a; fin_cases a <;> rfl
    refine (congrArg _ ej).trans ((Cert.FwdRefIdeal.Value.rows_eq h0 h1 h2 h3 h4 (j 0) (j 1)).trans ?_)
    rfl
  · rw [Cert.FwdRefIdeal.Value.res1, e0, e1, e2, e3]
    refine Eq.trans ?_ (Cert.FwdIdeal.Value.final_l m c (hfin c)).symm
    funext j
    obtain ⟨h0, h1, h2, h3, h4⟩ := hfin c
    have ej : j = ix3 (j 0) (j 1) 0 := by
      funext a; fin_cases a
      · rfl
      · rfl
      · exact Subsingleton.elim (α := Fin 1) _ _
    refine (congrArg _ ej).trans ((Cert.FwdRefIdeal.Value.lse_at h0 h1 h2 h3 (j 0) (j 1)).trans ?_)
    rfl

end Cert.Proof.Forward

end
-- ==== Proof.BwdLoop.lean ====
/-
  The backward kernel's loop over the query tiles below one key tile, at any floating-point interpretation: what the trips
  before the `k`-th have left in the three accumulators (the query gradient's block, and the key's and the value's
  gradient of the tile), as a recursion on the vectors the accumulators hold.
-/
module

public import proofs.«01_k».proof.Proof.Gen.KernelIdeal.Skeleton
public import proofs.«01_k».proof.Proof.Gen.KernelIdeal.Loops
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.KernelIdeal.Bwd

open Cert.KernelIdeal Cert.KernelIdeal.Gen

variable {F : FTy → Type} [FloatOps F] [Named F]

/-- The accumulators' vectors: the query gradient's block, the key gradient's tile and the value gradient's tile. -/
abbrev Acc (F : FTy → Type) : Type := Vec F S4096x128 .f32 × Vec F S512x128 .f32 × Vec F S512x128 .f32

/-- The rows of a block that trip `k` works on. -/
def rowsAt {α : Type} (i : grid0.Coords) (k : Fin (k0_t1_loop i).trips) (x : S4096x128.Idx → α) : S512x128.Idx → α :=
  VecWindow.window x (k0_off2 i k) S512x128.size (k0_off2_inb i k)

/-- The value gradient's tile after a trip, from the tile's queries `q`, cotangents `g`, logarithms `l`. -/
def dvStep (kk : FVec F S512x128 .bf16) (q g : Vec F S512x128 .bf16) (l : Vec F S512x128 .f32) (a : Vec F S512x128 .f32) : Vec F S512x128 .f32 :=
  k0_pay38 (k0_pay2 g) (k0_pay3 kk q l) a

/-- The key gradient's tile after a trip. -/
def dkStep (kk vv : FVec F S512x128 .bf16) (q g : Vec F S512x128 .bf16) (l d : Vec F S512x128 .f32) (a : Vec F S512x128 .f32) : Vec F S512x128 .f32 :=
  k0_pay39 (k0_pay1 q) d (k0_pay4 vv g) (k0_pay5 kk vv q g l d) (k0_pay6 kk vv q g l d) (k0_pay7 kk vv q g l d) (k0_pay8 kk q l) a

/-- The query gradient's rows after a trip. -/
def dqStep (kk vv : FVec F S512x128 .bf16) (q g : Vec F S512x128 .bf16) (l d : Vec F S512x128 .f32) (a : Vec F S512x128 .f32) : Vec F S512x128 .f32 :=
  k0_pay40 kk d (k0_pay4 vv g) (k0_pay5 kk vv q g l d) (k0_pay6 kk vv q g l d) (k0_pay7 kk vv q g l d) (k0_pay8 kk q l) a

/-- One trip of the loop, on the vectors. -/
def trip (i : grid0.Coords) (q g : Vec F S4096x128 .bf16) (d l : Vec F S4096x128 .f32) (kk vv : FVec F S512x128 .bf16)
    (k : Fin (k0_t1_loop i).trips) (a : Acc F) : Acc F :=
  (VecWindow.put a.1 (k0_off2 i k) S512x128.size (dqStep kk vv (rowsAt i k q) (rowsAt i k g) (rowsAt i k l) (rowsAt i k d) (rowsAt i k a.1)),
    dkStep kk vv (rowsAt i k q) (rowsAt i k g) (rowsAt i k l) (rowsAt i k d) a.2.1,
    dvStep kk (rowsAt i k q) (rowsAt i k g) (rowsAt i k l) a.2.2)

/-- The trips before the `k`-th. -/
def trips (i : grid0.Coords) (q g : Vec F S4096x128 .bf16) (d l : Vec F S4096x128 .f32) (kk vv : FVec F S512x128 .bf16) (a : Acc F) : ℕ → Acc F
  | 0 => a
  | k + 1 => if h : k < (k0_t1_loop i).trips then trip i q g d l kk vv ⟨k, h⟩ (trips i q g d l kk vv a k) else trips i q g d l kk vv a k

section Pieces

variable (𝒱 : Variants) (c : Dev nD) (bd : Option 𝒱.V) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S512x128 .f32) (harg13 : arg13.IsWhole) (arg14 : Memref sig .tc .vmem S512x128 .f32) (harg14 : arg14.IsWhole)
  (v12 v14 : FVec F S512x128 .bf16) (v147 : BitVec 32)
  (X_arg2 : BufTy.Contents (Elt F) arg2.view.ty) (X_arg5 : BufTy.Contents (Elt F) arg5.view.ty) (X_arg11 : BufTy.Contents (Elt F) arg11.view.ty) (X_arg12 : BufTy.Contents (Elt F) arg12.view.ty)

/-- What one trip stores, in the accumulators' memrefs. -/
theorem tripL_eq (k : Fin (k0_t1_loop i).trips) (f8 : BufTy.Contents (Elt F) arg8.view.ty) (f13 : BufTy.Contents (Elt F) arg13.view.ty) (f14 : BufTy.Contents (Elt F) arg14.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X_arg2 X_arg5 X_arg11 X_arg12 k f8 f13 f14
      = ([⟨Rect.unit (s := S4096x128) (k0_off2 i k) S512x128.size (k0_off2_inb i k), dqStep v12 v14
            (arg2.view.readAt (Elt F) (Rect.unit (s := S4096x128) (k0_off2 i k) S512x128.size (k0_off2_inb i k)).toLoadRect X_arg2)
            (arg5.view.readAt (Elt F) (Rect.unit (s := S4096x128) (k0_off2 i k) S512x128.size (k0_off2_inb i k)).toLoadRect X_arg5)
            (arg12.view.readAt (Elt F) (Rect.unit (s := S4096x128) (k0_off2 i k) S512x128.size (k0_off2_inb i k)).toLoadRect X_arg12)
            (arg11.view.readAt (Elt F) (Rect.unit (s := S4096x128) (k0_off2 i k) S512x128.size (k0_off2_inb i k)).toLoadRect X_arg11)
            (arg8.view.readAt (Elt F) (Rect.unit (s := S4096x128) (k0_off2 i k) S512x128.size (k0_off2_inb i k)).toLoadRect f8)⟩],
         [⟨Rect.unit (s := S512x128) ![0, 0] S512x128.size inb_S512x128_S512x128_0_0, dkStep v12 v14
            (arg2.view.readAt (Elt F) (Rect.unit (s := S4096x128) (k0_off2 i k) S512x128.size (k0_off2_inb i k)).toLoadRect X_arg2)
            (arg5.view.readAt (Elt F) (Rect.unit (s := S4096x128) (k0_off2 i k) S512x128.size (k0_off2_inb i k)).toLoadRect X_arg5)
            (arg12.view.readAt (Elt F) (Rect.unit (s := S4096x128) (k0_off2 i k) S512x128.size (k0_off2_inb i k)).toLoadRect X_arg12)
            (arg11.view.readAt (Elt F) (Rect.unit (s := S4096x128) (k0_off2 i k) S512x128.size (k0_off2_inb i k)).toLoadRect X_arg11)
            (arg13.view.readAt (Elt F) (Rect.unit (s := S512x128) ![0, 0] S512x128.size inb_S512x128_S512x128_0_0).toLoadRect f13)⟩],
         [⟨Rect.unit (s := S512x128) ![0, 0] S512x128.size inb_S512x128_S512x128_0_0, dvStep v12
            (arg2.view.readAt (Elt F) (Rect.unit (s := S4096x128) (k0_off2 i k) S512x128.size (k0_off2_inb i k)).toLoadRect X_arg2)
            (arg5.view.readAt (Elt F) (Rect.unit (s := S4096x128) (k0_off2 i k) S512x128.size (k0_off2_inb i k)).toLoadRect X_arg5)
            (arg12.view.readAt (Elt F) (Rect.unit (s := S4096x128) (k0_off2 i k) S512x128.size (k0_off2_inb i k)).toLoadRect X_arg12)
            (arg14.view.readAt (Elt F) (Rect.unit (s := S512x128) ![0, 0] S512x128.size inb_S512x128_S512x128_0_0).toLoadRect f14)⟩]) := by
  unfold tripL_k0_t1 trip_k0_t1; rfl

/-- What the memrefs hold after the trips before the `k`-th, as vectors. -/
theorem read_trips (G8 : BufTy.Contents (Elt F) arg8.view.ty) (G13 : BufTy.Contents (Elt F) arg13.view.ty) (G14 : BufTy.Contents (Elt F) arg14.view.ty) (k : ℕ) (hk : k ≤ (k0_t1_loop i).trips) :
    (arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X_arg2 X_arg5 X_arg11 X_arg12 G8 G13 G14 k).1),
     arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X_arg2 X_arg5 X_arg11 X_arg12 G8 G13 G14 k).2.1),
     arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X_arg2 X_arg5 X_arg11 X_arg12 G8 G13 G14 k).2.2))
      = trips (F := F) i (arg2.view.read (Elt F) X_arg2) (arg5.view.read (Elt F) X_arg5) (arg11.view.read (Elt F) X_arg11) (arg12.view.read (Elt F) X_arg12) v12 v14
          (arg8.view.read (Elt F) G8, arg13.view.read (Elt F) G13, arg14.view.read (Elt F) G14) k := by
  induction k with
  | zero => rw [pb_k0_t1.eq_1]; rfl
  | succ k ih =>
    have hlt : k < (k0_t1_loop i).trips := hk
    have ih' := ih (Nat.le_of_lt hlt)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 v12 v14 v147 X_arg2 X_arg5 X_arg11 X_arg12 G8 G13 G14 ⟨k, hlt⟩, tripL_eq]
    dsimp only [List.singleton_append]
    rw [trips, dif_pos hlt, ← ih']
    rw [View.read_writes_cons_put _ _ _ _ _ rfl, View.read_writes_full, View.read_writes_full]
    rw [View.readAt_full arg13.view, View.readAt_full arg14.view]
    rfl

end Pieces

/-- The second loop, over the trips a division of the count by one leaves over, makes none. -/
theorem trips2 : ∀ i : grid0.Coords, (k0_t2_loop i).trips = 0 := by decide +kernel

end Cert.KernelIdeal.Bwd

end
-- ==== Proof.BwdRun.lean ====
/-
  The backward kernel's body on whole staging buffers, at any floating-point interpretation: what it leaves in its three
  results and in its scratch, as vectors, at a head's first point (`runA`) and at a later one (`runB`).
-/
module

public import proofs.«01_k».proof.Proof.BwdLoop
public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Bwd

open Cert.KernelIdeal Cert.KernelIdeal.Gen

variable {F : FTy → Type} [FloatOps F] [Named F]

local notation "𝕄" => MT nD τ sig Unit (Elt F) ℕ (UR sig nD τ) ℕ

/-- The query rows of a block that lie in the same tile as the point's keys. -/
def rowsIn {α : Type} (i : grid0.Coords) (x : S4096x128.Idx → α) : S512x128.Idx → α :=
  VecWindow.window x (k0_off1 i) S512x128.size (k0_off1_inb i)

/-- The value masked scores take. -/
def hidden : F .f32 := Named.named κ "mask" 0xF149F2CA#32

/-- Which pairs of the diagonal tile attend. -/
def below : IVec S512x512 1 := k0_pay30 k0_pay27 k0_pay28 64#32 k0_pay29 0#32

/-- The scores' gradient on the diagonal tile, from its queries `q`, keys `k`, values `v`, cotangents `g`, logarithms `l`. -/
def dsDiag (q g k v : Vec F S512x128 .bf16) (l d : Vec F S512x128 .f32) : FVec F S512x512 .bf16 :=
  k0_pay32 (k0_pay23 v) (k0_pay25 g) (k0_pay26 k q) below hidden l d

/-- What the diagonal tile leaves in the accumulators. -/
def start (i : grid0.Coords) (x0 : Vec F S4096x128 .bf16) (x1 x2 : Vec F S512x128 .bf16) (x3 : Vec F S4096x128 .bf16)
    (d l q : Vec F S4096x128 .f32) : Acc F :=
  (VecWindow.put q (k0_off1 i) S512x128.size
      (k0_pay36 (k0_pay22 x1) (dsDiag (rowsIn i x0) (rowsIn i x3) x1 x2 (rowsIn i l) (rowsIn i d)) (rowsIn i q)),
    k0_pay35 (k0_pay24 (rowsIn i x0)) (dsDiag (rowsIn i x0) (rowsIn i x3) x1 x2 (rowsIn i l) (rowsIn i d)) k0_pay20,
    k0_pay34 (k0_pay33 (k0_pay25 (rowsIn i x3)) (k0_pay26 x1 (rowsIn i x0)) below hidden (rowsIn i l) k0_pay21))

/-- What a point leaves in the query gradient's block, and its key and value gradients' tiles. -/
def body (i : grid0.Coords) (x0 : Vec F S4096x128 .bf16) (x1 x2 : Vec F S512x128 .bf16) (x3 : Vec F S4096x128 .bf16)
    (d l q : Vec F S4096x128 .f32) : Acc F :=
  trips i x0 x3 d l (k0_pay22 x1) (k0_pay23 x2) (start i x0 x1 x2 x3 d l q) (k0_t1_loop i).trips

section Final

variable (𝒱 : Variants) (c : Dev nD) (bd : Option 𝒱.V) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S512x128 .f32) (harg13 : arg13.IsWhole) (arg14 : Memref sig .tc .vmem S512x128 .f32) (harg14 : arg14.IsWhole)
  (v12 v14 v12' v14' : FVec F S512x128 .bf16) (v147 v152 : BitVec 32)
  (X2 X2' : BufTy.Contents (Elt F) arg2.view.ty) (X5 X5' : BufTy.Contents (Elt F) arg5.view.ty) (X11 X11' : BufTy.Contents (Elt F) arg11.view.ty) (X12 X12' : BufTy.Contents (Elt F) arg12.view.ty)
  (G8 G8' : BufTy.Contents (Elt F) arg8.view.ty) (G13 G13' : BufTy.Contents (Elt F) arg13.view.ty) (G14 G14' : BufTy.Contents (Elt F) arg14.view.ty)

/-- The second loop stores nothing. -/
theorem pb2_nil : pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12' v14' v152 X2' X5' X11' X12' G8' G13' G14' (Scf.trips (k0_t2_loop i).lb (k0_t2_loop i).ub (k0_t2_loop i).st) = ([], [], []) := by
  have h : Scf.trips (k0_t2_loop i).lb (k0_t2_loop i).ub (k0_t2_loop i).st = 0 := trips2 i
  rw [h, pb_k0_t2.eq_1]

theorem final8 (b : BufTy.Contents (Elt F) arg8.view.ty) (P : List (View.Piece (Elt F) S4096x128 .f32)) (hG : G8 = arg8.view.writes (Elt F) b P) :
    arg8.view.read (Elt F) (arg8.view.writes (Elt F) b ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12' v14' v152 X2' X5' X11' X12' G8' G13' G14' (Scf.trips (k0_t2_loop i).lb (k0_t2_loop i).ub (k0_t2_loop i).st)).1 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X2 X5 X11 X12 G8 G13 G14 (Scf.trips (k0_t1_loop i).lb (k0_t1_loop i).ub (k0_t1_loop i).st)).1 ++ P)))
      = (trips (F := F) i (arg2.view.read (Elt F) X2) (arg5.view.read (Elt F) X5) (arg11.view.read (Elt F) X11) (arg12.view.read (Elt F) X12) v12 v14
          (arg8.view.read (Elt F) G8, arg13.view.read (Elt F) G13, arg14.view.read (Elt F) G14) (k0_t1_loop i).trips).1 := by
  subst hG
  rw [pb2_nil]; dsimp only [List.nil_append]
  rw [View.writes_append]
  exact congrArg Prod.fst (read_trips 𝒱 c bd i arg2 harg2 arg3 harg3 arg4 harg4 arg5 harg5 arg6 harg6 arg7 harg7 arg8 harg8 arg9 harg9 arg10 harg10 arg11 harg11 arg12 harg12 arg13 harg13 arg14 harg14 v12 v14 v147 X2 X5 X11 X12 _ G13 G14 _ le_rfl)

theorem final13 (b : BufTy.Contents (Elt F) arg13.view.ty) (P : List (View.Piece (Elt F) S512x128 .f32)) (hG : G13 = arg13.view.writes (Elt F) b P) :
    arg13.view.read (Elt F) (arg13.view.writes (Elt F) b ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12' v14' v152 X2' X5' X11' X12' G8' G13' G14' (Scf.trips (k0_t2_loop i).lb (k0_t2_loop i).ub (k0_t2_loop i).st)).2.1 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X2 X5 X11 X12 G8 G13 G14 (Scf.trips (k0_t1_loop i).lb (k0_t1_loop i).ub (k0_t1_loop i).st)).2.1 ++ P)))
      = (trips (F := F) i (arg2.view.read (Elt F) X2) (arg5.view.read (Elt F) X5) (arg11.view.read (Elt F) X11) (arg12.view.read (Elt F) X12) v12 v14
          (arg8.view.read (Elt F) G8, arg13.view.read (Elt F) G13, arg14.view.read (Elt F) G14) (k0_t1_loop i).trips).2.1 := by
  subst hG
  rw [pb2_nil]; dsimp only [List.nil_append]
  rw [View.writes_append]
  exact congrArg (fun x => x.2.1) (read_trips 𝒱 c bd i arg2 harg2 arg3 harg3 arg4 harg4 arg5 harg5 arg6 harg6 arg7 harg7 arg8 harg8 arg9 harg9 arg10 harg10 arg11 harg11 arg12 harg12 arg13 harg13 arg14 harg14 v12 v14 v147 X2 X5 X11 X12 G8 _ G14 _ le_rfl)

theorem final14 (b : BufTy.Contents (Elt F) arg14.view.ty) (P : List (View.Piece (Elt F) S512x128 .f32)) (hG : G14 = arg14.view.writes (Elt F) b P) :
    arg14.view.read (Elt F) (arg14.view.writes (Elt F) b ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12' v14' v152 X2' X5' X11' X12' G8' G13' G14' (Scf.trips (k0_t2_loop i).lb (k0_t2_loop i).ub (k0_t2_loop i).st)).2.2 ++ ((pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v12 v14 v147 X2 X5 X11 X12 G8 G13 G14 (Scf.trips (k0_t1_loop i).lb (k0_t1_loop i).ub (k0_t1_loop i).st)).2.2 ++ P)))
      = (trips (F := F) i (arg2.view.read (Elt F) X2) (arg5.view.read (Elt F) X5) (arg11.view.read (Elt F) X11) (arg12.view.read (Elt F) X12) v12 v14
          (arg8.view.read (Elt F) G8, arg13.view.read (Elt F) G13, arg14.view.read (Elt F) G14) (k0_t1_loop i).trips).2.2 := by
  subst hG
  rw [pb2_nil]; dsimp only [List.nil_append]
  rw [View.writes_append]
  exact congrArg (fun x => x.2.2) (read_trips 𝒱 c bd i arg2 harg2 arg3 harg3 arg4 harg4 arg5 harg5 arg6 harg6 arg7 harg7 arg8 harg8 arg9 harg9 arg10 harg10 arg11 harg11 arg12 harg12 arg13 harg13 arg14 harg14 v12 v14 v147 X2 X5 X11 X12 G8 G13 _ _ le_rfl)

/-- The accumulators before the loop, as the memrefs hold them. -/
theorem start_read (X2 : BufTy.Contents (Elt F) arg2.view.ty) (X3 : BufTy.Contents (Elt F) arg3.view.ty) (X4 : BufTy.Contents (Elt F) arg4.view.ty)
    (X5 : BufTy.Contents (Elt F) arg5.view.ty) (X11 : BufTy.Contents (Elt F) arg11.view.ty) (X12 : BufTy.Contents (Elt F) arg12.view.ty)
    (b8 : BufTy.Contents (Elt F) arg8.view.ty) (L8 : List (View.Piece (Elt F) S4096x128 .f32)) (L13 L14 : List (View.Piece (Elt F) S512x128 .f32))
    (x0 : Vec F S4096x128 .bf16) (x1 x2 : Vec F S512x128 .bf16) (x3 : Vec F S4096x128 .bf16) (d l q : Vec F S4096x128 .f32)
    (h2 : arg2.view.read (Elt F) X2 = x0) (h3 : arg3.view.read (Elt F) X3 = x1) (h4 : arg4.view.read (Elt F) X4 = x2) (h5 : arg5.view.read (Elt F) X5 = x3)
    (h11 : arg11.view.read (Elt F) X11 = d) (h12 : arg12.view.read (Elt F) X12 = l) (h8 : arg8.view.read (Elt F) (arg8.view.writes (Elt F) b8 L8) = q) :
    trips (F := F) i (arg2.view.read (Elt F) X2) (arg5.view.read (Elt F) X5) (arg11.view.read (Elt F) X11) (arg12.view.read (Elt F) X12)
      (k0_pay22 (arg3.view.readAt (Elt F) (Rect.unit (s := S512x128) ![0, 0] S512x128.size inb_S512x128_S512x128_0_0).toLoadRect X3)) (k0_pay23 (arg4.view.readAt (Elt F) (Rect.unit (s := S512x128) ![0, 0] S512x128.size inb_S512x128_S512x128_0_0).toLoadRect X4))
      (arg8.view.read (Elt F) (arg8.view.writes (Elt F) b8 (⟨(Rect.unit (s := S4096x128) (k0_off1 i) S512x128.size (k0_off1_inb i)), k0_pay36 (k0_pay22 (arg3.view.readAt (Elt F) (Rect.unit (s := S512x128) ![0, 0] S512x128.size inb_S512x128_S512x128_0_0).toLoadRect X3)) (dsDiag (arg2.view.readAt (Elt F) (Rect.unit (s := S4096x128) (k0_off1 i) S512x128.size (k0_off1_inb i)).toLoadRect X2) (arg5.view.readAt (Elt F) (Rect.unit (s := S4096x128) (k0_off1 i) S512x128.size (k0_off1_inb i)).toLoadRect X5) (arg3.view.readAt (Elt F) (Rect.unit (s := S512x128) ![0, 0] S512x128.size inb_S512x128_S512x128_0_0).toLoadRect X3) (arg4.view.readAt (Elt F) (Rect.unit (s := S512x128) ![0, 0] S512x128.size inb_S512x128_S512x128_0_0).toLoadRect X4) (arg12.view.readAt (Elt F) (Rect.unit (s := S4096x128) (k0_off1 i) S512x128.size (k0_off1_inb i)).toLoadRect X12) (arg11.view.readAt (Elt F) (Rect.unit (s := S4096x128) (k0_off1 i) S512x128.size (k0_off1_inb i)).toLoadRect X11))
          (arg8.view.readAt (Elt F) (Rect.unit (s := S4096x128) (k0_off1 i) S512x128.size (k0_off1_inb i)).toLoadRect (arg8.view.writes (Elt F) b8 L8))⟩ :: L8)),
       arg13.view.read (Elt F) (arg13.view.writes (Elt F) arg13.view.junk (⟨(Rect.unit (s := S512x128) ![0, 0] S512x128.size inb_S512x128_S512x128_0_0), k0_pay35 (k0_pay24 (arg2.view.readAt (Elt F) (Rect.unit (s := S4096x128) (k0_off1 i) S512x128.size (k0_off1_inb i)).toLoadRect X2)) (dsDiag (arg2.view.readAt (Elt F) (Rect.unit (s := S4096x128) (k0_off1 i) S512x128.size (k0_off1_inb i)).toLoadRect X2) (arg5.view.readAt (Elt F) (Rect.unit (s := S4096x128) (k0_off1 i) S512x128.size (k0_off1_inb i)).toLoadRect X5) (arg3.view.readAt (Elt F) (Rect.unit (s := S512x128) ![0, 0] S512x128.size inb_S512x128_S512x128_0_0).toLoadRect X3) (arg4.view.readAt (Elt F) (Rect.unit (s := S512x128) ![0, 0] S512x128.size inb_S512x128_S512x128_0_0).toLoadRect X4) (arg12.view.readAt (Elt F) (Rect.unit (s := S4096x128) (k0_off1 i) S512x128.size (k0_off1_inb i)).toLoadRect X12) (arg11.view.readAt (Elt F) (Rect.unit (s := S4096x128) (k0_off1 i) S512x128.size (k0_off1_inb i)).toLoadRect X11))
          (arg13.view.readCov (Val := Elt F) [⟨(Rect.unit (s := S512x128) ![0, 0] S512x128.size inb_S512x128_S512x128_0_0), k0_pay20⟩] (Rect.unit (s := S512x128) ![0, 0] S512x128.size inb_S512x128_S512x128_0_0).toLoadRect)⟩ :: L13)),
       arg14.view.read (Elt F) (arg14.view.writes (Elt F) arg14.view.junk (⟨(Rect.unit (s := S512x128) ![0, 0] S512x128.size inb_S512x128_S512x128_0_0), k0_pay34 (k0_pay33 (k0_pay25 (arg5.view.readAt (Elt F) (Rect.unit (s := S4096x128) (k0_off1 i) S512x128.size (k0_off1_inb i)).toLoadRect X5))
          (k0_pay26 (arg3.view.readAt (Elt F) (Rect.unit (s := S512x128) ![0, 0] S512x128.size inb_S512x128_S512x128_0_0).toLoadRect X3) (arg2.view.readAt (Elt F) (Rect.unit (s := S4096x128) (k0_off1 i) S512x128.size (k0_off1_inb i)).toLoadRect X2)) below hidden
          (arg12.view.readAt (Elt F) (Rect.unit (s := S4096x128) (k0_off1 i) S512x128.size (k0_off1_inb i)).toLoadRect X12) (arg14.view.readCov (Val := Elt F) [⟨(Rect.unit (s := S512x128) ![0, 0] S512x128.size inb_S512x128_S512x128_0_0), k0_pay21⟩] (Rect.unit (s := S512x128) ![0, 0] S512x128.size inb_S512x128_S512x128_0_0).toLoadRect))⟩ :: L14)))
      (k0_t1_loop i).trips
      = body i x0 x1 x2 x3 d l q := by
  subst h2 h3 h4 h5 h11 h12 h8
  rw [View.read_writes_cons_put arg8.view _ _ _ _ rfl, View.read_writes_full, View.read_writes_full, View.readAt_full arg3.view, View.readAt_full arg4.view,
    View.readCov_full, View.readCov_full]
  rfl

end Final

set_option maxHeartbeats 1000000 in
theorem runA (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S512x128 .f32) (harg13 : arg13.IsWhole) (arg14 : Memref sig .tc .vmem S512x128 .f32) (harg14 : arg14.IsWhole) (hc0 : Scalar.cmpi .ne (Scalar.extui (Scalar.cmpi .eq (BitVec.ofNat 32 (i 1).val) 0#32) : BitVec 32) 0#32 = 1#1)
    (x0 : Vec F S4096x128 .bf16) (x1 : Vec F S512x128 .bf16) (x2 : Vec F S512x128 .bf16) (x3 : Vec F S4096x128 .bf16) (x4 : Vec F S4096x128 .f32) (x5 : Vec F S1x4096x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (body i x0 x1 x2 x3 (k0_pay18 x3 x4) (k0_pay19 x5) k0_pay17).1 ∗ owns (c : Thread nD τ) arg9 fullShare (body i x0 x1 x2 x3 (k0_pay18 x3 x4) (k0_pay19 x5) k0_pay17).2.1 ∗ owns (c : Thread nD τ) arg10 fullShare (body i x0 x1 x2 x3 (k0_pay18 x3 x4) (k0_pay19 x5) k0_pay17).2.2 ∗ owns (c : Thread nD τ) arg11 fullShare (k0_pay18 x3 x4) ∗ owns (c : Thread nD τ) arg12 fullShare (k0_pay19 x5) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part6_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%ds0, %fs0, %hfs0, HS0⟩, ⟨%ds1, %fs1, %hfs1, HS1⟩, ⟨%ds2, %fs2, %hfs2, HS2⟩, ⟨%ds3, %fs3, %hfs3, HS3⟩, Hk⟩
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have h11 : arg11.view.read (Elt F) (arg11.view.writes (Elt F) arg11.view.junk [⟨(Rect.unit (s := S4096x128) ![0, 0] S4096x128.size inb_S4096x128_S4096x128_0_0), k0_pay18 (arg5.view.readAt (Elt F) (Rect.unit (s := S4096x128) ![0, 0] S4096x128.size inb_S4096x128_S4096x128_0_0).toLoadRect f3) (arg6.view.readAt (Elt F) (Rect.unit (s := S4096x128) ![0, 0] S4096x128.size inb_S4096x128_S4096x128_0_0).toLoadRect f4)⟩]) = k0_pay18 x3 x4 := by
    subst hf3 hf4
    rw [View.read_writes_full, View.readAt_full arg5.view, View.readAt_full arg6.view]
  have h12 : arg12.view.read (Elt F) (arg12.view.writes (Elt F) arg12.view.junk [⟨(Rect.unit (s := S4096x128) ![0, 0] S4096x128.size inb_S4096x128_S4096x128_0_0), k0_pay19 (arg7.view.readAt (Elt F) (Rect.unit (s := S1x4096x1) ![0, 0, 0] S1x4096x1.size inb_S1x4096x1_S1x4096x1_0_0_0).toLoadRect f5)⟩]) = k0_pay19 x5 := by
    subst hf5
    rw [View.read_writes_full, View.readAt_full arg7.view]
  isplitl [H6]
  · iexists _; isplitr; swap; · iexact H6
    ipureintro
    exact (final8 (hG := rfl) ..).trans (congrArg Prod.fst (start_read (h2 := hf0) (h3 := hf1) (h4 := hf2) (h5 := hf3) (h11 := h11) (h12 := h12) (h8 := View.read_writes_full _ _ _ _ _) ..))
  isplitl [H7]
  · iexists _; isplitr; swap; · iexact H7
    ipureintro
    refine (View.read_writes_full _ _ _ _ _).trans ((View.readAt_full _ _ _).trans ?_)
    exact (final13 (hG := rfl) ..).trans (congrArg (fun x => x.2.1) (start_read (h2 := hf0) (h3 := hf1) (h4 := hf2) (h5 := hf3) (h11 := h11) (h12 := h12) (h8 := View.read_writes_full _ _ _ _ _) ..))
  isplitl [H8]
  · iexists _; isplitr; swap; · iexact H8
    ipureintro
    refine (View.read_writes_full _ _ _ _ _).trans ((View.readAt_full _ _ _).trans ?_)
    exact (final14 (hG := rfl) ..).trans (congrArg (fun x => x.2.2) (start_read (h2 := hf0) (h3 := hf1) (h4 := hf2) (h5 := hf3) (h11 := h11) (h12 := h12) (h8 := View.read_writes_full _ _ _ _ _) ..))
  isplitl [HS0]
  · iexists _; isplitr; swap; · iexact HS0
    ipureintro; exact h11
  isplitl [HS1]
  · iexists _; isplitr; swap; · iexact HS1
    ipureintro; exact h12
  isplitl [HS2]
  · iexists _, _; isplitr; swap; · iexact HS2
    ipureintro; rfl
  iexists _, _; isplitr; swap; · iexact HS3
  ipureintro; rfl

set_option maxHeartbeats 1000000 in
theorem runB (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S1x4096x1 .f32) (harg7 : arg7.IsWhole) (arg8 : Memref sig .tc .vmem S4096x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S512x128 .f32) (harg13 : arg13.IsWhole) (arg14 : Memref sig .tc .vmem S512x128 .f32) (harg14 : arg14.IsWhole) (hc0 : ¬ Scalar.cmpi .ne (Scalar.extui (Scalar.cmpi .eq (BitVec.ofNat 32 (i 1).val) 0#32) : BitVec 32) 0#32 = 1#1)
    (x0 : Vec F S4096x128 .bf16) (x1 : Vec F S512x128 .bf16) (x2 : Vec F S512x128 .bf16) (x3 : Vec F S4096x128 .bf16) (x4 : Vec F S4096x128 .f32) (x5 : Vec F S1x4096x1 .f32) (q d l : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare q ∗ (∃ d, owns (c : Thread nD τ) arg9 fullShare d) ∗ (∃ d, owns (c : Thread nD τ) arg10 fullShare d) ∗ owns (c : Thread nD τ) arg11 fullShare d ∗ owns (c : Thread nD τ) arg12 fullShare l ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (body i x0 x1 x2 x3 d l q).1 ∗ owns (c : Thread nD τ) arg9 fullShare (body i x0 x1 x2 x3 d l q).2.1 ∗ owns (c : Thread nD τ) arg10 fullShare (body i x0 x1 x2 x3 d l q).2.2 ∗ owns (c : Thread nD τ) arg11 fullShare d ∗ owns (c : Thread nD τ) arg12 fullShare l ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  simp only [k0_part6_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%fs0, %hfs0, HS0⟩, ⟨%fs1, %hfs1, HS1⟩, ⟨%ds2, %fs2, %hfs2, HS2⟩, ⟨%ds3, %fs3, %hfs3, HS3⟩, Hk⟩
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    exact (final8 (hG := rfl) ..).trans (congrArg Prod.fst (start_read (h2 := hf0) (h3 := hf1) (h4 := hf2) (h5 := hf3) (h11 := hfs0) (h12 := hfs1) (L8 := []) (h8 := hf6) ..))
  isplitl [H7]
  · iexists _; isplitr; swap; · iexact H7
    ipureintro
    refine (View.read_writes_full _ _ _ _ _).trans ((View.readAt_full _ _ _).trans ?_)
    exact (final13 (hG := rfl) ..).trans (congrArg (fun x => x.2.1) (start_read (h2 := hf0) (h3 := hf1) (h4 := hf2) (h5 := hf3) (h11 := hfs0) (h12 := hfs1) (L8 := []) (h8 := hf6) ..))
  isplitl [H8]
  · iexists _; isplitr; swap; · iexact H8
    ipureintro
    refine (View.read_writes_full _ _ _ _ _).trans ((View.readAt_full _ _ _).trans ?_)
    exact (final14 (hG := rfl) ..).trans (congrArg (fun x => x.2.2) (start_read (h2 := hf0) (h3 := hf1) (h4 := hf2) (h5 := hf3) (h11 := hfs0) (h12 := hfs1) (L8 := []) (h8 := hf6) ..))
  isplitl [HS0]
  · iexists _; isplitr; swap; · iexact HS0
    ipureintro; exact hfs0
  isplitl [HS1]
  · iexists _; isplitr; swap; · iexact HS1
    ipureintro; exact hfs1
  isplitl [HS2]
  · iexists _, _; isplitr; swap; · iexact HS2
    ipureintro; rfl
  iexists _, _; isplitr; swap; · iexact HS3
  ipureintro; rfl

end Cert.KernelIdeal.Bwd

end
-- ==== Proof.BwdFrame.lean ====
/-
  The backward kernel at any floating-point interpretation: what each grid point leaves in its three result blocks and in
  the two scratch buffers it carries along a head's key tiles, the triple of a point, and the launch.
-/
module

public import proofs.«01_k».proof.Proof.BwdRun
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Bwd

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) : Fin cfg0.N := ⟨n % 128, by rw [show cfg0.N = 128 from N_0]; exact Nat.mod_lt _ (by decide)⟩

theorem pt_val (t : Fin cfg0.N) : pt t.val = t :=
  Fin.ext (Nat.mod_eq_of_lt (lt_of_lt_of_eq t.isLt N_0))

/-- A point's scratch (the row sums, the rows' logarithms) and its accumulators. -/
abbrev St (F : FTy → Type) : Type := Vec F S4096x128 .f32 × Vec F S4096x128 .f32 × Acc F

/-- A head's first point, which fills the scratch and clears the query gradient's block. -/
def opening (c : Dev nD) (t : Fin cfg0.N) : St F :=
  (k0_pay18 (iblk m c 3 t) (iblk m c 4 t), k0_pay19 (iblk m c 5 t),
    body (grid0.coords t) (iblk m c 0 t) (iblk m c 1 t) (iblk m c 2 t) (iblk m c 3 t)
      (k0_pay18 (iblk m c 3 t) (iblk m c 4 t)) (k0_pay19 (iblk m c 5 t)) k0_pay17)

/-- A later point, which adds to what the point before left. -/
def going (c : Dev nD) (t : Fin cfg0.N) (s : St F) : St F :=
  (s.1, s.2.1, body (grid0.coords t) (iblk m c 0 t) (iblk m c 1 t) (iblk m c 2 t) (iblk m c 3 t) s.1 s.2.1 s.2.2.1)

/-- What point `n` leaves. -/
def state (c : Dev nD) : ℕ → St F
  | 0 => opening m c (pt 0)
  | n + 1 => if (n + 1) % 8 = 0 then opening m c (pt (n + 1)) else going m c (pt (n + 1)) (state c n)

theorem state_opening (c : Dev nD) (t : Fin cfg0.N) (h : t.val % 8 = 0) : state m c t.val = opening m c t := by
  have e := pt_val t
  generalize t.val = n at h e
  subst e
  cases n with
  | zero => rfl
  | succ n => rw [state, if_pos h]

theorem state_going (c : Dev nD) (t : Fin cfg0.N) (h : ¬ t.val % 8 = 0) : state m c t.val = going m c t (state m c (t.val - 1)) := by
  have e := pt_val t
  generalize t.val = n at h e
  subst e
  cases n with
  | zero => exact absurd rfl h
  | succ n => rw [state, if_neg h]; rfl

abbrev stg0 (t : Fin cfg0.N) : Memref sig .tc .vmem S4096x128 .bf16 := win0_0.stage (cfg0.slots t 0)
abbrev stg1 (t : Fin cfg0.N) : Memref sig .tc .vmem S512x128 .bf16 := win0_1.stage (cfg0.slots t 1)
abbrev stg2 (t : Fin cfg0.N) : Memref sig .tc .vmem S512x128 .bf16 := win0_2.stage (cfg0.slots t 2)
abbrev stg3 (t : Fin cfg0.N) : Memref sig .tc .vmem S4096x128 .bf16 := win0_3.stage (cfg0.slots t 3)
abbrev stg4 (t : Fin cfg0.N) : Memref sig .tc .vmem S4096x128 .f32 := win0_4.stage (cfg0.slots t 4)
abbrev stg5 (t : Fin cfg0.N) : Memref sig .tc .vmem S1x4096x1 .f32 := win0_5.stage (cfg0.slots t 5)
abbrev stg6 (t : Fin cfg0.N) : Memref sig .tc .vmem S4096x128 .f32 := win0_6.stage (cfg0.slots t 6)
abbrev stg7 (t : Fin cfg0.N) : Memref sig .tc .vmem S512x128 .f32 := win0_7.stage (cfg0.slots t 7)
abbrev stg8 (t : Fin cfg0.N) : Memref sig .tc .vmem S512x128 .f32 := win0_8.stage (cfg0.slots t 8)

/-- The four scratch buffers. -/
abbrev scr0 : Memref sig .tc .vmem S4096x128 .f32 := Memref.whole cc0_scratch0
abbrev scr1 : Memref sig .tc .vmem S4096x128 .f32 := Memref.whole cc0_scratch1
abbrev scr2 : Memref sig .tc .vmem S512x128 .f32 := Memref.whole cc0_scratch2
abbrev scr3 : Memref sig .tc .vmem S512x128 .f32 := Memref.whole cc0_scratch3

theorem PhiA_scr (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The scratch after point `n`: the carried buffers at the point's vectors, the others at anything. -/
def held (c : Dev nD) (n : ℕ) : sProp 𝕄 :=
  iprop(iprop(owns (c : Thread nD τ) scr0 fullShare (state m c n).1 ∗ owns (c : Thread nD τ) scr1 fullShare (state m c n).2.1
      ∗ (∃ d, owns (c : Thread nD τ) scr2 fullShare d) ∗ (∃ d, owns (c : Thread nD τ) scr3 fullShare d)) ∗ (∃ r, prngReg c r))

/-- The invariant before position `n`. -/
def Inv (c : Dev nD) : (n : ℕ) → n ≤ cfg0.N → sProp 𝕄
  | 0, _ => Pipeline.ΦA spec0 c
  | n + 1, _ => held m c n

theorem held_any (c : Dev nD) (n : ℕ) : held m c n ⊢ (Pipeline.ΦA spec0 c : sProp 𝕄) := by
  rw [PhiA_scr]; unfold held
  iintro ⟨⟨H0, H1, H2, H3⟩, Hg⟩
  isplitl [H0 H1 H2 H3]
  · isplitl [H0]; · iexists _; iexact H0
    isplitl [H1]; · iexists _; iexact H1
    isplitl [H2]; · iexact H2
    iexact H3
  iexact Hg

theorem Inv_any (c : Dev nD) (n : ℕ) (h : n ≤ cfg0.N) : Inv m c n h ⊢ (Pipeline.ΦA spec0 c : sProp 𝕄) := by
  cases n with
  | zero => exact .rfl
  | succ n => exact held_any m c n

theorem Inv_pos (c : Dev nD) (n : ℕ) (h : n ≤ cfg0.N) (hn : n ≠ 0) : Inv m c n h = held m c (n - 1) := by
  cases n with
  | zero => exact absurd rfl hn
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (state m c t.val).2.2.1
    | ⟨7, _⟩ => (state m c t.val).2.2.2.1
    | ⟨8, _⟩ => (state m c t.val).2.2.2.2
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (state m c t.val).2.2.1 := by dsimp only [dats]
theorem after_7 (c : Dev nD) (t : Fin cfg0.N) : (dats m 0 c).after 7 t = (state m c t.val).2.2.2.1 := by dsimp only [dats]
theorem after_8 (c : Dev nD) (t : Fin cfg0.N) : (dats m 0 c).after 8 t = (state m c t.val).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Within a head the query gradient's block is what the point before left. -/
theorem before_6 (c : Dev nD) (t : Fin cfg0.N) (h : ¬ t.val % 8 = 0) (d) :
    (dats m 0 c).before 6 t d = (state m c (t.val - 1)).2.2.1 := by
  have ht : t.val ≠ 0 := by omega
  rw [Dat.before_of_pos _ 6 t ht rfl d]
  have hf : (cfg0.win 6).flush ⟨t.val - 1, lt_of_le_of_lt (Nat.sub_le _ _) t.isLt⟩ = false := by
    rw [Bool.eq_false_iff]; intro hh
    have := (flush0_6 ⟨t.val - 1, lt_of_le_of_lt (Nat.sub_le _ _) t.isLt⟩).mp hh
    dsimp only at this; omega
  rw [if_neg (by rw [hf]; decide)]
  exact after_6 m c ⟨t.val - 1, lt_of_le_of_lt (Nat.sub_le _ _) t.isLt⟩

theorem Inv_start (c : Dev nD) (t : Fin cfg0.N) : (dats m 0 c).Φ t.castSucc = Inv m c t.val (Nat.le_of_lt t.isLt) := by
  dsimp only [dats]; exact Pipeline.Dat.Φ_castSucc (Inv m c) t

theorem Inv_end (c : Dev nD) (t : Fin cfg0.N) : (dats m 0 c).Φ t.succ = held m c t.val := by
  dsimp only [dats]; rfl

/-- The first point of a head is where its number along the head is zero. -/
theorem first_iff : ∀ t : Fin cfg0.N, (Scalar.cmpi .ne (Scalar.extui (Scalar.cmpi .eq (BitVec.ofNat 32 (grid0.coords t 1).val) 0#32) : BitVec 32) 0#32 = 1#1) ↔ t.val % 8 = 0 := by
  decide +kernel

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t))

/-- A head's first point. -/
theorem sound_opening (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [Inv_start, Inv_end, show (dats m 0 c).owesAt () t.succ = (dats m 0 c).owesAt () t.castSucc from rfl,
    after_0, after_1, after_2, after_3, after_4, after_5, after_6, after_7, after_8]
  unfold held
  rw [state_opening m c t h]; unfold opening; dsimp only
  refine (sep_mono_left (Inv_any m c t.val _)).trans ?_
  rw [PhiA_scr]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) _ _ _ _ _ _ _ _ _ _ _ _ _ _ _ _ _ _ _ _ _ _ _ _ _ _ ((first_iff t).mpr h) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A later point of a head. -/
theorem sound_going (c : Dev nD) (t : Fin cfg0.N) (h : ¬ t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6 m c t h]
  rw [Inv_start, Inv_end, show (dats m 0 c).owesAt () t.succ = (dats m 0 c).owesAt () t.castSucc from rfl,
    after_0, after_1, after_2, after_3, after_4, after_5, after_6, after_7, after_8, Inv_pos m c t.val _ (by omega)]
  unfold held
  rw [state_going m c t h]; unfold going; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runB c (grid0.coords t) _ _ _ _ _ _ _ _ _ _ _ _ _ _ _ _ _ _ _ _ _ _ _ _ _ _ (fun hh => h ((first_iff t).mp hh)) (iblk m c 0 t) (iblk m c 1 t) (iblk m c 2 t) (iblk m c 3 t) (iblk m c 4 t) (iblk m c 5 t)
    (state m c (t.val - 1)).2.2.1 (state m c (t.val - 1)).1 (state m c (t.val - 1)).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h : t.val % 8 = 0
  · exact sound_opening m c t h
  · exact sound_going m c t h

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem Inv_first (c : Dev nD) : (Pipeline.ΦA spec0 c : sProp 𝕄) ⊢ (dats m 0 c).Φ 0 := by
  dsimp only [dats]; exact .rfl

theorem Inv_last (c : Dev nD) : (dats m 0 c).Φ (Fin.last cfg0.N) ⊢ (Pipeline.ΦA spec0 c : sProp 𝕄) := by
  dsimp only [dats]; exact Inv_any m c _ _

set_option backward.isDefEq.respectTransparency.types false in
/-- The launch, with every counter of the machine at zero at the end. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := Inv_first m) (hout := Inv_last m)

/-- The run without the counters. -/
theorem ran : θ_run defs (onTc (τ := τ) (main (F := F))) (s₀ m ρ) (Pipeline.FramePost cfgs (dats m) 0 (V m)) :=
  (θ_run defs _ _).mono (fun _ h => h.1) (launched m ρ)

/-- The argument arrays end as they began, and every counter is at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (ran m ρ)) ((θ_run defs _ _).mono (fun _ h => h.2) (launched m ρ))

end Cert.KernelIdeal.Bwd

end
-- ==== Proof.AttnBack.lean ====
/-
  The gradients of one attention head over the reals: what each pair of a query row and a key row contributes, and the
  sums over tiles of 512 rows.
-/
module

public import proofs.«01_k».proof.Proof.AttnMath

@[expose] public section

noncomputable section

open Idealize.ShloMosaic

namespace Attn

variable (Q K V G : ℕ → ℕ → ℝ) (L D : ℕ → ℝ)

/-- The weight of key row `c` in query row `r`, from the row's log-sum-exp `L r`; 0 where the mask hides the key. -/
def W (r c : ℕ) : ℝ := if ok r c then Real.exp (S Q K r c - L r) else 0

/-- The weight's gradient: the row's cotangent against the key row's values. -/
def DP (r c : ℕ) : ℝ := ∑ l ∈ Finset.range 128, G r l * V c l

/-- The gradient of the unscaled score, from the row's sum `D r`. -/
def DS (r c : ℕ) : ℝ := W Q K L r c * (DP V G r c - D r) * scale

/-- The three gradients, summed over the first `n` tiles. -/
def DQ (n r d : ℕ) : ℝ := ∑ c ∈ Finset.range (n * 512), DS Q K V G L D r c * K c d
def DK (n c d : ℕ) : ℝ := ∑ r ∈ Finset.range (n * 512), DS Q K V G L D r c * Q r d
def DV (n c d : ℕ) : ℝ := ∑ r ∈ Finset.range (n * 512), W Q K L r c * G r d

theorem DQ_succ (n r d : ℕ) : DQ Q K V G L D (n + 1) r d
    = DQ Q K V G L D n r d + ∑ c : Fin 512, DS Q K V G L D r (n * 512 + c) * K (n * 512 + c) d := sum_tile n _
theorem DK_succ (n c d : ℕ) : DK Q K V G L D (n + 1) c d
    = DK Q K V G L D n c d + ∑ r : Fin 512, DS Q K V G L D (n * 512 + r) c * Q (n * 512 + r) d := sum_tile n _
theorem DV_succ (n c d : ℕ) : DV Q K G L (n + 1) c d
    = DV Q K G L n c d + ∑ r : Fin 512, W Q K L (n * 512 + r) c * G (n * 512 + r) d := sum_tile n _

theorem W_hidden {r c : ℕ} (h : ¬ ok r c) : W Q K L r c = 0 := if_neg h

theorem DS_hidden {r c : ℕ} (h : ¬ ok r c) : DS Q K V G L D r c = 0 := by
  unfold DS
  rw [W_hidden Q K L h, zero_mul, zero_mul]

theorem not_ok {r c : ℕ} (h : r / 512 < c / 512) : ¬ ok r c := by
  unfold ok
  omega

/-- A tile of query rows before the key's gives its key and value gradients nothing. -/
theorem DK_before {n c d : ℕ} (h : n ≤ c / 512) : DK Q K V G L D n c d = 0 :=
  Finset.sum_eq_zero fun r hr => by
    have := Finset.mem_range.mp hr
    rw [DS_hidden Q K V G L D (not_ok (by omega)), zero_mul]

theorem DV_before {n c d : ℕ} (h : n ≤ c / 512) : DV Q K G L n c d = 0 :=
  Finset.sum_eq_zero fun r hr => by
    have := Finset.mem_range.mp hr
    rw [W_hidden Q K L (not_ok (by omega)), zero_mul]

/-- A tile of key rows after the query's gives its gradient nothing. -/
theorem DQ_after {n r d : ℕ} (h : r / 512 < n) : DQ Q K V G L D (n + 1) r d = DQ Q K V G L D n r d := by
  rw [DQ_succ, Finset.sum_eq_zero, add_zero]
  intro c _
  rw [DS_hidden Q K V G L D (not_ok (by have := c.2; omega)), zero_mul]

end Attn

end
-- ==== Proof.BwdPay.lean ====
/-
  What the backward kernel's vector expressions are at an index, over the extended reals, when the tiles they read hold
  real numbers.
-/
module

public import proofs.«01_k».proof.Proof.BwdRun
public import proofs.«01_k».proof.Proof.AttnBack
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Bwd

open Cert.KernelIdeal Cert.KernelIdeal.Gen

/-! ## The expressions at an index -/

theorem cast_self (x : FVec Ideal S512x128 .bf16) : shapeCast S512x128 x shapeCasts_S512x128_S512x128 = x := by
  funext j
  obtain ⟨r, w, rfl⟩ : ∃ (r : Fin 512) (w : Fin 128), j = ix2 r w := ⟨j 0, j 1, by funext a; fin_cases a <;> rfl⟩
  pointwise

theorem score_at (q k : FVec Ideal S512x128 .bf16) (r c : Fin 512) :
    k0_pay26 (F := Ideal) k q (ix2 r c) = (∑ l : Fin 128, q (ix2 r l) * k (ix2 c l)) * (Attn.scale : EReal) := by
  rw [← Attn.scale_eq]
  pointwise! [k0_pay26, k0_pay24, k0_pay22]

/-- The tile's weights: four strips of 128 lanes, the same row vector taken from each. -/
def weights (x : FVec Ideal S512x512 .f32) (l : FVec Ideal S512x128 .f32) : FVec Ideal S512x512 .f32 :=
  concatenate S512x512 1
    [⟨S512x128, exp (subf (extractStridedSlice S512x128 ![0, 0] x slices_S512x512_o0_0_S512x128) l)⟩,
     ⟨S512x128, exp (subf (extractStridedSlice S512x128 ![0, 128] x slices_S512x512_o0_128_S512x128) l)⟩,
     ⟨S512x128, exp (subf (extractStridedSlice S512x128 ![0, 256] x slices_S512x512_o0_256_S512x128) l)⟩,
     ⟨S512x128, exp (subf (extractStridedSlice S512x128 ![0, 384] x slices_S512x512_o0_384_S512x128) l)⟩]
    concatenates_S512x128_S512x128_S512x128_S512x128_S512x512_d1

theorem weights_at (x : FVec Ideal S512x512 .f32) (l : FVec Ideal S512x128 .f32) (r c : Fin 512) :
    ∃ z : Fin 128, weights x l (ix2 r c) = Ideal.exp (x (ix2 r c) - l (ix2 r z)) := by
  unfold weights
  pointwise
  have e : ∀ (a b : Fin 512), a.1 = b.1 → x (ix2 r a) = x (ix2 r b) := fun a b h => by rw [Fin.ext h]
  by_cases h1 : c.1 < 128
  · rw [dif_pos h1]
    exact ⟨_, rfl⟩
  rw [dif_neg h1]
  by_cases h2 : c.1 - 128 < 128
  · rw [dif_pos h2]
    exact ⟨_, by rw [e _ c (by simp only; omega)]⟩
  rw [dif_neg h2]
  by_cases h3 : c.1 - 128 - 128 < 128
  · rw [dif_pos h3]
    exact ⟨_, by rw [e _ c (by simp only; omega)]⟩
  rw [dif_neg h3]
  exact ⟨⟨c.1 - 128 - 128 - 128, by have := c.2; omega⟩, by rw [e _ c (by simp only; have := c.2; omega)]⟩

theorem weights_below (q kk : FVec Ideal S512x128 .bf16) (l : FVec Ideal S512x128 .f32) : k0_pay3 (F := Ideal) kk q l = weights (k0_pay26 kk q) l := by
  have e : k0_pay3 (F := Ideal) (shapeCast S512x128 kk shapeCasts_S512x128_S512x128) q l = weights (k0_pay26 kk q) l := rfl
  rwa [cast_self] at e

theorem weights_diag (x : FVec Ideal S512x512 .f32) (b : IVec S512x512 1) (h : Ideal .f32) (l : FVec Ideal S512x128 .f32) :
    k0_pay31 (F := Ideal) x b h l = weights (select b x (broadcast S512x512 h)) l := rfl

/-- The scores' gradients from the weights `x` and the weights' gradients `y`. -/
def grads (x y : FVec Ideal S512x512 .f32) (d : FVec Ideal S512x128 .f32) : FVec Ideal S512x512 .f32 :=
  concatenate S512x512 1
    [⟨S512x128, mulf (mulf (extractStridedSlice S512x128 ![0, 0] x slices_S512x512_o0_0_S512x128) (subf (extractStridedSlice S512x128 ![0, 0] y slices_S512x512_o0_0_S512x128) d)) (broadcast S512x128 (Scalar.ofBits .f32 0x3DD105EC#32))⟩,
     ⟨S512x128, mulf (mulf (extractStridedSlice S512x128 ![0, 128] x slices_S512x512_o0_128_S512x128) (subf (extractStridedSlice S512x128 ![0, 128] y slices_S512x512_o0_128_S512x128) d)) (broadcast S512x128 (Scalar.ofBits .f32 0x3DD105EC#32))⟩,
     ⟨S512x128, mulf (mulf (extractStridedSlice S512x128 ![0, 256] x slices_S512x512_o0_256_S512x128) (subf (extractStridedSlice S512x128 ![0, 256] y slices_S512x512_o0_256_S512x128) d)) (broadcast S512x128 (Scalar.ofBits .f32 0x3DD105EC#32))⟩,
     ⟨S512x128, mulf (mulf (extractStridedSlice S512x128 ![0, 384] x slices_S512x512_o0_384_S512x128) (subf (extractStridedSlice S512x128 ![0, 384] y slices_S512x512_o0_384_S512x128) d)) (broadcast S512x128 (Scalar.ofBits .f32 0x3DD105EC#32))⟩]
    concatenates_S512x128_S512x128_S512x128_S512x128_S512x512_d1

theorem grads_at (x y : FVec Ideal S512x512 .f32) (d : FVec Ideal S512x128 .f32) (r c : Fin 512) :
    ∃ z : Fin 128, grads x y d (ix2 r c) = x (ix2 r c) * (y (ix2 r c) - d (ix2 r z)) * (Attn.scale : EReal) := by
  rw [← Attn.scale_eq]
  unfold grads
  pointwise
  have e : ∀ (a b : Fin 512), a.1 = b.1 → x (ix2 r a) = x (ix2 r b) := fun a b h => by rw [Fin.ext h]
  have e' : ∀ (a b : Fin 512), a.1 = b.1 → y (ix2 r a) = y (ix2 r b) := fun a b h => by rw [Fin.ext h]
  by_cases h1 : c.1 < 128
  · rw [dif_pos h1]
    exact ⟨_, rfl⟩
  rw [dif_neg h1]
  by_cases h2 : c.1 - 128 < 128
  · rw [dif_pos h2]
    exact ⟨_, by rw [e _ c (by simp only; omega), e' _ c (by simp only; omega)]⟩
  rw [dif_neg h2]
  by_cases h3 : c.1 - 128 - 128 < 128
  · rw [dif_pos h3]
    exact ⟨_, by rw [e _ c (by simp only; omega), e' _ c (by simp only; omega)]⟩
  rw [dif_neg h3]
  exact ⟨⟨c.1 - 128 - 128 - 128, by have := c.2; omega⟩, by rw [e _ c (by simp only; have := c.2; omega), e' _ c (by simp only; have := c.2; omega)]⟩

/-- The weights' gradients on a tile. -/
def dps (g v : FVec Ideal S512x128 .bf16) : FVec Ideal S512x512 .f32 :=
  matmul dot_S512x128_S512x128_S512x512_1_1_0_0_n_n none g v (constant (F := Ideal) S512x512 .f32 0x00000000#32)

theorem dps_at (g v : FVec Ideal S512x128 .bf16) (r c : Fin 512) : dps g v (ix2 r c) = ∑ l : Fin 128, g (ix2 r l) * v (ix2 c l) := by
  pointwise! [dps]

theorem grads_below (q g kk vv : FVec Ideal S512x128 .bf16) (l d : FVec Ideal S512x128 .f32) :
    k0_pay37 (F := Ideal) d (k0_pay4 vv g) (k0_pay5 kk vv q g l d) (k0_pay6 kk vv q g l d) (k0_pay7 kk vv q g l d) (k0_pay8 kk q l)
      = grads (k0_pay3 kk q l) (dps g vv) d := by
  have e : k0_pay37 (F := Ideal) d (k0_pay4 vv g) (k0_pay5 kk vv q g l d) (k0_pay6 kk vv q g l d) (k0_pay7 kk vv q g l d) (k0_pay8 kk q l)
      = grads (k0_pay3 kk q l) (dps (shapeCast S512x128 g shapeCasts_S512x128_S512x128) vv) d := rfl
  rw [e, cast_self]

theorem grads_diag (g v : FVec Ideal S512x128 .bf16) (x : FVec Ideal S512x512 .f32) (b : IVec S512x512 1) (h : Ideal .f32) (l d : FVec Ideal S512x128 .f32) :
    k0_pay32 (F := Ideal) v g x b h l d = grads (k0_pay31 x b h l) (dps g v) d := rfl

/-! ## The mask on the diagonal tile -/

theorem sge_small : ∀ a b : Fin 8, IntOp.cmpi CmpIPredicate.sge (BitVec.ofNat 32 a.1) (BitVec.ofNat 32 b.1) = if b ≤ a then 1#1 else 0#1 := by
  decide +kernel

theorem keep_at {α : Type} (r c : Fin 512) (x y : α) :
    Scalar.select (IntOp.cmpi CmpIPredicate.sge (BitVec.ofNat 32 (r.1 / 64)) (BitVec.ofNat 32 (c.1 / 64))) x y = if c.1 / 64 ≤ r.1 / 64 then x else y := by
  have h := sge_small ⟨r.1 / 64, by omega⟩ ⟨c.1 / 64, by omega⟩
  simp only [Fin.mk_le_mk] at h
  rw [h]
  split_ifs <;> rfl

theorem mask_eq : hidden (F := Ideal) = (⊥ : EReal) :=
  IdealRules.named_const.ideal_named_scalar _ _ _ _ rfl

theorem below_at (r c : Fin 512) : below (ix2 r c) = IntOp.cmpi CmpIPredicate.sge (BitVec.ofNat 32 (r.1 / 64)) (BitVec.ofNat 32 (c.1 / 64)) := by
  unfold below
  pointwise [k0_pay30, k0_pay27, k0_pay28, k0_pay29]
  refine congrArg₂ (IntOp.cmpi CmpIPredicate.sge) ?_ ?_
  · clear c
    revert r
    decide +kernel
  · clear r
    revert c
    decide +kernel

theorem masked_at (x : FVec Ideal S512x512 .f32) (r c : Fin 512) :
    select below x (broadcast S512x512 (hidden (F := Ideal))) (ix2 r c) = if (c : ℕ) / 64 ≤ r / 64 then x (ix2 r c) else ⊥ := by
  pointwise
  rw [below_at, keep_at, mask_eq]

/-! ## The products -/

theorem nn_at (p : FVec Ideal S512x512 .bf16) (k : FVec Ideal S512x128 .bf16) (a : FVec Ideal S512x128 .f32) (r : Fin 512) (d : Fin 128) :
    k0_pay36 (F := Ideal) k p a (ix2 r d) = a (ix2 r d) + ∑ c : Fin 512, p (ix2 r c) * k (ix2 c d) := by
  pointwise! [k0_pay36]

theorem tn_at (p : FVec Ideal S512x512 .bf16) (q : FVec Ideal S512x128 .bf16) (a : FVec Ideal S512x128 .f32) (c : Fin 512) (d : Fin 128) :
    k0_pay35 (F := Ideal) q p a (ix2 c d) = a (ix2 c d) + ∑ r : Fin 512, p (ix2 r c) * q (ix2 r d) := by
  pointwise! [k0_pay35]

theorem dq_below (kk : FVec Ideal S512x128 .bf16) (d a : FVec Ideal S512x128 .f32) (x0 : FVec Ideal S512x512 .f32) (x1 x2 x3 x4 : FVec Ideal S512x128 .f32) :
    k0_pay40 (F := Ideal) kk d x0 x1 x2 x3 x4 a = k0_pay36 kk (k0_pay37 d x0 x1 x2 x3 x4) a := rfl

theorem dk_below (q : FVec Ideal S512x128 .bf16) (d a : FVec Ideal S512x128 .f32) (x0 : FVec Ideal S512x512 .f32) (x1 x2 x3 x4 : FVec Ideal S512x128 .f32) :
    k0_pay39 (F := Ideal) q d x0 x1 x2 x3 x4 a = k0_pay35 q (k0_pay37 d x0 x1 x2 x3 x4) a := rfl

theorem dv_below (g : FVec Ideal S512x128 .bf16) (p : FVec Ideal S512x512 .f32) (a : FVec Ideal S512x128 .f32) :
    k0_pay38 (F := Ideal) g p a = k0_pay35 g (truncf .bf16 p bitsLt_bf16_f32) a := rfl

theorem dv_diag (g : FVec Ideal S512x128 .bf16) (x : FVec Ideal S512x512 .f32) (b : IVec S512x512 1) (h : Ideal .f32) (l a : FVec Ideal S512x128 .f32) :
    k0_pay34 (k0_pay33 (F := Ideal) g x b h l a) = k0_pay35 g (truncf .bf16 (k0_pay31 x b h l) bitsLt_bf16_f32) a := rfl

/-! ## The rows' sums -/

theorem sums_at (g : FVec Ideal S4096x128 .bf16) (o : FVec Ideal S4096x128 .f32) (r : Fin 4096) (z : Fin 128) :
    k0_pay18 (F := Ideal) g o (ix2 r z) = ∑ l : Fin 128, g (ix2 r l) * o (ix2 r l) := by
  pointwise! [k0_pay18]

theorem logs_at (l : FVec Ideal S1x4096x1 .f32) (r : Fin 4096) (z : Fin 128) : k0_pay19 (F := Ideal) l (ix2 r z) = l (ix3 0 r 0) := by
  pointwise! [k0_pay19]

theorem zero17_at (r : Fin 4096) (z : Fin 128) : k0_pay17 (F := Ideal) (ix2 r z) = 0 := by
  pointwise! [k0_pay17]

theorem zero20_at (r : Fin 512) (z : Fin 128) : k0_pay20 (F := Ideal) (ix2 r z) = 0 := by
  pointwise! [k0_pay20]

theorem zero21_at (r : Fin 512) (z : Fin 128) : k0_pay21 (F := Ideal) (ix2 r z) = 0 := by
  pointwise! [k0_pay21]

end Cert.KernelIdeal.Bwd

end
-- ==== Proof.BwdTile.lean ====
/-
  One point of the backward kernel's grid over the extended reals: the tile of keys against the tiles of query rows from
  its own on.
-/
module

public import proofs.«01_k».proof.Proof.BwdPay

@[expose] public section

set_option maxRecDepth 16384

noncomputable section

open Idealize.ShloMosaic Idealize.ShloMosaic.TcCoe Idealize.SL.Sem

namespace Cert.KernelIdeal.Bwd

open Cert.KernelIdeal Cert.KernelIdeal.Gen

/-- Tile `i` of 512 rows holds the real numbers `f`. -/
def Tile (x : S512x128.Idx → EReal) (i : ℕ) (f : ℕ → ℕ → ℝ) : Prop :=
  ∀ (r : Fin 512) (l : Fin 128), x (ix2 r l) = ((f (i * 512 + r.1) l.1 : ℝ) : EReal)

/-- A block of 4096 rows holds the real numbers `f`. -/
def Block (x : S4096x128.Idx → EReal) (f : ℕ → ℕ → ℝ) : Prop :=
  ∀ (r : Fin 4096) (l : Fin 128), x (ix2 r l) = ((f r.1 l.1 : ℝ) : EReal)

/-- Tile `(i, j)` of the pairs of query and key rows holds the real numbers `f`. -/
def Square (x : S512x512.Idx → EReal) (i j : ℕ) (f : ℕ → ℕ → ℝ) : Prop :=
  ∀ r c : Fin 512, x (ix2 r c) = ((f (i * 512 + r.1) (j * 512 + c.1) : ℝ) : EReal)

/-- The sum of products of real numbers is the sum of the reals. -/
theorem sum_mul_coe {n : ℕ} (x y : Fin n → EReal) (f g : Fin n → ℝ) (hx : ∀ l, x l = ((f l : ℝ) : EReal)) (hy : ∀ l, y l = ((g l : ℝ) : EReal)) :
    ∑ l, x l * y l = ((∑ l, f l * g l : ℝ) : EReal) := by
  rw [Attn.coe_sum]
  exact Finset.sum_congr rfl fun l _ => by rw [hx, hy, EReal.coe_mul]

variable {Q K V G O : ℕ → ℕ → ℝ} {L D : ℕ → ℝ} {i j : ℕ}

theorem square_score {q k : FVec Ideal S512x128 .bf16} (hq : Tile q i Q) (hk : Tile k j K) : Square (k0_pay26 (F := Ideal) k q) i j (Attn.S Q K) := by
  intro r c
  rw [score_at, sum_mul_coe _ _ _ _ (hq r) (hk c), ← EReal.coe_mul, Fin.sum_univ_eq_sum_range (fun l => Q (i * 512 + r.1) l * K (j * 512 + c.1) l) 128]
  rfl

theorem square_dp {g v : FVec Ideal S512x128 .bf16} (hg : Tile g i G) (hv : Tile v j V) : Square (dps g v) i j (Attn.DP V G) := by
  intro r c
  rw [dps_at, sum_mul_coe _ _ _ _ (hg r) (hv c), Fin.sum_univ_eq_sum_range (fun l => G (i * 512 + r.1) l * V (j * 512 + c.1) l) 128]
  rfl

/-- The weights on a tile before the diagonal. -/
theorem square_below (h : j < i) {q k : FVec Ideal S512x128 .bf16} {l : FVec Ideal S512x128 .f32} (hq : Tile q i Q) (hk : Tile k j K) (hl : Tile l i fun r _ => L r) :
    Square (k0_pay3 (F := Ideal) k q l) i j (Attn.W Q K L) := by
  intro r c
  rw [weights_below]
  obtain ⟨z, hz⟩ := weights_at (k0_pay26 (F := Ideal) k q) l r c
  have hok : Attn.ok (i * 512 + r.1) (j * 512 + c.1) := by
    unfold Attn.ok
    have := c.2
    omega
  rw [hz, square_score hq hk, hl, ← EReal.coe_sub, Attn.exp_coe, Attn.W, if_pos hok]

/-- The weights on the diagonal tile. -/
theorem square_diag {q k : FVec Ideal S512x128 .bf16} {l : FVec Ideal S512x128 .f32} (hq : Tile q i Q) (hk : Tile k i K) (hl : Tile l i fun r _ => L r) :
    Square (k0_pay31 (F := Ideal) (k0_pay26 k q) below hidden l) i i (Attn.W Q K L) := by
  intro r c
  rw [weights_diag]
  obtain ⟨z, hz⟩ := weights_at (select below (k0_pay26 (F := Ideal) k q) (broadcast S512x512 (hidden (F := Ideal)))) l r c
  have hok : Attn.ok (i * 512 + r.1) (i * 512 + c.1) ↔ c.1 / 64 ≤ r.1 / 64 := by
    unfold Attn.ok
    omega
  rw [hz, masked_at, hl, Attn.W]
  by_cases h : c.1 / 64 ≤ r.1 / 64
  · rw [if_pos h, if_pos (hok.mpr h), square_score hq hk, ← EReal.coe_sub, Attn.exp_coe]
  · rw [if_neg h, if_neg (fun x => h (hok.mp x)), EReal.bot_sub, Attn.exp_bot]
    rfl

theorem square_ds {x y : FVec Ideal S512x512 .f32} {d : FVec Ideal S512x128 .f32} (hx : Square x i j (Attn.W Q K L)) (hy : Square y i j (Attn.DP V G))
    (hd : Tile d i fun r _ => D r) : Square (grads x y d) i j (Attn.DS Q K V G L D) := by
  intro r c
  obtain ⟨z, hz⟩ := grads_at x y d r c
  rw [hz, hx, hy, hd, ← EReal.coe_sub, ← EReal.coe_mul, ← EReal.coe_mul]
  rfl

/-- A product summed over the query rows. -/
theorem tile_tn {p : FVec Ideal S512x512 .bf16} {q : FVec Ideal S512x128 .bf16} {a : FVec Ideal S512x128 .f32} {f A B : ℕ → ℕ → ℝ}
    (hp : Square p i j f) (hq : Tile q i Q) (ha : Tile a j A)
    (hB : ∀ c d, B c d = A c d + ∑ r : Fin 512, f (i * 512 + r.1) c * Q (i * 512 + r.1) d) : Tile (k0_pay35 (F := Ideal) q p a) j B := by
  intro c d
  rw [tn_at, ha, sum_mul_coe _ _ _ _ (fun r => hp r c) (fun r => hq r d), ← EReal.coe_add, hB]

/-- A product summed over the key rows. -/
theorem tile_nn {p : FVec Ideal S512x512 .bf16} {k : FVec Ideal S512x128 .bf16} {a : FVec Ideal S512x128 .f32} {f A B : ℕ → ℕ → ℝ}
    (hp : Square p i j f) (hk : Tile k j K) (ha : Tile a i A)
    (hB : ∀ r d, B r d = A r d + ∑ c : Fin 512, f r (j * 512 + c.1) * K (j * 512 + c.1) d) : Tile (k0_pay36 (F := Ideal) k p a) i B := by
  intro r d
  rw [nn_at, ha, sum_mul_coe _ _ _ _ (fun c => hp r c) (fun c => hk c d), ← EReal.coe_add, hB]

theorem square_truncf {x : FVec Ideal S512x512 .f32} {f : ℕ → ℕ → ℝ} (h : Square x i j f) : Square (truncf .bf16 x bitsLt_bf16_f32) i j f := h

/-! ## The rows of a tile -/

theorem off1 (t : Fin cfg0.N) : k0_off1 (grid0.coords t) = ![t.1 % 8 * 512, 0] :=
  (by decide +kernel : ∀ t : Fin grid0.N, k0_off1 (grid0.coords t) = ![t.1 % 8 * 512, 0]) t

theorem trips1 (t : Fin cfg0.N) : (k0_t1_loop (grid0.coords t)).trips = 7 - t.1 % 8 :=
  (by decide +kernel : ∀ t : Fin grid0.N, (k0_t1_loop (grid0.coords t)).trips = 7 - t.1 % 8) t

theorem off2 (t : Fin cfg0.N) (k : Fin (k0_t1_loop (grid0.coords t)).trips) : k0_off2 (grid0.coords t) k = ![(t.1 % 8 + 1 + k.1) * 512, 0] :=
  (by decide +kernel : ∀ (t : Fin grid0.N) (k : Fin (k0_t1_loop (grid0.coords t)).trips), k0_off2 (grid0.coords t) k = ![(t.1 % 8 + 1 + k.1) * 512, 0]) t k

theorem tile_window {x : S4096x128.Idx → EReal} {f : ℕ → ℕ → ℝ} (h : Block x f) {off : Fin 2 → ℕ} (hoff : off = ![i * 512, 0])
    (hin : ∀ a, off a + S512x128.size a ≤ S4096x128.size a) : Tile (VecWindow.window x off S512x128.size hin) i f := by
  subst hoff
  intro r l
  have hi : i * 512 + r.1 < 4096 := by
    have := hin 0
    change i * 512 + 512 ≤ 4096 at this
    omega
  refine Eq.trans (congrArg x (funext fun a => Fin.ext ?_)) (h ⟨i * 512 + r.1, hi⟩ l)
  fin_cases a
  · show i * 512 + 1 * r.1 = i * 512 + r.1
    omega
  · show 0 + 1 * l.1 = l.1
    omega

theorem block_put {x : S4096x128.Idx → EReal} {w : S512x128.Idx → EReal} {f g : ℕ → ℕ → ℝ} (h : Block x f) (hw : Tile w i g)
    {off : Fin 2 → ℕ} (hoff : off = ![i * 512, 0]) :
    Block (VecWindow.put x off S512x128.size w) (fun r d => if r / 512 = i then g r d else f r d) := by
  subst hoff
  intro r l
  show (if hh : ∀ a, ![i * 512, 0] a ≤ ((ix2 r l : S4096x128.Idx) a).val ∧ ((ix2 r l : S4096x128.Idx) a).val < ![i * 512, 0] a + S512x128.size a
    then w (Rect.unitLocal (s := S4096x128) (off := ![i * 512, 0]) (size := S512x128.size) (ix2 r l) hh) else x (ix2 r l)) = _
  by_cases hr : r.1 / 512 = i
  · have hm : ∀ a, ![i * 512, 0] a ≤ ((ix2 r l : S4096x128.Idx) a).val ∧ ((ix2 r l : S4096x128.Idx) a).val < ![i * 512, 0] a + S512x128.size a := by
      intro a
      fin_cases a
      · show i * 512 ≤ r.1 ∧ r.1 < i * 512 + 512
        omega
      · show 0 ≤ l.1 ∧ l.1 < 0 + 128
        omega
    rw [dif_pos hm]
    beta_reduce
    rw [if_pos hr]
    have e : Rect.unitLocal (s := S4096x128) (off := ![i * 512, 0]) (size := S512x128.size) (ix2 r l) hm = (ix2 (⟨r.1 - i * 512, by omega⟩ : Fin 512) l : S512x128.Idx) := by
      funext a
      fin_cases a <;> rfl
    rw [e, hw]
    show ((g (i * 512 + (r.1 - i * 512)) l.1 : ℝ) : EReal) = _
    rw [show i * 512 + (r.1 - i * 512) = r.1 from by omega]
  · have hm : ¬ ∀ a, ![i * 512, 0] a ≤ ((ix2 r l : S4096x128.Idx) a).val ∧ ((ix2 r l : S4096x128.Idx) a).val < ![i * 512, 0] a + S512x128.size a := by
      intro hall
      have h0 : i * 512 ≤ r.1 ∧ r.1 < i * 512 + 512 := hall 0
      omega
    rw [dif_neg hm]
    beta_reduce
    rw [if_neg hr]
    exact h r l

theorem Block.congr {x : S4096x128.Idx → EReal} {f g : ℕ → ℕ → ℝ} (h : Block x f) (e : ∀ r d, r < 4096 → f r d = g r d) : Block x g :=
  fun r l => by rw [h r l, e r.1 l.1 r.2]

theorem Tile.congr {x : S512x128.Idx → EReal} {f g : ℕ → ℕ → ℝ} (h : Tile x i f) (e : ∀ r d, r / 512 = i → f r d = g r d) : Tile x i g :=
  fun r l => by rw [h r l, e _ l.1 (by omega)]

/-! ## A point -/

/-- The blocks and tiles a point of key tile `j` reads. -/
structure Reads (Q K V G : ℕ → ℕ → ℝ) (L D : ℕ → ℝ) (j : ℕ) (x0 : FVec Ideal S4096x128 .bf16) (x1 x2 : FVec Ideal S512x128 .bf16)
    (x3 : FVec Ideal S4096x128 .bf16) (d l : FVec Ideal S4096x128 .f32) : Prop where
  q : Block x0 Q
  k : Tile x1 j K
  v : Tile x2 j V
  g : Block x3 G
  d : Block d fun r _ => D r
  l : Block l fun r _ => L r

/-- The accumulators of key tile `j` after the query tiles before `n`: the rows of those tiles have this key tile's part. -/
structure Mid (Q K V G : ℕ → ℕ → ℝ) (L D : ℕ → ℝ) (j n : ℕ) (a : Acc Ideal) : Prop where
  dq : Block a.1 fun r d => if r / 512 < n then Attn.DQ Q K V G L D (j + 1) r d else Attn.DQ Q K V G L D j r d
  dk : Tile a.2.1 j (Attn.DK Q K V G L D n)
  dv : Tile a.2.2 j (Attn.DV Q K G L n)

variable {x0 : FVec Ideal S4096x128 .bf16} {x1 x2 : FVec Ideal S512x128 .bf16} {x3 : FVec Ideal S4096x128 .bf16} {d l q : FVec Ideal S4096x128 .f32}

theorem self22 (x : FVec Ideal S512x128 .bf16) : k0_pay22 (F := Ideal) x = x := cast_self x
theorem self23 (x : FVec Ideal S512x128 .bf16) : k0_pay23 (F := Ideal) x = x := cast_self x
theorem self24 (x : FVec Ideal S512x128 .bf16) : k0_pay24 (F := Ideal) x = x := cast_self x
theorem self25 (x : FVec Ideal S512x128 .bf16) : k0_pay25 (F := Ideal) x = x := cast_self x
theorem self1 (x : FVec Ideal S512x128 .bf16) : k0_pay1 (F := Ideal) x = x := cast_self x
theorem self2 (x : FVec Ideal S512x128 .bf16) : k0_pay2 (F := Ideal) x = x := cast_self x

theorem mid_start (t : Fin cfg0.N) (R : Reads Q K V G L D (t.1 % 8) x0 x1 x2 x3 d l) (hq : Block q (Attn.DQ Q K V G L D (t.1 % 8))) :
    Mid Q K V G L D (t.1 % 8) (t.1 % 8 + 1) (start (grid0.coords t) x0 x1 x2 x3 d l q) := by
  have ho := off1 t
  generalize hj : t.1 % 8 = j at R hq ho
  have wq : Tile (rowsIn (grid0.coords t) x0) j Q := tile_window R.q ho _
  have wg : Tile (rowsIn (grid0.coords t) x3) j G := tile_window R.g ho _
  have wd : Tile (rowsIn (grid0.coords t) d) j fun r _ => D r := tile_window R.d ho _
  have wl : Tile (rowsIn (grid0.coords t) l) j fun r _ => L r := tile_window R.l ho _
  have wa : Tile (rowsIn (grid0.coords t) q) j (Attn.DQ Q K V G L D j) := tile_window hq ho _
  have hw := square_diag wq R.k wl
  have hs : Square (dsDiag (F := Ideal) (rowsIn (grid0.coords t) x0) (rowsIn (grid0.coords t) x3) x1 x2 (rowsIn (grid0.coords t) l) (rowsIn (grid0.coords t) d)) j j (Attn.DS Q K V G L D) := by
    unfold dsDiag
    rw [self23, self25, grads_diag]
    exact square_ds hw (square_dp wg R.v) wd
  unfold start
  rw [self22, self24, self25]
  refine ⟨?_, ?_, ?_⟩
  · refine (block_put hq (tile_nn (B := Attn.DQ Q K V G L D (j + 1)) hs R.k wa fun r e => Attn.DQ_succ Q K V G L D j r e) ho).congr fun r e _ => ?_
    by_cases h1 : r / 512 = j
    · rw [if_pos h1, if_pos (by omega)]
    · rw [if_neg h1]
      by_cases h2 : r / 512 < j + 1
      · rw [if_pos h2, Attn.DQ_after Q K V G L D (by omega)]
      · rw [if_neg h2]
  · have h0 : Tile (k0_pay20 (F := Ideal)) j (Attn.DK Q K V G L D j) := fun c e => by
      rw [zero20_at, Attn.DK_before Q K V G L D (by omega)]
      rfl
    exact tile_tn hs wq h0 fun c e => Attn.DK_succ Q K V G L D j c e
  · have h0 : Tile (k0_pay21 (F := Ideal)) j (Attn.DV Q K G L j) := fun c e => by
      rw [zero21_at, Attn.DV_before Q K G L (by omega)]
      rfl
    rw [dv_diag]
    exact tile_tn (square_truncf hw) wg h0 fun c e => Attn.DV_succ Q K G L j c e

theorem mid_trip (t : Fin cfg0.N) (R : Reads Q K V G L D (t.1 % 8) x0 x1 x2 x3 d l) (k : Fin (k0_t1_loop (grid0.coords t)).trips) (a : Acc Ideal)
    (h : Mid Q K V G L D (t.1 % 8) (t.1 % 8 + 1 + k.1) a) :
    Mid Q K V G L D (t.1 % 8) (t.1 % 8 + 1 + k.1 + 1) (trip (grid0.coords t) x0 x3 d l x1 x2 k a) := by
  have ho := off2 t k
  have hlt : t.1 % 8 < t.1 % 8 + 1 + k.1 := by omega
  generalize t.1 % 8 + 1 + k.1 = n at h ho hlt
  generalize t.1 % 8 = j at R h hlt
  obtain ⟨hq, hk, hv⟩ := h
  have wq : Tile (rowsAt (grid0.coords t) k x0) n Q := tile_window R.q ho _
  have wg : Tile (rowsAt (grid0.coords t) k x3) n G := tile_window R.g ho _
  have wd : Tile (rowsAt (grid0.coords t) k d) n fun r _ => D r := tile_window R.d ho _
  have wl : Tile (rowsAt (grid0.coords t) k l) n fun r _ => L r := tile_window R.l ho _
  have wa : Tile (rowsAt (grid0.coords t) k a.1) n (Attn.DQ Q K V G L D j) :=
    Tile.congr (tile_window hq ho _) fun r e hr => if_neg (by omega)
  have hw := square_below hlt wq R.k wl
  have hs := square_ds hw (square_dp wg R.v) wd
  unfold trip dqStep dkStep dvStep
  rw [dq_below, dk_below, dv_below, grads_below, self1, self2]
  refine ⟨?_, ?_, ?_⟩
  · refine (block_put hq (tile_nn (B := Attn.DQ Q K V G L D (j + 1)) hs R.k wa fun r e => Attn.DQ_succ Q K V G L D j r e) ho).congr fun r e _ => ?_
    by_cases h1 : r / 512 = n
    · rw [if_pos h1, if_pos (by omega)]
    · rw [if_neg h1]
      by_cases h2 : r / 512 < n
      · rw [if_pos h2, if_pos (by omega)]
      · rw [if_neg h2, if_neg (by omega)]
  · exact tile_tn hs wq hk fun c e => Attn.DK_succ Q K V G L D n c e
  · exact tile_tn (square_truncf hw) wg hv fun c e => Attn.DV_succ Q K G L n c e

theorem mid_trips (t : Fin cfg0.N) (R : Reads Q K V G L D (t.1 % 8) x0 x1 x2 x3 d l) (a : Acc Ideal) (h : Mid Q K V G L D (t.1 % 8) (t.1 % 8 + 1) a) :
    ∀ k, k ≤ (k0_t1_loop (grid0.coords t)).trips → Mid Q K V G L D (t.1 % 8) (t.1 % 8 + 1 + k) (trips (grid0.coords t) x0 x3 d l x1 x2 a k)
  | 0, _ => h
  | k + 1, hk => by
    rw [trips, dif_pos (show k < _ from hk)]
    exact mid_trip t R ⟨k, hk⟩ _ (mid_trips t R a h k (Nat.le_of_lt hk))

/-- What a point leaves: its key tile's part in all query rows, and its tile's key and value gradients. -/
theorem point (t : Fin cfg0.N) (R : Reads Q K V G L D (t.1 % 8) x0 x1 x2 x3 d l) (hq : Block q (Attn.DQ Q K V G L D (t.1 % 8))) :
    Block (body (F := Ideal) (grid0.coords t) x0 x1 x2 x3 d l q).1 (Attn.DQ Q K V G L D (t.1 % 8 + 1))
      ∧ Tile (body (F := Ideal) (grid0.coords t) x0 x1 x2 x3 d l q).2.1 (t.1 % 8) (Attn.DK Q K V G L D 8)
      ∧ Tile (body (F := Ideal) (grid0.coords t) x0 x1 x2 x3 d l q).2.2 (t.1 % 8) (Attn.DV Q K G L 8) := by
  have h := mid_trips t R _ (mid_start t R hq) _ le_rfl
  rw [show t.1 % 8 + 1 + (k0_t1_loop (grid0.coords t)).trips = 8 from by rw [trips1]; omega] at h
  unfold body
  rw [self22, self23]
  refine ⟨h.dq.congr fun r e hr => if_pos (by omega), h.dk, h.dv⟩

end Cert.KernelIdeal.Bwd

end
-- ==== Proof.BwdBlocks.lean ====
/-
  The arrays the backward kernel is handed, as real numbers, and what each point of its grid leaves.
-/
module

public import proofs.«01_k».proof.Proof.BwdFrame
public import proofs.«01_k».proof.Proof.BwdTile
public import proofs.«01_k».proof.Proof.FwdValue
public import proofs.«01_k».proof.Proof.RefFwd

@[expose] public section

set_option maxRecDepth 16384

noncomputable section

open Idealize.ShloMosaic Idealize.ShloMosaic.TcCoe Idealize.SL.Sem
open Idealize.ShloMosaic.Pipeline (Dat)

namespace Cert.KernelIdeal.Bwd

open Cert.KernelIdeal Cert.KernelIdeal.Gen
open Cert.FwdIdeal.Value (joined padded at64 at32 joined_at padded_at)
open Cert.FwdRefIdeal.Value (outRows lse)

variable (m : (ℓ : Loc nD τ sig) → Buf (Elt Ideal) ℓ)

theorem V_q (c : Dev nD) : V m c main_v3 = joined (m ((c : Thread nD τ).loc main_arg0)) (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_k (c : Dev nD) : V m c main_v7 = joined (m ((c : Thread nD τ).loc main_arg2)) (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v (c : Dev nD) : V m c main_v62 = padded (m ((c : Thread nD τ).loc main_arg4)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_g (c : Dev nD) : V m c main_v65 = padded (m ((c : Thread nD τ).loc main_arg5)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_o (c : Dev nD) : V m c main_v36 = outRows (m ((c : Thread nD τ).loc main_arg0)) (m ((c : Thread nD τ).loc main_arg1))
    (m ((c : Thread nD τ).loc main_arg2)) (m ((c : Thread nD τ).loc main_arg3)) (m ((c : Thread nD τ).loc main_arg4)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_l (c : Dev nD) : V m c main_v59 = lse (m ((c : Thread nD τ).loc main_arg0)) (m ((c : Thread nD τ).loc main_arg1))
    (m ((c : Thread nD τ).loc main_arg2)) (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

end Cert.KernelIdeal.Bwd

end
-- ==== Proof.BwdValue.lean ====
/-
  The backward kernel's three arrays over the extended reals: per head, what each point of the grid holds, and what the
  last of them leave.
-/
module

public import proofs.«01_k».proof.Proof.BwdBlocks

@[expose] public section

set_option maxRecDepth 16384

noncomputable section

open Idealize.ShloMosaic Idealize.ShloMosaic.TcCoe Idealize.SL.Sem
open Idealize.ShloMosaic.Pipeline (Dat)

namespace Cert.KernelIdeal.Bwd

open Cert.KernelIdeal Cert.KernelIdeal.Gen
open Cert.FwdIdeal.Value (joined padded at64 at32 joined_at padded_at)
open Cert.FwdRefIdeal.Value (outRows lse rows_eq lse_at)

variable (m : (ℓ : Loc nD τ sig) → Buf (Elt Ideal) ℓ)

/-- The block each window holds at a grid point: 16 heads, 8 tiles of key rows each. -/
theorem idx (t : Fin cfg0.N) : win0_0.index t = ![0, t.1 / 8] ∧ win0_1.index t = ![t.1 % 8, t.1 / 8] ∧ win0_2.index t = ![t.1 % 8, t.1 / 8]
    ∧ win0_3.index t = ![0, t.1 / 8] ∧ win0_4.index t = ![0, t.1 / 8] ∧ win0_5.index t = ![t.1 / 8, 0, 0]
    ∧ win0_6.index t = ![0, t.1 / 8] ∧ win0_7.index t = ![t.1 % 8, t.1 / 8] ∧ win0_8.index t = ![t.1 % 8, t.1 / 8] :=
  (by decide +kernel : ∀ t : Fin grid0.N, win0_0.index t = ![0, t.1 / 8] ∧ win0_1.index t = ![t.1 % 8, t.1 / 8] ∧ win0_2.index t = ![t.1 % 8, t.1 / 8]
    ∧ win0_3.index t = ![0, t.1 / 8] ∧ win0_4.index t = ![0, t.1 / 8] ∧ win0_5.index t = ![t.1 / 8, 0, 0]
    ∧ win0_6.index t = ![0, t.1 / 8] ∧ win0_7.index t = ![t.1 % 8, t.1 / 8] ∧ win0_8.index t = ![t.1 % 8, t.1 / 8]) t

/-- Every entry of the six arguments is a real number. -/
structure Fin6 (c : Dev nD) : Prop where
  a0 : Attn.AllReal (at64 (m ((c : Thread nD τ).loc main_arg0)))
  a1 : Attn.AllReal (at32 (m ((c : Thread nD τ).loc main_arg1)))
  a2 : Attn.AllReal (at64 (m ((c : Thread nD τ).loc main_arg2)))
  a3 : Attn.AllReal (at32 (m ((c : Thread nD τ).loc main_arg3)))
  a4 : Attn.AllReal (at64 (m ((c : Thread nD τ).loc main_arg4)))
  a5 : Attn.AllReal (at64 (m ((c : Thread nD τ).loc main_arg5)))

/-- Head `g`'s queries, keys, values and cotangents on device `c`; its rows' log-sum-exp and sums. -/
def hq (c : Dev nD) (g : ℕ) : ℕ → ℕ → ℝ := Attn.qk (at64 (m ((c : Thread nD τ).loc main_arg0))) (at32 (m ((c : Thread nD τ).loc main_arg1))) g
def hk (c : Dev nD) (g : ℕ) : ℕ → ℕ → ℝ := Attn.qk (at64 (m ((c : Thread nD τ).loc main_arg2))) (at32 (m ((c : Thread nD τ).loc main_arg3))) g
def hv (c : Dev nD) (g : ℕ) : ℕ → ℕ → ℝ := Attn.vz (at64 (m ((c : Thread nD τ).loc main_arg4))) g
def hg (c : Dev nD) (g : ℕ) : ℕ → ℕ → ℝ := Attn.vz (at64 (m ((c : Thread nD τ).loc main_arg5))) g
def hl (c : Dev nD) (g r : ℕ) : ℝ := Attn.LSE (hq m c g) (hk m c g) r
def hd (c : Dev nD) (g r : ℕ) : ℝ := ∑ l ∈ Finset.range 128, hg m c g r l * Attn.O (hq m c g) (hk m c g) (hv m c g) r l

variable {m} {c : Dev nD} (hfin : Fin6 m c) (t : Fin cfg0.N)
include hfin

theorem read_q : Block (iblk m c 0 t) (hq m c (t.1 / 8)) := fun r l => by
  have ht : t.1 < 128 := t.2
  refine Eq.trans ?_ (joined_at _ _ hfin.a0 hfin.a1 r ⟨t.1 / 8, by omega⟩ l)
  rw [← V_q]
  blk_ext [iblk, idx t]

theorem read_k : Tile (iblk m c 1 t) (t.1 % 8) (hk m c (t.1 / 8)) := fun r l => by
  have ht : t.1 < 128 := t.2
  refine Eq.trans ?_ (joined_at _ _ hfin.a2 hfin.a3 ⟨t.1 % 8 * 512 + r.1, by omega⟩ ⟨t.1 / 8, by omega⟩ l)
  rw [← V_k]
  blk_ext [iblk, idx t]

theorem read_v : Tile (iblk m c 2 t) (t.1 % 8) (hv m c (t.1 / 8)) := fun r l => by
  have ht : t.1 < 128 := t.2
  refine Eq.trans ?_ (padded_at _ hfin.a4 ⟨t.1 % 8 * 512 + r.1, by omega⟩ ⟨t.1 / 8, by omega⟩ l)
  rw [← V_v]
  blk_ext [iblk, idx t]

theorem read_g : Block (iblk m c 3 t) (hg m c (t.1 / 8)) := fun r l => by
  have ht : t.1 < 128 := t.2
  refine Eq.trans ?_ (padded_at _ hfin.a5 r ⟨t.1 / 8, by omega⟩ l)
  rw [← V_g]
  blk_ext [iblk, idx t]

theorem read_o : Block (iblk m c 4 t) (Attn.O (hq m c (t.1 / 8)) (hk m c (t.1 / 8)) (hv m c (t.1 / 8))) := fun r l => by
  have ht : t.1 < 128 := t.2
  have e := rows_eq hfin.a0 hfin.a1 hfin.a2 hfin.a3 hfin.a4 r ⟨t.1 / 8 * 128 + l.1, by omega⟩
  refine Eq.trans ?_ (e.trans ?_)
  · rw [← V_o]
    blk_ext [iblk, idx t]
  · have e1 : (t.1 / 8 * 128 + l.1) / 128 = t.1 / 8 := by omega
    have e2 : (t.1 / 8 * 128 + l.1) % 128 = l.1 := by omega
    simp only [e1, e2]
    by_cases h : l.1 < 64
    · rw [if_pos h]
      rfl
    · rw [if_neg h]
      refine EReal.coe_zero.symm.trans (congrArg (fun x : ℝ => (x : EReal)) ?_)
      unfold Attn.O hv
      refine Eq.symm ?_
      rw [Finset.sum_eq_zero (fun k _ => by rw [Attn.vz, if_neg h, mul_zero]), zero_div]

omit hfin in
theorem place_l (r : Fin 4096) (h : t.1 / 8 < 16) :
    (win0_5.blk t).view.emb (ix3 0 r 0) = (ix3 ⟨t.1 / 8, h⟩ r 0 : S16x4096x1.Idx) := by
  refine funext fun a => Fin.ext ?_
  match a with
  | 0 => blk_simp [idx t]; rfl
  | 1 => blk_simp [idx t]
  | 2 => blk_simp [idx t]

omit hfin in
theorem cells_l (x : Buf (Elt Ideal) ((c : Thread nD τ).loc main_v59)) (y : S1x4096x1.Idx) :
    (win0_5.blk t).view.read (Elt Ideal) x y = x ((win0_5.blk t).view.emb y) := rfl

omit hfin in
theorem block_l (y : S1x4096x1.Idx) : iblk m c 5 t y = (win0_5.blk t).view.read (Elt Ideal) (V m c main_v59) y := rfl

omit hfin in
theorem part_l (r : Fin 4096) (h : t.1 / 8 < 16) :
    iblk m c 5 t (ix3 0 r 0) = V m c main_v59 (ix3 ⟨t.1 / 8, h⟩ r 0) :=
  (block_l t _).trans ((cells_l t _ _).trans (congrArg (V m c main_v59) (place_l t r h)))

theorem read_l (r : Fin 4096) : iblk m c 5 t (ix3 0 r 0) = ((hl m c (t.1 / 8) r.1 : ℝ) : EReal) := by
  have ht : t.1 / 8 < 16 := by have : t.1 < 128 := t.2; omega
  exact (part_l t r ht).trans ((congrFun (V_l m c) _).trans (lse_at hfin.a0 hfin.a1 hfin.a2 hfin.a3 ⟨t.1 / 8, ht⟩ r))

theorem sums : Block (k0_pay18 (F := Ideal) (iblk m c 3 t) (iblk m c 4 t)) fun r _ => hd m c (t.1 / 8) r := fun r z => by
  rw [sums_at, sum_mul_coe _ _ _ _ (read_g hfin t r) (read_o hfin t r)]
  refine congrArg (fun x : ℝ => (x : EReal)) ?_
  exact Fin.sum_univ_eq_sum_range (fun l => hg m c (t.1 / 8) r.1 l * Attn.O (hq m c (t.1 / 8)) (hk m c (t.1 / 8)) (hv m c (t.1 / 8)) r.1 l) 128

theorem logs : Block (k0_pay19 (F := Ideal) (iblk m c 5 t)) fun r _ => hl m c (t.1 / 8) r := fun r z => by
  rw [logs_at]
  exact read_l hfin t r

omit hfin in
/-- What the kernel holds after grid point `t`. -/
structure Held (m : (ℓ : Loc nD τ sig) → Buf (Elt Ideal) ℓ) (c : Dev nD) (t : Fin cfg0.N) (s : St Ideal) : Prop where
  d : Block s.1 fun r _ => hd m c (t.1 / 8) r
  l : Block s.2.1 fun r _ => hl m c (t.1 / 8) r
  dq : Block s.2.2.1 (Attn.DQ (hq m c (t.1 / 8)) (hk m c (t.1 / 8)) (hv m c (t.1 / 8)) (hg m c (t.1 / 8)) (hl m c (t.1 / 8)) (hd m c (t.1 / 8)) (t.1 % 8 + 1))
  dk : Tile s.2.2.2.1 (t.1 % 8) (Attn.DK (hq m c (t.1 / 8)) (hk m c (t.1 / 8)) (hv m c (t.1 / 8)) (hg m c (t.1 / 8)) (hl m c (t.1 / 8)) (hd m c (t.1 / 8)) 8)
  dv : Tile s.2.2.2.2 (t.1 % 8) (Attn.DV (hq m c (t.1 / 8)) (hk m c (t.1 / 8)) (hg m c (t.1 / 8)) (hl m c (t.1 / 8)) 8)

theorem held_opening (h : t.1 % 8 = 0) : Held m c t (opening m c t) := by
  have z : Block (k0_pay17 (F := Ideal)) (Attn.DQ (hq m c (t.1 / 8)) (hk m c (t.1 / 8)) (hv m c (t.1 / 8)) (hg m c (t.1 / 8)) (hl m c (t.1 / 8)) (hd m c (t.1 / 8)) (t.1 % 8)) :=
    fun r e => by
      rw [zero17_at, h, Attn.DQ, Nat.zero_mul, Finset.sum_range_zero]
      rfl
  have p := point t ⟨read_q hfin t, read_k hfin t, read_v hfin t, read_g hfin t, sums hfin t, logs hfin t⟩ z
  exact ⟨sums hfin t, logs hfin t, p.1, p.2.1, p.2.2⟩

theorem held_going (h : ¬ t.1 % 8 = 0) (t' : Fin cfg0.N) (ht : t'.1 = t.1 - 1) {s : St Ideal} (H : Held m c t' s) : Held m c t (going m c t s) := by
  have e1 : t'.1 / 8 = t.1 / 8 := by omega
  have e2 : t'.1 % 8 + 1 = t.1 % 8 := by omega
  obtain ⟨d, l, q, -, -⟩ := H
  rw [e1] at d l q
  rw [e2] at q
  have p := point t ⟨read_q hfin t, read_k hfin t, read_v hfin t, read_g hfin t, d, l⟩ q
  exact ⟨d, l, p.1, p.2.1, p.2.2⟩

theorem held_all (n : ℕ) (hn : n < cfg0.N) : Held m c ⟨n, hn⟩ (state m c n) := by
  induction n with
  | zero =>
    rw [state_opening m c ⟨0, hn⟩ rfl]
    exact held_opening hfin _ rfl
  | succ n ih =>
    by_cases h : (n + 1) % 8 = 0
    · rw [state_opening m c ⟨n + 1, hn⟩ h]
      exact held_opening hfin _ h
    · rw [state_going m c ⟨n + 1, hn⟩ h]
      exact held_going hfin _ h ⟨n, Nat.lt_of_succ_lt hn⟩ rfl (ih _)

/-! ## The arrays -/

omit hfin

variable (m c)

/-- The gradients of the queries, keys and values, all heads in one row. -/
def spec_q : S4096x2048.Idx → EReal := fun j => ((Attn.DQ (hq m c ((j 1).1 / 128)) (hk m c ((j 1).1 / 128)) (hv m c ((j 1).1 / 128)) (hg m c ((j 1).1 / 128))
  (hl m c ((j 1).1 / 128)) (hd m c ((j 1).1 / 128)) 8 (j 0).1 ((j 1).1 % 128) : ℝ) : EReal)
def spec_k : S4096x2048.Idx → EReal := fun j => ((Attn.DK (hq m c ((j 1).1 / 128)) (hk m c ((j 1).1 / 128)) (hv m c ((j 1).1 / 128)) (hg m c ((j 1).1 / 128))
  (hl m c ((j 1).1 / 128)) (hd m c ((j 1).1 / 128)) 8 (j 0).1 ((j 1).1 % 128) : ℝ) : EReal)
def spec_v : S4096x2048.Idx → EReal := fun j => ((Attn.DV (hq m c ((j 1).1 / 128)) (hk m c ((j 1).1 / 128)) (hg m c ((j 1).1 / 128))
  (hl m c ((j 1).1 / 128)) 8 (j 0).1 ((j 1).1 % 128) : ℝ) : EReal)

variable {m c}

theorem spec_q_at (r : Fin 4096) (g : Fin 16) (l : Fin 128) (j : S4096x2048.Idx) (h0 : (j 0).1 = r.1) (h1 : (j 1).1 = g.1 * 128 + l.1) :
    spec_q m c j = ((Attn.DQ (hq m c g.1) (hk m c g.1) (hv m c g.1) (hg m c g.1) (hl m c g.1) (hd m c g.1) 8 r.1 l.1 : ℝ) : EReal) := by
  have e1 : (j 1).1 / 128 = g.1 := by omega
  have e2 : (j 1).1 % 128 = l.1 := by omega
  unfold spec_q
  rw [e1, e2, h0]

theorem spec_k_at (r : Fin 4096) (g : Fin 16) (l : Fin 128) (j : S4096x2048.Idx) (h0 : (j 0).1 = r.1) (h1 : (j 1).1 = g.1 * 128 + l.1) :
    spec_k m c j = ((Attn.DK (hq m c g.1) (hk m c g.1) (hv m c g.1) (hg m c g.1) (hl m c g.1) (hd m c g.1) 8 r.1 l.1 : ℝ) : EReal) := by
  have e1 : (j 1).1 / 128 = g.1 := by omega
  have e2 : (j 1).1 % 128 = l.1 := by omega
  unfold spec_k
  rw [e1, e2, h0]

theorem spec_v_at (r : Fin 4096) (g : Fin 16) (l : Fin 128) (j : S4096x2048.Idx) (h0 : (j 0).1 = r.1) (h1 : (j 1).1 = g.1 * 128 + l.1) :
    spec_v m c j = ((Attn.DV (hq m c g.1) (hk m c g.1) (hg m c g.1) (hl m c g.1) 8 r.1 l.1 : ℝ) : EReal) := by
  have e1 : (j 1).1 / 128 = g.1 := by omega
  have e2 : (j 1).1 % 128 = l.1 := by omega
  unfold spec_v
  rw [e1, e2, h0]

theorem final_q (hfin : Fin6 m c) : (dats m 0 c).arrAt 6 cfg0.N = spec_q m c := by
  refine (dats m 0 c).arrAt_eq_of_covers 6 _ (by decide +kernel) fun t hf y => ?_
  have h7 : t.1 % 8 = 7 := (flush0_6 t).mp hf
  have ht : t.1 < 128 := t.2
  have H := (held_all hfin t.1 t.2).dq
  rw [h7] at H
  obtain ⟨r, l, rfl⟩ : ∃ (r : Fin 4096) (l : Fin 128), y = ix2 r l := ⟨y 0, y 1, by funext a; fin_cases a <;> rfl⟩
  refine Eq.trans ?_ (spec_q_at r ⟨t.1 / 8, by omega⟩ l _ ?_ ?_).symm
  · blk_simp [idx t]
    rw [after_6]
    exact H r l
  · blk_simp [idx t]
  · blk_simp [idx t]

theorem final_k (hfin : Fin6 m c) : (dats m 0 c).arrAt 7 cfg0.N = spec_k m c := by
  refine (dats m 0 c).arrAt_eq_of_covers 7 _ (by decide +kernel) fun t hf y => ?_
  have ht : t.1 < 128 := t.2
  have H := (held_all hfin t.1 t.2).dk
  obtain ⟨r, l, rfl⟩ : ∃ (r : Fin 512) (l : Fin 128), y = ix2 r l := ⟨y 0, y 1, by funext a; fin_cases a <;> rfl⟩
  refine Eq.trans ?_ (spec_k_at ⟨t.1 % 8 * 512 + r.1, by omega⟩ ⟨t.1 / 8, by omega⟩ l _ ?_ ?_).symm
  · blk_simp [idx t]
    rw [after_7]
    exact H r l
  · blk_simp [idx t]
  · blk_simp [idx t]

theorem final_v (hfin : Fin6 m c) : (dats m 0 c).arrAt 8 cfg0.N = spec_v m c := by
  refine (dats m 0 c).arrAt_eq_of_covers 8 _ (by decide +kernel) fun t hf y => ?_
  have ht : t.1 < 128 := t.2
  have H := (held_all hfin t.1 t.2).dv
  obtain ⟨r, l, rfl⟩ : ∃ (r : Fin 512) (l : Fin 128), y = ix2 r l := ⟨y 0, y 1, by funext a; fin_cases a <;> rfl⟩
  refine Eq.trans ?_ (spec_v_at ⟨t.1 % 8 * 512 + r.1, by omega⟩ ⟨t.1 / 8, by omega⟩ l _ ?_ ?_).symm
  · blk_simp [idx t]
    rw [after_8]
    exact H r l
  · blk_simp [idx t]
  · blk_simp [idx t]

/-- The run, with its three arrays named. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v66_0) = (dats m 0 c).arrAt 6 cfg0.N
      ∧ r.2.mem ((c : Thread nD τ).loc main_v66_1) = (dats m 0 c).arrAt 7 cfg0.N
      ∧ r.2.mem ((c : Thread nD τ).loc main_v66_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (ran m ρ)

end Cert.KernelIdeal.Bwd

end
-- ==== Proof.RefBwd.lean ====
/-
  The backward reference's operations read at an index: the gradient of the softmax through the masked scores, and the
  three gradients with their heads side by side, over the reals.
-/
module

public import proofs.«01_k».proof.Proof.RefFwd
public import proofs.«01_k».proof.Proof.AttnBack
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Value

open Cert.ReferenceIdeal Cert.ReferenceIdeal.Gen
open Cert.FwdRefIdeal.Value (mask mask_at un un_at total total_at weight weight_at top top' top'_eq top_at at64 at32)

/-! ## The operations -/

/-- The weights' gradients. -/
def dps (a4 a5 : FVec Ideal S4096x16x64 .f32) : FVec Ideal S16x4096x4096 .f32 :=
  Host.dotGeneral dot_S16x64x4096_S4096x16x64_S16x4096x4096_1_2_2_0_0_1 none
    (transpose S16x64x4096 [1, 2, 0] a5 transposes_S4096x16x64_S16x64x4096_1_2_0) a4

def col (T : FVec Ideal S16x4096 .f32) : FVec Ideal S16x4096x1 .f32 := broadcastInDim S16x4096x1 ![0, 1] bcast_S16x4096_S16x4096x1_0_1 T

def wide (x : FVec Ideal S16x4096x1 .f32) : FVec Ideal S16x4096x4096 .f32 :=
  broadcastInDim S16x4096x4096 ![0, 1, 2] bcast_S16x4096x1_S16x4096x4096_0_1_2 x

/-- The sum a row of the weights' gradients loses, from the weights before they are normalised and their sums. -/
def rowSums (p u : FVec Ideal S16x4096x4096 .f32) (T : FVec Ideal S16x4096 .f32) : FVec Ideal S16x4096 .f32 :=
  Host.reduceAdd (mulf (mulf p (wide (Host.divf (broadcastInDim S16x4096x1 ![] bcast_S_S16x4096x1 (constant S_ .f32 0x3F800000#32)) (mulf (col T) (col T))))) u)
    (constant S_ .f32 0x00000000#32) reducesTo_S16x4096x4096_S16x4096_d2 h_S_

def lost (x : FVec Ideal S16x4096 .f32) : FVec Ideal S16x4096x4096 .f32 :=
  broadcastInDim S16x4096x4096 ![0, 1] bcast_S16x4096_S16x4096x4096_0_1
    (Host.reduceAdd (Host.negf (shapeCast S16x4096x1 x shapeCasts_S16x4096_S16x4096x1)) (constant S_ .f32 0x00000000#32) reducesTo_S16x4096x1_S16x4096_d2 h_S_)

/-- The unscaled scores' gradients, hidden keys at 0. -/
def dss (p u : FVec Ideal S16x4096x4096 .f32) (T : FVec Ideal S16x4096 .f32) : FVec Ideal S16x4096x4096 .f32 :=
  mulf (select (broadcastInDim S16x4096x4096 ![0, 1, 2] bcast_S1x4096x4096_S16x4096x4096_0_1_2 (broadcastInDim S1x4096x4096 ![1, 2] bcast_S4096x4096_S1x4096x4096_1_2 mask))
      (mulf (addf (Host.divf p (wide (col T))) (lost (rowSums p u T))) u)
      (broadcastInDim S16x4096x4096 ![] bcast_S_S16x4096x4096 (constant S_ .f32 0x00000000#32)))
    (broadcastInDim S16x4096x4096 ![] bcast_S_S16x4096x4096 (constant S_ .f32 0x3DD105EC#32))

/-- Two arrays side by side, 32 zeros after them, all heads in one row; one array with 64 zeros after it. -/
def side (x : FVec Ideal S4096x16x64 .f32) (y : FVec Ideal S4096x16x32 .f32) : FVec Ideal S4096x2048 .f32 :=
  shapeCast S4096x2048 (pad S4096x16x128 ![0, 0, 0] ![0, 0, 32] ![0, 0, 0]
    (concatenate S4096x16x96 2 [⟨S4096x16x64, x⟩, ⟨S4096x16x32, y⟩] concatenates_S4096x16x64_S4096x16x32_S4096x16x96_d2)
    (sitofp .f32 (constantI S_ 32 0#32)) pads_S4096x16x96_S4096x16x128_000_000_0320 h_S_) shapeCasts_S4096x16x128_S4096x2048

def alone (x : FVec Ideal S4096x16x64 .f32) : FVec Ideal S4096x2048 .f32 :=
  shapeCast S4096x2048 (pad S4096x16x128 ![0, 0, 0] ![0, 0, 64] ![0, 0, 0] x
    (sitofp .f32 (constantI S_ 32 0#32)) pads_S4096x16x64_S4096x16x128_000_000_0640 h_S_) shapeCasts_S4096x16x128_S4096x2048

/-- A gradient of the scores against the keys (per query row), and against the queries (per key row). -/
def rows64 (s : FVec Ideal S16x4096x4096 .f32) (a : FVec Ideal S4096x16x64 .f32) : FVec Ideal S4096x16x64 .f32 :=
  transpose S4096x16x64 [1, 0, 2] (Host.dotGeneral dot_S16x4096x4096_S4096x16x64_S16x4096x64_2_0_1_2_0_1 none s a) transposes_S16x4096x64_S4096x16x64_1_0_2
def rows32 (s : FVec Ideal S16x4096x4096 .f32) (a : FVec Ideal S4096x16x32 .f32) : FVec Ideal S4096x16x32 .f32 :=
  transpose S4096x16x32 [1, 0, 2] (Host.dotGeneral dot_S16x4096x4096_S4096x16x32_S16x4096x32_2_0_1_2_0_1 none s a) transposes_S16x4096x32_S4096x16x32_1_0_2
def cols64 (s : FVec Ideal S16x4096x4096 .f32) (a : FVec Ideal S4096x16x64 .f32) : FVec Ideal S4096x16x64 .f32 :=
  transpose S4096x16x64 [1, 0, 2] (Host.dotGeneral dot_S16x4096x4096_S4096x16x64_S16x4096x64_1_0_2_2_0_1 none s a) transposes_S16x4096x64_S4096x16x64_1_0_2
def cols32 (s : FVec Ideal S16x4096x4096 .f32) (a : FVec Ideal S4096x16x32 .f32) : FVec Ideal S4096x16x32 .f32 :=
  transpose S4096x16x32 [1, 0, 2] (Host.dotGeneral dot_S16x4096x4096_S4096x16x32_S16x4096x32_1_0_2_2_0_1 none s a) transposes_S16x4096x32_S4096x16x32_1_0_2

/-- The weights against the cotangent. -/
def dvs (w : FVec Ideal S16x4096x4096 .f32) (a5 : FVec Ideal S4096x16x64 .f32) : FVec Ideal S4096x16x64 .f32 :=
  transpose S4096x16x64 [2, 0, 1] (Host.dotGeneral dot_S16x64x4096_S16x4096x4096_S16x64x4096_2_1_1_2_0_0 none
    (transpose S16x64x4096 [1, 2, 0] a5 transposes_S4096x16x64_S16x64x4096_1_2_0) w) transposes_S16x64x4096_S4096x16x64_2_0_1

/-! ## At an index -/

theorem dps_pt (a4 a5 : FVec Ideal S4096x16x64 .f32) (g : Fin 16) (r c : Fin 4096) :
    dps a4 a5 (ix3 g r c) = ∑ x : Fin 64, a5 (ix3 r g x) * a4 (ix3 c g x) := by
  unfold dps
  pointwise

theorem rows64_pt (s : FVec Ideal S16x4096x4096 .f32) (a : FVec Ideal S4096x16x64 .f32) (r : Fin 4096) (g : Fin 16) (l : Fin 64) :
    rows64 s a (ix3 r g l) = ∑ c : Fin 4096, s (ix3 g r c) * a (ix3 c g l) := by
  unfold rows64
  pointwise

theorem rows32_pt (s : FVec Ideal S16x4096x4096 .f32) (a : FVec Ideal S4096x16x32 .f32) (r : Fin 4096) (g : Fin 16) (l : Fin 32) :
    rows32 s a (ix3 r g l) = ∑ c : Fin 4096, s (ix3 g r c) * a (ix3 c g l) := by
  unfold rows32
  pointwise

theorem cols64_pt (s : FVec Ideal S16x4096x4096 .f32) (a : FVec Ideal S4096x16x64 .f32) (c : Fin 4096) (g : Fin 16) (l : Fin 64) :
    cols64 s a (ix3 c g l) = ∑ r : Fin 4096, s (ix3 g r c) * a (ix3 r g l) := by
  unfold cols64
  pointwise

theorem cols32_pt (s : FVec Ideal S16x4096x4096 .f32) (a : FVec Ideal S4096x16x32 .f32) (c : Fin 4096) (g : Fin 16) (l : Fin 32) :
    cols32 s a (ix3 c g l) = ∑ r : Fin 4096, s (ix3 g r c) * a (ix3 r g l) := by
  unfold cols32
  pointwise

theorem dvs_pt (w : FVec Ideal S16x4096x4096 .f32) (a5 : FVec Ideal S4096x16x64 .f32) (c : Fin 4096) (g : Fin 16) (l : Fin 64) :
    dvs w a5 (ix3 c g l) = ∑ r : Fin 4096, a5 (ix3 r g l) * w (ix3 g r c) := by
  unfold dvs
  pointwise

theorem side_pt (x : FVec Ideal S4096x16x64 .f32) (y : FVec Ideal S4096x16x32 .f32) (R : Fin 4096) (g : Fin 16) (l : Fin 128) :
    side x y (ix2 R ⟨g.1 * 128 + l.1, by omega⟩)
      = if h : l.1 < 64 then x (ix3 R g ⟨l.1, h⟩) else if h' : l.1 < 96 then y (ix3 R g ⟨l.1 - 64, by omega⟩) else 0 := by
  unfold side
  pointwise
  by_cases h1 : l.1 < 64
  · rw [dif_pos (by omega), dif_pos h1, dif_pos h1]
  · rw [dif_neg h1]
    by_cases h2 : l.1 < 96
    · rw [dif_pos (by omega), dif_neg h1, dif_pos h2]
    · rw [dif_neg (by omega), dif_neg h2]
      show (((0#32 : BitVec 32).toInt : ℝ) : EReal) = _
      simp

theorem alone_pt (x : FVec Ideal S4096x16x64 .f32) (R : Fin 4096) (g : Fin 16) (l : Fin 128) :
    alone x (ix2 R ⟨g.1 * 128 + l.1, by omega⟩) = if h : l.1 < 64 then x (ix3 R g ⟨l.1, h⟩) else 0 := by
  unfold alone
  pointwise
  refine dite_congr rfl (fun _ => rfl) fun _ => ?_
  show (((0#32 : BitVec 32).toInt : ℝ) : EReal) = _
  simp

theorem wide_pt (T : FVec Ideal S16x4096 .f32) (g : Fin 16) (r c : Fin 4096) : wide (col T) (ix3 g r c) = T (ix2 g r) := by
  unfold wide col
  pointwise

theorem lost_pt (x : FVec Ideal S16x4096 .f32) (g : Fin 16) (r c : Fin 4096) : lost x (ix3 g r c) = - x (ix2 g r) := by
  unfold lost
  pointwise
  exact Fin.sum_univ_one _

theorem rowSums_pt (p u : FVec Ideal S16x4096x4096 .f32) (T : FVec Ideal S16x4096 .f32) (g : Fin 16) (r : Fin 4096) : rowSums p u T (ix2 g r)
    = ∑ c : Fin 4096, p (ix3 g r c) * Ideal.div 1 (T (ix2 g r) * T (ix2 g r)) * u (ix3 g r c) := by
  unfold rowSums wide col
  pointwise

theorem dss_pt (p u : FVec Ideal S16x4096x4096 .f32) (T : FVec Ideal S16x4096 .f32) (g : Fin 16) (r c : Fin 4096) : dss p u T (ix3 g r c)
    = (if Attn.ok r.1 c.1 then (Ideal.div (p (ix3 g r c)) (T (ix2 g r)) + - rowSums p u T (ix2 g r)) * u (ix3 g r c) else 0) * (Attn.scale : EReal) := by
  rw [← wide_pt T g r c, ← lost_pt (rowSums p u T) g r c, ← Attn.scale_eq]
  unfold dss
  generalize lost (rowSums p u T) = y
  generalize wide (col T) = z
  pointwise
  rw [mask_at]
  by_cases h : Attn.ok r.1 c.1
  · rw [if_pos h, if_pos h]
    rfl
  · rw [if_neg h, if_neg h, zero_mul]
    rfl

/-! ## Over the reals -/

section
variable (Q K V G : ℕ → ℕ → ℝ)

/-- The weight from the log-sum-exp is the weight normalised. -/
theorem W_eq {r : ℕ} (hr : r < 4096) (c : ℕ) : Attn.W Q K (Attn.LSE Q K) r c = Attn.E Q K r c / Attn.Z Q K r := by
  unfold Attn.W Attn.E Attn.LSE
  by_cases h : Attn.ok r c
  · rw [if_pos h, if_pos h, Real.exp_sub, Real.exp_log (Attn.Z_pos Q K r hr)]
  · rw [if_neg h, if_neg h, zero_div]

/-- The sum a row loses: over the keys with their weights, or over the lanes with the row's output. -/
theorem D_eq (r : ℕ) : ∑ c ∈ Finset.range 4096, Attn.DP V G r c * Attn.E Q K r c / Attn.Z Q K r
    = ∑ l ∈ Finset.range 128, G r l * Attn.O Q K V r l := by
  unfold Attn.DP Attn.O
  simp only [Finset.sum_mul, Finset.sum_div, Finset.mul_sum]
  rw [Finset.sum_comm]
  refine Finset.sum_congr rfl fun l _ => Finset.sum_congr rfl fun c _ => ?_
  ring

/-- The unscaled score's gradient, from the weights before they are normalised, all times `e`. -/
theorem DS_eq {r : ℕ} (hr : r < 4096) (c : ℕ) {e : ℝ} (he : 0 < e) :
    (Attn.DP V G r c / (e * Attn.Z Q K r) + -∑ c ∈ Finset.range 4096, Attn.DP V G r c * (1 / (e * Attn.Z Q K r * (e * Attn.Z Q K r))) * (e * Attn.E Q K r c))
        * (e * Attn.E Q K r c) * Attn.scale
      = Attn.DS Q K V G (Attn.LSE Q K) (fun r => ∑ l ∈ Finset.range 128, G r l * Attn.O Q K V r l) r c := by
  have hZ := (Attn.Z_pos Q K r hr).ne'
  have hs : ∑ c ∈ Finset.range 4096, Attn.DP V G r c * (1 / (e * Attn.Z Q K r * (e * Attn.Z Q K r))) * (e * Attn.E Q K r c)
      = 1 / (e * Attn.Z Q K r) * ∑ l ∈ Finset.range 128, G r l * Attn.O Q K V r l := by
    rw [← D_eq, Finset.mul_sum]
    refine Finset.sum_congr rfl fun c _ => ?_
    field_simp
  rw [hs]
  unfold Attn.DS
  rw [W_eq Q K hr]
  beta_reduce
  generalize ∑ l ∈ Finset.range 128, G r l * Attn.O Q K V r l = D
  field_simp
  ring

end

variable {a0 : FVec Ideal S4096x16x64 .f32} {a1 : FVec Ideal S4096x16x32 .f32} {a2 : FVec Ideal S4096x16x64 .f32}
  {a3 : FVec Ideal S4096x16x32 .f32} {a4 a5 : FVec Ideal S4096x16x64 .f32}

theorem dps_at (h4 : Attn.AllReal (at64 a4)) (h5 : Attn.AllReal (at64 a5)) (g : Fin 16) (r c : Fin 4096) :
    dps a4 a5 (ix3 g r c) = ((Attn.DP (Attn.vz (at64 a4) g.1) (Attn.vz (at64 a5) g.1) r.1 c.1 : ℝ) : EReal) := by
  rw [dps_pt]
  have e : Attn.DP (Attn.vz (at64 a4) g.1) (Attn.vz (at64 a5) g.1) r.1 c.1
      = ∑ x : Fin 64, Attn.real3 (at64 a5) r.1 g.1 x.1 * Attn.real3 (at64 a4) c.1 g.1 x.1 := by
    unfold Attn.DP
    refine Eq.symm ((Finset.sum_congr rfl fun x _ => ?_).trans ((Fin.sum_univ_eq_sum_range (fun l => Attn.vz (at64 a5) g.1 r.1 l * Attn.vz (at64 a4) g.1 c.1 l) 64).trans ?_))
    · rw [Attn.vz, Attn.vz, if_pos x.2, if_pos x.2]
    · refine Finset.sum_subset (fun l hl => Finset.mem_range.mpr (by have := Finset.mem_range.mp hl; omega)) fun l _ hl => ?_
      rw [Attn.vz, if_neg (by simpa using hl), zero_mul]
  rw [e, Attn.coe_sum]
  refine Finset.sum_congr rfl fun x _ => ?_
  rw [EReal.coe_mul]
  exact congrArg₂ (· * ·) (Attn.coe_real3 h5 r g x).symm (Attn.coe_real3 h4 c g x).symm

/-- The row's sum, of real entries. -/
theorem rowSums_at {p u : FVec Ideal S16x4096x4096 .f32} {T : FVec Ideal S16x4096 .f32} {g : Fin 16} {r : Fin 4096} (P U : ℕ → ℝ) {t : ℝ} (ht : t ≠ 0)
    (hp : ∀ c : Fin 4096, p (ix3 g r c) = ((P c.1 : ℝ) : EReal)) (hu : ∀ c : Fin 4096, u (ix3 g r c) = ((U c.1 : ℝ) : EReal))
    (hT : T (ix2 g r) = (t : EReal)) : rowSums p u T (ix2 g r) = ((∑ c ∈ Finset.range 4096, P c * (1 / (t * t)) * U c : ℝ) : EReal) := by
  rw [rowSums_pt, hT, ← EReal.coe_mul, ← EReal.coe_one, Attn.div_coe (mul_ne_zero ht ht),
    ← Fin.sum_univ_eq_sum_range (fun c => P c * (1 / (t * t)) * U c) 4096, Attn.coe_sum]
  exact Finset.sum_congr rfl fun c _ => by rw [hp, hu, ← EReal.coe_mul, ← EReal.coe_mul]

theorem dss_real {p u : FVec Ideal S16x4096x4096 .f32} {T : FVec Ideal S16x4096 .f32} {g : Fin 16} {r : Fin 4096} (P U : ℕ → ℝ) {t : ℝ} (ht : t ≠ 0)
    (hp : ∀ c : Fin 4096, p (ix3 g r c) = ((P c.1 : ℝ) : EReal)) (hu : ∀ c : Fin 4096, u (ix3 g r c) = ((U c.1 : ℝ) : EReal))
    (hT : T (ix2 g r) = (t : EReal)) (h0 : ∀ c, ¬ Attn.ok r.1 c → U c = 0) (c : Fin 4096) : dss p u T (ix3 g r c)
      = (((P c.1 / t + -∑ c ∈ Finset.range 4096, P c * (1 / (t * t)) * U c) * U c.1 * Attn.scale : ℝ) : EReal) := by
  rw [dss_pt, rowSums_at P U ht hp hu hT, hT, hp, hu, Attn.div_coe ht, ← EReal.coe_neg, ← EReal.coe_add, ← EReal.coe_mul]
  by_cases h : Attn.ok r.1 c.1
  · rw [if_pos h, ← EReal.coe_mul]
  · rw [if_neg h, zero_mul, h0 c.1 h, mul_zero, zero_mul]
    rfl

variable (a0 a1 a2 a3 a4 a5) in
/-- The unscaled scores' gradients of the six arguments. -/
def grads : FVec Ideal S16x4096x4096 .f32 :=
  dss (dps a4 a5) (un a0 a1 a2 a3 (top' a0 a1 a2 a3)) (total a0 a1 a2 a3 (top' a0 a1 a2 a3))

/-- Head `g`'s score gradients. -/
abbrev hds (a0 : FVec Ideal S4096x16x64 .f32) (a1 : FVec Ideal S4096x16x32 .f32) (a2 : FVec Ideal S4096x16x64 .f32)
    (a3 : FVec Ideal S4096x16x32 .f32) (a4 a5 : FVec Ideal S4096x16x64 .f32) (g : ℕ) : ℕ → ℕ → ℝ :=
  Attn.DS (Attn.qk (at64 a0) (at32 a1) g) (Attn.qk (at64 a2) (at32 a3) g) (Attn.vz (at64 a4) g) (Attn.vz (at64 a5) g)
    (Attn.LSE (Attn.qk (at64 a0) (at32 a1) g) (Attn.qk (at64 a2) (at32 a3) g))
    (fun r => ∑ l ∈ Finset.range 128, Attn.vz (at64 a5) g r l * Attn.O (Attn.qk (at64 a0) (at32 a1) g) (Attn.qk (at64 a2) (at32 a3) g) (Attn.vz (at64 a4) g) r l)

theorem grads_at (h0 : Attn.AllReal (at64 a0)) (h1 : Attn.AllReal (at32 a1)) (h2 : Attn.AllReal (at64 a2)) (h3 : Attn.AllReal (at32 a3))
    (h4 : Attn.AllReal (at64 a4)) (h5 : Attn.AllReal (at64 a5)) (g : Fin 16) (r c : Fin 4096) :
    grads a0 a1 a2 a3 a4 a5 (ix3 g r c) = ((hds a0 a1 a2 a3 a4 a5 g.1 r.1 c.1 : ℝ) : EReal) := by
  obtain ⟨M, hM⟩ := top_at h0 h1 h2 h3 g r
  unfold grads
  rw [top'_eq]
  have hZ := mul_pos (Real.exp_pos (-M)) (Attn.Z_pos (Attn.qk (at64 a0) (at32 a1) g.1) (Attn.qk (at64 a2) (at32 a3) g.1) r.1 r.2)
  refine (dss_real (fun c => Attn.DP (Attn.vz (at64 a4) g.1) (Attn.vz (at64 a5) g.1) r.1 c)
    (fun c => Real.exp (-M) * Attn.E (Attn.qk (at64 a0) (at32 a1) g.1) (Attn.qk (at64 a2) (at32 a3) g.1) r.1 c) hZ.ne'
    (fun c => dps_at h4 h5 g r c) (fun c => un_at h0 h1 h2 h3 g r c hM) (total_at h0 h1 h2 h3 g r hM) (fun c h => ?_) c).trans ?_
  · show Real.exp (-M) * Attn.E _ _ r.1 c = 0
    rw [Attn.E, if_neg h, mul_zero]
  · refine congrArg (fun x : ℝ => (x : EReal)) ?_
    exact DS_eq _ _ _ _ r.2 c.1 (Real.exp_pos _)

/-! ## The three results -/

/-- A sum of products of real entries over the 4096 rows. -/
theorem sum_rows {x y : Fin 4096 → EReal} (f k : ℕ → ℝ) (hx : ∀ c, x c = ((f c.1 : ℝ) : EReal)) (hy : ∀ c, y c = ((k c.1 : ℝ) : EReal)) :
    ∑ c, x c * y c = ((∑ c ∈ Finset.range (8 * 512), f c * k c : ℝ) : EReal) := by
  rw [← Fin.sum_univ_eq_sum_range (fun c => f c * k c) 4096, Attn.coe_sum]
  exact Finset.sum_congr rfl fun c _ => by rw [hx, hy, EReal.coe_mul]

/-- Rows side by side, of real entries: a sum against the joined array's lanes. -/
theorem side_real {x : FVec Ideal S4096x16x64 .f32} {y : FVec Ideal S4096x16x32 .f32} {b : FVec Ideal S4096x16x64 .f32} {b' : FVec Ideal S4096x16x32 .f32}
    (hb : Attn.AllReal (at64 b)) (hb' : Attn.AllReal (at32 b')) (f : ℕ → ℝ) (s : Fin 4096 → EReal) (hs : ∀ c, s c = ((f c.1 : ℝ) : EReal))
    (R : Fin 4096) (g : Fin 16) (hx : ∀ l, x (ix3 R g l) = ∑ c, s c * b (ix3 c g l)) (hy : ∀ l, y (ix3 R g l) = ∑ c, s c * b' (ix3 c g l)) (l : Fin 128) :
    side x y (ix2 R ⟨g.1 * 128 + l.1, by omega⟩)
      = ((∑ c ∈ Finset.range (8 * 512), f c * Attn.qk (at64 b) (at32 b') g.1 c l.1 : ℝ) : EReal) := by
  rw [side_pt]
  by_cases p : l.1 < 64
  · rw [dif_pos p, hx]
    refine sum_rows f (fun c => Attn.qk (at64 b) (at32 b') g.1 c l.1) hs fun c => ?_
    show _ = ((Attn.qk (at64 b) (at32 b') g.1 c.1 l.1 : ℝ) : EReal)
    rw [Attn.qk, if_pos p]
    exact (Attn.coe_real3 hb c g ⟨l.1, p⟩).symm
  · rw [dif_neg p]
    by_cases q : l.1 < 96
    · rw [dif_pos q, hy]
      refine sum_rows f (fun c => Attn.qk (at64 b) (at32 b') g.1 c l.1) hs fun c => ?_
      show _ = ((Attn.qk (at64 b) (at32 b') g.1 c.1 l.1 : ℝ) : EReal)
      rw [Attn.qk, if_neg p, if_pos q]
      exact (Attn.coe_real3 hb' c g ⟨l.1 - 64, by omega⟩).symm
    · rw [dif_neg q, Finset.sum_eq_zero fun c _ => by rw [Attn.qk, if_neg p, if_neg q, mul_zero]]
      rfl

variable (a0 a1 a2 a3 a4 a5) in
def dqRows : FVec Ideal S4096x2048 .f32 := side (rows64 (grads a0 a1 a2 a3 a4 a5) a2) (rows32 (grads a0 a1 a2 a3 a4 a5) a3)
variable (a0 a1 a2 a3 a4 a5) in
def dkRows : FVec Ideal S4096x2048 .f32 := side (cols64 (grads a0 a1 a2 a3 a4 a5) a0) (cols32 (grads a0 a1 a2 a3 a4 a5) a1)
variable (a0 a1 a2 a3 a5) in
def dvRows : FVec Ideal S4096x2048 .f32 := alone (dvs (weight a0 a1 a2 a3 (top' a0 a1 a2 a3)) a5)

theorem dqRows_at (h0 : Attn.AllReal (at64 a0)) (h1 : Attn.AllReal (at32 a1)) (h2 : Attn.AllReal (at64 a2)) (h3 : Attn.AllReal (at32 a3))
    (h4 : Attn.AllReal (at64 a4)) (h5 : Attn.AllReal (at64 a5)) (R : Fin 4096) (g : Fin 16) (l : Fin 128) :
    dqRows a0 a1 a2 a3 a4 a5 (ix2 R ⟨g.1 * 128 + l.1, by omega⟩)
      = ((∑ c ∈ Finset.range (8 * 512), hds a0 a1 a2 a3 a4 a5 g.1 R.1 c * Attn.qk (at64 a2) (at32 a3) g.1 c l.1 : ℝ) : EReal) :=
  side_real h2 h3 (fun c => hds a0 a1 a2 a3 a4 a5 g.1 R.1 c) (fun c => grads a0 a1 a2 a3 a4 a5 (ix3 g R c)) (fun c => grads_at h0 h1 h2 h3 h4 h5 g R c) R g
    (fun l => rows64_pt _ _ R g l) (fun l => rows32_pt _ _ R g l) l

theorem dkRows_at (h0 : Attn.AllReal (at64 a0)) (h1 : Attn.AllReal (at32 a1)) (h2 : Attn.AllReal (at64 a2)) (h3 : Attn.AllReal (at32 a3))
    (h4 : Attn.AllReal (at64 a4)) (h5 : Attn.AllReal (at64 a5)) (R : Fin 4096) (g : Fin 16) (l : Fin 128) :
    dkRows a0 a1 a2 a3 a4 a5 (ix2 R ⟨g.1 * 128 + l.1, by omega⟩)
      = ((∑ r ∈ Finset.range (8 * 512), hds a0 a1 a2 a3 a4 a5 g.1 r R.1 * Attn.qk (at64 a0) (at32 a1) g.1 r l.1 : ℝ) : EReal) :=
  side_real h0 h1 (fun r => hds a0 a1 a2 a3 a4 a5 g.1 r R.1) (fun r => grads a0 a1 a2 a3 a4 a5 (ix3 g r R)) (fun r => grads_at h0 h1 h2 h3 h4 h5 g r R) R g
    (fun l => cols64_pt _ _ R g l) (fun l => cols32_pt _ _ R g l) l

theorem dvRows_at (h0 : Attn.AllReal (at64 a0)) (h1 : Attn.AllReal (at32 a1)) (h2 : Attn.AllReal (at64 a2)) (h3 : Attn.AllReal (at32 a3))
    (h5 : Attn.AllReal (at64 a5)) (R : Fin 4096) (g : Fin 16) (l : Fin 128) :
    dvRows a0 a1 a2 a3 a5 (ix2 R ⟨g.1 * 128 + l.1, by omega⟩)
      = ((∑ r ∈ Finset.range (8 * 512), Attn.W (Attn.qk (at64 a0) (at32 a1) g.1) (Attn.qk (at64 a2) (at32 a3) g.1)
          (Attn.LSE (Attn.qk (at64 a0) (at32 a1) g.1) (Attn.qk (at64 a2) (at32 a3) g.1)) r R.1 * Attn.vz (at64 a5) g.1 r l.1 : ℝ) : EReal) := by
  unfold dvRows
  rw [alone_pt]
  by_cases p : l.1 < 64
  · rw [dif_pos p, dvs_pt, Finset.sum_congr rfl fun r _ => mul_comm _ _]
    refine sum_rows (fun r => Attn.W (Attn.qk (at64 a0) (at32 a1) g.1) (Attn.qk (at64 a2) (at32 a3) g.1)
      (Attn.LSE (Attn.qk (at64 a0) (at32 a1) g.1) (Attn.qk (at64 a2) (at32 a3) g.1)) r R.1) (fun r => Attn.vz (at64 a5) g.1 r l.1) (fun r => ?_) fun r => ?_
    · obtain ⟨M, hM⟩ := top_at h0 h1 h2 h3 g r
      rw [top'_eq, weight_at h0 h1 h2 h3 g r R hM]
      refine congrArg (fun x : ℝ => (x : EReal)) ?_
      exact (W_eq _ _ r.2 R.1).symm
    · show _ = ((Attn.vz (at64 a5) g.1 r.1 l.1 : ℝ) : EReal)
      rw [Attn.vz, if_pos p]
      exact (Attn.coe_real3 h5 r g ⟨l.1, p⟩).symm
  · rw [dif_neg p, Finset.sum_eq_zero fun r _ => by rw [Attn.vz, if_neg p, mul_zero]]
    rfl

variable (m : (ℓ : Loc nD τ sig) → Buf (Elt Ideal) ℓ) (c : Dev nD)

theorem res_dq : res_main_v73 m c = dqRows (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := rfl

theorem res_dk : res_main_v76 m c = dkRows (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := rfl

theorem res_dv : res_main_v78 m c = dvRows (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5)) := rfl

end Cert.ReferenceIdeal.Value

end
-- ==== Proof.BwdClaim.lean ====
/-
  The backward call's claims: its ideal program leaves what the reference leaves, of real arguments.
-/
module

public import proofs.«01_k».proof.Defs
public import proofs.«01_k».proof.Proof.BwdValue
public import proofs.«01_k».proof.Proof.RefBwd
public import proofs.«01_k».proof.Proof.Finite
public import proofs.«01_k».proof.Proof.KBwdFrame
public import proofs.«01_k».proof.Proof.Gen.Pre_finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.Backward

theorem frame_p : Cert.quiescent_Kernel := fun m ρ _ => Cert.Kernel.Bwd.unchanged m ρ
theorem frame_pi : Cert.quiescent_KernelIdeal := fun m ρ _ => Cert.KernelIdeal.Bwd.unchanged m ρ
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_pi_pre : Cert.quiescent_KernelIdeal_pre_finite := fun m ρ _ => Cert.KernelIdeal.Bwd.unchanged m ρ
theorem frame_ri_pre : Cert.quiescent_ReferenceIdeal_pre_finite := fun m ρ _ => frame_ri m ρ trivial

/-- The one named constant is the mask, whose value is `-∞`. -/
theorem preserves : Cert.preserves_Kernel_KernelIdeal :=
  IdealRules.named_const.statement Cert.KernelIdeal.κ "mask" .f32 0xF149F2CA#32 ⊥ rfl

section
open Cert.KernelIdeal

theorem fin6 (m : (ℓ : Loc nD τ sig) → Buf (Elt Ideal) ℓ) (h : Cert.Pre_KernelIdeal_finite m) (c : Dev nD) :
    Cert.KernelIdeal.Bwd.Fin6 m c := by
  have e := congrFun (h c) ix0
  simp only [Cert.Pre_finite.fn, Cert.Pre_finite.fn_part1, Cert.Pre_finite.fn_part2] at e
  obtain ⟨e, e5⟩ := Attn.and_one e
  obtain ⟨e, e4⟩ := Attn.and_one e
  obtain ⟨e, e3⟩ := Attn.and_one e
  obtain ⟨e, e2⟩ := Attn.and_one e
  obtain ⟨e0, e1⟩ := Attn.and_one e
  exact ⟨fun r g l => Attn.real_of_all e0 (ix3 r g l), fun r g l => Attn.real_of_all e1 (ix3 r g l),
    fun r g l => Attn.real_of_all e2 (ix3 r g l), fun r g l => Attn.real_of_all e3 (ix3 r g l),
    fun r g l => Attn.real_of_all e4 (ix3 r g l), fun r g l => Attn.real_of_all e5 (ix3 r g l)⟩
end

/-- Two arrays of 16 heads side by side are equal where they are equal head by head. -/
theorem by_heads {x y : Cert.KernelIdeal.S4096x2048.Idx → EReal}
    (h : ∀ (R : Fin 4096) (g : Fin 16) (l : Fin 128), x (ix2 R ⟨g.1 * 128 + l.1, by omega⟩) = y (ix2 R ⟨g.1 * 128 + l.1, by omega⟩)) : x = y := by
  funext j
  obtain ⟨R, C, rfl⟩ : ∃ (R : Fin 4096) (C : Fin 2048), j = ix2 R C := ⟨j 0, j 1, by funext a; fin_cases a <;> rfl⟩
  have hC := C.2
  have hc : (⟨C.1 / 128 * 128 + C.1 % 128, by omega⟩ : Fin 2048) = C := Fin.ext (Nat.div_add_mod' C.1 128)
  have e := h R ⟨C.1 / 128, by omega⟩ ⟨C.1 % 128, by omega⟩
  rw [← hc]
  exact e

open Cert.ReferenceIdeal in
theorem algebraic : Cert.algebraic_KernelIdeal_ReferenceIdeal_pre_finite := by
  intro m g m' g' hpre hagree
  have hfin := fun c => fin6 m hpre c
  refine ⟨_, _, _, (θ_run Cert.KernelIdeal.defs _ _).mono (fun r h => h) (Cert.KernelIdeal.Bwd.run_arrays m g), ?_⟩
  refine (θ_run Cert.ReferenceIdeal.defs _ _).mono (fun r h c => ?_) (Cert.ReferenceIdeal.Value.run (F := Ideal) m' g')
  obtain ⟨e0, e1, e2, e3, e4, e5⟩ := hagree c
  have H := hfin c
  refine ⟨(h c).1.trans ?_, (h c).2.1.trans ?_, (h c).2.2.1.trans ?_, (h c).2.2.2⟩
  · rw [Cert.ReferenceIdeal.Value.res_dq, e0, e1, e2, e3, e4, e5]
    refine Eq.trans ?_ (Cert.KernelIdeal.Bwd.final_q H).symm
    refine by_heads fun R g l => ?_
    refine (Cert.ReferenceIdeal.Value.dqRows_at H.a0 H.a1 H.a2 H.a3 H.a4 H.a5 R g l).trans ?_
    exact (Cert.KernelIdeal.Bwd.spec_q_at R g l _ rfl rfl).symm
  · rw [Cert.ReferenceIdeal.Value.res_dk, e0, e1, e2, e3, e4, e5]
    refine Eq.trans ?_ (Cert.KernelIdeal.Bwd.final_k H).symm
    refine by_heads fun R g l => ?_
    refine (Cert.ReferenceIdeal.Value.dkRows_at H.a0 H.a1 H.a2 H.a3 H.a4 H.a5 R g l).trans ?_
    exact (Cert.KernelIdeal.Bwd.spec_k_at R g l _ rfl rfl).symm
  · rw [Cert.ReferenceIdeal.Value.res_dv, e0, e1, e2, e3, e5]
    refine Eq.trans ?_ (Cert.KernelIdeal.Bwd.final_v H).symm
    refine by_heads fun R g l => ?_
    refine (Cert.ReferenceIdeal.Value.dvRows_at H.a0 H.a1 H.a2 H.a3 H.a5 R g l).trans ?_
    exact (Cert.KernelIdeal.Bwd.spec_v_at R g l _ rfl rfl).symm

end Cert.Proof.Backward

end
-- ==== Proof.GateUpDx.lean ====
/- The gradient of the feed-forward layer's normed rows through its gate and up matrices: the array the call leaves, and its claims. -/
module

public import proofs.«01_k».proof.Defs
public import proofs.«01_k».proof.Proof.Gen.GateUpDx.Frame
public import proofs.«01_k».proof.Proof.Gen.GateUpDxIdeal.Value
public import proofs.«01_k».proof.Proof.Gen.GateUpDxRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateUpDxIdeal.Value

open Cert.GateUpDxIdeal Cert.GateUpDxIdeal.Gen

variable (m : (ℓ : Loc nD τ sig) → Buf (Elt Ideal) ℓ)

/-- One block of the product, over half of the summed axis, added to what is there. -/
theorem block_at (x : FVec Ideal S1024x1024 .f32) (a : FVec Ideal S1024x2816 .bf16) (b : FVec Ideal S1024x2816 .bf16) (i : Fin 1024) (j : Fin 1024) :
    k0_pay2 (F := Ideal) x a b (ix2 i j) = x (ix2 i j) + ∑ l : Fin 2816, a (ix2 i l) * b (ix2 j l) := by
  pointwise! [k0_pay2]

theorem zero_at (i : Fin 1024) (j : Fin 1024) : k0_pay1 (F := Ideal) (ix2 i j) = 0 := by
  pointwise! [k0_pay1]

theorem idx (t : Fin cfg0.N) : win0_0.index t = ![t.1 / 2, t.1 % 2] ∧ win0_1.index t = ![0, t.1 % 2] ∧ win0_2.index t = ![t.1 / 2, 0] :=
  (by decide +kernel : ∀ t : Fin grid0.N, win0_0.index t = ![t.1 / 2, t.1 % 2] ∧ win0_1.index t = ![0, t.1 % 2] ∧ win0_2.index t = ![t.1 / 2, 0]) t

/-! ## The two factors -/

abbrev as_a (a a' : FVec Ideal S4096x2816 .f32) : FVec Ideal S4096x5632 .bf16 := truncf .bf16 (concatenate S4096x5632 1 [⟨S4096x2816, a⟩, ⟨S4096x2816, a'⟩] concatenates_S4096x2816_S4096x2816_S4096x5632_d1) bitsLt_bf16_f32

theorem V_a (c : Dev nD) : V m c main_v1 = as_a (m ((c : Thread nD τ).loc main_arg3)) (m ((c : Thread nD τ).loc main_arg4)) := by
  unfold V
  simp only [hostOps0]
  after_results

abbrev as_b (b b' : FVec Ideal S1024x2816 .f32) : FVec Ideal S1024x5632 .bf16 := truncf .bf16 (concatenate S1024x5632 1 [⟨S1024x2816, b⟩, ⟨S1024x2816, b'⟩] concatenates_S1024x2816_S1024x2816_S1024x5632_d1) bitsLt_bf16_f32

theorem V_b (c : Dev nD) : V m c main_v3 = as_b (m ((c : Thread nD τ).loc main_arg1)) (m ((c : Thread nD τ).loc main_arg2)) := by
  unfold V
  simp only [hostOps0]
  after_results

/-- The whole product. -/
def spec (a a' : FVec Ideal S4096x2816 .f32) (b b' : FVec Ideal S1024x2816 .f32) : FVec Ideal S4096x1024 .f32 :=
  fun y => ∑ l : Fin 5632, as_a a a' (ix2 (y 0) l) * as_b b b' (ix2 (y 1) l)

theorem read_a (c : Dev nD) (t : Fin cfg0.N) (i : Fin 1024) (l : Fin 2816) :
    iblk m c 0 t (ix2 i l) = as_a (m ((c : Thread nD τ).loc main_arg3)) (m ((c : Thread nD τ).loc main_arg4)) (ix2 ⟨t.1 / 2 * 1024 + i.1, by have : t.1 < 8 := t.2; omega⟩ ⟨t.1 % 2 * 2816 + l.1, by have : t.1 < 8 := t.2; omega⟩) := by
  refine Eq.trans ?_ (congrFun (V_a m c) _)
  blk_ext [iblk, idx t]

theorem read_b (c : Dev nD) (t : Fin cfg0.N) (j : Fin 1024) (l : Fin 2816) :
    iblk m c 1 t (ix2 j l) = as_b (m ((c : Thread nD τ).loc main_arg1)) (m ((c : Thread nD τ).loc main_arg2)) (ix2 j ⟨t.1 % 2 * 2816 + l.1, by have : t.1 < 8 := t.2; omega⟩) := by
  refine Eq.trans ?_ (congrFun (V_b m c) _)
  blk_ext [iblk, idx t]

/-! ## The array left -/

theorem first (c : Dev nD) (t : Fin cfg0.N) (h : t.1 % 2 = 0) :
    (outsAt0 m c t.1 t.2).2 = k0_pay2 (k0_pay1 (F := Ideal)) (iblk m c 0 t) (iblk m c 1 t) := by
  rw [outsAt0_A m c t h (by omega)]
  frame_out

theorem second (c : Dev nD) (t : Fin cfg0.N) (h : t.1 % 2 = 1) :
    (outsAt0 m c t.1 t.2).1 = k0_pay2 (outsAt0 m c (t.1 - 1) (by have := t.2; omega)).2 (iblk m c 0 t) (iblk m c 1 t) := by
  rw [outsAt0_B m c t (by omega) h]
  frame_out
  exact congrArg (fun x => k0_pay2 x _ _) (Memref.IsWhole.read_unread (Memref.isWhole_whole _) _)

/-- A sum as the sums of its halves. -/
theorem halves (f : Fin 5632 → EReal) :
    (0 + ∑ l : Fin 2816, f ⟨l.1, by omega⟩) + ∑ l : Fin 2816, f ⟨2816 + l.1, by omega⟩ = ∑ l : Fin 5632, f l := by
  rw [zero_add]
  exact (Fin.sum_univ_add (a := 2816) (b := 2816) f).symm

theorem written (c : Dev nD) (t : Fin cfg0.N) (h : t.1 % 2 = 1) (y : S1024x1024.Idx) : (dats m 0 c).after 2 t y
    = spec (m ((c : Thread nD τ).loc main_arg3)) (m ((c : Thread nD τ).loc main_arg4)) (m ((c : Thread nD τ).loc main_arg1)) (m ((c : Thread nD τ).loc main_arg2))
        (ix2 ⟨t.1 / 2 * 1024 + (y 0).1, by have : t.1 < 8 := t.2; have : (y 0).1 < 1024 := (y 0).2; omega⟩ (y 1)) := by
  rw [after0_2, second m c t h, first m c ⟨t.1 - 1, by have := t.2; omega⟩ (by show (t.1 - 1) % 2 = 0; omega)]
  obtain ⟨i, j, rfl⟩ : ∃ (i : Fin 1024) (j : Fin 1024), y = ix2 i j := ⟨y 0, y 1, by funext a; fin_cases a <;> rfl⟩
  rw [block_at, block_at, zero_at]
  refine Eq.trans ?_ (halves fun l => as_a (m ((c : Thread nD τ).loc main_arg3)) (m ((c : Thread nD τ).loc main_arg4)) (ix2 ⟨t.1 / 2 * 1024 + i.1, by have : t.1 < 8 := t.2; omega⟩ l) * as_b (m ((c : Thread nD τ).loc main_arg1)) (m ((c : Thread nD τ).loc main_arg2)) (ix2 j l))
  refine congrArg₂ (· + ·) (congrArg (0 + ·) (Finset.sum_congr rfl fun l _ => ?_)) (Finset.sum_congr rfl fun l _ => ?_)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)

omit m in
theorem place (t : Fin cfg0.N) (y : S1024x1024.Idx) : (win0_2.blk t).view.emb y
    = (ix2 ⟨t.1 / 2 * 1024 + (y 0).1, by have : t.1 < 8 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg3)) (m ((c : Thread nD τ).loc main_arg4)) (m ((c : Thread nD τ).loc main_arg1)) (m ((c : Thread nD τ).loc main_arg2)) := by
  refine (dats m 0 c).arrAt_eq_of_covers 2 (spec _ _ _ _) ?_ ?_
  · exact covers
  · intro t hf y
    exact (written m c t ((flush0_2 t).mp hf) y).trans (congrArg (spec _ _ _ _) (place t y).symm)

end Cert.GateUpDxIdeal.Value

namespace Cert.Proof.GateUpDx

theorem frame_p : Cert.quiescent_GateUpDx := fun m ρ _ => Cert.GateUpDx.Gen.frame m ρ
theorem frame_pi : Cert.quiescent_GateUpDxIdeal := fun m ρ _ => Cert.GateUpDxIdeal.Gen.frame m ρ
theorem frame_ri : Cert.quiescent_GateUpDxRefIdeal := fun m ρ _ =>
  (θ_run Cert.GateUpDxRefIdeal.defs _ _).mono (fun r h => ⟨fun c => (h c).2, sem_eq_zero_of_no_sems (by decide) r.2⟩)
    (Cert.GateUpDxRefIdeal.Value.run (F := Ideal) m ρ)

theorem preserves : Cert.preserves_GateUpDx_GateUpDxIdeal := trivial

open Cert.GateUpDxIdeal.Value in
theorem left_a (a a' : FVec Ideal Cert.GateUpDxIdeal.S4096x2816 .f32) (i : Fin 4096) (l : Fin 2816) :
    as_a a a' (ix2 i ⟨l.1, by omega⟩) = a (ix2 i l) := by
  pointwise

open Cert.GateUpDxIdeal.Value in
theorem right_a (a a' : FVec Ideal Cert.GateUpDxIdeal.S4096x2816 .f32) (i : Fin 4096) (l : Fin 2816) :
    as_a a a' (ix2 i ⟨2816 + l.1, by omega⟩) = a' (ix2 i l) := by
  pointwise

open Cert.GateUpDxIdeal.Value in
theorem left_b (b b' : FVec Ideal Cert.GateUpDxIdeal.S1024x2816 .f32) (j : Fin 1024) (l : Fin 2816) :
    as_b b b' (ix2 j ⟨l.1, by omega⟩) = b (ix2 j l) := by
  pointwise

open Cert.GateUpDxIdeal.Value in
theorem right_b (b b' : FVec Ideal Cert.GateUpDxIdeal.S1024x2816 .f32) (j : Fin 1024) (l : Fin 2816) :
    as_b b b' (ix2 j ⟨2816 + l.1, by omega⟩) = b' (ix2 j l) := by
  pointwise

open Cert.GateUpDxRefIdeal Cert.GateUpDxRefIdeal.Gen in
theorem product_at (a : FVec Ideal S4096x2816 .f32) (b : FVec Ideal S1024x2816 .f32) (i : Fin 4096) (j : Fin 1024) :
    Host.dotGeneral dot_S4096x2816_S1024x2816_S4096x1024_1_1_0_0_n_n none a b (ix2 i j) = ∑ l : Fin 2816, a (ix2 i l) * b (ix2 j l) := by
  pointwise!

open Cert.GateUpDxRefIdeal Cert.GateUpDxRefIdeal.Gen in
/-- The reference's sum of two products is one sum over both matrices' columns. -/
theorem reference_eq (a a' : FVec Ideal S4096x2816 .f32) (b b' : FVec Ideal S1024x2816 .f32) :
    addf (Host.dotGeneral dot_S4096x2816_S1024x2816_S4096x1024_1_1_0_0_n_n none a' b') (Host.dotGeneral dot_S4096x2816_S1024x2816_S4096x1024_1_1_0_0_n_n none a b) = Cert.GateUpDxIdeal.Value.spec a a' b b' := by
  funext y
  obtain ⟨i, j, rfl⟩ : ∃ (i : Fin 4096) (j : Fin 1024), y = ix2 i j := ⟨y 0, y 1, by funext a; fin_cases a <;> rfl⟩
  refine Eq.trans ?_ (Fin.sum_univ_add (a := 2816) (b := 2816) fun l : Fin 5632 =>
    Cert.GateUpDxIdeal.Value.as_a a a' (ix2 i l) * Cert.GateUpDxIdeal.Value.as_b b b' (ix2 j l)).symm
  refine Eq.trans (add_comm (_ : EReal) _) (congrArg₂ (· + ·) ?_ ?_)
  · exact (product_at a b i j).trans (Finset.sum_congr rfl fun l _ => (congrArg₂ (· * ·) (left_a a a' i l) (left_b b b' j l)).symm)
  · exact (product_at a' b' i j).trans (Finset.sum_congr rfl fun l _ => (congrArg₂ (· * ·) (right_a a a' i l) (right_b b b' j l)).symm)

open Cert.GateUpDxRefIdeal in
theorem algebraic : Cert.algebraic_GateUpDxIdeal_GateUpDxRefIdeal := by
  intro m g m' g' _ hagree
  refine ⟨_, (θ_run Cert.GateUpDxIdeal.defs _ _).mono (fun r h => h) (Cert.GateUpDxIdeal.Value.run_blocks m g), ?_⟩
  refine (θ_run Cert.GateUpDxRefIdeal.defs _ _).mono (fun r h c => ?_) (Cert.GateUpDxRefIdeal.Value.run (F := Ideal) m' g')
  obtain ⟨e0, e1, e2, e3, e4⟩ := hagree c
  refine ⟨(h c).1.trans ?_, (h c).2⟩
  rw [e1, e2, e3, e4]
  exact (reference_eq _ _ _ _).trans (Cert.GateUpDxIdeal.Value.final m c).symm

end Cert.Proof.GateUpDx

end
-- ==== Proof.GateUpDw.lean ====
/- The gradient of the feed-forward layer's gate and up matrices, side by side: the array the call leaves, and its claims. -/
module

public import proofs.«01_k».proof.Defs
public import proofs.«01_k».proof.Proof.Gen.GateUpDw.Frame
public import proofs.«01_k».proof.Proof.Gen.GateUpDwIdeal.Value
public import proofs.«01_k».proof.Proof.Gen.GateUpDwRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateUpDwIdeal.Value

open Cert.GateUpDwIdeal Cert.GateUpDwIdeal.Gen

variable (m : (ℓ : Loc nD τ sig) → Buf (Elt Ideal) ℓ)

/-- One block of the product, over half of the summed axis, added to what is there. -/
theorem block_at (x : FVec Ideal S1024x1408 .f32) (a : FVec Ideal S2048x1024 .bf16) (b : FVec Ideal S2048x1408 .bf16) (i : Fin 1024) (j : Fin 1408) :
    k0_pay2 (F := Ideal) x a b (ix2 i j) = x (ix2 i j) + ∑ l : Fin 2048, a (ix2 l i) * b (ix2 l j) := by
  pointwise! [k0_pay2]

theorem zero_at (i : Fin 1024) (j : Fin 1408) : k0_pay1 (F := Ideal) (ix2 i j) = 0 := by
  pointwise! [k0_pay1]

theorem idx (t : Fin cfg0.N) : win0_0.index t = ![t.1 % 2, 0] ∧ win0_1.index t = ![t.1 % 2, t.1 / 2] ∧ win0_2.index t = ![0, t.1 / 2] :=
  (by decide +kernel : ∀ t : Fin grid0.N, win0_0.index t = ![t.1 % 2, 0] ∧ win0_1.index t = ![t.1 % 2, t.1 / 2] ∧ win0_2.index t = ![0, t.1 / 2]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg0)) := by
  unfold V
  simp only [hostOps0]
  after_results

abbrev as_b (b b' : FVec Ideal S4096x2816 .f32) : FVec Ideal S4096x5632 .bf16 := truncf .bf16 (concatenate S4096x5632 1 [⟨S4096x2816, b⟩, ⟨S4096x2816, b'⟩] concatenates_S4096x2816_S4096x2816_S4096x5632_d1) bitsLt_bf16_f32

theorem V_b (c : Dev nD) : V m c main_v2 = as_b (m ((c : Thread nD τ).loc main_arg3)) (m ((c : Thread nD τ).loc main_arg4)) := by
  unfold V
  simp only [hostOps0]
  after_results

/-- The whole product. -/
def spec (a : FVec Ideal S4096x1024 .f32) (b b' : FVec Ideal S4096x2816 .f32) : FVec Ideal S1024x5632 .f32 :=
  fun y => ∑ l : Fin 4096, as_a a (ix2 l (y 0)) * as_b b b' (ix2 l (y 1))

theorem read_a (c : Dev nD) (t : Fin cfg0.N) (i : Fin 1024) (l : Fin 2048) :
    iblk m c 0 t (ix2 l i) = as_a (m ((c : Thread nD τ).loc main_arg0)) (ix2 ⟨t.1 % 2 * 2048 + l.1, by have : t.1 < 8 := t.2; omega⟩ i) := by
  refine Eq.trans ?_ (congrFun (V_a m c) _)
  blk_ext [iblk, idx t]

theorem read_b (c : Dev nD) (t : Fin cfg0.N) (j : Fin 1408) (l : Fin 2048) :
    iblk m c 1 t (ix2 l j) = as_b (m ((c : Thread nD τ).loc main_arg3)) (m ((c : Thread nD τ).loc main_arg4)) (ix2 ⟨t.1 % 2 * 2048 + l.1, by have : t.1 < 8 := t.2; omega⟩ ⟨t.1 / 2 * 1408 + j.1, by have : t.1 < 8 := t.2; omega⟩) := by
  refine Eq.trans ?_ (congrFun (V_b m c) _)
  blk_ext [iblk, idx t]

/-! ## The array left -/

theorem first (c : Dev nD) (t : Fin cfg0.N) (h : t.1 % 2 = 0) :
    (outsAt0 m c t.1 t.2).2 = k0_pay2 (k0_pay1 (F := Ideal)) (iblk m c 0 t) (iblk m c 1 t) := by
  rw [outsAt0_A m c t h (by omega)]
  frame_out

theorem second (c : Dev nD) (t : Fin cfg0.N) (h : t.1 % 2 = 1) :
    (outsAt0 m c t.1 t.2).1 = k0_pay2 (outsAt0 m c (t.1 - 1) (by have := t.2; omega)).2 (iblk m c 0 t) (iblk m c 1 t) := by
  rw [outsAt0_B m c t (by omega) h]
  frame_out
  exact congrArg (fun x => k0_pay2 x _ _) (Memref.IsWhole.read_unread (Memref.isWhole_whole _) _)

/-- A sum as the sums of its halves. -/
theorem halves (f : Fin 4096 → EReal) :
    (0 + ∑ l : Fin 2048, f ⟨l.1, by omega⟩) + ∑ l : Fin 2048, f ⟨2048 + l.1, by omega⟩ = ∑ l : Fin 4096, f l := by
  rw [zero_add]
  exact (Fin.sum_univ_add (a := 2048) (b := 2048) f).symm

theorem written (c : Dev nD) (t : Fin cfg0.N) (h : t.1 % 2 = 1) (y : S1024x1408.Idx) : (dats m 0 c).after 2 t y
    = spec (m ((c : Thread nD τ).loc main_arg0)) (m ((c : Thread nD τ).loc main_arg3)) (m ((c : Thread nD τ).loc main_arg4))
        (ix2 (y 0) ⟨t.1 / 2 * 1408 + (y 1).1, by have : t.1 < 8 := t.2; have : (y 1).1 < 1408 := (y 1).2; omega⟩) := by
  rw [after0_2, second m c t h, first m c ⟨t.1 - 1, by have := t.2; omega⟩ (by show (t.1 - 1) % 2 = 0; omega)]
  obtain ⟨i, j, rfl⟩ : ∃ (i : Fin 1024) (j : Fin 1408), y = ix2 i j := ⟨y 0, y 1, by funext a; fin_cases a <;> rfl⟩
  rw [block_at, block_at, zero_at]
  refine Eq.trans ?_ (halves fun l => as_a (m ((c : Thread nD τ).loc main_arg0)) (ix2 l i) * as_b (m ((c : Thread nD τ).loc main_arg3)) (m ((c : Thread nD τ).loc main_arg4)) (ix2 l ⟨t.1 / 2 * 1408 + j.1, by have : t.1 < 8 := t.2; omega⟩))
  refine congrArg₂ (· + ·) (congrArg (0 + ·) (Finset.sum_congr rfl fun l _ => ?_)) (Finset.sum_congr rfl fun l _ => ?_)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)

omit m in
theorem place (t : Fin cfg0.N) (y : S1024x1408.Idx) : (win0_2.blk t).view.emb y
    = (ix2 (y 0) ⟨t.1 / 2 * 1408 + (y 1).1, by have : t.1 < 8 := t.2; have : (y 1).1 < 1408 := (y 1).2; omega⟩ : S1024x5632.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg3)) (m ((c : Thread nD τ).loc main_arg4)) := by
  refine (dats m 0 c).arrAt_eq_of_covers 2 (spec _ _ _) ?_ ?_
  · exact covers
  · intro t hf y
    exact (written m c t ((flush0_2 t).mp hf) y).trans (congrArg (spec _ _ _) (place t y).symm)

end Cert.GateUpDwIdeal.Value

namespace Cert.Proof.GateUpDw

theorem frame_p : Cert.quiescent_GateUpDw := fun m ρ _ => Cert.GateUpDw.Gen.frame m ρ
theorem frame_pi : Cert.quiescent_GateUpDwIdeal := fun m ρ _ => Cert.GateUpDwIdeal.Gen.frame m ρ
theorem frame_ri : Cert.quiescent_GateUpDwRefIdeal := fun m ρ _ =>
  (θ_run Cert.GateUpDwRefIdeal.defs _ _).mono (fun r h => ⟨fun c => (h c).2, sem_eq_zero_of_no_sems (by decide) r.2⟩)
    (Cert.GateUpDwRefIdeal.Value.run (F := Ideal) m ρ)

theorem preserves : Cert.preserves_GateUpDw_GateUpDwIdeal := trivial

open Cert.GateUpDwRefIdeal Cert.GateUpDwRefIdeal.Gen in
/-- The reference's two gradients side by side are the product with the two cotangents side by side. -/
theorem reference_eq (a : FVec Ideal S4096x1024 .f32) (b b' : FVec Ideal S4096x2816 .f32) :
    concatenate S1024x5632 1 [⟨S1024x2816, (transpose S1024x2816 [1, 0] (Host.dotGeneral dot_S4096x2816_S4096x1024_S2816x1024_0_0_1_1_n_n none b a) transposes_S2816x1024_S1024x2816_1_0)⟩, ⟨S1024x2816, (transpose S1024x2816 [1, 0] (Host.dotGeneral dot_S4096x2816_S4096x1024_S2816x1024_0_0_1_1_n_n none b' a) transposes_S2816x1024_S1024x2816_1_0)⟩] concatenates_S1024x2816_S1024x2816_S1024x5632_d1 = Cert.GateUpDwIdeal.Value.spec a b b' := by
  funext y
  obtain ⟨i, j, rfl⟩ : ∃ (i : Fin 1024) (j : Fin 5632), y = ix2 i j := ⟨y 0, y 1, by funext a; fin_cases a <;> rfl⟩
  unfold Cert.GateUpDwIdeal.Value.spec
  pointwise
  by_cases h : j.1 < 2816
  · simp only [h, dif_pos, mul_comm]
  · simp only [h, dif_neg, not_false_iff, mul_comm]

open Cert.GateUpDwRefIdeal in
theorem algebraic : Cert.algebraic_GateUpDwIdeal_GateUpDwRefIdeal := by
  intro m g m' g' _ hagree
  refine ⟨_, (θ_run Cert.GateUpDwIdeal.defs _ _).mono (fun r h => h) (Cert.GateUpDwIdeal.Value.run_blocks m g), ?_⟩
  refine (θ_run Cert.GateUpDwRefIdeal.defs _ _).mono (fun r h c => ?_) (Cert.GateUpDwRefIdeal.Value.run (F := Ideal) m' g')
  obtain ⟨e0, e1, e2, e3, e4⟩ := hagree c
  refine ⟨(h c).1.trans ?_, (h c).2⟩
  rw [e0, e3, e4]
  exact (reference_eq _ _ _).trans (Cert.GateUpDwIdeal.Value.final m c).symm

end Cert.Proof.GateUpDw

end
-- ==== Proof.DownDx.lean ====
/- The gradient of the feed-forward layer's activations through its second matrix: the array the call leaves, and its claims. -/
module

public import proofs.«01_k».proof.Defs
public import proofs.«01_k».proof.Proof.Gen.DownDx.Frame
public import proofs.«01_k».proof.Proof.Gen.DownDxIdeal.Value
public import proofs.«01_k».proof.Proof.Gen.DownDxRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownDxIdeal.Value

open Cert.DownDxIdeal Cert.DownDxIdeal.Gen

variable (m : (ℓ : Loc nD τ sig) → Buf (Elt Ideal) ℓ)

/-- One block of the product. -/
theorem block_at (a : FVec Ideal S1024x1024 .bf16) (b : FVec Ideal S1408x1024 .bf16) (i : Fin 1024) (j : Fin 1408) :
    k0_pay1 (F := Ideal) a b (ix2 i j) = ∑ l : Fin 1024, a (ix2 i l) * b (ix2 j l) := by
  pointwise! [k0_pay1]

theorem idx (t : Fin cfg0.N) : win0_0.index t = ![t.1 / 2, 0] ∧ win0_1.index t = ![t.1 % 2, 0] ∧ win0_2.index t = ![t.1 / 2, t.1 % 2] :=
  (by decide +kernel : ∀ t : Fin grid0.N, win0_0.index t = ![t.1 / 2, 0] ∧ win0_1.index t = ![t.1 % 2, 0] ∧ win0_2.index t = ![t.1 / 2, t.1 % 2]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg2)) := by
  unfold V
  simp only [hostOps0]
  after_results

abbrev as_b (b : FVec Ideal S2816x1024 .f32) : FVec Ideal S2816x1024 .bf16 := truncf .bf16 b bitsLt_bf16_f32

theorem V_b (c : Dev nD) : V m c main_v1 = as_b (m ((c : Thread nD τ).loc main_arg1)) := by
  unfold V
  simp only [hostOps0]
  after_results

/-- The whole product. -/
def spec (a : FVec Ideal S4096x1024 .f32) (b : FVec Ideal S2816x1024 .f32) : FVec Ideal S4096x2816 .bf16 :=
  fun y => ∑ l : Fin 1024, as_a a (ix2 (y 0) l) * as_b b (ix2 (y 1) l)

theorem read_a (c : Dev nD) (t : Fin cfg0.N) (i : Fin 1024) (l : Fin 1024) :
    iblk m c 0 t (ix2 i l) = as_a (m ((c : Thread nD τ).loc main_arg2)) (ix2 ⟨t.1 / 2 * 1024 + i.1, by have : t.1 < 8 := t.2; omega⟩ l) := by
  refine Eq.trans ?_ (congrFun (V_a m c) _)
  blk_ext [iblk, idx t]

theorem read_b (c : Dev nD) (t : Fin cfg0.N) (j : Fin 1408) (l : Fin 1024) :
    iblk m c 1 t (ix2 j l) = as_b (m ((c : Thread nD τ).loc main_arg1)) (ix2 ⟨t.1 % 2 * 1408 + j.1, by have : t.1 < 8 := t.2; omega⟩ l) := by
  refine Eq.trans ?_ (congrFun (V_b m c) _)
  blk_ext [iblk, idx t]

/-! ## The array left -/

theorem out_at (a : FVec Ideal S1024x1024 .bf16) (b : FVec Ideal S1408x1024 .bf16) (i : Fin 1024) (j : Fin 1408) :
    out0_2 (F := Ideal) a b (ix2 i j) = ∑ l : Fin 1024, a (ix2 i l) * b (ix2 j l) := by
  frame_out
  exact block_at a b i j

theorem written (c : Dev nD) (t : Fin cfg0.N) (y : S1024x1408.Idx) : (dats m 0 c).after 2 t y
    = spec (m ((c : Thread nD τ).loc main_arg2)) (m ((c : Thread nD τ).loc main_arg1))
        (ix2 ⟨t.1 / 2 * 1024 + (y 0).1, by have : t.1 < 8 := t.2; have : (y 0).1 < 1024 := (y 0).2; omega⟩ ⟨t.1 % 2 * 1408 + (y 1).1, by have : t.1 < 8 := t.2; have : (y 1).1 < 1408 := (y 1).2; omega⟩) := by
  rw [after0_2]
  obtain ⟨i, j, rfl⟩ : ∃ (i : Fin 1024) (j : Fin 1408), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1408.Idx) : (win0_2.blk t).view.emb y
    = (ix2 ⟨t.1 / 2 * 1024 + (y 0).1, by have : t.1 < 8 := t.2; have : (y 0).1 < 1024 := (y 0).2; omega⟩ ⟨t.1 % 2 * 1408 + (y 1).1, by have : t.1 < 8 := t.2; have : (y 1).1 < 1408 := (y 1).2; omega⟩ : S4096x2816.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.DownDxIdeal.Value

namespace Cert.Proof.DownDx

theorem frame_p : Cert.quiescent_DownDx := fun m ρ _ => Cert.DownDx.Gen.frame m ρ
theorem frame_pi : Cert.quiescent_DownDxIdeal := fun m ρ _ => Cert.DownDxIdeal.Gen.frame m ρ
theorem frame_ri : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem preserves : Cert.preserves_DownDx_DownDxIdeal := trivial

open Cert.DownDxRefIdeal Cert.DownDxRefIdeal.Gen in
/-- The reference's gradient is the same sums. -/
theorem reference_eq (a : FVec Ideal S4096x1024 .f32) (b : FVec Ideal S2816x1024 .f32) :
    truncf .bf16 (Host.dotGeneral dot_S4096x1024_S2816x1024_S4096x2816_1_1_0_0_n_n none a b) bitsLt_bf16_f32 = Cert.DownDxIdeal.Value.spec a b := by
  funext y
  obtain ⟨i, j, rfl⟩ : ∃ (i : Fin 4096) (j : Fin 2816), y = ix2 i j := ⟨y 0, y 1, by funext a; fin_cases a <;> rfl⟩
  unfold Cert.DownDxIdeal.Value.spec
  pointwise!

open Cert.DownDxRefIdeal in
theorem algebraic : Cert.algebraic_DownDxIdeal_DownDxRefIdeal := by
  intro m g m' g' _ hagree
  refine ⟨_, (θ_run Cert.DownDxIdeal.defs _ _).mono (fun r h => h) (Cert.DownDxIdeal.Value.run_blocks m g), ?_⟩
  refine (θ_run Cert.DownDxRefIdeal.defs _ _).mono (fun r h c => ?_) (Cert.DownDxRefIdeal.Value.run (F := Ideal) m' g')
  obtain ⟨e0, e1, e2⟩ := hagree c
  refine ⟨(h c).1.trans ?_, (h c).2⟩
  rw [e1, e2]
  exact (reference_eq _ _).trans (Cert.DownDxIdeal.Value.final m c).symm

end Cert.Proof.DownDx

end
-- ==== Proof.DownDw.lean ====
/- The gradient of the feed-forward layer's second matrix: the array the call leaves, and its claims. -/
module

public import proofs.«01_k».proof.Defs
public import proofs.«01_k».proof.Proof.Gen.DownDw.Frame
public import proofs.«01_k».proof.Proof.Gen.DownDwIdeal.Value
public import proofs.«01_k».proof.Proof.Gen.DownDwRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownDwIdeal.Value

open Cert.DownDwIdeal Cert.DownDwIdeal.Gen

variable (m : (ℓ : Loc nD τ sig) → Buf (Elt Ideal) ℓ)

/-- One block of the product, over half of the summed axis, added to what is there. -/
theorem block_at (x : FVec Ideal S1408x1024 .f32) (a : FVec Ideal S2048x1408 .bf16) (b : FVec Ideal S2048x1024 .bf16) (i : Fin 1408) (j : Fin 1024) :
    k0_pay2 (F := Ideal) x a b (ix2 i j) = x (ix2 i j) + ∑ l : Fin 2048, a (ix2 l i) * b (ix2 l j) := by
  pointwise! [k0_pay2]

theorem zero_at (i : Fin 1408) (j : Fin 1024) : k0_pay1 (F := Ideal) (ix2 i j) = 0 := by
  pointwise! [k0_pay1]

theorem idx (t : Fin cfg0.N) : win0_0.index t = ![t.1 % 2, t.1 / 2] ∧ win0_1.index t = ![t.1 % 2, 0] ∧ win0_2.index t = ![t.1 / 2, 0] :=
  (by decide +kernel : ∀ t : Fin grid0.N, win0_0.index t = ![t.1 % 2, t.1 / 2] ∧ win0_1.index t = ![t.1 % 2, 0] ∧ win0_2.index t = ![t.1 / 2, 0]) t

/-! ## The two factors -/

abbrev as_a (a : FVec Ideal S4096x2816 .f32) : FVec Ideal S4096x2816 .bf16 := truncf .bf16 a bitsLt_bf16_f32

theorem V_a (c : Dev nD) : V m c main_v0 = as_a (m ((c : Thread nD τ).loc main_arg0)) := by
  unfold V
  simp only [hostOps0]
  after_results

abbrev as_b (b : FVec Ideal S4096x1024 .f32) : FVec Ideal S4096x1024 .bf16 := truncf .bf16 b bitsLt_bf16_f32

theorem V_b (c : Dev nD) : V m c main_v1 = as_b (m ((c : Thread nD τ).loc main_arg2)) := by
  unfold V
  simp only [hostOps0]
  after_results

/-- The whole product. -/
def spec (a : FVec Ideal S4096x2816 .f32) (b : FVec Ideal S4096x1024 .f32) : FVec Ideal S2816x1024 .f32 :=
  fun y => ∑ l : Fin 4096, as_a a (ix2 l (y 0)) * as_b b (ix2 l (y 1))

theorem read_a (c : Dev nD) (t : Fin cfg0.N) (i : Fin 1408) (l : Fin 2048) :
    iblk m c 0 t (ix2 l i) = as_a (m ((c : Thread nD τ).loc main_arg0)) (ix2 ⟨t.1 % 2 * 2048 + l.1, by have : t.1 < 4 := t.2; omega⟩ ⟨t.1 / 2 * 1408 + i.1, by have : t.1 < 4 := t.2; omega⟩) := by
  refine Eq.trans ?_ (congrFun (V_a m c) _)
  blk_ext [iblk, idx t]

theorem read_b (c : Dev nD) (t : Fin cfg0.N) (j : Fin 1024) (l : Fin 2048) :
    iblk m c 1 t (ix2 l j) = as_b (m ((c : Thread nD τ).loc main_arg2)) (ix2 ⟨t.1 % 2 * 2048 + l.1, by have : t.1 < 4 := t.2; omega⟩ j) := by
  refine Eq.trans ?_ (congrFun (V_b m c) _)
  blk_ext [iblk, idx t]

/-! ## The array left -/

theorem first (c : Dev nD) (t : Fin cfg0.N) (h : t.1 % 2 = 0) :
    (outsAt0 m c t.1 t.2).2 = k0_pay2 (k0_pay1 (F := Ideal)) (iblk m c 0 t) (iblk m c 1 t) := by
  rw [outsAt0_A m c t h (by omega)]
  frame_out

theorem second (c : Dev nD) (t : Fin cfg0.N) (h : t.1 % 2 = 1) :
    (outsAt0 m c t.1 t.2).1 = k0_pay2 (outsAt0 m c (t.1 - 1) (by have := t.2; omega)).2 (iblk m c 0 t) (iblk m c 1 t) := by
  rw [outsAt0_B m c t (by omega) h]
  frame_out
  exact congrArg (fun x => k0_pay2 x _ _) (Memref.IsWhole.read_unread (Memref.isWhole_whole _) _)

/-- A sum as the sums of its halves. -/
theorem halves (f : Fin 4096 → EReal) :
    (0 + ∑ l : Fin 2048, f ⟨l.1, by omega⟩) + ∑ l : Fin 2048, f ⟨2048 + l.1, by omega⟩ = ∑ l : Fin 4096, f l := by
  rw [zero_add]
  exact (Fin.sum_univ_add (a := 2048) (b := 2048) f).symm

theorem written (c : Dev nD) (t : Fin cfg0.N) (h : t.1 % 2 = 1) (y : S1408x1024.Idx) : (dats m 0 c).after 2 t y
    = spec (m ((c : Thread nD τ).loc main_arg0)) (m ((c : Thread nD τ).loc main_arg2))
        (ix2 ⟨t.1 / 2 * 1408 + (y 0).1, by have : t.1 < 4 := t.2; have : (y 0).1 < 1408 := (y 0).2; omega⟩ (y 1)) := by
  rw [after0_2, second m c t h, first m c ⟨t.1 - 1, by have := t.2; omega⟩ (by show (t.1 - 1) % 2 = 0; omega)]
  obtain ⟨i, j, rfl⟩ : ∃ (i : Fin 1408) (j : Fin 1024), y = ix2 i j := ⟨y 0, y 1, by funext a; fin_cases a <;> rfl⟩
  rw [block_at, block_at, zero_at]
  refine Eq.trans ?_ (halves fun l => as_a (m ((c : Thread nD τ).loc main_arg0)) (ix2 l ⟨t.1 / 2 * 1408 + i.1, by have : t.1 < 4 := t.2; omega⟩) * as_b (m ((c : Thread nD τ).loc main_arg2)) (ix2 l j))
  refine congrArg₂ (· + ·) (congrArg (0 + ·) (Finset.sum_congr rfl fun l _ => ?_)) (Finset.sum_congr rfl fun l _ => ?_)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)

omit m in
theorem place (t : Fin cfg0.N) (y : S1408x1024.Idx) : (win0_2.blk t).view.emb y
    = (ix2 ⟨t.1 / 2 * 1408 + (y 0).1, by have : t.1 < 4 := t.2; have : (y 0).1 < 1408 := (y 0).2; omega⟩ (y 1) : S2816x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t hf y
    exact (written m c t ((flush0_2 t).mp hf) y).trans (congrArg (spec _ _) (place t y).symm)

end Cert.DownDwIdeal.Value

namespace Cert.Proof.DownDw

theorem frame_p : Cert.quiescent_DownDw := fun m ρ _ => Cert.DownDw.Gen.frame m ρ
theorem frame_pi : Cert.quiescent_DownDwIdeal := fun m ρ _ => Cert.DownDwIdeal.Gen.frame m ρ
theorem frame_ri : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem preserves : Cert.preserves_DownDw_DownDwIdeal := trivial

open Cert.DownDwRefIdeal Cert.DownDwRefIdeal.Gen in
/-- The reference's gradient is the same sums. -/
theorem reference_eq (a : FVec Ideal S4096x2816 .f32) (b : FVec Ideal S4096x1024 .f32) :
    transpose S2816x1024 [1, 0] (Host.dotGeneral dot_S4096x1024_S4096x2816_S1024x2816_0_0_1_1_n_n none b a) transposes_S1024x2816_S2816x1024_1_0 = Cert.DownDwIdeal.Value.spec a b := by
  funext y
  obtain ⟨i, j, rfl⟩ : ∃ (i : Fin 2816) (j : Fin 1024), y = ix2 i j := ⟨y 0, y 1, by funext a; fin_cases a <;> rfl⟩
  unfold Cert.DownDwIdeal.Value.spec
  pointwise
  exact Finset.sum_congr rfl fun l _ => mul_comm _ _

open Cert.DownDwRefIdeal in
theorem algebraic : Cert.algebraic_DownDwIdeal_DownDwRefIdeal := by
  intro m g m' g' _ hagree
  refine ⟨_, (θ_run Cert.DownDwIdeal.defs _ _).mono (fun r h => h) (Cert.DownDwIdeal.Value.run_blocks m g), ?_⟩
  refine (θ_run Cert.DownDwRefIdeal.defs _ _).mono (fun r h c => ?_) (Cert.DownDwRefIdeal.Value.run (F := Ideal) m' g')
  obtain ⟨e0, e1, e2⟩ := hagree c
  refine ⟨(h c).1.trans ?_, (h c).2⟩
  rw [e0, e2]
  exact (reference_eq _ _).trans (Cert.DownDwIdeal.Value.final m c).symm

end Cert.Proof.DownDw

end
-- ==== Proof.GateUp.lean ====
/- The forward product of the feed-forward layer's gate and up matrices, side by side: the array the call leaves, and its claims. -/
module

public import proofs.«01_k».proof.Defs
public import proofs.«01_k».proof.Proof.Gen.GateUp.Frame
public import proofs.«01_k».proof.Proof.Gen.GateUpIdeal.Value
public import proofs.«01_k».proof.Proof.Gen.GateUpRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateUpIdeal.Value

open Cert.GateUpIdeal Cert.GateUpIdeal.Gen

variable (m : (ℓ : Loc nD τ sig) → Buf (Elt Ideal) ℓ)

/-- One block of the product. -/
theorem block_at (a : FVec Ideal S1024x1024 .bf16) (b : FVec Ideal S1024x1408 .bf16) (i : Fin 1024) (j : Fin 1408) :
    k0_pay1 (F := Ideal) a b (ix2 i j) = ∑ l : Fin 1024, a (ix2 i l) * b (ix2 l j) := by
  pointwise! [k0_pay1]

theorem idx (t : Fin cfg0.N) : win0_0.index t = ![t.1 / 4, 0] ∧ win0_1.index t = ![0, t.1 % 4] ∧ win0_2.index t = ![t.1 / 4, t.1 % 4] :=
  (by decide +kernel : ∀ t : Fin grid0.N, win0_0.index t = ![t.1 / 4, 0] ∧ win0_1.index t = ![0, t.1 % 4] ∧ win0_2.index t = ![t.1 / 4, t.1 % 4]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg0)) := by
  unfold V
  simp only [hostOps0]
  after_results

abbrev as_b (b b' : FVec Ideal S1024x2816 .f32) : FVec Ideal S1024x5632 .bf16 := truncf .bf16 (concatenate S1024x5632 1 [⟨S1024x2816, b⟩, ⟨S1024x2816, b'⟩] concatenates_S1024x2816_S1024x2816_S1024x5632_d1) bitsLt_bf16_f32

theorem V_b (c : Dev nD) : V m c main_v2 = as_b (m ((c : Thread nD τ).loc main_arg1)) (m ((c : Thread nD τ).loc main_arg2)) := by
  unfold V
  simp only [hostOps0]
  after_results

/-- The whole product. -/
def spec (a : FVec Ideal S4096x1024 .f32) (b b' : FVec Ideal S1024x2816 .f32) : FVec Ideal S4096x5632 .bf16 :=
  fun y => ∑ l : Fin 1024, as_a a (ix2 (y 0) l) * as_b b b' (ix2 l (y 1))

theorem read_a (c : Dev nD) (t : Fin cfg0.N) (i : Fin 1024) (l : Fin 1024) :
    iblk m c 0 t (ix2 i l) = as_a (m ((c : Thread nD τ).loc main_arg0)) (ix2 ⟨t.1 / 4 * 1024 + i.1, by have : t.1 < 16 := t.2; omega⟩ l) := by
  refine Eq.trans ?_ (congrFun (V_a m c) _)
  blk_ext [iblk, idx t]

theorem read_b (c : Dev nD) (t : Fin cfg0.N) (j : Fin 1408) (l : Fin 1024) :
    iblk m c 1 t (ix2 l j) = as_b (m ((c : Thread nD τ).loc main_arg1)) (m ((c : Thread nD τ).loc main_arg2)) (ix2 l ⟨t.1 % 4 * 1408 + j.1, by have : t.1 < 16 := t.2; omega⟩) := by
  refine Eq.trans ?_ (congrFun (V_b m c) _)
  blk_ext [iblk, idx t]

/-! ## The array left -/

theorem out_at (a : FVec Ideal S1024x1024 .bf16) (b : FVec Ideal S1024x1408 .bf16) (i : Fin 1024) (j : Fin 1408) :
    out0_2 (F := Ideal) a b (ix2 i j) = ∑ l : Fin 1024, a (ix2 i l) * b (ix2 l j) := by
  frame_out
  exact block_at a b i j

theorem written (c : Dev nD) (t : Fin cfg0.N) (y : S1024x1408.Idx) : (dats m 0 c).after 2 t y
    = spec (m ((c : Thread nD τ).loc main_arg0)) (m ((c : Thread nD τ).loc main_arg1)) (m ((c : Thread nD τ).loc main_arg2))
        (ix2 ⟨t.1 / 4 * 1024 + (y 0).1, by have : t.1 < 16 := t.2; have : (y 0).1 < 1024 := (y 0).2; omega⟩ ⟨t.1 % 4 * 1408 + (y 1).1, by have : t.1 < 16 := t.2; have : (y 1).1 < 1408 := (y 1).2; omega⟩) := by
  rw [after0_2]
  obtain ⟨i, j, rfl⟩ : ∃ (i : Fin 1024) (j : Fin 1408), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1408.Idx) : (win0_2.blk t).view.emb y
    = (ix2 ⟨t.1 / 4 * 1024 + (y 0).1, by have : t.1 < 16 := t.2; have : (y 0).1 < 1024 := (y 0).2; omega⟩ ⟨t.1 % 4 * 1408 + (y 1).1, by have : t.1 < 16 := t.2; have : (y 1).1 < 1408 := (y 1).2; omega⟩ : S4096x5632.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) (m ((c : Thread nD τ).loc main_arg2)) := by
  refine (dats m 0 c).arrAt_eq_of_covers 2 (spec _ _ _) ?_ ?_
  · exact covers
  · intro t _ y
    exact (written m c t y).trans (congrArg (spec _ _ _) (place t y).symm)

end Cert.GateUpIdeal.Value

namespace Cert.Proof.GateUp

theorem frame_p : Cert.quiescent_GateUp := fun m ρ _ => Cert.GateUp.Gen.frame m ρ
theorem frame_pi : Cert.quiescent_GateUpIdeal := fun m ρ _ => Cert.GateUpIdeal.Gen.frame m ρ
theorem frame_ri : Cert.quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

theorem preserves : Cert.preserves_GateUp_GateUpIdeal := trivial

open Cert.GateUpRefIdeal Cert.GateUpRefIdeal.Gen in
/-- The reference's two products side by side are the product with the two matrices side by side. -/
theorem reference_eq (a : FVec Ideal S4096x1024 .f32) (b b' : FVec Ideal S1024x2816 .f32) :
    truncf .bf16 (concatenate S4096x5632 1 [⟨S4096x2816, (Host.dotGeneral dot_S4096x1024_S1024x2816_S4096x2816_1_0_0_1_n_n none a b)⟩, ⟨S4096x2816, (Host.dotGeneral dot_S4096x1024_S1024x2816_S4096x2816_1_0_0_1_n_n none a b')⟩] concatenates_S4096x2816_S4096x2816_S4096x5632_d1) bitsLt_bf16_f32 = Cert.GateUpIdeal.Value.spec a b b' := by
  funext y
  obtain ⟨i, j, rfl⟩ : ∃ (i : Fin 4096) (j : Fin 5632), y = ix2 i j := ⟨y 0, y 1, by funext a; fin_cases a <;> rfl⟩
  unfold Cert.GateUpIdeal.Value.spec
  pointwise
  by_cases h : j.1 < 2816
  · simp only [h, dif_pos]
  · simp only [h, dif_neg, not_false_iff]

open Cert.GateUpRefIdeal in
theorem algebraic : Cert.algebraic_GateUpIdeal_GateUpRefIdeal := by
  intro m g m' g' _ hagree
  refine ⟨_, (θ_run Cert.GateUpIdeal.defs _ _).mono (fun r h => h) (Cert.GateUpIdeal.Value.run_blocks m g), ?_⟩
  refine (θ_run Cert.GateUpRefIdeal.defs _ _).mono (fun r h c => ?_) (Cert.GateUpRefIdeal.Value.run (F := Ideal) m' g')
  obtain ⟨e0, e1, e2⟩ := hagree c
  refine ⟨(h c).1.trans ?_, (h c).2⟩
  rw [e0, e1, e2]
  exact (reference_eq _ _ _).trans (Cert.GateUpIdeal.Value.final m c).symm

end Cert.Proof.GateUp

end
-- ==== Proof.Down.lean ====
/- The forward product of the feed-forward layer's second matrix: the array it leaves, and its claims. -/
module

public import proofs.«01_k».proof.Defs
public import proofs.«01_k».proof.Proof.Gen.Down.Frame
public import proofs.«01_k».proof.Proof.Gen.DownIdeal.Value
public import proofs.«01_k».proof.Proof.Gen.DownRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- One block of the product. -/
theorem block_at (a : FVec Ideal S1024x2816 .bf16) (b : FVec Ideal S2816x1024 .bf16) (i j : Fin 1024) :
    k0_pay1 (F := Ideal) a b (ix2 i j) = ∑ l : Fin 2816, a (ix2 i l) * b (ix2 l j) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

abbrev as_a (a : FVec Ideal S4096x2816 .f32) : FVec Ideal S4096x2816 .bf16 := truncf .bf16 a bitsLt_bf16_f32
abbrev as_b (b : FVec Ideal S2816x1024 .f32) : FVec Ideal S2816x1024 .bf16 := truncf .bf16 b bitsLt_bf16_f32

theorem V_a (c : Dev nD) : V m c main_v0 = as_a (m ((c : Thread nD τ).loc main_arg0)) := by
  unfold V
  simp only [hostOps0]
  after_results

theorem V_b (c : Dev nD) : V m c main_v1 = as_b (m ((c : Thread nD τ).loc main_arg1)) := by
  unfold V
  simp only [hostOps0]
  after_results

/-- The whole product. -/
def spec (a : FVec Ideal S4096x2816 .f32) (b : FVec Ideal S2816x1024 .f32) : FVec Ideal S4096x1024 .f32 :=
  fun j => ∑ l : Fin 2816, a (ix2 (j 0) l) * b (ix2 l (j 1))

theorem read_a (c : Dev nD) (t : Fin cfg0.N) (i : Fin 1024) (l : Fin 2816) :
    iblk m c 0 t (ix2 i l) = m ((c : Thread nD τ).loc main_arg0) (ix2 ⟨t.1 * 1024 + i.1, by have : t.1 < 4 := t.2; omega⟩ l) := by
  refine Eq.trans ?_ (congrFun (V_a m c) _)
  blk_ext [iblk, idx t]

theorem read_b (c : Dev nD) (t : Fin cfg0.N) (l : Fin 2816) (j : Fin 1024) :
    iblk m c 1 t (ix2 l j) = m ((c : Thread nD τ).loc main_arg1) (ix2 l j) := by
  refine Eq.trans ?_ (congrFun (V_b m c) _)
  blk_ext [iblk, idx t]

theorem out_at (a : FVec Ideal S1024x2816 .bf16) (b : FVec Ideal S2816x1024 .bf16) (i j : Fin 1024) :
    out0_2 (F := Ideal) a b (ix2 i j) = ∑ l : Fin 2816, a (ix2 i l) * b (ix2 l j) := by
  frame_out
  exact block_at a b i j

theorem written (c : Dev nD) (t : Fin cfg0.N) (y : S1024x1024.Idx) : out0_2 (iblk m c 0 t) (iblk m c 1 t) y
    = spec (m ((c : Thread nD τ).loc main_arg0)) (m ((c : Thread nD τ).loc main_arg1))
        (ix2 ⟨t.1 * 1024 + (y 0).1, by have : t.1 < 4 := t.2; have : (y 0).1 < 1024 := (y 0).2; omega⟩ (y 1)) := by
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t l j))

omit m in
theorem place (t : Fin cfg0.N) (y : S1024x1024.Idx) : (win0_2.blk t).view.emb y
    = (ix2 ⟨t.1 * 1024 + (y 0).1, by have : t.1 < 4 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem written_cast (c : Dev nD) (t : Fin cfg0.N) (y : S1024x1024.Idx) :
    (dats m 0 c).after 2 t y
      = spec (m ((c : Thread nD τ).loc main_arg0)) (m ((c : Thread nD τ).loc main_arg1))
        (ix2 ⟨t.1 * 1024 + (y 0).1, by have : t.1 < 4 := t.2; have : (y 0).1 < 1024 := (y 0).2; omega⟩ (y 1)) := by
  rw [after0_2]
  exact written m c t y

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written_cast m c t y).trans (congrArg (spec _ _) (place t y).symm)

end Cert.DownIdeal.Value

namespace Cert.Proof.Down

theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem preserves : Cert.preserves_Down_DownIdeal := trivial

open Cert.DownRefIdeal in
/-- The reference's product is the same sums. -/
theorem reference_eq (a : FVec Ideal S4096x2816 .f32) (b : FVec Ideal S2816x1024 .f32) :
    Host.dotGeneral dot_S4096x2816_S2816x1024_S4096x1024_1_0_0_1_n_n none a b = Cert.DownIdeal.Value.spec a b := by
  funext y
  obtain ⟨i, j, rfl⟩ : ∃ (i : Fin 4096) (j : Fin 1024), y = ix2 i j := ⟨y 0, y 1, by funext a; fin_cases a <;> rfl⟩
  unfold Cert.DownIdeal.Value.spec
  pointwise!

open Cert.DownRefIdeal in
theorem algebraic : Cert.algebraic_DownIdeal_DownRefIdeal := by
  intro m g m' g' _ hagree
  refine ⟨_, (θ_run Cert.DownIdeal.defs _ _).mono (fun r h => h) (Cert.DownIdeal.Value.run_blocks m g), ?_⟩
  refine (θ_run Cert.DownRefIdeal.defs _ _).mono (fun r h c => ?_) (Cert.DownRefIdeal.Value.run (F := Ideal) m' g')
  obtain ⟨e0, e1⟩ := hagree c
  refine ⟨(h c).1.trans ?_, (h c).2⟩
  rw [e0, e1]
  exact (reference_eq _ _).trans (Cert.DownIdeal.Value.final m c).symm

end Cert.Proof.Down

end
-- ==== Proof.GluDx.lean ====
/- The gradient of the S5 layer's gated rows through its square matrix: the array the call leaves, and its claims. -/
module

public import proofs.«01_k».proof.Defs
public import proofs.«01_k».proof.Proof.Gen.GluDx.Frame
public import proofs.«01_k».proof.Proof.Gen.GluDxIdeal.Value
public import proofs.«01_k».proof.Proof.Gen.GluDxRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GluDxIdeal.Value

open Cert.GluDxIdeal Cert.GluDxIdeal.Gen

variable (m : (ℓ : Loc nD τ sig) → Buf (Elt Ideal) ℓ)

/-- One block of the product. -/
theorem block_at (a : FVec Ideal S1024x1024 .bf16) (b : FVec Ideal S1024x1024 .bf16) (i : Fin 1024) (j : Fin 1024) :
    k0_pay1 (F := Ideal) a b (ix2 i j) = ∑ l : Fin 1024, a (ix2 i l) * b (ix2 j l) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg2)) := by
  unfold V
  simp only [hostOps0]
  after_results

abbrev as_b (b : FVec Ideal S1024x1024 .f32) : FVec Ideal S1024x1024 .bf16 := truncf .bf16 b bitsLt_bf16_f32

theorem V_b (c : Dev nD) : V m c main_v1 = as_b (m ((c : Thread nD τ).loc main_arg1)) := by
  unfold V
  simp only [hostOps0]
  after_results

/-- The whole product. -/
def spec (a : FVec Ideal S4096x1024 .f32) (b : FVec Ideal S1024x1024 .f32) : FVec Ideal S4096x1024 .f32 :=
  fun y => ∑ l : Fin 1024, as_a a (ix2 (y 0) l) * as_b b (ix2 (y 1) l)

theorem read_a (c : Dev nD) (t : Fin cfg0.N) (i : Fin 1024) (l : Fin 1024) :
    iblk m c 0 t (ix2 i l) = as_a (m ((c : Thread nD τ).loc main_arg2)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 1024) (l : Fin 1024) :
    iblk m c 1 t (ix2 j l) = as_b (m ((c : Thread nD τ).loc main_arg1)) (ix2 j l) := by
  refine Eq.trans ?_ (congrFun (V_b m c) _)
  blk_ext [iblk, idx t]

/-! ## The array left -/

theorem out_at (a : FVec Ideal S1024x1024 .bf16) (b : FVec Ideal S1024x1024 .bf16) (i : Fin 1024) (j : Fin 1024) :
    out0_2 (F := Ideal) a b (ix2 i j) = ∑ l : Fin 1024, a (ix2 i l) * b (ix2 j l) := by
  frame_out
  exact block_at a b i j

theorem written (c : Dev nD) (t : Fin cfg0.N) (y : S1024x1024.Idx) : (dats m 0 c).after 2 t y
    = spec (m ((c : Thread nD τ).loc main_arg2)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 * 1024 + (y 0).1, by have : t.1 < 4 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.GluDxIdeal.Value

namespace Cert.Proof.GluDx

theorem frame_p : Cert.quiescent_GluDx := fun m ρ _ => Cert.GluDx.Gen.frame m ρ
theorem frame_pi : Cert.quiescent_GluDxIdeal := fun m ρ _ => Cert.GluDxIdeal.Gen.frame m ρ
theorem frame_ri : Cert.quiescent_GluDxRefIdeal := fun m ρ _ =>
  (θ_run Cert.GluDxRefIdeal.defs _ _).mono (fun r h => ⟨fun c => (h c).2, sem_eq_zero_of_no_sems (by decide) r.2⟩)
    (Cert.GluDxRefIdeal.Value.run (F := Ideal) m ρ)

theorem preserves : Cert.preserves_GluDx_GluDxIdeal := trivial

open Cert.GluDxRefIdeal Cert.GluDxRefIdeal.Gen in
/-- The reference's gradient is the same sums. -/
theorem reference_eq (a : FVec Ideal S4096x1024 .f32) (b : FVec Ideal S1024x1024 .f32) :
    Host.dotGeneral dot_S4096x1024_S1024x1024_S4096x1024_1_1_0_0_n_n none a b = Cert.GluDxIdeal.Value.spec a b := by
  funext y
  obtain ⟨i, j, rfl⟩ : ∃ (i : Fin 4096) (j : Fin 1024), y = ix2 i j := ⟨y 0, y 1, by funext a; fin_cases a <;> rfl⟩
  unfold Cert.GluDxIdeal.Value.spec
  pointwise!

open Cert.GluDxRefIdeal in
theorem algebraic : Cert.algebraic_GluDxIdeal_GluDxRefIdeal := by
  intro m g m' g' _ hagree
  refine ⟨_, (θ_run Cert.GluDxIdeal.defs _ _).mono (fun r h => h) (Cert.GluDxIdeal.Value.run_blocks m g), ?_⟩
  refine (θ_run Cert.GluDxRefIdeal.defs _ _).mono (fun r h c => ?_) (Cert.GluDxRefIdeal.Value.run (F := Ideal) m' g')
  obtain ⟨e0, e1, e2⟩ := hagree c
  refine ⟨(h c).1.trans ?_, (h c).2⟩
  rw [e1, e2]
  exact (reference_eq _ _).trans (Cert.GluDxIdeal.Value.final m c).symm

end Cert.Proof.GluDx

end
-- ==== Proof.GluDw.lean ====
/- The gradient of the S5 layer's square matrix: the array the call leaves, and its claims. -/
module

public import proofs.«01_k».proof.Defs
public import proofs.«01_k».proof.Proof.Gen.GluDw.Frame
public import proofs.«01_k».proof.Proof.Gen.GluDwIdeal.Value
public import proofs.«01_k».proof.Proof.Gen.GluDwRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GluDwIdeal.Value

open Cert.GluDwIdeal Cert.GluDwIdeal.Gen

variable (m : (ℓ : Loc nD τ sig) → Buf (Elt Ideal) ℓ)

/-- One block of the product, over half of the summed axis, added to what is there. -/
theorem block_at (x : FVec Ideal S1024x1024 .f32) (a : FVec Ideal S2048x1024 .f32) (b : FVec Ideal S2048x1024 .bf16) (i : Fin 1024) (j : Fin 1024) :
    k0_pay2 (F := Ideal) x a b (ix2 i j) = x (ix2 i j) + ∑ l : Fin 2048, a (ix2 l i) * b (ix2 l j) := by
  pointwise! [k0_pay2]

theorem zero_at (i : Fin 1024) (j : Fin 1024) : k0_pay1 (F := Ideal) (ix2 i j) = 0 := by
  pointwise! [k0_pay1]

theorem idx (t : Fin cfg0.N) : win0_0.index t = ![t.1 % 2, 0] ∧ win0_1.index t = ![t.1 % 2, 0] ∧ win0_2.index t = ![0, 0] :=
  (by decide +kernel : ∀ t : Fin grid0.N, win0_0.index t = ![t.1 % 2, 0] ∧ win0_1.index t = ![t.1 % 2, 0] ∧ win0_2.index t = ![0, 0]) t

/-! ## The two factors -/

abbrev as_a (a : FVec Ideal S4096x1024 .f32) : FVec Ideal S4096x1024 .f32 := a

theorem V_a (c : Dev nD) : V m c main_arg0 = as_a (m ((c : Thread nD τ).loc main_arg0)) := by
  unfold V
  simp only [hostOps0]
  after_results

abbrev as_b (b : FVec Ideal S4096x1024 .f32) : FVec Ideal S4096x1024 .bf16 := truncf .bf16 b bitsLt_bf16_f32

theorem V_b (c : Dev nD) : V m c main_v0 = as_b (m ((c : Thread nD τ).loc main_arg2)) := by
  unfold V
  simp only [hostOps0]
  after_results

/-- The whole product. -/
def spec (a : FVec Ideal S4096x1024 .f32) (b : FVec Ideal S4096x1024 .f32) : FVec Ideal S1024x1024 .f32 :=
  fun y => ∑ l : Fin 4096, as_a a (ix2 l (y 0)) * as_b b (ix2 l (y 1))

theorem read_a (c : Dev nD) (t : Fin cfg0.N) (i : Fin 1024) (l : Fin 2048) :
    iblk m c 0 t (ix2 l i) = as_a (m ((c : Thread nD τ).loc main_arg0)) (ix2 ⟨t.1 % 2 * 2048 + l.1, by have : t.1 < 2 := t.2; omega⟩ i) := by
  refine Eq.trans ?_ (congrFun (V_a m c) _)
  blk_ext [iblk, idx t]

theorem read_b (c : Dev nD) (t : Fin cfg0.N) (j : Fin 1024) (l : Fin 2048) :
    iblk m c 1 t (ix2 l j) = as_b (m ((c : Thread nD τ).loc main_arg2)) (ix2 ⟨t.1 % 2 * 2048 + l.1, by have : t.1 < 2 := t.2; omega⟩ j) := by
  refine Eq.trans ?_ (congrFun (V_b m c) _)
  blk_ext [iblk, idx t]

/-! ## The array left -/

theorem first (c : Dev nD) (t : Fin cfg0.N) (h : t.1 % 2 = 0) :
    (outsAt0 m c t.1 t.2).2 = k0_pay2 (k0_pay1 (F := Ideal)) (iblk m c 0 t) (iblk m c 1 t) := by
  rw [outsAt0_A m c t h (by omega)]
  frame_out

theorem second (c : Dev nD) (t : Fin cfg0.N) (h : t.1 % 2 = 1) :
    (outsAt0 m c t.1 t.2).1 = k0_pay2 (outsAt0 m c (t.1 - 1) (by have := t.2; omega)).2 (iblk m c 0 t) (iblk m c 1 t) := by
  rw [outsAt0_B m c t (by omega) h]
  frame_out
  exact congrArg (fun x => k0_pay2 x _ _) (Memref.IsWhole.read_unread (Memref.isWhole_whole _) _)

/-- A sum as the sums of its halves. -/
theorem halves (f : Fin 4096 → EReal) :
    (0 + ∑ l : Fin 2048, f ⟨l.1, by omega⟩) + ∑ l : Fin 2048, f ⟨2048 + l.1, by omega⟩ = ∑ l : Fin 4096, f l := by
  rw [zero_add]
  exact (Fin.sum_univ_add (a := 2048) (b := 2048) f).symm

theorem written (c : Dev nD) (t : Fin cfg0.N) (h : t.1 % 2 = 1) (y : S1024x1024.Idx) : (dats m 0 c).after 2 t y
    = spec (m ((c : Thread nD τ).loc main_arg0)) (m ((c : Thread nD τ).loc main_arg2))
        (ix2 (y 0) (y 1)) := by
  rw [after0_2, second m c t h, first m c ⟨t.1 - 1, by have := t.2; omega⟩ (by show (t.1 - 1) % 2 = 0; omega)]
  obtain ⟨i, j, rfl⟩ : ∃ (i : Fin 1024) (j : Fin 1024), y = ix2 i j := ⟨y 0, y 1, by funext a; fin_cases a <;> rfl⟩
  rw [block_at, block_at, zero_at]
  refine Eq.trans ?_ (halves fun l => as_a (m ((c : Thread nD τ).loc main_arg0)) (ix2 l i) * as_b (m ((c : Thread nD τ).loc main_arg2)) (ix2 l j))
  refine congrArg₂ (· + ·) (congrArg (0 + ·) (Finset.sum_congr rfl fun l _ => ?_)) (Finset.sum_congr rfl fun l _ => ?_)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)

omit m in
theorem place (t : Fin cfg0.N) (y : S1024x1024.Idx) : (win0_2.blk t).view.emb y
    = (ix2 (y 0) (y 1) : S1024x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t hf y
    exact (written m c t ((flush0_2 t).mp hf) y).trans (congrArg (spec _ _) (place t y).symm)

end Cert.GluDwIdeal.Value

namespace Cert.Proof.GluDw

theorem frame_p : Cert.quiescent_GluDw := fun m ρ _ => Cert.GluDw.Gen.frame m ρ
theorem frame_pi : Cert.quiescent_GluDwIdeal := fun m ρ _ => Cert.GluDwIdeal.Gen.frame m ρ
theorem frame_ri : Cert.quiescent_GluDwRefIdeal := fun m ρ _ =>
  (θ_run Cert.GluDwRefIdeal.defs _ _).mono (fun r h => ⟨fun c => (h c).2, sem_eq_zero_of_no_sems (by decide) r.2⟩)
    (Cert.GluDwRefIdeal.Value.run (F := Ideal) m ρ)

theorem preserves : Cert.preserves_GluDw_GluDwIdeal := trivial

open Cert.GluDwRefIdeal Cert.GluDwRefIdeal.Gen in
/-- The reference's gradient is the same sums. -/
theorem reference_eq (a : FVec Ideal S4096x1024 .f32) (b : FVec Ideal S4096x1024 .f32) :
    transpose S1024x1024 [1, 0] (Host.dotGeneral dot_S4096x1024_S4096x1024_S1024x1024_0_0_1_1_n_n none b a) transposes_S1024x1024_S1024x1024_1_0 = Cert.GluDwIdeal.Value.spec a b := by
  funext y
  obtain ⟨i, j, rfl⟩ : ∃ (i : Fin 1024) (j : Fin 1024), y = ix2 i j := ⟨y 0, y 1, by funext a; fin_cases a <;> rfl⟩
  unfold Cert.GluDwIdeal.Value.spec
  pointwise
  exact Finset.sum_congr rfl fun l _ => mul_comm _ _

open Cert.GluDwRefIdeal in
theorem algebraic : Cert.algebraic_GluDwIdeal_GluDwRefIdeal := by
  intro m g m' g' _ hagree
  refine ⟨_, (θ_run Cert.GluDwIdeal.defs _ _).mono (fun r h => h) (Cert.GluDwIdeal.Value.run_blocks m g), ?_⟩
  refine (θ_run Cert.GluDwRefIdeal.defs _ _).mono (fun r h c => ?_) (Cert.GluDwRefIdeal.Value.run (F := Ideal) m' g')
  obtain ⟨e0, e1, e2⟩ := hagree c
  refine ⟨(h c).1.trans ?_, (h c).2⟩
  rw [e0, e2]
  exact (reference_eq _ _).trans (Cert.GluDwIdeal.Value.final m c).symm

end Cert.Proof.GluDw

end
-- ==== Proof.Glu.lean ====
/- The forward product of the S5 layer's rows with its square matrix: the array the call leaves, and its claims. -/
module

public import proofs.«01_k».proof.Defs
public import proofs.«01_k».proof.Proof.Gen.Glu.Frame
public import proofs.«01_k».proof.Proof.Gen.GluIdeal.Value
public import proofs.«01_k».proof.Proof.Gen.GluRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GluIdeal.Value

open Cert.GluIdeal Cert.GluIdeal.Gen

variable (m : (ℓ : Loc nD τ sig) → Buf (Elt Ideal) ℓ)

/-- One block of the product. -/
theorem block_at (a : FVec Ideal S1024x1024 .f32) (b : FVec Ideal S1024x1024 .bf16) (i : Fin 1024) (j : Fin 1024) :
    k0_pay1 (F := Ideal) a b (ix2 i j) = ∑ l : Fin 1024, a (ix2 i l) * b (ix2 l j) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x1024 .f32) : FVec Ideal S4096x1024 .f32 := a

theorem V_a (c : Dev nD) : V m c main_arg0 = as_a (m ((c : Thread nD τ).loc main_arg0)) := by
  unfold V
  simp only [hostOps0]
  after_results

abbrev as_b (b : FVec Ideal S1024x1024 .f32) : FVec Ideal S1024x1024 .bf16 := truncf .bf16 b bitsLt_bf16_f32

theorem V_b (c : Dev nD) : V m c main_v0 = as_b (m ((c : Thread nD τ).loc main_arg1)) := by
  unfold V
  simp only [hostOps0]
  after_results

/-- The whole product. -/
def spec (a : FVec Ideal S4096x1024 .f32) (b : FVec Ideal S1024x1024 .f32) : FVec Ideal S4096x1024 .f32 :=
  fun y => ∑ l : Fin 1024, as_a a (ix2 (y 0) l) * as_b b (ix2 l (y 1))

theorem read_a (c : Dev nD) (t : Fin cfg0.N) (i : Fin 1024) (l : Fin 1024) :
    iblk m c 0 t (ix2 i l) = as_a (m ((c : Thread nD τ).loc main_arg0)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 1024) (l : Fin 1024) :
    iblk m c 1 t (ix2 l j) = as_b (m ((c : Thread nD τ).loc main_arg1)) (ix2 l j) := by
  refine Eq.trans ?_ (congrFun (V_b m c) _)
  blk_ext [iblk, idx t]

/-! ## The array left -/

theorem out_at (a : FVec Ideal S1024x1024 .f32) (b : FVec Ideal S1024x1024 .bf16) (i : Fin 1024) (j : Fin 1024) :
    out0_2 (F := Ideal) a b (ix2 i j) = ∑ l : Fin 1024, a (ix2 i l) * b (ix2 l j) := by
  frame_out
  exact block_at a b i j

theorem written (c : Dev nD) (t : Fin cfg0.N) (y : S1024x1024.Idx) : (dats m 0 c).after 2 t y
    = spec (m ((c : Thread nD τ).loc main_arg0)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 * 1024 + (y 0).1, by have : t.1 < 4 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.GluIdeal.Value

namespace Cert.Proof.Glu

theorem frame_p : Cert.quiescent_Glu := fun m ρ _ => Cert.Glu.Gen.frame m ρ
theorem frame_pi : Cert.quiescent_GluIdeal := fun m ρ _ => Cert.GluIdeal.Gen.frame m ρ
theorem frame_ri : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem preserves : Cert.preserves_Glu_GluIdeal := trivial

open Cert.GluRefIdeal Cert.GluRefIdeal.Gen in
/-- The reference's product is the same sums. -/
theorem reference_eq (a : FVec Ideal S4096x1024 .f32) (b : FVec Ideal S1024x1024 .f32) :
    Host.dotGeneral dot_S4096x1024_S1024x1024_S4096x1024_1_0_0_1_n_n none a b = Cert.GluIdeal.Value.spec a b := by
  funext y
  obtain ⟨i, j, rfl⟩ : ∃ (i : Fin 4096) (j : Fin 1024), y = ix2 i j := ⟨y 0, y 1, by funext a; fin_cases a <;> rfl⟩
  unfold Cert.GluIdeal.Value.spec
  pointwise!

open Cert.GluRefIdeal in
theorem algebraic : Cert.algebraic_GluIdeal_GluRefIdeal := by
  intro m g m' g' _ hagree
  refine ⟨_, (θ_run Cert.GluIdeal.defs _ _).mono (fun r h => h) (Cert.GluIdeal.Value.run_blocks m g), ?_⟩
  refine (θ_run Cert.GluRefIdeal.defs _ _).mono (fun r h c => ?_) (Cert.GluRefIdeal.Value.run (F := Ideal) m' g')
  obtain ⟨e0, e1⟩ := hagree c
  refine ⟨(h c).1.trans ?_, (h c).2⟩
  rw [e0, e1]
  exact (reference_eq _ _).trans (Cert.GluIdeal.Value.final m c).symm

end Cert.Proof.Glu

end
-- ==== Proof.DqDx.lean ====
/- The gradient of the attention layer's normed rows through the queries' first matrix: the array the call leaves, and its claims. -/
module

public import proofs.«01_k».proof.Defs
public import proofs.«01_k».proof.Proof.Gen.DqDx.Frame
public import proofs.«01_k».proof.Proof.Gen.DqDxIdeal.Value
public import proofs.«01_k».proof.Proof.Gen.DqDxRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DqDxIdeal.Value

open Cert.DqDxIdeal Cert.DqDxIdeal.Gen

variable (m : (ℓ : Loc nD τ sig) → Buf (Elt Ideal) ℓ)

/-- One block of the product. -/
theorem block_at (a : FVec Ideal S1024x256 .bf16) (b : FVec Ideal S1024x256 .bf16) (i : Fin 1024) (j : Fin 1024) :
    k0_pay1 (F := Ideal) a b (ix2 i j) = ∑ l : Fin 256, a (ix2 i l) * b (ix2 j l) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x256 .f32) : FVec Ideal S4096x256 .bf16 := truncf .bf16 a bitsLt_bf16_f32

theorem V_a (c : Dev nD) : V m c main_v0 = as_a (m ((c : Thread nD τ).loc main_arg2)) := by
  unfold V
  simp only [hostOps0]
  after_results

abbrev as_b (b : FVec Ideal S1024x256 .f32) : FVec Ideal S1024x256 .bf16 := truncf .bf16 b bitsLt_bf16_f32

theorem V_b (c : Dev nD) : V m c main_v1 = as_b (m ((c : Thread nD τ).loc main_arg1)) := by
  unfold V
  simp only [hostOps0]
  after_results

/-- The whole product. -/
def spec (a : FVec Ideal S4096x256 .f32) (b : FVec Ideal S1024x256 .f32) : FVec Ideal S4096x1024 .f32 :=
  fun y => ∑ l : Fin 256, as_a a (ix2 (y 0) l) * as_b b (ix2 (y 1) l)

theorem read_a (c : Dev nD) (t : Fin cfg0.N) (i : Fin 1024) (l : Fin 256) :
    iblk m c 0 t (ix2 i l) = as_a (m ((c : Thread nD τ).loc main_arg2)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 1024) (l : Fin 256) :
    iblk m c 1 t (ix2 j l) = as_b (m ((c : Thread nD τ).loc main_arg1)) (ix2 j l) := by
  refine Eq.trans ?_ (congrFun (V_b m c) _)
  blk_ext [iblk, idx t]

/-! ## The array left -/

theorem out_at (a : FVec Ideal S1024x256 .bf16) (b : FVec Ideal S1024x256 .bf16) (i : Fin 1024) (j : Fin 1024) :
    out0_2 (F := Ideal) a b (ix2 i j) = ∑ l : Fin 256, a (ix2 i l) * b (ix2 j l) := by
  frame_out
  exact block_at a b i j

theorem written (c : Dev nD) (t : Fin cfg0.N) (y : S1024x1024.Idx) : (dats m 0 c).after 2 t y
    = spec (m ((c : Thread nD τ).loc main_arg2)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 * 1024 + (y 0).1, by have : t.1 < 4 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.DqDxIdeal.Value

namespace Cert.Proof.DqDx

theorem frame_p : Cert.quiescent_DqDx := fun m ρ _ => Cert.DqDx.Gen.frame m ρ
theorem frame_pi : Cert.quiescent_DqDxIdeal := fun m ρ _ => Cert.DqDxIdeal.Gen.frame m ρ
theorem frame_ri : Cert.quiescent_DqDxRefIdeal := fun m ρ _ =>
  (θ_run Cert.DqDxRefIdeal.defs _ _).mono (fun r h => ⟨fun c => (h c).2, sem_eq_zero_of_no_sems (by decide) r.2⟩)
    (Cert.DqDxRefIdeal.Value.run (F := Ideal) m ρ)

theorem preserves : Cert.preserves_DqDx_DqDxIdeal := trivial

open Cert.DqDxRefIdeal Cert.DqDxRefIdeal.Gen in
/-- The reference's gradient is the same sums. -/
theorem reference_eq (a : FVec Ideal S4096x256 .f32) (b : FVec Ideal S1024x256 .f32) :
    Host.dotGeneral dot_S4096x256_S1024x256_S4096x1024_1_1_0_0_n_n none a b = Cert.DqDxIdeal.Value.spec a b := by
  funext y
  obtain ⟨i, j, rfl⟩ : ∃ (i : Fin 4096) (j : Fin 1024), y = ix2 i j := ⟨y 0, y 1, by funext a; fin_cases a <;> rfl⟩
  unfold Cert.DqDxIdeal.Value.spec
  pointwise!

open Cert.DqDxRefIdeal in
theorem algebraic : Cert.algebraic_DqDxIdeal_DqDxRefIdeal := by
  intro m g m' g' _ hagree
  refine ⟨_, (θ_run Cert.DqDxIdeal.defs _ _).mono (fun r h => h) (Cert.DqDxIdeal.Value.run_blocks m g), ?_⟩
  refine (θ_run Cert.DqDxRefIdeal.defs _ _).mono (fun r h c => ?_) (Cert.DqDxRefIdeal.Value.run (F := Ideal) m' g')
  obtain ⟨e0, e1, e2⟩ := hagree c
  refine ⟨(h c).1.trans ?_, (h c).2⟩
  rw [e1, e2]
  exact (reference_eq _ _).trans (Cert.DqDxIdeal.Value.final m c).symm

end Cert.Proof.DqDx

end
-- ==== Proof.DqDw.lean ====
/- The gradient of the queries' first matrix: the array the call leaves, and its claims. -/
module

public import proofs.«01_k».proof.Defs
public import proofs.«01_k».proof.Proof.Gen.DqDw.Frame
public import proofs.«01_k».proof.Proof.Gen.DqDwIdeal.Value
public import proofs.«01_k».proof.Proof.Gen.DqDwRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DqDwIdeal.Value

open Cert.DqDwIdeal Cert.DqDwIdeal.Gen

variable (m : (ℓ : Loc nD τ sig) → Buf (Elt Ideal) ℓ)

/-- One block of the product. -/
theorem block_at (a : FVec Ideal S4096x1024 .bf16) (b : FVec Ideal S4096x256 .bf16) (i : Fin 1024) (j : Fin 256) :
    k0_pay1 (F := Ideal) a b (ix2 i j) = ∑ l : Fin 4096, a (ix2 l i) * b (ix2 l j) := by
  pointwise! [k0_pay1]

theorem idx (t : Fin cfg0.N) : win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg0)) := by
  unfold V
  simp only [hostOps0]
  after_results

abbrev as_b (b : FVec Ideal S4096x256 .f32) : FVec Ideal S4096x256 .bf16 := truncf .bf16 b bitsLt_bf16_f32

theorem V_b (c : Dev nD) : V m c main_v1 = as_b (m ((c : Thread nD τ).loc main_arg2)) := by
  unfold V
  simp only [hostOps0]
  after_results

/-- The whole product. -/
def spec (a : FVec Ideal S4096x1024 .f32) (b : FVec Ideal S4096x256 .f32) : FVec Ideal S1024x256 .f32 :=
  fun y => ∑ l : Fin 4096, as_a a (ix2 l (y 0)) * as_b b (ix2 l (y 1))

theorem read_a (c : Dev nD) (t : Fin cfg0.N) (i : Fin 1024) (l : Fin 4096) :
    iblk m c 0 t (ix2 l i) = as_a (m ((c : Thread nD τ).loc main_arg0)) (ix2 l i) := by
  refine Eq.trans ?_ (congrFun (V_a m c) _)
  blk_ext [iblk, idx t]

theorem read_b (c : Dev nD) (t : Fin cfg0.N) (j : Fin 256) (l : Fin 4096) :
    iblk m c 1 t (ix2 l j) = as_b (m ((c : Thread nD τ).loc main_arg2)) (ix2 l j) := by
  refine Eq.trans ?_ (congrFun (V_b m c) _)
  blk_ext [iblk, idx t]

/-! ## The array left -/

theorem out_at (a : FVec Ideal S4096x1024 .bf16) (b : FVec Ideal S4096x256 .bf16) (i : Fin 1024) (j : Fin 256) :
    out0_2 (F := Ideal) a b (ix2 i j) = ∑ l : Fin 4096, a (ix2 l i) * b (ix2 l j) := by
  frame_out
  exact block_at a b i j

theorem written (c : Dev nD) (t : Fin cfg0.N) (y : S1024x256.Idx) : (dats m 0 c).after 2 t y
    = spec (m ((c : Thread nD τ).loc main_arg0)) (m ((c : Thread nD τ).loc main_arg2))
        (ix2 (y 0) (y 1)) := by
  rw [after0_2]
  obtain ⟨i, j, rfl⟩ : ∃ (i : Fin 1024) (j : Fin 256), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x256.Idx) : (win0_2.blk t).view.emb y
    = (ix2 (y 0) (y 1) : S1024x256.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t _ y
    exact (written m c t y).trans (congrArg (spec _ _) (place t y).symm)

end Cert.DqDwIdeal.Value

namespace Cert.Proof.DqDw

theorem frame_p : Cert.quiescent_DqDw := fun m ρ _ => Cert.DqDw.Gen.frame m ρ
theorem frame_pi : Cert.quiescent_DqDwIdeal := fun m ρ _ => Cert.DqDwIdeal.Gen.frame m ρ
theorem frame_ri : Cert.quiescent_DqDwRefIdeal := fun m ρ _ =>
  (θ_run Cert.DqDwRefIdeal.defs _ _).mono (fun r h => ⟨fun c => (h c).2, sem_eq_zero_of_no_sems (by decide) r.2⟩)
    (Cert.DqDwRefIdeal.Value.run (F := Ideal) m ρ)

theorem preserves : Cert.preserves_DqDw_DqDwIdeal := trivial

open Cert.DqDwRefIdeal Cert.DqDwRefIdeal.Gen in
/-- The reference's gradient is the same sums. -/
theorem reference_eq (a : FVec Ideal S4096x1024 .f32) (b : FVec Ideal S4096x256 .f32) :
    transpose S1024x256 [1, 0] (Host.dotGeneral dot_S4096x256_S4096x1024_S256x1024_0_0_1_1_n_n none b a) transposes_S256x1024_S1024x256_1_0 = Cert.DqDwIdeal.Value.spec a b := by
  funext y
  obtain ⟨i, j, rfl⟩ : ∃ (i : Fin 1024) (j : Fin 256), y = ix2 i j := ⟨y 0, y 1, by funext a; fin_cases a <;> rfl⟩
  unfold Cert.DqDwIdeal.Value.spec
  pointwise
  exact Finset.sum_congr rfl fun l _ => mul_comm _ _

open Cert.DqDwRefIdeal in
theorem algebraic : Cert.algebraic_DqDwIdeal_DqDwRefIdeal := by
  intro m g m' g' _ hagree
  refine ⟨_, (θ_run Cert.DqDwIdeal.defs _ _).mono (fun r h => h) (Cert.DqDwIdeal.Value.run_blocks m g), ?_⟩
  refine (θ_run Cert.DqDwRefIdeal.defs _ _).mono (fun r h c => ?_) (Cert.DqDwRefIdeal.Value.run (F := Ideal) m' g')
  obtain ⟨e0, e1, e2⟩ := hagree c
  refine ⟨(h c).1.trans ?_, (h c).2⟩
  rw [e0, e2]
  exact (reference_eq _ _).trans (Cert.DqDwIdeal.Value.final m c).symm

end Cert.Proof.DqDw

end
-- ==== Proof.Dq.lean ====
/- The forward product of the attention layer's normed rows with the queries' first matrix: the array the call leaves, and its claims. -/
module

public import proofs.«01_k».proof.Defs
public import proofs.«01_k».proof.Proof.Gen.Dq.Frame
public import proofs.«01_k».proof.Proof.Gen.DqIdeal.Value
public import proofs.«01_k».proof.Proof.Gen.DqRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DqIdeal.Value

open Cert.DqIdeal Cert.DqIdeal.Gen

variable (m : (ℓ : Loc nD τ sig) → Buf (Elt Ideal) ℓ)

/-- One block of the product. -/
theorem block_at (a : FVec Ideal S1024x1024 .bf16) (b : FVec Ideal S1024x256 .bf16) (i : Fin 1024) (j : Fin 256) :
    k0_pay1 (F := Ideal) a b (ix2 i j) = ∑ l : Fin 1024, a (ix2 i l) * b (ix2 l j) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg0)) := by
  unfold V
  simp only [hostOps0]
  after_results

abbrev as_b (b : FVec Ideal S1024x256 .f32) : FVec Ideal S1024x256 .bf16 := truncf .bf16 b bitsLt_bf16_f32

theorem V_b (c : Dev nD) : V m c main_v1 = as_b (m ((c : Thread nD τ).loc main_arg1)) := by
  unfold V
  simp only [hostOps0]
  after_results

/-- The whole product. -/
def spec (a : FVec Ideal S4096x1024 .f32) (b : FVec Ideal S1024x256 .f32) : FVec Ideal S4096x256 .f32 :=
  fun y => ∑ l : Fin 1024, as_a a (ix2 (y 0) l) * as_b b (ix2 l (y 1))

theorem read_a (c : Dev nD) (t : Fin cfg0.N) (i : Fin 1024) (l : Fin 1024) :
    iblk m c 0 t (ix2 i l) = as_a (m ((c : Thread nD τ).loc main_arg0)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 256) (l : Fin 1024) :
    iblk m c 1 t (ix2 l j) = as_b (m ((c : Thread nD τ).loc main_arg1)) (ix2 l j) := by
  refine Eq.trans ?_ (congrFun (V_b m c) _)
  blk_ext [iblk, idx t]

/-! ## The array left -/

theorem out_at (a : FVec Ideal S1024x1024 .bf16) (b : FVec Ideal S1024x256 .bf16) (i : Fin 1024) (j : Fin 256) :
    out0_2 (F := Ideal) a b (ix2 i j) = ∑ l : Fin 1024, a (ix2 i l) * b (ix2 l j) := by
  frame_out
  exact block_at a b i j

theorem written (c : Dev nD) (t : Fin cfg0.N) (y : S1024x256.Idx) : (dats m 0 c).after 2 t y
    = spec (m ((c : Thread nD τ).loc main_arg0)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 256), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x256.Idx) : (win0_2.blk t).view.emb y
    = (ix2 ⟨t.1 * 1024 + (y 0).1, by have : t.1 < 4 := t.2; have : (y 0).1 < 1024 := (y 0).2; omega⟩ (y 1) : S4096x256.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.DqIdeal.Value

namespace Cert.Proof.Dq

theorem frame_p : Cert.quiescent_Dq := fun m ρ _ => Cert.Dq.Gen.frame m ρ
theorem frame_pi : Cert.quiescent_DqIdeal := fun m ρ _ => Cert.DqIdeal.Gen.frame m ρ
theorem frame_ri : Cert.quiescent_DqRefIdeal := fun m ρ _ =>
  (θ_run Cert.DqRefIdeal.defs _ _).mono (fun r h => ⟨fun c => (h c).2, sem_eq_zero_of_no_sems (by decide) r.2⟩)
    (Cert.DqRefIdeal.Value.run (F := Ideal) m ρ)

theorem preserves : Cert.preserves_Dq_DqIdeal := trivial

open Cert.DqRefIdeal Cert.DqRefIdeal.Gen in
/-- The reference's product is the same sums. -/
theorem reference_eq (a : FVec Ideal S4096x1024 .f32) (b : FVec Ideal S1024x256 .f32) :
    Host.dotGeneral dot_S4096x1024_S1024x256_S4096x256_1_0_0_1_n_n none a b = Cert.DqIdeal.Value.spec a b := by
  funext y
  obtain ⟨i, j, rfl⟩ : ∃ (i : Fin 4096) (j : Fin 256), y = ix2 i j := ⟨y 0, y 1, by funext a; fin_cases a <;> rfl⟩
  unfold Cert.DqIdeal.Value.spec
  pointwise!

open Cert.DqRefIdeal in
theorem algebraic : Cert.algebraic_DqIdeal_DqRefIdeal := by
  intro m g m' g' _ hagree
  refine ⟨_, (θ_run Cert.DqIdeal.defs _ _).mono (fun r h => h) (Cert.DqIdeal.Value.run_blocks m g), ?_⟩
  refine (θ_run Cert.DqRefIdeal.defs _ _).mono (fun r h c => ?_) (Cert.DqRefIdeal.Value.run (F := Ideal) m' g')
  obtain ⟨e0, e1⟩ := hagree c
  refine ⟨(h c).1.trans ?_, (h c).2⟩
  rw [e0, e1]
  exact (reference_eq _ _).trans (Cert.DqIdeal.Value.final m c).symm

end Cert.Proof.Dq

end
-- ==== Proof.Heads.lean ====
/- Sums over the lanes of sixteen heads: 64 or 96 lanes of each used, or 128 of which the last hold zeros. -/
module

public import Idealize.ShloMosaic.Lib.Pointwise

@[expose] public section

noncomputable section

open Idealize.ShloMosaic

namespace Cert.Heads

theorem zero_int : (FloatOps.sitofp FTy.f32 0#32 : Ideal .f32) = (0 : EReal) := by
  show (((0#32 : BitVec 32).toInt : ℝ) : EReal) = _
  simp

/-- A sum over `n` lanes of each head, head by head. -/
theorem sum_by_head (n k : ℕ) (hk : 16 * n = k) (f : Fin k → EReal) :
    ∑ x : Fin k, f x = ∑ g : Fin 16, ∑ d : Fin n, f ⟨d.1 + n * g.1, by have := (finProdFinEquiv (g, d)).2; subst hk; exact this⟩ := by
  subst hk
  rw [← finProdFinEquiv.sum_comp, Fintype.sum_prod_type]
  rfl

theorem sum_64 (f : Fin 16 → Fin 64 → EReal) :
    ∑ x : Fin 1024, f ⟨x.1 / 64, by omega⟩ ⟨x.1 % 64, by omega⟩ = ∑ g : Fin 16, ∑ d : Fin 64, f g d := by
  rw [sum_by_head 64 1024 rfl]
  refine Finset.sum_congr rfl fun g _ => Finset.sum_congr rfl fun d _ => congrArg₂ f (Fin.ext ?_) (Fin.ext ?_)
  · show (d.1 + 64 * g.1) / 64 = g.1
    omega
  · show (d.1 + 64 * g.1) % 64 = d.1
    omega

theorem sum_128 (f : Fin 16 → Fin 64 → EReal) :
    (∑ x : Fin 2048, if h : x.1 / 128 < 16 ∧ x.1 % 128 < 64 then f ⟨x.1 / 128, h.1⟩ ⟨x.1 % 128, h.2⟩ else 0)
      = ∑ g : Fin 16, ∑ d : Fin 64, f g d := by
  rw [sum_by_head 128 2048 rfl]
  refine Finset.sum_congr rfl fun g _ => (Fin.sum_univ_add (a := 64) (b := 64) _).trans ?_
  refine Eq.trans (congrArg₂ (· + ·) (Finset.sum_congr rfl fun d _ => ?_) (Finset.sum_eq_zero fun d _ => ?_)) (add_zero _)
  · have h1 : (d.1 + 128 * g.1) / 128 = g.1 := by omega
    have h2 : (d.1 + 128 * g.1) % 128 = d.1 := by omega
    refine (dif_pos ⟨?_, ?_⟩).trans (congrArg₂ f (Fin.ext h1) (Fin.ext h2))
    · show (d.1 + 128 * g.1) / 128 < 16
      omega
    · show (d.1 + 128 * g.1) % 128 < 64
      omega
  · refine dif_neg fun h => ?_
    have h2 : (64 + d.1 + 128 * g.1) % 128 < 64 := h.2
    omega

/-- The lanes in use are the lanes summed. -/
theorem sum_lanes (f : Fin 16 → Fin 64 → EReal) :
    ∑ x : Fin 1024, f ⟨x.1 / 64, by omega⟩ ⟨x.1 % 64, by omega⟩
      = ∑ x : Fin 2048, if h : x.1 / 128 < 16 ∧ x.1 % 128 < 64 then f ⟨x.1 / 128, h.1⟩ ⟨x.1 % 128, h.2⟩ else 0 :=
  (sum_64 f).trans (sum_128 f).symm

theorem sum_96 (f : Fin 16 → Fin 96 → EReal) :
    ∑ x : Fin 1536, f ⟨x.1 / 96, by omega⟩ ⟨x.1 % 96, by omega⟩ = ∑ g : Fin 16, ∑ d : Fin 96, f g d := by
  rw [sum_by_head 96 1536 rfl]
  refine Finset.sum_congr rfl fun g _ => Finset.sum_congr rfl fun d _ => congrArg₂ f (Fin.ext ?_) (Fin.ext ?_)
  · show (d.1 + 96 * g.1) / 96 = g.1
    omega
  · show (d.1 + 96 * g.1) % 96 = d.1
    omega

theorem sum_128_96 (f : Fin 16 → Fin 96 → EReal) :
    (∑ x : Fin 2048, if h : x.1 / 128 < 16 ∧ x.1 % 128 < 96 then f ⟨x.1 / 128, h.1⟩ ⟨x.1 % 128, h.2⟩ else 0)
      = ∑ g : Fin 16, ∑ d : Fin 96, f g d := by
  rw [sum_by_head 128 2048 rfl]
  refine Finset.sum_congr rfl fun g _ => (Fin.sum_univ_add (a := 96) (b := 32) _).trans ?_
  refine Eq.trans (congrArg₂ (· + ·) (Finset.sum_congr rfl fun d _ => ?_) (Finset.sum_eq_zero fun d _ => ?_)) (add_zero _)
  · have h1 : (d.1 + 128 * g.1) / 128 = g.1 := by omega
    have h2 : (d.1 + 128 * g.1) % 128 = d.1 := by omega
    refine (dif_pos ⟨?_, ?_⟩).trans (congrArg₂ f (Fin.ext h1) (Fin.ext h2))
    · show (d.1 + 128 * g.1) / 128 < 16
      omega
    · show (d.1 + 128 * g.1) % 128 < 96
      omega
  · refine dif_neg fun h => ?_
    have h2 : (96 + d.1 + 128 * g.1) % 128 < 96 := h.2
    omega

/-- The same of 96 lanes of each head. -/
theorem sum_lanes_96 (f : Fin 16 → Fin 96 → EReal) :
    ∑ x : Fin 1536, f ⟨x.1 / 96, by omega⟩ ⟨x.1 % 96, by omega⟩
      = ∑ x : Fin 2048, if h : x.1 / 128 < 16 ∧ x.1 % 128 < 96 then f ⟨x.1 / 128, h.1⟩ ⟨x.1 % 128, h.2⟩ else 0 :=
  (sum_96 f).trans (sum_128_96 f).symm

/-- The columns in use, 256 before 64 zeros and 32 after them with 32 zeros more, are the columns summed. -/
theorem sum_wide (f : Fin 288 → EReal) :
    ∑ x : Fin 288, f x = ∑ x : Fin 384, if h : x.1 < 256 then f ⟨x.1, by omega⟩
      else if h : x.1 - 256 < 64 then 0
      else if h : x.1 - 256 - 64 < 32 then f ⟨256 + (x.1 - 256 - 64), by omega⟩ else 0 := by
  refine (Fin.sum_univ_add (a := 256) (b := 32) f).trans (Eq.trans ?_ (Fin.sum_univ_add (a := 256) (b := 128) _).symm)
  refine congrArg₂ (· + ·) (Finset.sum_congr rfl fun d _ => ?_) ?_
  · rw [dif_pos (show (Fin.castAdd 128 d).1 < 256 from d.2)]
    rfl
  refine Eq.trans ?_ (Fin.sum_univ_add (a := 64) (b := 64) _).symm
  refine Eq.trans (Eq.trans ?_ (Fin.sum_univ_add (a := 32) (b := 32) _).symm) ((zero_add _).symm.trans (congrArg (· + _) (Finset.sum_eq_zero fun d _ => ?_).symm))
  · refine (add_zero _).symm.trans (congrArg₂ (· + ·) (Finset.sum_congr rfl fun d _ => ?_) (Finset.sum_eq_zero fun d _ => ?_).symm)
    · refine Eq.symm ((dif_neg (show ¬ 256 + (64 + d.1) < 256 by omega)).trans ((dif_neg (show ¬ 256 + (64 + d.1) - 256 < 64 by omega)).trans
        ((dif_pos (show 256 + (64 + d.1) - 256 - 64 < 32 by omega)).trans (congrArg f (Fin.ext ?_)))))
      show 256 + (256 + (64 + d.1) - 256 - 64) = 256 + d.1
      omega
    · exact (dif_neg (show ¬ 256 + (64 + (32 + d.1)) < 256 by omega)).trans ((dif_neg (show ¬ 256 + (64 + (32 + d.1)) - 256 < 64 by omega)).trans
        (dif_neg (show ¬ 256 + (64 + (32 + d.1)) - 256 - 64 < 32 by omega)))
  · exact (dif_neg (show ¬ 256 + d.1 < 256 by omega)).trans (dif_pos (show 256 + d.1 - 256 < 64 by omega))

end Cert.Heads

end
-- ==== Proof.WoDx.lean ====
/- The gradient of the heads' rows through the attention layer's last matrix: the array the call leaves, and its claims. -/
module

public import proofs.«01_k».proof.Defs
public import proofs.«01_k».proof.Proof.Gen.WoDx.Frame
public import proofs.«01_k».proof.Proof.Gen.WoDxIdeal.Value
public import proofs.«01_k».proof.Proof.Gen.WoDxRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoDxIdeal.Value

open Cert.WoDxIdeal Cert.WoDxIdeal.Gen

variable (m : (ℓ : Loc nD τ sig) → Buf (Elt Ideal) ℓ)

/-- One block of the product. -/
theorem block_at (a : FVec Ideal S1024x1024 .bf16) (b : FVec Ideal S1024x1024 .bf16) (i : Fin 1024) (j : Fin 1024) :
    k0_pay1 (F := Ideal) a b (ix2 i j) = ∑ l : Fin 1024, a (ix2 i l) * b (ix2 j l) := by
  pointwise! [k0_pay1]

theorem idx (t : Fin cfg0.N) : win0_0.index t = ![t.1 / 2, 0] ∧ win0_1.index t = ![t.1 % 2, 0] ∧ win0_2.index t = ![t.1 / 2, t.1 % 2] :=
  (by decide +kernel : ∀ t : Fin grid0.N, win0_0.index t = ![t.1 / 2, 0] ∧ win0_1.index t = ![t.1 % 2, 0] ∧ win0_2.index t = ![t.1 / 2, t.1 % 2]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg2)) := by
  unfold V
  simp only [hostOps0, hostOps0_1, hostOps0_2, List.flatten_cons, List.flatten_nil, List.append_nil, List.cons_append, List.nil_append]
  after_results

abbrev as_b (b : FVec Ideal S16x64x1024 .f32) : FVec Ideal S2048x1024 .bf16 := truncf .bf16 (shapeCast S2048x1024 (pad S16x128x1024 ![0, 0, 0] ![0, 64, 0] ![0, 0, 0] b (sitofp .f32 (constantI S_ 32 0#32)) pads_S16x64x1024_S16x128x1024_000_0640_000 h_S_) shapeCasts_S16x128x1024_S2048x1024) bitsLt_bf16_f32

theorem V_b (c : Dev nD) : V m c main_v3 = as_b (m ((c : Thread nD τ).loc main_arg1)) := by
  unfold V
  simp only [hostOps0, hostOps0_1, hostOps0_2, List.flatten_cons, List.flatten_nil, List.append_nil, List.cons_append, List.nil_append]
  after_results
  rfl

/-- The whole product. -/
def spec (a : FVec Ideal S4096x1024 .f32) (b : FVec Ideal S16x64x1024 .f32) : FVec Ideal S4096x2048 .bf16 :=
  fun y => ∑ l : Fin 1024, as_a a (ix2 (y 0) l) * as_b b (ix2 (y 1) l)

theorem read_a (c : Dev nD) (t : Fin cfg0.N) (i : Fin 1024) (l : Fin 1024) :
    iblk m c 0 t (ix2 i l) = as_a (m ((c : Thread nD τ).loc main_arg2)) (ix2 ⟨t.1 / 2 * 1024 + i.1, by have : t.1 < 8 := t.2; omega⟩ l) := by
  refine Eq.trans ?_ (congrFun (V_a m c) _)
  blk_ext [iblk, idx t]

theorem read_b (c : Dev nD) (t : Fin cfg0.N) (j : Fin 1024) (l : Fin 1024) :
    iblk m c 1 t (ix2 j l) = as_b (m ((c : Thread nD τ).loc main_arg1)) (ix2 ⟨t.1 % 2 * 1024 + j.1, by have : t.1 < 8 := t.2; omega⟩ l) := by
  refine Eq.trans ?_ (congrFun (V_b m c) _)
  blk_ext [iblk, idx t]

/-! ## The array left -/

theorem out_at (a : FVec Ideal S1024x1024 .bf16) (b : FVec Ideal S1024x1024 .bf16) (i : Fin 1024) (j : Fin 1024) :
    out0_2 (F := Ideal) a b (ix2 i j) = ∑ l : Fin 1024, a (ix2 i l) * b (ix2 j l) := by
  frame_out
  exact block_at a b i j

theorem written (c : Dev nD) (t : Fin cfg0.N) (y : S1024x1024.Idx) : (dats m 0 c).after 2 t y
    = spec (m ((c : Thread nD τ).loc main_arg2)) (m ((c : Thread nD τ).loc main_arg1))
        (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩ : S4096x2048.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.WoDxIdeal.Value

namespace Cert.Proof.WoDx

theorem frame_p : Cert.quiescent_WoDx := fun m ρ _ => Cert.WoDx.Gen.frame m ρ
theorem frame_pi : Cert.quiescent_WoDxIdeal := fun m ρ _ => Cert.WoDxIdeal.Gen.frame m ρ
theorem frame_ri : Cert.quiescent_WoDxRefIdeal := fun m ρ _ =>
  (θ_run Cert.WoDxRefIdeal.defs _ _).mono (fun r h => ⟨fun c => (h c).2, sem_eq_zero_of_no_sems (by decide) r.2⟩)
    (Cert.WoDxRefIdeal.Value.run (F := Ideal) m ρ)

theorem preserves : Cert.preserves_WoDx_WoDxIdeal := trivial

open Cert.WoDxRefIdeal Cert.WoDxRefIdeal.Gen in
/-- The reference's gradient, with zeros between the heads, is the same sums. -/
theorem reference_eq (a : FVec Ideal S4096x1024 .f32) (b : FVec Ideal S16x64x1024 .f32) :
    truncf .bf16 (shapeCast S4096x2048 (pad S4096x16x128 ![0, 0, 0] ![0, 0, 64] ![0, 0, 0] (shapeCast S4096x16x64 (Host.dotGeneral dot_S4096x1024_S1024x1024_S4096x1024_1_1_0_0_n_n none a (shapeCast S1024x1024 b shapeCasts_S16x64x1024_S1024x1024)) shapeCasts_S4096x1024_S4096x16x64) (sitofp .f32 (constantI S_ 32 0#32)) pads_S4096x16x64_S4096x16x128_000_000_0640 h_S_) shapeCasts_S4096x16x128_S4096x2048) bitsLt_bf16_f32 = Cert.WoDxIdeal.Value.spec a b := by
  funext y
  obtain ⟨i, j, rfl⟩ : ∃ (i : Fin 4096) (j : Fin 2048), y = ix2 i j := ⟨y 0, y 1, by funext a; fin_cases a <;> rfl⟩
  unfold Cert.WoDxIdeal.Value.spec
  pointwise
  simp only [Cert.Heads.zero_int]
  by_cases h : j.1 / 128 < 16 ∧ j.1 % 128 < 64
  · simp only [dif_pos h]
    refine Finset.sum_congr rfl fun l _ => congrArg (_ * ·) (congrArg b ?_)
    refine funext fun k => Fin.ext ?_
    match k with
    | 0 => dsimp [ix3]; omega
    | 1 => dsimp [ix3]; omega
    | 2 => rfl
  · simp only [dif_neg h]
    exact (Finset.sum_eq_zero fun l _ => mul_zero _).symm

open Cert.WoDxRefIdeal in
theorem algebraic : Cert.algebraic_WoDxIdeal_WoDxRefIdeal := by
  intro m g m' g' _ hagree
  refine ⟨_, (θ_run Cert.WoDxIdeal.defs _ _).mono (fun r h => h) (Cert.WoDxIdeal.Value.run_blocks m g), ?_⟩
  refine (θ_run Cert.WoDxRefIdeal.defs _ _).mono (fun r h c => ?_) (Cert.WoDxRefIdeal.Value.run (F := Ideal) m' g')
  obtain ⟨e0, e1, e2⟩ := hagree c
  refine ⟨(h c).1.trans ?_, (h c).2⟩
  rw [e1, e2]
  exact (reference_eq _ _).trans (Cert.WoDxIdeal.Value.final m c).symm

end Cert.Proof.WoDx

end
-- ==== Proof.WoDw.lean ====
/- The gradient of the attention layer's last matrix: the array the call leaves, and its claims. -/
module

public import proofs.«01_k».proof.Defs
public import proofs.«01_k».proof.Proof.Gen.WoDw.Frame
public import proofs.«01_k».proof.Proof.Gen.WoDwIdeal.Value
public import proofs.«01_k».proof.Proof.Gen.WoDwRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoDwIdeal.Value

open Cert.WoDwIdeal Cert.WoDwIdeal.Gen

variable (m : (ℓ : Loc nD τ sig) → Buf (Elt Ideal) ℓ)

/-- One block of the product, over half of the summed axis, added to what is there. -/
theorem block_at (x : FVec Ideal S1024x1024 .f32) (a : FVec Ideal S2048x1024 .f32) (b : FVec Ideal S2048x1024 .bf16) (i : Fin 1024) (j : Fin 1024) :
    k0_pay2 (F := Ideal) x a b (ix2 i j) = x (ix2 i j) + ∑ l : Fin 2048, a (ix2 l i) * b (ix2 l j) := by
  pointwise! [k0_pay2]

theorem zero_at (i : Fin 1024) (j : Fin 1024) : k0_pay1 (F := Ideal) (ix2 i j) = 0 := by
  pointwise! [k0_pay1]

theorem idx (t : Fin cfg0.N) : win0_0.index t = ![t.1 % 2, t.1 / 2] ∧ win0_1.index t = ![t.1 % 2, 0] ∧ win0_2.index t = ![t.1 / 2, 0] :=
  (by decide +kernel : ∀ t : Fin grid0.N, win0_0.index t = ![t.1 % 2, t.1 / 2] ∧ win0_1.index t = ![t.1 % 2, 0] ∧ win0_2.index t = ![t.1 / 2, 0]) t

/-! ## The two factors -/

abbrev as_a (a : FVec Ideal S4096x16x64 .f32) : FVec Ideal S4096x2048 .f32 := shapeCast S4096x2048 (pad S4096x16x128 ![0, 0, 0] ![0, 0, 64] ![0, 0, 0] a (sitofp .f32 (constantI S_ 32 0#32)) pads_S4096x16x64_S4096x16x128_000_000_0640 h_S_) shapeCasts_S4096x16x128_S4096x2048

theorem V_a (c : Dev nD) : V m c main_v1 = as_a (m ((c : Thread nD τ).loc main_arg0)) := by
  unfold V
  simp only [hostOps0, hostOps0_1, hostOps0_2, List.flatten_cons, List.flatten_nil, List.append_nil, List.cons_append, List.nil_append]
  after_results
  rfl

abbrev as_b (b : FVec Ideal S4096x1024 .f32) : FVec Ideal S4096x1024 .bf16 := truncf .bf16 b bitsLt_bf16_f32

theorem V_b (c : Dev nD) : V m c main_v2 = as_b (m ((c : Thread nD τ).loc main_arg2)) := by
  unfold V
  simp only [hostOps0, hostOps0_1, hostOps0_2, List.flatten_cons, List.flatten_nil, List.append_nil, List.cons_append, List.nil_append]
  after_results

/-- The whole product. -/
def spec (a : FVec Ideal S4096x16x64 .f32) (b : FVec Ideal S4096x1024 .f32) : FVec Ideal S2048x1024 .f32 :=
  fun y => ∑ l : Fin 4096, as_a a (ix2 l (y 0)) * as_b b (ix2 l (y 1))

theorem read_a (c : Dev nD) (t : Fin cfg0.N) (i : Fin 1024) (l : Fin 2048) :
    iblk m c 0 t (ix2 l i) = as_a (m ((c : Thread nD τ).loc main_arg0)) (ix2 ⟨t.1 % 2 * 2048 + l.1, by have : t.1 < 4 := t.2; omega⟩ ⟨t.1 / 2 * 1024 + i.1, by have : t.1 < 4 := t.2; omega⟩) := by
  refine Eq.trans ?_ (congrFun (V_a m c) _)
  blk_ext [iblk, idx t]

theorem read_b (c : Dev nD) (t : Fin cfg0.N) (j : Fin 1024) (l : Fin 2048) :
    iblk m c 1 t (ix2 l j) = as_b (m ((c : Thread nD τ).loc main_arg2)) (ix2 ⟨t.1 % 2 * 2048 + l.1, by have : t.1 < 4 := t.2; omega⟩ j) := by
  refine Eq.trans ?_ (congrFun (V_b m c) _)
  blk_ext [iblk, idx t]

/-! ## The array left -/

theorem first (c : Dev nD) (t : Fin cfg0.N) (h : t.1 % 2 = 0) :
    (outsAt0 m c t.1 t.2).2 = k0_pay2 (k0_pay1 (F := Ideal)) (iblk m c 0 t) (iblk m c 1 t) := by
  rw [outsAt0_A m c t h (by omega)]
  frame_out

theorem second (c : Dev nD) (t : Fin cfg0.N) (h : t.1 % 2 = 1) :
    (outsAt0 m c t.1 t.2).1 = k0_pay2 (outsAt0 m c (t.1 - 1) (by have := t.2; omega)).2 (iblk m c 0 t) (iblk m c 1 t) := by
  rw [outsAt0_B m c t (by omega) h]
  frame_out
  exact congrArg (fun x => k0_pay2 x _ _) (Memref.IsWhole.read_unread (Memref.isWhole_whole _) _)

/-- A sum as the sums of its halves. -/
theorem halves (f : Fin 4096 → EReal) :
    (0 + ∑ l : Fin 2048, f ⟨l.1, by omega⟩) + ∑ l : Fin 2048, f ⟨2048 + l.1, by omega⟩ = ∑ l : Fin 4096, f l := by
  rw [zero_add]
  exact (Fin.sum_univ_add (a := 2048) (b := 2048) f).symm

theorem written (c : Dev nD) (t : Fin cfg0.N) (h : t.1 % 2 = 1) (y : S1024x1024.Idx) : (dats m 0 c).after 2 t y
    = spec (m ((c : Thread nD τ).loc main_arg0)) (m ((c : Thread nD τ).loc main_arg2))
        (ix2 ⟨t.1 / 2 * 1024 + (y 0).1, by have : t.1 < 4 := t.2; have : (y 0).1 < 1024 := (y 0).2; omega⟩ (y 1)) := by
  rw [after0_2, second m c t h, first m c ⟨t.1 - 1, by have := t.2; omega⟩ (by show (t.1 - 1) % 2 = 0; omega)]
  obtain ⟨i, j, rfl⟩ : ∃ (i : Fin 1024) (j : Fin 1024), y = ix2 i j := ⟨y 0, y 1, by funext a; fin_cases a <;> rfl⟩
  rw [block_at, block_at, zero_at]
  refine Eq.trans ?_ (halves fun l => as_a (m ((c : Thread nD τ).loc main_arg0)) (ix2 l ⟨t.1 / 2 * 1024 + i.1, by have : t.1 < 4 := t.2; omega⟩) * as_b (m ((c : Thread nD τ).loc main_arg2)) (ix2 l j))
  refine congrArg₂ (· + ·) (congrArg (0 + ·) (Finset.sum_congr rfl fun l _ => ?_)) (Finset.sum_congr rfl fun l _ => ?_)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)
  · rw [read_a, read_b]
    refine congrArg₂ (· * ·) (congrArg _ ?_) (congrArg _ ?_)
    all_goals refine funext fun a => Fin.ext ?_
    all_goals match a with
      | 0 => first | rfl | (dsimp [ix2]; omega)
      | 1 => first | rfl | (dsimp [ix2]; omega)

omit m in
theorem place (t : Fin cfg0.N) (y : S1024x1024.Idx) : (win0_2.blk t).view.emb y
    = (ix2 ⟨t.1 / 2 * 1024 + (y 0).1, by have : t.1 < 4 := t.2; have : (y 0).1 < 1024 := (y 0).2; omega⟩ (y 1) : S2048x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t hf y
    exact (written m c t ((flush0_2 t).mp hf) y).trans (congrArg (spec _ _) (place t y).symm)

end Cert.WoDwIdeal.Value

namespace Cert.Proof.WoDw

theorem frame_p : Cert.quiescent_WoDw := fun m ρ _ => Cert.WoDw.Gen.frame m ρ
theorem frame_pi : Cert.quiescent_WoDwIdeal := fun m ρ _ => Cert.WoDwIdeal.Gen.frame m ρ
theorem frame_ri : Cert.quiescent_WoDwRefIdeal := fun m ρ _ =>
  (θ_run Cert.WoDwRefIdeal.defs _ _).mono (fun r h => ⟨fun c => (h c).2, sem_eq_zero_of_no_sems (by decide) r.2⟩)
    (Cert.WoDwRefIdeal.Value.run (F := Ideal) m ρ)

theorem preserves : Cert.preserves_WoDw_WoDwIdeal := trivial

open Cert.WoDwRefIdeal Cert.WoDwRefIdeal.Gen in
/-- The reference's gradient, with zeros between the heads, is the same sums. -/
theorem reference_eq (a : FVec Ideal S4096x16x64 .f32) (b : FVec Ideal S4096x1024 .f32) :
    shapeCast S2048x1024 (pad S16x128x1024 ![0, 0, 0] ![0, 64, 0] ![0, 0, 0] (shapeCast S16x64x1024 (transpose S1024x1024 [1, 0] (Host.dotGeneral dot_S4096x1024_S4096x1024_S1024x1024_0_0_1_1_n_n none b (shapeCast S4096x1024 a shapeCasts_S4096x16x64_S4096x1024)) transposes_S1024x1024_S1024x1024_1_0) shapeCasts_S1024x1024_S16x64x1024) (sitofp .f32 (constantI S_ 32 0#32)) pads_S16x64x1024_S16x128x1024_000_0640_000 h_S_) shapeCasts_S16x128x1024_S2048x1024 = Cert.WoDwIdeal.Value.spec a b := by
  funext y
  obtain ⟨i, j, rfl⟩ : ∃ (i : Fin 2048) (j : Fin 1024), y = ix2 i j := ⟨y 0, y 1, by funext a; fin_cases a <;> rfl⟩
  unfold Cert.WoDwIdeal.Value.spec
  pointwise
  simp only [Cert.Heads.zero_int]
  by_cases h : i.1 / 128 < 16 ∧ i.1 % 128 < 64
  · simp only [dif_pos h]
    refine Finset.sum_congr rfl fun l _ => (mul_comm _ _).trans (congrArg (· * _) (congrArg a ?_))
    refine funext fun k => Fin.ext ?_
    match k with
    | 0 => rfl
    | 1 => dsimp [ix3]; omega
    | 2 => dsimp [ix3]; omega
  · simp only [dif_neg h]
    exact (Finset.sum_eq_zero fun l _ => zero_mul _).symm

open Cert.WoDwRefIdeal in
theorem algebraic : Cert.algebraic_WoDwIdeal_WoDwRefIdeal := by
  intro m g m' g' _ hagree
  refine ⟨_, (θ_run Cert.WoDwIdeal.defs _ _).mono (fun r h => h) (Cert.WoDwIdeal.Value.run_blocks m g), ?_⟩
  refine (θ_run Cert.WoDwRefIdeal.defs _ _).mono (fun r h c => ?_) (Cert.WoDwRefIdeal.Value.run (F := Ideal) m' g')
  obtain ⟨e0, e1, e2⟩ := hagree c
  refine ⟨(h c).1.trans ?_, (h c).2⟩
  rw [e0, e2]
  exact (reference_eq _ _).trans (Cert.WoDwIdeal.Value.final m c).symm

end Cert.Proof.WoDw

end
-- ==== Proof.Wo.lean ====
/- The forward product of the heads' rows with the attention layer's last matrix: the array the call leaves, and its claims. -/
module

public import proofs.«01_k».proof.Defs
public import proofs.«01_k».proof.Proof.Gen.Wo.Frame
public import proofs.«01_k».proof.Proof.Gen.WoIdeal.Value
public import proofs.«01_k».proof.Proof.Gen.WoRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoIdeal.Value

open Cert.WoIdeal Cert.WoIdeal.Gen

variable (m : (ℓ : Loc nD τ sig) → Buf (Elt Ideal) ℓ)

/-- One block of the product. -/
theorem block_at (a : FVec Ideal S1024x2048 .f32) (b : FVec Ideal S2048x1024 .bf16) (i : Fin 1024) (j : Fin 1024) :
    k0_pay1 (F := Ideal) a b (ix2 i j) = ∑ l : Fin 2048, a (ix2 i l) * b (ix2 l j) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x16x64 .f32) : FVec Ideal S4096x2048 .f32 := shapeCast S4096x2048 (pad S4096x16x128 ![0, 0, 0] ![0, 0, 64] ![0, 0, 0] a (sitofp .f32 (constantI S_ 32 0#32)) pads_S4096x16x64_S4096x16x128_000_000_0640 h_S_) shapeCasts_S4096x16x128_S4096x2048

theorem V_a (c : Dev nD) : V m c main_v1 = as_a (m ((c : Thread nD τ).loc main_arg0)) := by
  unfold V
  simp only [hostOps0, hostOps0_1, hostOps0_2, hostOps0_3, hostOps0_4, List.flatten_cons, List.flatten_nil, List.append_nil, List.cons_append, List.nil_append]
  after_results
  rfl

abbrev as_b (b : FVec Ideal S16x64x1024 .f32) : FVec Ideal S2048x1024 .bf16 := truncf .bf16 (shapeCast S2048x1024 (pad S16x128x1024 ![0, 0, 0] ![0, 64, 0] ![0, 0, 0] b (sitofp .f32 (constantI S_ 32 0#32)) pads_S16x64x1024_S16x128x1024_000_0640_000 h_S_) shapeCasts_S16x128x1024_S2048x1024) bitsLt_bf16_f32

theorem V_b (c : Dev nD) : V m c main_v4 = as_b (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- The whole product. -/
def spec (a : FVec Ideal S4096x16x64 .f32) (b : FVec Ideal S16x64x1024 .f32) : FVec Ideal S4096x1024 .f32 :=
  fun y => ∑ l : Fin 2048, as_a a (ix2 (y 0) l) * as_b b (ix2 l (y 1))

theorem read_a (c : Dev nD) (t : Fin cfg0.N) (i : Fin 1024) (l : Fin 2048) :
    iblk m c 0 t (ix2 i l) = as_a (m ((c : Thread nD τ).loc main_arg0)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 1024) (l : Fin 2048) :
    iblk m c 1 t (ix2 l j) = as_b (m ((c : Thread nD τ).loc main_arg1)) (ix2 l j) := by
  refine Eq.trans ?_ (congrFun (V_b m c) _)
  blk_ext [iblk, idx t]

/-! ## The array left -/

theorem out_at (a : FVec Ideal S1024x2048 .f32) (b : FVec Ideal S2048x1024 .bf16) (i : Fin 1024) (j : Fin 1024) :
    out0_2 (F := Ideal) a b (ix2 i j) = ∑ l : Fin 2048, a (ix2 i l) * b (ix2 l j) := by
  frame_out
  exact block_at a b i j

theorem written (c : Dev nD) (t : Fin cfg0.N) (y : S1024x1024.Idx) : (dats m 0 c).after 2 t y
    = spec (m ((c : Thread nD τ).loc main_arg0)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 * 1024 + (y 0).1, by have : t.1 < 4 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.WoIdeal.Value

namespace Cert.Proof.Wo

theorem frame_p : Cert.quiescent_Wo := fun m ρ _ => Cert.Wo.Gen.frame m ρ
theorem frame_pi : Cert.quiescent_WoIdeal := fun m ρ _ => Cert.WoIdeal.Gen.frame m ρ
theorem frame_ri : Cert.quiescent_WoRefIdeal := fun m ρ _ =>
  (θ_run Cert.WoRefIdeal.defs _ _).mono (fun r h => ⟨fun c => (h c).2, sem_eq_zero_of_no_sems (by decide) r.2⟩)
    (Cert.WoRefIdeal.Value.run (F := Ideal) m ρ)

theorem preserves : Cert.preserves_Wo_WoIdeal := trivial

open Cert.WoRefIdeal Cert.WoRefIdeal.Gen in
/-- The reference's sum over the heads' own lanes is the sum over all lanes. -/
theorem reference_eq (a : FVec Ideal S4096x16x64 .f32) (b : FVec Ideal S16x64x1024 .f32) :
    Host.dotGeneral dot_S4096x1024_S1024x1024_S4096x1024_1_0_0_1_n_n none (shapeCast S4096x1024 a shapeCasts_S4096x16x64_S4096x1024) (shapeCast S1024x1024 b shapeCasts_S16x64x1024_S1024x1024) = Cert.WoIdeal.Value.spec a b := by
  funext y
  obtain ⟨i, j, rfl⟩ : ∃ (i : Fin 4096) (j : Fin 1024), y = ix2 i j := ⟨y 0, y 1, by funext a; fin_cases a <;> rfl⟩
  unfold Cert.WoIdeal.Value.spec
  pointwise
  simp only [Cert.Heads.zero_int]
  refine (Cert.Heads.sum_lanes fun g d => a (ix3 i g d) * b (ix3 g d j)).trans (Finset.sum_congr rfl fun l _ => ?_)
  by_cases h : l.1 / 128 < 16 ∧ l.1 % 128 < 64
  · simp only [dif_pos h]
  · simp only [dif_neg h]
    exact (mul_zero _).symm

open Cert.WoRefIdeal in
theorem algebraic : Cert.algebraic_WoIdeal_WoRefIdeal := by
  intro m g m' g' _ hagree
  refine ⟨_, (θ_run Cert.WoIdeal.defs _ _).mono (fun r h => h) (Cert.WoIdeal.Value.run_blocks m g), ?_⟩
  refine (θ_run Cert.WoRefIdeal.defs _ _).mono (fun r h c => ?_) (Cert.WoRefIdeal.Value.run (F := Ideal) m' g')
  obtain ⟨e0, e1⟩ := hagree c
  refine ⟨(h c).1.trans ?_, (h c).2⟩
  rw [e0, e1]
  exact (reference_eq _ _).trans (Cert.WoIdeal.Value.final m c).symm

end Cert.Proof.Wo

end
-- ==== Proof.UqDx.lean ====
/- The gradient of the rows through the queries' second matrix: the array the call leaves, and its claims. -/
module

public import proofs.«01_k».proof.Defs
public import proofs.«01_k».proof.Proof.Gen.UqDx.Frame
public import proofs.«01_k».proof.Proof.Gen.UqDxIdeal.Value
public import proofs.«01_k».proof.Proof.Gen.UqDxRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UqDxIdeal.Value

open Cert.UqDxIdeal Cert.UqDxIdeal.Gen

variable (m : (ℓ : Loc nD τ sig) → Buf (Elt Ideal) ℓ)

/-- One block of the product. -/
theorem block_at (a : FVec Ideal S1024x2048 .bf16) (b : FVec Ideal S256x2048 .bf16) (i : Fin 1024) (j : Fin 256) :
    k0_pay1 (F := Ideal) a b (ix2 i j) = ∑ l : Fin 2048, a (ix2 i l) * b (ix2 j l) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x16x96 .f32) : FVec Ideal S4096x2048 .bf16 := truncf .bf16 (shapeCast S4096x2048 (pad S4096x16x128 ![0, 0, 0] ![0, 0, 32] ![0, 0, 0] a (sitofp .f32 (constantI S_ 32 0#32)) pads_S4096x16x96_S4096x16x128_000_000_0320 h_S_) shapeCasts_S4096x16x128_S4096x2048) bitsLt_bf16_f32

theorem V_a (c : Dev nD) : V m c main_v2 = as_a (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

abbrev as_b (b : FVec Ideal S256x16x96 .f32) : FVec Ideal S256x2048 .bf16 := truncf .bf16 (shapeCast S256x2048 (pad S256x16x128 ![0, 0, 0] ![0, 0, 32] ![0, 0, 0] b (sitofp .f32 (constantI S_ 32 0#32)) pads_S256x16x96_S256x16x128_000_000_0320 h_S_) shapeCasts_S256x16x128_S256x2048) bitsLt_bf16_f32

theorem V_b (c : Dev nD) : V m c main_v5 = as_b (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- The whole product. -/
def spec (a : FVec Ideal S4096x16x96 .f32) (b : FVec Ideal S256x16x96 .f32) : FVec Ideal S4096x256 .f32 :=
  fun y => ∑ l : Fin 2048, as_a a (ix2 (y 0) l) * as_b b (ix2 (y 1) l)

theorem read_a (c : Dev nD) (t : Fin cfg0.N) (i : Fin 1024) (l : Fin 2048) :
    iblk m c 0 t (ix2 i l) = as_a (m ((c : Thread nD τ).loc main_arg2)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 256) (l : Fin 2048) :
    iblk m c 1 t (ix2 j l) = as_b (m ((c : Thread nD τ).loc main_arg1)) (ix2 j l) := by
  refine Eq.trans ?_ (congrFun (V_b m c) _)
  blk_ext [iblk, idx t]

/-! ## The array left -/

theorem out_at (a : FVec Ideal S1024x2048 .bf16) (b : FVec Ideal S256x2048 .bf16) (i : Fin 1024) (j : Fin 256) :
    out0_2 (F := Ideal) a b (ix2 i j) = ∑ l : Fin 2048, a (ix2 i l) * b (ix2 j l) := by
  frame_out
  exact block_at a b i j

theorem written (c : Dev nD) (t : Fin cfg0.N) (y : S1024x256.Idx) : (dats m 0 c).after 2 t y
    = spec (m ((c : Thread nD τ).loc main_arg2)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 256), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x256.Idx) : (win0_2.blk t).view.emb y
    = (ix2 ⟨t.1 * 1024 + (y 0).1, by have : t.1 < 4 := t.2; have : (y 0).1 < 1024 := (y 0).2; omega⟩ (y 1) : S4096x256.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.UqDxIdeal.Value

namespace Cert.Proof.UqDx

theorem frame_p : Cert.quiescent_UqDx := fun m ρ _ => Cert.UqDx.Gen.frame m ρ
theorem frame_pi : Cert.quiescent_UqDxIdeal := fun m ρ _ => Cert.UqDxIdeal.Gen.frame m ρ
theorem frame_ri : Cert.quiescent_UqDxRefIdeal := fun m ρ _ =>
  (θ_run Cert.UqDxRefIdeal.defs _ _).mono (fun r h => ⟨fun c => (h c).2, sem_eq_zero_of_no_sems (by decide) r.2⟩)
    (Cert.UqDxRefIdeal.Value.run (F := Ideal) m ρ)

theorem preserves : Cert.preserves_UqDx_UqDxIdeal := trivial

open Cert.UqDxRefIdeal Cert.UqDxRefIdeal.Gen in
/-- The reference's sum over the heads' own lanes is the sum over all lanes. -/
theorem reference_eq (a : FVec Ideal S4096x16x96 .f32) (b : FVec Ideal S256x16x96 .f32) :
    Host.dotGeneral dot_S4096x1536_S256x1536_S4096x256_1_1_0_0_n_n none (shapeCast S4096x1536 a shapeCasts_S4096x16x96_S4096x1536) (shapeCast S256x1536 b shapeCasts_S256x16x96_S256x1536) = Cert.UqDxIdeal.Value.spec a b := by
  funext y
  obtain ⟨i, j, rfl⟩ : ∃ (i : Fin 4096) (j : Fin 256), y = ix2 i j := ⟨y 0, y 1, by funext a; fin_cases a <;> rfl⟩
  unfold Cert.UqDxIdeal.Value.spec
  pointwise
  simp only [Cert.Heads.zero_int]
  refine (Cert.Heads.sum_lanes_96 fun g k => a (ix3 i g k) * b (ix3 j g k)).trans (Finset.sum_congr rfl fun l _ => ?_)
  by_cases h : l.1 / 128 < 16 ∧ l.1 % 128 < 96
  · simp only [dif_pos h]
  · simp only [dif_neg h]
    exact (mul_zero _).symm

open Cert.UqDxRefIdeal in
theorem algebraic : Cert.algebraic_UqDxIdeal_UqDxRefIdeal := by
  intro m g m' g' _ hagree
  refine ⟨_, (θ_run Cert.UqDxIdeal.defs _ _).mono (fun r h => h) (Cert.UqDxIdeal.Value.run_blocks m g), ?_⟩
  refine (θ_run Cert.UqDxRefIdeal.defs _ _).mono (fun r h c => ?_) (Cert.UqDxRefIdeal.Value.run (F := Ideal) m' g')
  obtain ⟨e0, e1, e2⟩ := hagree c
  refine ⟨(h c).1.trans ?_, (h c).2⟩
  rw [e1, e2]
  exact (reference_eq _ _).trans (Cert.UqDxIdeal.Value.final m c).symm

end Cert.Proof.UqDx

end
-- ==== Proof.UqDw.lean ====
/- The gradient of the queries' second matrix: the array the call leaves, and its claims. -/
module

public import proofs.«01_k».proof.Defs
public import proofs.«01_k».proof.Proof.Gen.UqDw.Frame
public import proofs.«01_k».proof.Proof.Gen.UqDwIdeal.Value
public import proofs.«01_k».proof.Proof.Gen.UqDwRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UqDwIdeal.Value

open Cert.UqDwIdeal Cert.UqDwIdeal.Gen

variable (m : (ℓ : Loc nD τ sig) → Buf (Elt Ideal) ℓ)

/-- One block of the product. -/
theorem block_at (a : FVec Ideal S4096x256 .f32) (b : FVec Ideal S4096x1024 .bf16) (i : Fin 256) (j : Fin 1024) :
    k0_pay1 (F := Ideal) a b (ix2 i j) = ∑ l : Fin 4096, a (ix2 l i) * b (ix2 l j) := by
  pointwise! [k0_pay1]

theorem idx (t : Fin cfg0.N) : win0_0.index t = ![0, 0] ∧ win0_1.index t = ![0, t.1] ∧ win0_2.index t = ![0, t.1] :=
  (by decide +kernel : ∀ t : Fin grid0.N, win0_0.index t = ![0, 0] ∧ win0_1.index t = ![0, t.1] ∧ win0_2.index t = ![0, t.1]) t

/-! ## The two factors -/

abbrev as_a (a : FVec Ideal S4096x256 .f32) : FVec Ideal S4096x256 .f32 := a

theorem V_a (c : Dev nD) : V m c main_arg0 = as_a (m ((c : Thread nD τ).loc main_arg0)) := by
  unfold V
  simp only [hostOps0, hostOps0_1, hostOps0_2, List.flatten_cons, List.flatten_nil, List.append_nil, List.cons_append, List.nil_append]
  after_results

abbrev as_b (b : FVec Ideal S4096x16x96 .f32) : FVec Ideal S4096x2048 .bf16 := truncf .bf16 (shapeCast S4096x2048 (pad S4096x16x128 ![0, 0, 0] ![0, 0, 32] ![0, 0, 0] b (sitofp .f32 (constantI S_ 32 0#32)) pads_S4096x16x96_S4096x16x128_000_000_0320 h_S_) shapeCasts_S4096x16x128_S4096x2048) bitsLt_bf16_f32

theorem V_b (c : Dev nD) : V m c main_v2 = as_b (m ((c : Thread nD τ).loc main_arg2)) := by
  unfold V
  simp only [hostOps0, hostOps0_1, hostOps0_2, List.flatten_cons, List.flatten_nil, List.append_nil, List.cons_append, List.nil_append]
  after_results
  rfl

/-- The whole product. -/
def spec (a : FVec Ideal S4096x256 .f32) (b : FVec Ideal S4096x16x96 .f32) : FVec Ideal S256x2048 .f32 :=
  fun y => ∑ l : Fin 4096, as_a a (ix2 l (y 0)) * as_b b (ix2 l (y 1))

theorem read_a (c : Dev nD) (t : Fin cfg0.N) (i : Fin 256) (l : Fin 4096) :
    iblk m c 0 t (ix2 l i) = as_a (m ((c : Thread nD τ).loc main_arg0)) (ix2 l i) := by
  refine Eq.trans ?_ (congrFun (V_a m c) _)
  blk_ext [iblk, idx t]

theorem read_b (c : Dev nD) (t : Fin cfg0.N) (j : Fin 1024) (l : Fin 4096) :
    iblk m c 1 t (ix2 l j) = as_b (m ((c : Thread nD τ).loc main_arg2)) (ix2 l ⟨t.1 * 1024 + j.1, by have : t.1 < 2 := t.2; omega⟩) := by
  refine Eq.trans ?_ (congrFun (V_b m c) _)
  blk_ext [iblk, idx t]

/-! ## The array left -/

theorem out_at (a : FVec Ideal S4096x256 .f32) (b : FVec Ideal S4096x1024 .bf16) (i : Fin 256) (j : Fin 1024) :
    out0_2 (F := Ideal) a b (ix2 i j) = ∑ l : Fin 4096, a (ix2 l i) * b (ix2 l j) := by
  frame_out
  exact block_at a b i j

theorem written (c : Dev nD) (t : Fin cfg0.N) (y : S256x1024.Idx) : (dats m 0 c).after 2 t y
    = spec (m ((c : Thread nD τ).loc main_arg0)) (m ((c : Thread nD τ).loc main_arg2))
        (ix2 (y 0) ⟨t.1 * 1024 + (y 1).1, by have : t.1 < 2 := t.2; have : (y 1).1 < 1024 := (y 1).2; omega⟩) := by
  rw [after0_2]
  obtain ⟨i, j, rfl⟩ : ∃ (i : Fin 256) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S256x1024.Idx) : (win0_2.blk t).view.emb y
    = (ix2 (y 0) ⟨t.1 * 1024 + (y 1).1, by have : t.1 < 2 := t.2; have : (y 1).1 < 1024 := (y 1).2; omega⟩ : S256x2048.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t _ y
    exact (written m c t y).trans (congrArg (spec _ _) (place t y).symm)

end Cert.UqDwIdeal.Value

namespace Cert.Proof.UqDw

theorem frame_p : Cert.quiescent_UqDw := fun m ρ _ => Cert.UqDw.Gen.frame m ρ
theorem frame_pi : Cert.quiescent_UqDwIdeal := fun m ρ _ => Cert.UqDwIdeal.Gen.frame m ρ
theorem frame_ri : Cert.quiescent_UqDwRefIdeal := fun m ρ _ =>
  (θ_run Cert.UqDwRefIdeal.defs _ _).mono (fun r h => ⟨fun c => (h c).2, sem_eq_zero_of_no_sems (by decide) r.2⟩)
    (Cert.UqDwRefIdeal.Value.run (F := Ideal) m ρ)

theorem preserves : Cert.preserves_UqDw_UqDwIdeal := trivial

open Cert.UqDwRefIdeal Cert.UqDwRefIdeal.Gen in
/-- The reference's gradient, with zeros between the heads, is the same sums. -/
theorem reference_eq (a : FVec Ideal S4096x256 .f32) (b : FVec Ideal S4096x16x96 .f32) :
    shapeCast S256x2048 (pad S256x16x128 ![0, 0, 0] ![0, 0, 32] ![0, 0, 0] (shapeCast S256x16x96 (transpose S256x1536 [1, 0] (Host.dotGeneral dot_S4096x1536_S4096x256_S1536x256_0_0_1_1_n_n none (shapeCast S4096x1536 b shapeCasts_S4096x16x96_S4096x1536) a) transposes_S1536x256_S256x1536_1_0) shapeCasts_S256x1536_S256x16x96) (sitofp .f32 (constantI S_ 32 0#32)) pads_S256x16x96_S256x16x128_000_000_0320 h_S_) shapeCasts_S256x16x128_S256x2048 = Cert.UqDwIdeal.Value.spec a b := by
  funext y
  obtain ⟨i, j, rfl⟩ : ∃ (i : Fin 256) (j : Fin 2048), y = ix2 i j := ⟨y 0, y 1, by funext a; fin_cases a <;> rfl⟩
  unfold Cert.UqDwIdeal.Value.spec
  pointwise
  simp only [Cert.Heads.zero_int]
  by_cases h : j.1 / 128 < 16 ∧ j.1 % 128 < 96
  · simp only [dif_pos h]
    refine Finset.sum_congr rfl fun l _ => (mul_comm _ _).trans (congrArg (_ * ·) (congrArg b ?_))
    refine funext fun k => Fin.ext ?_
    match k with
    | 0 => rfl
    | 1 => dsimp [ix3]; omega
    | 2 => dsimp [ix3]; omega
  · simp only [dif_neg h]
    exact (Finset.sum_eq_zero fun l _ => mul_zero _).symm

open Cert.UqDwRefIdeal in
theorem algebraic : Cert.algebraic_UqDwIdeal_UqDwRefIdeal := by
  intro m g m' g' _ hagree
  refine ⟨_, (θ_run Cert.UqDwIdeal.defs _ _).mono (fun r h => h) (Cert.UqDwIdeal.Value.run_blocks m g), ?_⟩
  refine (θ_run Cert.UqDwRefIdeal.defs _ _).mono (fun r h c => ?_) (Cert.UqDwRefIdeal.Value.run (F := Ideal) m' g')
  obtain ⟨e0, e1, e2⟩ := hagree c
  refine ⟨(h c).1.trans ?_, (h c).2⟩
  rw [e0, e2]
  exact (reference_eq _ _).trans (Cert.UqDwIdeal.Value.final m c).symm

end Cert.Proof.UqDw

end
-- ==== Proof.Uq.lean ====
/- The forward product of the rows with the queries' second matrix: the array the call leaves, and its claims. -/
module

public import proofs.«01_k».proof.Defs
public import proofs.«01_k».proof.Proof.Gen.Uq.Frame
public import proofs.«01_k».proof.Proof.Gen.UqIdeal.Value
public import proofs.«01_k».proof.Proof.Gen.UqRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UqIdeal.Value

open Cert.UqIdeal Cert.UqIdeal.Gen

variable (m : (ℓ : Loc nD τ sig) → Buf (Elt Ideal) ℓ)

/-- One block of the product. -/
theorem block_at (a : FVec Ideal S1024x256 .f32) (b : FVec Ideal S256x1024 .bf16) (i : Fin 1024) (j : Fin 1024) :
    k0_pay1 (F := Ideal) a b (ix2 i j) = ∑ l : Fin 256, a (ix2 i l) * b (ix2 l j) := by
  pointwise! [k0_pay1]

theorem idx (t : Fin cfg0.N) : win0_0.index t = ![t.1 / 2, 0] ∧ win0_1.index t = ![0, t.1 % 2] ∧ win0_2.index t = ![t.1 / 2, t.1 % 2] :=
  (by decide +kernel : ∀ t : Fin grid0.N, win0_0.index t = ![t.1 / 2, 0] ∧ win0_1.index t = ![0, t.1 % 2] ∧ win0_2.index t = ![t.1 / 2, t.1 % 2]) t

/-! ## The two factors -/

abbrev as_a (a : FVec Ideal S4096x256 .f32) : FVec Ideal S4096x256 .f32 := a

theorem V_a (c : Dev nD) : V m c main_arg0 = as_a (m ((c : Thread nD τ).loc main_arg0)) := by
  unfold V
  simp only [hostOps0, hostOps0_1, hostOps0_2, List.flatten_cons, List.flatten_nil, List.append_nil, List.cons_append, List.nil_append]
  after_results

abbrev as_b (b : FVec Ideal S256x16x96 .f32) : FVec Ideal S256x2048 .bf16 := truncf .bf16 (shapeCast S256x2048 (pad S256x16x128 ![0, 0, 0] ![0, 0, 32] ![0, 0, 0] b (sitofp .f32 (constantI S_ 32 0#32)) pads_S256x16x96_S256x16x128_000_000_0320 h_S_) shapeCasts_S256x16x128_S256x2048) bitsLt_bf16_f32

theorem V_b (c : Dev nD) : V m c main_v2 = as_b (m ((c : Thread nD τ).loc main_arg1)) := by
  unfold V
  simp only [hostOps0, hostOps0_1, hostOps0_2, List.flatten_cons, List.flatten_nil, List.append_nil, List.cons_append, List.nil_append]
  after_results
  rfl

/-- The whole product. -/
def spec (a : FVec Ideal S4096x256 .f32) (b : FVec Ideal S256x16x96 .f32) : FVec Ideal S4096x2048 .f32 :=
  fun y => ∑ l : Fin 256, as_a a (ix2 (y 0) l) * as_b b (ix2 l (y 1))

theorem read_a (c : Dev nD) (t : Fin cfg0.N) (i : Fin 1024) (l : Fin 256) :
    iblk m c 0 t (ix2 i l) = as_a (m ((c : Thread nD τ).loc main_arg0)) (ix2 ⟨t.1 / 2 * 1024 + i.1, by have : t.1 < 8 := t.2; omega⟩ l) := by
  refine Eq.trans ?_ (congrFun (V_a m c) _)
  blk_ext [iblk, idx t]

theorem read_b (c : Dev nD) (t : Fin cfg0.N) (j : Fin 1024) (l : Fin 256) :
    iblk m c 1 t (ix2 l j) = as_b (m ((c : Thread nD τ).loc main_arg1)) (ix2 l ⟨t.1 % 2 * 1024 + j.1, by have : t.1 < 8 := t.2; omega⟩) := by
  refine Eq.trans ?_ (congrFun (V_b m c) _)
  blk_ext [iblk, idx t]

/-! ## The array left -/

theorem out_at (a : FVec Ideal S1024x256 .f32) (b : FVec Ideal S256x1024 .bf16) (i : Fin 1024) (j : Fin 1024) :
    out0_2 (F := Ideal) a b (ix2 i j) = ∑ l : Fin 256, a (ix2 i l) * b (ix2 l j) := by
  frame_out
  exact block_at a b i j

theorem written (c : Dev nD) (t : Fin cfg0.N) (y : S1024x1024.Idx) : (dats m 0 c).after 2 t y
    = spec (m ((c : Thread nD τ).loc main_arg0)) (m ((c : Thread nD τ).loc main_arg1))
        (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩ : S4096x2048.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.UqIdeal.Value

namespace Cert.Proof.Uq

theorem frame_p : Cert.quiescent_Uq := fun m ρ _ => Cert.Uq.Gen.frame m ρ
theorem frame_pi : Cert.quiescent_UqIdeal := fun m ρ _ => Cert.UqIdeal.Gen.frame m ρ
theorem frame_ri : Cert.quiescent_UqRefIdeal := fun m ρ _ =>
  (θ_run Cert.UqRefIdeal.defs _ _).mono (fun r h => ⟨fun c => (h c).2, sem_eq_zero_of_no_sems (by decide) r.2⟩)
    (Cert.UqRefIdeal.Value.run (F := Ideal) m ρ)

theorem preserves : Cert.preserves_Uq_UqIdeal := trivial

open Cert.UqRefIdeal Cert.UqRefIdeal.Gen in
/-- The reference's product, with zeros between the heads, is the same sums. -/
theorem reference_eq (a : FVec Ideal S4096x256 .f32) (b : FVec Ideal S256x16x96 .f32) :
    shapeCast S4096x2048 (pad S4096x16x128 ![0, 0, 0] ![0, 0, 32] ![0, 0, 0] (shapeCast S4096x16x96 (Host.dotGeneral dot_S4096x256_S256x1536_S4096x1536_1_0_0_1_n_n none a (shapeCast S256x1536 b shapeCasts_S256x16x96_S256x1536)) shapeCasts_S4096x1536_S4096x16x96) (sitofp .f32 (constantI S_ 32 0#32)) pads_S4096x16x96_S4096x16x128_000_000_0320 h_S_) shapeCasts_S4096x16x128_S4096x2048 = Cert.UqIdeal.Value.spec a b := by
  funext y
  obtain ⟨i, j, rfl⟩ : ∃ (i : Fin 4096) (j : Fin 2048), y = ix2 i j := ⟨y 0, y 1, by funext a; fin_cases a <;> rfl⟩
  unfold Cert.UqIdeal.Value.spec
  pointwise
  simp only [Cert.Heads.zero_int]
  by_cases h : j.1 / 128 < 16 ∧ j.1 % 128 < 96
  · simp only [dif_pos h]
    refine Finset.sum_congr rfl fun l _ => congrArg (_ * ·) (congrArg b ?_)
    refine funext fun k => Fin.ext ?_
    match k with
    | 0 => rfl
    | 1 => dsimp [ix3]; omega
    | 2 => dsimp [ix3]; omega
  · simp only [dif_neg h]
    exact (Finset.sum_eq_zero fun l _ => mul_zero _).symm

open Cert.UqRefIdeal in
theorem algebraic : Cert.algebraic_UqIdeal_UqRefIdeal := by
  intro m g m' g' _ hagree
  refine ⟨_, (θ_run Cert.UqIdeal.defs _ _).mono (fun r h => h) (Cert.UqIdeal.Value.run_blocks m g), ?_⟩
  refine (θ_run Cert.UqRefIdeal.defs _ _).mono (fun r h c => ?_) (Cert.UqRefIdeal.Value.run (F := Ideal) m' g')
  obtain ⟨e0, e1⟩ := hagree c
  refine ⟨(h c).1.trans ?_, (h c).2⟩
  rw [e0, e1]
  exact (reference_eq _ _).trans (Cert.UqIdeal.Value.final m c).symm

end Cert.Proof.Uq

end
-- ==== Proof.KvBDx.lean ====
/- The gradient of the rows through a matrix from the latent rows to the heads' keys or values: the array the call leaves, and its claims. -/
module

public import proofs.«01_k».proof.Defs
public import proofs.«01_k».proof.Proof.Gen.KvBDx.Frame
public import proofs.«01_k».proof.Proof.Gen.KvBDxIdeal.Value
public import proofs.«01_k».proof.Proof.Gen.KvBDxRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvBDxIdeal.Value

open Cert.KvBDxIdeal Cert.KvBDxIdeal.Gen

variable (m : (ℓ : Loc nD τ sig) → Buf (Elt Ideal) ℓ)

/-- One block of the product. -/
theorem block_at (a : FVec Ideal S1024x2048 .bf16) (b : FVec Ideal S256x2048 .bf16) (i : Fin 1024) (j : Fin 256) :
    k0_pay1 (F := Ideal) a b (ix2 i j) = ∑ l : Fin 2048, a (ix2 i l) * b (ix2 j l) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x16x64 .f32) : FVec Ideal S4096x2048 .bf16 := truncf .bf16 (shapeCast S4096x2048 (pad S4096x16x128 ![0, 0, 0] ![0, 0, 64] ![0, 0, 0] a (sitofp .f32 (constantI S_ 32 0#32)) pads_S4096x16x64_S4096x16x128_000_000_0640 h_S_) shapeCasts_S4096x16x128_S4096x2048) bitsLt_bf16_f32

theorem V_a (c : Dev nD) : V m c main_v2 = as_a (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

abbrev as_b (b : FVec Ideal S256x16x64 .f32) : FVec Ideal S256x2048 .bf16 := truncf .bf16 (shapeCast S256x2048 (pad S256x16x128 ![0, 0, 0] ![0, 0, 64] ![0, 0, 0] b (sitofp .f32 (constantI S_ 32 0#32)) pads_S256x16x64_S256x16x128_000_000_0640 h_S_) shapeCasts_S256x16x128_S256x2048) bitsLt_bf16_f32

theorem V_b (c : Dev nD) : V m c main_v5 = as_b (m ((c : Thread nD τ).loc main_arg1)) := by
  unfold V
  simp only [hostOps0, hostOps0_1, hostOps0_2, hostOps0_3, hostOps0_4, List.flatten_cons, List.flatten_nil, List.append_nil, List.cons_append, List.nil_append]
  after_results
  rfl

/-- The whole product. -/
def spec (a : FVec Ideal S4096x16x64 .f32) (b : FVec Ideal S256x16x64 .f32) : FVec Ideal S4096x256 .f32 :=
  fun y => ∑ l : Fin 2048, as_a a (ix2 (y 0) l) * as_b b (ix2 (y 1) l)

theorem read_a (c : Dev nD) (t : Fin cfg0.N) (i : Fin 1024) (l : Fin 2048) :
    iblk m c 0 t (ix2 i l) = as_a (m ((c : Thread nD τ).loc main_arg2)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 256) (l : Fin 2048) :
    iblk m c 1 t (ix2 j l) = as_b (m ((c : Thread nD τ).loc main_arg1)) (ix2 j l) := by
  refine Eq.trans ?_ (congrFun (V_b m c) _)
  blk_ext [iblk, idx t]

/-! ## The array left -/

theorem out_at (a : FVec Ideal S1024x2048 .bf16) (b : FVec Ideal S256x2048 .bf16) (i : Fin 1024) (j : Fin 256) :
    out0_2 (F := Ideal) a b (ix2 i j) = ∑ l : Fin 2048, a (ix2 i l) * b (ix2 j l) := by
  frame_out
  exact block_at a b i j

theorem written (c : Dev nD) (t : Fin cfg0.N) (y : S1024x256.Idx) : (dats m 0 c).after 2 t y
    = spec (m ((c : Thread nD τ).loc main_arg2)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 256), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x256.Idx) : (win0_2.blk t).view.emb y
    = (ix2 ⟨t.1 * 1024 + (y 0).1, by have : t.1 < 4 := t.2; have : (y 0).1 < 1024 := (y 0).2; omega⟩ (y 1) : S4096x256.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.KvBDxIdeal.Value

namespace Cert.Proof.KvBDx

theorem frame_p : Cert.quiescent_KvBDx := fun m ρ _ => Cert.KvBDx.Gen.frame m ρ
theorem frame_pi : Cert.quiescent_KvBDxIdeal := fun m ρ _ => Cert.KvBDxIdeal.Gen.frame m ρ
theorem frame_ri : Cert.quiescent_KvBDxRefIdeal := fun m ρ _ =>
  (θ_run Cert.KvBDxRefIdeal.defs _ _).mono (fun r h => ⟨fun c => (h c).2, sem_eq_zero_of_no_sems (by decide) r.2⟩)
    (Cert.KvBDxRefIdeal.Value.run (F := Ideal) m ρ)

theorem preserves : Cert.preserves_KvBDx_KvBDxIdeal := trivial

open Cert.KvBDxRefIdeal Cert.KvBDxRefIdeal.Gen in
/-- The reference's sum over the heads' own lanes is the sum over all lanes. -/
theorem reference_eq (a : FVec Ideal S4096x16x64 .f32) (b : FVec Ideal S256x16x64 .f32) :
    Host.dotGeneral dot_S4096x1024_S256x1024_S4096x256_1_1_0_0_n_n none (shapeCast S4096x1024 a shapeCasts_S4096x16x64_S4096x1024) (shapeCast S256x1024 b shapeCasts_S256x16x64_S256x1024) = Cert.KvBDxIdeal.Value.spec a b := by
  funext y
  obtain ⟨i, j, rfl⟩ : ∃ (i : Fin 4096) (j : Fin 256), y = ix2 i j := ⟨y 0, y 1, by funext a; fin_cases a <;> rfl⟩
  unfold Cert.KvBDxIdeal.Value.spec
  pointwise
  simp only [Cert.Heads.zero_int]
  refine (Cert.Heads.sum_lanes fun g k => a (ix3 i g k) * b (ix3 j g k)).trans (Finset.sum_congr rfl fun l _ => ?_)
  by_cases h : l.1 / 128 < 16 ∧ l.1 % 128 < 64
  · simp only [dif_pos h]
  · simp only [dif_neg h]
    exact (mul_zero _).symm

open Cert.KvBDxRefIdeal in
theorem algebraic : Cert.algebraic_KvBDxIdeal_KvBDxRefIdeal := by
  intro m g m' g' _ hagree
  refine ⟨_, (θ_run Cert.KvBDxIdeal.defs _ _).mono (fun r h => h) (Cert.KvBDxIdeal.Value.run_blocks m g), ?_⟩
  refine (θ_run Cert.KvBDxRefIdeal.defs _ _).mono (fun r h c => ?_) (Cert.KvBDxRefIdeal.Value.run (F := Ideal) m' g')
  obtain ⟨e0, e1, e2⟩ := hagree c
  refine ⟨(h c).1.trans ?_, (h c).2⟩
  rw [e1, e2]
  exact (reference_eq _ _).trans (Cert.KvBDxIdeal.Value.final m c).symm

end Cert.Proof.KvBDx

end
-- ==== Proof.KvBDw.lean ====
/- The gradient of a matrix from the latent rows to the heads' keys or values: the array the call leaves, and its claims. -/
module

public import proofs.«01_k».proof.Defs
public import proofs.«01_k».proof.Proof.Gen.KvBDw.Frame
public import proofs.«01_k».proof.Proof.Gen.KvBDwIdeal.Value
public import proofs.«01_k».proof.Proof.Gen.KvBDwRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvBDwIdeal.Value

open Cert.KvBDwIdeal Cert.KvBDwIdeal.Gen

variable (m : (ℓ : Loc nD τ sig) → Buf (Elt Ideal) ℓ)

/-- One block of the product. -/
theorem block_at (a : FVec Ideal S4096x256 .f32) (b : FVec Ideal S4096x1024 .bf16) (i : Fin 256) (j : Fin 1024) :
    k0_pay1 (F := Ideal) a b (ix2 i j) = ∑ l : Fin 4096, a (ix2 l i) * b (ix2 l j) := by
  pointwise! [k0_pay1]

theorem idx (t : Fin cfg0.N) : win0_0.index t = ![0, 0] ∧ win0_1.index t = ![0, t.1] ∧ win0_2.index t = ![0, t.1] :=
  (by decide +kernel : ∀ t : Fin grid0.N, win0_0.index t = ![0, 0] ∧ win0_1.index t = ![0, t.1] ∧ win0_2.index t = ![0, t.1]) t

/-! ## The two factors -/

abbrev as_a (a : FVec Ideal S4096x256 .f32) : FVec Ideal S4096x256 .f32 := a

theorem V_a (c : Dev nD) : V m c main_arg0 = as_a (m ((c : Thread nD τ).loc main_arg0)) := by
  unfold V
  simp only [hostOps0, hostOps0_1, hostOps0_2, List.flatten_cons, List.flatten_nil, List.append_nil, List.cons_append, List.nil_append]
  after_results

abbrev as_b (b : FVec Ideal S4096x16x64 .f32) : FVec Ideal S4096x2048 .bf16 := truncf .bf16 (shapeCast S4096x2048 (pad S4096x16x128 ![0, 0, 0] ![0, 0, 64] ![0, 0, 0] b (sitofp .f32 (constantI S_ 32 0#32)) pads_S4096x16x64_S4096x16x128_000_000_0640 h_S_) shapeCasts_S4096x16x128_S4096x2048) bitsLt_bf16_f32

theorem V_b (c : Dev nD) : V m c main_v2 = as_b (m ((c : Thread nD τ).loc main_arg2)) := by
  unfold V
  simp only [hostOps0, hostOps0_1, hostOps0_2, List.flatten_cons, List.flatten_nil, List.append_nil, List.cons_append, List.nil_append]
  after_results
  rfl

/-- The whole product. -/
def spec (a : FVec Ideal S4096x256 .f32) (b : FVec Ideal S4096x16x64 .f32) : FVec Ideal S256x2048 .f32 :=
  fun y => ∑ l : Fin 4096, as_a a (ix2 l (y 0)) * as_b b (ix2 l (y 1))

theorem read_a (c : Dev nD) (t : Fin cfg0.N) (i : Fin 256) (l : Fin 4096) :
    iblk m c 0 t (ix2 l i) = as_a (m ((c : Thread nD τ).loc main_arg0)) (ix2 l i) := by
  refine Eq.trans ?_ (congrFun (V_a m c) _)
  blk_ext [iblk, idx t]

theorem read_b (c : Dev nD) (t : Fin cfg0.N) (j : Fin 1024) (l : Fin 4096) :
    iblk m c 1 t (ix2 l j) = as_b (m ((c : Thread nD τ).loc main_arg2)) (ix2 l ⟨t.1 * 1024 + j.1, by have : t.1 < 2 := t.2; omega⟩) := by
  refine Eq.trans ?_ (congrFun (V_b m c) _)
  blk_ext [iblk, idx t]

/-! ## The array left -/

theorem out_at (a : FVec Ideal S4096x256 .f32) (b : FVec Ideal S4096x1024 .bf16) (i : Fin 256) (j : Fin 1024) :
    out0_2 (F := Ideal) a b (ix2 i j) = ∑ l : Fin 4096, a (ix2 l i) * b (ix2 l j) := by
  frame_out
  exact block_at a b i j

theorem written (c : Dev nD) (t : Fin cfg0.N) (y : S256x1024.Idx) : (dats m 0 c).after 2 t y
    = spec (m ((c : Thread nD τ).loc main_arg0)) (m ((c : Thread nD τ).loc main_arg2))
        (ix2 (y 0) ⟨t.1 * 1024 + (y 1).1, by have : t.1 < 2 := t.2; have : (y 1).1 < 1024 := (y 1).2; omega⟩) := by
  rw [after0_2]
  obtain ⟨i, j, rfl⟩ : ∃ (i : Fin 256) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S256x1024.Idx) : (win0_2.blk t).view.emb y
    = (ix2 (y 0) ⟨t.1 * 1024 + (y 1).1, by have : t.1 < 2 := t.2; have : (y 1).1 < 1024 := (y 1).2; omega⟩ : S256x2048.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t _ y
    exact (written m c t y).trans (congrArg (spec _ _) (place t y).symm)

end Cert.KvBDwIdeal.Value

namespace Cert.Proof.KvBDw

theorem frame_p : Cert.quiescent_KvBDw := fun m ρ _ => Cert.KvBDw.Gen.frame m ρ
theorem frame_pi : Cert.quiescent_KvBDwIdeal := fun m ρ _ => Cert.KvBDwIdeal.Gen.frame m ρ
theorem frame_ri : Cert.quiescent_KvBDwRefIdeal := fun m ρ _ =>
  (θ_run Cert.KvBDwRefIdeal.defs _ _).mono (fun r h => ⟨fun c => (h c).2, sem_eq_zero_of_no_sems (by decide) r.2⟩)
    (Cert.KvBDwRefIdeal.Value.run (F := Ideal) m ρ)

theorem preserves : Cert.preserves_KvBDw_KvBDwIdeal := trivial

open Cert.KvBDwRefIdeal Cert.KvBDwRefIdeal.Gen in
/-- The reference's gradient, with zeros between the heads, is the same sums. -/
theorem reference_eq (a : FVec Ideal S4096x256 .f32) (b : FVec Ideal S4096x16x64 .f32) :
    shapeCast S256x2048 (pad S256x16x128 ![0, 0, 0] ![0, 0, 64] ![0, 0, 0] (shapeCast S256x16x64 (transpose S256x1024 [1, 0] (Host.dotGeneral dot_S4096x1024_S4096x256_S1024x256_0_0_1_1_n_n none (shapeCast S4096x1024 b shapeCasts_S4096x16x64_S4096x1024) a) transposes_S1024x256_S256x1024_1_0) shapeCasts_S256x1024_S256x16x64) (sitofp .f32 (constantI S_ 32 0#32)) pads_S256x16x64_S256x16x128_000_000_0640 h_S_) shapeCasts_S256x16x128_S256x2048 = Cert.KvBDwIdeal.Value.spec a b := by
  funext y
  obtain ⟨i, j, rfl⟩ : ∃ (i : Fin 256) (j : Fin 2048), y = ix2 i j := ⟨y 0, y 1, by funext a; fin_cases a <;> rfl⟩
  unfold Cert.KvBDwIdeal.Value.spec
  pointwise
  simp only [Cert.Heads.zero_int]
  by_cases h : j.1 / 128 < 16 ∧ j.1 % 128 < 64
  · simp only [dif_pos h]
    refine Finset.sum_congr rfl fun l _ => (mul_comm _ _).trans (congrArg (_ * ·) (congrArg b ?_))
    refine funext fun k => Fin.ext ?_
    match k with
    | 0 => rfl
    | 1 => dsimp [ix3]; omega
    | 2 => dsimp [ix3]; omega
  · simp only [dif_neg h]
    exact (Finset.sum_eq_zero fun l _ => mul_zero _).symm

open Cert.KvBDwRefIdeal in
theorem algebraic : Cert.algebraic_KvBDwIdeal_KvBDwRefIdeal := by
  intro m g m' g' _ hagree
  refine ⟨_, (θ_run Cert.KvBDwIdeal.defs _ _).mono (fun r h => h) (Cert.KvBDwIdeal.Value.run_blocks m g), ?_⟩
  refine (θ_run Cert.KvBDwRefIdeal.defs _ _).mono (fun r h c => ?_) (Cert.KvBDwRefIdeal.Value.run (F := Ideal) m' g')
  obtain ⟨e0, e1, e2⟩ := hagree c
  refine ⟨(h c).1.trans ?_, (h c).2⟩
  rw [e0, e2]
  exact (reference_eq _ _).trans (Cert.KvBDwIdeal.Value.final m c).symm

end Cert.Proof.KvBDw

end
-- ==== Proof.KvBk.lean ====
/- The forward product of the rows with the latent rows' matrix to the heads' keys: the array the call leaves, and its claims. -/
module

public import proofs.«01_k».proof.Defs
public import proofs.«01_k».proof.Proof.Gen.KvBk.Frame
public import proofs.«01_k».proof.Proof.Gen.KvBkIdeal.Value
public import proofs.«01_k».proof.Proof.Gen.KvBkRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvBkIdeal.Value

open Cert.KvBkIdeal Cert.KvBkIdeal.Gen

variable (m : (ℓ : Loc nD τ sig) → Buf (Elt Ideal) ℓ)

/-- One block of the product. -/
theorem block_at (a : FVec Ideal S1024x256 .f32) (b : FVec Ideal S256x1024 .bf16) (i : Fin 1024) (j : Fin 1024) :
    k0_pay1 (F := Ideal) a b (ix2 i j) = ∑ l : Fin 256, a (ix2 i l) * b (ix2 l j) := by
  pointwise! [k0_pay1]

theorem idx (t : Fin cfg0.N) : win0_0.index t = ![t.1 / 2, 0] ∧ win0_1.index t = ![0, t.1 % 2] ∧ win0_2.index t = ![t.1 / 2, t.1 % 2] :=
  (by decide +kernel : ∀ t : Fin grid0.N, win0_0.index t = ![t.1 / 2, 0] ∧ win0_1.index t = ![0, t.1 % 2] ∧ win0_2.index t = ![t.1 / 2, t.1 % 2]) t

/-! ## The two factors -/

abbrev as_a (a : FVec Ideal S4096x256 .f32) : FVec Ideal S4096x256 .f32 := a

theorem V_a (c : Dev nD) : V m c main_arg0 = as_a (m ((c : Thread nD τ).loc main_arg0)) := by
  unfold V
  simp only [hostOps0, hostOps0_1, hostOps0_2, List.flatten_cons, List.flatten_nil, List.append_nil, List.cons_append, List.nil_append]
  after_results

abbrev as_b (b : FVec Ideal S256x16x64 .f32) : FVec Ideal S256x2048 .bf16 := truncf .bf16 (shapeCast S256x2048 (pad S256x16x128 ![0, 0, 0] ![0, 0, 64] ![0, 0, 0] b (sitofp .f32 (constantI S_ 32 0#32)) pads_S256x16x64_S256x16x128_000_000_0640 h_S_) shapeCasts_S256x16x128_S256x2048) bitsLt_bf16_f32

theorem V_b (c : Dev nD) : V m c main_v2 = as_b (m ((c : Thread nD τ).loc main_arg1)) := by
  unfold V
  simp only [hostOps0, hostOps0_1, hostOps0_2, List.flatten_cons, List.flatten_nil, List.append_nil, List.cons_append, List.nil_append]
  after_results
  rfl

/-- The whole product. -/
def spec (a : FVec Ideal S4096x256 .f32) (b : FVec Ideal S256x16x64 .f32) : FVec Ideal S4096x2048 .f32 :=
  fun y => ∑ l : Fin 256, as_a a (ix2 (y 0) l) * as_b b (ix2 l (y 1))

theorem read_a (c : Dev nD) (t : Fin cfg0.N) (i : Fin 1024) (l : Fin 256) :
    iblk m c 0 t (ix2 i l) = as_a (m ((c : Thread nD τ).loc main_arg0)) (ix2 ⟨t.1 / 2 * 1024 + i.1, by have : t.1 < 8 := t.2; omega⟩ l) := by
  refine Eq.trans ?_ (congrFun (V_a m c) _)
  blk_ext [iblk, idx t]

theorem read_b (c : Dev nD) (t : Fin cfg0.N) (j : Fin 1024) (l : Fin 256) :
    iblk m c 1 t (ix2 l j) = as_b (m ((c : Thread nD τ).loc main_arg1)) (ix2 l ⟨t.1 % 2 * 1024 + j.1, by have : t.1 < 8 := t.2; omega⟩) := by
  refine Eq.trans ?_ (congrFun (V_b m c) _)
  blk_ext [iblk, idx t]

/-! ## The array left -/

theorem out_at (a : FVec Ideal S1024x256 .f32) (b : FVec Ideal S256x1024 .bf16) (i : Fin 1024) (j : Fin 1024) :
    out0_2 (F := Ideal) a b (ix2 i j) = ∑ l : Fin 256, a (ix2 i l) * b (ix2 l j) := by
  frame_out
  exact block_at a b i j

theorem written (c : Dev nD) (t : Fin cfg0.N) (y : S1024x1024.Idx) : (dats m 0 c).after 2 t y
    = spec (m ((c : Thread nD τ).loc main_arg0)) (m ((c : Thread nD τ).loc main_arg1))
        (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩ : S4096x2048.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.KvBkIdeal.Value

namespace Cert.Proof.KvBk

theorem frame_p : Cert.quiescent_KvBk := fun m ρ _ => Cert.KvBk.Gen.frame m ρ
theorem frame_pi : Cert.quiescent_KvBkIdeal := fun m ρ _ => Cert.KvBkIdeal.Gen.frame m ρ
theorem frame_ri : Cert.quiescent_KvBkRefIdeal := fun m ρ _ =>
  (θ_run Cert.KvBkRefIdeal.defs _ _).mono (fun r h => ⟨fun c => (h c).2, sem_eq_zero_of_no_sems (by decide) r.2⟩)
    (Cert.KvBkRefIdeal.Value.run (F := Ideal) m ρ)

theorem preserves : Cert.preserves_KvBk_KvBkIdeal := trivial

open Cert.KvBkRefIdeal Cert.KvBkRefIdeal.Gen in
/-- The reference's product, with zeros between the heads, is the same sums. -/
theorem reference_eq (a : FVec Ideal S4096x256 .f32) (b : FVec Ideal S256x16x64 .f32) :
    shapeCast S4096x2048 (pad S4096x16x128 ![0, 0, 0] ![0, 0, 64] ![0, 0, 0] (shapeCast S4096x16x64 (Host.dotGeneral dot_S4096x256_S256x1024_S4096x1024_1_0_0_1_n_n none a (shapeCast S256x1024 b shapeCasts_S256x16x64_S256x1024)) shapeCasts_S4096x1024_S4096x16x64) (sitofp .f32 (constantI S_ 32 0#32)) pads_S4096x16x64_S4096x16x128_000_000_0640 h_S_) shapeCasts_S4096x16x128_S4096x2048 = Cert.KvBkIdeal.Value.spec a b := by
  funext y
  obtain ⟨i, j, rfl⟩ : ∃ (i : Fin 4096) (j : Fin 2048), y = ix2 i j := ⟨y 0, y 1, by funext a; fin_cases a <;> rfl⟩
  unfold Cert.KvBkIdeal.Value.spec
  pointwise
  simp only [Cert.Heads.zero_int]
  by_cases h : j.1 / 128 < 16 ∧ j.1 % 128 < 64
  · simp only [dif_pos h]
    refine Finset.sum_congr rfl fun l _ => congrArg (_ * ·) (congrArg b ?_)
    refine funext fun k => Fin.ext ?_
    match k with
    | 0 => rfl
    | 1 => dsimp [ix3]; omega
    | 2 => dsimp [ix3]; omega
  · simp only [dif_neg h]
    exact (Finset.sum_eq_zero fun l _ => mul_zero _).symm

open Cert.KvBkRefIdeal in
theorem algebraic : Cert.algebraic_KvBkIdeal_KvBkRefIdeal := by
  intro m g m' g' _ hagree
  refine ⟨_, (θ_run Cert.KvBkIdeal.defs _ _).mono (fun r h => h) (Cert.KvBkIdeal.Value.run_blocks m g), ?_⟩
  refine (θ_run Cert.KvBkRefIdeal.defs _ _).mono (fun r h c => ?_) (Cert.KvBkRefIdeal.Value.run (F := Ideal) m' g')
  obtain ⟨e0, e1⟩ := hagree c
  refine ⟨(h c).1.trans ?_, (h c).2⟩
  rw [e0, e1]
  exact (reference_eq _ _).trans (Cert.KvBkIdeal.Value.final m c).symm

end Cert.Proof.KvBk

end
-- ==== Proof.KvBv.lean ====
/- The forward product of the rows with the latent rows' matrix to the heads' values: the array the call leaves, and its claims. -/
module

public import proofs.«01_k».proof.Defs
public import proofs.«01_k».proof.Proof.Gen.KvBv.Frame
public import proofs.«01_k».proof.Proof.Gen.KvBvIdeal.Value
public import proofs.«01_k».proof.Proof.Gen.KvBvRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvBvIdeal.Value

open Cert.KvBvIdeal Cert.KvBvIdeal.Gen

variable (m : (ℓ : Loc nD τ sig) → Buf (Elt Ideal) ℓ)

/-- One block of the product. -/
theorem block_at (a : FVec Ideal S1024x256 .f32) (b : FVec Ideal S256x1024 .bf16) (i : Fin 1024) (j : Fin 1024) :
    k0_pay1 (F := Ideal) a b (ix2 i j) = ∑ l : Fin 256, a (ix2 i l) * b (ix2 l j) := by
  pointwise! [k0_pay1]

theorem idx (t : Fin cfg0.N) : win0_0.index t = ![t.1 / 2, 0] ∧ win0_1.index t = ![0, t.1 % 2] ∧ win0_2.index t = ![t.1 / 2, t.1 % 2] :=
  (by decide +kernel : ∀ t : Fin grid0.N, win0_0.index t = ![t.1 / 2, 0] ∧ win0_1.index t = ![0, t.1 % 2] ∧ win0_2.index t = ![t.1 / 2, t.1 % 2]) t

/-! ## The two factors -/

abbrev as_a (a : FVec Ideal S4096x256 .f32) : FVec Ideal S4096x256 .f32 := a

theorem V_a (c : Dev nD) : V m c main_arg0 = as_a (m ((c : Thread nD τ).loc main_arg0)) := by
  unfold V
  simp only [hostOps0, hostOps0_1, hostOps0_2, List.flatten_cons, List.flatten_nil, List.append_nil, List.cons_append, List.nil_append]
  after_results

abbrev as_b (b : FVec Ideal S256x16x64 .f32) : FVec Ideal S256x2048 .bf16 := truncf .bf16 (shapeCast S256x2048 (pad S256x16x128 ![0, 0, 0] ![0, 0, 64] ![0, 0, 0] b (sitofp .f32 (constantI S_ 32 0#32)) pads_S256x16x64_S256x16x128_000_000_0640 h_S_) shapeCasts_S256x16x128_S256x2048) bitsLt_bf16_f32

theorem V_b (c : Dev nD) : V m c main_v2 = as_b (m ((c : Thread nD τ).loc main_arg1)) := by
  unfold V
  simp only [hostOps0, hostOps0_1, hostOps0_2, List.flatten_cons, List.flatten_nil, List.append_nil, List.cons_append, List.nil_append]
  after_results
  rfl

/-- The whole product. -/
def spec (a : FVec Ideal S4096x256 .f32) (b : FVec Ideal S256x16x64 .f32) : FVec Ideal S4096x2048 .bf16 :=
  fun y => ∑ l : Fin 256, as_a a (ix2 (y 0) l) * as_b b (ix2 l (y 1))

theorem read_a (c : Dev nD) (t : Fin cfg0.N) (i : Fin 1024) (l : Fin 256) :
    iblk m c 0 t (ix2 i l) = as_a (m ((c : Thread nD τ).loc main_arg0)) (ix2 ⟨t.1 / 2 * 1024 + i.1, by have : t.1 < 8 := t.2; omega⟩ l) := by
  refine Eq.trans ?_ (congrFun (V_a m c) _)
  blk_ext [iblk, idx t]

theorem read_b (c : Dev nD) (t : Fin cfg0.N) (j : Fin 1024) (l : Fin 256) :
    iblk m c 1 t (ix2 l j) = as_b (m ((c : Thread nD τ).loc main_arg1)) (ix2 l ⟨t.1 % 2 * 1024 + j.1, by have : t.1 < 8 := t.2; omega⟩) := by
  refine Eq.trans ?_ (congrFun (V_b m c) _)
  blk_ext [iblk, idx t]

/-! ## The array left -/

theorem out_at (a : FVec Ideal S1024x256 .f32) (b : FVec Ideal S256x1024 .bf16) (i : Fin 1024) (j : Fin 1024) :
    out0_2 (F := Ideal) a b (ix2 i j) = ∑ l : Fin 256, a (ix2 i l) * b (ix2 l j) := by
  frame_out
  exact block_at a b i j

theorem written (c : Dev nD) (t : Fin cfg0.N) (y : S1024x1024.Idx) : (dats m 0 c).after 2 t y
    = spec (m ((c : Thread nD τ).loc main_arg0)) (m ((c : Thread nD τ).loc main_arg1))
        (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 / 2 * 1024 + (y 0).1, by have : t.1 < 8 := t.2; have : (y 0).1 < 1024 := (y 0).2; omega⟩ ⟨t.1 % 2 * 1024 + (y 1).1, by have : t.1 < 8 := t.2; have : (y 1).1 < 1024 := (y 1).2; omega⟩ : S4096x2048.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.KvBvIdeal.Value

namespace Cert.Proof.KvBv

theorem frame_p : Cert.quiescent_KvBv := fun m ρ _ => Cert.KvBv.Gen.frame m ρ
theorem frame_pi : Cert.quiescent_KvBvIdeal := fun m ρ _ => Cert.KvBvIdeal.Gen.frame m ρ
theorem frame_ri : Cert.quiescent_KvBvRefIdeal := fun m ρ _ =>
  (θ_run Cert.KvBvRefIdeal.defs _ _).mono (fun r h => ⟨fun c => (h c).2, sem_eq_zero_of_no_sems (by decide) r.2⟩)
    (Cert.KvBvRefIdeal.Value.run (F := Ideal) m ρ)

theorem preserves : Cert.preserves_KvBv_KvBvIdeal := trivial

open Cert.KvBvRefIdeal Cert.KvBvRefIdeal.Gen in
/-- The reference's product, with zeros between the heads, is the same sums. -/
theorem reference_eq (a : FVec Ideal S4096x256 .f32) (b : FVec Ideal S256x16x64 .f32) :
    truncf .bf16 (shapeCast S4096x2048 (pad S4096x16x128 ![0, 0, 0] ![0, 0, 64] ![0, 0, 0] (shapeCast S4096x16x64 (Host.dotGeneral dot_S4096x256_S256x1024_S4096x1024_1_0_0_1_n_n none a (shapeCast S256x1024 b shapeCasts_S256x16x64_S256x1024)) shapeCasts_S4096x1024_S4096x16x64) (sitofp .f32 (constantI S_ 32 0#32)) pads_S4096x16x64_S4096x16x128_000_000_0640 h_S_) shapeCasts_S4096x16x128_S4096x2048) bitsLt_bf16_f32 = Cert.KvBvIdeal.Value.spec a b := by
  funext y
  obtain ⟨i, j, rfl⟩ : ∃ (i : Fin 4096) (j : Fin 2048), y = ix2 i j := ⟨y 0, y 1, by funext a; fin_cases a <;> rfl⟩
  unfold Cert.KvBvIdeal.Value.spec
  pointwise
  simp only [Cert.Heads.zero_int]
  by_cases h : j.1 / 128 < 16 ∧ j.1 % 128 < 64
  · simp only [dif_pos h]
    refine Finset.sum_congr rfl fun l _ => congrArg (_ * ·) (congrArg b ?_)
    refine funext fun k => Fin.ext ?_
    match k with
    | 0 => rfl
    | 1 => dsimp [ix3]; omega
    | 2 => dsimp [ix3]; omega
  · simp only [dif_neg h]
    exact (Finset.sum_eq_zero fun l _ => mul_zero _).symm

open Cert.KvBvRefIdeal in
theorem algebraic : Cert.algebraic_KvBvIdeal_KvBvRefIdeal := by
  intro m g m' g' _ hagree
  refine ⟨_, (θ_run Cert.KvBvIdeal.defs _ _).mono (fun r h => h) (Cert.KvBvIdeal.Value.run_blocks m g), ?_⟩
  refine (θ_run Cert.KvBvRefIdeal.defs _ _).mono (fun r h c => ?_) (Cert.KvBvRefIdeal.Value.run (F := Ideal) m' g')
  obtain ⟨e0, e1⟩ := hagree c
  refine ⟨(h c).1.trans ?_, (h c).2⟩
  rw [e0, e1]
  exact (reference_eq _ _).trans (Cert.KvBvIdeal.Value.final m c).symm

end Cert.Proof.KvBv

end
-- ==== Proof.KvADx.lean ====
/- The gradient of the rows through the MLA layer's matrix to the latent rows and the rotary key: the array the call leaves, and its claims. -/
module

public import proofs.«01_k».proof.Defs
public import proofs.«01_k».proof.Proof.Gen.KvADx.Frame
public import proofs.«01_k».proof.Proof.Gen.KvADxIdeal.Value
public import proofs.«01_k».proof.Proof.Gen.KvADxRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvADxIdeal.Value

open Cert.KvADxIdeal Cert.KvADxIdeal.Gen

variable (m : (ℓ : Loc nD τ sig) → Buf (Elt Ideal) ℓ)

/-- One block of the product. -/
theorem block_at (a : FVec Ideal S1024x384 .bf16) (b : FVec Ideal S1024x384 .bf16) (i : Fin 1024) (j : Fin 1024) :
    k0_pay1 (F := Ideal) a b (ix2 i j) = ∑ l : Fin 384, a (ix2 i l) * b (ix2 j l) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x288 .f32) : FVec Ideal S4096x384 .bf16 := truncf .bf16 (concatenate S4096x384 1 [⟨S4096x256, extractStridedSlice S4096x256 ![0, 0] a slices_S4096x288_S4096x256_0_0⟩, ⟨S4096x64, (broadcastInDim S4096x64 ![] bcast_S_S4096x64 (constant S_ .f32 0x00000000#32))⟩, ⟨S4096x32, extractStridedSlice S4096x32 ![0, 256] a slices_S4096x288_S4096x32_0_256⟩, ⟨S4096x32, extractStridedSlice S4096x32 ![0, 0] (broadcastInDim S4096x64 ![] bcast_S_S4096x64 (constant S_ .f32 0x00000000#32)) slices_S4096x64_S4096x32_0_0⟩] concatenates_S4096x256_S4096x64_S4096x32_S4096x32_S4096x384_d1) bitsLt_bf16_f32

theorem V_a (c : Dev nD) : V m c main_v5 = as_a (m ((c : Thread nD τ).loc main_arg2)) := by
  unfold V
  simp only [hostOps0]
  after_results
  rfl

abbrev as_b (b : FVec Ideal S1024x288 .f32) : FVec Ideal S1024x384 .bf16 := truncf .bf16 (concatenate S1024x384 1 [⟨S1024x256, extractStridedSlice S1024x256 ![0, 0] b slices_S1024x288_S1024x256_0_0⟩, ⟨S1024x64, (broadcastInDim S1024x64 ![] bcast_S_S1024x64 (constant S_ .f32 0x00000000#32))⟩, ⟨S1024x32, extractStridedSlice S1024x32 ![0, 256] b slices_S1024x288_S1024x32_0_256⟩, ⟨S1024x32, extractStridedSlice S1024x32 ![0, 0] (broadcastInDim S1024x64 ![] bcast_S_S1024x64 (constant S_ .f32 0x00000000#32)) slices_S1024x64_S1024x32_0_0⟩] concatenates_S1024x256_S1024x64_S1024x32_S1024x32_S1024x384_d1) bitsLt_bf16_f32

theorem V_b (c : Dev nD) : V m c main_v11 = as_b (m ((c : Thread nD τ).loc main_arg1)) := by
  unfold V
  simp only [hostOps0]
  after_results
  rfl

/-- The whole product. -/
def spec (a : FVec Ideal S4096x288 .f32) (b : FVec Ideal S1024x288 .f32) : FVec Ideal S4096x1024 .f32 :=
  fun y => ∑ l : Fin 384, as_a a (ix2 (y 0) l) * as_b b (ix2 (y 1) l)

theorem read_a (c : Dev nD) (t : Fin cfg0.N) (i : Fin 1024) (l : Fin 384) :
    iblk m c 0 t (ix2 i l) = as_a (m ((c : Thread nD τ).loc main_arg2)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 1024) (l : Fin 384) :
    iblk m c 1 t (ix2 j l) = as_b (m ((c : Thread nD τ).loc main_arg1)) (ix2 j l) := by
  refine Eq.trans ?_ (congrFun (V_b m c) _)
  blk_ext [iblk, idx t]

/-! ## The array left -/

theorem out_at (a : FVec Ideal S1024x384 .bf16) (b : FVec Ideal S1024x384 .bf16) (i : Fin 1024) (j : Fin 1024) :
    out0_2 (F := Ideal) a b (ix2 i j) = ∑ l : Fin 384, a (ix2 i l) * b (ix2 j l) := by
  frame_out
  exact block_at a b i j

theorem written (c : Dev nD) (t : Fin cfg0.N) (y : S1024x1024.Idx) : (dats m 0 c).after 2 t y
    = spec (m ((c : Thread nD τ).loc main_arg2)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 1024), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x1024.Idx) : (win0_2.blk t).view.emb y
    = (ix2 ⟨t.1 * 1024 + (y 0).1, by have : t.1 < 4 := t.2; have : (y 0).1 < 1024 := (y 0).2; omega⟩ (y 1) : S4096x1024.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg2)) (m ((c : Thread nD τ).loc main_arg1)) := by
  refine (dats m 0 c).arrAt_eq_of_covers 2 (spec _ _) ?_ ?_
  · exact covers
  · intro t _ y
    exact (written m c t y).trans (congrArg (spec _ _) (place t y).symm)

end Cert.KvADxIdeal.Value

namespace Cert.Proof.KvADx

theorem frame_p : Cert.quiescent_KvADx := fun m ρ _ => Cert.KvADx.Gen.frame m ρ
theorem frame_pi : Cert.quiescent_KvADxIdeal := fun m ρ _ => Cert.KvADxIdeal.Gen.frame m ρ
theorem frame_ri : Cert.quiescent_KvADxRefIdeal := fun m ρ _ =>
  (θ_run Cert.KvADxRefIdeal.defs _ _).mono (fun r h => ⟨fun c => (h c).2, sem_eq_zero_of_no_sems (by decide) r.2⟩)
    (Cert.KvADxRefIdeal.Value.run (F := Ideal) m ρ)

theorem preserves : Cert.preserves_KvADx_KvADxIdeal := trivial

open Cert.KvADxRefIdeal Cert.KvADxRefIdeal.Gen in
/-- The reference's sum over the columns in use is the sum over all columns. -/
theorem reference_eq (a : FVec Ideal S4096x288 .f32) (b : FVec Ideal S1024x288 .f32) :
    Host.dotGeneral dot_S4096x288_S1024x288_S4096x1024_1_1_0_0_n_n none a b = Cert.KvADxIdeal.Value.spec a b := by
  funext y
  obtain ⟨i, j, rfl⟩ : ∃ (i : Fin 4096) (j : Fin 1024), y = ix2 i j := ⟨y 0, y 1, by funext a; fin_cases a <;> rfl⟩
  unfold Cert.KvADxIdeal.Value.spec
  pointwise
  refine (Cert.Heads.sum_wide fun x => a (ix2 i x) * b (ix2 j x)).trans (Finset.sum_congr rfl fun l _ => ?_)
  by_cases h1 : l.1 < 256
  · simp only [dif_pos h1]
  by_cases h2 : l.1 - 256 < 64
  · simp only [dif_neg h1, dif_pos h2]
    exact (mul_zero _).symm
  by_cases h3 : l.1 - 256 - 64 < 32
  · simp only [dif_neg h1, dif_neg h2, dif_pos h3]
  · simp only [dif_neg h1, dif_neg h2, dif_neg h3]
    exact (mul_zero _).symm

open Cert.KvADxRefIdeal in
theorem algebraic : Cert.algebraic_KvADxIdeal_KvADxRefIdeal := by
  intro m g m' g' _ hagree
  refine ⟨_, (θ_run Cert.KvADxIdeal.defs _ _).mono (fun r h => h) (Cert.KvADxIdeal.Value.run_blocks m g), ?_⟩
  refine (θ_run Cert.KvADxRefIdeal.defs _ _).mono (fun r h c => ?_) (Cert.KvADxRefIdeal.Value.run (F := Ideal) m' g')
  obtain ⟨e0, e1, e2⟩ := hagree c
  refine ⟨(h c).1.trans ?_, (h c).2⟩
  rw [e1, e2]
  exact (reference_eq _ _).trans (Cert.KvADxIdeal.Value.final m c).symm

end Cert.Proof.KvADx

end
-- ==== Proof.KvADw.lean ====
/- The gradient of the MLA layer's matrix to the latent rows and the rotary key: the array the call leaves, and its claims. -/
module

public import proofs.«01_k».proof.Defs
public import proofs.«01_k».proof.Proof.Gen.KvADw.Frame
public import proofs.«01_k».proof.Proof.Gen.KvADwIdeal.Value
public import proofs.«01_k».proof.Proof.Gen.KvADwRefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvADwIdeal.Value

open Cert.KvADwIdeal Cert.KvADwIdeal.Gen

variable (m : (ℓ : Loc nD τ sig) → Buf (Elt Ideal) ℓ)

/-- One block of the product. -/
theorem block_at (a : FVec Ideal S4096x1024 .bf16) (b : FVec Ideal S4096x384 .bf16) (i : Fin 1024) (j : Fin 384) :
    k0_pay1 (F := Ideal) a b (ix2 i j) = ∑ l : Fin 4096, a (ix2 l i) * b (ix2 l j) := by
  pointwise! [k0_pay1]

theorem idx (t : Fin cfg0.N) : win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg0)) := by
  unfold V
  simp only [hostOps0]
  after_results

abbrev as_b (b : FVec Ideal S4096x288 .f32) : FVec Ideal S4096x384 .bf16 := truncf .bf16 (concatenate S4096x384 1 [⟨S4096x256, extractStridedSlice S4096x256 ![0, 0] b slices_S4096x288_S4096x256_0_0⟩, ⟨S4096x64, (broadcastInDim S4096x64 ![] bcast_S_S4096x64 (constant S_ .f32 0x00000000#32))⟩, ⟨S4096x32, extractStridedSlice S4096x32 ![0, 256] b slices_S4096x288_S4096x32_0_256⟩, ⟨S4096x32, extractStridedSlice S4096x32 ![0, 0] (broadcastInDim S4096x64 ![] bcast_S_S4096x64 (constant S_ .f32 0x00000000#32)) slices_S4096x64_S4096x32_0_0⟩] concatenates_S4096x256_S4096x64_S4096x32_S4096x32_S4096x384_d1) bitsLt_bf16_f32

theorem V_b (c : Dev nD) : V m c main_v6 = as_b (m ((c : Thread nD τ).loc main_arg2)) := by
  unfold V
  simp only [hostOps0]
  after_results
  rfl

/-- The whole product. -/
def spec (a : FVec Ideal S4096x1024 .f32) (b : FVec Ideal S4096x288 .f32) : FVec Ideal S1024x384 .f32 :=
  fun y => ∑ l : Fin 4096, as_a a (ix2 l (y 0)) * as_b b (ix2 l (y 1))

theorem read_a (c : Dev nD) (t : Fin cfg0.N) (i : Fin 1024) (l : Fin 4096) :
    iblk m c 0 t (ix2 l i) = as_a (m ((c : Thread nD τ).loc main_arg0)) (ix2 l i) := by
  refine Eq.trans ?_ (congrFun (V_a m c) _)
  blk_ext [iblk, idx t]

theorem read_b (c : Dev nD) (t : Fin cfg0.N) (j : Fin 384) (l : Fin 4096) :
    iblk m c 1 t (ix2 l j) = as_b (m ((c : Thread nD τ).loc main_arg2)) (ix2 l j) := by
  refine Eq.trans ?_ (congrFun (V_b m c) _)
  blk_ext [iblk, idx t]

/-! ## The array left -/

theorem out_at (a : FVec Ideal S4096x1024 .bf16) (b : FVec Ideal S4096x384 .bf16) (i : Fin 1024) (j : Fin 384) :
    out0_2 (F := Ideal) a b (ix2 i j) = ∑ l : Fin 4096, a (ix2 l i) * b (ix2 l j) := by
  frame_out
  exact block_at a b i j

theorem written (c : Dev nD) (t : Fin cfg0.N) (y : S1024x384.Idx) : (dats m 0 c).after 2 t y
    = spec (m ((c : Thread nD τ).loc main_arg0)) (m ((c : Thread nD τ).loc main_arg2))
        (ix2 (y 0) (y 1)) := by
  rw [after0_2]
  obtain ⟨i, j, rfl⟩ : ∃ (i : Fin 1024) (j : Fin 384), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x384.Idx) : (win0_2.blk t).view.emb y
    = (ix2 (y 0) (y 1) : S1024x384.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg2)) := by
  refine (dats m 0 c).arrAt_eq_of_covers 2 (spec _ _) ?_ ?_
  · exact covers
  · intro t _ y
    exact (written m c t y).trans (congrArg (spec _ _) (place t y).symm)

end Cert.KvADwIdeal.Value

namespace Cert.Proof.KvADw

theorem frame_p : Cert.quiescent_KvADw := fun m ρ _ => Cert.KvADw.Gen.frame m ρ
theorem frame_pi : Cert.quiescent_KvADwIdeal := fun m ρ _ => Cert.KvADwIdeal.Gen.frame m ρ
theorem frame_ri : Cert.quiescent_KvADwRefIdeal := fun m ρ _ =>
  (θ_run Cert.KvADwRefIdeal.defs _ _).mono (fun r h => ⟨fun c => (h c).2, sem_eq_zero_of_no_sems (by decide) r.2⟩)
    (Cert.KvADwRefIdeal.Value.run (F := Ideal) m ρ)

theorem preserves : Cert.preserves_KvADw_KvADwIdeal := trivial

open Cert.KvADwRefIdeal Cert.KvADwRefIdeal.Gen in
/-- The reference's gradient, with columns of zeros, is the same sums. -/
theorem reference_eq (a : FVec Ideal S4096x1024 .f32) (b : FVec Ideal S4096x288 .f32) :
    concatenate S1024x384 1 [⟨S1024x256, extractStridedSlice S1024x256 ![0, 0] (transpose S1024x288 [1, 0] (Host.dotGeneral dot_S4096x288_S4096x1024_S288x1024_0_0_1_1_n_n none b a) transposes_S288x1024_S1024x288_1_0) slices_S1024x288_S1024x256_0_0⟩, ⟨S1024x64, (broadcastInDim S1024x64 ![] bcast_S_S1024x64 (constant S_ .f32 0x00000000#32))⟩, ⟨S1024x32, extractStridedSlice S1024x32 ![0, 256] (transpose S1024x288 [1, 0] (Host.dotGeneral dot_S4096x288_S4096x1024_S288x1024_0_0_1_1_n_n none b a) transposes_S288x1024_S1024x288_1_0) slices_S1024x288_S1024x32_0_256⟩, ⟨S1024x32, extractStridedSlice S1024x32 ![0, 0] (broadcastInDim S1024x64 ![] bcast_S_S1024x64 (constant S_ .f32 0x00000000#32)) slices_S1024x64_S1024x32_0_0⟩] concatenates_S1024x256_S1024x64_S1024x32_S1024x32_S1024x384_d1 = Cert.KvADwIdeal.Value.spec a b := by
  funext y
  obtain ⟨i, j, rfl⟩ : ∃ (i : Fin 1024) (j : Fin 384), y = ix2 i j := ⟨y 0, y 1, by funext a; fin_cases a <;> rfl⟩
  unfold Cert.KvADwIdeal.Value.spec
  pointwise
  by_cases h1 : j.1 < 256
  · simp only [dif_pos h1]
    exact Finset.sum_congr rfl fun l _ => mul_comm _ _
  by_cases h2 : j.1 - 256 < 64
  · simp only [dif_neg h1, dif_pos h2]
    exact (Finset.sum_eq_zero fun l _ => mul_zero _).symm
  by_cases h3 : j.1 - 256 - 64 < 32
  · simp only [dif_neg h1, dif_neg h2, dif_pos h3]
    exact Finset.sum_congr rfl fun l _ => mul_comm _ _
  · simp only [dif_neg h1, dif_neg h2, dif_neg h3]
    exact (Finset.sum_eq_zero fun l _ => mul_zero _).symm

open Cert.KvADwRefIdeal in
theorem algebraic : Cert.algebraic_KvADwIdeal_KvADwRefIdeal := by
  intro m g m' g' _ hagree
  refine ⟨_, (θ_run Cert.KvADwIdeal.defs _ _).mono (fun r h => h) (Cert.KvADwIdeal.Value.run_blocks m g), ?_⟩
  refine (θ_run Cert.KvADwRefIdeal.defs _ _).mono (fun r h c => ?_) (Cert.KvADwRefIdeal.Value.run (F := Ideal) m' g')
  obtain ⟨e0, e1, e2⟩ := hagree c
  refine ⟨(h c).1.trans ?_, (h c).2⟩
  rw [e0, e2]
  exact (reference_eq _ _).trans (Cert.KvADwIdeal.Value.final m c).symm

end Cert.Proof.KvADw

end
-- ==== Proof.KvA.lean ====
/- The forward product of the rows with the MLA layer's matrix to the latent rows and the rotary key: the array the call leaves, and its claims. -/
module

public import proofs.«01_k».proof.Defs
public import proofs.«01_k».proof.Proof.Gen.KvA.Frame
public import proofs.«01_k».proof.Proof.Gen.KvAIdeal.Value
public import proofs.«01_k».proof.Proof.Gen.KvARefIdeal.Run
public import proofs.«01_k».proof.Proof.Heads
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KvAIdeal.Value

open Cert.KvAIdeal Cert.KvAIdeal.Gen

variable (m : (ℓ : Loc nD τ sig) → Buf (Elt Ideal) ℓ)

/-- One block of the product. -/
theorem block_at (a : FVec Ideal S1024x1024 .bf16) (b : FVec Ideal S1024x384 .bf16) (i : Fin 1024) (j : Fin 384) :
    k0_pay1 (F := Ideal) a b (ix2 i j) = ∑ l : Fin 1024, a (ix2 i l) * b (ix2 l j) := by
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-! ## The two factors -/

abbrev as_a (a : FVec Ideal S4096x1024 .f32) : FVec Ideal S4096x1024 .bf16 := truncf .bf16 a bitsLt_bf16_f32

theorem V_a (c : Dev nD) : V m c main_v0 = as_a (m ((c : Thread nD τ).loc main_arg0)) := by
  unfold V
  simp only [hostOps0]
  after_results

abbrev as_b (b : FVec Ideal S1024x288 .f32) : FVec Ideal S1024x384 .bf16 := truncf .bf16 (concatenate S1024x384 1 [⟨S1024x256, extractStridedSlice S1024x256 ![0, 0] b slices_S1024x288_S1024x256_0_0⟩, ⟨S1024x64, (broadcastInDim S1024x64 ![] bcast_S_S1024x64 (constant S_ .f32 0x00000000#32))⟩, ⟨S1024x32, extractStridedSlice S1024x32 ![0, 256] b slices_S1024x288_S1024x32_0_256⟩, ⟨S1024x32, extractStridedSlice S1024x32 ![0, 0] (broadcastInDim S1024x64 ![] bcast_S_S1024x64 (constant S_ .f32 0x00000000#32)) slices_S1024x64_S1024x32_0_0⟩] concatenates_S1024x256_S1024x64_S1024x32_S1024x32_S1024x384_d1) bitsLt_bf16_f32

theorem V_b (c : Dev nD) : V m c main_v6 = as_b (m ((c : Thread nD τ).loc main_arg1)) := by
  unfold V
  simp only [hostOps0]
  after_results
  rfl

/-- The whole product. -/
def spec (a : FVec Ideal S4096x1024 .f32) (b : FVec Ideal S1024x288 .f32) : FVec Ideal S4096x384 .f32 :=
  fun y => ∑ l : Fin 1024, as_a a (ix2 (y 0) l) * as_b b (ix2 l (y 1))

theorem read_a (c : Dev nD) (t : Fin cfg0.N) (i : Fin 1024) (l : Fin 1024) :
    iblk m c 0 t (ix2 i l) = as_a (m ((c : Thread nD τ).loc main_arg0)) (ix2 ⟨t.1 * 1024 + i.1, by have : t.1 < 4 := t.2; omega⟩ l) := by
  refine Eq.trans ?_ (congrFun (V_a m c) _)
  blk_ext [iblk, idx t]

theorem read_b (c : Dev nD) (t : Fin cfg0.N) (j : Fin 384) (l : Fin 1024) :
    iblk m c 1 t (ix2 l j) = as_b (m ((c : Thread nD τ).loc main_arg1)) (ix2 l j) := by
  refine Eq.trans ?_ (congrFun (V_b m c) _)
  blk_ext [iblk, idx t]

/-! ## The array left -/

theorem out_at (a : FVec Ideal S1024x1024 .bf16) (b : FVec Ideal S1024x384 .bf16) (i : Fin 1024) (j : Fin 384) :
    out0_2 (F := Ideal) a b (ix2 i j) = ∑ l : Fin 1024, a (ix2 i l) * b (ix2 l j) := by
  frame_out
  exact block_at a b i j

theorem written (c : Dev nD) (t : Fin cfg0.N) (y : S1024x384.Idx) : (dats m 0 c).after 2 t y
    = spec (m ((c : Thread nD τ).loc main_arg0)) (m ((c : Thread nD τ).loc main_arg1))
        (ix2 ⟨t.1 * 1024 + (y 0).1, by have : t.1 < 4 := t.2; have : (y 0).1 < 1024 := (y 0).2; omega⟩ (y 1)) := by
  rw [after0_2]
  obtain ⟨i, j, rfl⟩ : ∃ (i : Fin 1024) (j : Fin 384), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S1024x384.Idx) : (win0_2.blk t).view.emb y
    = (ix2 ⟨t.1 * 1024 + (y 0).1, by have : t.1 < 4 := t.2; have : (y 0).1 < 1024 := (y 0).2; omega⟩ (y 1) : S4096x384.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.KvAIdeal.Value

namespace Cert.Proof.KvA

theorem frame_p : Cert.quiescent_KvA := fun m ρ _ => Cert.KvA.Gen.frame m ρ
theorem frame_pi : Cert.quiescent_KvAIdeal := fun m ρ _ => Cert.KvAIdeal.Gen.frame m ρ
theorem frame_ri : Cert.quiescent_KvARefIdeal := fun m ρ _ =>
  (θ_run Cert.KvARefIdeal.defs _ _).mono (fun r h => ⟨fun c => (h c).2, sem_eq_zero_of_no_sems (by decide) r.2⟩)
    (Cert.KvARefIdeal.Value.run (F := Ideal) m ρ)

theorem preserves : Cert.preserves_KvA_KvAIdeal := trivial

open Cert.KvARefIdeal Cert.KvARefIdeal.Gen in
/-- The reference's product, with columns of zeros, is the same sums. -/
theorem reference_eq (a : FVec Ideal S4096x1024 .f32) (b : FVec Ideal S1024x288 .f32) :
    concatenate S4096x384 1 [⟨S4096x256, extractStridedSlice S4096x256 ![0, 0] (Host.dotGeneral dot_S4096x1024_S1024x288_S4096x288_1_0_0_1_n_n none a b) slices_S4096x288_S4096x256_0_0⟩, ⟨S4096x64, (broadcastInDim S4096x64 ![] bcast_S_S4096x64 (constant S_ .f32 0x00000000#32))⟩, ⟨S4096x32, extractStridedSlice S4096x32 ![0, 256] (Host.dotGeneral dot_S4096x1024_S1024x288_S4096x288_1_0_0_1_n_n none a b) slices_S4096x288_S4096x32_0_256⟩, ⟨S4096x32, extractStridedSlice S4096x32 ![0, 0] (broadcastInDim S4096x64 ![] bcast_S_S4096x64 (constant S_ .f32 0x00000000#32)) slices_S4096x64_S4096x32_0_0⟩] concatenates_S4096x256_S4096x64_S4096x32_S4096x32_S4096x384_d1 = Cert.KvAIdeal.Value.spec a b := by
  funext y
  obtain ⟨i, j, rfl⟩ : ∃ (i : Fin 4096) (j : Fin 384), y = ix2 i j := ⟨y 0, y 1, by funext a; fin_cases a <;> rfl⟩
  unfold Cert.KvAIdeal.Value.spec
  pointwise
  by_cases h1 : j.1 < 256
  · simp only [dif_pos h1]
  by_cases h2 : j.1 - 256 < 64
  · simp only [dif_neg h1, dif_pos h2]
    exact (Finset.sum_eq_zero fun l _ => mul_zero _).symm
  by_cases h3 : j.1 - 256 - 64 < 32
  · simp only [dif_neg h1, dif_neg h2, dif_pos h3]
  · simp only [dif_neg h1, dif_neg h2, dif_neg h3]
    exact (Finset.sum_eq_zero fun l _ => mul_zero _).symm

open Cert.KvARefIdeal in
theorem algebraic : Cert.algebraic_KvAIdeal_KvARefIdeal := by
  intro m g m' g' _ hagree
  refine ⟨_, (θ_run Cert.KvAIdeal.defs _ _).mono (fun r h => h) (Cert.KvAIdeal.Value.run_blocks m g), ?_⟩
  refine (θ_run Cert.KvARefIdeal.defs _ _).mono (fun r h c => ?_) (Cert.KvARefIdeal.Value.run (F := Ideal) m' g')
  obtain ⟨e0, e1⟩ := hagree c
  refine ⟨(h c).1.trans ?_, (h c).2⟩
  rw [e0, e1]
  exact (reference_eq _ _).trans (Cert.KvAIdeal.Value.final m c).symm

end Cert.Proof.KvA

end
-- ==== Proof.AdaDw.lean ====
/- The weight gradient of one conditioning product, a sum of eight outer products: the array the call leaves, and its claims. -/
module

public import proofs.«01_k».proof.Defs
public import proofs.«01_k».proof.Proof.Gen.AdaDw.Frame
public import proofs.«01_k».proof.Proof.Gen.AdaDwIdeal.Value
public import proofs.«01_k».proof.Proof.Gen.AdaDwRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaDwIdeal.Value

open Cert.AdaDwIdeal Cert.AdaDwIdeal.Gen

variable (m : (ℓ : Loc nD τ sig) → Buf (Elt Ideal) ℓ)

/-- One block: the eight outer products, summed. -/
theorem block_at (a : FVec Ideal S256x8 .f32) (b : FVec Ideal S8x1536 .f32) (i : Fin 256) (j : Fin 1536) :
    k0_pay1 (F := Ideal) a b (ix2 i j) = ∑ l : Fin 8, a (ix2 i l) * b (ix2 l j) := by
  rw [Fin.sum_univ_eight]
  pointwise! [k0_pay1]

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

abbrev as_a (a : FVec Ideal S8x1024 .f32) : FVec Ideal S1024x8 .f32 := transpose S1024x8 [1, 0] a transposes_S8x1024_S1024x8_1_0

theorem V_a (c : Dev nD) : V m c main_v0 = as_a (m ((c : Thread nD τ).loc main_arg0)) := by
  unfold V
  simp only [hostOps0]
  after_results

theorem V_b (c : Dev nD) : V m c main_arg2 = m ((c : Thread nD τ).loc main_arg2) := by
  unfold V
  simp only [hostOps0]
  after_results

/-- The whole gradient. -/
def spec (a : FVec Ideal S8x1024 .f32) (w : FVec Ideal S1024x1536 .f32) (b : FVec Ideal S8x1536 .f32) : FVec Ideal S1024x1536 .f32 :=
  fun y => ∑ l : Fin 8, a (ix2 l (y 0)) * b (ix2 l (y 1))

theorem read_a (c : Dev nD) (t : Fin cfg0.N) (i : Fin 256) (l : Fin 8) :
    iblk m c 0 t (ix2 i l) = m ((c : Thread nD τ).loc main_arg0) (ix2 l ⟨t.1 * 256 + i.1, by have : t.1 < 4 := t.2; omega⟩) := by
  have h : as_a (m ((c : Thread nD τ).loc main_arg0)) (ix2 ⟨t.1 * 256 + i.1, by have : t.1 < 4 := t.2; omega⟩ l)
      = m ((c : Thread nD τ).loc main_arg0) (ix2 l ⟨t.1 * 256 + i.1, by have : t.1 < 4 := t.2; omega⟩) := by pointwise!
  refine Eq.trans ?_ ((congrFun (V_a m c) _).trans h)
  blk_ext [iblk, idx t]

theorem read_b (c : Dev nD) (t : Fin cfg0.N) (l : Fin 8) (j : Fin 1536) :
    iblk m c 1 t (ix2 l j) = m ((c : Thread nD τ).loc main_arg2) (ix2 l j) := by
  refine Eq.trans ?_ (congrFun (V_b m c) _)
  blk_ext [iblk, idx t]

theorem out_at (a : FVec Ideal S256x8 .f32) (b : FVec Ideal S8x1536 .f32) (i : Fin 256) (j : Fin 1536) :
    out0_2 (F := Ideal) a b (ix2 i j) = ∑ l : Fin 8, a (ix2 i l) * b (ix2 l j) := by
  frame_out
  exact block_at a b i j

theorem written (c : Dev nD) (t : Fin cfg0.N) (y : S256x1536.Idx) : (dats m 0 c).after 2 t y
    = spec (m ((c : Thread nD τ).loc main_arg0)) (m ((c : Thread nD τ).loc main_arg1)) (m ((c : Thread nD τ).loc main_arg2))
        (ix2 ⟨t.1 * 256 + (y 0).1, by have : t.1 < 4 := t.2; have : (y 0).1 < 256 := (y 0).2; omega⟩ (y 1)) := by
  rw [after0_2]
  obtain ⟨i, j, rfl⟩ : ∃ (i : Fin 256) (j : Fin 1536), y = ix2 i j := ⟨y 0, y 1, by funext a; fin_cases a <;> rfl⟩
  exact (out_at _ _ i j).trans (Finset.sum_congr rfl fun l _ => congrArg₂ (· * ·) (read_a m c t i l) (read_b m c t l j))

omit m in
theorem place (t : Fin cfg0.N) (y : S256x1536.Idx) : (win0_2.blk t).view.emb y
    = (ix2 ⟨t.1 * 256 + (y 0).1, by have : t.1 < 4 := t.2; have : (y 0).1 < 256 := (y 0).2; omega⟩ (y 1) : S1024x1536.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) (m ((c : Thread nD τ).loc main_arg2)) := by
  refine (dats m 0 c).arrAt_eq_of_covers 2 (spec _ _ _) ?_ ?_
  · exact covers
  · intro t _ y
    exact (written m c t y).trans (congrArg (spec _ _ _) (place t y).symm)

end Cert.AdaDwIdeal.Value

namespace Cert.Proof.AdaDw

theorem frame_p : Cert.quiescent_AdaDw := fun m ρ _ => Cert.AdaDw.Gen.frame m ρ
theorem frame_pi : Cert.quiescent_AdaDwIdeal := fun m ρ _ => Cert.AdaDwIdeal.Gen.frame m ρ
theorem frame_ri : Cert.quiescent_AdaDwRefIdeal := fun m ρ _ =>
  (θ_run Cert.AdaDwRefIdeal.defs _ _).mono (fun r h => ⟨fun c => (h c).2, sem_eq_zero_of_no_sems (by decide) r.2⟩)
    (Cert.AdaDwRefIdeal.Value.run (F := Ideal) m ρ)

theorem preserves : Cert.preserves_AdaDw_AdaDwIdeal := trivial

open Cert.AdaDwRefIdeal Cert.AdaDwRefIdeal.Gen in
/-- The reference's transposed product is the same sums, with the factors exchanged. -/
theorem reference_eq (a : FVec Ideal S8x1024 .f32) (w : FVec Ideal S1024x1536 .f32) (b : FVec Ideal S8x1536 .f32) :
    transpose S1024x1536 [1, 0] (Host.dotGeneral dot_S8x1536_S8x1024_S1536x1024_0_0_1_1_n_n none b a) transposes_S1536x1024_S1024x1536_1_0
      = Cert.AdaDwIdeal.Value.spec a w b := by
  funext y
  obtain ⟨i, j, rfl⟩ : ∃ (i : Fin 1024) (j : Fin 1536), y = ix2 i j := ⟨y 0, y 1, by funext a; fin_cases a <;> rfl⟩
  have h : transpose S1024x1536 [1, 0] (Host.dotGeneral dot_S8x1536_S8x1024_S1536x1024_0_0_1_1_n_n none b a) transposes_S1536x1024_S1024x1536_1_0 (ix2 i j)
      = ∑ l : Fin 8, b (ix2 l j) * a (ix2 l i) := by pointwise!
  exact h.trans (Finset.sum_congr rfl fun l _ => mul_comm _ _)

open Cert.AdaDwRefIdeal in
theorem algebraic : Cert.algebraic_AdaDwIdeal_AdaDwRefIdeal := by
  intro m g m' g' _ hagree
  refine ⟨_, (θ_run Cert.AdaDwIdeal.defs _ _).mono (fun r h => h) (Cert.AdaDwIdeal.Value.run_blocks m g), ?_⟩
  refine (θ_run Cert.AdaDwRefIdeal.defs _ _).mono (fun r h c => ?_) (Cert.AdaDwRefIdeal.Value.run (F := Ideal) m' g')
  obtain ⟨e0, e1, e2⟩ := hagree c
  refine ⟨(h c).1.trans ?_, (h c).2⟩
  rw [e0, e2]
  exact (reference_eq _ _ _).trans (Cert.AdaDwIdeal.Value.final m c).symm

end Cert.Proof.AdaDw

end
-- ==== Proof.AdaProj.lean ====
/- The product of the conditioning rows with one layer's matrix of shifts, scales and gates: the array the call leaves, and its claims. -/
module

public import proofs.«01_k».proof.Defs
public import proofs.«01_k».proof.Proof.Gen.AdaProj.Frame
public import proofs.«01_k».proof.Proof.Gen.AdaProjIdeal.Value
public import proofs.«01_k».proof.Proof.Gen.AdaProjRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaProjIdeal.Value

open Cert.AdaProjIdeal Cert.AdaProjIdeal.Gen

variable (m : (ℓ : Loc nD τ sig) → Buf (Elt Ideal) ℓ)

/-- One block of the product. -/
theorem block_at (a : FVec Ideal S8x1024 .f32) (b : FVec Ideal S1024x1536 .f32) (i : Fin 8) (j : Fin 1536) :
    k0_pay1 (F := Ideal) a b (ix2 i j) = ∑ l : Fin 1024, a (ix2 i l) * b (ix2 l j) := by
  pointwise! [k0_pay1]

theorem idx (t : Fin cfg0.N) : win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0]) t

/-! ## The two factors -/

abbrev as_a (a : FVec Ideal S8x1024 .f32) : FVec Ideal S8x1024 .f32 := a

theorem V_a (c : Dev nD) : V m c main_arg0 = as_a (m ((c : Thread nD τ).loc main_arg0)) := rfl

abbrev as_b (b : FVec Ideal S1024x1536 .f32) : FVec Ideal S1024x1536 .f32 := b

theorem V_b (c : Dev nD) : V m c main_arg1 = as_b (m ((c : Thread nD τ).loc main_arg1)) := rfl

/-- The whole product. -/
def spec (a : FVec Ideal S8x1024 .f32) (b : FVec Ideal S1024x1536 .f32) : FVec Ideal S8x1536 .f32 :=
  fun y => ∑ l : Fin 1024, as_a a (ix2 (y 0) l) * as_b b (ix2 l (y 1))

theorem read_a (c : Dev nD) (t : Fin cfg0.N) (i : Fin 8) (l : Fin 1024) :
    iblk m c 0 t (ix2 i l) = as_a (m ((c : Thread nD τ).loc main_arg0)) (ix2 i l) := by
  refine Eq.trans ?_ (congrFun (V_a m c) _)
  blk_ext [iblk, idx t]

theorem read_b (c : Dev nD) (t : Fin cfg0.N) (j : Fin 1536) (l : Fin 1024) :
    iblk m c 1 t (ix2 l j) = as_b (m ((c : Thread nD τ).loc main_arg1)) (ix2 l j) := by
  refine Eq.trans ?_ (congrFun (V_b m c) _)
  blk_ext [iblk, idx t]

/-! ## The array left -/

theorem out_at (a : FVec Ideal S8x1024 .f32) (b : FVec Ideal S1024x1536 .f32) (i : Fin 8) (j : Fin 1536) :
    out0_2 (F := Ideal) a b (ix2 i j) = ∑ l : Fin 1024, a (ix2 i l) * b (ix2 l j) := by
  frame_out
  exact block_at a b i j

theorem written (c : Dev nD) (t : Fin cfg0.N) (y : S8x1536.Idx) : (dats m 0 c).after 2 t y
    = spec (m ((c : Thread nD τ).loc main_arg0)) (m ((c : Thread nD τ).loc main_arg1))
        (ix2 (y 0) (y 1)) := by
  rw [after0_2]
  obtain ⟨i, j, rfl⟩ : ∃ (i : Fin 8) (j : Fin 1536), y = ix2 i j := ⟨y 0, y 1, by funext a; fin_cases a <;> rfl⟩
  exact (out_at _ _ i j).trans (Finset.sum_congr rfl fun l _ => congrArg₂ (· * ·) (read_a m c t i l) (read_b m c t j l))

omit m in
theorem place (t : Fin cfg0.N) (y : S8x1536.Idx) : (win0_2.blk t).view.emb y
    = (ix2 (y 0) (y 1) : S8x1536.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.AdaProjIdeal.Value

namespace Cert.Proof.AdaProj

theorem frame_p : Cert.quiescent_AdaProj := fun m ρ _ => Cert.AdaProj.Gen.frame m ρ
theorem frame_pi : Cert.quiescent_AdaProjIdeal := fun m ρ _ => Cert.AdaProjIdeal.Gen.frame m ρ
theorem frame_ri : Cert.quiescent_AdaProjRefIdeal := fun m ρ _ =>
  (θ_run Cert.AdaProjRefIdeal.defs _ _).mono (fun r h => ⟨fun c => (h c).2, sem_eq_zero_of_no_sems (by decide) r.2⟩)
    (Cert.AdaProjRefIdeal.Value.run (F := Ideal) m ρ)

theorem preserves : Cert.preserves_AdaProj_AdaProjIdeal := trivial

open Cert.AdaProjRefIdeal Cert.AdaProjRefIdeal.Gen in
/-- The reference's product is the same sums. -/
theorem reference_eq (a : FVec Ideal S8x1024 .f32) (b : FVec Ideal S1024x1536 .f32) :
    Host.dotGeneral dot_S8x1024_S1024x1536_S8x1536_1_0_0_1_n_n none a b = Cert.AdaProjIdeal.Value.spec a b := by
  funext y
  obtain ⟨i, j, rfl⟩ : ∃ (i : Fin 8) (j : Fin 1536), y = ix2 i j := ⟨y 0, y 1, by funext a; fin_cases a <;> rfl⟩
  unfold Cert.AdaProjIdeal.Value.spec
  pointwise!

open Cert.AdaProjRefIdeal in
theorem algebraic : Cert.algebraic_AdaProjIdeal_AdaProjRefIdeal := by
  intro m g m' g' _ hagree
  refine ⟨_, (θ_run Cert.AdaProjIdeal.defs _ _).mono (fun r h => h) (Cert.AdaProjIdeal.Value.run_blocks m g), ?_⟩
  refine (θ_run Cert.AdaProjRefIdeal.defs _ _).mono (fun r h c => ?_) (Cert.AdaProjRefIdeal.Value.run (F := Ideal) m' g')
  obtain ⟨e0, e1⟩ := hagree c
  refine ⟨(h c).1.trans ?_, (h c).2⟩
  rw [e0, e1]
  exact (reference_eq _ _).trans (Cert.AdaProjIdeal.Value.final m c).symm

end Cert.Proof.AdaProj

end
-- ==== Proof.ActBwd.lean ====
/- The gradient of the gated activation to its gate and to its other factor, side by side: the array the call leaves, and its claims. -/
module

public import proofs.«01_k».proof.Defs
public import proofs.«01_k».proof.Proof.Gen.ActBwd.Frame
public import proofs.«01_k».proof.Proof.Gen.ActBwdIdeal.Value
public import proofs.«01_k».proof.Proof.Gen.ActBwdRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ActBwdIdeal.Value

open Cert.ActBwdIdeal Cert.ActBwdIdeal.Gen

variable (m : (ℓ : Loc nD τ sig) → Buf (Elt Ideal) ℓ)

/-! ## One entry -/

/-- The gradient to a gate. -/
def to_gate (g u d : EReal) : EReal :=
  d * u * Ideal.logistic g + g * (d * u) * (Ideal.logistic g * (1 - Ideal.logistic g))

/-- The gradient to the factor a gate is multiplied with. -/
def to_up (g d : EReal) : EReal := g * Ideal.logistic g * d

theorem block_left (a : FVec Ideal S256x5632 .bf16) (b : FVec Ideal S256x2816 .bf16) (i : Fin 256) (j : Fin 2816) :
    k0_pay1 (F := Ideal) a b (ix2 i ⟨j.1, by omega⟩) = to_gate (a (ix2 i ⟨j.1, by omega⟩)) (a (ix2 i ⟨2816 + j.1, by omega⟩)) (b (ix2 i j)) := by
  have h : (⟨j.1, by omega⟩ : Fin 5632).1 < 2816 := j.2
  unfold to_gate
  pointwise! [k0_pay1]

theorem block_right (a : FVec Ideal S256x5632 .bf16) (b : FVec Ideal S256x2816 .bf16) (i : Fin 256) (j : Fin 2816) :
    k0_pay1 (F := Ideal) a b (ix2 i ⟨2816 + j.1, by omega⟩) = to_up (a (ix2 i ⟨j.1, by omega⟩)) (b (ix2 i j)) := by
  have h : ¬ (⟨2816 + j.1, by omega⟩ : Fin 5632).1 < 2816 := by simp
  unfold to_up
  pointwise! [k0_pay1]

theorem idx (t : Fin cfg0.N) : win0_0.index t = ![t.1, 0] ∧ win0_1.index t = ![t.1, 0] ∧ win0_2.index t = ![t.1, 0] :=
  (by decide +kernel : ∀ t : Fin grid0.N, win0_0.index t = ![t.1, 0] ∧ win0_1.index t = ![t.1, 0] ∧ win0_2.index t = ![t.1, 0]) t

/-! ## The two arrays read -/

abbrev as_a (g u : FVec Ideal S4096x2816 .f32) : FVec Ideal S4096x5632 .bf16 :=
  truncf .bf16 (concatenate S4096x5632 1 [⟨S4096x2816, g⟩, ⟨S4096x2816, u⟩] concatenates_S4096x2816_S4096x2816_S4096x5632_d1) bitsLt_bf16_f32
abbrev as_d (d : FVec Ideal S4096x2816 .f32) : FVec Ideal S4096x2816 .bf16 := truncf .bf16 d bitsLt_bf16_f32

theorem V_a (c : Dev nD) : V m c main_v1 = as_a (m ((c : Thread nD τ).loc main_arg0)) (m ((c : Thread nD τ).loc main_arg1)) := by
  unfold V
  simp only [hostOps0]
  after_results

theorem V_d (c : Dev nD) : V m c main_v2 = as_d (m ((c : Thread nD τ).loc main_arg2)) := by
  unfold V
  simp only [hostOps0]
  after_results

theorem as_left (g u : FVec Ideal S4096x2816 .f32) (i : Fin 4096) (j : Fin 2816) : as_a g u (ix2 i ⟨j.1, by omega⟩) = g (ix2 i j) := by
  pointwise!

theorem as_right (g u : FVec Ideal S4096x2816 .f32) (i : Fin 4096) (j : Fin 2816) : as_a g u (ix2 i ⟨2816 + j.1, by omega⟩) = u (ix2 i j) := by
  pointwise!

/-- The two gradients, side by side. -/
def spec (g u d : FVec Ideal S4096x2816 .f32) : FVec Ideal S4096x5632 .bf16 :=
  fun y => if h : (y 1).1 < 2816 then to_gate (g (ix2 (y 0) ⟨(y 1).1, h⟩)) (u (ix2 (y 0) ⟨(y 1).1, h⟩)) (d (ix2 (y 0) ⟨(y 1).1, h⟩))
    else to_up (g (ix2 (y 0) ⟨(y 1).1 - 2816, by have : (y 1).1 < 5632 := (y 1).2; omega⟩))
      (d (ix2 (y 0) ⟨(y 1).1 - 2816, by have : (y 1).1 < 5632 := (y 1).2; omega⟩))

theorem spec_left (g u d : FVec Ideal S4096x2816 .f32) (i : Fin 4096) (j : Fin 2816) :
    spec g u d (ix2 i ⟨j.1, by omega⟩) = to_gate (g (ix2 i j)) (u (ix2 i j)) (d (ix2 i j)) :=
  dif_pos j.2

theorem spec_right (g u d : FVec Ideal S4096x2816 .f32) (i : Fin 4096) (j : Fin 2816) :
    spec g u d (ix2 i ⟨2816 + j.1, by omega⟩) = to_up (g (ix2 i j)) (d (ix2 i j)) := by
  have e : (⟨2816 + j.1 - 2816, by omega⟩ : Fin 2816) = j := Fin.ext (by show 2816 + j.1 - 2816 = j.1; omega)
  refine (dif_neg (show ¬ 2816 + j.1 < 2816 by omega)).trans ?_
  exact congrArg (fun k : Fin 2816 => to_up (g (ix2 i k)) (d (ix2 i k))) e

theorem read_left (c : Dev nD) (t : Fin cfg0.N) (i : Fin 256) (j : Fin 2816) :
    iblk m c 0 t (ix2 i ⟨j.1, by omega⟩) = m ((c : Thread nD τ).loc main_arg0) (ix2 ⟨t.1 * 256 + i.1, by have : t.1 < 16 := t.2; omega⟩ j) := by
  refine Eq.trans ?_ ((congrFun (V_a m c) _).trans (as_left _ _ _ j))
  blk_ext [iblk, idx t]

theorem read_right (c : Dev nD) (t : Fin cfg0.N) (i : Fin 256) (j : Fin 2816) :
    iblk m c 0 t (ix2 i ⟨2816 + j.1, by omega⟩) = m ((c : Thread nD τ).loc main_arg1) (ix2 ⟨t.1 * 256 + i.1, by have : t.1 < 16 := t.2; omega⟩ j) := by
  refine Eq.trans ?_ ((congrFun (V_a m c) _).trans (as_right _ _ _ j))
  blk_ext [iblk, idx t]

theorem read_d (c : Dev nD) (t : Fin cfg0.N) (i : Fin 256) (j : Fin 2816) :
    iblk m c 1 t (ix2 i j) = m ((c : Thread nD τ).loc main_arg2) (ix2 ⟨t.1 * 256 + i.1, by have : t.1 < 16 := t.2; omega⟩ j) := by
  refine Eq.trans ?_ (congrFun (V_d m c) _)
  blk_ext [iblk, idx t]

/-! ## The array left -/

/-- A column of the two is one of the left or one of the right. -/
theorem halves (j : Fin 5632) : (∃ k : Fin 2816, j = ⟨k.1, by omega⟩) ∨ ∃ k : Fin 2816, j = ⟨2816 + k.1, by omega⟩ := by
  by_cases h : j.1 < 2816
  · exact .inl ⟨⟨j.1, h⟩, rfl⟩
  · exact .inr ⟨⟨j.1 - 2816, by omega⟩, Fin.ext (by show j.1 = 2816 + (j.1 - 2816); omega)⟩

theorem out_at (a : FVec Ideal S256x5632 .bf16) (b : FVec Ideal S256x2816 .bf16) (i : Fin 256) (j : Fin 5632) :
    out0_2 (F := Ideal) a b (ix2 i j) = k0_pay1 (F := Ideal) a b (ix2 i j) := by
  frame_out

theorem written (c : Dev nD) (t : Fin cfg0.N) (y : S256x5632.Idx) : (dats m 0 c).after 2 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_2]
  obtain ⟨i, j, rfl⟩ : ∃ (i : Fin 256) (j : Fin 5632), y = ix2 i j := ⟨y 0, y 1, by funext a; fin_cases a <;> rfl⟩
  refine (out_at _ _ i j).trans ?_
  rcases halves j with ⟨k, rfl⟩ | ⟨k, rfl⟩
  · refine (block_left _ _ i k).trans (Eq.trans ?_ (spec_left _ _ _ ⟨t.1 * 256 + i.1, by have : t.1 < 16 := t.2; omega⟩ k).symm)
    rw [read_left, read_right, read_d]
  · refine (block_right _ _ i k).trans (Eq.trans ?_ (spec_right _ _ _ ⟨t.1 * 256 + i.1, by have : t.1 < 16 := t.2; omega⟩ k).symm)
    rw [read_left, read_d]

omit m in
theorem place (t : Fin cfg0.N) (y : S256x5632.Idx) : (win0_2.blk t).view.emb y
    = (ix2 ⟨t.1 * 256 + (y 0).1, by have : t.1 < 16 := t.2; have : (y 0).1 < 256 := (y 0).2; omega⟩ (y 1) : S4096x5632.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) (m ((c : Thread nD τ).loc main_arg2)) := by
  refine (dats m 0 c).arrAt_eq_of_covers 2 (spec _ _ _) ?_ ?_
  · exact covers
  · intro t _ y
    exact (written m c t y).trans (congrArg (spec _ _ _) (place t y).symm)

end Cert.ActBwdIdeal.Value

namespace Cert.Proof.ActBwd

theorem frame_p : Cert.quiescent_ActBwd := fun m ρ _ => Cert.ActBwd.Gen.frame m ρ
theorem frame_pi : Cert.quiescent_ActBwdIdeal := fun m ρ _ => Cert.ActBwdIdeal.Gen.frame m ρ
theorem frame_ri : Cert.quiescent_ActBwdRefIdeal := fun m ρ _ =>
  (θ_run Cert.ActBwdRefIdeal.defs _ _).mono (fun r h => ⟨fun c => (h c).2, sem_eq_zero_of_no_sems (by decide) r.2⟩)
    (Cert.ActBwdRefIdeal.Value.run (F := Ideal) m ρ)

theorem preserves : Cert.preserves_ActBwd_ActBwdIdeal := trivial

open Cert.ActBwdRefIdeal Cert.ActBwdRefIdeal.Gen in
/-- The reference's two gradients are the same. -/
theorem reference_eq (g u d : FVec Ideal S4096x2816 .f32) :
    truncf .bf16 (concatenate S4096x5632 1 [⟨S4096x2816, (addf (mulf (mulf d u) (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) (mulf (mulf g (mulf d u)) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))))))⟩, ⟨S4096x2816, (mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) d)⟩] concatenates_S4096x2816_S4096x2816_S4096x5632_d1) bitsLt_bf16_f32
      = Cert.ActBwdIdeal.Value.spec g u d := by
  funext y
  obtain ⟨i, j, rfl⟩ : ∃ (i : Fin 4096) (j : Fin 5632), y = ix2 i j := ⟨y 0, y 1, by funext a; fin_cases a <;> rfl⟩
  rcases Cert.ActBwdIdeal.Value.halves j with ⟨k, rfl⟩ | ⟨k, rfl⟩
  · refine Eq.trans ?_ (Cert.ActBwdIdeal.Value.spec_left g u d i k).symm
    unfold Cert.ActBwdIdeal.Value.to_gate Ideal.logistic
    pointwise!
  · refine Eq.trans ?_ (Cert.ActBwdIdeal.Value.spec_right g u d i k).symm
    unfold Cert.ActBwdIdeal.Value.to_up Ideal.logistic
    pointwise!

open Cert.ActBwdRefIdeal in
theorem algebraic : Cert.algebraic_ActBwdIdeal_ActBwdRefIdeal := by
  intro m g m' g' _ hagree
  refine ⟨_, (θ_run Cert.ActBwdIdeal.defs _ _).mono (fun r h => h) (Cert.ActBwdIdeal.Value.run_blocks m g), ?_⟩
  refine (θ_run Cert.ActBwdRefIdeal.defs _ _).mono (fun r h c => ?_) (Cert.ActBwdRefIdeal.Value.run (F := Ideal) m' g')
  obtain ⟨e0, e1, e2⟩ := hagree c
  refine ⟨(h c).1.trans ?_, (h c).2⟩
  rw [e0, e1, e2]
  exact (reference_eq _ _ _).trans (Cert.ActBwdIdeal.Value.final m c).symm

end Cert.Proof.ActBwd

end
-- ==== Proof.Norm.lean ====
/- The normalisation of one layer's input, scaled and shifted by the conditioning: the array the call leaves, and its claims. -/
module

public import proofs.«01_k».proof.Defs
public import proofs.«01_k».proof.Proof.Gen.Norm.Frame
public import proofs.«01_k».proof.Proof.Gen.NormIdeal.Value
public import proofs.«01_k».proof.Proof.Gen.NormRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- One entry: row `v` over its root mean square at column `j`, times the gain `g`, scaled by `1 + a` and shifted by
`b`. The two constants are the row's length and the small number added to the mean square. -/
def entry (v : Fin 1024 → EReal) (j : Fin 1024) (g a b : EReal) : EReal :=
  v j * Ideal.rsqrt (Ideal.div (∑ l : Fin 1024, v l * v l) (Ideal.ofBits FTy.f32 1149239296#32) + Ideal.ofBits FTy.f32 897988541#32)
    * g * (1 + a) + b

/-- One block of the normalised rows. -/
theorem block_at (x : FVec Ideal S256x1024 .f32) (g : FVec Ideal S1x1024 .f32) (s : FVec Ideal S6x1024 .f32) (i : Fin 256) (j : Fin 1024) :
    k0_pay1 (F := Ideal) x g s (ix2 i j)
      = entry (fun l => x (ix2 i l)) j (g (ix2 0 j)) (s (ix2 1 j)) (s (ix2 0 j)) := by
  unfold entry
  pointwise! [k0_pay1]

theorem idx (t : Fin cfg0.N) : win0_0.index t = ![t.1, 0] ∧ win0_1.index t = ![0, 0] ∧ win0_2.index t = ![0, 0] ∧ win0_3.index t = ![t.1, 0] :=
  (by decide +kernel : ∀ t : Fin grid0.N, win0_0.index t = ![t.1, 0] ∧ win0_1.index t = ![0, 0] ∧ win0_2.index t = ![0, 0] ∧ win0_3.index t = ![t.1, 0]) t

/-- Every row over its root mean square, times the gain, scaled by one plus the second row of the conditioning and
shifted by its first. -/
def spec (x : FVec Ideal S4096x1024 .f32) (g : FVec Ideal S1x1024 .f32) (s : FVec Ideal S6x1024 .f32) : FVec Ideal S4096x1024 .f32 :=
  fun y => entry (fun l => x (ix2 (y 0) l)) (y 1) (g (ix2 0 (y 1))) (s (ix2 1 (y 1))) (s (ix2 0 (y 1)))

theorem read_x (c : Dev nD) (t : Fin cfg0.N) (i : Fin 256) (l : Fin 1024) :
    iblk m c 0 t (ix2 i l) = m ((c : Thread nD τ).loc main_arg0) (ix2 ⟨t.1 * 256 + i.1, by have : t.1 < 16 := t.2; omega⟩ l) := by
  blk_ext [iblk, idx t]

theorem read_g (c : Dev nD) (t : Fin cfg0.N) (i : Fin 1) (j : Fin 1024) :
    iblk m c 1 t (ix2 i j) = m ((c : Thread nD τ).loc main_arg1) (ix2 i j) := by
  blk_ext [iblk, idx t]

theorem read_s (c : Dev nD) (t : Fin cfg0.N) (i : Fin 6) (j : Fin 1024) :
    iblk m c 2 t (ix2 i j) = m ((c : Thread nD τ).loc main_arg2) (ix2 i j) := by
  blk_ext [iblk, idx t]

theorem out_at (x : FVec Ideal S256x1024 .f32) (g : FVec Ideal S1x1024 .f32) (s : FVec Ideal S6x1024 .f32) (i : Fin 256) (j : Fin 1024) :
    out0_3 (F := Ideal) x g s (ix2 i j)
      = entry (fun l => x (ix2 i l)) j (g (ix2 0 j)) (s (ix2 1 j)) (s (ix2 0 j)) := by
  frame_out
  exact block_at x g s i j

theorem written (c : Dev nD) (t : Fin cfg0.N) (y : S256x1024.Idx) : (dats m 0 c).after 3 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_3]
  obtain ⟨i, j, rfl⟩ : ∃ (i : Fin 256) (j : Fin 1024), y = ix2 i j := ⟨y 0, y 1, by funext a; fin_cases a <;> rfl⟩
  refine (out_at _ _ _ i j).trans ?_
  have hv : (fun l : Fin 1024 => iblk m c 0 t (ix2 i l)) = fun l => m ((c : Thread nD τ).loc main_arg0) (ix2 ⟨t.1 * 256 + i.1, by have : t.1 < 16 := t.2; omega⟩ l) :=
    funext fun l => read_x m c t i l
  rw [read_g, read_s, read_s]
  exact congrArg (fun v : Fin 1024 → EReal => entry v j _ _ _) hv

omit m in
theorem place (t : Fin cfg0.N) (y : S256x1024.Idx) : (win0_3.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 3).Covers := by decide +kernel

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) ?_ ?_
  · exact covers
  · intro t _ y
    exact (written m c t y).trans (congrArg (spec _ _ _) (place t y).symm)

end Cert.NormIdeal.Value

namespace Cert.Proof.Norm

theorem frame_p : Cert.quiescent_Norm := fun m ρ _ => Cert.Norm.Gen.frame m ρ
theorem frame_pi : Cert.quiescent_NormIdeal := fun m ρ _ => Cert.NormIdeal.Gen.frame m ρ
theorem frame_ri : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem preserves : Cert.preserves_Norm_NormIdeal := trivial

open Cert.NormRefIdeal Cert.NormRefIdeal.Gen in
/-- The reference's rows are normalised alike. -/
theorem reference_eq (x : FVec Ideal S4096x1024 .f32) (g : FVec Ideal S1x1024 .f32) (s : FVec Ideal S6x1024 .f32) :
    addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (broadcastInDim S4096x1024 ![0, 1] bcast_S1x1024_S4096x1024_0_1 (addf (broadcastInDim S1x1024 ![] bcast_S_S1x1024 (constant S_ .f32 0x3F800000#32)) (extractStridedSlice S1x1024 ![1, 0] s slices_S6x1024_S1x1024_1_0)))) (broadcastInDim S4096x1024 ![0, 1] bcast_S1x1024_S4096x1024_0_1 (extractStridedSlice S1x1024 ![0, 0] s slices_S6x1024_S1x1024_0_0))
      = Cert.NormIdeal.Value.spec x g s := by
  funext y
  obtain ⟨i, j, rfl⟩ : ∃ (i : Fin 4096) (j : Fin 1024), y = ix2 i j := ⟨y 0, y 1, by funext a; fin_cases a <;> rfl⟩
  unfold Cert.NormIdeal.Value.spec Cert.NormIdeal.Value.entry
  pointwise!

open Cert.NormRefIdeal in
theorem algebraic : Cert.algebraic_NormIdeal_NormRefIdeal := by
  intro m g m' g' _ hagree
  refine ⟨_, (θ_run Cert.NormIdeal.defs _ _).mono (fun r h => h) (Cert.NormIdeal.Value.run_blocks m g), ?_⟩
  refine (θ_run Cert.NormRefIdeal.defs _ _).mono (fun r h c => ?_) (Cert.NormRefIdeal.Value.run (F := Ideal) m' g')
  obtain ⟨e0, e1, e2⟩ := hagree c
  refine ⟨(h c).1.trans ?_, (h c).2⟩
  rw [e0, e1, e2]
  exact (reference_eq _ _ _).trans (Cert.NormIdeal.Value.final m c).symm

end Cert.Proof.Norm

end
-- ==== Proof.BbarBwd.lean ====
/- The gradients of the S5 layer's discretised input matrices: the four arrays the call leaves, and its claims. -/
module

public import proofs.«01_k».proof.Defs
public import proofs.«01_k».proof.Proof.Gen.BbarBwd.Frame
public import proofs.«01_k».proof.Proof.Gen.BbarBwdIdeal.Value
public import proofs.«01_k».proof.Proof.Gen.BbarBwdRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BbarBwdIdeal.Value

open Cert.BbarBwdIdeal Cert.BbarBwdIdeal.Gen

variable (m : (ℓ : Loc nD τ sig) → Buf (Elt Ideal) ℓ)

theorem idx (t : Fin cfg0.N) : win0_0.index t = ![t.1, 0] ∧ win0_1.index t = ![t.1, 0] ∧ win0_2.index t = ![t.1, 0] ∧ win0_3.index t = ![t.1, 0] ∧ win0_4.index t = ![t.1, 0] ∧ win0_5.index t = ![t.1, 0] ∧ win0_6.index t = ![t.1, 0] ∧ win0_7.index t = ![t.1, 0] ∧ win0_8.index t = ![t.1, 0] ∧ win0_9.index t = ![t.1, 0] :=
  (by decide +kernel : ∀ t : Fin grid0.N, win0_0.index t = ![t.1, 0] ∧ win0_1.index t = ![t.1, 0] ∧ win0_2.index t = ![t.1, 0] ∧ win0_3.index t = ![t.1, 0] ∧ win0_4.index t = ![t.1, 0] ∧ win0_5.index t = ![t.1, 0] ∧ win0_6.index t = ![t.1, 0] ∧ win0_7.index t = ![t.1, 0] ∧ win0_8.index t = ![t.1, 0] ∧ win0_9.index t = ![t.1, 0]) t

/-- The gradient to the real parts of the matrix. -/
def spec_0 (x : FVec Ideal S4096x16 .f32) (w : FVec Ideal S4096x16 .f32) (p : FVec Ideal S4096x1 .f32) (q : FVec Ideal S4096x1 .f32) (u : FVec Ideal S4096x16 .f32) (v : FVec Ideal S4096x16 .f32) : FVec Ideal S4096x16 .f32 :=
  fun y => q (ix2 (y 0) 0) * v (ix2 (y 0) (y 1)) + p (ix2 (y 0) 0) * u (ix2 (y 0) (y 1))

/-- The gradient to its imaginary parts. -/
def spec_1 (x : FVec Ideal S4096x16 .f32) (w : FVec Ideal S4096x16 .f32) (p : FVec Ideal S4096x1 .f32) (q : FVec Ideal S4096x1 .f32) (u : FVec Ideal S4096x16 .f32) (v : FVec Ideal S4096x16 .f32) : FVec Ideal S4096x16 .f32 :=
  fun y => p (ix2 (y 0) 0) * v (ix2 (y 0) (y 1)) + q (ix2 (y 0) 0) * (-u (ix2 (y 0) (y 1)))

/-- The gradient to the real parts of the factors. -/
def spec_2 (x : FVec Ideal S4096x16 .f32) (w : FVec Ideal S4096x16 .f32) (p : FVec Ideal S4096x1 .f32) (q : FVec Ideal S4096x1 .f32) (u : FVec Ideal S4096x16 .f32) (v : FVec Ideal S4096x16 .f32) : FVec Ideal S4096x1 .f32 :=
  fun y => (∑ l : Fin 16, v (ix2 (y 0) l) * w (ix2 (y 0) l)) + ∑ l : Fin 16, u (ix2 (y 0) l) * x (ix2 (y 0) l)

/-- The gradient to their imaginary parts. -/
def spec_3 (x : FVec Ideal S4096x16 .f32) (w : FVec Ideal S4096x16 .f32) (p : FVec Ideal S4096x1 .f32) (q : FVec Ideal S4096x1 .f32) (u : FVec Ideal S4096x16 .f32) (v : FVec Ideal S4096x16 .f32) : FVec Ideal S4096x1 .f32 :=
  fun y => (∑ l : Fin 16, v (ix2 (y 0) l) * x (ix2 (y 0) l)) + ∑ l : Fin 16, (-u (ix2 (y 0) l)) * w (ix2 (y 0) l)

theorem read_x (c : Dev nD) (t : Fin cfg0.N) (i : Fin 512) (j : Fin 16) :
    iblk m c 0 t (ix2 i j) = m ((c : Thread nD τ).loc main_arg0) (ix2 ⟨t.1 * 512 + i.1, by have : t.1 < 8 := t.2; omega⟩ j) := by
  blk_ext [iblk, idx t]

theorem read_w (c : Dev nD) (t : Fin cfg0.N) (i : Fin 512) (j : Fin 16) :
    iblk m c 1 t (ix2 i j) = m ((c : Thread nD τ).loc main_arg1) (ix2 ⟨t.1 * 512 + i.1, by have : t.1 < 8 := t.2; omega⟩ j) := by
  blk_ext [iblk, idx t]

theorem read_p (c : Dev nD) (t : Fin cfg0.N) (i : Fin 512) (j : Fin 1) :
    iblk m c 2 t (ix2 i j) = m ((c : Thread nD τ).loc main_arg2) (ix2 ⟨t.1 * 512 + i.1, by have : t.1 < 8 := t.2; omega⟩ j) := by
  blk_ext [iblk, idx t]

theorem read_q (c : Dev nD) (t : Fin cfg0.N) (i : Fin 512) (j : Fin 1) :
    iblk m c 3 t (ix2 i j) = m ((c : Thread nD τ).loc main_arg3) (ix2 ⟨t.1 * 512 + i.1, by have : t.1 < 8 := t.2; omega⟩ j) := by
  blk_ext [iblk, idx t]

theorem read_u (c : Dev nD) (t : Fin cfg0.N) (i : Fin 512) (j : Fin 16) :
    iblk m c 4 t (ix2 i j) = m ((c : Thread nD τ).loc main_arg4) (ix2 ⟨t.1 * 512 + i.1, by have : t.1 < 8 := t.2; omega⟩ j) := by
  blk_ext [iblk, idx t]

theorem read_v (c : Dev nD) (t : Fin cfg0.N) (i : Fin 512) (j : Fin 16) :
    iblk m c 5 t (ix2 i j) = m ((c : Thread nD τ).loc main_arg5) (ix2 ⟨t.1 * 512 + i.1, by have : t.1 < 8 := t.2; omega⟩ j) := by
  blk_ext [iblk, idx t]

theorem out_at_0 (x : FVec Ideal S512x16 .f32) (w : FVec Ideal S512x16 .f32) (p : FVec Ideal S512x1 .f32) (q : FVec Ideal S512x1 .f32) (u : FVec Ideal S512x16 .f32) (v : FVec Ideal S512x16 .f32) (i : Fin 512) (j : Fin 16) :
    out0_6 (F := Ideal) x w p q u v (ix2 i j)
      = q (ix2 i 0) * v (ix2 i j) + p (ix2 i 0) * u (ix2 i j) := by
  frame_out
  pointwise! [k0_pay1, k0_pay2, k0_pay3, k0_pay4, k0_pay5, k0_pay6, k0_pay7, k0_pay8]

theorem written_0 (c : Dev nD) (t : Fin cfg0.N) (y : S512x16.Idx) : (dats m 0 c).after 6 t y
    = spec_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.1 * 512 + (y 0).1, by have : t.1 < 8 := t.2; have : (y 0).1 < 512 := (y 0).2; omega⟩ (y 1)) := by
  rw [after0_6]
  obtain ⟨i, j, rfl⟩ : ∃ (i : Fin 512) (j : Fin 16), y = ix2 i j := ⟨y 0, y 1, by funext a; fin_cases a <;> rfl⟩
  refine (out_at_0 _ _ _ _ _ _ i j).trans ?_
  simp only [read_x, read_w, read_p, read_q, read_u, read_v]
  rfl

omit m in
theorem place_0 (t : Fin cfg0.N) (y : S512x16.Idx) : (win0_6.blk t).view.emb y
    = (ix2 ⟨t.1 * 512 + (y 0).1, by have : t.1 < 8 := t.2; have : (y 0).1 < 512 := (y 0).2; omega⟩ (y 1) : S4096x16.Idx) := by
  refine funext fun a => Fin.ext ?_
  match a with
  | 0 => blk_simp [idx t]
  | 1 => blk_simp [idx t]

omit m in
theorem covers_0 : (cfg0.win 6).Covers := by decide +kernel

theorem final_0 (c : Dev nD) : (dats m 0 c).arrAt 6 cfg0.N
    = spec_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 (spec_0 _ _ _ _ _ _) ?_ ?_
  · exact covers_0
  · intro t _ y
    exact (written_0 m c t y).trans (congrArg (spec_0 _ _ _ _ _ _) (place_0 t y).symm)

theorem out_at_1 (x : FVec Ideal S512x16 .f32) (w : FVec Ideal S512x16 .f32) (p : FVec Ideal S512x1 .f32) (q : FVec Ideal S512x1 .f32) (u : FVec Ideal S512x16 .f32) (v : FVec Ideal S512x16 .f32) (i : Fin 512) (j : Fin 16) :
    out0_7 (F := Ideal) x w p q u v (ix2 i j)
      = p (ix2 i 0) * v (ix2 i j) + q (ix2 i 0) * (-u (ix2 i j)) := by
  frame_out
  pointwise! [k0_pay1, k0_pay2, k0_pay3, k0_pay4, k0_pay5, k0_pay6, k0_pay7, k0_pay8]
  simp only [zero_sub]

theorem written_1 (c : Dev nD) (t : Fin cfg0.N) (y : S512x16.Idx) : (dats m 0 c).after 7 t y
    = spec_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.1 * 512 + (y 0).1, by have : t.1 < 8 := t.2; have : (y 0).1 < 512 := (y 0).2; omega⟩ (y 1)) := by
  rw [after0_7]
  obtain ⟨i, j, rfl⟩ : ∃ (i : Fin 512) (j : Fin 16), y = ix2 i j := ⟨y 0, y 1, by funext a; fin_cases a <;> rfl⟩
  refine (out_at_1 _ _ _ _ _ _ i j).trans ?_
  simp only [read_x, read_w, read_p, read_q, read_u, read_v]
  rfl

omit m in
theorem place_1 (t : Fin cfg0.N) (y : S512x16.Idx) : (win0_7.blk t).view.emb y
    = (ix2 ⟨t.1 * 512 + (y 0).1, by have : t.1 < 8 := t.2; have : (y 0).1 < 512 := (y 0).2; omega⟩ (y 1) : S4096x16.Idx) := by
  refine funext fun a => Fin.ext ?_
  match a with
  | 0 => blk_simp [idx t]
  | 1 => blk_simp [idx t]

omit m in
theorem covers_1 : (cfg0.win 7).Covers := by decide +kernel

theorem final_1 (c : Dev nD) : (dats m 0 c).arrAt 7 cfg0.N
    = spec_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 (spec_1 _ _ _ _ _ _) ?_ ?_
  · exact covers_1
  · intro t _ y
    exact (written_1 m c t y).trans (congrArg (spec_1 _ _ _ _ _ _) (place_1 t y).symm)

theorem out_at_2 (x : FVec Ideal S512x16 .f32) (w : FVec Ideal S512x16 .f32) (p : FVec Ideal S512x1 .f32) (q : FVec Ideal S512x1 .f32) (u : FVec Ideal S512x16 .f32) (v : FVec Ideal S512x16 .f32) (i : Fin 512) (j : Fin 1) :
    out0_8 (F := Ideal) x w p q u v (ix2 i j)
      = (∑ l : Fin 16, v (ix2 i l) * w (ix2 i l)) + ∑ l : Fin 16, u (ix2 i l) * x (ix2 i l) := by
  frame_out
  pointwise! [k0_pay1, k0_pay2, k0_pay3, k0_pay4, k0_pay5, k0_pay6, k0_pay7, k0_pay8]

theorem written_2 (c : Dev nD) (t : Fin cfg0.N) (y : S512x1.Idx) : (dats m 0 c).after 8 t y
    = spec_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.1 * 512 + (y 0).1, by have : t.1 < 8 := t.2; have : (y 0).1 < 512 := (y 0).2; omega⟩ (y 1)) := by
  rw [after0_8]
  obtain ⟨i, j, rfl⟩ : ∃ (i : Fin 512) (j : Fin 1), y = ix2 i j := ⟨y 0, y 1, by funext a; fin_cases a <;> rfl⟩
  refine (out_at_2 _ _ _ _ _ _ i j).trans ?_
  simp only [read_x, read_w, read_p, read_q, read_u, read_v]
  rfl

omit m in
theorem place_2 (t : Fin cfg0.N) (y : S512x1.Idx) : (win0_8.blk t).view.emb y
    = (ix2 ⟨t.1 * 512 + (y 0).1, by have : t.1 < 8 := t.2; have : (y 0).1 < 512 := (y 0).2; omega⟩ (y 1) : S4096x1.Idx) := by
  refine funext fun a => Fin.ext ?_
  match a with
  | 0 => blk_simp [idx t]
  | 1 => blk_simp [idx t]

omit m in
theorem covers_2 : (cfg0.win 8).Covers := by decide +kernel

theorem final_2 (c : Dev nD) : (dats m 0 c).arrAt 8 cfg0.N
    = spec_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 (spec_2 _ _ _ _ _ _) ?_ ?_
  · exact covers_2
  · intro t _ y
    exact (written_2 m c t y).trans (congrArg (spec_2 _ _ _ _ _ _) (place_2 t y).symm)

theorem out_at_3 (x : FVec Ideal S512x16 .f32) (w : FVec Ideal S512x16 .f32) (p : FVec Ideal S512x1 .f32) (q : FVec Ideal S512x1 .f32) (u : FVec Ideal S512x16 .f32) (v : FVec Ideal S512x16 .f32) (i : Fin 512) (j : Fin 1) :
    out0_9 (F := Ideal) x w p q u v (ix2 i j)
      = (∑ l : Fin 16, v (ix2 i l) * x (ix2 i l)) + ∑ l : Fin 16, (-u (ix2 i l)) * w (ix2 i l) := by
  frame_out
  pointwise! [k0_pay1, k0_pay2, k0_pay3, k0_pay4, k0_pay5, k0_pay6, k0_pay7, k0_pay8]
  simp only [zero_sub]

theorem written_3 (c : Dev nD) (t : Fin cfg0.N) (y : S512x1.Idx) : (dats m 0 c).after 9 t y
    = spec_3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.1 * 512 + (y 0).1, by have : t.1 < 8 := t.2; have : (y 0).1 < 512 := (y 0).2; omega⟩ (y 1)) := by
  rw [after0_9]
  obtain ⟨i, j, rfl⟩ : ∃ (i : Fin 512) (j : Fin 1), y = ix2 i j := ⟨y 0, y 1, by funext a; fin_cases a <;> rfl⟩
  refine (out_at_3 _ _ _ _ _ _ i j).trans ?_
  simp only [read_x, read_w, read_p, read_q, read_u, read_v]
  rfl

omit m in
theorem place_3 (t : Fin cfg0.N) (y : S512x1.Idx) : (win0_9.blk t).view.emb y
    = (ix2 ⟨t.1 * 512 + (y 0).1, by have : t.1 < 8 := t.2; have : (y 0).1 < 512 := (y 0).2; omega⟩ (y 1) : S4096x1.Idx) := by
  refine funext fun a => Fin.ext ?_
  match a with
  | 0 => blk_simp [idx t]
  | 1 => blk_simp [idx t]

omit m in
theorem covers_3 : (cfg0.win 9).Covers := by decide +kernel

theorem final_3 (c : Dev nD) : (dats m 0 c).arrAt 9 cfg0.N
    = spec_3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 (spec_3 _ _ _ _ _ _) ?_ ?_
  · exact covers_3
  · intro t _ y
    exact (written_3 m c t y).trans (congrArg (spec_3 _ _ _ _ _ _) (place_3 t y).symm)

end Cert.BbarBwdIdeal.Value

namespace Cert.Proof.BbarBwd

theorem frame_p : Cert.quiescent_BbarBwd := fun m ρ _ => Cert.BbarBwd.Gen.frame m ρ
theorem frame_pi : Cert.quiescent_BbarBwdIdeal := fun m ρ _ => Cert.BbarBwdIdeal.Gen.frame m ρ
theorem frame_ri : Cert.quiescent_BbarBwdRefIdeal := fun m ρ _ =>
  (θ_run Cert.BbarBwdRefIdeal.defs _ _).mono (fun r h => ⟨fun c => (h c).2.2.2.2, sem_eq_zero_of_no_sems (by decide) r.2⟩)
    (Cert.BbarBwdRefIdeal.Value.run (F := Ideal) m ρ)

theorem preserves : Cert.preserves_BbarBwd_BbarBwdIdeal := trivial

open Cert.BbarBwdRefIdeal Cert.BbarBwdRefIdeal.Gen in
/-- The reference's gradient is the same. -/
theorem reference_eq_0 (x : FVec Ideal S4096x16 .f32) (w : FVec Ideal S4096x16 .f32) (p : FVec Ideal S4096x1 .f32) (q : FVec Ideal S4096x1 .f32) (u : FVec Ideal S4096x16 .f32) (v : FVec Ideal S4096x16 .f32) :
    addf (mulf (broadcastInDim S4096x16 ![0, 1] bcast_S4096x1_S4096x16_0_1 q) (shapeCast _ v shapeCasts_S4096x16_S4096x16)) (mulf (broadcastInDim S4096x16 ![0, 1] bcast_S4096x1_S4096x16_0_1 p) (shapeCast _ u shapeCasts_S4096x16_S4096x16))
      = Cert.BbarBwdIdeal.Value.spec_0 x w p q u v := by
  funext y
  obtain ⟨i, j, rfl⟩ : ∃ (i : Fin 4096) (j : Fin 16), y = ix2 i j := ⟨y 0, y 1, by funext a; fin_cases a <;> rfl⟩
  unfold Cert.BbarBwdIdeal.Value.spec_0
  pointwise!

open Cert.BbarBwdRefIdeal Cert.BbarBwdRefIdeal.Gen in
/-- The reference's gradient is the same. -/
theorem reference_eq_1 (x : FVec Ideal S4096x16 .f32) (w : FVec Ideal S4096x16 .f32) (p : FVec Ideal S4096x1 .f32) (q : FVec Ideal S4096x1 .f32) (u : FVec Ideal S4096x16 .f32) (v : FVec Ideal S4096x16 .f32) :
    addf (mulf (broadcastInDim S4096x16 ![0, 1] bcast_S4096x1_S4096x16_0_1 p) (shapeCast _ v shapeCasts_S4096x16_S4096x16)) (mulf (broadcastInDim S4096x16 ![0, 1] bcast_S4096x1_S4096x16_0_1 q) (Host.negf u))
      = Cert.BbarBwdIdeal.Value.spec_1 x w p q u v := by
  funext y
  obtain ⟨i, j, rfl⟩ : ∃ (i : Fin 4096) (j : Fin 16), y = ix2 i j := ⟨y 0, y 1, by funext a; fin_cases a <;> rfl⟩
  unfold Cert.BbarBwdIdeal.Value.spec_1
  pointwise!

open Cert.BbarBwdRefIdeal Cert.BbarBwdRefIdeal.Gen in
/-- The reference's gradient is the same. -/
theorem reference_eq_2 (x : FVec Ideal S4096x16 .f32) (w : FVec Ideal S4096x16 .f32) (p : FVec Ideal S4096x1 .f32) (q : FVec Ideal S4096x1 .f32) (u : FVec Ideal S4096x16 .f32) (v : FVec Ideal S4096x16 .f32) :
    addf (shapeCast _ (Host.reduceAdd (mulf (shapeCast _ v shapeCasts_S4096x16_S4096x16) w) (constant S_ .f32 0x00000000#32) reducesTo_S4096x16_S4096_d1 h_S_) shapeCasts_S4096_S4096x1) (shapeCast _ (Host.reduceAdd (mulf (shapeCast _ u shapeCasts_S4096x16_S4096x16) x) (constant S_ .f32 0x00000000#32) reducesTo_S4096x16_S4096_d1 h_S_) shapeCasts_S4096_S4096x1)
      = Cert.BbarBwdIdeal.Value.spec_2 x w p q u v := by
  funext y
  obtain ⟨i, j, rfl⟩ : ∃ (i : Fin 4096) (j : Fin 1), y = ix2 i j := ⟨y 0, y 1, by funext a; fin_cases a <;> rfl⟩
  unfold Cert.BbarBwdIdeal.Value.spec_2
  pointwise!

open Cert.BbarBwdRefIdeal Cert.BbarBwdRefIdeal.Gen in
/-- The reference's gradient is the same. -/
theorem reference_eq_3 (x : FVec Ideal S4096x16 .f32) (w : FVec Ideal S4096x16 .f32) (p : FVec Ideal S4096x1 .f32) (q : FVec Ideal S4096x1 .f32) (u : FVec Ideal S4096x16 .f32) (v : FVec Ideal S4096x16 .f32) :
    addf (shapeCast _ (Host.reduceAdd (mulf (shapeCast _ v shapeCasts_S4096x16_S4096x16) x) (constant S_ .f32 0x00000000#32) reducesTo_S4096x16_S4096_d1 h_S_) shapeCasts_S4096_S4096x1) (shapeCast _ (Host.reduceAdd (mulf (Host.negf u) w) (constant S_ .f32 0x00000000#32) reducesTo_S4096x16_S4096_d1 h_S_) shapeCasts_S4096_S4096x1)
      = Cert.BbarBwdIdeal.Value.spec_3 x w p q u v := by
  funext y
  obtain ⟨i, j, rfl⟩ : ∃ (i : Fin 4096) (j : Fin 1), y = ix2 i j := ⟨y 0, y 1, by funext a; fin_cases a <;> rfl⟩
  unfold Cert.BbarBwdIdeal.Value.spec_3
  pointwise!

open Cert.BbarBwdRefIdeal in
theorem algebraic : Cert.algebraic_BbarBwdIdeal_BbarBwdRefIdeal := by
  intro m g m' g' _ hagree
  refine ⟨_, _, _, _, (θ_run Cert.BbarBwdIdeal.defs _ _).mono (fun r h => h) (Cert.BbarBwdIdeal.Value.run_blocks m g), ?_⟩
  refine (θ_run Cert.BbarBwdRefIdeal.defs _ _).mono (fun r h c => ?_) (Cert.BbarBwdRefIdeal.Value.run (F := Ideal) m' g')
  obtain ⟨e0, e1, e2, e3, e4, e5⟩ := hagree c
  refine ⟨((h c).1).trans ?_, ((h c).2.1).trans ?_, ((h c).2.2.1).trans ?_, ((h c).2.2.2.1).trans ?_, (h c).2.2.2.2⟩
  · rw [e2, e3, e4, e5]
    exact (reference_eq_0 _ _ _ _ _ _).trans (Cert.BbarBwdIdeal.Value.final_0 m c).symm
  · rw [e2, e3, e4, e5]
    exact (reference_eq_1 _ _ _ _ _ _).trans (Cert.BbarBwdIdeal.Value.final_1 m c).symm
  · rw [e0, e1, e4, e5]
    exact (reference_eq_2 _ _ _ _ _ _).trans (Cert.BbarBwdIdeal.Value.final_2 m c).symm
  · rw [e0, e1, e4, e5]
    exact (reference_eq_3 _ _ _ _ _ _).trans (Cert.BbarBwdIdeal.Value.final_3 m c).symm

end Cert.Proof.BbarBwd

end
-- ==== Proof.Bbar.lean ====
/- The S5 layer's discretised input matrices, a complex factor for every row: the two arrays the call leaves, and its claims. -/
module

public import proofs.«01_k».proof.Defs
public import proofs.«01_k».proof.Proof.Gen.Bbar.Frame
public import proofs.«01_k».proof.Proof.Gen.BbarIdeal.Value
public import proofs.«01_k».proof.Proof.Gen.BbarRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BbarIdeal.Value

open Cert.BbarIdeal Cert.BbarIdeal.Gen

variable (m : (ℓ : Loc nD τ sig) → Buf (Elt Ideal) ℓ)

theorem idx (t : Fin cfg0.N) : win0_0.index t = ![t.1, 0] ∧ win0_1.index t = ![t.1, 0] ∧ win0_2.index t = ![t.1, 0] ∧ win0_3.index t = ![t.1, 0] ∧ win0_4.index t = ![t.1, 0] ∧ win0_5.index t = ![t.1, 0] :=
  (by decide +kernel : ∀ t : Fin grid0.N, win0_0.index t = ![t.1, 0] ∧ win0_1.index t = ![t.1, 0] ∧ win0_2.index t = ![t.1, 0] ∧ win0_3.index t = ![t.1, 0] ∧ win0_4.index t = ![t.1, 0] ∧ win0_5.index t = ![t.1, 0]) t

/-- The real parts. -/
def spec_0 (x : FVec Ideal S4096x16 .f32) (w : FVec Ideal S4096x16 .f32) (p : FVec Ideal S4096x1 .f32) (q : FVec Ideal S4096x1 .f32) : FVec Ideal S4096x16 .f32 :=
  fun y => p (ix2 (y 0) 0) * x (ix2 (y 0) (y 1)) - q (ix2 (y 0) 0) * w (ix2 (y 0) (y 1))

/-- The imaginary parts. -/
def spec_1 (x : FVec Ideal S4096x16 .f32) (w : FVec Ideal S4096x16 .f32) (p : FVec Ideal S4096x1 .f32) (q : FVec Ideal S4096x1 .f32) : FVec Ideal S4096x16 .f32 :=
  fun y => p (ix2 (y 0) 0) * w (ix2 (y 0) (y 1)) + q (ix2 (y 0) 0) * x (ix2 (y 0) (y 1))

theorem read_x (c : Dev nD) (t : Fin cfg0.N) (i : Fin 512) (j : Fin 16) :
    iblk m c 0 t (ix2 i j) = m ((c : Thread nD τ).loc main_arg0) (ix2 ⟨t.1 * 512 + i.1, by have : t.1 < 8 := t.2; omega⟩ j) := by
  blk_ext [iblk, idx t]

theorem read_w (c : Dev nD) (t : Fin cfg0.N) (i : Fin 512) (j : Fin 16) :
    iblk m c 1 t (ix2 i j) = m ((c : Thread nD τ).loc main_arg1) (ix2 ⟨t.1 * 512 + i.1, by have : t.1 < 8 := t.2; omega⟩ j) := by
  blk_ext [iblk, idx t]

theorem read_p (c : Dev nD) (t : Fin cfg0.N) (i : Fin 512) (j : Fin 1) :
    iblk m c 2 t (ix2 i j) = m ((c : Thread nD τ).loc main_arg2) (ix2 ⟨t.1 * 512 + i.1, by have : t.1 < 8 := t.2; omega⟩ j) := by
  blk_ext [iblk, idx t]

theorem read_q (c : Dev nD) (t : Fin cfg0.N) (i : Fin 512) (j : Fin 1) :
    iblk m c 3 t (ix2 i j) = m ((c : Thread nD τ).loc main_arg3) (ix2 ⟨t.1 * 512 + i.1, by have : t.1 < 8 := t.2; omega⟩ j) := by
  blk_ext [iblk, idx t]

theorem out_at_0 (x : FVec Ideal S512x16 .f32) (w : FVec Ideal S512x16 .f32) (p : FVec Ideal S512x1 .f32) (q : FVec Ideal S512x1 .f32) (i : Fin 512) (j : Fin 16) :
    out0_4 (F := Ideal) x w p q (ix2 i j)
      = p (ix2 i 0) * x (ix2 i j) - q (ix2 i 0) * w (ix2 i j) := by
  frame_out
  pointwise! [k0_pay1, k0_pay2]

theorem written_0 (c : Dev nD) (t : Fin cfg0.N) (y : S512x16.Idx) : (dats m 0 c).after 4 t y
    = spec_0 (m ((c : Thread nD τ).loc main_arg0)) (m ((c : Thread nD τ).loc main_arg1)) (m ((c : Thread nD τ).loc main_arg2)) (m ((c : Thread nD τ).loc main_arg3)) (ix2 ⟨t.1 * 512 + (y 0).1, by have : t.1 < 8 := t.2; have : (y 0).1 < 512 := (y 0).2; omega⟩ (y 1)) := by
  rw [after0_4]
  obtain ⟨i, j, rfl⟩ : ∃ (i : Fin 512) (j : Fin 16), y = ix2 i j := ⟨y 0, y 1, by funext a; fin_cases a <;> rfl⟩
  refine (out_at_0 _ _ _ _ i j).trans ?_
  simp only [read_x, read_w, read_p, read_q]
  rfl

omit m in
theorem place_0 (t : Fin cfg0.N) (y : S512x16.Idx) : (win0_4.blk t).view.emb y
    = (ix2 ⟨t.1 * 512 + (y 0).1, by have : t.1 < 8 := t.2; have : (y 0).1 < 512 := (y 0).2; omega⟩ (y 1) : S4096x16.Idx) := by
  refine funext fun a => Fin.ext ?_
  match a with
  | 0 => blk_simp [idx t]
  | 1 => blk_simp [idx t]

omit m in
theorem covers_0 : (cfg0.win 4).Covers := by decide +kernel

theorem final_0 (c : Dev nD) : (dats m 0 c).arrAt 4 cfg0.N
    = spec_0 (m ((c : Thread nD τ).loc main_arg0)) (m ((c : Thread nD τ).loc main_arg1)) (m ((c : Thread nD τ).loc main_arg2)) (m ((c : Thread nD τ).loc main_arg3)) := by
  refine (dats m 0 c).arrAt_eq_of_covers 4 (spec_0 _ _ _ _) ?_ ?_
  · exact covers_0
  · intro t _ y
    exact (written_0 m c t y).trans (congrArg (spec_0 _ _ _ _) (place_0 t y).symm)

theorem out_at_1 (x : FVec Ideal S512x16 .f32) (w : FVec Ideal S512x16 .f32) (p : FVec Ideal S512x1 .f32) (q : FVec Ideal S512x1 .f32) (i : Fin 512) (j : Fin 16) :
    out0_5 (F := Ideal) x w p q (ix2 i j)
      = p (ix2 i 0) * w (ix2 i j) + q (ix2 i 0) * x (ix2 i j) := by
  frame_out
  pointwise! [k0_pay1, k0_pay2]

theorem written_1 (c : Dev nD) (t : Fin cfg0.N) (y : S512x16.Idx) : (dats m 0 c).after 5 t y
    = spec_1 (m ((c : Thread nD τ).loc main_arg0)) (m ((c : Thread nD τ).loc main_arg1)) (m ((c : Thread nD τ).loc main_arg2)) (m ((c : Thread nD τ).loc main_arg3)) (ix2 ⟨t.1 * 512 + (y 0).1, by have : t.1 < 8 := t.2; have : (y 0).1 < 512 := (y 0).2; omega⟩ (y 1)) := by
  rw [after0_5]
  obtain ⟨i, j, rfl⟩ : ∃ (i : Fin 512) (j : Fin 16), y = ix2 i j := ⟨y 0, y 1, by funext a; fin_cases a <;> rfl⟩
  refine (out_at_1 _ _ _ _ i j).trans ?_
  simp only [read_x, read_w, read_p, read_q]
  rfl

omit m in
theorem place_1 (t : Fin cfg0.N) (y : S512x16.Idx) : (win0_5.blk t).view.emb y
    = (ix2 ⟨t.1 * 512 + (y 0).1, by have : t.1 < 8 := t.2; have : (y 0).1 < 512 := (y 0).2; omega⟩ (y 1) : S4096x16.Idx) := by
  refine funext fun a => Fin.ext ?_
  match a with
  | 0 => blk_simp [idx t]
  | 1 => blk_simp [idx t]

omit m in
theorem covers_1 : (cfg0.win 5).Covers := by decide +kernel

theorem final_1 (c : Dev nD) : (dats m 0 c).arrAt 5 cfg0.N
    = spec_1 (m ((c : Thread nD τ).loc main_arg0)) (m ((c : Thread nD τ).loc main_arg1)) (m ((c : Thread nD τ).loc main_arg2)) (m ((c : Thread nD τ).loc main_arg3)) := by
  refine (dats m 0 c).arrAt_eq_of_covers 5 (spec_1 _ _ _ _) ?_ ?_
  · exact covers_1
  · intro t _ y
    exact (written_1 m c t y).trans (congrArg (spec_1 _ _ _ _) (place_1 t y).symm)

end Cert.BbarIdeal.Value

namespace Cert.Proof.Bbar

theorem frame_p : Cert.quiescent_Bbar := fun m ρ _ => Cert.Bbar.Gen.frame m ρ
theorem frame_pi : Cert.quiescent_BbarIdeal := fun m ρ _ => Cert.BbarIdeal.Gen.frame m ρ
theorem frame_ri : Cert.quiescent_BbarRefIdeal := fun m ρ _ =>
  (θ_run Cert.BbarRefIdeal.defs _ _).mono (fun r h => ⟨fun c => (h c).2.2, sem_eq_zero_of_no_sems (by decide) r.2⟩)
    (Cert.BbarRefIdeal.Value.run (F := Ideal) m ρ)

theorem preserves : Cert.preserves_Bbar_BbarIdeal := trivial

open Cert.BbarRefIdeal Cert.BbarRefIdeal.Gen in
/-- The reference's product is the same. -/
theorem reference_eq_0 (x : FVec Ideal S4096x16 .f32) (w : FVec Ideal S4096x16 .f32) (p : FVec Ideal S4096x1 .f32) (q : FVec Ideal S4096x1 .f32) :
    subf (mulf (broadcastInDim S4096x16 ![0, 1] bcast_S4096x1_S4096x16_0_1 p) x) (mulf (broadcastInDim S4096x16 ![0, 1] bcast_S4096x1_S4096x16_0_1 q) w)
      = Cert.BbarIdeal.Value.spec_0 x w p q := by
  funext y
  obtain ⟨i, j, rfl⟩ : ∃ (i : Fin 4096) (j : Fin 16), y = ix2 i j := ⟨y 0, y 1, by funext a; fin_cases a <;> rfl⟩
  unfold Cert.BbarIdeal.Value.spec_0
  pointwise!

open Cert.BbarRefIdeal Cert.BbarRefIdeal.Gen in
/-- The reference's product is the same. -/
theorem reference_eq_1 (x : FVec Ideal S4096x16 .f32) (w : FVec Ideal S4096x16 .f32) (p : FVec Ideal S4096x1 .f32) (q : FVec Ideal S4096x1 .f32) :
    addf (mulf (broadcastInDim S4096x16 ![0, 1] bcast_S4096x1_S4096x16_0_1 p) w) (mulf (broadcastInDim S4096x16 ![0, 1] bcast_S4096x1_S4096x16_0_1 q) x)
      = Cert.BbarIdeal.Value.spec_1 x w p q := by
  funext y
  obtain ⟨i, j, rfl⟩ : ∃ (i : Fin 4096) (j : Fin 16), y = ix2 i j := ⟨y 0, y 1, by funext a; fin_cases a <;> rfl⟩
  unfold Cert.BbarIdeal.Value.spec_1
  pointwise!

open Cert.BbarRefIdeal in
theorem algebraic : Cert.algebraic_BbarIdeal_BbarRefIdeal := by
  intro m g m' g' _ hagree
  refine ⟨_, _, (θ_run Cert.BbarIdeal.defs _ _).mono (fun r h => h) (Cert.BbarIdeal.Value.run_blocks m g), ?_⟩
  refine (θ_run Cert.BbarRefIdeal.defs _ _).mono (fun r h c => ?_) (Cert.BbarRefIdeal.Value.run (F := Ideal) m' g')
  obtain ⟨e0, e1, e2, e3⟩ := hagree c
  refine ⟨((h c).1).trans ?_, ((h c).2.1).trans ?_, (h c).2.2⟩
  · rw [e0, e1, e2, e3]
    exact (reference_eq_0 _ _ _ _).trans (Cert.BbarIdeal.Value.final_0 m c).symm
  · rw [e0, e1, e2, e3]
    exact (reference_eq_1 _ _ _ _).trans (Cert.BbarIdeal.Value.final_1 m c).symm

end Cert.Proof.Bbar

end
-- ==== Proof.Gelu.lean ====
/- The activation after the S5 layer's states: the array the call leaves, and its claims. -/
module

public import proofs.«01_k».proof.Defs
public import proofs.«01_k».proof.Proof.Gen.Gelu.Frame
public import proofs.«01_k».proof.Proof.Gen.GeluIdeal.Value
public import proofs.«01_k».proof.Proof.Gen.GeluRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GeluIdeal.Value

open Cert.GeluIdeal Cert.GeluIdeal.Gen

variable (m : (ℓ : Loc nD τ sig) → Buf (Elt Ideal) ℓ)

theorem idx (t : Fin cfg0.N) : win0_0.index t = ![t.1, 0] ∧ win0_1.index t = ![t.1, 0] ∧ win0_2.index t = ![0, 0] ∧ win0_3.index t = ![t.1, 0] :=
  (by decide +kernel : ∀ t : Fin grid0.N, win0_0.index t = ![t.1, 0] ∧ win0_1.index t = ![t.1, 0] ∧ win0_2.index t = ![0, 0] ∧ win0_3.index t = ![t.1, 0]) t

/-- The activation by the hyperbolic tangent, with its three constants. -/
def spec (x : FVec Ideal S4096x1024 .f32) (h : FVec Ideal S4096x1024 .f32) (d : FVec Ideal S1x1024 .f32) : FVec Ideal S4096x1024 .f32 :=
  fun y => (x (ix2 (y 0) (y 1)) + d (ix2 0 (y 1)) * h (ix2 (y 0) (y 1))) * (Ideal.ofBits FTy.f32 1056964608#32 * (1 + Ideal.tanh (Ideal.ofBits FTy.f32 1061962282#32 * ((x (ix2 (y 0) (y 1)) + d (ix2 0 (y 1)) * h (ix2 (y 0) (y 1))) + Ideal.ofBits FTy.f32 1027024659#32 * ((x (ix2 (y 0) (y 1)) + d (ix2 0 (y 1)) * h (ix2 (y 0) (y 1))) * ((x (ix2 (y 0) (y 1)) + d (ix2 0 (y 1)) * h (ix2 (y 0) (y 1))) * (x (ix2 (y 0) (y 1)) + d (ix2 0 (y 1)) * h (ix2 (y 0) (y 1)))))))))

theorem read_x (c : Dev nD) (t : Fin cfg0.N) (i : Fin 256) (j : Fin 1024) :
    iblk m c 0 t (ix2 i j) = m ((c : Thread nD τ).loc main_arg0) (ix2 ⟨t.1 * 256 + i.1, by have : t.1 < 16 := t.2; omega⟩ j) := by
  blk_ext [iblk, idx t]

theorem read_h (c : Dev nD) (t : Fin cfg0.N) (i : Fin 256) (j : Fin 1024) :
    iblk m c 1 t (ix2 i j) = m ((c : Thread nD τ).loc main_arg1) (ix2 ⟨t.1 * 256 + i.1, by have : t.1 < 16 := t.2; omega⟩ j) := by
  blk_ext [iblk, idx t]

theorem read_d (c : Dev nD) (t : Fin cfg0.N) (i : Fin 1) (j : Fin 1024) :
    iblk m c 2 t (ix2 i j) = m ((c : Thread nD τ).loc main_arg2) (ix2 i j) := by
  blk_ext [iblk, idx t]

theorem out_at (x : FVec Ideal S256x1024 .f32) (h : FVec Ideal S256x1024 .f32) (d : FVec Ideal S1x1024 .f32) (i : Fin 256) (j : Fin 1024) :
    out0_3 (F := Ideal) x h d (ix2 i j)
      = (x (ix2 i j) + d (ix2 0 j) * h (ix2 i j)) * (Ideal.ofBits FTy.f32 1056964608#32 * (1 + Ideal.tanh (Ideal.ofBits FTy.f32 1061962282#32 * ((x (ix2 i j) + d (ix2 0 j) * h (ix2 i j)) + Ideal.ofBits FTy.f32 1027024659#32 * ((x (ix2 i j) + d (ix2 0 j) * h (ix2 i j)) * ((x (ix2 i j) + d (ix2 0 j) * h (ix2 i j)) * (x (ix2 i j) + d (ix2 0 j) * h (ix2 i j)))))))) := by
  frame_out
  pointwise! [k0_pay1]

theorem written (c : Dev nD) (t : Fin cfg0.N) (y : S256x1024.Idx) : (dats m 0 c).after 3 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_3]
  obtain ⟨i, j, rfl⟩ : ∃ (i : Fin 256) (j : Fin 1024), y = ix2 i j := ⟨y 0, y 1, by funext a; fin_cases a <;> rfl⟩
  refine (out_at _ _ _ i j).trans ?_
  simp only [read_x, read_h, read_d]
  rfl

omit m in
theorem place (t : Fin cfg0.N) (y : S256x1024.Idx) : (win0_3.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 3).Covers := by decide +kernel

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) ?_ ?_
  · exact covers
  · intro t _ y
    exact (written m c t y).trans (congrArg (spec _ _ _) (place t y).symm)

end Cert.GeluIdeal.Value

namespace Cert.Proof.Gelu

theorem frame_p : Cert.quiescent_Gelu := fun m ρ _ => Cert.Gelu.Gen.frame m ρ
theorem frame_pi : Cert.quiescent_GeluIdeal := fun m ρ _ => Cert.GeluIdeal.Gen.frame m ρ
theorem frame_ri : Cert.quiescent_GeluRefIdeal := fun m ρ _ =>
  (θ_run Cert.GeluRefIdeal.defs _ _).mono (fun r h => ⟨fun c => (h c).2, sem_eq_zero_of_no_sems (by decide) r.2⟩)
    (Cert.GeluRefIdeal.Value.run (F := Ideal) m ρ)

theorem preserves : Cert.preserves_Gelu_GeluIdeal := trivial

open Cert.GeluRefIdeal Cert.GeluRefIdeal.Gen in
/-- The reference's cube is associated the other way. -/
theorem reference_eq (x : FVec Ideal S4096x1024 .f32) (h : FVec Ideal S4096x1024 .f32) (d : FVec Ideal S1x1024 .f32) :
    mulf (addf x (mulf (broadcastInDim S4096x1024 ![0, 1] bcast_S1x1024_S4096x1024_0_1 d) h)) (mulf (broadcastInDim S4096x1024 ![] bcast_S_S4096x1024 (constant S_ .f32 0x3F000000#32)) (addf (broadcastInDim S4096x1024 ![] bcast_S_S4096x1024 (constant S_ .f32 0x3F800000#32)) (Host.tanh (mulf (broadcastInDim S4096x1024 ![] bcast_S_S4096x1024 (constant S_ .f32 0x3F4C422A#32)) (addf (addf x (mulf (broadcastInDim S4096x1024 ![0, 1] bcast_S1x1024_S4096x1024_0_1 d) h)) (mulf (broadcastInDim S4096x1024 ![] bcast_S_S4096x1024 (constant S_ .f32 0x3D372713#32)) (mulf (mulf (addf x (mulf (broadcastInDim S4096x1024 ![0, 1] bcast_S1x1024_S4096x1024_0_1 d) h)) (addf x (mulf (broadcastInDim S4096x1024 ![0, 1] bcast_S1x1024_S4096x1024_0_1 d) h))) (addf x (mulf (broadcastInDim S4096x1024 ![0, 1] bcast_S1x1024_S4096x1024_0_1 d) h)))))))))
      = Cert.GeluIdeal.Value.spec x h d := by
  funext y
  obtain ⟨i, j, rfl⟩ : ∃ (i : Fin 4096) (j : Fin 1024), y = ix2 i j := ⟨y 0, y 1, by funext a; fin_cases a <;> rfl⟩
  unfold Cert.GeluIdeal.Value.spec
  pointwise!
  rw [mul_assoc (x (ix2 i j) + d (ix2 0 j) * h (ix2 i j))]

open Cert.GeluRefIdeal in
theorem algebraic : Cert.algebraic_GeluIdeal_GeluRefIdeal := by
  intro m g m' g' _ hagree
  refine ⟨_, (θ_run Cert.GeluIdeal.defs _ _).mono (fun r h => h) (Cert.GeluIdeal.Value.run_blocks m g), ?_⟩
  refine (θ_run Cert.GeluRefIdeal.defs _ _).mono (fun r h c => ?_) (Cert.GeluRefIdeal.Value.run (F := Ideal) m' g')
  obtain ⟨e0, e1, e2⟩ := hagree c
  refine ⟨((h c).1).trans ?_, (h c).2⟩
  rw [e0, e1, e2]
  exact (reference_eq _ _ _).trans (Cert.GeluIdeal.Value.final m c).symm

end Cert.Proof.Gelu

end
-- ==== Proof.GateRes.lean ====
/- The residual sum of an S5 layer with its gate: the array the call leaves, and its claims. -/
module

public import proofs.«01_k».proof.Defs
public import proofs.«01_k».proof.Proof.Gen.GateRes.Frame
public import proofs.«01_k».proof.Proof.Gen.GateResIdeal.Value
public import proofs.«01_k».proof.Proof.Gen.GateResRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateResIdeal.Value

open Cert.GateResIdeal Cert.GateResIdeal.Gen

variable (m : (ℓ : Loc nD τ sig) → Buf (Elt Ideal) ℓ)

theorem idx (t : Fin cfg0.N) : win0_0.index t = ![t.1, 0] ∧ win0_1.index t = ![t.1, 0] ∧ win0_2.index t = ![t.1, 0] ∧ win0_3.index t = ![0, 0] ∧ win0_4.index t = ![0, 0] ∧ win0_5.index t = ![t.1, 0] :=
  (by decide +kernel : ∀ t : Fin grid0.N, win0_0.index t = ![t.1, 0] ∧ win0_1.index t = ![t.1, 0] ∧ win0_2.index t = ![t.1, 0] ∧ win0_3.index t = ![0, 0] ∧ win0_4.index t = ![0, 0] ∧ win0_5.index t = ![t.1, 0]) t

/-- The rows plus the gated rows, scaled by the third row of the conditioning. -/
def spec (x : FVec Ideal S4096x1024 .f32) (g : FVec Ideal S4096x1024 .f32) (z : FVec Ideal S4096x1024 .f32) (b : FVec Ideal S1x1024 .f32) (s : FVec Ideal S6x1024 .f32) : FVec Ideal S4096x1024 .f32 :=
  fun y => x (ix2 (y 0) (y 1)) + s (ix2 2 (y 1)) * (g (ix2 (y 0) (y 1)) * Ideal.logistic (z (ix2 (y 0) (y 1)) + b (ix2 0 (y 1))))

theorem read_x (c : Dev nD) (t : Fin cfg0.N) (i : Fin 256) (j : Fin 1024) :
    iblk m c 0 t (ix2 i j) = m ((c : Thread nD τ).loc main_arg0) (ix2 ⟨t.1 * 256 + i.1, by have : t.1 < 16 := t.2; omega⟩ j) := by
  blk_ext [iblk, idx t]

theorem read_g (c : Dev nD) (t : Fin cfg0.N) (i : Fin 256) (j : Fin 1024) :
    iblk m c 1 t (ix2 i j) = m ((c : Thread nD τ).loc main_arg1) (ix2 ⟨t.1 * 256 + i.1, by have : t.1 < 16 := t.2; omega⟩ j) := by
  blk_ext [iblk, idx t]

theorem read_z (c : Dev nD) (t : Fin cfg0.N) (i : Fin 256) (j : Fin 1024) :
    iblk m c 2 t (ix2 i j) = m ((c : Thread nD τ).loc main_arg2) (ix2 ⟨t.1 * 256 + i.1, by have : t.1 < 16 := t.2; omega⟩ j) := by
  blk_ext [iblk, idx t]

theorem read_b (c : Dev nD) (t : Fin cfg0.N) (i : Fin 1) (j : Fin 1024) :
    iblk m c 3 t (ix2 i j) = m ((c : Thread nD τ).loc main_arg3) (ix2 i j) := by
  blk_ext [iblk, idx t]

theorem read_s (c : Dev nD) (t : Fin cfg0.N) (i : Fin 6) (j : Fin 1024) :
    iblk m c 4 t (ix2 i j) = m ((c : Thread nD τ).loc main_arg4) (ix2 i j) := by
  blk_ext [iblk, idx t]

theorem out_at (x : FVec Ideal S256x1024 .f32) (g : FVec Ideal S256x1024 .f32) (z : FVec Ideal S256x1024 .f32) (b : FVec Ideal S1x1024 .f32) (s : FVec Ideal S6x1024 .f32) (i : Fin 256) (j : Fin 1024) :
    out0_5 (F := Ideal) x g z b s (ix2 i j)
      = x (ix2 i j) + s (ix2 2 j) * (g (ix2 i j) * Ideal.logistic (z (ix2 i j) + b (ix2 0 j))) := by
  frame_out
  pointwise! [k0_pay1]

theorem written (c : Dev nD) (t : Fin cfg0.N) (y : S256x1024.Idx) : (dats m 0 c).after 5 t y
    = spec (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.1 * 256 + (y 0).1, by have : t.1 < 16 := t.2; have : (y 0).1 < 256 := (y 0).2; omega⟩ (y 1)) := by
  rw [after0_5]
  obtain ⟨i, j, rfl⟩ : ∃ (i : Fin 256) (j : Fin 1024), y = ix2 i j := ⟨y 0, y 1, by funext a; fin_cases a <;> rfl⟩
  refine (out_at _ _ _ _ _ i j).trans ?_
  simp only [read_x, read_g, read_z, read_b, read_s]
  rfl

omit m in
theorem place (t : Fin cfg0.N) (y : S256x1024.Idx) : (win0_5.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 5).Covers := by decide +kernel

theorem final (c : Dev nD) : (dats m 0 c).arrAt 5 cfg0.N
    = spec (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 (spec _ _ _ _ _) ?_ ?_
  · exact covers
  · intro t _ y
    exact (written m c t y).trans (congrArg (spec _ _ _ _ _) (place t y).symm)

end Cert.GateResIdeal.Value

namespace Cert.Proof.GateRes

theorem frame_p : Cert.quiescent_GateRes := fun m ρ _ => Cert.GateRes.Gen.frame m ρ
theorem frame_pi : Cert.quiescent_GateResIdeal := fun m ρ _ => Cert.GateResIdeal.Gen.frame m ρ
theorem frame_ri : Cert.quiescent_GateResRefIdeal := fun m ρ _ =>
  (θ_run Cert.GateResRefIdeal.defs _ _).mono (fun r h => ⟨fun c => (h c).2, sem_eq_zero_of_no_sems (by decide) r.2⟩)
    (Cert.GateResRefIdeal.Value.run (F := Ideal) m ρ)

theorem preserves : Cert.preserves_GateRes_GateResIdeal := trivial

open Cert.GateResRefIdeal Cert.GateResRefIdeal.Gen in
/-- The reference's sum is the same. -/
theorem reference_eq (x : FVec Ideal S4096x1024 .f32) (g : FVec Ideal S4096x1024 .f32) (z : FVec Ideal S4096x1024 .f32) (b : FVec Ideal S1x1024 .f32) (s : FVec Ideal S6x1024 .f32) :
    addf x (mulf (broadcastInDim S4096x1024 ![0, 1] bcast_S1x1024_S4096x1024_0_1 (extractStridedSlice S1x1024 ![2, 0] s slices_S6x1024_S1x1024_2_0)) (mulf g (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf z (broadcastInDim S4096x1024 ![0, 1] bcast_S1x1024_S4096x1024_0_1 b))))))))
      = Cert.GateResIdeal.Value.spec x g z b s := by
  funext y
  obtain ⟨i, j, rfl⟩ : ∃ (i : Fin 4096) (j : Fin 1024), y = ix2 i j := ⟨y 0, y 1, by funext a; fin_cases a <;> rfl⟩
  unfold Cert.GateResIdeal.Value.spec Ideal.logistic
  pointwise!

open Cert.GateResRefIdeal in
theorem algebraic : Cert.algebraic_GateResIdeal_GateResRefIdeal := by
  intro m g m' g' _ hagree
  refine ⟨_, (θ_run Cert.GateResIdeal.defs _ _).mono (fun r h => h) (Cert.GateResIdeal.Value.run_blocks m g), ?_⟩
  refine (θ_run Cert.GateResRefIdeal.defs _ _).mono (fun r h c => ?_) (Cert.GateResRefIdeal.Value.run (F := Ideal) m' g')
  obtain ⟨e0, e1, e2, e3, e4⟩ := hagree c
  refine ⟨((h c).1).trans ?_, (h c).2⟩
  rw [e0, e1, e2, e3, e4]
  exact (reference_eq _ _ _ _ _).trans (Cert.GateResIdeal.Value.final m c).symm

end Cert.Proof.GateRes

end
-- ==== Proof.MlaRes.lean ====
/- The residual sum after the attention layer: the array the call leaves, and its claims. -/
module

public import proofs.«01_k».proof.Defs
public import proofs.«01_k».proof.Proof.Gen.MlaRes.Frame
public import proofs.«01_k».proof.Proof.Gen.MlaResIdeal.Value
public import proofs.«01_k».proof.Proof.Gen.MlaResRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlaResIdeal.Value

open Cert.MlaResIdeal Cert.MlaResIdeal.Gen

variable (m : (ℓ : Loc nD τ sig) → Buf (Elt Ideal) ℓ)

theorem idx (t : Fin cfg0.N) : win0_0.index t = ![t.1, 0] ∧ win0_1.index t = ![t.1, 0] ∧ win0_2.index t = ![0, 0] ∧ win0_3.index t = ![t.1, 0] :=
  (by decide +kernel : ∀ t : Fin grid0.N, win0_0.index t = ![t.1, 0] ∧ win0_1.index t = ![t.1, 0] ∧ win0_2.index t = ![0, 0] ∧ win0_3.index t = ![t.1, 0]) t

/-- The rows plus the layer's, scaled by the third row of the conditioning. -/
def spec (x : FVec Ideal S4096x1024 .f32) (f : FVec Ideal S4096x1024 .f32) (s : FVec Ideal S6x1024 .f32) : FVec Ideal S4096x1024 .f32 :=
  fun y => x (ix2 (y 0) (y 1)) + s (ix2 2 (y 1)) * f (ix2 (y 0) (y 1))

theorem read_x (c : Dev nD) (t : Fin cfg0.N) (i : Fin 256) (j : Fin 1024) :
    iblk m c 0 t (ix2 i j) = m ((c : Thread nD τ).loc main_arg0) (ix2 ⟨t.1 * 256 + i.1, by have : t.1 < 16 := t.2; omega⟩ j) := by
  blk_ext [iblk, idx t]

theorem read_f (c : Dev nD) (t : Fin cfg0.N) (i : Fin 256) (j : Fin 1024) :
    iblk m c 1 t (ix2 i j) = m ((c : Thread nD τ).loc main_arg1) (ix2 ⟨t.1 * 256 + i.1, by have : t.1 < 16 := t.2; omega⟩ j) := by
  blk_ext [iblk, idx t]

theorem read_s (c : Dev nD) (t : Fin cfg0.N) (i : Fin 6) (j : Fin 1024) :
    iblk m c 2 t (ix2 i j) = m ((c : Thread nD τ).loc main_arg2) (ix2 i j) := by
  blk_ext [iblk, idx t]

theorem out_at (x : FVec Ideal S256x1024 .f32) (f : FVec Ideal S256x1024 .f32) (s : FVec Ideal S6x1024 .f32) (i : Fin 256) (j : Fin 1024) :
    out0_3 (F := Ideal) x f s (ix2 i j)
      = x (ix2 i j) + s (ix2 2 j) * f (ix2 i j) := by
  frame_out
  pointwise! [k0_pay1]

theorem written (c : Dev nD) (t : Fin cfg0.N) (y : S256x1024.Idx) : (dats m 0 c).after 3 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_3]
  obtain ⟨i, j, rfl⟩ : ∃ (i : Fin 256) (j : Fin 1024), y = ix2 i j := ⟨y 0, y 1, by funext a; fin_cases a <;> rfl⟩
  refine (out_at _ _ _ i j).trans ?_
  simp only [read_x, read_f, read_s]
  rfl

omit m in
theorem place (t : Fin cfg0.N) (y : S256x1024.Idx) : (win0_3.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 3).Covers := by decide +kernel

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) ?_ ?_
  · exact covers
  · intro t _ y
    exact (written m c t y).trans (congrArg (spec _ _ _) (place t y).symm)

end Cert.MlaResIdeal.Value

namespace Cert.Proof.MlaRes

theorem frame_p : Cert.quiescent_MlaRes := fun m ρ _ => Cert.MlaRes.Gen.frame m ρ
theorem frame_pi : Cert.quiescent_MlaResIdeal := fun m ρ _ => Cert.MlaResIdeal.Gen.frame m ρ
theorem frame_ri : Cert.quiescent_MlaResRefIdeal := fun m ρ _ =>
  (θ_run Cert.MlaResRefIdeal.defs _ _).mono (fun r h => ⟨fun c => (h c).2, sem_eq_zero_of_no_sems (by decide) r.2⟩)
    (Cert.MlaResRefIdeal.Value.run (F := Ideal) m ρ)

theorem preserves : Cert.preserves_MlaRes_MlaResIdeal := trivial

open Cert.MlaResRefIdeal Cert.MlaResRefIdeal.Gen in
/-- The reference's sum is the same. -/
theorem reference_eq (x : FVec Ideal S4096x1024 .f32) (f : FVec Ideal S4096x1024 .f32) (s : FVec Ideal S6x1024 .f32) :
    addf x (mulf (broadcastInDim S4096x1024 ![0, 1] bcast_S1x1024_S4096x1024_0_1 (extractStridedSlice S1x1024 ![2, 0] s slices_S6x1024_S1x1024_2_0)) f)
      = Cert.MlaResIdeal.Value.spec x f s := by
  funext y
  obtain ⟨i, j, rfl⟩ : ∃ (i : Fin 4096) (j : Fin 1024), y = ix2 i j := ⟨y 0, y 1, by funext a; fin_cases a <;> rfl⟩
  unfold Cert.MlaResIdeal.Value.spec
  pointwise!

open Cert.MlaResRefIdeal in
theorem algebraic : Cert.algebraic_MlaResIdeal_MlaResRefIdeal := by
  intro m g m' g' _ hagree
  refine ⟨_, (θ_run Cert.MlaResIdeal.defs _ _).mono (fun r h => h) (Cert.MlaResIdeal.Value.run_blocks m g), ?_⟩
  refine (θ_run Cert.MlaResRefIdeal.defs _ _).mono (fun r h c => ?_) (Cert.MlaResRefIdeal.Value.run (F := Ideal) m' g')
  obtain ⟨e0, e1, e2⟩ := hagree c
  refine ⟨((h c).1).trans ?_, (h c).2⟩
  rw [e0, e1, e2]
  exact (reference_eq _ _ _).trans (Cert.MlaResIdeal.Value.final m c).symm

end Cert.Proof.MlaRes

end
-- ==== Proof.FfnRes.lean ====
/- The residual sum after the feed-forward layer: the array the call leaves, and its claims. -/
module

public import proofs.«01_k».proof.Defs
public import proofs.«01_k».proof.Proof.Gen.FfnRes.Frame
public import proofs.«01_k».proof.Proof.Gen.FfnResIdeal.Value
public import proofs.«01_k».proof.Proof.Gen.FfnResRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnResIdeal.Value

open Cert.FfnResIdeal Cert.FfnResIdeal.Gen

variable (m : (ℓ : Loc nD τ sig) → Buf (Elt Ideal) ℓ)

theorem idx (t : Fin cfg0.N) : win0_0.index t = ![t.1, 0] ∧ win0_1.index t = ![t.1, 0] ∧ win0_2.index t = ![0, 0] ∧ win0_3.index t = ![t.1, 0] :=
  (by decide +kernel : ∀ t : Fin grid0.N, win0_0.index t = ![t.1, 0] ∧ win0_1.index t = ![t.1, 0] ∧ win0_2.index t = ![0, 0] ∧ win0_3.index t = ![t.1, 0]) t

/-- The rows plus the layer's, scaled by the last row of the conditioning. -/
def spec (x : FVec Ideal S4096x1024 .f32) (f : FVec Ideal S4096x1024 .f32) (s : FVec Ideal S6x1024 .f32) : FVec Ideal S4096x1024 .f32 :=
  fun y => x (ix2 (y 0) (y 1)) + s (ix2 5 (y 1)) * f (ix2 (y 0) (y 1))

theorem read_x (c : Dev nD) (t : Fin cfg0.N) (i : Fin 256) (j : Fin 1024) :
    iblk m c 0 t (ix2 i j) = m ((c : Thread nD τ).loc main_arg0) (ix2 ⟨t.1 * 256 + i.1, by have : t.1 < 16 := t.2; omega⟩ j) := by
  blk_ext [iblk, idx t]

theorem read_f (c : Dev nD) (t : Fin cfg0.N) (i : Fin 256) (j : Fin 1024) :
    iblk m c 1 t (ix2 i j) = m ((c : Thread nD τ).loc main_arg1) (ix2 ⟨t.1 * 256 + i.1, by have : t.1 < 16 := t.2; omega⟩ j) := by
  blk_ext [iblk, idx t]

theorem read_s (c : Dev nD) (t : Fin cfg0.N) (i : Fin 6) (j : Fin 1024) :
    iblk m c 2 t (ix2 i j) = m ((c : Thread nD τ).loc main_arg2) (ix2 i j) := by
  blk_ext [iblk, idx t]

theorem out_at (x : FVec Ideal S256x1024 .f32) (f : FVec Ideal S256x1024 .f32) (s : FVec Ideal S6x1024 .f32) (i : Fin 256) (j : Fin 1024) :
    out0_3 (F := Ideal) x f s (ix2 i j)
      = x (ix2 i j) + s (ix2 5 j) * f (ix2 i j) := by
  frame_out
  pointwise! [k0_pay1]

theorem written (c : Dev nD) (t : Fin cfg0.N) (y : S256x1024.Idx) : (dats m 0 c).after 3 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_3]
  obtain ⟨i, j, rfl⟩ : ∃ (i : Fin 256) (j : Fin 1024), y = ix2 i j := ⟨y 0, y 1, by funext a; fin_cases a <;> rfl⟩
  refine (out_at _ _ _ i j).trans ?_
  simp only [read_x, read_f, read_s]
  rfl

omit m in
theorem place (t : Fin cfg0.N) (y : S256x1024.Idx) : (win0_3.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 3).Covers := by decide +kernel

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) ?_ ?_
  · exact covers
  · intro t _ y
    exact (written m c t y).trans (congrArg (spec _ _ _) (place t y).symm)

end Cert.FfnResIdeal.Value

namespace Cert.Proof.FfnRes

theorem frame_p : Cert.quiescent_FfnRes := fun m ρ _ => Cert.FfnRes.Gen.frame m ρ
theorem frame_pi : Cert.quiescent_FfnResIdeal := fun m ρ _ => Cert.FfnResIdeal.Gen.frame m ρ
theorem frame_ri : Cert.quiescent_FfnResRefIdeal := fun m ρ _ =>
  (θ_run Cert.FfnResRefIdeal.defs _ _).mono (fun r h => ⟨fun c => (h c).2, sem_eq_zero_of_no_sems (by decide) r.2⟩)
    (Cert.FfnResRefIdeal.Value.run (F := Ideal) m ρ)

theorem preserves : Cert.preserves_FfnRes_FfnResIdeal := trivial

open Cert.FfnResRefIdeal Cert.FfnResRefIdeal.Gen in
/-- The reference's sum is the same. -/
theorem reference_eq (x : FVec Ideal S4096x1024 .f32) (f : FVec Ideal S4096x1024 .f32) (s : FVec Ideal S6x1024 .f32) :
    addf x (mulf (broadcastInDim S4096x1024 ![0, 1] bcast_S1x1024_S4096x1024_0_1 (extractStridedSlice S1x1024 ![5, 0] s slices_S6x1024_S1x1024_5_0)) f)
      = Cert.FfnResIdeal.Value.spec x f s := by
  funext y
  obtain ⟨i, j, rfl⟩ : ∃ (i : Fin 4096) (j : Fin 1024), y = ix2 i j := ⟨y 0, y 1, by funext a; fin_cases a <;> rfl⟩
  unfold Cert.FfnResIdeal.Value.spec
  pointwise!

open Cert.FfnResRefIdeal in
theorem algebraic : Cert.algebraic_FfnResIdeal_FfnResRefIdeal := by
  intro m g m' g' _ hagree
  refine ⟨_, (θ_run Cert.FfnResIdeal.defs _ _).mono (fun r h => h) (Cert.FfnResIdeal.Value.run_blocks m g), ?_⟩
  refine (θ_run Cert.FfnResRefIdeal.defs _ _).mono (fun r h c => ?_) (Cert.FfnResRefIdeal.Value.run (F := Ideal) m' g')
  obtain ⟨e0, e1, e2⟩ := hagree c
  refine ⟨((h c).1).trans ?_, (h c).2⟩
  rw [e0, e1, e2]
  exact (reference_eq _ _ _).trans (Cert.FfnResIdeal.Value.final m c).symm

end Cert.Proof.FfnRes

end
-- ==== Proof.QNorm.lean ====
/- The normalisation of the queries' latent rows: the array the call leaves, and its claims. -/
module

public import proofs.«01_k».proof.Defs
public import proofs.«01_k».proof.Proof.Gen.QNorm.Frame
public import proofs.«01_k».proof.Proof.Gen.QNormIdeal.Value
public import proofs.«01_k».proof.Proof.Gen.QNormRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.QNormIdeal.Value

open Cert.QNormIdeal Cert.QNormIdeal.Gen

variable (m : (ℓ : Loc nD τ sig) → Buf (Elt Ideal) ℓ)

theorem idx (t : Fin cfg0.N) : win0_0.index t = ![t.1, 0] ∧ win0_1.index t = ![0, 0] ∧ win0_2.index t = ![t.1, 0] :=
  (by decide +kernel : ∀ t : Fin grid0.N, win0_0.index t = ![t.1, 0] ∧ win0_1.index t = ![0, 0] ∧ win0_2.index t = ![t.1, 0]) t

/-- Every row over its root mean square, times the gain. -/
def spec (x : FVec Ideal S4096x256 .f32) (g : FVec Ideal S1x256 .f32) : FVec Ideal S4096x256 .f32 :=
  fun y => x (ix2 (y 0) (y 1)) * Ideal.rsqrt (Ideal.div (∑ l : Fin 256, x (ix2 (y 0) l) * x (ix2 (y 0) l)) (Ideal.ofBits FTy.f32 1132462080#32) + Ideal.ofBits FTy.f32 897988541#32) * g (ix2 0 (y 1))

theorem read_x (c : Dev nD) (t : Fin cfg0.N) (i : Fin 256) (j : Fin 256) :
    iblk m c 0 t (ix2 i j) = m ((c : Thread nD τ).loc main_arg0) (ix2 ⟨t.1 * 256 + i.1, by have : t.1 < 16 := t.2; omega⟩ j) := by
  blk_ext [iblk, idx t]

theorem read_g (c : Dev nD) (t : Fin cfg0.N) (i : Fin 1) (j : Fin 256) :
    iblk m c 1 t (ix2 i j) = m ((c : Thread nD τ).loc main_arg1) (ix2 i j) := by
  blk_ext [iblk, idx t]

theorem out_at (x : FVec Ideal S256x256 .f32) (g : FVec Ideal S1x256 .f32) (i : Fin 256) (j : Fin 256) :
    out0_2 (F := Ideal) x g (ix2 i j)
      = x (ix2 i j) * Ideal.rsqrt (Ideal.div (∑ l : Fin 256, x (ix2 i l) * x (ix2 i l)) (Ideal.ofBits FTy.f32 1132462080#32) + Ideal.ofBits FTy.f32 897988541#32) * g (ix2 0 j) := by
  frame_out
  pointwise! [k0_pay1]

theorem written (c : Dev nD) (t : Fin cfg0.N) (y : S256x256.Idx) : (dats m 0 c).after 2 t y
    = spec (m ((c : Thread nD τ).loc main_arg0)) (m ((c : Thread nD τ).loc main_arg1)) (ix2 ⟨t.1 * 256 + (y 0).1, by have : t.1 < 16 := t.2; have : (y 0).1 < 256 := (y 0).2; omega⟩ (y 1)) := by
  rw [after0_2]
  obtain ⟨i, j, rfl⟩ : ∃ (i : Fin 256) (j : Fin 256), y = ix2 i j := ⟨y 0, y 1, by funext a; fin_cases a <;> rfl⟩
  refine (out_at _ _ i j).trans ?_
  simp only [read_x, read_g]
  rfl

omit m in
theorem place (t : Fin cfg0.N) (y : S256x256.Idx) : (win0_2.blk t).view.emb y
    = (ix2 ⟨t.1 * 256 + (y 0).1, by have : t.1 < 16 := t.2; have : (y 0).1 < 256 := (y 0).2; omega⟩ (y 1) : S4096x256.Idx) := by
  refine funext fun a => Fin.ext ?_
  match a with
  | 0 => blk_simp [idx t]
  | 1 => blk_simp [idx t]

omit m in
theorem covers : (cfg0.win 2).Covers := by decide +kernel

theorem final (c : Dev nD) : (dats m 0 c).arrAt 2 cfg0.N
    = spec (m ((c : Thread nD τ).loc main_arg0)) (m ((c : Thread nD τ).loc main_arg1)) := by
  refine (dats m 0 c).arrAt_eq_of_covers 2 (spec _ _) ?_ ?_
  · exact covers
  · intro t _ y
    exact (written m c t y).trans (congrArg (spec _ _) (place t y).symm)

end Cert.QNormIdeal.Value

namespace Cert.Proof.QNorm

theorem frame_p : Cert.quiescent_QNorm := fun m ρ _ => Cert.QNorm.Gen.frame m ρ
theorem frame_pi : Cert.quiescent_QNormIdeal := fun m ρ _ => Cert.QNormIdeal.Gen.frame m ρ
theorem frame_ri : Cert.quiescent_QNormRefIdeal := fun m ρ _ =>
  (θ_run Cert.QNormRefIdeal.defs _ _).mono (fun r h => ⟨fun c => (h c).2, sem_eq_zero_of_no_sems (by decide) r.2⟩)
    (Cert.QNormRefIdeal.Value.run (F := Ideal) m ρ)

theorem preserves : Cert.preserves_QNorm_QNormIdeal := trivial

open Cert.QNormRefIdeal Cert.QNormRefIdeal.Gen in
/-- The reference's rows are normalised alike. -/
theorem reference_eq (x : FVec Ideal S4096x256 .f32) (g : FVec Ideal S1x256 .f32) :
    mulf (mulf x (broadcastInDim S4096x256 ![0, 1] bcast_S4096x1_S4096x256_0_1 (Host.rsqrt (addf (Host.divf (broadcastInDim S4096x1 ![0] bcast_S4096_S4096x1_0 (Host.reduceAdd (mulf x x) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 g)
      = Cert.QNormIdeal.Value.spec x g := by
  funext y
  obtain ⟨i, j, rfl⟩ : ∃ (i : Fin 4096) (j : Fin 256), y = ix2 i j := ⟨y 0, y 1, by funext a; fin_cases a <;> rfl⟩
  unfold Cert.QNormIdeal.Value.spec
  pointwise!

open Cert.QNormRefIdeal in
theorem algebraic : Cert.algebraic_QNormIdeal_QNormRefIdeal := by
  intro m g m' g' _ hagree
  refine ⟨_, (θ_run Cert.QNormIdeal.defs _ _).mono (fun r h => h) (Cert.QNormIdeal.Value.run_blocks m g), ?_⟩
  refine (θ_run Cert.QNormRefIdeal.defs _ _).mono (fun r h c => ?_) (Cert.QNormRefIdeal.Value.run (F := Ideal) m' g')
  obtain ⟨e0, e1⟩ := hagree c
  refine ⟨((h c).1).trans ?_, (h c).2⟩
  rw [e0, e1]
  exact (reference_eq _ _).trans (Cert.QNormIdeal.Value.final m c).symm

end Cert.Proof.QNorm

end
-- ==== Proof.MlaNorm.lean ====
/- The normalisation of the attention layer's input, scaled and shifted by the conditioning: the array the call leaves, and its claims. -/
module

public import proofs.«01_k».proof.Defs
public import proofs.«01_k».proof.Proof.Gen.MlaNorm.Frame
public import proofs.«01_k».proof.Proof.Gen.MlaNormIdeal.Value
public import proofs.«01_k».proof.Proof.Gen.MlaNormRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlaNormIdeal.Value

open Cert.MlaNormIdeal Cert.MlaNormIdeal.Gen

variable (m : (ℓ : Loc nD τ sig) → Buf (Elt Ideal) ℓ)

theorem idx (t : Fin cfg0.N) : win0_0.index t = ![t.1, 0] ∧ win0_1.index t = ![0, 0] ∧ win0_2.index t = ![0, 0] ∧ win0_3.index t = ![t.1, 0] :=
  (by decide +kernel : ∀ t : Fin grid0.N, win0_0.index t = ![t.1, 0] ∧ win0_1.index t = ![0, 0] ∧ win0_2.index t = ![0, 0] ∧ win0_3.index t = ![t.1, 0]) t

/-- Every row over its root mean square, times the gain, scaled and shifted by two rows of the conditioning. -/
def spec (x : FVec Ideal S4096x1024 .f32) (g : FVec Ideal S1x1024 .f32) (s : FVec Ideal S6x1024 .f32) : FVec Ideal S4096x1024 .bf16 :=
  fun y => x (ix2 (y 0) (y 1)) * Ideal.rsqrt (Ideal.div (∑ l : Fin 1024, x (ix2 (y 0) l) * x (ix2 (y 0) l)) (Ideal.ofBits FTy.f32 1149239296#32) + Ideal.ofBits FTy.f32 897988541#32) * g (ix2 0 (y 1)) * (1 + s (ix2 1 (y 1))) + s (ix2 0 (y 1))

theorem read_x (c : Dev nD) (t : Fin cfg0.N) (i : Fin 256) (j : Fin 1024) :
    iblk m c 0 t (ix2 i j) = m ((c : Thread nD τ).loc main_arg0) (ix2 ⟨t.1 * 256 + i.1, by have : t.1 < 16 := t.2; omega⟩ j) := by
  blk_ext [iblk, idx t]

theorem read_g (c : Dev nD) (t : Fin cfg0.N) (i : Fin 1) (j : Fin 1024) :
    iblk m c 1 t (ix2 i j) = m ((c : Thread nD τ).loc main_arg1) (ix2 i j) := by
  blk_ext [iblk, idx t]

theorem read_s (c : Dev nD) (t : Fin cfg0.N) (i : Fin 6) (j : Fin 1024) :
    iblk m c 2 t (ix2 i j) = m ((c : Thread nD τ).loc main_arg2) (ix2 i j) := by
  blk_ext [iblk, idx t]

theorem out_at (x : FVec Ideal S256x1024 .f32) (g : FVec Ideal S1x1024 .f32) (s : FVec Ideal S6x1024 .f32) (i : Fin 256) (j : Fin 1024) :
    out0_3 (F := Ideal) x g s (ix2 i j)
      = x (ix2 i j) * Ideal.rsqrt (Ideal.div (∑ l : Fin 1024, x (ix2 i l) * x (ix2 i l)) (Ideal.ofBits FTy.f32 1149239296#32) + Ideal.ofBits FTy.f32 897988541#32) * g (ix2 0 j) * (1 + s (ix2 1 j)) + s (ix2 0 j) := by
  frame_out
  pointwise! [k0_pay1]

theorem written (c : Dev nD) (t : Fin cfg0.N) (y : S256x1024.Idx) : (dats m 0 c).after 3 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_3]
  obtain ⟨i, j, rfl⟩ : ∃ (i : Fin 256) (j : Fin 1024), y = ix2 i j := ⟨y 0, y 1, by funext a; fin_cases a <;> rfl⟩
  refine (out_at _ _ _ i j).trans ?_
  simp only [read_x, read_g, read_s]
  rfl

omit m in
theorem place (t : Fin cfg0.N) (y : S256x1024.Idx) : (win0_3.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 3).Covers := by decide +kernel

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) ?_ ?_
  · exact covers
  · intro t _ y
    exact (written m c t y).trans (congrArg (spec _ _ _) (place t y).symm)

end Cert.MlaNormIdeal.Value

namespace Cert.Proof.MlaNorm

theorem frame_p : Cert.quiescent_MlaNorm := fun m ρ _ => Cert.MlaNorm.Gen.frame m ρ
theorem frame_pi : Cert.quiescent_MlaNormIdeal := fun m ρ _ => Cert.MlaNormIdeal.Gen.frame m ρ
theorem frame_ri : Cert.quiescent_MlaNormRefIdeal := fun m ρ _ =>
  (θ_run Cert.MlaNormRefIdeal.defs _ _).mono (fun r h => ⟨fun c => (h c).2, sem_eq_zero_of_no_sems (by decide) r.2⟩)
    (Cert.MlaNormRefIdeal.Value.run (F := Ideal) m ρ)

theorem preserves : Cert.preserves_MlaNorm_MlaNormIdeal := trivial

open Cert.MlaNormRefIdeal Cert.MlaNormRefIdeal.Gen in
/-- The reference's rows are normalised alike. -/
theorem reference_eq (x : FVec Ideal S4096x1024 .f32) (g : FVec Ideal S1x1024 .f32) (s : FVec Ideal S6x1024 .f32) :
    truncf .bf16 (addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (broadcastInDim S4096x1024 ![0, 1] bcast_S1x1024_S4096x1024_0_1 (addf (broadcastInDim S1x1024 ![] bcast_S_S1x1024 (constant S_ .f32 0x3F800000#32)) (extractStridedSlice S1x1024 ![1, 0] s slices_S6x1024_S1x1024_1_0)))) (broadcastInDim S4096x1024 ![0, 1] bcast_S1x1024_S4096x1024_0_1 (extractStridedSlice S1x1024 ![0, 0] s slices_S6x1024_S1x1024_0_0))) bitsLt_bf16_f32
      = Cert.MlaNormIdeal.Value.spec x g s := by
  funext y
  obtain ⟨i, j, rfl⟩ : ∃ (i : Fin 4096) (j : Fin 1024), y = ix2 i j := ⟨y 0, y 1, by funext a; fin_cases a <;> rfl⟩
  unfold Cert.MlaNormIdeal.Value.spec
  pointwise!

open Cert.MlaNormRefIdeal in
theorem algebraic : Cert.algebraic_MlaNormIdeal_MlaNormRefIdeal := by
  intro m g m' g' _ hagree
  refine ⟨_, (θ_run Cert.MlaNormIdeal.defs _ _).mono (fun r h => h) (Cert.MlaNormIdeal.Value.run_blocks m g), ?_⟩
  refine (θ_run Cert.MlaNormRefIdeal.defs _ _).mono (fun r h c => ?_) (Cert.MlaNormRefIdeal.Value.run (F := Ideal) m' g')
  obtain ⟨e0, e1, e2⟩ := hagree c
  refine ⟨((h c).1).trans ?_, (h c).2⟩
  rw [e0, e1, e2]
  exact (reference_eq _ _ _).trans (Cert.MlaNormIdeal.Value.final m c).symm

end Cert.Proof.MlaNorm

end
-- ==== Proof.FfnNorm.lean ====
/- The normalisation of the feed-forward layer's input, scaled and shifted by the conditioning: the array the call leaves, and its claims. -/
module

public import proofs.«01_k».proof.Defs
public import proofs.«01_k».proof.Proof.Gen.FfnNorm.Frame
public import proofs.«01_k».proof.Proof.Gen.FfnNormIdeal.Value
public import proofs.«01_k».proof.Proof.Gen.FfnNormRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnNormIdeal.Value

open Cert.FfnNormIdeal Cert.FfnNormIdeal.Gen

variable (m : (ℓ : Loc nD τ sig) → Buf (Elt Ideal) ℓ)

theorem idx (t : Fin cfg0.N) : win0_0.index t = ![t.1, 0] ∧ win0_1.index t = ![0, 0] ∧ win0_2.index t = ![0, 0] ∧ win0_3.index t = ![t.1, 0] :=
  (by decide +kernel : ∀ t : Fin grid0.N, win0_0.index t = ![t.1, 0] ∧ win0_1.index t = ![0, 0] ∧ win0_2.index t = ![0, 0] ∧ win0_3.index t = ![t.1, 0]) t

/-- Every row over its root mean square, times the gain, scaled and shifted by two rows of the conditioning. -/
def spec (x : FVec Ideal S4096x1024 .f32) (g : FVec Ideal S1x1024 .f32) (s : FVec Ideal S6x1024 .f32) : FVec Ideal S4096x1024 .bf16 :=
  fun y => x (ix2 (y 0) (y 1)) * Ideal.rsqrt (Ideal.div (∑ l : Fin 1024, x (ix2 (y 0) l) * x (ix2 (y 0) l)) (Ideal.ofBits FTy.f32 1149239296#32) + Ideal.ofBits FTy.f32 897988541#32) * g (ix2 0 (y 1)) * (1 + s (ix2 4 (y 1))) + s (ix2 3 (y 1))

theorem read_x (c : Dev nD) (t : Fin cfg0.N) (i : Fin 256) (j : Fin 1024) :
    iblk m c 0 t (ix2 i j) = m ((c : Thread nD τ).loc main_arg0) (ix2 ⟨t.1 * 256 + i.1, by have : t.1 < 16 := t.2; omega⟩ j) := by
  blk_ext [iblk, idx t]

theorem read_g (c : Dev nD) (t : Fin cfg0.N) (i : Fin 1) (j : Fin 1024) :
    iblk m c 1 t (ix2 i j) = m ((c : Thread nD τ).loc main_arg1) (ix2 i j) := by
  blk_ext [iblk, idx t]

theorem read_s (c : Dev nD) (t : Fin cfg0.N) (i : Fin 6) (j : Fin 1024) :
    iblk m c 2 t (ix2 i j) = m ((c : Thread nD τ).loc main_arg2) (ix2 i j) := by
  blk_ext [iblk, idx t]

theorem out_at (x : FVec Ideal S256x1024 .f32) (g : FVec Ideal S1x1024 .f32) (s : FVec Ideal S6x1024 .f32) (i : Fin 256) (j : Fin 1024) :
    out0_3 (F := Ideal) x g s (ix2 i j)
      = x (ix2 i j) * Ideal.rsqrt (Ideal.div (∑ l : Fin 1024, x (ix2 i l) * x (ix2 i l)) (Ideal.ofBits FTy.f32 1149239296#32) + Ideal.ofBits FTy.f32 897988541#32) * g (ix2 0 j) * (1 + s (ix2 4 j)) + s (ix2 3 j) := by
  frame_out
  pointwise! [k0_pay1]

theorem written (c : Dev nD) (t : Fin cfg0.N) (y : S256x1024.Idx) : (dats m 0 c).after 3 t y
    = spec (m ((c : Thread nD τ).loc main_arg0)) (m ((c : Thread nD τ).loc main_arg1)) (m ((c : Thread nD τ).loc main_arg2)) (ix2 ⟨t.1 * 256 + (y 0).1, by have : t.1 < 16 := t.2; have : (y 0).1 < 256 := (y 0).2; omega⟩ (y 1)) := by
  rw [after0_3]
  obtain ⟨i, j, rfl⟩ : ∃ (i : Fin 256) (j : Fin 1024), y = ix2 i j := ⟨y 0, y 1, by funext a; fin_cases a <;> rfl⟩
  refine (out_at _ _ _ i j).trans ?_
  simp only [read_x, read_g, read_s]
  rfl

omit m in
theorem place (t : Fin cfg0.N) (y : S256x1024.Idx) : (win0_3.blk t).view.emb y
    = (ix2 ⟨t.1 * 256 + (y 0).1, by have : t.1 < 16 := t.2; have : (y 0).1 < 256 := (y 0).2; omega⟩ (y 1) : S4096x1024.Idx) := by
  refine funext fun a => Fin.ext ?_
  match a with
  | 0 => blk_simp [idx t]
  | 1 => blk_simp [idx t]

omit m in
theorem covers : (cfg0.win 3).Covers := by decide +kernel

theorem final (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 (spec _ _ _) ?_ ?_
  · exact covers
  · intro t _ y
    exact (written m c t y).trans (congrArg (spec _ _ _) (place t y).symm)

end Cert.FfnNormIdeal.Value

namespace Cert.Proof.FfnNorm

theorem frame_p : Cert.quiescent_FfnNorm := fun m ρ _ => Cert.FfnNorm.Gen.frame m ρ
theorem frame_pi : Cert.quiescent_FfnNormIdeal := fun m ρ _ => Cert.FfnNormIdeal.Gen.frame m ρ
theorem frame_ri : Cert.quiescent_FfnNormRefIdeal := fun m ρ _ =>
  (θ_run Cert.FfnNormRefIdeal.defs _ _).mono (fun r h => ⟨fun c => (h c).2, sem_eq_zero_of_no_sems (by decide) r.2⟩)
    (Cert.FfnNormRefIdeal.Value.run (F := Ideal) m ρ)

theorem preserves : Cert.preserves_FfnNorm_FfnNormIdeal := trivial

open Cert.FfnNormRefIdeal Cert.FfnNormRefIdeal.Gen in
/-- The reference's rows are normalised alike. -/
theorem reference_eq (x : FVec Ideal S4096x1024 .f32) (g : FVec Ideal S1x1024 .f32) (s : FVec Ideal S6x1024 .f32) :
    truncf .bf16 (addf (mulf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) (broadcastInDim S4096x1024 ![0, 1] bcast_S1x1024_S4096x1024_0_1 (addf (broadcastInDim S1x1024 ![] bcast_S_S1x1024 (constant S_ .f32 0x3F800000#32)) (extractStridedSlice S1x1024 ![4, 0] s slices_S6x1024_S1x1024_4_0)))) (broadcastInDim S4096x1024 ![0, 1] bcast_S1x1024_S4096x1024_0_1 (extractStridedSlice S1x1024 ![3, 0] s slices_S6x1024_S1x1024_3_0))) bitsLt_bf16_f32
      = Cert.FfnNormIdeal.Value.spec x g s := by
  funext y
  obtain ⟨i, j, rfl⟩ : ∃ (i : Fin 4096) (j : Fin 1024), y = ix2 i j := ⟨y 0, y 1, by funext a; fin_cases a <;> rfl⟩
  unfold Cert.FfnNormIdeal.Value.spec
  pointwise!

open Cert.FfnNormRefIdeal in
theorem algebraic : Cert.algebraic_FfnNormIdeal_FfnNormRefIdeal := by
  intro m g m' g' _ hagree
  refine ⟨_, (θ_run Cert.FfnNormIdeal.defs _ _).mono (fun r h => h) (Cert.FfnNormIdeal.Value.run_blocks m g), ?_⟩
  refine (θ_run Cert.FfnNormRefIdeal.defs _ _).mono (fun r h c => ?_) (Cert.FfnNormRefIdeal.Value.run (F := Ideal) m' g')
  obtain ⟨e0, e1, e2⟩ := hagree c
  refine ⟨((h c).1).trans ?_, (h c).2⟩
  rw [e0, e1, e2]
  exact (reference_eq _ _ _).trans (Cert.FfnNormIdeal.Value.final m c).symm

end Cert.Proof.FfnNorm

end
-- ==== Proof.Adamw.lean ====
/- One step of the optimiser on the down matrices: the three arrays the call leaves, and its claims. -/
module

public import proofs.«01_k».proof.Defs
public import proofs.«01_k».proof.Proof.Gen.Adamw.Frame
public import proofs.«01_k».proof.Proof.Gen.AdamwIdeal.Value
public import proofs.«01_k».proof.Proof.Gen.AdamwRefIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamwIdeal.Value

open Cert.AdamwIdeal Cert.AdamwIdeal.Gen

variable (m : (ℓ : Loc nD τ sig) → Buf (Elt Ideal) ℓ)

theorem idx (t : Fin cfg0.N) : win0_0.index t = ![t.1, 0] ∧ win0_1.index t = ![t.1, 0] ∧ win0_2.index t = ![t.1, 0] ∧ win0_3.index t = ![t.1, 0] ∧ win0_4.index t = ![t.1, 0] ∧ win0_5.index t = ![t.1, 0] ∧ win0_6.index t = ![t.1, 0] :=
  (by decide +kernel : ∀ t : Fin grid0.N, win0_0.index t = ![t.1, 0] ∧ win0_1.index t = ![t.1, 0] ∧ win0_2.index t = ![t.1, 0] ∧ win0_3.index t = ![t.1, 0] ∧ win0_4.index t = ![t.1, 0] ∧ win0_5.index t = ![t.1, 0] ∧ win0_6.index t = ![t.1, 0]) t

/-- The step, from the two means over their corrections and the decay. -/
def spec_0 (w : FVec Ideal S2816x1024 .f32) (g : FVec Ideal S2816x1024 .f32) (a : FVec Ideal S2816x1024 .f32) (v : FVec Ideal S2816x1024 .f32) : FVec Ideal S2816x1024 .f32 :=
  fun y => Ideal.ofBits FTy.f32 3129152111#32 * (Ideal.div (Ideal.div (Ideal.ofBits FTy.f32 1063675494#32 * a (ix2 (y 0) (y 1)) + Ideal.ofBits FTy.f32 1036831949#32 * g (ix2 (y 0) (y 1))) (Ideal.ofBits FTy.f32 1059503362#32)) (Ideal.sqrt (Ideal.div (Ideal.ofBits FTy.f32 1065336439#32 * v (ix2 (y 0) (y 1)) + Ideal.ofBits FTy.f32 981668463#32 * (g (ix2 (y 0) (y 1)) * g (ix2 (y 0) (y 1)))) (Ideal.ofBits FTy.f32 1008933580#32)) + Ideal.ofBits FTy.f32 841731191#32) + Ideal.ofBits FTy.f32 1008981770#32 * w (ix2 (y 0) (y 1)))

/-- The new mean of the gradients. -/
def spec_1 (w : FVec Ideal S2816x1024 .f32) (g : FVec Ideal S2816x1024 .f32) (a : FVec Ideal S2816x1024 .f32) (v : FVec Ideal S2816x1024 .f32) : FVec Ideal S2816x1024 .f32 :=
  fun y => Ideal.ofBits FTy.f32 1063675494#32 * a (ix2 (y 0) (y 1)) + Ideal.ofBits FTy.f32 1036831949#32 * g (ix2 (y 0) (y 1))

/-- The new mean of their squares. -/
def spec_2 (w : FVec Ideal S2816x1024 .f32) (g : FVec Ideal S2816x1024 .f32) (a : FVec Ideal S2816x1024 .f32) (v : FVec Ideal S2816x1024 .f32) : FVec Ideal S2816x1024 .f32 :=
  fun y => Ideal.ofBits FTy.f32 1065336439#32 * v (ix2 (y 0) (y 1)) + Ideal.ofBits FTy.f32 981668463#32 * (g (ix2 (y 0) (y 1)) * g (ix2 (y 0) (y 1)))

theorem read_w (c : Dev nD) (t : Fin cfg0.N) (i : Fin 256) (j : Fin 1024) :
    iblk m c 0 t (ix2 i j) = m ((c : Thread nD τ).loc main_arg0) (ix2 ⟨t.1 * 256 + i.1, by have : t.1 < 11 := t.2; omega⟩ j) := by
  blk_ext [iblk, idx t]

theorem read_g (c : Dev nD) (t : Fin cfg0.N) (i : Fin 256) (j : Fin 1024) :
    iblk m c 1 t (ix2 i j) = m ((c : Thread nD τ).loc main_arg1) (ix2 ⟨t.1 * 256 + i.1, by have : t.1 < 11 := t.2; omega⟩ j) := by
  blk_ext [iblk, idx t]

theorem read_a (c : Dev nD) (t : Fin cfg0.N) (i : Fin 256) (j : Fin 1024) :
    iblk m c 2 t (ix2 i j) = m ((c : Thread nD τ).loc main_arg2) (ix2 ⟨t.1 * 256 + i.1, by have : t.1 < 11 := t.2; omega⟩ j) := by
  blk_ext [iblk, idx t]

theorem read_v (c : Dev nD) (t : Fin cfg0.N) (i : Fin 256) (j : Fin 1024) :
    iblk m c 3 t (ix2 i j) = m ((c : Thread nD τ).loc main_arg3) (ix2 ⟨t.1 * 256 + i.1, by have : t.1 < 11 := t.2; omega⟩ j) := by
  blk_ext [iblk, idx t]

theorem out_at_0 (w : FVec Ideal S256x1024 .f32) (g : FVec Ideal S256x1024 .f32) (a : FVec Ideal S256x1024 .f32) (v : FVec Ideal S256x1024 .f32) (i : Fin 256) (j : Fin 1024) :
    out0_4 (F := Ideal) w g a v (ix2 i j)
      = Ideal.ofBits FTy.f32 3129152111#32 * (Ideal.div (Ideal.div (Ideal.ofBits FTy.f32 1063675494#32 * a (ix2 i j) + Ideal.ofBits FTy.f32 1036831949#32 * g (ix2 i j)) (Ideal.ofBits FTy.f32 1059503362#32)) (Ideal.sqrt (Ideal.div (Ideal.ofBits FTy.f32 1065336439#32 * v (ix2 i j) + Ideal.ofBits FTy.f32 981668463#32 * (g (ix2 i j) * g (ix2 i j))) (Ideal.ofBits FTy.f32 1008933580#32)) + Ideal.ofBits FTy.f32 841731191#32) + Ideal.ofBits FTy.f32 1008981770#32 * w (ix2 i j)) := by
  frame_out
  pointwise! [k0_pay1, k0_pay2, k0_pay3]

theorem written_0 (c : Dev nD) (t : Fin cfg0.N) (y : S256x1024.Idx) : (dats m 0 c).after 4 t y
    = spec_0 (m ((c : Thread nD τ).loc main_arg0)) (m ((c : Thread nD τ).loc main_arg1)) (m ((c : Thread nD τ).loc main_arg2)) (m ((c : Thread nD τ).loc main_arg3)) (ix2 ⟨t.1 * 256 + (y 0).1, by have : t.1 < 11 := t.2; have : (y 0).1 < 256 := (y 0).2; omega⟩ (y 1)) := by
  rw [after0_4]
  obtain ⟨i, j, rfl⟩ : ∃ (i : Fin 256) (j : Fin 1024), y = ix2 i j := ⟨y 0, y 1, by funext a; fin_cases a <;> rfl⟩
  refine (out_at_0 _ _ _ _ i j).trans ?_
  simp only [read_w, read_g, read_a, read_v]
  rfl

omit m in
theorem place_0 (t : Fin cfg0.N) (y : S256x1024.Idx) : (win0_4.blk t).view.emb y
    = (ix2 ⟨t.1 * 256 + (y 0).1, by have : t.1 < 11 := t.2; have : (y 0).1 < 256 := (y 0).2; omega⟩ (y 1) : S2816x1024.Idx) := by
  refine funext fun a => Fin.ext ?_
  match a with
  | 0 => blk_simp [idx t]
  | 1 => blk_simp [idx t]

omit m in
theorem covers_0 : (cfg0.win 4).Covers := by decide +kernel

theorem final_0 (c : Dev nD) : (dats m 0 c).arrAt 4 cfg0.N
    = spec_0 (m ((c : Thread nD τ).loc main_arg0)) (m ((c : Thread nD τ).loc main_arg1)) (m ((c : Thread nD τ).loc main_arg2)) (m ((c : Thread nD τ).loc main_arg3)) := by
  refine (dats m 0 c).arrAt_eq_of_covers 4 (spec_0 _ _ _ _) ?_ ?_
  · exact covers_0
  · intro t _ y
    exact (written_0 m c t y).trans (congrArg (spec_0 _ _ _ _) (place_0 t y).symm)

theorem out_at_1 (w : FVec Ideal S256x1024 .f32) (g : FVec Ideal S256x1024 .f32) (a : FVec Ideal S256x1024 .f32) (v : FVec Ideal S256x1024 .f32) (i : Fin 256) (j : Fin 1024) :
    out0_5 (F := Ideal) w g a v (ix2 i j)
      = Ideal.ofBits FTy.f32 1063675494#32 * a (ix2 i j) + Ideal.ofBits FTy.f32 1036831949#32 * g (ix2 i j) := by
  frame_out
  pointwise! [k0_pay1, k0_pay2, k0_pay3]

theorem written_1 (c : Dev nD) (t : Fin cfg0.N) (y : S256x1024.Idx) : (dats m 0 c).after 5 t y
    = spec_1 (m ((c : Thread nD τ).loc main_arg0)) (m ((c : Thread nD τ).loc main_arg1)) (m ((c : Thread nD τ).loc main_arg2)) (m ((c : Thread nD τ).loc main_arg3)) (ix2 ⟨t.1 * 256 + (y 0).1, by have : t.1 < 11 := t.2; have : (y 0).1 < 256 := (y 0).2; omega⟩ (y 1)) := by
  rw [after0_5]
  obtain ⟨i, j, rfl⟩ : ∃ (i : Fin 256) (j : Fin 1024), y = ix2 i j := ⟨y 0, y 1, by funext a; fin_cases a <;> rfl⟩
  refine (out_at_1 _ _ _ _ i j).trans ?_
  simp only [read_w, read_g, read_a, read_v]
  rfl

omit m in
theorem place_1 (t : Fin cfg0.N) (y : S256x1024.Idx) : (win0_5.blk t).view.emb y
    = (ix2 ⟨t.1 * 256 + (y 0).1, by have : t.1 < 11 := t.2; have : (y 0).1 < 256 := (y 0).2; omega⟩ (y 1) : S2816x1024.Idx) := by
  refine funext fun a => Fin.ext ?_
  match a with
  | 0 => blk_simp [idx t]
  | 1 => blk_simp [idx t]

omit m in
theorem covers_1 : (cfg0.win 5).Covers := by decide +kernel

theorem final_1 (c : Dev nD) : (dats m 0 c).arrAt 5 cfg0.N
    = spec_1 (m ((c : Thread nD τ).loc main_arg0)) (m ((c : Thread nD τ).loc main_arg1)) (m ((c : Thread nD τ).loc main_arg2)) (m ((c : Thread nD τ).loc main_arg3)) := by
  refine (dats m 0 c).arrAt_eq_of_covers 5 (spec_1 _ _ _ _) ?_ ?_
  · exact covers_1
  · intro t _ y
    exact (written_1 m c t y).trans (congrArg (spec_1 _ _ _ _) (place_1 t y).symm)

theorem out_at_2 (w : FVec Ideal S256x1024 .f32) (g : FVec Ideal S256x1024 .f32) (a : FVec Ideal S256x1024 .f32) (v : FVec Ideal S256x1024 .f32) (i : Fin 256) (j : Fin 1024) :
    out0_6 (F := Ideal) w g a v (ix2 i j)
      = Ideal.ofBits FTy.f32 1065336439#32 * v (ix2 i j) + Ideal.ofBits FTy.f32 981668463#32 * (g (ix2 i j) * g (ix2 i j)) := by
  frame_out
  pointwise! [k0_pay1, k0_pay2, k0_pay3]

theorem written_2 (c : Dev nD) (t : Fin cfg0.N) (y : S256x1024.Idx) : (dats m 0 c).after 6 t y
    = spec_2 (m ((c : Thread nD τ).loc main_arg0)) (m ((c : Thread nD τ).loc main_arg1)) (m ((c : Thread nD τ).loc main_arg2)) (m ((c : Thread nD τ).loc main_arg3)) (ix2 ⟨t.1 * 256 + (y 0).1, by have : t.1 < 11 := t.2; have : (y 0).1 < 256 := (y 0).2; omega⟩ (y 1)) := by
  rw [after0_6]
  obtain ⟨i, j, rfl⟩ : ∃ (i : Fin 256) (j : Fin 1024), y = ix2 i j := ⟨y 0, y 1, by funext a; fin_cases a <;> rfl⟩
  refine (out_at_2 _ _ _ _ i j).trans ?_
  simp only [read_w, read_g, read_a, read_v]
  rfl

omit m in
theorem place_2 (t : Fin cfg0.N) (y : S256x1024.Idx) : (win0_6.blk t).view.emb y
    = (ix2 ⟨t.1 * 256 + (y 0).1, by have : t.1 < 11 := t.2; have : (y 0).1 < 256 := (y 0).2; omega⟩ (y 1) : S2816x1024.Idx) := by
  refine funext fun a => Fin.ext ?_
  match a with
  | 0 => blk_simp [idx t]
  | 1 => blk_simp [idx t]

omit m in
theorem covers_2 : (cfg0.win 6).Covers := by decide +kernel

theorem final_2 (c : Dev nD) : (dats m 0 c).arrAt 6 cfg0.N
    = spec_2 (m ((c : Thread nD τ).loc main_arg0)) (m ((c : Thread nD τ).loc main_arg1)) (m ((c : Thread nD τ).loc main_arg2)) (m ((c : Thread nD τ).loc main_arg3)) := by
  refine (dats m 0 c).arrAt_eq_of_covers 6 (spec_2 _ _ _ _) ?_ ?_
  · exact covers_2
  · intro t _ y
    exact (written_2 m c t y).trans (congrArg (spec_2 _ _ _ _) (place_2 t y).symm)

end Cert.AdamwIdeal.Value

namespace Cert.Proof.Adamw

theorem frame_p : Cert.quiescent_Adamw := fun m ρ _ => Cert.Adamw.Gen.frame m ρ
theorem frame_pi : Cert.quiescent_AdamwIdeal := fun m ρ _ => Cert.AdamwIdeal.Gen.frame m ρ
theorem frame_ri : Cert.quiescent_AdamwRefIdeal := fun m ρ _ =>
  (θ_run Cert.AdamwRefIdeal.defs _ _).mono (fun r h => ⟨fun c => (h c).2.2.2, sem_eq_zero_of_no_sems (by decide) r.2⟩)
    (Cert.AdamwRefIdeal.Value.run (F := Ideal) m ρ)

theorem preserves : Cert.preserves_Adamw_AdamwIdeal := trivial

open Cert.AdamwRefIdeal Cert.AdamwRefIdeal.Gen in
/-- The reference's step is the same. -/
theorem reference_eq_0 (w : FVec Ideal S2816x1024 .f32) (g : FVec Ideal S2816x1024 .f32) (a : FVec Ideal S2816x1024 .f32) (v : FVec Ideal S2816x1024 .f32) :
    mulf (broadcastInDim S2816x1024 ![] bcast_S_S2816x1024 (constant S_ .f32 0xBA83126F#32)) (addf (Host.divf (Host.divf (addf (mulf (broadcastInDim S2816x1024 ![] bcast_S_S2816x1024 (constant S_ .f32 0x3F666666#32)) a) (mulf (broadcastInDim S2816x1024 ![] bcast_S_S2816x1024 (constant S_ .f32 0x3DCCCCCD#32)) g)) (broadcastInDim S2816x1024 ![] bcast_S_S2816x1024 (constant S_ .f32 0x3F26BD02#32))) (addf (Host.sqrt (Host.divf (addf (mulf (broadcastInDim S2816x1024 ![] bcast_S_S2816x1024 (constant S_ .f32 0x3F7FBE77#32)) v) (mulf (broadcastInDim S2816x1024 ![] bcast_S_S2816x1024 (constant S_ .f32 0x3A83126F#32)) (mulf g g))) (broadcastInDim S2816x1024 ![] bcast_S_S2816x1024 (constant S_ .f32 0x3C231ACC#32)))) (broadcastInDim S2816x1024 ![] bcast_S_S2816x1024 (constant S_ .f32 0x322BCC77#32)))) (mulf (broadcastInDim S2816x1024 ![] bcast_S_S2816x1024 (constant S_ .f32 0x3C23D70A#32)) w))
      = Cert.AdamwIdeal.Value.spec_0 w g a v := by
  funext y
  obtain ⟨i, j, rfl⟩ : ∃ (i : Fin 2816) (j : Fin 1024), y = ix2 i j := ⟨y 0, y 1, by funext a; fin_cases a <;> rfl⟩
  unfold Cert.AdamwIdeal.Value.spec_0
  pointwise!

open Cert.AdamwRefIdeal Cert.AdamwRefIdeal.Gen in
/-- The reference's step is the same. -/
theorem reference_eq_1 (w : FVec Ideal S2816x1024 .f32) (g : FVec Ideal S2816x1024 .f32) (a : FVec Ideal S2816x1024 .f32) (v : FVec Ideal S2816x1024 .f32) :
    addf (mulf (broadcastInDim S2816x1024 ![] bcast_S_S2816x1024 (constant S_ .f32 0x3F666666#32)) a) (mulf (broadcastInDim S2816x1024 ![] bcast_S_S2816x1024 (constant S_ .f32 0x3DCCCCCD#32)) g)
      = Cert.AdamwIdeal.Value.spec_1 w g a v := by
  funext y
  obtain ⟨i, j, rfl⟩ : ∃ (i : Fin 2816) (j : Fin 1024), y = ix2 i j := ⟨y 0, y 1, by funext a; fin_cases a <;> rfl⟩
  unfold Cert.AdamwIdeal.Value.spec_1
  pointwise!

open Cert.AdamwRefIdeal Cert.AdamwRefIdeal.Gen in
/-- The reference's step is the same. -/
theorem reference_eq_2 (w : FVec Ideal S2816x1024 .f32) (g : FVec Ideal S2816x1024 .f32) (a : FVec Ideal S2816x1024 .f32) (v : FVec Ideal S2816x1024 .f32) :
    addf (mulf (broadcastInDim S2816x1024 ![] bcast_S_S2816x1024 (constant S_ .f32 0x3F7FBE77#32)) v) (mulf (broadcastInDim S2816x1024 ![] bcast_S_S2816x1024 (constant S_ .f32 0x3A83126F#32)) (mulf g g))
      = Cert.AdamwIdeal.Value.spec_2 w g a v := by
  funext y
  obtain ⟨i, j, rfl⟩ : ∃ (i : Fin 2816) (j : Fin 1024), y = ix2 i j := ⟨y 0, y 1, by funext a; fin_cases a <;> rfl⟩
  unfold Cert.AdamwIdeal.Value.spec_2
  pointwise!

open Cert.AdamwRefIdeal in
theorem algebraic : Cert.algebraic_AdamwIdeal_AdamwRefIdeal := by
  intro m g m' g' _ hagree
  refine ⟨_, _, _, (θ_run Cert.AdamwIdeal.defs _ _).mono (fun r h => h) (Cert.AdamwIdeal.Value.run_blocks m g), ?_⟩
  refine (θ_run Cert.AdamwRefIdeal.defs _ _).mono (fun r h c => ?_) (Cert.AdamwRefIdeal.Value.run (F := Ideal) m' g')
  obtain ⟨e0, e1, e2, e3⟩ := hagree c
  refine ⟨((h c).1).trans ?_, ((h c).2.1).trans ?_, ((h c).2.2.1).trans ?_, (h c).2.2.2⟩
  · rw [e0, e1, e2, e3]
    exact (reference_eq_0 _ _ _ _).trans (Cert.AdamwIdeal.Value.final_0 m c).symm
  · rw [e1, e2]
    exact (reference_eq_1 _ _ _ _).trans (Cert.AdamwIdeal.Value.final_1 m c).symm
  · rw [e1, e3]
    exact (reference_eq_2 _ _ _ _).trans (Cert.AdamwIdeal.Value.final_2 m c).symm

end Cert.Proof.Adamw

end
-- ==== Proof.lean ====
module

public import proofs.«01_k».proof.Defs
public import proofs.«01_k».proof.Proof.FwdClaim
public import proofs.«01_k».proof.Proof.BwdClaim
public import proofs.«01_k».proof.Proof.GateUpDx
public import proofs.«01_k».proof.Proof.GateUpDw
public import proofs.«01_k».proof.Proof.DownDx
public import proofs.«01_k».proof.Proof.DownDw
public import proofs.«01_k».proof.Proof.GateUp
public import proofs.«01_k».proof.Proof.Down
public import proofs.«01_k».proof.Proof.GluDx
public import proofs.«01_k».proof.Proof.GluDw
public import proofs.«01_k».proof.Proof.Glu
public import proofs.«01_k».proof.Proof.DqDx
public import proofs.«01_k».proof.Proof.DqDw
public import proofs.«01_k».proof.Proof.Dq
public import proofs.«01_k».proof.Proof.WoDx
public import proofs.«01_k».proof.Proof.WoDw
public import proofs.«01_k».proof.Proof.Wo
public import proofs.«01_k».proof.Proof.UqDx
public import proofs.«01_k».proof.Proof.UqDw
public import proofs.«01_k».proof.Proof.Uq
public import proofs.«01_k».proof.Proof.KvBDx
public import proofs.«01_k».proof.Proof.KvBDw
public import proofs.«01_k».proof.Proof.KvBk
public import proofs.«01_k».proof.Proof.KvBv
public import proofs.«01_k».proof.Proof.KvADx
public import proofs.«01_k».proof.Proof.KvADw
public import proofs.«01_k».proof.Proof.KvA
public import proofs.«01_k».proof.Proof.AdaDw
public import proofs.«01_k».proof.Proof.AdaProj
public import proofs.«01_k».proof.Proof.ActBwd
public import proofs.«01_k».proof.Proof.Norm
public import proofs.«01_k».proof.Proof.BbarBwd
public import proofs.«01_k».proof.Proof.Bbar
public import proofs.«01_k».proof.Proof.Gelu
public import proofs.«01_k».proof.Proof.GateRes
public import proofs.«01_k».proof.Proof.MlaRes
public import proofs.«01_k».proof.Proof.FfnRes
public import proofs.«01_k».proof.Proof.QNorm
public import proofs.«01_k».proof.Proof.MlaNorm
public import proofs.«01_k».proof.Proof.FfnNorm
public import proofs.«01_k».proof.Proof.Adamw

@[expose] public section

noncomputable section

namespace Cert.Proof

theorem claim : Cert.Claim := ⟨Cert.Kernel.Gen.facts, Cert.KernelIdeal.Gen.facts, Cert.ReferenceIdeal.Gen.facts,
  Cert.Fwd.Gen.facts, Cert.FwdIdeal.Gen.facts, Cert.FwdRefIdeal.Gen.facts,
  Cert.GateUpDx.Gen.facts, Cert.GateUpDxIdeal.Gen.facts, Cert.GateUpDxRefIdeal.Gen.facts,
  Cert.GateUpDw.Gen.facts, Cert.GateUpDwIdeal.Gen.facts, Cert.GateUpDwRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.GluDx.Gen.facts, Cert.GluDxIdeal.Gen.facts, Cert.GluDxRefIdeal.Gen.facts,
  Cert.GluDw.Gen.facts, Cert.GluDwIdeal.Gen.facts, Cert.GluDwRefIdeal.Gen.facts,
  Cert.Glu.Gen.facts, Cert.GluIdeal.Gen.facts, Cert.GluRefIdeal.Gen.facts,
  Cert.DqDx.Gen.facts, Cert.DqDxIdeal.Gen.facts, Cert.DqDxRefIdeal.Gen.facts,
  Cert.DqDw.Gen.facts, Cert.DqDwIdeal.Gen.facts, Cert.DqDwRefIdeal.Gen.facts,
  Cert.Dq.Gen.facts, Cert.DqIdeal.Gen.facts, Cert.DqRefIdeal.Gen.facts,
  Cert.WoDx.Gen.facts, Cert.WoDxIdeal.Gen.facts, Cert.WoDxRefIdeal.Gen.facts,
  Cert.WoDw.Gen.facts, Cert.WoDwIdeal.Gen.facts, Cert.WoDwRefIdeal.Gen.facts,
  Cert.Wo.Gen.facts, Cert.WoIdeal.Gen.facts, Cert.WoRefIdeal.Gen.facts,
  Cert.UqDx.Gen.facts, Cert.UqDxIdeal.Gen.facts, Cert.UqDxRefIdeal.Gen.facts,
  Cert.UqDw.Gen.facts, Cert.UqDwIdeal.Gen.facts, Cert.UqDwRefIdeal.Gen.facts,
  Cert.Uq.Gen.facts, Cert.UqIdeal.Gen.facts, Cert.UqRefIdeal.Gen.facts,
  Cert.KvBDx.Gen.facts, Cert.KvBDxIdeal.Gen.facts, Cert.KvBDxRefIdeal.Gen.facts,
  Cert.KvBDw.Gen.facts, Cert.KvBDwIdeal.Gen.facts, Cert.KvBDwRefIdeal.Gen.facts,
  Cert.KvBk.Gen.facts, Cert.KvBkIdeal.Gen.facts, Cert.KvBkRefIdeal.Gen.facts,
  Cert.KvBv.Gen.facts, Cert.KvBvIdeal.Gen.facts, Cert.KvBvRefIdeal.Gen.facts,
  Cert.KvADx.Gen.facts, Cert.KvADxIdeal.Gen.facts, Cert.KvADxRefIdeal.Gen.facts,
  Cert.KvADw.Gen.facts, Cert.KvADwIdeal.Gen.facts, Cert.KvADwRefIdeal.Gen.facts,
  Cert.KvA.Gen.facts, Cert.KvAIdeal.Gen.facts, Cert.KvARefIdeal.Gen.facts,
  Cert.AdaDw.Gen.facts, Cert.AdaDwIdeal.Gen.facts, Cert.AdaDwRefIdeal.Gen.facts,
  Cert.AdaProj.Gen.facts, Cert.AdaProjIdeal.Gen.facts, Cert.AdaProjRefIdeal.Gen.facts,
  Cert.ActBwd.Gen.facts, Cert.ActBwdIdeal.Gen.facts, Cert.ActBwdRefIdeal.Gen.facts,
  Cert.Norm.Gen.facts, Cert.NormIdeal.Gen.facts, Cert.NormRefIdeal.Gen.facts,
  Cert.BbarBwd.Gen.facts, Cert.BbarBwdIdeal.Gen.facts, Cert.BbarBwdRefIdeal.Gen.facts,
  Cert.Bbar.Gen.facts, Cert.BbarIdeal.Gen.facts, Cert.BbarRefIdeal.Gen.facts,
  Cert.Gelu.Gen.facts, Cert.GeluIdeal.Gen.facts, Cert.GeluRefIdeal.Gen.facts,
  Cert.GateRes.Gen.facts, Cert.GateResIdeal.Gen.facts, Cert.GateResRefIdeal.Gen.facts,
  Cert.MlaRes.Gen.facts, Cert.MlaResIdeal.Gen.facts, Cert.MlaResRefIdeal.Gen.facts,
  Cert.FfnRes.Gen.facts, Cert.FfnResIdeal.Gen.facts, Cert.FfnResRefIdeal.Gen.facts,
  Cert.QNorm.Gen.facts, Cert.QNormIdeal.Gen.facts, Cert.QNormRefIdeal.Gen.facts,
  Cert.MlaNorm.Gen.facts, Cert.MlaNormIdeal.Gen.facts, Cert.MlaNormRefIdeal.Gen.facts,
  Cert.FfnNorm.Gen.facts, Cert.FfnNormIdeal.Gen.facts, Cert.FfnNormRefIdeal.Gen.facts,
  Cert.Adamw.Gen.facts, Cert.AdamwIdeal.Gen.facts, Cert.AdamwRefIdeal.Gen.facts,
  Cert.Pre_finite.Gen.facts, Cert.Pre_finite_forward.Gen.facts,
  Backward.frame_p, Backward.frame_pi, Backward.frame_pi_pre, Backward.frame_ri, Backward.frame_ri_pre,
  Forward.frame_p, Forward.frame_pi, Forward.frame_pi_pre, Forward.frame_ri, Forward.frame_ri_pre,
  GateUpDx.frame_p, GateUpDx.frame_pi, GateUpDx.frame_ri,
  GateUpDw.frame_p, GateUpDw.frame_pi, GateUpDw.frame_ri,
  DownDx.frame_p, DownDx.frame_pi, DownDx.frame_ri,
  DownDw.frame_p, DownDw.frame_pi, DownDw.frame_ri,
  GateUp.frame_p, GateUp.frame_pi, GateUp.frame_ri,
  Down.frame_p, Down.frame_pi, Down.frame_ri,
  GluDx.frame_p, GluDx.frame_pi, GluDx.frame_ri,
  GluDw.frame_p, GluDw.frame_pi, GluDw.frame_ri,
  Glu.frame_p, Glu.frame_pi, Glu.frame_ri,
  DqDx.frame_p, DqDx.frame_pi, DqDx.frame_ri,
  DqDw.frame_p, DqDw.frame_pi, DqDw.frame_ri,
  Dq.frame_p, Dq.frame_pi, Dq.frame_ri,
  WoDx.frame_p, WoDx.frame_pi, WoDx.frame_ri,
  WoDw.frame_p, WoDw.frame_pi, WoDw.frame_ri,
  Wo.frame_p, Wo.frame_pi, Wo.frame_ri,
  UqDx.frame_p, UqDx.frame_pi, UqDx.frame_ri,
  UqDw.frame_p, UqDw.frame_pi, UqDw.frame_ri,
  Uq.frame_p, Uq.frame_pi, Uq.frame_ri,
  KvBDx.frame_p, KvBDx.frame_pi, KvBDx.frame_ri,
  KvBDw.frame_p, KvBDw.frame_pi, KvBDw.frame_ri,
  KvBk.frame_p, KvBk.frame_pi, KvBk.frame_ri,
  KvBv.frame_p, KvBv.frame_pi, KvBv.frame_ri,
  KvADx.frame_p, KvADx.frame_pi, KvADx.frame_ri,
  KvADw.frame_p, KvADw.frame_pi, KvADw.frame_ri,
  KvA.frame_p, KvA.frame_pi, KvA.frame_ri,
  AdaDw.frame_p, AdaDw.frame_pi, AdaDw.frame_ri,
  AdaProj.frame_p, AdaProj.frame_pi, AdaProj.frame_ri,
  ActBwd.frame_p, ActBwd.frame_pi, ActBwd.frame_ri,
  Norm.frame_p, Norm.frame_pi, Norm.frame_ri,
  BbarBwd.frame_p, BbarBwd.frame_pi, BbarBwd.frame_ri,
  Bbar.frame_p, Bbar.frame_pi, Bbar.frame_ri,
  Gelu.frame_p, Gelu.frame_pi, Gelu.frame_ri,
  GateRes.frame_p, GateRes.frame_pi, GateRes.frame_ri,
  MlaRes.frame_p, MlaRes.frame_pi, MlaRes.frame_ri,
  FfnRes.frame_p, FfnRes.frame_pi, FfnRes.frame_ri,
  QNorm.frame_p, QNorm.frame_pi, QNorm.frame_ri,
  MlaNorm.frame_p, MlaNorm.frame_pi, MlaNorm.frame_ri,
  FfnNorm.frame_p, FfnNorm.frame_pi, FfnNorm.frame_ri,
  Adamw.frame_p, Adamw.frame_pi, Adamw.frame_ri,
  Backward.preserves, Backward.algebraic, Forward.preserves, Forward.algebraic,
  GateUpDx.preserves, GateUpDx.algebraic,
  GateUpDw.preserves, GateUpDw.algebraic,
  DownDx.preserves, DownDx.algebraic,
  DownDw.preserves, DownDw.algebraic,
  GateUp.preserves, GateUp.algebraic,
  Down.preserves, Down.algebraic,
  GluDx.preserves, GluDx.algebraic,
  GluDw.preserves, GluDw.algebraic,
  Glu.preserves, Glu.algebraic,
  DqDx.preserves, DqDx.algebraic,
  DqDw.preserves, DqDw.algebraic,
  Dq.preserves, Dq.algebraic,
  WoDx.preserves, WoDx.algebraic,
  WoDw.preserves, WoDw.algebraic,
  Wo.preserves, Wo.algebraic,
  UqDx.preserves, UqDx.algebraic,
  UqDw.preserves, UqDw.algebraic,
  Uq.preserves, Uq.algebraic,
  KvBDx.preserves, KvBDx.algebraic,
  KvBDw.preserves, KvBDw.algebraic,
  KvBk.preserves, KvBk.algebraic,
  KvBv.preserves, KvBv.algebraic,
  KvADx.preserves, KvADx.algebraic,
  KvADw.preserves, KvADw.algebraic,
  KvA.preserves, KvA.algebraic,
  AdaDw.preserves, AdaDw.algebraic,
  AdaProj.preserves, AdaProj.algebraic,
  ActBwd.preserves, ActBwd.algebraic,
  Norm.preserves, Norm.algebraic,
  BbarBwd.preserves, BbarBwd.algebraic,
  Bbar.preserves, Bbar.algebraic,
  Gelu.preserves, Gelu.algebraic,
  GateRes.preserves, GateRes.algebraic,
  MlaRes.preserves, MlaRes.algebraic,
  FfnRes.preserves, FfnRes.algebraic,
  QNorm.preserves, QNorm.algebraic,
  MlaNorm.preserves, MlaNorm.algebraic,
  FfnNorm.preserves, FfnNorm.algebraic,
  Adamw.preserves, Adamw.algebraic⟩

end Cert.Proof

end
